-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_finite [hPre_ffn_finite : Cert.Pre_ffn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_finite [hPre_ffn_finite : Cert.Pre_ffn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdRefIdeal (m : (ℓ : Loc Cert.GlaFwdRefIdeal.nD Cert.GlaFwdRefIdeal.τ Cert.GlaFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdIdeal_gla_finite [hPre_gla_finite : Cert.Pre_gla_finite.Facts] (m : (ℓ : Loc Cert.GlaBwdIdeal.nD Cert.GlaBwdIdeal.τ Cert.GlaBwdIdeal.sig) → Buf (Elt Ideal) ℓ) : Prop :=
  ∀ c : Dev Cert.GlaBwdIdeal.nD,
    (Cert.Pre_gla_finite.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3)) (m ((c.tc : Thread Cert.GlaBwdIdeal.nD Cert.GlaBwdIdeal.τ).loc Cert.GlaBwdIdeal.main_arg4)) (m ((c.tc : Thread Cert.GlaBwdIdeal.nD Cert.GlaBwdIdeal.τ).loc Cert.GlaBwdIdeal.main_arg5))) = (fun _ => 1#1)

def Pre_GlaBwdRefIdeal (m : (ℓ : Loc Cert.GlaBwdRefIdeal.nD Cert.GlaBwdRefIdeal.τ Cert.GlaBwdRefIdeal.sig) → Buf (Elt Ideal) ℓ) : Prop :=
  True

def Pre_GlaBwdRefIdeal_gla_finite [hPre_gla_finite : Cert.Pre_gla_finite.Facts] (m : (ℓ : Loc Cert.GlaBwdRefIdeal.nD Cert.GlaBwdRefIdeal.τ Cert.GlaBwdRefIdeal.sig) → Buf (Elt Ideal) ℓ) : Prop :=
  ∀ c : Dev Cert.GlaBwdRefIdeal.nD,
    (Cert.Pre_gla_finite.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3)) (m ((c.tc : Thread Cert.GlaBwdRefIdeal.nD Cert.GlaBwdRefIdeal.τ).loc Cert.GlaBwdRefIdeal.main_arg4)) (m ((c.tc : Thread Cert.GlaBwdRefIdeal.nD Cert.GlaBwdRefIdeal.τ).loc Cert.GlaBwdRefIdeal.main_arg5))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_PutFz (m : (ℓ : Loc Cert.PutFz.nD Cert.PutFz.τ Cert.PutFz.sig) → Buf (Elt Bits) ℓ) : Prop :=
  True

def Pre_PutFzIdeal (m : (ℓ : Loc Cert.PutFzIdeal.nD Cert.PutFzIdeal.τ Cert.PutFzIdeal.sig) → Buf (Elt Ideal) ℓ) : Prop :=
  True

def Pre_PutFzRefIdeal (m : (ℓ : Loc Cert.PutFzRefIdeal.nD Cert.PutFzRefIdeal.τ Cert.PutFzRefIdeal.sig) → Buf (Elt Ideal) ℓ) : Prop :=
  True

def Pre_AdamS (m : (ℓ : Loc Cert.AdamS.nD Cert.AdamS.τ Cert.AdamS.sig) → Buf (Elt Bits) ℓ) : Prop :=
  True

def Pre_AdamSIdeal (m : (ℓ : Loc Cert.AdamSIdeal.nD Cert.AdamSIdeal.τ Cert.AdamSIdeal.sig) → Buf (Elt Ideal) ℓ) : Prop :=
  True

def Pre_AdamSRefIdeal (m : (ℓ : Loc Cert.AdamSRefIdeal.nD Cert.AdamSRefIdeal.τ Cert.AdamSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ffn_finite [hKernelIdeal : Cert.KernelIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ffn_finite [hReferenceIdeal : Cert.ReferenceIdeal.Facts] [hPre_ffn_finite : Cert.Pre_ffn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4)
      ∧ r.2.mem ((c.tc : Thread Cert.GlaBwd.nD Cert.GlaBwd.τ).loc Cert.GlaBwd.main_arg5) = m ((c.tc : Thread Cert.GlaBwd.nD Cert.GlaBwd.τ).loc Cert.GlaBwd.main_arg5))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ r.2.sem = fun _ => 0)

def quiescent_GlaBwdIdeal_pre_gla_finite [hGlaBwdIdeal : Cert.GlaBwdIdeal.Facts] [hPre_gla_finite : Cert.Pre_gla_finite.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal_gla_finite m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ r.2.sem = fun _ => 0)

def quiescent_GlaBwdRefIdeal [hGlaBwdRefIdeal : Cert.GlaBwdRefIdeal.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5))
      ∧ r.2.sem = fun _ => 0)

def quiescent_GlaBwdRefIdeal_pre_gla_finite [hGlaBwdRefIdeal : Cert.GlaBwdRefIdeal.Facts] [hPre_gla_finite : Cert.Pre_gla_finite.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal_gla_finite m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4)
      ∧ r.2.mem ((c.tc : Thread Cert.AdamW.nD Cert.AdamW.τ).loc Cert.AdamW.main_arg5) = m ((c.tc : Thread Cert.AdamW.nD Cert.AdamW.τ).loc Cert.AdamW.main_arg5)
      ∧ r.2.mem ((c.tc : Thread Cert.AdamW.nD Cert.AdamW.τ).loc Cert.AdamW.main_arg6) = m ((c.tc : Thread Cert.AdamW.nD Cert.AdamW.τ).loc Cert.AdamW.main_arg6)
      ∧ r.2.mem ((c.tc : Thread Cert.AdamW.nD Cert.AdamW.τ).loc Cert.AdamW.main_arg7) = m ((c.tc : Thread Cert.AdamW.nD Cert.AdamW.τ).loc Cert.AdamW.main_arg7))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
      ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
      ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6)
      ∧ r.2.mem ((c.tc : Thread Cert.AdamWIdeal.nD Cert.AdamWIdeal.τ).loc Cert.AdamWIdeal.main_arg7) = m ((c.tc : Thread Cert.AdamWIdeal.nD Cert.AdamWIdeal.τ).loc Cert.AdamWIdeal.main_arg7))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4)
      ∧ r.2.mem ((c.tc : Thread Cert.AdamWRefIdeal.nD Cert.AdamWRefIdeal.τ).loc Cert.AdamWRefIdeal.main_arg5) = m ((c.tc : Thread Cert.AdamWRefIdeal.nD Cert.AdamWRefIdeal.τ).loc Cert.AdamWRefIdeal.main_arg5)
      ∧ r.2.mem ((c.tc : Thread Cert.AdamWRefIdeal.nD Cert.AdamWRefIdeal.τ).loc Cert.AdamWRefIdeal.main_arg6) = m ((c.tc : Thread Cert.AdamWRefIdeal.nD Cert.AdamWRefIdeal.τ).loc Cert.AdamWRefIdeal.main_arg6)
      ∧ r.2.mem ((c.tc : Thread Cert.AdamWRefIdeal.nD Cert.AdamWRefIdeal.τ).loc Cert.AdamWRefIdeal.main_arg7) = m ((c.tc : Thread Cert.AdamWRefIdeal.nD Cert.AdamWRefIdeal.τ).loc Cert.AdamWRefIdeal.main_arg7))
      ∧ r.2.sem = fun _ => 0)

def quiescent_PutFz [hPutFz : Cert.PutFz.Facts] : Prop :=
  ∀ (m : (ℓ : Loc Cert.PutFz.nD Cert.PutFz.τ Cert.PutFz.sig) → Buf (Elt Bits) ℓ) (g : Dev Cert.PutFz.nD → PrngReg), Pre_PutFz m →
    θ_run (Cert.PutFz.defs (F := Bits)) (onTc (τ := Cert.PutFz.τ) (Cert.PutFz.main (F := Bits))) ⟨m, fun _ => 0, g⟩ (fun r => (∀ c : Dev Cert.PutFz.nD,
      r.2.mem ((c.tc : Thread Cert.PutFz.nD Cert.PutFz.τ).loc Cert.PutFz.main_arg0) = m ((c.tc : Thread Cert.PutFz.nD Cert.PutFz.τ).loc Cert.PutFz.main_arg0)
      ∧ r.2.mem ((c.tc : Thread Cert.PutFz.nD Cert.PutFz.τ).loc Cert.PutFz.main_arg1) = m ((c.tc : Thread Cert.PutFz.nD Cert.PutFz.τ).loc Cert.PutFz.main_arg1))
      ∧ r.2.sem = fun _ => 0)

def quiescent_PutFzIdeal [hPutFzIdeal : Cert.PutFzIdeal.Facts] : Prop :=
  ∀ (m : (ℓ : Loc Cert.PutFzIdeal.nD Cert.PutFzIdeal.τ Cert.PutFzIdeal.sig) → Buf (Elt Ideal) ℓ) (g : Dev Cert.PutFzIdeal.nD → PrngReg), Pre_PutFzIdeal m →
    θ_run (Cert.PutFzIdeal.defs (F := Ideal)) (onTc (τ := Cert.PutFzIdeal.τ) (Cert.PutFzIdeal.main (F := Ideal))) ⟨m, fun _ => 0, g⟩ (fun r => (∀ c : Dev Cert.PutFzIdeal.nD,
      r.2.mem ((c.tc : Thread Cert.PutFzIdeal.nD Cert.PutFzIdeal.τ).loc Cert.PutFzIdeal.main_arg0) = m ((c.tc : Thread Cert.PutFzIdeal.nD Cert.PutFzIdeal.τ).loc Cert.PutFzIdeal.main_arg0)
      ∧ r.2.mem ((c.tc : Thread Cert.PutFzIdeal.nD Cert.PutFzIdeal.τ).loc Cert.PutFzIdeal.main_arg1) = m ((c.tc : Thread Cert.PutFzIdeal.nD Cert.PutFzIdeal.τ).loc Cert.PutFzIdeal.main_arg1))
      ∧ r.2.sem = fun _ => 0)

def quiescent_PutFzRefIdeal [hPutFzRefIdeal : Cert.PutFzRefIdeal.Facts] : Prop :=
  ∀ (m : (ℓ : Loc Cert.PutFzRefIdeal.nD Cert.PutFzRefIdeal.τ Cert.PutFzRefIdeal.sig) → Buf (Elt Ideal) ℓ) (g : Dev Cert.PutFzRefIdeal.nD → PrngReg), Pre_PutFzRefIdeal m →
    θ_run (Cert.PutFzRefIdeal.defs (F := Ideal)) (onTc (τ := Cert.PutFzRefIdeal.τ) (Cert.PutFzRefIdeal.main (F := Ideal))) ⟨m, fun _ => 0, g⟩ (fun r => (∀ c : Dev Cert.PutFzRefIdeal.nD,
      r.2.mem ((c.tc : Thread Cert.PutFzRefIdeal.nD Cert.PutFzRefIdeal.τ).loc Cert.PutFzRefIdeal.main_arg0) = m ((c.tc : Thread Cert.PutFzRefIdeal.nD Cert.PutFzRefIdeal.τ).loc Cert.PutFzRefIdeal.main_arg0)
      ∧ r.2.mem ((c.tc : Thread Cert.PutFzRefIdeal.nD Cert.PutFzRefIdeal.τ).loc Cert.PutFzRefIdeal.main_arg1) = m ((c.tc : Thread Cert.PutFzRefIdeal.nD Cert.PutFzRefIdeal.τ).loc Cert.PutFzRefIdeal.main_arg1))
      ∧ r.2.sem = fun _ => 0)

def quiescent_AdamS [hAdamS : Cert.AdamS.Facts] : Prop :=
  ∀ (m : (ℓ : Loc Cert.AdamS.nD Cert.AdamS.τ Cert.AdamS.sig) → Buf (Elt Bits) ℓ) (g : Dev Cert.AdamS.nD → PrngReg), Pre_AdamS m →
    θ_run (Cert.AdamS.defs (F := Bits)) (onTc (τ := Cert.AdamS.τ) (Cert.AdamS.main (F := Bits))) ⟨m, fun _ => 0, g⟩ (fun r => (∀ c : Dev Cert.AdamS.nD,
      r.2.mem ((c.tc : Thread Cert.AdamS.nD Cert.AdamS.τ).loc Cert.AdamS.main_arg0) = m ((c.tc : Thread Cert.AdamS.nD Cert.AdamS.τ).loc Cert.AdamS.main_arg0)
      ∧ r.2.mem ((c.tc : Thread Cert.AdamS.nD Cert.AdamS.τ).loc Cert.AdamS.main_arg1) = m ((c.tc : Thread Cert.AdamS.nD Cert.AdamS.τ).loc Cert.AdamS.main_arg1)
      ∧ r.2.mem ((c.tc : Thread Cert.AdamS.nD Cert.AdamS.τ).loc Cert.AdamS.main_arg2) = m ((c.tc : Thread Cert.AdamS.nD Cert.AdamS.τ).loc Cert.AdamS.main_arg2)
      ∧ r.2.mem ((c.tc : Thread Cert.AdamS.nD Cert.AdamS.τ).loc Cert.AdamS.main_arg3) = m ((c.tc : Thread Cert.AdamS.nD Cert.AdamS.τ).loc Cert.AdamS.main_arg3))
      ∧ r.2.sem = fun _ => 0)

def quiescent_AdamSIdeal [hAdamSIdeal : Cert.AdamSIdeal.Facts] : Prop :=
  ∀ (m : (ℓ : Loc Cert.AdamSIdeal.nD Cert.AdamSIdeal.τ Cert.AdamSIdeal.sig) → Buf (Elt Ideal) ℓ) (g : Dev Cert.AdamSIdeal.nD → PrngReg), Pre_AdamSIdeal m →
    θ_run (Cert.AdamSIdeal.defs (F := Ideal)) (onTc (τ := Cert.AdamSIdeal.τ) (Cert.AdamSIdeal.main (F := Ideal))) ⟨m, fun _ => 0, g⟩ (fun r => (∀ c : Dev Cert.AdamSIdeal.nD,
      r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
      ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
      ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
      ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ r.2.sem = fun _ => 0)

def quiescent_AdamSRefIdeal [hAdamSRefIdeal : Cert.AdamSRefIdeal.Facts] : Prop :=
  ∀ (m : (ℓ : Loc Cert.AdamSRefIdeal.nD Cert.AdamSRefIdeal.τ Cert.AdamSRefIdeal.sig) → Buf (Elt Ideal) ℓ) (g : Dev Cert.AdamSRefIdeal.nD → PrngReg), Pre_AdamSRefIdeal m →
    θ_run (Cert.AdamSRefIdeal.defs (F := Ideal)) (onTc (τ := Cert.AdamSRefIdeal.τ) (Cert.AdamSRefIdeal.main (F := Ideal))) ⟨m, fun _ => 0, g⟩ (fun r => (∀ c : Dev Cert.AdamSRefIdeal.nD,
      r.2.mem ((c.tc : Thread Cert.AdamSRefIdeal.nD Cert.AdamSRefIdeal.τ).loc Cert.AdamSRefIdeal.main_arg0) = m ((c.tc : Thread Cert.AdamSRefIdeal.nD Cert.AdamSRefIdeal.τ).loc Cert.AdamSRefIdeal.main_arg0)
      ∧ r.2.mem ((c.tc : Thread Cert.AdamSRefIdeal.nD Cert.AdamSRefIdeal.τ).loc Cert.AdamSRefIdeal.main_arg1) = m ((c.tc : Thread Cert.AdamSRefIdeal.nD Cert.AdamSRefIdeal.τ).loc Cert.AdamSRefIdeal.main_arg1)
      ∧ r.2.mem ((c.tc : Thread Cert.AdamSRefIdeal.nD Cert.AdamSRefIdeal.τ).loc Cert.AdamSRefIdeal.main_arg2) = m ((c.tc : Thread Cert.AdamSRefIdeal.nD Cert.AdamSRefIdeal.τ).loc Cert.AdamSRefIdeal.main_arg2)
      ∧ r.2.mem ((c.tc : Thread Cert.AdamSRefIdeal.nD Cert.AdamSRefIdeal.τ).loc Cert.AdamSRefIdeal.main_arg3) = m ((c.tc : Thread Cert.AdamSRefIdeal.nD Cert.AdamSRefIdeal.τ).loc Cert.AdamSRefIdeal.main_arg3))
      ∧ r.2.sem = fun _ => 0)

def preserves_Kernel_KernelIdeal : Prop :=
  True

def algebraic_KernelIdeal_ReferenceIdeal_pre_ffn_finite [hKernelIdeal : Cert.KernelIdeal.Facts] [hReferenceIdeal : Cert.ReferenceIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)) →
    ∃ (v0 : (c : Dev Cert.Norm2BwdIdeal.nD) → Buf (Elt Ideal) ((c.tc : Thread Cert.Norm2BwdIdeal.nD Cert.Norm2BwdIdeal.τ).loc Cert.Norm2BwdIdeal.main_v7_0)) (v1 : (c : Dev Cert.Norm2BwdIdeal.nD) → Buf (Elt Ideal) ((c.tc : Thread Cert.Norm2BwdIdeal.nD Cert.Norm2BwdIdeal.τ).loc Cert.Norm2BwdIdeal.main_v7_1)) (v2 : (c : Dev Cert.Norm2BwdIdeal.nD) → Buf (Elt Ideal) ((c.tc : Thread Cert.Norm2BwdIdeal.nD Cert.Norm2BwdIdeal.τ).loc Cert.Norm2BwdIdeal.main_v7_2)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v7_0) = v0 c
          ∧ r.2.mem ((c.tc : Thread Cert.Norm2BwdIdeal.nD Cert.Norm2BwdIdeal.τ).loc Cert.Norm2BwdIdeal.main_v7_1) = v1 c
          ∧ r.2.mem ((c.tc : Thread Cert.Norm2BwdIdeal.nD Cert.Norm2BwdIdeal.τ).loc Cert.Norm2BwdIdeal.main_v7_2) = v2 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v41) = v0 c
          ∧ r.2.mem ((c.tc : Thread Cert.Norm2BwdRefIdeal.nD Cert.Norm2BwdRefIdeal.τ).loc Cert.Norm2BwdRefIdeal.main_v42) = v1 c
          ∧ r.2.mem ((c.tc : Thread Cert.Norm2BwdRefIdeal.nD Cert.Norm2BwdRefIdeal.τ).loc Cert.Norm2BwdRefIdeal.main_v43) = v2 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)) →
    ∃ (v0 : (c : Dev Cert.Norm1BwdIdeal.nD) → Buf (Elt Ideal) ((c.tc : Thread Cert.Norm1BwdIdeal.nD Cert.Norm1BwdIdeal.τ).loc Cert.Norm1BwdIdeal.main_v14_0)) (v1 : (c : Dev Cert.Norm1BwdIdeal.nD) → Buf (Elt Ideal) ((c.tc : Thread Cert.Norm1BwdIdeal.nD Cert.Norm1BwdIdeal.τ).loc Cert.Norm1BwdIdeal.main_v14_1)) (v2 : (c : Dev Cert.Norm1BwdIdeal.nD) → Buf (Elt Ideal) ((c.tc : Thread Cert.Norm1BwdIdeal.nD Cert.Norm1BwdIdeal.τ).loc Cert.Norm1BwdIdeal.main_v14_2)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v14_0) = v0 c
          ∧ r.2.mem ((c.tc : Thread Cert.Norm1BwdIdeal.nD Cert.Norm1BwdIdeal.τ).loc Cert.Norm1BwdIdeal.main_v14_1) = v1 c
          ∧ r.2.mem ((c.tc : Thread Cert.Norm1BwdIdeal.nD Cert.Norm1BwdIdeal.τ).loc Cert.Norm1BwdIdeal.main_v14_2) = v2 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v38) = v0 c
          ∧ r.2.mem ((c.tc : Thread Cert.Norm1BwdRefIdeal.nD Cert.Norm1BwdRefIdeal.τ).loc Cert.Norm1BwdRefIdeal.main_v39) = v1 c
          ∧ r.2.mem ((c.tc : Thread Cert.Norm1BwdRefIdeal.nD Cert.Norm1BwdRefIdeal.τ).loc Cert.Norm1BwdRefIdeal.main_v40) = v2 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_MixBwd_MixBwdIdeal : Prop :=
  True

def algebraic_MixBwdIdeal_MixBwdRefIdeal_on_on_gates [hMixBwdIdeal : Cert.MixBwdIdeal.Facts] [hMixBwdRefIdeal : Cert.MixBwdRefIdeal.Facts] [hOn_on_gates : Cert.On_on_gates.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v14_0)) (v1 : (c : Dev Cert.MixBwdIdeal.nD) → Buf (Elt Ideal) ((c.tc : Thread Cert.MixBwdIdeal.nD Cert.MixBwdIdeal.τ).loc Cert.MixBwdIdeal.main_v14_1)) (v2 : (c : Dev Cert.MixBwdIdeal.nD) → Buf (Elt Ideal) ((c.tc : Thread Cert.MixBwdIdeal.nD Cert.MixBwdIdeal.τ).loc Cert.MixBwdIdeal.main_v14_2)) (v3 : (c : Dev Cert.MixBwdIdeal.nD) → Buf (Elt Ideal) ((c.tc : Thread Cert.MixBwdIdeal.nD Cert.MixBwdIdeal.τ).loc Cert.MixBwdIdeal.main_v14_3)) (v4 : (c : Dev Cert.MixBwdIdeal.nD) → Buf (Elt Ideal) ((c.tc : Thread Cert.MixBwdIdeal.nD Cert.MixBwdIdeal.τ).loc Cert.MixBwdIdeal.main_v14_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).1 i = 1#1 → r.2.mem ((c.tc : Thread Cert.MixBwdIdeal.nD Cert.MixBwdIdeal.τ).loc Cert.MixBwdIdeal.main_v14_0) i = v0 c i)
          ∧ (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.1 i = 1#1 → r.2.mem ((c.tc : Thread Cert.MixBwdIdeal.nD Cert.MixBwdIdeal.τ).loc Cert.MixBwdIdeal.main_v14_1) i = v1 c i)
          ∧ (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.1 i = 1#1 → r.2.mem ((c.tc : Thread Cert.MixBwdIdeal.nD Cert.MixBwdIdeal.τ).loc Cert.MixBwdIdeal.main_v14_2) i = v2 c i)
          ∧ (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.2.1 i = 1#1 → r.2.mem ((c.tc : Thread Cert.MixBwdIdeal.nD Cert.MixBwdIdeal.τ).loc Cert.MixBwdIdeal.main_v14_3) i = v3 c i)
          ∧ (∀ i : (⟨2, ![4096, 8320]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.2.2 i = 1#1 → r.2.mem ((c.tc : Thread Cert.MixBwdIdeal.nD Cert.MixBwdIdeal.τ).loc Cert.MixBwdIdeal.main_v14_4) i = v4 c i)
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).1 i = 1#1 → r.2.mem ((c.tc : Thread Cert.MixBwdRefIdeal.nD Cert.MixBwdRefIdeal.τ).loc Cert.MixBwdRefIdeal.main_v38) i = v0 c i)
          ∧ (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.1 i = 1#1 → r.2.mem ((c.tc : Thread Cert.MixBwdRefIdeal.nD Cert.MixBwdRefIdeal.τ).loc Cert.MixBwdRefIdeal.main_v39) i = v1 c i)
          ∧ (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.1 i = 1#1 → r.2.mem ((c.tc : Thread Cert.MixBwdRefIdeal.nD Cert.MixBwdRefIdeal.τ).loc Cert.MixBwdRefIdeal.main_v40) i = v2 c i)
          ∧ (∀ i : (⟨2, ![4096, 1024]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.2.1 i = 1#1 → r.2.mem ((c.tc : Thread Cert.MixBwdRefIdeal.nD Cert.MixBwdRefIdeal.τ).loc Cert.MixBwdRefIdeal.main_v41) i = v3 c i)
          ∧ (∀ i : (⟨2, ![4096, 8320]⟩ : Shape).Idx, (Cert.On_on_gates.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))).2.2.2.2 i = 1#1 → r.2.mem ((c.tc : Thread Cert.MixBwdRefIdeal.nD Cert.MixBwdRefIdeal.τ).loc Cert.MixBwdRefIdeal.main_v42) i = v4 c i)
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v12_0)) (v1 : (c : Dev Cert.ConvBwdIdeal.nD) → Buf (Elt Ideal) ((c.tc : Thread Cert.ConvBwdIdeal.nD Cert.ConvBwdIdeal.τ).loc Cert.ConvBwdIdeal.main_v12_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v12_0) = v0 c
          ∧ r.2.mem ((c.tc : Thread Cert.ConvBwdIdeal.nD Cert.ConvBwdIdeal.τ).loc Cert.ConvBwdIdeal.main_v12_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v80) = v0 c
          ∧ r.2.mem ((c.tc : Thread Cert.ConvBwdRefIdeal.nD Cert.ConvBwdRefIdeal.τ).loc Cert.ConvBwdRefIdeal.main_v79) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_GlaFwd_GlaFwdIdeal : Prop :=
  True

def algebraic_GlaFwdIdeal_GlaFwdRefIdeal [hGlaFwdIdeal : Cert.GlaFwdIdeal.Facts] [hGlaFwdRefIdeal : Cert.GlaFwdRefIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)) →
    ∃ (v0 : (c : Dev Cert.GlaFwdIdeal.nD) → Buf (Elt Ideal) ((c.tc : Thread Cert.GlaFwdIdeal.nD Cert.GlaFwdIdeal.τ).loc Cert.GlaFwdIdeal.main_v10_0)) (v1 : (c : Dev Cert.GlaFwdIdeal.nD) → Buf (Elt Ideal) ((c.tc : Thread Cert.GlaFwdIdeal.nD Cert.GlaFwdIdeal.τ).loc Cert.GlaFwdIdeal.main_v10_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v10_0) = v0 c
          ∧ r.2.mem ((c.tc : Thread Cert.GlaFwdIdeal.nD Cert.GlaFwdIdeal.τ).loc Cert.GlaFwdIdeal.main_v10_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v66) = v0 c
          ∧ r.2.mem ((c.tc : Thread Cert.GlaFwdRefIdeal.nD Cert.GlaFwdRefIdeal.τ).loc Cert.GlaFwdRefIdeal.main_v69) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v10)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v10) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v11_0)) (v1 : (c : Dev Cert.MixFwdIdeal.nD) → Buf (Elt Ideal) ((c.tc : Thread Cert.MixFwdIdeal.nD Cert.MixFwdIdeal.τ).loc Cert.MixFwdIdeal.main_v11_1)) (v2 : (c : Dev Cert.MixFwdIdeal.nD) → Buf (Elt Ideal) ((c.tc : Thread Cert.MixFwdIdeal.nD Cert.MixFwdIdeal.τ).loc Cert.MixFwdIdeal.main_v11_2)) (v3 : (c : Dev Cert.MixFwdIdeal.nD) → Buf (Elt Ideal) ((c.tc : Thread Cert.MixFwdIdeal.nD Cert.MixFwdIdeal.τ).loc Cert.MixFwdIdeal.main_v11_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v11_0) = v0 c
          ∧ r.2.mem ((c.tc : Thread Cert.MixFwdIdeal.nD Cert.MixFwdIdeal.τ).loc Cert.MixFwdIdeal.main_v11_1) = v1 c
          ∧ r.2.mem ((c.tc : Thread Cert.MixFwdIdeal.nD Cert.MixFwdIdeal.τ).loc Cert.MixFwdIdeal.main_v11_2) = v2 c
          ∧ r.2.mem ((c.tc : Thread Cert.MixFwdIdeal.nD Cert.MixFwdIdeal.τ).loc Cert.MixFwdIdeal.main_v11_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v21) = v0 c
          ∧ r.2.mem ((c.tc : Thread Cert.MixFwdRefIdeal.nD Cert.MixFwdRefIdeal.τ).loc Cert.MixFwdRefIdeal.main_v22) = v1 c
          ∧ r.2.mem ((c.tc : Thread Cert.MixFwdRefIdeal.nD Cert.MixFwdRefIdeal.τ).loc Cert.MixFwdRefIdeal.main_v23) = v2 c
          ∧ r.2.mem ((c.tc : Thread Cert.MixFwdRefIdeal.nD Cert.MixFwdRefIdeal.τ).loc Cert.MixFwdRefIdeal.main_v20) = v3 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v17) = v0 c
          ∧ r.2.mem ((c.tc : Thread Cert.FfnFwdRefIdeal.nD Cert.FfnFwdRefIdeal.τ).loc Cert.FfnFwdRefIdeal.main_v18) = v1 c
          ∧ r.2.mem ((c.tc : Thread Cert.FfnFwdRefIdeal.nD Cert.FfnFwdRefIdeal.τ).loc Cert.FfnFwdRefIdeal.main_v19) = v2 c
          ∧ r.2.mem ((c.tc : Thread Cert.FfnFwdRefIdeal.nD Cert.FfnFwdRefIdeal.τ).loc Cert.FfnFwdRefIdeal.main_v20) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_GlaBwd_GlaBwdIdeal : Prop :=
  True

def algebraic_GlaBwdIdeal_GlaBwdRefIdeal_pre_gla_finite [hGlaBwdIdeal : Cert.GlaBwdIdeal.Facts] [hGlaBwdRefIdeal : Cert.GlaBwdRefIdeal.Facts] [hPre_gla_finite : Cert.Pre_gla_finite.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg)
    (m' : (ℓ : Loc Cert.GlaBwdRefIdeal.nD Cert.GlaBwdRefIdeal.τ Cert.GlaBwdRefIdeal.sig) → Buf (Elt Ideal) ℓ) (g' : Dev Cert.GlaBwdRefIdeal.nD → PrngReg), Pre_GlaBwdIdeal_gla_finite m →
    (∀ c : Dev Cert.GlaBwdIdeal.nD,
      m' ((c.tc : Thread Cert.GlaBwdRefIdeal.nD Cert.GlaBwdRefIdeal.τ).loc Cert.GlaBwdRefIdeal.main_arg0) = m ((c.tc : Thread Cert.GlaBwdIdeal.nD Cert.GlaBwdIdeal.τ).loc Cert.GlaBwdIdeal.main_arg0)
      ∧ m' ((c.tc : Thread Cert.GlaBwdRefIdeal.nD Cert.GlaBwdRefIdeal.τ).loc Cert.GlaBwdRefIdeal.main_arg1) = m ((c.tc : Thread Cert.GlaBwdIdeal.nD Cert.GlaBwdIdeal.τ).loc Cert.GlaBwdIdeal.main_arg1)
      ∧ m' ((c.tc : Thread Cert.GlaBwdRefIdeal.nD Cert.GlaBwdRefIdeal.τ).loc Cert.GlaBwdRefIdeal.main_arg2) = m ((c.tc : Thread Cert.GlaBwdIdeal.nD Cert.GlaBwdIdeal.τ).loc Cert.GlaBwdIdeal.main_arg2)
      ∧ m' ((c.tc : Thread Cert.GlaBwdRefIdeal.nD Cert.GlaBwdRefIdeal.τ).loc Cert.GlaBwdRefIdeal.main_arg3) = m ((c.tc : Thread Cert.GlaBwdIdeal.nD Cert.GlaBwdIdeal.τ).loc Cert.GlaBwdIdeal.main_arg3)
      ∧ m' ((c.tc : Thread Cert.GlaBwdRefIdeal.nD Cert.GlaBwdRefIdeal.τ).loc Cert.GlaBwdRefIdeal.main_arg4) = m ((c.tc : Thread Cert.GlaBwdIdeal.nD Cert.GlaBwdIdeal.τ).loc Cert.GlaBwdIdeal.main_arg4)
      ∧ m' ((c.tc : Thread Cert.GlaBwdRefIdeal.nD Cert.GlaBwdRefIdeal.τ).loc Cert.GlaBwdRefIdeal.main_arg5) = m ((c.tc : Thread Cert.GlaBwdIdeal.nD Cert.GlaBwdIdeal.τ).loc Cert.GlaBwdIdeal.main_arg5)) →
    ∃ (v0 : (c : Dev Cert.GlaBwdIdeal.nD) → Buf (Elt Ideal) ((c.tc : Thread Cert.GlaBwdIdeal.nD Cert.GlaBwdIdeal.τ).loc Cert.GlaBwdIdeal.main_v304_0)) (v1 : (c : Dev Cert.GlaBwdIdeal.nD) → Buf (Elt Ideal) ((c.tc : Thread Cert.GlaBwdIdeal.nD Cert.GlaBwdIdeal.τ).loc Cert.GlaBwdIdeal.main_v304_2)),
      θ_run (Cert.GlaBwdIdeal.defs (F := Ideal)) (onTc (τ := Cert.GlaBwdIdeal.τ) (Cert.GlaBwdIdeal.main (F := Ideal))) ⟨m, fun _ => 0, g⟩ (fun r => ∀ c : Dev Cert.GlaBwdIdeal.nD,
          r.2.mem ((c.tc : Thread Cert.GlaBwdIdeal.nD Cert.GlaBwdIdeal.τ).loc Cert.GlaBwdIdeal.main_v304_0) = v0 c
          ∧ r.2.mem ((c.tc : Thread Cert.GlaBwdIdeal.nD Cert.GlaBwdIdeal.τ).loc Cert.GlaBwdIdeal.main_v304_2) = v1 c
          ∧ r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
          ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
          ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
          ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
          ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
          ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ θ_run (Cert.GlaBwdRefIdeal.defs (F := Ideal)) (onTc (τ := Cert.GlaBwdRefIdeal.τ) (Cert.GlaBwdRefIdeal.main (F := Ideal))) ⟨m', fun _ => 0, g'⟩ (fun r => ∀ c : Dev Cert.GlaBwdRefIdeal.nD,
          r.2.mem ((c.tc : Thread Cert.GlaBwdRefIdeal.nD Cert.GlaBwdRefIdeal.τ).loc Cert.GlaBwdRefIdeal.main_v100) = v0 c
          ∧ r.2.mem ((c.tc : Thread Cert.GlaBwdRefIdeal.nD Cert.GlaBwdRefIdeal.τ).loc Cert.GlaBwdRefIdeal.main_v101) = v1 c
          ∧ r.2.mem ((c.tc : Thread Cert.GlaBwdRefIdeal.nD Cert.GlaBwdRefIdeal.τ).loc Cert.GlaBwdRefIdeal.main_arg0) = m' ((c.tc : Thread Cert.GlaBwdRefIdeal.nD Cert.GlaBwdRefIdeal.τ).loc Cert.GlaBwdRefIdeal.main_arg0)
          ∧ r.2.mem ((c.tc : Thread Cert.GlaBwdRefIdeal.nD Cert.GlaBwdRefIdeal.τ).loc Cert.GlaBwdRefIdeal.main_arg1) = m' ((c.tc : Thread Cert.GlaBwdRefIdeal.nD Cert.GlaBwdRefIdeal.τ).loc Cert.GlaBwdRefIdeal.main_arg1)
          ∧ r.2.mem ((c.tc : Thread Cert.GlaBwdRefIdeal.nD Cert.GlaBwdRefIdeal.τ).loc Cert.GlaBwdRefIdeal.main_arg2) = m' ((c.tc : Thread Cert.GlaBwdRefIdeal.nD Cert.GlaBwdRefIdeal.τ).loc Cert.GlaBwdRefIdeal.main_arg2)
          ∧ r.2.mem ((c.tc : Thread Cert.GlaBwdRefIdeal.nD Cert.GlaBwdRefIdeal.τ).loc Cert.GlaBwdRefIdeal.main_arg3) = m' ((c.tc : Thread Cert.GlaBwdRefIdeal.nD Cert.GlaBwdRefIdeal.τ).loc Cert.GlaBwdRefIdeal.main_arg3)
          ∧ r.2.mem ((c.tc : Thread Cert.GlaBwdRefIdeal.nD Cert.GlaBwdRefIdeal.τ).loc Cert.GlaBwdRefIdeal.main_arg4) = m' ((c.tc : Thread Cert.GlaBwdRefIdeal.nD Cert.GlaBwdRefIdeal.τ).loc Cert.GlaBwdRefIdeal.main_arg4)
          ∧ r.2.mem ((c.tc : Thread Cert.GlaBwdRefIdeal.nD Cert.GlaBwdRefIdeal.τ).loc Cert.GlaBwdRefIdeal.main_arg5) = m' ((c.tc : Thread Cert.GlaBwdRefIdeal.nD Cert.GlaBwdRefIdeal.τ).loc Cert.GlaBwdRefIdeal.main_arg5))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v7)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v7) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v10) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_AdamW_AdamWIdeal : Prop :=
  IdealRules.named_const.Statement Cert.AdamWIdeal.κ "c1" .f32 0x3FC48605#32 ((8388608 / 5463681 : ℝ) : EReal)
  ∧ IdealRules.named_const.Statement Cert.AdamWIdeal.κ "c2" .f32 0x42C8E6D3#32 ((268435456 / 2672307 : ℝ) : EReal)

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)
      ∧ m' ((c.tc : Thread Cert.AdamWRefIdeal.nD Cert.AdamWRefIdeal.τ).loc Cert.AdamWRefIdeal.main_arg5) = m ((c.tc : Thread Cert.AdamWIdeal.nD Cert.AdamWIdeal.τ).loc Cert.AdamWIdeal.main_arg5)
      ∧ m' ((c.tc : Thread Cert.AdamWRefIdeal.nD Cert.AdamWRefIdeal.τ).loc Cert.AdamWRefIdeal.main_arg6) = m ((c.tc : Thread Cert.AdamWIdeal.nD Cert.AdamWIdeal.τ).loc Cert.AdamWIdeal.main_arg6)
      ∧ m' ((c.tc : Thread Cert.AdamWRefIdeal.nD Cert.AdamWRefIdeal.τ).loc Cert.AdamWRefIdeal.main_arg7) = m ((c.tc : Thread Cert.AdamWIdeal.nD Cert.AdamWIdeal.τ).loc Cert.AdamWIdeal.main_arg7)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
          ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
          ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6)
          ∧ r.2.mem ((c.tc : Thread Cert.AdamWIdeal.nD Cert.AdamWIdeal.τ).loc Cert.AdamWIdeal.main_arg7) = m ((c.tc : Thread Cert.AdamWIdeal.nD Cert.AdamWIdeal.τ).loc Cert.AdamWIdeal.main_arg7))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v6) = v0 c
          ∧ r.2.mem ((c.tc : Thread Cert.AdamWRefIdeal.nD Cert.AdamWRefIdeal.τ).loc Cert.AdamWRefIdeal.main_v30) = v1 c
          ∧ r.2.mem ((c.tc : Thread Cert.AdamWRefIdeal.nD Cert.AdamWRefIdeal.τ).loc Cert.AdamWRefIdeal.main_v11) = v2 c
          ∧ r.2.mem ((c.tc : Thread Cert.AdamWRefIdeal.nD Cert.AdamWRefIdeal.τ).loc Cert.AdamWRefIdeal.main_v17) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4)
          ∧ r.2.mem ((c.tc : Thread Cert.AdamWRefIdeal.nD Cert.AdamWRefIdeal.τ).loc Cert.AdamWRefIdeal.main_arg5) = m' ((c.tc : Thread Cert.AdamWRefIdeal.nD Cert.AdamWRefIdeal.τ).loc Cert.AdamWRefIdeal.main_arg5)
          ∧ r.2.mem ((c.tc : Thread Cert.AdamWRefIdeal.nD Cert.AdamWRefIdeal.τ).loc Cert.AdamWRefIdeal.main_arg6) = m' ((c.tc : Thread Cert.AdamWRefIdeal.nD Cert.AdamWRefIdeal.τ).loc Cert.AdamWRefIdeal.main_arg6)
          ∧ r.2.mem ((c.tc : Thread Cert.AdamWRefIdeal.nD Cert.AdamWRefIdeal.τ).loc Cert.AdamWRefIdeal.main_arg7) = m' ((c.tc : Thread Cert.AdamWRefIdeal.nD Cert.AdamWRefIdeal.τ).loc Cert.AdamWRefIdeal.main_arg7))

def preserves_PutFz_PutFzIdeal : Prop :=
  True

def algebraic_PutFzIdeal_PutFzRefIdeal [hPutFzIdeal : Cert.PutFzIdeal.Facts] [hPutFzRefIdeal : Cert.PutFzRefIdeal.Facts] : Prop :=
  ∀ (m : (ℓ : Loc Cert.PutFzIdeal.nD Cert.PutFzIdeal.τ Cert.PutFzIdeal.sig) → Buf (Elt Ideal) ℓ) (g : Dev Cert.PutFzIdeal.nD → PrngReg)
    (m' : (ℓ : Loc Cert.PutFzRefIdeal.nD Cert.PutFzRefIdeal.τ Cert.PutFzRefIdeal.sig) → Buf (Elt Ideal) ℓ) (g' : Dev Cert.PutFzRefIdeal.nD → PrngReg), Pre_PutFzIdeal m →
    (∀ c : Dev Cert.PutFzIdeal.nD,
      m' ((c.tc : Thread Cert.PutFzRefIdeal.nD Cert.PutFzRefIdeal.τ).loc Cert.PutFzRefIdeal.main_arg0) = m ((c.tc : Thread Cert.PutFzIdeal.nD Cert.PutFzIdeal.τ).loc Cert.PutFzIdeal.main_arg0)
      ∧ m' ((c.tc : Thread Cert.PutFzRefIdeal.nD Cert.PutFzRefIdeal.τ).loc Cert.PutFzRefIdeal.main_arg1) = m ((c.tc : Thread Cert.PutFzIdeal.nD Cert.PutFzIdeal.τ).loc Cert.PutFzIdeal.main_arg1)) →
    ∃ (v0 : (c : Dev Cert.PutFzIdeal.nD) → Buf (Elt Ideal) ((c.tc : Thread Cert.PutFzIdeal.nD Cert.PutFzIdeal.τ).loc Cert.PutFzIdeal.main_v3)),
      θ_run (Cert.PutFzIdeal.defs (F := Ideal)) (onTc (τ := Cert.PutFzIdeal.τ) (Cert.PutFzIdeal.main (F := Ideal))) ⟨m, fun _ => 0, g⟩ (fun r => ∀ c : Dev Cert.PutFzIdeal.nD,
          r.2.mem ((c.tc : Thread Cert.PutFzIdeal.nD Cert.PutFzIdeal.τ).loc Cert.PutFzIdeal.main_v3) = v0 c
          ∧ r.2.mem ((c.tc : Thread Cert.PutFzIdeal.nD Cert.PutFzIdeal.τ).loc Cert.PutFzIdeal.main_arg0) = m ((c.tc : Thread Cert.PutFzIdeal.nD Cert.PutFzIdeal.τ).loc Cert.PutFzIdeal.main_arg0)
          ∧ r.2.mem ((c.tc : Thread Cert.PutFzIdeal.nD Cert.PutFzIdeal.τ).loc Cert.PutFzIdeal.main_arg1) = m ((c.tc : Thread Cert.PutFzIdeal.nD Cert.PutFzIdeal.τ).loc Cert.PutFzIdeal.main_arg1))
      ∧ θ_run (Cert.PutFzRefIdeal.defs (F := Ideal)) (onTc (τ := Cert.PutFzRefIdeal.τ) (Cert.PutFzRefIdeal.main (F := Ideal))) ⟨m', fun _ => 0, g'⟩ (fun r => ∀ c : Dev Cert.PutFzRefIdeal.nD,
          r.2.mem ((c.tc : Thread Cert.PutFzRefIdeal.nD Cert.PutFzRefIdeal.τ).loc Cert.PutFzRefIdeal.main_v3) = v0 c
          ∧ r.2.mem ((c.tc : Thread Cert.PutFzRefIdeal.nD Cert.PutFzRefIdeal.τ).loc Cert.PutFzRefIdeal.main_arg0) = m' ((c.tc : Thread Cert.PutFzRefIdeal.nD Cert.PutFzRefIdeal.τ).loc Cert.PutFzRefIdeal.main_arg0)
          ∧ r.2.mem ((c.tc : Thread Cert.PutFzRefIdeal.nD Cert.PutFzRefIdeal.τ).loc Cert.PutFzRefIdeal.main_arg1) = m' ((c.tc : Thread Cert.PutFzRefIdeal.nD Cert.PutFzRefIdeal.τ).loc Cert.PutFzRefIdeal.main_arg1))

def preserves_AdamS_AdamSIdeal : Prop :=
  IdealRules.named_const.Statement Cert.AdamSIdeal.κ "c1" .f32 0x3FC48605#32 ((8388608 / 5463681 : ℝ) : EReal)
  ∧ IdealRules.named_const.Statement Cert.AdamSIdeal.κ "c2" .f32 0x42C8E6D3#32 ((268435456 / 2672307 : ℝ) : EReal)

def algebraic_AdamSIdeal_AdamSRefIdeal [hAdamSIdeal : Cert.AdamSIdeal.Facts] [hAdamSRefIdeal : Cert.AdamSRefIdeal.Facts] : Prop :=
  ∀ (m : (ℓ : Loc Cert.AdamSIdeal.nD Cert.AdamSIdeal.τ Cert.AdamSIdeal.sig) → Buf (Elt Ideal) ℓ) (g : Dev Cert.AdamSIdeal.nD → PrngReg)
    (m' : (ℓ : Loc Cert.AdamSRefIdeal.nD Cert.AdamSRefIdeal.τ Cert.AdamSRefIdeal.sig) → Buf (Elt Ideal) ℓ) (g' : Dev Cert.AdamSRefIdeal.nD → PrngReg), Pre_AdamSIdeal m →
    (∀ c : Dev Cert.AdamSIdeal.nD,
      m' ((c.tc : Thread Cert.AdamSRefIdeal.nD Cert.AdamSRefIdeal.τ).loc Cert.AdamSRefIdeal.main_arg0) = m ((c.tc : Thread Cert.AdamSIdeal.nD Cert.AdamSIdeal.τ).loc Cert.AdamSIdeal.main_arg0)
      ∧ m' ((c.tc : Thread Cert.AdamSRefIdeal.nD Cert.AdamSRefIdeal.τ).loc Cert.AdamSRefIdeal.main_arg1) = m ((c.tc : Thread Cert.AdamSIdeal.nD Cert.AdamSIdeal.τ).loc Cert.AdamSIdeal.main_arg1)
      ∧ m' ((c.tc : Thread Cert.AdamSRefIdeal.nD Cert.AdamSRefIdeal.τ).loc Cert.AdamSRefIdeal.main_arg2) = m ((c.tc : Thread Cert.AdamSIdeal.nD Cert.AdamSIdeal.τ).loc Cert.AdamSIdeal.main_arg2)
      ∧ m' ((c.tc : Thread Cert.AdamSRefIdeal.nD Cert.AdamSRefIdeal.τ).loc Cert.AdamSRefIdeal.main_arg3) = m ((c.tc : Thread Cert.AdamSIdeal.nD Cert.AdamSIdeal.τ).loc Cert.AdamSIdeal.main_arg3)) →
    ∃ (v0 : (c : Dev Cert.AdamSIdeal.nD) → Buf (Elt Ideal) ((c.tc : Thread Cert.AdamSIdeal.nD Cert.AdamSIdeal.τ).loc Cert.AdamSIdeal.main_v0_0)) (v1 : (c : Dev Cert.AdamSIdeal.nD) → Buf (Elt Ideal) ((c.tc : Thread Cert.AdamSIdeal.nD Cert.AdamSIdeal.τ).loc Cert.AdamSIdeal.main_v0_1)) (v2 : (c : Dev Cert.AdamSIdeal.nD) → Buf (Elt Ideal) ((c.tc : Thread Cert.AdamSIdeal.nD Cert.AdamSIdeal.τ).loc Cert.AdamSIdeal.main_v0_2)),
      θ_run (Cert.AdamSIdeal.defs (F := Ideal)) (onTc (τ := Cert.AdamSIdeal.τ) (Cert.AdamSIdeal.main (F := Ideal))) ⟨m, fun _ => 0, g⟩ (fun r => ∀ c : Dev Cert.AdamSIdeal.nD,
          r.2.mem ((c.tc : Thread Cert.AdamSIdeal.nD Cert.AdamSIdeal.τ).loc Cert.AdamSIdeal.main_v0_0) = v0 c
          ∧ r.2.mem ((c.tc : Thread Cert.AdamSIdeal.nD Cert.AdamSIdeal.τ).loc Cert.AdamSIdeal.main_v0_1) = v1 c
          ∧ r.2.mem ((c.tc : Thread Cert.AdamSIdeal.nD Cert.AdamSIdeal.τ).loc Cert.AdamSIdeal.main_v0_2) = v2 c
          ∧ r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
          ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
          ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
          ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ θ_run (Cert.AdamSRefIdeal.defs (F := Ideal)) (onTc (τ := Cert.AdamSRefIdeal.τ) (Cert.AdamSRefIdeal.main (F := Ideal))) ⟨m', fun _ => 0, g'⟩ (fun r => ∀ c : Dev Cert.AdamSRefIdeal.nD,
          r.2.mem ((c.tc : Thread Cert.AdamSRefIdeal.nD Cert.AdamSRefIdeal.τ).loc Cert.AdamSRefIdeal.main_v23) = v0 c
          ∧ r.2.mem ((c.tc : Thread Cert.AdamSRefIdeal.nD Cert.AdamSRefIdeal.τ).loc Cert.AdamSRefIdeal.main_v4) = v1 c
          ∧ r.2.mem ((c.tc : Thread Cert.AdamSRefIdeal.nD Cert.AdamSRefIdeal.τ).loc Cert.AdamSRefIdeal.main_v10) = v2 c
          ∧ r.2.mem ((c.tc : Thread Cert.AdamSRefIdeal.nD Cert.AdamSRefIdeal.τ).loc Cert.AdamSRefIdeal.main_arg0) = m' ((c.tc : Thread Cert.AdamSRefIdeal.nD Cert.AdamSRefIdeal.τ).loc Cert.AdamSRefIdeal.main_arg0)
          ∧ r.2.mem ((c.tc : Thread Cert.AdamSRefIdeal.nD Cert.AdamSRefIdeal.τ).loc Cert.AdamSRefIdeal.main_arg1) = m' ((c.tc : Thread Cert.AdamSRefIdeal.nD Cert.AdamSRefIdeal.τ).loc Cert.AdamSRefIdeal.main_arg1)
          ∧ r.2.mem ((c.tc : Thread Cert.AdamSRefIdeal.nD Cert.AdamSRefIdeal.τ).loc Cert.AdamSRefIdeal.main_arg2) = m' ((c.tc : Thread Cert.AdamSRefIdeal.nD Cert.AdamSRefIdeal.τ).loc Cert.AdamSRefIdeal.main_arg2)
          ∧ r.2.mem ((c.tc : Thread Cert.AdamSRefIdeal.nD Cert.AdamSRefIdeal.τ).loc Cert.AdamSRefIdeal.main_arg3) = m' ((c.tc : Thread Cert.AdamSRefIdeal.nD Cert.AdamSRefIdeal.τ).loc Cert.AdamSRefIdeal.main_arg3))

def Claim : Prop :=
  ∃ (hKernel : Cert.Kernel.Facts) (hKernelIdeal : Cert.KernelIdeal.Facts) (hReferenceIdeal : Cert.ReferenceIdeal.Facts) (hNorm2Bwd : Cert.Norm2Bwd.Facts) (hNorm2BwdIdeal : Cert.Norm2BwdIdeal.Facts) (hNorm2BwdRefIdeal : Cert.Norm2BwdRefIdeal.Facts) (hNorm1Bwd : Cert.Norm1Bwd.Facts) (hNorm1BwdIdeal : Cert.Norm1BwdIdeal.Facts) (hNorm1BwdRefIdeal : Cert.Norm1BwdRefIdeal.Facts) (hLossHead : Cert.LossHead.Facts) (hLossHeadIdeal : Cert.LossHeadIdeal.Facts) (hLossHeadRefIdeal : Cert.LossHeadRefIdeal.Facts) (hMixBwd : Cert.MixBwd.Facts) (hMixBwdIdeal : Cert.MixBwdIdeal.Facts) (hMixBwdRefIdeal : Cert.MixBwdRefIdeal.Facts) (hConvBwd : Cert.ConvBwd.Facts) (hConvBwdIdeal : Cert.ConvBwdIdeal.Facts) (hConvBwdRefIdeal : Cert.ConvBwdRefIdeal.Facts) (hGlaFwd : Cert.GlaFwd.Facts) (hGlaFwdIdeal : Cert.GlaFwdIdeal.Facts) (hGlaFwdRefIdeal : Cert.GlaFwdRefIdeal.Facts) (hRmsFwd : Cert.RmsFwd.Facts) (hRmsFwdIdeal : Cert.RmsFwdIdeal.Facts) (hRmsFwdRefIdeal : Cert.RmsFwdRefIdeal.Facts) (hConvFwd : Cert.ConvFwd.Facts) (hConvFwdIdeal : Cert.ConvFwdIdeal.Facts) (hConvFwdRefIdeal : Cert.ConvFwdRefIdeal.Facts) (hMixFwd : Cert.MixFwd.Facts) (hMixFwdIdeal : Cert.MixFwdIdeal.Facts) (hMixFwdRefIdeal : Cert.MixFwdRefIdeal.Facts) (hFfnFwd : Cert.FfnFwd.Facts) (hFfnFwdIdeal : Cert.FfnFwdIdeal.Facts) (hFfnFwdRefIdeal : Cert.FfnFwdRefIdeal.Facts) (hGlaBwd : Cert.GlaBwd.Facts) (hGlaBwdIdeal : Cert.GlaBwdIdeal.Facts) (hGlaBwdRefIdeal : Cert.GlaBwdRefIdeal.Facts) (hWgrad : Cert.Wgrad.Facts) (hWgradIdeal : Cert.WgradIdeal.Facts) (hWgradRefIdeal : Cert.WgradRefIdeal.Facts) (hAdamW : Cert.AdamW.Facts) (hAdamWIdeal : Cert.AdamWIdeal.Facts) (hAdamWRefIdeal : Cert.AdamWRefIdeal.Facts) (hPutFz : Cert.PutFz.Facts) (hPutFzIdeal : Cert.PutFzIdeal.Facts) (hPutFzRefIdeal : Cert.PutFzRefIdeal.Facts) (hAdamS : Cert.AdamS.Facts) (hAdamSIdeal : Cert.AdamSIdeal.Facts) (hAdamSRefIdeal : Cert.AdamSRefIdeal.Facts) (hPre_ffn_finite : Cert.Pre_ffn_finite.Facts) (hPre_gla_finite : Cert.Pre_gla_finite.Facts) (hOn_on_gates : Cert.On_on_gates.Facts),
    quiescent_Kernel (hKernel := hKernel)
    ∧ quiescent_KernelIdeal (hKernelIdeal := hKernelIdeal)
    ∧ quiescent_KernelIdeal_pre_ffn_finite (hKernelIdeal := hKernelIdeal) (hPre_ffn_finite := hPre_ffn_finite)
    ∧ quiescent_ReferenceIdeal (hReferenceIdeal := hReferenceIdeal)
    ∧ quiescent_ReferenceIdeal_pre_ffn_finite (hReferenceIdeal := hReferenceIdeal) (hPre_ffn_finite := hPre_ffn_finite)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_GlaFwd (hGlaFwd := hGlaFwd)
    ∧ quiescent_GlaFwdIdeal (hGlaFwdIdeal := hGlaFwdIdeal)
    ∧ quiescent_GlaFwdRefIdeal (hGlaFwdRefIdeal := hGlaFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_GlaBwd (hGlaBwd := hGlaBwd)
    ∧ quiescent_GlaBwdIdeal (hGlaBwdIdeal := hGlaBwdIdeal)
    ∧ quiescent_GlaBwdIdeal_pre_gla_finite (hGlaBwdIdeal := hGlaBwdIdeal) (hPre_gla_finite := hPre_gla_finite)
    ∧ quiescent_GlaBwdRefIdeal (hGlaBwdRefIdeal := hGlaBwdRefIdeal)
    ∧ quiescent_GlaBwdRefIdeal_pre_gla_finite (hGlaBwdRefIdeal := hGlaBwdRefIdeal) (hPre_gla_finite := hPre_gla_finite)
    ∧ quiescent_Wgrad (hWgrad := hWgrad)
    ∧ quiescent_WgradIdeal (hWgradIdeal := hWgradIdeal)
    ∧ quiescent_WgradRefIdeal (hWgradRefIdeal := hWgradRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_PutFz (hPutFz := hPutFz)
    ∧ quiescent_PutFzIdeal (hPutFzIdeal := hPutFzIdeal)
    ∧ quiescent_PutFzRefIdeal (hPutFzRefIdeal := hPutFzRefIdeal)
    ∧ quiescent_AdamS (hAdamS := hAdamS)
    ∧ quiescent_AdamSIdeal (hAdamSIdeal := hAdamSIdeal)
    ∧ quiescent_AdamSRefIdeal (hAdamSRefIdeal := hAdamSRefIdeal)
    ∧ preserves_Kernel_KernelIdeal
    ∧ algebraic_KernelIdeal_ReferenceIdeal_pre_ffn_finite (hKernelIdeal := hKernelIdeal) (hReferenceIdeal := hReferenceIdeal) (hPre_ffn_finite := hPre_ffn_finite)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_MixBwd_MixBwdIdeal
    ∧ algebraic_MixBwdIdeal_MixBwdRefIdeal_on_on_gates (hMixBwdIdeal := hMixBwdIdeal) (hMixBwdRefIdeal := hMixBwdRefIdeal) (hOn_on_gates := hOn_on_gates)
    ∧ preserves_ConvBwd_ConvBwdIdeal
    ∧ algebraic_ConvBwdIdeal_ConvBwdRefIdeal (hConvBwdIdeal := hConvBwdIdeal) (hConvBwdRefIdeal := hConvBwdRefIdeal)
    ∧ preserves_GlaFwd_GlaFwdIdeal
    ∧ algebraic_GlaFwdIdeal_GlaFwdRefIdeal (hGlaFwdIdeal := hGlaFwdIdeal) (hGlaFwdRefIdeal := hGlaFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_GlaBwd_GlaBwdIdeal
    ∧ algebraic_GlaBwdIdeal_GlaBwdRefIdeal_pre_gla_finite (hGlaBwdIdeal := hGlaBwdIdeal) (hGlaBwdRefIdeal := hGlaBwdRefIdeal) (hPre_gla_finite := hPre_gla_finite)
    ∧ preserves_Wgrad_WgradIdeal
    ∧ algebraic_WgradIdeal_WgradRefIdeal (hWgradIdeal := hWgradIdeal) (hWgradRefIdeal := hWgradRefIdeal)
    ∧ preserves_AdamW_AdamWIdeal
    ∧ algebraic_AdamWIdeal_AdamWRefIdeal (hAdamWIdeal := hAdamWIdeal) (hAdamWRefIdeal := hAdamWRefIdeal)
    ∧ preserves_PutFz_PutFzIdeal
    ∧ algebraic_PutFzIdeal_PutFzRefIdeal (hPutFzIdeal := hPutFzIdeal) (hPutFzRefIdeal := hPutFzRefIdeal)
    ∧ preserves_AdamS_AdamSIdeal
    ∧ algebraic_AdamSIdeal_AdamSRefIdeal (hAdamSIdeal := hAdamSIdeal) (hAdamSRefIdeal := hAdamSRefIdeal)
-- ==== On_on_gates.lean ====
abbrev S4096x1024 : Shape := ⟨2, ![4096, 1024]⟩
abbrev S4096x8208 : Shape := ⟨2, ![4096, 8208]⟩
abbrev S1024x1024 : Shape := ⟨2, ![1024, 1024]⟩
abbrev S_ : Shape := ⟨0, ![]⟩
abbrev S4096x8320 : Shape := ⟨2, ![4096, 8320]⟩

class Facts : Prop where
  bcast_S_S4096x1024 : S_.BroadcastsInDim S4096x1024 (![] : Fin 0 → Fin S4096x1024.rank)
  bcast_S_S4096x8320 : S_.BroadcastsInDim S4096x8320 (![] : Fin 0 → Fin S4096x8320.rank)

variable [Facts]

def fn {F : FTy → Type} [FloatOps F] (main_arg0 : FVec F S4096x1024 .f32) (main_arg1 : FVec F S4096x8208 .f32) (main_arg2 : FVec F S4096x1024 .f32) (main_arg3 : FVec F S4096x1024 .f32) (main_arg4 : FVec F S1024x1024 .f32) (main_arg5 : FVec F S1024x1024 .f32) (main_arg6 : FVec F S1024x1024 .f32) : IVec S4096x1024 1 × IVec S4096x1024 1 × IVec S4096x1024 1 × IVec S4096x1024 1 × IVec S4096x8320 1 :=
  let main_c : IVec S_ 1 := constantI S_ 1 1#1
  let main_v0 : IVec S4096x1024 1 := broadcastInDim S4096x1024 ![] bcast_S_S4096x1024 main_c
  let main_v1 : IVec S4096x8320 32 := iotaInDim S4096x8320 32 1
  let main_c_0 : IVec S_ 32 := constantI S_ 32 6144#32
  let main_v2 : IVec S4096x8320 32 := broadcastInDim S4096x8320 ![] bcast_S_S4096x8320 main_c_0
  let main_v3 : IVec S4096x8320 1 := cmpi .sge main_v1 main_v2
  let main_c_1 : IVec S_ 32 := constantI S_ 32 8192#32
  let main_v4 : IVec S4096x8320 32 := broadcastInDim S4096x8320 ![] bcast_S_S4096x8320 main_c_1
  let main_v5 : IVec S4096x8320 1 := cmpi .slt main_v1 main_v4
  let main_v6 : IVec S4096x8320 1 := andi main_v3 main_v5
  (main_v0, main_v0, main_v0, main_v0, main_v6)
-- ==== Pre_ffn_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .f32) (main_arg2 : FVec F S4096x2816 .f32) (main_arg3 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  main_v13
-- ==== Pre_gla_finite.lean ====
abbrev S4096x8208 : Shape := ⟨2, ![4096, 8208]⟩
abbrev S4096x1024 : Shape := ⟨2, ![4096, 1024]⟩
abbrev S16x512 : Shape := ⟨2, ![16, 512]⟩
abbrev S512 : Shape := ⟨1, ![512]⟩
abbrev S256 : Shape := ⟨1, ![256]⟩
abbrev S4096x8320 : Shape := ⟨2, ![4096, 8320]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S4096x8208 .f32) (main_arg1 : FVec F S4096x1024 .f32) (main_arg2 : FVec F S16x512 .f32) (main_arg3 : FVec F S512 .f32) (main_arg4 : FVec F S256 .f32) (main_arg5 : FVec F S4096x8320 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256 .f32 := Host.absf main_arg4
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S4096x1024 : Shape := ⟨2, ![4096, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S4096x1024, .bf16⟩
  | .hbm, ⟨5, _⟩ => ⟨S2816x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Norm2Bwd.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x2816, .bf16⟩
  | .hbm, ⟨8, _⟩ => ⟨S2816x1024, .f32⟩
  | .hbm, ⟨9, _⟩ => ⟨S2816x1024, .bf16⟩
  | .hbm, ⟨10, _⟩ => ⟨S4096x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k0_cond2 (i : grid0.Coords) : BitVec 1 :=
  let arg0 : BitVec 32 := BitVec.ofNat 32 (i 0).val
  let c0_i32_25 : BitVec 32 := 0#32
  let v47 : BitVec 1 := Scalar.cmpi .sgt arg0 c0_i32_25
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Norm2BwdRefIdeal.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x2816, .f32⟩
  | .hbm, ⟨3, _⟩ => ⟨S1024x2816, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Norm1Bwd.lean ====
abbrev S4096x8208 : Shape := ⟨2, ![4096, 8208]⟩
abbrev S1024x8208 : Shape := ⟨2, ![1024, 8208]⟩
abbrev S4096x1024 : Shape := ⟨2, ![4096, 1024]⟩
abbrev S1024 : Shape := ⟨1, ![1024]⟩
abbrev S4096x3072 : Shape := ⟨2, ![4096, 3072]⟩
abbrev S4096x5120 : Shape := ⟨2, ![4096, 5120]⟩
abbrev S4096x16 : Shape := ⟨2, ![4096, 16]⟩
abbrev S_ : Shape := ⟨0, ![]⟩
abbrev S4096x112 : Shape := ⟨2, ![4096, 112]⟩
abbrev S4096x8320 : Shape := ⟨2, ![4096, 8320]⟩
abbrev S8208x1024 : Shape := ⟨2, ![8208, 1024]⟩
abbrev S3072x1024 : Shape := ⟨2, ![3072, 1024]⟩
abbrev S5120x1024 : Shape := ⟨2, ![5120, 1024]⟩
abbrev S16x1024 : Shape := ⟨2, ![16, 1024]⟩
abbrev S112x1024 : Shape := ⟨2, ![112, 1024]⟩
abbrev S8320x1024 : Shape := ⟨2, ![8320, 1024]⟩
abbrev S1x1024 : Shape := ⟨2, ![1, 1024]⟩
abbrev S512x1664 : Shape := ⟨2, ![512, 1664]⟩
abbrev S1664x1024 : Shape := ⟨2, ![1664, 1024]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S4096x8208, .f32⟩
  | .hbm, ⟨1, _⟩ => ⟨S1024x8208, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x3072, .f32⟩
  | .hbm, ⟨6, _⟩ => ⟨S4096x5120, .f32⟩
  | .hbm, ⟨7, _⟩ => ⟨S4096x16, .f32⟩
  | .hbm, ⟨8, _⟩ => ⟨S_, .f32⟩
  | .hbm, ⟨9, _⟩ => ⟨S4096x112, .f32⟩
  | .hbm, ⟨10, _⟩ => ⟨S4096x8320, .f32⟩
  | .hbm, ⟨11, _⟩ => ⟨S4096x8320, .bf16⟩
  | .hbm, ⟨12, _⟩ => ⟨S8208x1024, .f32⟩
  | .hbm, ⟨13, _⟩ => ⟨S3072x1024, .f32⟩
  | .hbm, ⟨14, _⟩ => ⟨S5120x1024, .f32⟩
  | .hbm, ⟨15, _⟩ => ⟨S16x1024, .f32⟩
  | .hbm, ⟨16, _⟩ => ⟨S_, .f32⟩
  | .hbm, ⟨17, _⟩ => ⟨S112x1024, .f32⟩
  | .hbm, ⟨18, _⟩ => ⟨S8320x1024, .f32⟩
  | .hbm, ⟨19, _⟩ => ⟨S8320x1024, .bf16⟩
  | .hbm, ⟨20, _⟩ => ⟨S1x1024, .f32⟩
  | .hbm, ⟨21, _⟩ => ⟨S4096x1024, .f32⟩
  | .hbm, ⟨22, _⟩ => ⟨S4096x1024, .bf16⟩
  | .hbm, ⟨23, _⟩ => ⟨S1x1024, .f32⟩
  | .local _ .vmem, ⟨0, _⟩ => ⟨S512x1664, .bf16⟩
  | .local _ .vmem, ⟨1, _⟩ => ⟨S512x1664, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 5], ![false, false]⟩

def k0_cond3 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Norm1BwdRefIdeal.lean ====
abbrev S4096x8208 : Shape := ⟨2, ![4096, 8208]⟩
abbrev S1024x8208 : Shape := ⟨2, ![1024, 8208]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x8208, .f32⟩
  | .hbm, ⟨1, _⟩ => ⟨S1024x8208, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x8208, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MixBwd.lean ====
abbrev S4096x1024 : Shape := ⟨2, ![4096, 1024]⟩
abbrev S4096x8208 : Shape := ⟨2, ![4096, 8208]⟩
abbrev S1024x1024 : Shape := ⟨2, ![1024, 1024]⟩
abbrev S4096x3072 : Shape := ⟨2, ![4096, 3072]⟩
abbrev S4096x5120 : Shape := ⟨2, ![4096, 5120]⟩
abbrev S4096x16 : Shape := ⟨2, ![4096, 16]⟩
abbrev S_ : Shape := ⟨0, ![]⟩
abbrev S4096x112 : Shape := ⟨2, ![4096, 112]⟩
abbrev S4096x8320 : Shape := ⟨2, ![4096, 8320]⟩
abbrev S512x1024 : Shape := ⟨2, ![512, 1024]⟩
abbrev S512x2048 : Shape := ⟨2, ![512, 2048]⟩

abbrev nBuf : Space → Nat
  | .hbm => 27
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x8208, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x3072, .f32⟩
  | .hbm, ⟨11, _⟩ => ⟨S4096x5120, .f32⟩
  | .hbm, ⟨12, _⟩ => ⟨S4096x16, .f32⟩
  | .hbm, ⟨13, _⟩ => ⟨S_, .f32⟩
  | .hbm, ⟨14, _⟩ => ⟨S4096x112, .f32⟩
  | .hbm, ⟨15, _⟩ => ⟨S4096x8320, .f32⟩
  | .hbm, ⟨16, _⟩ => ⟨S4096x8320, .bf16⟩
  | .hbm, ⟨17, _⟩ => ⟨S4096x1024, .bf16⟩
  | .hbm, ⟨18, _⟩ => ⟨S4096x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x8320, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x2048, .bf16⟩
  | .local _ .vmem, ⟨22, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixBwdRefIdeal.lean ====
abbrev S4096x1024 : Shape := ⟨2, ![4096, 1024]⟩
abbrev S4096x8208 : Shape := ⟨2, ![4096, 8208]⟩
abbrev S1024x1024 : Shape := ⟨2, ![1024, 1024]⟩
abbrev S_ : Shape := ⟨0, ![]⟩
abbrev S4096x6144 : Shape := ⟨2, ![4096, 6144]⟩
abbrev S4096x128 : Shape := ⟨2, ![4096, 128]⟩
abbrev S4096x8320 : Shape := ⟨2, ![4096, 8320]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8208, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x6144, .f32⟩
  | .hbm, ⟨50, _⟩ => ⟨S_, .f32⟩
  | .hbm, ⟨51, _⟩ => ⟨S4096x128, .f32⟩
  | .hbm, ⟨52, _⟩ => ⟨S4096x8320, .f32⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x8320, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== ConvBwd.lean ====
abbrev S4096x8208 : Shape := ⟨2, ![4096, 8208]⟩
abbrev S4096x1024 : Shape := ⟨2, ![4096, 1024]⟩
abbrev S3x1024 : Shape := ⟨2, ![3, 1024]⟩
abbrev S1024 : Shape := ⟨1, ![1024]⟩
abbrev S4096x8320 : Shape := ⟨2, ![4096, 8320]⟩
abbrev S_ : Shape := ⟨0, ![]⟩
abbrev S8x1024 : Shape := ⟨2, ![8, 1024]⟩
abbrev S1x1024 : Shape := ⟨2, ![1, 1024]⟩
abbrev S4096x3072 : Shape := ⟨2, ![4096, 3072]⟩
abbrev S4096x5120 : Shape := ⟨2, ![4096, 5120]⟩
abbrev S4096x16 : Shape := ⟨2, ![4096, 16]⟩
abbrev S4096x112 : Shape := ⟨2, ![4096, 112]⟩
abbrev S512x1024 : Shape := ⟨2, ![512, 1024]⟩
abbrev S16x1024 : Shape := ⟨2, ![16, 1024]⟩
abbrev S512x3072 : Shape := ⟨2, ![512, 3072]⟩
abbrev S528x1024 : Shape := ⟨2, ![528, 1024]⟩
abbrev S4x1024 : Shape := ⟨2, ![4, 1024]⟩

abbrev nBuf : Space → Nat
  | .hbm => 24
  | .vmem => 20
  | .smem => 0
  | _ => 0

abbrev bufTy : (tb : Table) → Fin (tcTables nBuf tb) → BufTy
  | .hbm, ⟨0, _⟩ => ⟨S4096x8208, .f32⟩
  | .hbm, ⟨1, _⟩ => ⟨S4096x1024, .f32⟩
  | .hbm, ⟨2, _⟩ => ⟨S3x1024, .f32⟩
  | .hbm, ⟨3, _⟩ => ⟨S1024, .f32⟩
  | .hbm, ⟨4, _⟩ => ⟨S4096x8320, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S4096x3072, .f32⟩
  | .hbm, ⟨14, _⟩ => ⟨S4096x5120, .f32⟩
  | .hbm, ⟨15, _⟩ => ⟨S4096x16, .f32⟩
  | .hbm, ⟨16, _⟩ => ⟨S_, .f32⟩
  | .hbm, ⟨17, _⟩ => ⟨S4096x112, .f32⟩
  | .hbm, ⟨18, _⟩ => ⟨S4096x8320, .f32⟩
  | .hbm, ⟨19, _⟩ => ⟨S4096x8320, .bf16⟩
  | .hbm, ⟨20, _⟩ => ⟨S4096x1024, .bf16⟩
  | .hbm, ⟨21, _⟩ => ⟨S4096x8320, .bf16⟩
  | .hbm, ⟨22, _⟩ => ⟨S4096x8320, .bf16⟩
  | .hbm, ⟨23, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S8x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_36 : BitVec 32 := 0#32
  let v98 : BitVec 1 := Scalar.cmpi .eq arg0 c0_i32_36
  let v99 : BitVec 32 := Scalar.extui v98
  let c0_i32_37 : BitVec 32 := 0#32
  let v100 : BitVec 1 := Scalar.cmpi .ne v99 c0_i32_37
  v100

def k0_cond2 (i : grid0.Coords) : BitVec 1 :=
  let arg0 : BitVec 32 := BitVec.ofNat 32 (i 0).val
  let c0_i32_38 : BitVec 32 := 0#32
  let v101 : BitVec 1 := Scalar.cmpi .sgt arg0 c0_i32_38
  let v102 : BitVec 32 := Scalar.extui v101
  let c0_i32_39 : BitVec 32 := 0#32
  let v103 : BitVec 1 := Scalar.cmpi .ne v102 c0_i32_39
  v103

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvBwdRefIdeal.lean ====
abbrev S4096x8208 : Shape := ⟨2, ![4096, 8208]⟩
abbrev S4096x1024 : Shape := ⟨2, ![4096, 1024]⟩
abbrev S3x1024 : Shape := ⟨2, ![3, 1024]⟩
abbrev S1024 : Shape := ⟨1, ![1024]⟩
abbrev S4096x8320 : Shape := ⟨2, ![4096, 8320]⟩
abbrev S1x1024 : Shape := ⟨2, ![1, 1024]⟩
abbrev S_ : Shape := ⟨0, ![]⟩
abbrev S2x1024 : Shape := ⟨2, ![2, 1024]⟩
abbrev S4094x1024 : Shape := ⟨2, ![4094, 1024]⟩
abbrev S4095x1024 : Shape := ⟨2, ![4095, 1024]⟩
abbrev S4096x3072 : Shape := ⟨2, ![4096, 3072]⟩
abbrev S4096x2176 : Shape := ⟨2, ![4096, 2176]⟩
abbrev S4x1024 : Shape := ⟨2, ![4, 1024]⟩
abbrev S8x1024 : Shape := ⟨2, ![8, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x8208, .f32⟩
  | .hbm, ⟨1, _⟩ => ⟨S4096x1024, .f32⟩
  | .hbm, ⟨2, _⟩ => ⟨S3x1024, .f32⟩
  | .hbm, ⟨3, _⟩ => ⟨S1024, .f32⟩
  | .hbm, ⟨4, _⟩ => ⟨S4096x8320, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S_, .f32⟩
  | .hbm, ⟨12, _⟩ => ⟨S2x1024, .f32⟩
  | .hbm, ⟨13, _⟩ => ⟨S4094x1024, .f32⟩
  | .hbm, ⟨14, _⟩ => ⟨S4096x1024, .f32⟩
  | .hbm, ⟨15, _⟩ => ⟨S_, .f32⟩
  | .hbm, ⟨16, _⟩ => ⟨S2x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1x1024, .f32⟩
  | .hbm, ⟨24, _⟩ => ⟨S4095x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4095x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S2x1024, .f32⟩
  | .hbm, ⟨86, _⟩ => ⟨S4094x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S1x1024, .f32⟩
  | .hbm, ⟨91, _⟩ => ⟨S_, .f32⟩
  | .hbm, ⟨92, _⟩ => ⟨S3x1024, .f32⟩
  | .hbm, ⟨93, _⟩ => ⟨S3x1024, .f32⟩
  | .hbm, ⟨94, _⟩ => ⟨S4096x1024, .f32⟩
  | .hbm, ⟨95, _⟩ => ⟨S4096x1024, .f32⟩
  | .hbm, ⟨96, _⟩ => ⟨S4096x3072, .f32⟩
  | .hbm, ⟨97, _⟩ => ⟨S4096x2176, .f32⟩
  | .hbm, ⟨98, _⟩ => ⟨S4096x8320, .f32⟩
  | .hbm, ⟨99, _⟩ => ⟨S1x1024, .f32⟩
  | .hbm, ⟨100, _⟩ => ⟨S_, .f32⟩
  | .hbm, ⟨101, _⟩ => ⟨S4x1024, .f32⟩
  | .hbm, ⟨102, _⟩ => ⟨S8x1024, .f32⟩
  | .hbm, ⟨103, _⟩ => ⟨S4096x8320, .bf16⟩
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== GlaFwd.lean ====
abbrev S4096x8208 : Shape := ⟨2, ![4096, 8208]⟩
abbrev S16x512 : Shape := ⟨2, ![16, 512]⟩
abbrev S512 : Shape := ⟨1, ![512]⟩
abbrev S256 : Shape := ⟨1, ![256]⟩
abbrev S4096x3072 : Shape := ⟨2, ![4096, 3072]⟩
abbrev S4096x5120 : Shape := ⟨2, ![4096, 5120]⟩
abbrev S4096x16 : Shape := ⟨2, ![4096, 16]⟩
abbrev S_ : Shape := ⟨0, ![]⟩
abbrev S4096x112 : Shape := ⟨2, ![4096, 112]⟩
abbrev S4096x8320 : Shape := ⟨2, ![4096, 8320]⟩
abbrev S128x512 : Shape := ⟨2, ![128, 512]⟩
abbrev S1x512 : Shape := ⟨2, ![1, 512]⟩
abbrev S1x256 : Shape := ⟨2, ![1, 256]⟩
abbrev S4096x1024 : Shape := ⟨2, ![4096, 1024]⟩
abbrev S64x256x512 : Shape := ⟨3, ![64, 256, 512]⟩
abbrev S512x512 : Shape := ⟨2, ![512, 512]⟩
abbrev S512x1024 : Shape := ⟨2, ![512, 1024]⟩
abbrev S512x128 : Shape := ⟨2, ![512, 128]⟩
abbrev S8x256x512 : Shape := ⟨3, ![8, 256, 512]⟩
abbrev S256x512 : Shape := ⟨2, ![256, 512]⟩
abbrev S64x64 : Shape := ⟨2, ![64, 64]⟩
abbrev S64x512 : Shape := ⟨2, ![64, 512]⟩
abbrev S64x1024 : Shape := ⟨2, ![64, 1024]⟩
abbrev S64x256 : Shape := ⟨2, ![64, 256]⟩
abbrev S64x128 : Shape := ⟨2, ![64, 128]⟩
abbrev S256x128 : Shape := ⟨2, ![256, 128]⟩
abbrev S1x128 : Shape := ⟨2, ![1, 128]⟩
abbrev S1x256x512 : Shape := ⟨3, ![1, 256, 512]⟩
abbrev S512x256 : Shape := ⟨2, ![512, 256]⟩
abbrev S512x1 : Shape := ⟨2, ![512, 1]⟩

abbrev nBuf : Space → Nat
  | .hbm => 19
  | .vmem => 20
  | .smem => 0
  | _ => 0

abbrev bufTy : (tb : Table) → Fin (tcTables nBuf tb) → BufTy
  | .hbm, ⟨0, _⟩ => ⟨S4096x8208, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S4096x3072, .f32⟩
  | .hbm, ⟨5, _⟩ => ⟨S4096x5120, .f32⟩
  | .hbm, ⟨6, _⟩ => ⟨S4096x16, .f32⟩
  | .hbm, ⟨7, _⟩ => ⟨S_, .f32⟩
  | .hbm, ⟨8, _⟩ => ⟨S4096x112, .f32⟩
  | .hbm, ⟨9, _⟩ => ⟨S4096x8320, .f32⟩
  | .hbm, ⟨10, _⟩ => ⟨S4096x8320, .bf16⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S1x512, .f32⟩
  | .hbm, ⟨16, _⟩ => ⟨S1x256, .f32⟩
  | .hbm, ⟨17, _⟩ => ⟨S4096x1024, .bf16⟩
  | .hbm, ⟨18, _⟩ => ⟨S64x256x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S512x1024, .bf16⟩
  | .local _ .vmem, ⟨14, _⟩ => ⟨S512x1024, .bf16⟩
  | .local _ .vmem, ⟨15, _⟩ => ⟨S8x256x512, .bf16⟩
  | .local _ .vmem, ⟨16, _⟩ => ⟨S8x256x512, .bf16⟩
  | .local _ .vmem, ⟨17, _⟩ => ⟨S256x512, .f32⟩
  | .local _ .vmem, ⟨18, _⟩ => ⟨S512x512, .f32⟩
  | .local _ .vmem, ⟨19, _⟩ => ⟨S512x1024, .f32⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def k0_mult1 : BitVec 32 :=
  let c0_i32_13 : BitVec 32 := 0#32
  let c64_i32 : BitVec 32 := 64#32
  let v31 : BitVec 32 := Scalar.muli c0_i32_13 c64_i32
  v31
def k0_off1 (c0_i32_13 : BitVec 32) : Fin 2 → Nat :=
  let c64_i32 : BitVec 32 := 64#32
  let v31 : BitVec 32 := Scalar.muli c0_i32_13 c64_i32
  let v32 : BitVec 32 := v31
  let v33 : Index := Scalar.indexCast v32
  let c0_14 : Index := 0#32
  ![v33.toNat, 0]
def k0_off2 (c0_i32_13 : BitVec 32) : Fin 2 → Nat :=
  let c64_i32 : BitVec 32 := 64#32
  let v31 : BitVec 32 := Scalar.muli c0_i32_13 c64_i32
  let v32 : BitVec 32 := v31
  let v54 : Index := Scalar.indexCast v32
  let c0_19 : Index := 0#32
  ![v54.toNat, 0]
def k0_off3 (c0_i32_13 : BitVec 32) : Fin 2 → Nat :=
  let c64_i32 : BitVec 32 := 64#32
  let v31 : BitVec 32 := Scalar.muli c0_i32_13 c64_i32
  let v32 : BitVec 32 := v31
  let v71 : Index := Scalar.indexCast v32
  let c0_26 : Index := 0#32
  ![v71.toNat, 0]
def k0_off4 (c0_i32_13 : BitVec 32) : Fin 2 → Nat :=
  let c64_i32 : BitVec 32 := 64#32
  let v31 : BitVec 32 := Scalar.muli c0_i32_13 c64_i32
  let v32 : BitVec 32 := v31
  let v89 : Index := Scalar.indexCast v32
  let c256 : Index := 256#32
  ![v89.toNat, 256]
def k0_off5 (c0_i32_13 : BitVec 32) : Fin 2 → Nat :=
  let c64_i32 : BitVec 32 := 64#32
  let v31 : BitVec 32 := Scalar.muli c0_i32_13 c64_i32
  let v32 : BitVec 32 := v31
  let v107 : Index := Scalar.indexCast v32
  let c512 : Index := 512#32
  ![v107.toNat, 512]
def k0_off6 (c0_i32_13 : BitVec 32) : Fin 2 → Nat :=
  let c64_i32 : BitVec 32 := 64#32
  let v31 : BitVec 32 := Scalar.muli c0_i32_13 c64_i32
  let v32 : BitVec 32 := v31
  let v125 : Index := Scalar.indexCast v32
  let c768 : Index := 768#32
  ![v125.toNat, 768]
def k0_mult2 : BitVec 32 :=
  let c1_i32 : BitVec 32 := 1#32
  let c64_i32_47 : BitVec 32 := 64#32
  let v135 : BitVec 32 := Scalar.muli c1_i32 c64_i32_47
  v135
def k0_mult3 : BitVec 32 :=
  let c2_i32 : BitVec 32 := 2#32
  let c64_i32_86 : BitVec 32 := 64#32
  let v239 : BitVec 32 := Scalar.muli c2_i32 c64_i32_86
  v239
def k0_mult4 : BitVec 32 :=
  let c3_i32 : BitVec 32 := 3#32
  let c64_i32_125 : BitVec 32 := 64#32
  let v343 : BitVec 32 := Scalar.muli c3_i32 c64_i32_125
  v343
def k0_mult5 : BitVec 32 :=
  let c4_i32 : BitVec 32 := 4#32
  let c64_i32_164 : BitVec 32 := 64#32
  let v447 : BitVec 32 := Scalar.muli c4_i32 c64_i32_164
  v447
def k0_mult6 : BitVec 32 :=
  let c5_i32 : BitVec 32 := 5#32
  let c64_i32_203 : BitVec 32 := 64#32
  let v551 : BitVec 32 := Scalar.muli c5_i32 c64_i32_203
  v551
def k0_mult7 : BitVec 32 :=
  let c6_i32 : BitVec 32 := 6#32
  let c64_i32_242 : BitVec 32 := 64#32
  let v655 : BitVec 32 := Scalar.muli c6_i32 c64_i32_242
  v655
def k0_mult8 : BitVec 32 :=
  let c7_i32 : BitVec 32 := 7#32
  let c64_i32_281 : BitVec 32 := 64#32
  let v759 : BitVec 32 := Scalar.muli c7_i32 c64_i32_281
  v759
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlaFwdRefIdeal.lean ====
abbrev S4096x8208 : Shape := ⟨2, ![4096, 8208]⟩
abbrev S16x512 : Shape := ⟨2, ![16, 512]⟩
abbrev S512 : Shape := ⟨1, ![512]⟩
abbrev S256 : Shape := ⟨1, ![256]⟩
abbrev S4096x512 : Shape := ⟨2, ![4096, 512]⟩
abbrev S4096x1024 : Shape := ⟨2, ![4096, 1024]⟩
abbrev S4096x16 : Shape := ⟨2, ![4096, 16]⟩
abbrev S1x512 : Shape := ⟨2, ![1, 512]⟩
abbrev S_ : Shape := ⟨0, ![]⟩
abbrev S64x64x4x128 : Shape := ⟨4, ![64, 64, 4, 128]⟩
abbrev S64x4x64x128 : Shape := ⟨4, ![64, 4, 64, 128]⟩
abbrev S64x64x4x256 : Shape := ⟨4, ![64, 64, 4, 256]⟩
abbrev S64x4x64x256 : Shape := ⟨4, ![64, 4, 64, 256]⟩
abbrev S64x4x1x128 : Shape := ⟨4, ![64, 4, 1, 128]⟩
abbrev S64x4x128 : Shape := ⟨3, ![64, 4, 128]⟩
abbrev S4x128x256 : Shape := ⟨3, ![4, 128, 256]⟩
abbrev S64x4x128x256 : Shape := ⟨4, ![64, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x128 : Shape := ⟨3, ![1, 4, 128]⟩
abbrev S4x128 : Shape := ⟨2, ![4, 128]⟩
abbrev S4x128x1 : Shape := ⟨3, ![4, 128, 1]⟩
abbrev S1x4x128x256 : Shape := ⟨4, ![1, 4, 128, 256]⟩
abbrev S4096x4x256 : Shape := ⟨3, ![4096, 4, 256]⟩
abbrev S4096x4 : Shape := ⟨2, ![4096, 4]⟩
abbrev S4096x4x1 : Shape := ⟨3, ![4096, 4, 1]⟩
abbrev S1x1x256 : Shape := ⟨3, ![1, 1, 256]⟩
abbrev S64x256x4x128 : Shape := ⟨4, ![64, 256, 4, 128]⟩
abbrev S64x256x512 : Shape := ⟨3, ![64, 256, 512]⟩

abbrev nBuf : Space → Nat
  | .hbm => 140
  | .vmem => 0
  | .smem => 0
  | _ => 0

abbrev hbmTy0_0 (i : Nat) : BufTy := match i % 128 with
  | 0 => ⟨S4096x8208, .f32⟩
  | 1 => ⟨S16x512, .f32⟩
  | 2 => ⟨S512, .f32⟩
  | 3 => ⟨S256, .f32⟩
  | 4 => ⟨S4096x512, .f32⟩
  | 5 => ⟨S4096x512, .f32⟩
  | 6 => ⟨S4096x1024, .f32⟩
  | 7 => ⟨S4096x16, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S4096x512, .f32⟩
  | 18 => ⟨S4096x512, .i1⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S64x64x4x128, .f32⟩
  | 35 => ⟨S64x4x64x128, .f32⟩
  | 36 => ⟨S64x64x4x128, .f32⟩
  | 37 => ⟨S64x4x64x128, .f32⟩
  | 38 => ⟨S64x64x4x256, .f32⟩
  | 39 => ⟨S64x4x64x256, .f32⟩
  | 40 => ⟨S64x64x4x128, .f32⟩
  | 41 => ⟨S64x4x64x128, .f32⟩
  | 42 => ⟨S_, .f32⟩
  | 43 => ⟨S_, .f32⟩
  | 44 => ⟨S64x4x64x128, .f32⟩
  | 45 => ⟨S64x4x1x128, .f32⟩
  | 46 => ⟨S64x4x64x128, .f32⟩
  | 47 => ⟨S64x4x64x128, .f32⟩
  | 48 => ⟨S64x4x64x128, .f32⟩
  | 49 => ⟨S64x4x64x128, .f32⟩
  | 50 => ⟨S64x4x128, .f32⟩
  | 51 => ⟨S64x4x128, .f32⟩
  | 52 => ⟨S_, .f32⟩
  | 53 => ⟨S4x128x256, .f32⟩
  | 54 => ⟨S_, .f32⟩
  | 55 => ⟨S64x4x64x256, .f32⟩
  | 56 => ⟨S_, .f32⟩
  | 57 => ⟨S64x4x128x256, .f32⟩
  | 58 => ⟨S_, .i32⟩
  | 59 => ⟨S64x4x64x128, .f32⟩
  | 60 => ⟨S64x4x64x128, .f32⟩
  | 61 => ⟨S64x4x64x256, .f32⟩
  | 62 => ⟨S64x4x128, .f32⟩
  | 63 => ⟨S_, .i32⟩
  | 64 => ⟨S4x128x256, .f32⟩
  | 65 => ⟨S64x4x64x256, .f32⟩
  | 66 => ⟨S64x4x128x256, .f32⟩
  | 67 => ⟨S_, .i32⟩
  | 68 => ⟨S_, .i1⟩
  | 69 => ⟨S_, .i32⟩
  | 70 => ⟨S_, .i32⟩
  | 71 => ⟨S_, .i32⟩
  | 72 => ⟨S1x4x64x128, .f32⟩
  | 73 => ⟨S4x64x128, .f32⟩
  | 74 => ⟨S_, .i32⟩
  | 75 => ⟨S_, .i32⟩
  | 76 => ⟨S_, .i32⟩
  | 77 => ⟨S1x4x64x128, .f32⟩
  | 78 => ⟨S4x64x128, .f32⟩
  | 79 => ⟨S_, .i32⟩
  | 80 => ⟨S_, .i32⟩
  | 81 => ⟨S_, .i32⟩
  | 82 => ⟨S1x4x64x256, .f32⟩
  | 83 => ⟨S4x64x256, .f32⟩
  | 84 => ⟨S_, .i32⟩
  | 85 => ⟨S_, .i32⟩
  | 86 => ⟨S1x4x128, .f32⟩
  | 87 => ⟨S4x128, .f32⟩
  | 88 => ⟨S4x128x1, .f32⟩
  | 89 => ⟨S4x128x256, .f32⟩
  | 90 => ⟨S4x128x256, .f32⟩
  | 91 => ⟨S4x128x256, .f32⟩
  | 92 => ⟨S4x128x256, .f32⟩
  | 93 => ⟨S4x64x256, .f32⟩
  | 94 => ⟨S1x4x64x256, .f32⟩
  | 95 => ⟨S_, .i32⟩
  | 96 => ⟨S_, .i32⟩
  | 97 => ⟨S_, .i32⟩
  | 98 => ⟨S64x4x64x256, .f32⟩
  | 99 => ⟨S1x4x128x256, .f32⟩
  | 100 => ⟨S_, .i32⟩
  | 101 => ⟨S_, .i32⟩
  | 102 => ⟨S_, .i32⟩
  | 103 => ⟨S64x4x128x256, .f32⟩
  | 104 => ⟨S_, .i32⟩
  | 105 => ⟨S_, .i32⟩
  | 106 => ⟨S64x64x4x256, .f32⟩
  | 107 => ⟨S4096x4x256, .f32⟩
  | 108 => ⟨S4096x4x256, .f32⟩
  | 109 => ⟨S_, .f32⟩
  | 110 => ⟨S4096x4, .f32⟩
  | 111 => ⟨S4096x4x1, .f32⟩
  | 112 => ⟨S_, .f32⟩
  | 113 => ⟨S4096x4x1, .f32⟩
  | 114 => ⟨S4096x4x1, .f32⟩
  | 115 => ⟨S_, .f32⟩
  | 116 => ⟨S4096x4x1, .f32⟩
  | 117 => ⟨S4096x4x1, .f32⟩
  | 118 => ⟨S4096x4x1, .f32⟩
  | 119 => ⟨S4096x4x256, .f32⟩
  | 120 => ⟨S4096x4x256, .f32⟩
  | 121 => ⟨S1x1x256, .f32⟩
  | 122 => ⟨S4096x4x256, .f32⟩
  | 123 => ⟨S4096x4x256, .f32⟩
  | 124 => ⟨S4096x1024, .f32⟩
  | 125 => ⟨S4096x1024, .f32⟩
  | 126 => ⟨S4096x1024, .f32⟩
  | 127 => ⟨S4096x1024, .f32⟩
  | _ => ⟨S4096x8208, .f32⟩

abbrev hbmTy0_1 (i : Nat) : BufTy := match i % 128 with
  | 0 => ⟨S_, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S4096x1024, .f32⟩
  | 7 => ⟨S4096x1024, .f32⟩
  | 8 => ⟨S4096x1024, .bf16⟩
  | 9 => ⟨S64x256x4x128, .f32⟩
  | 10 => ⟨S64x256x512, .f32⟩
  | 11 => ⟨S64x256x512, .bf16⟩
  | _ => ⟨S4096x8208, .f32⟩

abbrev hbmTy (i : Nat) : BufTy := match i / 128 with
  | 0 => hbmTy0_0 i
  | 1 => hbmTy0_1 i
  | _ => ⟨S4096x8208, .f32⟩

abbrev bufTy : (tb : Table) → Fin (tcTables nBuf tb) → BufTy
  | .hbm, ⟨i, _⟩ => hbmTy i
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_call0_cst : Ref sig .tc := ⟨.hbm, 42, rfl⟩
abbrev main_call0_call0_v0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_c : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev main_v46_4 : Ref sig .tc := ⟨.hbm, 63, rfl⟩
abbrev main_v46_5 : Ref sig .tc := ⟨.hbm, 64, rfl⟩
abbrev main_v46_6 : Ref sig .tc := ⟨.hbm, 65, rfl⟩
abbrev main_v46_7 : Ref sig .tc := ⟨.hbm, 66, rfl⟩
abbrev main_while0c_c_15 : Ref sig .tc := ⟨.hbm, 67, rfl⟩
abbrev main_while0c_v70 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_v0 : Ref sig .tc := ⟨.hbm, 72, rfl⟩
abbrev main_while0b_v70 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_v0 : Ref sig .tc := ⟨.hbm, 77, rfl⟩
abbrev main_while0b_v71 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_v0 : Ref sig .tc := ⟨.hbm, 82, rfl⟩
abbrev main_while0b_v72 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_v0 : Ref sig .tc := ⟨.hbm, 86, rfl⟩
abbrev main_while0b_v73 : Ref sig .tc := ⟨.hbm, 87, rfl⟩
abbrev main_while0b_v74 : Ref sig .tc := ⟨.hbm, 88, rfl⟩
abbrev main_while0b_v75 : Ref sig .tc := ⟨.hbm, 89, rfl⟩
abbrev main_while0b_v76 : Ref sig .tc := ⟨.hbm, 90, rfl⟩
abbrev main_while0b_v77 : Ref sig .tc := ⟨.hbm, 91, rfl⟩
abbrev main_while0b_v78 : Ref sig .tc := ⟨.hbm, 92, rfl⟩
abbrev main_while0b_v79 : Ref sig .tc := ⟨.hbm, 93, rfl⟩
abbrev main_while0b_call5_v0 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_v80 : Ref sig .tc := ⟨.hbm, 98, rfl⟩
abbrev main_while0b_call6_v0 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_v81 : Ref sig .tc := ⟨.hbm, 103, rfl⟩
abbrev main_while0b_c_15 : Ref sig .tc := ⟨.hbm, 104, rfl⟩
abbrev main_while0b_v82 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_5 : Ref sig .tc := ⟨.hbm, 109, rfl⟩
abbrev main_v50 : Ref sig .tc := ⟨.hbm, 110, rfl⟩
abbrev main_v51 : Ref sig .tc := ⟨.hbm, 111, rfl⟩
abbrev main_cst_6 : Ref sig .tc := ⟨.hbm, 112, rfl⟩
abbrev main_v52 : Ref sig .tc := ⟨.hbm, 113, rfl⟩
abbrev main_v53 : Ref sig .tc := ⟨.hbm, 114, rfl⟩
abbrev main_cst_7 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_call7_v0 : Ref sig .tc := ⟨.hbm, 126, rfl⟩
abbrev main_call7_v1 : Ref sig .tc := ⟨.hbm, 127, rfl⟩
abbrev main_call7_cst : Ref sig .tc := ⟨.hbm, 128, rfl⟩
abbrev main_call7_v2 : Ref sig .tc := ⟨.hbm, 129, rfl⟩
abbrev main_call7_v3 : Ref sig .tc := ⟨.hbm, 130, rfl⟩
abbrev main_call7_cst_0 : Ref sig .tc := ⟨.hbm, 131, rfl⟩
abbrev main_call7_v4 : Ref sig .tc := ⟨.hbm, 132, rfl⟩
abbrev main_call7_v5 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩

abbrev nD : Nat := 1
abbrev τ : Topo := Topo.v7x

variable {F : FTy → Type} [FloatOps F]

abbrev main_while0_count : Scf.Loop 32 := ⟨0#32, 64#32, 1#32⟩
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S4096x8208 : Shape := ⟨2, ![4096, 8208]⟩
abbrev S3x1024 : Shape := ⟨2, ![3, 1024]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S4096x3072 : Shape := ⟨2, ![4096, 3072]⟩
abbrev S4096x5120 : Shape := ⟨2, ![4096, 5120]⟩
abbrev S4096x16 : Shape := ⟨2, ![4096, 16]⟩
abbrev S4096x112 : Shape := ⟨2, ![4096, 112]⟩
abbrev S4096x8320 : Shape := ⟨2, ![4096, 8320]⟩
abbrev S4096x1024 : Shape := ⟨2, ![4096, 1024]⟩
abbrev S512x1024 : Shape := ⟨2, ![512, 1024]⟩
abbrev S16x1024 : Shape := ⟨2, ![16, 1024]⟩
abbrev S528x1024 : Shape := ⟨2, ![528, 1024]⟩

abbrev nBuf : Space → Nat
  | .hbm => 19
  | .vmem => 13
  | .smem => 0
  | _ => 0

abbrev bufTy : (tb : Table) → Fin (tcTables nBuf tb) → BufTy
  | .hbm, ⟨0, _⟩ => ⟨S4096x8208, .f32⟩
  | .hbm, ⟨1, _⟩ => ⟨S3x1024, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S4096x3072, .f32⟩
  | .hbm, ⟨12, _⟩ => ⟨S4096x5120, .f32⟩
  | .hbm, ⟨13, _⟩ => ⟨S4096x16, .f32⟩
  | .hbm, ⟨14, _⟩ => ⟨S_, .f32⟩
  | .hbm, ⟨15, _⟩ => ⟨S4096x112, .f32⟩
  | .hbm, ⟨16, _⟩ => ⟨S4096x8320, .f32⟩
  | .hbm, ⟨17, _⟩ => ⟨S4096x8320, .bf16⟩
  | .hbm, ⟨18, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4096x8208 : Shape := ⟨2, ![4096, 8208]⟩
abbrev S3x1024 : Shape := ⟨2, ![3, 1024]⟩
abbrev S1024 : Shape := ⟨1, ![1024]⟩
abbrev S4096x1024 : Shape := ⟨2, ![4096, 1024]⟩
abbrev S1x1024 : Shape := ⟨2, ![1, 1024]⟩
abbrev S_ : Shape := ⟨0, ![]⟩
abbrev S2x1024 : Shape := ⟨2, ![2, 1024]⟩
abbrev S4094x1024 : Shape := ⟨2, ![4094, 1024]⟩
abbrev S4095x1024 : Shape := ⟨2, ![4095, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x8208, .f32⟩
  | .hbm, ⟨1, _⟩ => ⟨S3x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S2x1024, .f32⟩
  | .hbm, ⟨11, _⟩ => ⟨S4094x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S1x1024, .f32⟩
  | .hbm, ⟨20, _⟩ => ⟨S4095x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== MixFwd.lean ====
abbrev S4096x1024 : Shape := ⟨2, ![4096, 1024]⟩
abbrev S4096x8208 : Shape := ⟨2, ![4096, 8208]⟩
abbrev S1024x1024 : Shape := ⟨2, ![1024, 1024]⟩
abbrev S4096x3072 : Shape := ⟨2, ![4096, 3072]⟩
abbrev S4096x5120 : Shape := ⟨2, ![4096, 5120]⟩
abbrev S4096x16 : Shape := ⟨2, ![4096, 16]⟩
abbrev S_ : Shape := ⟨0, ![]⟩
abbrev S4096x112 : Shape := ⟨2, ![4096, 112]⟩
abbrev S4096x8320 : Shape := ⟨2, ![4096, 8320]⟩
abbrev S512x1024 : Shape := ⟨2, ![512, 1024]⟩

abbrev nBuf : Space → Nat
  | .hbm => 23
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8208, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .bf16⟩
  | .hbm, ⟨8, _⟩ => ⟨S4096x1024, .bf16⟩
  | .hbm, ⟨9, _⟩ => ⟨S4096x3072, .f32⟩
  | .hbm, ⟨10, _⟩ => ⟨S4096x5120, .f32⟩
  | .hbm, ⟨11, _⟩ => ⟨S4096x16, .f32⟩
  | .hbm, ⟨12, _⟩ => ⟨S_, .f32⟩
  | .hbm, ⟨13, _⟩ => ⟨S4096x112, .f32⟩
  | .hbm, ⟨14, _⟩ => ⟨S4096x8320, .f32⟩
  | .hbm, ⟨15, _⟩ => ⟨S4096x8320, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixFwdRefIdeal.lean ====
abbrev S4096x1024 : Shape := ⟨2, ![4096, 1024]⟩
abbrev S4096x8208 : Shape := ⟨2, ![4096, 8208]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8208, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S1x1024, .f32⟩
  | .hbm, ⟨9, _⟩ => ⟨S4096x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .bf16⟩
  | .hbm, ⟨33, _⟩ => ⟨S4096x2816, .bf16⟩
  | .hbm, ⟨34, _⟩ => ⟨S4096x2816, .bf16⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== GlaBwd.lean ====
abbrev S4096x8208 : Shape := ⟨2, ![4096, 8208]⟩
abbrev S4096x1024 : Shape := ⟨2, ![4096, 1024]⟩
abbrev S16x512 : Shape := ⟨2, ![16, 512]⟩
abbrev S512 : Shape := ⟨1, ![512]⟩
abbrev S256 : Shape := ⟨1, ![256]⟩
abbrev S4096x8320 : Shape := ⟨2, ![4096, 8320]⟩
abbrev S4096x3072 : Shape := ⟨2, ![4096, 3072]⟩
abbrev S4096x5120 : Shape := ⟨2, ![4096, 5120]⟩
abbrev S4096x16 : Shape := ⟨2, ![4096, 16]⟩
abbrev S_ : Shape := ⟨0, ![]⟩
abbrev S4096x112 : Shape := ⟨2, ![4096, 112]⟩
abbrev S128x512 : Shape := ⟨2, ![128, 512]⟩
abbrev S1x512 : Shape := ⟨2, ![1, 512]⟩
abbrev S1x256 : Shape := ⟨2, ![1, 256]⟩
abbrev S4096x512 : Shape := ⟨2, ![4096, 512]⟩
abbrev S64x64x4x128 : Shape := ⟨4, ![64, 64, 4, 128]⟩
abbrev S64x4x64x128 : Shape := ⟨4, ![64, 4, 64, 128]⟩
abbrev S64x64x4x256 : Shape := ⟨4, ![64, 64, 4, 256]⟩
abbrev S64x4x64x256 : Shape := ⟨4, ![64, 4, 64, 256]⟩
abbrev S64x4x1x128 : Shape := ⟨4, ![64, 4, 1, 128]⟩
abbrev S64x4x128 : Shape := ⟨3, ![64, 4, 128]⟩
abbrev S64x4x128x256 : Shape := ⟨4, ![64, 4, 128, 256]⟩
abbrev S64x4x128x1 : Shape := ⟨4, ![64, 4, 128, 1]⟩
abbrev S1x4x128x256 : Shape := ⟨4, ![1, 4, 128, 256]⟩
abbrev S16x4x128x256 : Shape := ⟨4, ![16, 4, 128, 256]⟩
abbrev S64x256x4x128 : Shape := ⟨4, ![64, 256, 4, 128]⟩
abbrev S64x256x512 : Shape := ⟨3, ![64, 256, 512]⟩
abbrev S4096x128 : Shape := ⟨2, ![4096, 128]⟩
abbrev S512x512 : Shape := ⟨2, ![512, 512]⟩
abbrev S512x1024 : Shape := ⟨2, ![512, 1024]⟩
abbrev S512x128 : Shape := ⟨2, ![512, 128]⟩
abbrev S8x256x512 : Shape := ⟨3, ![8, 256, 512]⟩
abbrev S1x256x512 : Shape := ⟨3, ![1, 256, 512]⟩
abbrev S512x3072 : Shape := ⟨2, ![512, 3072]⟩
abbrev S256x512 : Shape := ⟨2, ![256, 512]⟩
abbrev S64x512 : Shape := ⟨2, ![64, 512]⟩
abbrev S64x128 : Shape := ⟨2, ![64, 128]⟩
abbrev S256x128 : Shape := ⟨2, ![256, 128]⟩
abbrev S64x256 : Shape := ⟨2, ![64, 256]⟩
abbrev S512x256 : Shape := ⟨2, ![512, 256]⟩
abbrev S512x1 : Shape := ⟨2, ![512, 1]⟩
abbrev S64x64 : Shape := ⟨2, ![64, 64]⟩
abbrev S64x1024 : Shape := ⟨2, ![64, 1024]⟩
abbrev S128 : Shape := ⟨1, ![128]⟩
abbrev S1x128 : Shape := ⟨2, ![1, 128]⟩

abbrev nBuf : Space → Nat
  | .hbm => 337
  | .vmem => 32
  | .smem => 0
  | _ => 0

abbrev hbmTy0_0 (i : Nat) : BufTy := match i % 128 with
  | 0 => ⟨S4096x8208, .f32⟩
  | 1 => ⟨S4096x1024, .f32⟩
  | 2 => ⟨S16x512, .f32⟩
  | 3 => ⟨S512, .f32⟩
  | 4 => ⟨S256, .f32⟩
  | 5 => ⟨S4096x8320, .f32⟩
  | 6 => ⟨S4096x3072, .f32⟩
  | 7 => ⟨S4096x5120, .f32⟩
  | 8 => ⟨S4096x16, .f32⟩
  | 9 => ⟨S_, .f32⟩
  | 10 => ⟨S4096x112, .f32⟩
  | 11 => ⟨S4096x8320, .f32⟩
  | 12 => ⟨S4096x8320, .bf16⟩
  | 13 => ⟨S_, .i32⟩
  | 14 => ⟨S_, .f32⟩
  | 15 => ⟨S128x512, .f32⟩
  | 16 => ⟨S128x512, .bf16⟩
  | 17 => ⟨S1x512, .f32⟩
  | 18 => ⟨S1x256, .f32⟩
  | 19 => ⟨S4096x512, .f32⟩
  | 20 => ⟨S4096x1024, .f32⟩
  | 21 => ⟨S4096x16, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S4096x512, .f32⟩
  | 32 => ⟨S4096x512, .i1⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S64x64x4x128, .f32⟩
  | 46 => ⟨S64x4x64x128, .f32⟩
  | 47 => ⟨S64x64x4x256, .f32⟩
  | 48 => ⟨S64x4x64x256, .f32⟩
  | 49 => ⟨S64x64x4x128, .f32⟩
  | 50 => ⟨S64x4x64x128, .f32⟩
  | 51 => ⟨S_, .f32⟩
  | 52 => ⟨S_, .f32⟩
  | 53 => ⟨S64x4x64x128, .f32⟩
  | 54 => ⟨S64x4x1x128, .f32⟩
  | 55 => ⟨S64x4x64x128, .f32⟩
  | 56 => ⟨S64x4x64x128, .f32⟩
  | 57 => ⟨S64x4x64x128, .f32⟩
  | 58 => ⟨S64x4x64x128, .f32⟩
  | 59 => ⟨S64x4x128, .f32⟩
  | 60 => ⟨S64x4x128, .f32⟩
  | 61 => ⟨S64x4x128x256, .f32⟩
  | 62 => ⟨S64x4x128x1, .f32⟩
  | 63 => ⟨S64x4x128x256, .f32⟩
  | 64 => ⟨S_, .f32⟩
  | 65 => ⟨S1x4x128x256, .f32⟩
  | 66 => ⟨S1x4x128x256, .f32⟩
  | 67 => ⟨S1x4x128x256, .f32⟩
  | 68 => ⟨S1x4x128x256, .f32⟩
  | 69 => ⟨S1x4x128x256, .f32⟩
  | 70 => ⟨S1x4x128x256, .f32⟩
  | 71 => ⟨S1x4x128x256, .f32⟩
  | 72 => ⟨S1x4x128x256, .f32⟩
  | 73 => ⟨S1x4x128x256, .f32⟩
  | 74 => ⟨S1x4x128x256, .f32⟩
  | 75 => ⟨S1x4x128x256, .f32⟩
  | 76 => ⟨S1x4x128x256, .f32⟩
  | 77 => ⟨S1x4x128x256, .f32⟩
  | 78 => ⟨S1x4x128x256, .f32⟩
  | 79 => ⟨S1x4x128x256, .f32⟩
  | 80 => ⟨S1x4x128x256, .f32⟩
  | 81 => ⟨S1x4x128x256, .f32⟩
  | 82 => ⟨S1x4x128x256, .f32⟩
  | 83 => ⟨S1x4x128x256, .f32⟩
  | 84 => ⟨S1x4x128x256, .f32⟩
  | 85 => ⟨S1x4x128x256, .f32⟩
  | 86 => ⟨S1x4x128x256, .f32⟩
  | 87 => ⟨S1x4x128x256, .f32⟩
  | 88 => ⟨S1x4x128x256, .f32⟩
  | 89 => ⟨S1x4x128x256, .f32⟩
  | 90 => ⟨S1x4x128x256, .f32⟩
  | 91 => ⟨S1x4x128x256, .f32⟩
  | 92 => ⟨S1x4x128x256, .f32⟩
  | 93 => ⟨S1x4x128x256, .f32⟩
  | 94 => ⟨S1x4x128x256, .f32⟩
  | 95 => ⟨S1x4x128x256, .f32⟩
  | 96 => ⟨S1x4x128x256, .f32⟩
  | 97 => ⟨S1x4x128x256, .f32⟩
  | 98 => ⟨S1x4x128x256, .f32⟩
  | 99 => ⟨S1x4x128x256, .f32⟩
  | 100 => ⟨S1x4x128x256, .f32⟩
  | 101 => ⟨S1x4x128x256, .f32⟩
  | 102 => ⟨S1x4x128x256, .f32⟩
  | 103 => ⟨S1x4x128x256, .f32⟩
  | 104 => ⟨S1x4x128x256, .f32⟩
  | 105 => ⟨S1x4x128x256, .f32⟩
  | 106 => ⟨S1x4x128x256, .f32⟩
  | 107 => ⟨S1x4x128x256, .f32⟩
  | 108 => ⟨S1x4x128x256, .f32⟩
  | 109 => ⟨S1x4x128x256, .f32⟩
  | 110 => ⟨S1x4x128x256, .f32⟩
  | 111 => ⟨S1x4x128x256, .f32⟩
  | 112 => ⟨S1x4x128x256, .f32⟩
  | 113 => ⟨S1x4x128x256, .f32⟩
  | 114 => ⟨S1x4x128x256, .f32⟩
  | 115 => ⟨S1x4x128x256, .f32⟩
  | 116 => ⟨S1x4x128x256, .f32⟩
  | 117 => ⟨S1x4x128x256, .f32⟩
  | 118 => ⟨S1x4x128x256, .f32⟩
  | 119 => ⟨S1x4x128x256, .f32⟩
  | 120 => ⟨S1x4x128x256, .f32⟩
  | 121 => ⟨S1x4x128x256, .f32⟩
  | 122 => ⟨S1x4x128x256, .f32⟩
  | 123 => ⟨S1x4x128x256, .f32⟩
  | 124 => ⟨S1x4x128x256, .f32⟩
  | 125 => ⟨S1x4x128x256, .f32⟩
  | 126 => ⟨S1x4x128x256, .f32⟩
  | 127 => ⟨S1x4x128x256, .f32⟩
  | _ => ⟨S4096x8208, .f32⟩

abbrev hbmTy0_1 (i : Nat) : BufTy := match i % 128 with
  | 0 => ⟨S1x4x128x256, .f32⟩
  | 1 => ⟨S1x4x128x256, .f32⟩
  | 2 => ⟨S1x4x128x256, .f32⟩
  | 3 => ⟨S1x4x128x256, .f32⟩
  | 4 => ⟨S1x4x128x256, .f32⟩
  | 5 => ⟨S1x4x128x256, .f32⟩
  | 6 => ⟨S1x4x128x256, .f32⟩
  | 7 => ⟨S1x4x128x256, .f32⟩
  | 8 => ⟨S1x4x128x256, .f32⟩
  | 9 => ⟨S1x4x128x256, .f32⟩
  | 10 => ⟨S1x4x128x256, .f32⟩
  | 11 => ⟨S1x4x128x256, .f32⟩
  | 12 => ⟨S1x4x128x256, .f32⟩
  | 13 => ⟨S1x4x128x256, .f32⟩
  | 14 => ⟨S1x4x128x256, .f32⟩
  | 15 => ⟨S1x4x128x256, .f32⟩
  | 16 => ⟨S1x4x128x256, .f32⟩
  | 17 => ⟨S1x4x128x256, .f32⟩
  | 18 => ⟨S1x4x128x256, .f32⟩
  | 19 => ⟨S1x4x128x256, .f32⟩
  | 20 => ⟨S1x4x128x256, .f32⟩
  | 21 => ⟨S1x4x128x256, .f32⟩
  | 22 => ⟨S1x4x128x256, .f32⟩
  | 23 => ⟨S1x4x128x256, .f32⟩
  | 24 => ⟨S1x4x128x256, .f32⟩
  | 25 => ⟨S1x4x128x256, .f32⟩
  | 26 => ⟨S1x4x128x256, .f32⟩
  | 27 => ⟨S1x4x128x256, .f32⟩
  | 28 => ⟨S1x4x128x256, .f32⟩
  | 29 => ⟨S1x4x128x256, .f32⟩
  | 30 => ⟨S1x4x128x256, .f32⟩
  | 31 => ⟨S1x4x128x256, .f32⟩
  | 32 => ⟨S1x4x128x256, .f32⟩
  | 33 => ⟨S1x4x128x256, .f32⟩
  | 34 => ⟨S1x4x128x256, .f32⟩
  | 35 => ⟨S1x4x128x256, .f32⟩
  | 36 => ⟨S1x4x128x256, .f32⟩
  | 37 => ⟨S1x4x128x256, .f32⟩
  | 38 => ⟨S1x4x128x256, .f32⟩
  | 39 => ⟨S1x4x128x256, .f32⟩
  | 40 => ⟨S1x4x128x256, .f32⟩
  | 41 => ⟨S1x4x128x256, .f32⟩
  | 42 => ⟨S1x4x128x256, .f32⟩
  | 43 => ⟨S1x4x128x256, .f32⟩
  | 44 => ⟨S1x4x128x256, .f32⟩
  | 45 => ⟨S1x4x128x256, .f32⟩
  | 46 => ⟨S1x4x128x256, .f32⟩
  | 47 => ⟨S1x4x128x256, .f32⟩
  | 48 => ⟨S1x4x128x256, .f32⟩
  | 49 => ⟨S1x4x128x256, .f32⟩
  | 50 => ⟨S1x4x128x256, .f32⟩
  | 51 => ⟨S1x4x128x256, .f32⟩
  | 52 => ⟨S1x4x128x256, .f32⟩
  | 53 => ⟨S1x4x128x256, .f32⟩
  | 54 => ⟨S1x4x128x256, .f32⟩
  | 55 => ⟨S1x4x128x256, .f32⟩
  | 56 => ⟨S1x4x128x256, .f32⟩
  | 57 => ⟨S1x4x128x256, .f32⟩
  | 58 => ⟨S1x4x128x256, .f32⟩
  | 59 => ⟨S1x4x128x256, .f32⟩
  | 60 => ⟨S1x4x128x256, .f32⟩
  | 61 => ⟨S1x4x128x256, .f32⟩
  | 62 => ⟨S1x4x128x256, .f32⟩
  | 63 => ⟨S1x4x128x256, .f32⟩
  | 64 => ⟨S1x4x128x256, .f32⟩
  | 65 => ⟨S1x4x128x256, .f32⟩
  | 66 => ⟨S1x4x128x256, .f32⟩
  | 67 => ⟨S1x4x128x256, .f32⟩
  | 68 => ⟨S1x4x128x256, .f32⟩
  | 69 => ⟨S1x4x128x256, .f32⟩
  | 70 => ⟨S1x4x128x256, .f32⟩
  | 71 => ⟨S1x4x128x256, .f32⟩
  | 72 => ⟨S1x4x128x256, .f32⟩
  | 73 => ⟨S1x4x128x256, .f32⟩
  | 74 => ⟨S1x4x128x256, .f32⟩
  | 75 => ⟨S1x4x128x256, .f32⟩
  | 76 => ⟨S1x4x128x256, .f32⟩
  | 77 => ⟨S1x4x128x256, .f32⟩
  | 78 => ⟨S1x4x128x256, .f32⟩
  | 79 => ⟨S1x4x128x256, .f32⟩
  | 80 => ⟨S1x4x128x256, .f32⟩
  | 81 => ⟨S1x4x128x256, .f32⟩
  | 82 => ⟨S1x4x128x256, .f32⟩
  | 83 => ⟨S1x4x128x256, .f32⟩
  | 84 => ⟨S1x4x128x256, .f32⟩
  | 85 => ⟨S1x4x128x256, .f32⟩
  | 86 => ⟨S1x4x128x256, .f32⟩
  | 87 => ⟨S1x4x128x256, .f32⟩
  | 88 => ⟨S1x4x128x256, .f32⟩
  | 89 => ⟨S1x4x128x256, .f32⟩
  | 90 => ⟨S1x4x128x256, .f32⟩
  | 91 => ⟨S1x4x128x256, .f32⟩
  | 92 => ⟨S1x4x128x256, .f32⟩
  | 93 => ⟨S1x4x128x256, .f32⟩
  | 94 => ⟨S1x4x128x256, .f32⟩
  | 95 => ⟨S1x4x128x256, .f32⟩
  | 96 => ⟨S1x4x128x256, .f32⟩
  | 97 => ⟨S1x4x128x256, .f32⟩
  | 98 => ⟨S1x4x128x256, .f32⟩
  | 99 => ⟨S1x4x128x256, .f32⟩
  | 100 => ⟨S1x4x128x256, .f32⟩
  | 101 => ⟨S1x4x128x256, .f32⟩
  | 102 => ⟨S1x4x128x256, .f32⟩
  | 103 => ⟨S1x4x128x256, .f32⟩
  | 104 => ⟨S1x4x128x256, .f32⟩
  | 105 => ⟨S1x4x128x256, .f32⟩
  | 106 => ⟨S1x4x128x256, .f32⟩
  | 107 => ⟨S1x4x128x256, .f32⟩
  | 108 => ⟨S1x4x128x256, .f32⟩
  | 109 => ⟨S1x4x128x256, .f32⟩
  | 110 => ⟨S1x4x128x256, .f32⟩
  | 111 => ⟨S1x4x128x256, .f32⟩
  | 112 => ⟨S1x4x128x256, .f32⟩
  | 113 => ⟨S1x4x128x256, .f32⟩
  | 114 => ⟨S1x4x128x256, .f32⟩
  | 115 => ⟨S1x4x128x256, .f32⟩
  | 116 => ⟨S1x4x128x256, .f32⟩
  | 117 => ⟨S1x4x128x256, .f32⟩
  | 118 => ⟨S1x4x128x256, .f32⟩
  | 119 => ⟨S1x4x128x256, .f32⟩
  | 120 => ⟨S1x4x128x256, .f32⟩
  | 121 => ⟨S1x4x128x256, .f32⟩
  | 122 => ⟨S1x4x128x256, .f32⟩
  | 123 => ⟨S1x4x128x256, .f32⟩
  | 124 => ⟨S1x4x128x256, .f32⟩
  | 125 => ⟨S1x4x128x256, .f32⟩
  | 126 => ⟨S1x4x128x256, .f32⟩
  | 127 => ⟨S1x4x128x256, .f32⟩
  | _ => ⟨S4096x8208, .f32⟩

abbrev hbmTy0_2 (i : Nat) : BufTy := match i % 128 with
  | 0 => ⟨S1x4x128x256, .f32⟩
  | 1 => ⟨S1x4x128x256, .f32⟩
  | 2 => ⟨S1x4x128x256, .f32⟩
  | 3 => ⟨S1x4x128x256, .f32⟩
  | 4 => ⟨S1x4x128x256, .f32⟩
  | 5 => ⟨S1x4x128x256, .f32⟩
  | 6 => ⟨S1x4x128x256, .f32⟩
  | 7 => ⟨S1x4x128x256, .f32⟩
  | 8 => ⟨S1x4x128x256, .f32⟩
  | 9 => ⟨S1x4x128x256, .f32⟩
  | 10 => ⟨S1x4x128x256, .f32⟩
  | 11 => ⟨S1x4x128x256, .f32⟩
  | 12 => ⟨S1x4x128x256, .f32⟩
  | 13 => ⟨S1x4x128x256, .f32⟩
  | 14 => ⟨S1x4x128x256, .f32⟩
  | 15 => ⟨S1x4x128x256, .f32⟩
  | 16 => ⟨S1x4x128x256, .f32⟩
  | 17 => ⟨S1x4x128x256, .f32⟩
  | 18 => ⟨S1x4x128x256, .f32⟩
  | 19 => ⟨S1x4x128x256, .f32⟩
  | 20 => ⟨S1x4x128x256, .f32⟩
  | 21 => ⟨S1x4x128x256, .f32⟩
  | 22 => ⟨S1x4x128x256, .f32⟩
  | 23 => ⟨S1x4x128x256, .f32⟩
  | 24 => ⟨S1x4x128x256, .f32⟩
  | 25 => ⟨S1x4x128x256, .f32⟩
  | 26 => ⟨S1x4x128x256, .f32⟩
  | 27 => ⟨S1x4x128x256, .f32⟩
  | 28 => ⟨S1x4x128x256, .f32⟩
  | 29 => ⟨S1x4x128x256, .f32⟩
  | 30 => ⟨S1x4x128x256, .f32⟩
  | 31 => ⟨S1x4x128x256, .f32⟩
  | 32 => ⟨S1x4x128x256, .f32⟩
  | 33 => ⟨S1x4x128x256, .f32⟩
  | 34 => ⟨S1x4x128x256, .f32⟩
  | 35 => ⟨S1x4x128x256, .f32⟩
  | 36 => ⟨S1x4x128x256, .f32⟩
  | 37 => ⟨S1x4x128x256, .f32⟩
  | 38 => ⟨S1x4x128x256, .f32⟩
  | 39 => ⟨S1x4x128x256, .f32⟩
  | 40 => ⟨S1x4x128x256, .f32⟩
  | 41 => ⟨S1x4x128x256, .f32⟩
  | 42 => ⟨S1x4x128x256, .f32⟩
  | 43 => ⟨S1x4x128x256, .f32⟩
  | 44 => ⟨S1x4x128x256, .f32⟩
  | 45 => ⟨S1x4x128x256, .f32⟩
  | 46 => ⟨S1x4x128x256, .f32⟩
  | 47 => ⟨S1x4x128x256, .f32⟩
  | 48 => ⟨S1x4x128x256, .f32⟩
  | 49 => ⟨S1x4x128x256, .f32⟩
  | 50 => ⟨S1x4x128x256, .f32⟩
  | 51 => ⟨S1x4x128x256, .f32⟩
  | 52 => ⟨S1x4x128x256, .f32⟩
  | 53 => ⟨S1x4x128x256, .f32⟩
  | 54 => ⟨S1x4x128x256, .f32⟩
  | 55 => ⟨S1x4x128x256, .f32⟩
  | 56 => ⟨S1x4x128x256, .f32⟩
  | 57 => ⟨S1x4x128x256, .f32⟩
  | 58 => ⟨S1x4x128x256, .f32⟩
  | 59 => ⟨S1x4x128x256, .f32⟩
  | 60 => ⟨S1x4x128x256, .f32⟩
  | 61 => ⟨S1x4x128x256, .f32⟩
  | 62 => ⟨S1x4x128x256, .f32⟩
  | 63 => ⟨S1x4x128x256, .f32⟩
  | 64 => ⟨S1x4x128x256, .f32⟩
  | 65 => ⟨S1x4x128x256, .f32⟩
  | 66 => ⟨S16x4x128x256, .f32⟩
  | 67 => ⟨S16x4x128x256, .f32⟩
  | 68 => ⟨S16x4x128x256, .f32⟩
  | 69 => ⟨S16x4x128x256, .f32⟩
  | 70 => ⟨S64x4x128x256, .f32⟩
  | 71 => ⟨S64x256x4x128, .f32⟩
  | 72 => ⟨S64x256x512, .f32⟩
  | 73 => ⟨S64x256x512, .bf16⟩
  | 74 => ⟨S4096x1024, .bf16⟩
  | 75 => ⟨S4096x8320, .bf16⟩
  | 76 => ⟨S4096x8320, .bf16⟩
  | 77 => ⟨S4096x128, .bf16⟩
  | 78 => ⟨S1x256, .f32⟩
  | 79 => ⟨S128x512, .f32⟩
  | 80 => ⟨S1x512, .f32⟩
  | _ => ⟨S4096x8208, .f32⟩

abbrev hbmTy (i : Nat) : BufTy := match i / 128 with
  | 0 => hbmTy0_0 i
  | 1 => hbmTy0_1 i
  | 2 => hbmTy0_2 i
  | _ => ⟨S4096x8208, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x1024, .bf16⟩
  | .local _ .vmem, ⟨11, _⟩ => ⟨S512x1024, .bf16⟩
  | .local _ .vmem, ⟨12, _⟩ => ⟨S8x256x512, .bf16⟩
  | .local _ .vmem, ⟨13, _⟩ => ⟨S8x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S128x512, .bf16⟩
  | .local _ .vmem, ⟨17, _⟩ => ⟨S1x512, .f32⟩
  | .local _ .vmem, ⟨18, _⟩ => ⟨S1x256, .f32⟩
  | .local _ .vmem, ⟨19, _⟩ => ⟨S512x3072, .bf16⟩
  | .local _ .vmem, ⟨20, _⟩ => ⟨S512x3072, .bf16⟩
  | .local _ .vmem, ⟨21, _⟩ => ⟨S512x128, .bf16⟩
  | .local _ .vmem, ⟨22, _⟩ => ⟨S512x128, .bf16⟩
  | .local _ .vmem, ⟨23, _⟩ => ⟨S1x256, .f32⟩
  | .local _ .vmem, ⟨24, _⟩ => ⟨S128x512, .f32⟩
  | .local _ .vmem, ⟨25, _⟩ => ⟨S1x512, .f32⟩
  | .local _ .vmem, ⟨26, _⟩ => ⟨S256x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x1024, .f32⟩
  | .local _ .vmem, ⟨31, _⟩ => ⟨S512x1024, .bf16⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_call0_cst : Ref sig .tc := ⟨.hbm, 27, rfl⟩
abbrev main_call1_call0_v0 : Ref sig .tc := ⟨.hbm, 28, rfl⟩
abbrev main_call1_call0_v1 : Ref sig .tc := ⟨.hbm, 29, rfl⟩
abbrev main_call1_call0_v2 : Ref sig .tc := ⟨.hbm, 30, rfl⟩
abbrev main_call1_call0_v3 : Ref sig .tc := ⟨.hbm, 31, rfl⟩
abbrev main_call1_call0_v4 : Ref sig .tc := ⟨.hbm, 32, rfl⟩
abbrev main_call1_call0_v5 : Ref sig .tc := ⟨.hbm, 33, rfl⟩
abbrev main_call1_call0_v6 : Ref sig .tc := ⟨.hbm, 34, rfl⟩
abbrev main_call1_call0_v7 : Ref sig .tc := ⟨.hbm, 35, rfl⟩
abbrev main_call1_call0_v8 : Ref sig .tc := ⟨.hbm, 36, rfl⟩
abbrev main_call1_call0_v9 : Ref sig .tc := ⟨.hbm, 37, rfl⟩
abbrev main_call1_call0_v10 : Ref sig .tc := ⟨.hbm, 38, rfl⟩
abbrev main_call1_call0_v11 : Ref sig .tc := ⟨.hbm, 39, rfl⟩
abbrev main_call1_v1 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call2_call0_cst : Ref sig .tc := ⟨.hbm, 51, rfl⟩
abbrev main_call2_call0_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304_0 : Ref sig .tc := ⟨.hbm, 332, rfl⟩
abbrev main_v304_1 : Ref sig .tc := ⟨.hbm, 333, rfl⟩
abbrev main_v304_2 : Ref sig .tc := ⟨.hbm, 334, rfl⟩
abbrev main_v304_3 : Ref sig .tc := ⟨.hbm, 335, rfl⟩
abbrev main_v304_4 : Ref sig .tc := ⟨.hbm, 336, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def k0_mult1 : BitVec 32 :=
  let c0_i32_13 : BitVec 32 := 0#32
  let c64_i32 : BitVec 32 := 64#32
  let v28 : BitVec 32 := Scalar.muli c0_i32_13 c64_i32
  v28
def k0_off1 (c0_i32_13 : BitVec 32) : Fin 2 → Nat :=
  let c64_i32 : BitVec 32 := 64#32
  let v28 : BitVec 32 := Scalar.muli c0_i32_13 c64_i32
  let v29 : BitVec 32 := v28
  let v30 : Index := Scalar.indexCast v29
  let c0_14 : Index := 0#32
  ![v30.toNat, 0]
def k0_off2 (c0_i32_13 : BitVec 32) : Fin 2 → Nat :=
  let c64_i32 : BitVec 32 := 64#32
  let v28 : BitVec 32 := Scalar.muli c0_i32_13 c64_i32
  let v29 : BitVec 32 := v28
  let v43 : Index := Scalar.indexCast v29
  let c0_19 : Index := 0#32
  ![v43.toNat, 0]
def k0_off3 (c0_i32_13 : BitVec 32) : Fin 2 → Nat :=
  let c64_i32 : BitVec 32 := 64#32
  let v28 : BitVec 32 := Scalar.muli c0_i32_13 c64_i32
  let v29 : BitVec 32 := v28
  let v50 : Index := Scalar.indexCast v29
  let c256 : Index := 256#32
  ![v50.toNat, 256]
def k0_off4 (c0_i32_13 : BitVec 32) : Fin 2 → Nat :=
  let c64_i32 : BitVec 32 := 64#32
  let v28 : BitVec 32 := Scalar.muli c0_i32_13 c64_i32
  let v29 : BitVec 32 := v28
  let v57 : Index := Scalar.indexCast v29
  let c512 : Index := 512#32
  ![v57.toNat, 512]
def k0_off5 (c0_i32_13 : BitVec 32) : Fin 2 → Nat :=
  let c64_i32 : BitVec 32 := 64#32
  let v28 : BitVec 32 := Scalar.muli c0_i32_13 c64_i32
  let v29 : BitVec 32 := v28
  let v64 : Index := Scalar.indexCast v29
  let c768 : Index := 768#32
  ![v64.toNat, 768]
def k0_mult2 : BitVec 32 :=
  let c1_i32 : BitVec 32 := 1#32
  let c64_i32_23 : BitVec 32 := 64#32
  let v68 : BitVec 32 := Scalar.muli c1_i32 c64_i32_23
  v68
def k0_mult3 : BitVec 32 :=
  let c2_i32 : BitVec 32 := 2#32
  let c64_i32_36 : BitVec 32 := 64#32
  let v108 : BitVec 32 := Scalar.muli c2_i32 c64_i32_36
  v108
def k0_mult4 : BitVec 32 :=
  let c3_i32 : BitVec 32 := 3#32
  let c64_i32_49 : BitVec 32 := 64#32
  let v148 : BitVec 32 := Scalar.muli c3_i32 c64_i32_49
  v148
def k0_mult5 : BitVec 32 :=
  let c4_i32 : BitVec 32 := 4#32
  let c64_i32_62 : BitVec 32 := 64#32
  let v188 : BitVec 32 := Scalar.muli c4_i32 c64_i32_62
  v188
def k0_mult6 : BitVec 32 :=
  let c5_i32 : BitVec 32 := 5#32
  let c64_i32_75 : BitVec 32 := 64#32
  let v228 : BitVec 32 := Scalar.muli c5_i32 c64_i32_75
  v228
def k0_mult7 : BitVec 32 :=
  let c6_i32 : BitVec 32 := 6#32
  let c64_i32_88 : BitVec 32 := 64#32
  let v268 : BitVec 32 := Scalar.muli c6_i32 c64_i32_88
  v268
def k0_mult8 : BitVec 32 :=
  let c7_i32 : BitVec 32 := 7#32
  let c64_i32_101 : BitVec 32 := 64#32
  let v308 : BitVec 32 := Scalar.muli c7_i32 c64_i32_101
  v308
def k0_mult9 : BitVec 32 :=
  let c7_i32_195 : BitVec 32 := 7#32
  let c0_i32_194 : BitVec 32 := 0#32
  let v576 : BitVec 32 := Scalar.subi c7_i32_195 c0_i32_194
  let c64_i32_196 : BitVec 32 := 64#32
  let v577 : BitVec 32 := Scalar.muli v576 c64_i32_196
  v577
def k0_off6 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v579 : Index := Scalar.indexCast v578
  let c0_197 : Index := 0#32
  ![v579.toNat, 0]
def k0_off7 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v600 : Index := Scalar.indexCast v578
  let c0_202 : Index := 0#32
  ![v600.toNat, 0]
def k0_off8 (c0_i32_194 : BitVec 32) : Fin 3 → Nat :=
  let c7_i32_195 : BitVec 32 := 7#32
  let v576 : BitVec 32 := Scalar.subi c7_i32_195 c0_i32_194
  let v605 : Index := Scalar.indexCast v576
  let c0_204 : Index := 0#32
  let c0_205 : Index := 0#32
  ![v605.toNat, 0, 0]
def k0_off9 (c0_i32_194 : BitVec 32) : Fin 3 → Nat :=
  let c7_i32_195 : BitVec 32 := 7#32
  let v576 : BitVec 32 := Scalar.subi c7_i32_195 c0_i32_194
  let c1_i32_206 : BitVec 32 := 1#32
  let v608 : BitVec 32 := Scalar.subi v576 c1_i32_206
  let c0_i32_207 : BitVec 32 := 0#32
  let v609 : BitVec 32 := Scalar.maxsi v608 c0_i32_207
  let v610 : Index := Scalar.indexCast v609
  let c0_208 : Index := 0#32
  let c0_209 : Index := 0#32
  ![v610.toNat, 0, 0]
def k0_off10 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v633 : Index := Scalar.indexCast v578
  let c0_220 : Index := 0#32
  ![v633.toNat, 0]
def k0_off11 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v640 : Index := Scalar.indexCast v578
  let c1024 : Index := 1024#32
  ![v640.toNat, 1024]
def k0_off12 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v664 : Index := Scalar.indexCast v578
  let c128_230 : Index := 128#32
  ![v664.toNat, 128]
def k0_off13 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v671 : Index := Scalar.indexCast v578
  let c1280 : Index := 1280#32
  ![v671.toNat, 1280]
def k0_off14 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v695 : Index := Scalar.indexCast v578
  let c256_241 : Index := 256#32
  ![v695.toNat, 256]
def k0_off15 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v702 : Index := Scalar.indexCast v578
  let c1536 : Index := 1536#32
  ![v702.toNat, 1536]
def k0_off16 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v726 : Index := Scalar.indexCast v578
  let c384_251 : Index := 384#32
  ![v726.toNat, 384]
def k0_off17 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v733 : Index := Scalar.indexCast v578
  let c1792 : Index := 1792#32
  ![v733.toNat, 1792]
def k0_off18 (c0_i32_194 : BitVec 32) : Fin 2 → Nat :=
  let c7_i32_195 : BitVec 32 := 7#32
  let v576 : BitVec 32 := Scalar.subi c7_i32_195 c0_i32_194
  let c64_i32_196 : BitVec 32 := 64#32
  let v577 : BitVec 32 := Scalar.muli v576 c64_i32_196
  let v578 : BitVec 32 := v577
  let v749 : Index := Scalar.indexCast v578
  let c512_257 : Index := 512#32
  ![v749.toNat, 512]
def k0_mult10 : BitVec 32 :=
  let c7_i32_261 : BitVec 32 := 7#32
  let c1_i32_260 : BitVec 32 := 1#32
  let v760 : BitVec 32 := Scalar.subi c7_i32_261 c1_i32_260
  let c64_i32_262 : BitVec 32 := 64#32
  let v761 : BitVec 32 := Scalar.muli v760 c64_i32_262
  v761
def k0_mult11 : BitVec 32 :=
  let c7_i32_333 : BitVec 32 := 7#32
  let c2_i32_332 : BitVec 32 := 2#32
  let v944 : BitVec 32 := Scalar.subi c7_i32_333 c2_i32_332
  let c64_i32_334 : BitVec 32 := 64#32
  let v945 : BitVec 32 := Scalar.muli v944 c64_i32_334
  v945
def k0_mult12 : BitVec 32 :=
  let c7_i32_405 : BitVec 32 := 7#32
  let c3_i32_404 : BitVec 32 := 3#32
  let v1128 : BitVec 32 := Scalar.subi c7_i32_405 c3_i32_404
  let c64_i32_406 : BitVec 32 := 64#32
  let v1129 : BitVec 32 := Scalar.muli v1128 c64_i32_406
  v1129
def k0_mult13 : BitVec 32 :=
  let c7_i32_477 : BitVec 32 := 7#32
  let c4_i32_476 : BitVec 32 := 4#32
  let v1312 : BitVec 32 := Scalar.subi c7_i32_477 c4_i32_476
  let c64_i32_478 : BitVec 32 := 64#32
  let v1313 : BitVec 32 := Scalar.muli v1312 c64_i32_478
  v1313
def k0_mult14 : BitVec 32 :=
  let c7_i32_549 : BitVec 32 := 7#32
  let c5_i32_548 : BitVec 32 := 5#32
  let v1496 : BitVec 32 := Scalar.subi c7_i32_549 c5_i32_548
  let c64_i32_550 : BitVec 32 := 64#32
  let v1497 : BitVec 32 := Scalar.muli v1496 c64_i32_550
  v1497
def k0_mult15 : BitVec 32 :=
  let c7_i32_621 : BitVec 32 := 7#32
  let c6_i32_620 : BitVec 32 := 6#32
  let v1680 : BitVec 32 := Scalar.subi c7_i32_621 c6_i32_620
  let c64_i32_622 : BitVec 32 := 64#32
  let v1681 : BitVec 32 := Scalar.muli v1680 c64_i32_622
  v1681
def k0_mult16 : BitVec 32 :=
  let c7_i32_693 : BitVec 32 := 7#32
  let c7_i32_692 : BitVec 32 := 7#32
  let v1864 : BitVec 32 := Scalar.subi c7_i32_693 c7_i32_692
  let c64_i32_694 : BitVec 32 := 64#32
  let v1865 : BitVec 32 := Scalar.muli v1864 c64_i32_694
  v1865
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let c0_i32 : BitVec 32 := 0#32
  ![v0.toNat, c64_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GlaBwdRefIdeal.lean ====
abbrev S4096x8208 : Shape := ⟨2, ![4096, 8208]⟩
abbrev S4096x1024 : Shape := ⟨2, ![4096, 1024]⟩
abbrev S16x512 : Shape := ⟨2, ![16, 512]⟩
abbrev S512 : Shape := ⟨1, ![512]⟩
abbrev S256 : Shape := ⟨1, ![256]⟩
abbrev S4096x8320 : Shape := ⟨2, ![4096, 8320]⟩
abbrev S4096x3088 : Shape := ⟨2, ![4096, 3088]⟩
abbrev S4096x512 : Shape := ⟨2, ![4096, 512]⟩
abbrev S4096x16 : Shape := ⟨2, ![4096, 16]⟩
abbrev S1x512 : Shape := ⟨2, ![1, 512]⟩
abbrev S_ : Shape := ⟨0, ![]⟩
abbrev S64x64x4x128 : Shape := ⟨4, ![64, 64, 4, 128]⟩
abbrev S64x4x64x128 : Shape := ⟨4, ![64, 4, 64, 128]⟩
abbrev S64x64x4x256 : Shape := ⟨4, ![64, 64, 4, 256]⟩
abbrev S64x4x64x256 : Shape := ⟨4, ![64, 4, 64, 256]⟩
abbrev S64x4x1x128 : Shape := ⟨4, ![64, 4, 1, 128]⟩
abbrev S64x4x128 : Shape := ⟨3, ![64, 4, 128]⟩
abbrev S4x128x256 : Shape := ⟨3, ![4, 128, 256]⟩
abbrev S64x4x128x1 : Shape := ⟨4, ![64, 4, 128, 1]⟩
abbrev S64x4x128x256 : Shape := ⟨4, ![64, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x128 : Shape := ⟨3, ![1, 4, 128]⟩
abbrev S4x128 : Shape := ⟨2, ![4, 128]⟩
abbrev S4x128x1 : Shape := ⟨3, ![4, 128, 1]⟩
abbrev S1x4x128x1 : Shape := ⟨4, ![1, 4, 128, 1]⟩
abbrev S1x4x128x256 : Shape := ⟨4, ![1, 4, 128, 256]⟩
abbrev S4096x4x256 : Shape := ⟨3, ![4096, 4, 256]⟩
abbrev S4096x4 : Shape := ⟨2, ![4096, 4]⟩
abbrev S4096x4x1 : Shape := ⟨3, ![4096, 4, 1]⟩
abbrev S1x1x256 : Shape := ⟨3, ![1, 1, 256]⟩
abbrev S4x256x128 : Shape := ⟨3, ![4, 256, 128]⟩
abbrev S4x256x64 : Shape := ⟨3, ![4, 256, 64]⟩
abbrev S4x128x64 : Shape := ⟨3, ![4, 128, 64]⟩
abbrev S4096x5248 : Shape := ⟨2, ![4096, 5248]⟩
abbrev S1x256 : Shape := ⟨2, ![1, 256]⟩

abbrev nBuf : Space → Nat
  | .hbm => 288
  | .vmem => 0
  | .smem => 0
  | _ => 0

abbrev hbmTy0_0 (i : Nat) : BufTy := match i % 128 with
  | 0 => ⟨S4096x8208, .f32⟩
  | 1 => ⟨S4096x1024, .f32⟩
  | 2 => ⟨S16x512, .f32⟩
  | 3 => ⟨S512, .f32⟩
  | 4 => ⟨S256, .f32⟩
  | 5 => ⟨S4096x8320, .f32⟩
  | 6 => ⟨S4096x3088, .f32⟩
  | 7 => ⟨S4096x512, .f32⟩
  | 8 => ⟨S4096x512, .f32⟩
  | 9 => ⟨S4096x1024, .f32⟩
  | 10 => ⟨S4096x1024, .f32⟩
  | 11 => ⟨S4096x16, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .f32⟩
  | 22 => ⟨S4096x512, .i1⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S64x64x4x128, .f32⟩
  | 39 => ⟨S64x4x64x128, .f32⟩
  | 40 => ⟨S64x64x4x128, .f32⟩
  | 41 => ⟨S64x4x64x128, .f32⟩
  | 42 => ⟨S64x64x4x256, .f32⟩
  | 43 => ⟨S64x4x64x256, .f32⟩
  | 44 => ⟨S64x64x4x128, .f32⟩
  | 45 => ⟨S64x4x64x128, .f32⟩
  | 46 => ⟨S_, .f32⟩
  | 47 => ⟨S_, .f32⟩
  | 48 => ⟨S64x4x64x128, .f32⟩
  | 49 => ⟨S64x4x1x128, .f32⟩
  | 50 => ⟨S64x4x64x128, .f32⟩
  | 51 => ⟨S64x4x64x128, .f32⟩
  | 52 => ⟨S64x4x64x128, .f32⟩
  | 53 => ⟨S64x4x64x128, .f32⟩
  | 54 => ⟨S64x4x128, .f32⟩
  | 55 => ⟨S64x4x128, .f32⟩
  | 56 => ⟨S_, .f32⟩
  | 57 => ⟨S4x128x256, .f32⟩
  | 58 => ⟨S_, .f32⟩
  | 59 => ⟨S64x4x64x256, .f32⟩
  | 60 => ⟨S_, .f32⟩
  | 61 => ⟨S64x4x128x1, .f32⟩
  | 62 => ⟨S_, .f32⟩
  | 63 => ⟨S64x4x128x256, .f32⟩
  | 64 => ⟨S_, .i32⟩
  | 65 => ⟨S64x4x64x128, .f32⟩
  | 66 => ⟨S64x4x64x128, .f32⟩
  | 67 => ⟨S64x4x64x256, .f32⟩
  | 68 => ⟨S64x4x128, .f32⟩
  | 69 => ⟨S_, .i32⟩
  | 70 => ⟨S4x128x256, .f32⟩
  | 71 => ⟨S64x4x64x256, .f32⟩
  | 72 => ⟨S64x4x128x1, .f32⟩
  | 73 => ⟨S64x4x128x256, .f32⟩
  | 74 => ⟨S_, .i32⟩
  | 75 => ⟨S_, .i1⟩
  | 76 => ⟨S_, .i32⟩
  | 77 => ⟨S_, .i32⟩
  | 78 => ⟨S_, .i32⟩
  | 79 => ⟨S1x4x64x128, .f32⟩
  | 80 => ⟨S4x64x128, .f32⟩
  | 81 => ⟨S_, .i32⟩
  | 82 => ⟨S_, .i32⟩
  | 83 => ⟨S_, .i32⟩
  | 84 => ⟨S1x4x64x128, .f32⟩
  | 85 => ⟨S4x64x128, .f32⟩
  | 86 => ⟨S_, .i32⟩
  | 87 => ⟨S_, .i32⟩
  | 88 => ⟨S_, .i32⟩
  | 89 => ⟨S1x4x64x256, .f32⟩
  | 90 => ⟨S4x64x256, .f32⟩
  | 91 => ⟨S_, .i32⟩
  | 92 => ⟨S_, .i32⟩
  | 93 => ⟨S1x4x128, .f32⟩
  | 94 => ⟨S4x128, .f32⟩
  | 95 => ⟨S4x128x1, .f32⟩
  | 96 => ⟨S4x128x256, .f32⟩
  | 97 => ⟨S4x128x256, .f32⟩
  | 98 => ⟨S4x128x256, .f32⟩
  | 99 => ⟨S4x128x256, .f32⟩
  | 100 => ⟨S4x64x256, .f32⟩
  | 101 => ⟨S1x4x64x256, .f32⟩
  | 102 => ⟨S_, .i32⟩
  | 103 => ⟨S_, .i32⟩
  | 104 => ⟨S_, .i32⟩
  | 105 => ⟨S64x4x64x256, .f32⟩
  | 106 => ⟨S1x4x128x1, .f32⟩
  | 107 => ⟨S_, .i32⟩
  | 108 => ⟨S_, .i32⟩
  | 109 => ⟨S_, .i32⟩
  | 110 => ⟨S64x4x128x1, .f32⟩
  | 111 => ⟨S1x4x128x256, .f32⟩
  | 112 => ⟨S_, .i32⟩
  | 113 => ⟨S_, .i32⟩
  | 114 => ⟨S_, .i32⟩
  | 115 => ⟨S64x4x128x256, .f32⟩
  | 116 => ⟨S_, .i32⟩
  | 117 => ⟨S_, .i32⟩
  | 118 => ⟨S64x64x4x256, .f32⟩
  | 119 => ⟨S4096x4x256, .f32⟩
  | 120 => ⟨S4096x4x256, .f32⟩
  | 121 => ⟨S_, .f32⟩
  | 122 => ⟨S4096x4, .f32⟩
  | 123 => ⟨S4096x4x1, .f32⟩
  | 124 => ⟨S_, .f32⟩
  | 125 => ⟨S4096x4x1, .f32⟩
  | 126 => ⟨S4096x4x1, .f32⟩
  | 127 => ⟨S_, .f32⟩
  | _ => ⟨S4096x8208, .f32⟩

abbrev hbmTy0_1 (i : Nat) : BufTy := match i % 128 with
  | 0 => ⟨S4096x4x1, .f32⟩
  | 1 => ⟨S4096x4x1, .f32⟩
  | 2 => ⟨S4096x4x1, .f32⟩
  | 3 => ⟨S4096x4x1, .f32⟩
  | 4 => ⟨S_, .f32⟩
  | 5 => ⟨S4096x4x1, .f32⟩
  | 6 => ⟨S4096x4x1, .f32⟩
  | 7 => ⟨S4096x4x256, .f32⟩
  | 8 => ⟨S4096x4x256, .f32⟩
  | 9 => ⟨S1x1x256, .f32⟩
  | 10 => ⟨S4096x4x256, .f32⟩
  | 11 => ⟨S4096x4x256, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4x128x256, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x4x256, .f32⟩
  | 36 => ⟨S4096x4x256, .f32⟩
  | 37 => ⟨S_, .f32⟩
  | 38 => ⟨S256, .f32⟩
  | 39 => ⟨S1x1x256, .f32⟩
  | 40 => ⟨S4096x4x256, .f32⟩
  | 41 => ⟨S4096x4x256, .f32⟩
  | 42 => ⟨S_, .f32⟩
  | 43 => ⟨S256, .f32⟩
  | 44 => ⟨S4096x4x256, .f32⟩
  | 45 => ⟨S_, .f32⟩
  | 46 => ⟨S4096x4, .f32⟩
  | 47 => ⟨S4096x4x1, .f32⟩
  | 48 => ⟨S4096x4x256, .f32⟩
  | 49 => ⟨S4096x4x256, .f32⟩
  | 50 => ⟨S4096x4x1, .f32⟩
  | 51 => ⟨S_, .f32⟩
  | 52 => ⟨S4096x4x1, .f32⟩
  | 53 => ⟨S4096x4x1, .f32⟩
  | 54 => ⟨S_, .f32⟩
  | 55 => ⟨S4096x4, .f32⟩
  | 56 => ⟨S4096x4x256, .f32⟩
  | 57 => ⟨S4096x4x256, .f32⟩
  | 58 => ⟨S4096x4x256, .f32⟩
  | 59 => ⟨S4096x4x256, .f32⟩
  | 60 => ⟨S4096x4x256, .f32⟩
  | 61 => ⟨S64x64x4x256, .f32⟩
  | 62 => ⟨S64x4x64x256, .f32⟩
  | 63 => ⟨S_, .f32⟩
  | 64 => ⟨S4x128x256, .f32⟩
  | 65 => ⟨S_, .f32⟩
  | 66 => ⟨S64x4x64x128, .f32⟩
  | 67 => ⟨S_, .f32⟩
  | 68 => ⟨S64x4x64x128, .f32⟩
  | 69 => ⟨S_, .f32⟩
  | 70 => ⟨S64x4x64x256, .f32⟩
  | 71 => ⟨S_, .i32⟩
  | 72 => ⟨S64x4x64x256, .f32⟩
  | 73 => ⟨S64x4x128x1, .f32⟩
  | 74 => ⟨S64x4x64x256, .f32⟩
  | 75 => ⟨S64x4x64x128, .f32⟩
  | 76 => ⟨S64x4x128x256, .f32⟩
  | 77 => ⟨S64x4x64x128, .f32⟩
  | 78 => ⟨S_, .i32⟩
  | 79 => ⟨S4x128x256, .f32⟩
  | 80 => ⟨S64x4x64x128, .f32⟩
  | 81 => ⟨S64x4x64x128, .f32⟩
  | 82 => ⟨S64x4x64x256, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S1x4x64x256, .f32⟩
  | 93 => ⟨S4x64x256, .f32⟩
  | 94 => ⟨S_, .i32⟩
  | 95 => ⟨S_, .i32⟩
  | 96 => ⟨S_, .i32⟩
  | 97 => ⟨S1x4x128x1, .f32⟩
  | 98 => ⟨S4x128x1, .f32⟩
  | 99 => ⟨S_, .i32⟩
  | 100 => ⟨S_, .i32⟩
  | 101 => ⟨S_, .i32⟩
  | 102 => ⟨S1x4x64x256, .f32⟩
  | 103 => ⟨S4x64x256, .f32⟩
  | 104 => ⟨S_, .i32⟩
  | 105 => ⟨S_, .i32⟩
  | 106 => ⟨S_, .i32⟩
  | 107 => ⟨S1x4x64x128, .f32⟩
  | 108 => ⟨S4x64x128, .f32⟩
  | 109 => ⟨S_, .i32⟩
  | 110 => ⟨S_, .i32⟩
  | 111 => ⟨S_, .i32⟩
  | 112 => ⟨S1x4x128x256, .f32⟩
  | 113 => ⟨S4x128x256, .f32⟩
  | 114 => ⟨S_, .i32⟩
  | 115 => ⟨S_, .i32⟩
  | 116 => ⟨S_, .i32⟩
  | 117 => ⟨S1x4x64x128, .f32⟩
  | 118 => ⟨S4x64x128, .f32⟩
  | 119 => ⟨S4x256x128, .f32⟩
  | 120 => ⟨S4x128x256, .f32⟩
  | 121 => ⟨S4x128x256, .f32⟩
  | 122 => ⟨S4x64x128, .f32⟩
  | 123 => ⟨S4x256x64, .f32⟩
  | 124 => ⟨S4x64x256, .f32⟩
  | 125 => ⟨S4x128x64, .f32⟩
  | 126 => ⟨S4x64x128, .f32⟩
  | 127 => ⟨S4x128x256, .f32⟩
  | _ => ⟨S4096x8208, .f32⟩

abbrev hbmTy0_2 (i : Nat) : BufTy := match i % 128 with
  | 0 => ⟨S4x128x256, .f32⟩
  | 1 => ⟨S1x4x64x128, .f32⟩
  | 2 => ⟨S_, .i32⟩
  | 3 => ⟨S_, .i32⟩
  | 4 => ⟨S_, .i32⟩
  | 5 => ⟨S64x4x64x128, .f32⟩
  | 6 => ⟨S1x4x64x128, .f32⟩
  | 7 => ⟨S_, .i32⟩
  | 8 => ⟨S_, .i32⟩
  | 9 => ⟨S_, .i32⟩
  | 10 => ⟨S64x4x64x128, .f32⟩
  | 11 => ⟨S1x4x64x256, .f32⟩
  | 12 => ⟨S_, .i32⟩
  | 13 => ⟨S_, .i32⟩
  | 14 => ⟨S_, .i32⟩
  | 15 => ⟨S64x4x64x256, .f32⟩
  | 16 => ⟨S_, .i32⟩
  | 17 => ⟨S_, .i32⟩
  | 18 => ⟨S64x4x64x128, .f32⟩
  | 19 => ⟨S64x64x4x256, .f32⟩
  | 20 => ⟨S4096x1024, .f32⟩
  | 21 => ⟨S64x64x4x128, .f32⟩
  | 22 => ⟨S4096x512, .f32⟩
  | 23 => ⟨S64x64x4x128, .f32⟩
  | 24 => ⟨S4096x512, .f32⟩
  | 25 => ⟨S_, .f32⟩
  | 26 => ⟨S4096x512, .f32⟩
  | 27 => ⟨S4096x512, .f32⟩
  | 28 => ⟨S4096x5248, .f32⟩
  | 29 => ⟨S4096x8320, .f32⟩
  | 30 => ⟨S4096x8320, .bf16⟩
  | 31 => ⟨S1x256, .f32⟩
  | _ => ⟨S4096x8208, .f32⟩

abbrev hbmTy (i : Nat) : BufTy := match i / 128 with
  | 0 => hbmTy0_0 i
  | 1 => hbmTy0_1 i
  | 2 => hbmTy0_2 i
  | _ => ⟨S4096x8208, .f32⟩

abbrev bufTy : (tb : Table) → Fin (tcTables nBuf tb) → BufTy
  | .hbm, ⟨i, _⟩ => hbmTy i
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_call0_cst : Ref sig .tc := ⟨.hbm, 46, rfl⟩
abbrev main_call1_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_c : Ref sig .tc := ⟨.hbm, 64, rfl⟩
abbrev main_v35_0 : Ref sig .tc := ⟨.hbm, 65, rfl⟩
abbrev main_v35_1 : Ref sig .tc := ⟨.hbm, 66, rfl⟩
abbrev main_v35_2 : Ref sig .tc := ⟨.hbm, 67, rfl⟩
abbrev main_v35_3 : Ref sig .tc := ⟨.hbm, 68, rfl⟩
abbrev main_v35_4 : Ref sig .tc := ⟨.hbm, 69, rfl⟩
abbrev main_v35_5 : Ref sig .tc := ⟨.hbm, 70, rfl⟩
abbrev main_v35_6 : Ref sig .tc := ⟨.hbm, 71, rfl⟩
abbrev main_v35_7 : Ref sig .tc := ⟨.hbm, 72, rfl⟩
abbrev main_v35_8 : Ref sig .tc := ⟨.hbm, 73, rfl⟩
abbrev main_while0c_c_29 : Ref sig .tc := ⟨.hbm, 74, rfl⟩
abbrev main_while0c_v102 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_v0 : Ref sig .tc := ⟨.hbm, 79, rfl⟩
abbrev main_while0b_v102 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v103 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_v0 : Ref sig .tc := ⟨.hbm, 89, rfl⟩
abbrev main_while0b_v104 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_v0 : Ref sig .tc := ⟨.hbm, 93, rfl⟩
abbrev main_while0b_v105 : Ref sig .tc := ⟨.hbm, 94, rfl⟩
abbrev main_while0b_v106 : Ref sig .tc := ⟨.hbm, 95, rfl⟩
abbrev main_while0b_v107 : Ref sig .tc := ⟨.hbm, 96, rfl⟩
abbrev main_while0b_v108 : Ref sig .tc := ⟨.hbm, 97, rfl⟩
abbrev main_while0b_v109 : Ref sig .tc := ⟨.hbm, 98, rfl⟩
abbrev main_while0b_v110 : Ref sig .tc := ⟨.hbm, 99, rfl⟩
abbrev main_while0b_v111 : Ref sig .tc := ⟨.hbm, 100, rfl⟩
abbrev main_while0b_call6_v0 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_v112 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_v113 : Ref sig .tc := ⟨.hbm, 110, rfl⟩
abbrev main_while0b_call8_v0 : Ref sig .tc := ⟨.hbm, 111, rfl⟩
abbrev main_while0b_call8_c : Ref sig .tc := ⟨.hbm, 112, rfl⟩
abbrev main_while0b_call8_c_0 : Ref sig .tc := ⟨.hbm, 113, rfl⟩
abbrev main_while0b_call8_c_1 : Ref sig .tc := ⟨.hbm, 114, rfl⟩
abbrev main_while0b_v114 : Ref sig .tc := ⟨.hbm, 115, rfl⟩
abbrev main_while0b_c_29 : Ref sig .tc := ⟨.hbm, 116, rfl⟩
abbrev main_while0b_v115 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_5 : Ref sig .tc := ⟨.hbm, 121, rfl⟩
abbrev main_v39 : Ref sig .tc := ⟨.hbm, 122, rfl⟩
abbrev main_v40 : Ref sig .tc := ⟨.hbm, 123, rfl⟩
abbrev main_cst_6 : Ref sig .tc := ⟨.hbm, 124, rfl⟩
abbrev main_v41 : Ref sig .tc := ⟨.hbm, 125, rfl⟩
abbrev main_v42 : Ref sig .tc := ⟨.hbm, 126, rfl⟩
abbrev main_cst_7 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_cst_8 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_call9_v0 : Ref sig .tc := ⟨.hbm, 141, rfl⟩
abbrev main_call9_v1 : Ref sig .tc := ⟨.hbm, 142, rfl⟩
abbrev main_call9_cst : Ref sig .tc := ⟨.hbm, 143, rfl⟩
abbrev main_call9_v2 : Ref sig .tc := ⟨.hbm, 144, rfl⟩
abbrev main_call9_v3 : Ref sig .tc := ⟨.hbm, 145, rfl⟩
abbrev main_call9_cst_0 : Ref sig .tc := ⟨.hbm, 146, rfl⟩
abbrev main_call9_v4 : Ref sig .tc := ⟨.hbm, 147, rfl⟩
abbrev main_v55_2 : Ref sig .tc := ⟨.hbm, 148, rfl⟩
abbrev main_call9_cst_1 : Ref sig .tc := ⟨.hbm, 149, rfl⟩
abbrev main_call9_v6 : Ref sig .tc := ⟨.hbm, 150, rfl⟩
abbrev main_call9_v7 : Ref sig .tc := ⟨.hbm, 151, rfl⟩
abbrev main_v55_1 : Ref sig .tc := ⟨.hbm, 152, rfl⟩
abbrev main_v55_0 : Ref sig .tc := ⟨.hbm, 153, rfl⟩
abbrev main_v56 : Ref sig .tc := ⟨.hbm, 154, rfl⟩
abbrev main_cst_9 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_call10_v0 : Ref sig .tc := ⟨.hbm, 159, rfl⟩
abbrev main_call10_v1 : Ref sig .tc := ⟨.hbm, 160, rfl⟩
abbrev main_call10_v2 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_cst_10 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_cst_11 : Ref sig .tc := ⟨.hbm, 170, rfl⟩
abbrev main_v67 : Ref sig .tc := ⟨.hbm, 171, rfl⟩
abbrev main_v68 : Ref sig .tc := ⟨.hbm, 172, rfl⟩
abbrev main_cst_12 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_cst_13 : Ref sig .tc := ⟨.hbm, 179, rfl⟩
abbrev main_v74 : Ref sig .tc := ⟨.hbm, 180, rfl⟩
abbrev main_v75 : Ref sig .tc := ⟨.hbm, 181, rfl⟩
abbrev main_cst_14 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_cst_15 : Ref sig .tc := ⟨.hbm, 191, rfl⟩
abbrev main_v84 : Ref sig .tc := ⟨.hbm, 192, rfl⟩
abbrev main_cst_16 : Ref sig .tc := ⟨.hbm, 193, rfl⟩
abbrev main_v85 : Ref sig .tc := ⟨.hbm, 194, rfl⟩
abbrev main_cst_17 : Ref sig .tc := ⟨.hbm, 195, rfl⟩
abbrev main_v86 : Ref sig .tc := ⟨.hbm, 196, rfl⟩
abbrev main_cst_18 : Ref sig .tc := ⟨.hbm, 197, rfl⟩
abbrev main_v87 : Ref sig .tc := ⟨.hbm, 198, rfl⟩
abbrev main_c_19 : Ref sig .tc := ⟨.hbm, 199, rfl⟩
abbrev main_v88_0 : Ref sig .tc := ⟨.hbm, 200, rfl⟩
abbrev main_v88_1 : Ref sig .tc := ⟨.hbm, 201, rfl⟩
abbrev main_v88_2 : Ref sig .tc := ⟨.hbm, 202, rfl⟩
abbrev main_v88_3 : Ref sig .tc := ⟨.hbm, 203, rfl⟩
abbrev main_v88_4 : Ref sig .tc := ⟨.hbm, 204, rfl⟩
abbrev main_v88_5 : Ref sig .tc := ⟨.hbm, 205, rfl⟩
abbrev main_v88_6 : Ref sig .tc := ⟨.hbm, 206, rfl⟩
abbrev main_v88_7 : Ref sig .tc := ⟨.hbm, 207, rfl⟩
abbrev main_v88_8 : Ref sig .tc := ⟨.hbm, 208, rfl⟩
abbrev main_v88_9 : Ref sig .tc := ⟨.hbm, 209, rfl⟩
abbrev main_v88_10 : Ref sig .tc := ⟨.hbm, 210, rfl⟩
abbrev main_while1c_c_31 : Ref sig .tc := ⟨.hbm, 211, rfl⟩
abbrev main_while1c_v102 : Ref sig .tc := ⟨.hbm, 212, rfl⟩
abbrev main_while1b_c_31 : Ref sig .tc := ⟨.hbm, 213, rfl⟩
abbrev main_while1b_v102 : Ref sig .tc := ⟨.hbm, 214, rfl⟩
abbrev main_while1b_c_32 : Ref sig .tc := ⟨.hbm, 215, rfl⟩
abbrev main_while1b_v103 : Ref sig .tc := ⟨.hbm, 216, rfl⟩
abbrev main_while1b_call11_c : Ref sig .tc := ⟨.hbm, 217, rfl⟩
abbrev main_while1b_call11_c_0 : Ref sig .tc := ⟨.hbm, 218, rfl⟩
abbrev main_while1b_call11_c_1 : Ref sig .tc := ⟨.hbm, 219, rfl⟩
abbrev main_while1b_call11_v0 : Ref sig .tc := ⟨.hbm, 220, rfl⟩
abbrev main_while1b_v104 : Ref sig .tc := ⟨.hbm, 221, rfl⟩
abbrev main_while1b_call12_c : Ref sig .tc := ⟨.hbm, 222, rfl⟩
abbrev main_while1b_call12_c_0 : Ref sig .tc := ⟨.hbm, 223, rfl⟩
abbrev main_while1b_call12_c_1 : Ref sig .tc := ⟨.hbm, 224, rfl⟩
abbrev main_while1b_call12_v0 : Ref sig .tc := ⟨.hbm, 225, rfl⟩
abbrev main_while1b_v105 : Ref sig .tc := ⟨.hbm, 226, rfl⟩
abbrev main_while1b_call13_c : Ref sig .tc := ⟨.hbm, 227, rfl⟩
abbrev main_while1b_call13_c_0 : Ref sig .tc := ⟨.hbm, 228, rfl⟩
abbrev main_while1b_call13_c_1 : Ref sig .tc := ⟨.hbm, 229, rfl⟩
abbrev main_while1b_call13_v0 : Ref sig .tc := ⟨.hbm, 230, rfl⟩
abbrev main_while1b_v106 : Ref sig .tc := ⟨.hbm, 231, rfl⟩
abbrev main_while1b_call14_c : Ref sig .tc := ⟨.hbm, 232, rfl⟩
abbrev main_while1b_call14_c_0 : Ref sig .tc := ⟨.hbm, 233, rfl⟩
abbrev main_while1b_call14_c_1 : Ref sig .tc := ⟨.hbm, 234, rfl⟩
abbrev main_while1b_call14_v0 : Ref sig .tc := ⟨.hbm, 235, rfl⟩
abbrev main_while1b_v107 : Ref sig .tc := ⟨.hbm, 236, rfl⟩
abbrev main_while1b_call15_c : Ref sig .tc := ⟨.hbm, 237, rfl⟩
abbrev main_while1b_call15_c_0 : Ref sig .tc := ⟨.hbm, 238, rfl⟩
abbrev main_while1b_call15_c_1 : Ref sig .tc := ⟨.hbm, 239, rfl⟩
abbrev main_while1b_call15_v0 : Ref sig .tc := ⟨.hbm, 240, rfl⟩
abbrev main_while1b_v108 : Ref sig .tc := ⟨.hbm, 241, rfl⟩
abbrev main_while1b_call16_c : Ref sig .tc := ⟨.hbm, 242, rfl⟩
abbrev main_while1b_call16_c_0 : Ref sig .tc := ⟨.hbm, 243, rfl⟩
abbrev main_while1b_call16_c_1 : Ref sig .tc := ⟨.hbm, 244, rfl⟩
abbrev main_while1b_call16_v0 : Ref sig .tc := ⟨.hbm, 245, rfl⟩
abbrev main_while1b_v109 : Ref sig .tc := ⟨.hbm, 246, rfl⟩
abbrev main_while1b_v110 : Ref sig .tc := ⟨.hbm, 247, rfl⟩
abbrev main_while1b_v111 : Ref sig .tc := ⟨.hbm, 248, rfl⟩
abbrev main_while1b_v112 : Ref sig .tc := ⟨.hbm, 249, rfl⟩
abbrev main_while1b_v113 : Ref sig .tc := ⟨.hbm, 250, rfl⟩
abbrev main_while1b_v114 : Ref sig .tc := ⟨.hbm, 251, rfl⟩
abbrev main_while1b_v115 : Ref sig .tc := ⟨.hbm, 252, rfl⟩
abbrev main_while1b_v116 : Ref sig .tc := ⟨.hbm, 253, rfl⟩
abbrev main_while1b_v117 : Ref sig .tc := ⟨.hbm, 254, rfl⟩
abbrev main_while1b_v118 : Ref sig .tc := ⟨.hbm, 255, rfl⟩
abbrev main_while1b_v119 : Ref sig .tc := ⟨.hbm, 256, rfl⟩
abbrev main_while1b_call17_v0 : Ref sig .tc := ⟨.hbm, 257, rfl⟩
abbrev main_while1b_call17_c : Ref sig .tc := ⟨.hbm, 258, rfl⟩
abbrev main_while1b_call17_c_0 : Ref sig .tc := ⟨.hbm, 259, rfl⟩
abbrev main_while1b_call17_c_1 : Ref sig .tc := ⟨.hbm, 260, rfl⟩
abbrev main_while1b_v120 : Ref sig .tc := ⟨.hbm, 261, rfl⟩
abbrev main_while1b_call18_v0 : Ref sig .tc := ⟨.hbm, 262, rfl⟩
abbrev main_while1b_call18_c : Ref sig .tc := ⟨.hbm, 263, rfl⟩
abbrev main_while1b_call18_c_0 : Ref sig .tc := ⟨.hbm, 264, rfl⟩
abbrev main_while1b_call18_c_1 : Ref sig .tc := ⟨.hbm, 265, rfl⟩
abbrev main_while1b_v121 : Ref sig .tc := ⟨.hbm, 266, rfl⟩
abbrev main_while1b_call19_v0 : Ref sig .tc := ⟨.hbm, 267, rfl⟩
abbrev main_while1b_call19_c : Ref sig .tc := ⟨.hbm, 268, rfl⟩
abbrev main_while1b_call19_c_0 : Ref sig .tc := ⟨.hbm, 269, rfl⟩
abbrev main_while1b_call19_c_1 : Ref sig .tc := ⟨.hbm, 270, rfl⟩
abbrev main_while1b_v122 : Ref sig .tc := ⟨.hbm, 271, rfl⟩
abbrev main_while1b_c_33 : Ref sig .tc := ⟨.hbm, 272, rfl⟩
abbrev main_while1b_v123 : Ref sig .tc := ⟨.hbm, 273, rfl⟩
abbrev main_v89 : Ref sig .tc := ⟨.hbm, 274, rfl⟩
abbrev main_v90 : Ref sig .tc := ⟨.hbm, 275, rfl⟩
abbrev main_v91 : Ref sig .tc := ⟨.hbm, 276, rfl⟩
abbrev main_v92 : Ref sig .tc := ⟨.hbm, 277, rfl⟩
abbrev main_v93 : Ref sig .tc := ⟨.hbm, 278, rfl⟩
abbrev main_v94 : Ref sig .tc := ⟨.hbm, 279, rfl⟩
abbrev main_v95 : Ref sig .tc := ⟨.hbm, 280, rfl⟩
abbrev main_cst_20 : Ref sig .tc := ⟨.hbm, 281, rfl⟩
abbrev main_v96 : Ref sig .tc := ⟨.hbm, 282, rfl⟩
abbrev main_v97 : Ref sig .tc := ⟨.hbm, 283, rfl⟩
abbrev main_v98 : Ref sig .tc := ⟨.hbm, 284, rfl⟩
abbrev main_v99 : Ref sig .tc := ⟨.hbm, 285, rfl⟩
abbrev main_v100 : Ref sig .tc := ⟨.hbm, 286, rfl⟩
abbrev main_v101 : Ref sig .tc := ⟨.hbm, 287, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Wgrad.lean ====
abbrev S4096x8208 : Shape := ⟨2, ![4096, 8208]⟩
abbrev S4096x1024 : Shape := ⟨2, ![4096, 1024]⟩
abbrev S4096x3072 : Shape := ⟨2, ![4096, 3072]⟩
abbrev S4096x5120 : Shape := ⟨2, ![4096, 5120]⟩
abbrev S4096x16 : Shape := ⟨2, ![4096, 16]⟩
abbrev S_ : Shape := ⟨0, ![]⟩
abbrev S4096x112 : Shape := ⟨2, ![4096, 112]⟩
abbrev S4096x8320 : Shape := ⟨2, ![4096, 8320]⟩
abbrev S8320x1024 : Shape := ⟨2, ![8320, 1024]⟩
abbrev S1024x1664 : Shape := ⟨2, ![1024, 1664]⟩
abbrev S1024x1024 : Shape := ⟨2, ![1024, 1024]⟩
abbrev S1664x1024 : Shape := ⟨2, ![1664, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x8208, .f32⟩
  | .hbm, ⟨1, _⟩ => ⟨S4096x1024, .f32⟩
  | .hbm, ⟨2, _⟩ => ⟨S4096x3072, .f32⟩
  | .hbm, ⟨3, _⟩ => ⟨S4096x5120, .f32⟩
  | .hbm, ⟨4, _⟩ => ⟨S4096x16, .f32⟩
  | .hbm, ⟨5, _⟩ => ⟨S_, .f32⟩
  | .hbm, ⟨6, _⟩ => ⟨S4096x112, .f32⟩
  | .hbm, ⟨7, _⟩ => ⟨S4096x8320, .f32⟩
  | .hbm, ⟨8, _⟩ => ⟨S4096x8320, .bf16⟩
  | .hbm, ⟨9, _⟩ => ⟨S4096x1024, .bf16⟩
  | .hbm, ⟨10, _⟩ => ⟨S8320x1024, .bf16⟩
  | .local _ .vmem, ⟨0, _⟩ => ⟨S1024x1664, .bf16⟩
  | .local _ .vmem, ⟨1, _⟩ => ⟨S1024x1664, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S4096x8208 : Shape := ⟨2, ![4096, 8208]⟩
abbrev S4096x1024 : Shape := ⟨2, ![4096, 1024]⟩
abbrev S_ : Shape := ⟨0, ![]⟩
abbrev S1024x8208 : Shape := ⟨2, ![1024, 8208]⟩
abbrev S8208x1024 : Shape := ⟨2, ![8208, 1024]⟩
abbrev S3072x1024 : Shape := ⟨2, ![3072, 1024]⟩
abbrev S5120x1024 : Shape := ⟨2, ![5120, 1024]⟩
abbrev S16x1024 : Shape := ⟨2, ![16, 1024]⟩
abbrev S112x1024 : Shape := ⟨2, ![112, 1024]⟩
abbrev S8320x1024 : Shape := ⟨2, ![8320, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x8208, .f32⟩
  | .hbm, ⟨1, _⟩ => ⟨S4096x1024, .f32⟩
  | .hbm, ⟨2, _⟩ => ⟨S_, .f32⟩
  | .hbm, ⟨3, _⟩ => ⟨S1024x8208, .f32⟩
  | .hbm, ⟨4, _⟩ => ⟨S4096x8208, .f32⟩
  | .hbm, ⟨5, _⟩ => ⟨S8208x1024, .f32⟩
  | .hbm, ⟨6, _⟩ => ⟨S1024x8208, .f32⟩
  | .hbm, ⟨7, _⟩ => ⟨S8208x1024, .f32⟩
  | .hbm, ⟨8, _⟩ => ⟨S3072x1024, .f32⟩
  | .hbm, ⟨9, _⟩ => ⟨S5120x1024, .f32⟩
  | .hbm, ⟨10, _⟩ => ⟨S16x1024, .f32⟩
  | .hbm, ⟨11, _⟩ => ⟨S_, .f32⟩
  | .hbm, ⟨12, _⟩ => ⟨S112x1024, .f32⟩
  | .hbm, ⟨13, _⟩ => ⟨S8320x1024, .f32⟩
  | .hbm, ⟨14, _⟩ => ⟨S8320x1024, .bf16⟩
  | _, _ => ⟨S4096x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdamW.lean ====
abbrev S1x1 : Shape := ⟨2, ![1, 1]⟩
abbrev S2x704x1024 : Shape := ⟨3, ![2, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 12
  | .vmem => 23
  | .smem => 0
  | _ => 0

abbrev bufTy : (tb : Table) → Fin (tcTables nBuf tb) → BufTy
  | .hbm, ⟨0, _⟩ => ⟨S1x1, .f32⟩
  | .hbm, ⟨1, _⟩ => ⟨S2x704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x1, .f32⟩
  | .local _ .vmem, ⟨1, _⟩ => ⟨S1x352x1024, .f32⟩
  | .local _ .vmem, ⟨2, _⟩ => ⟨S1x352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x352x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AdamWIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWRefIdeal.lean ====
abbrev S1x1 : Shape := ⟨2, ![1, 1]⟩
abbrev S2x704x1024 : Shape := ⟨3, ![2, 704, 1024]⟩
abbrev S704x1024 : Shape := ⟨2, ![704, 1024]⟩
abbrev S_ : Shape := ⟨0, ![]⟩
abbrev S1x704x1024 : Shape := ⟨3, ![1, 704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S2x704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S2x704x1024, .f32⟩
  | .hbm, ⟨7, _⟩ => ⟨S2x704x1024, .f32⟩
  | .hbm, ⟨8, _⟩ => ⟨S_, .f32⟩
  | .hbm, ⟨9, _⟩ => ⟨S_, .f32⟩
  | .hbm, ⟨10, _⟩ => ⟨S_, .i1⟩
  | .hbm, ⟨11, _⟩ => ⟨S704x1024, .f32⟩
  | .hbm, ⟨12, _⟩ => ⟨S704x1024, .f32⟩
  | .hbm, ⟨13, _⟩ => ⟨S1x704x1024, .f32⟩
  | .hbm, ⟨14, _⟩ => ⟨S1x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== PutFz.lean ====
abbrev S4096x8320 : Shape := ⟨2, ![4096, 8320]⟩
abbrev S4096x16 : Shape := ⟨2, ![4096, 16]⟩
abbrev S_ : Shape := ⟨0, ![]⟩
abbrev S4096x128 : Shape := ⟨2, ![4096, 128]⟩
abbrev S512x128 : Shape := ⟨2, ![512, 128]⟩

abbrev nBuf : Space → Nat
  | .hbm => 8
  | .vmem => 4
  | .smem => 0
  | _ => 0

abbrev bufTy : (tb : Table) → Fin (tcTables nBuf tb) → BufTy
  | .hbm, ⟨0, _⟩ => ⟨S4096x8320, .f32⟩
  | .hbm, ⟨1, _⟩ => ⟨S4096x16, .f32⟩
  | .hbm, ⟨2, _⟩ => ⟨S4096x8320, .bf16⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S4096x8320, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | _, _ => ⟨S4096x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PutFzRefIdeal.lean ====
abbrev S4096x8320 : Shape := ⟨2, ![4096, 8320]⟩
abbrev S4096x16 : Shape := ⟨2, ![4096, 16]⟩
abbrev S4096x8192 : Shape := ⟨2, ![4096, 8192]⟩
abbrev S_ : Shape := ⟨0, ![]⟩
abbrev S4096x112 : Shape := ⟨2, ![4096, 112]⟩

abbrev nBuf : Space → Nat
  | .hbm => 7
  | .vmem => 0
  | .smem => 0
  | _ => 0

abbrev bufTy : (tb : Table) → Fin (tcTables nBuf tb) → BufTy
  | .hbm, ⟨0, _⟩ => ⟨S4096x8320, .f32⟩
  | .hbm, ⟨1, _⟩ => ⟨S4096x16, .f32⟩
  | .hbm, ⟨2, _⟩ => ⟨S4096x8192, .f32⟩
  | .hbm, ⟨3, _⟩ => ⟨S_, .f32⟩
  | .hbm, ⟨4, _⟩ => ⟨S4096x112, .f32⟩
  | .hbm, ⟨5, _⟩ => ⟨S4096x8320, .f32⟩
  | .hbm, ⟨6, _⟩ => ⟨S4096x8320, .bf16⟩
  | _, _ => ⟨S4096x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamS.lean ====
abbrev S2x16x128 : Shape := ⟨3, ![2, 16, 128]⟩
abbrev S1x16x128 : Shape := ⟨3, ![1, 16, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S2x16x128, .f32⟩
  | .hbm, ⟨5, _⟩ => ⟨S2x16x128, .f32⟩
  | .hbm, ⟨6, _⟩ => ⟨S2x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSRefIdeal.lean ====
abbrev S2x16x128 : Shape := ⟨3, ![2, 16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S_, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S2x16x128, .f32⟩
  | .hbm, ⟨9, _⟩ => ⟨S2x16x128, .f32⟩
  | .hbm, ⟨10, _⟩ => ⟨S2x16x128, .f32⟩
  | .hbm, ⟨11, _⟩ => ⟨S_, .f32⟩
  | .hbm, ⟨12, _⟩ => ⟨S2x16x128, .f32⟩
  | .hbm, ⟨13, _⟩ => ⟨S2x16x128, .f32⟩
  | .hbm, ⟨14, _⟩ => ⟨S2x16x128, .f32⟩
  | .hbm, ⟨15, _⟩ => ⟨S_, .f32⟩
  | .hbm, ⟨16, _⟩ => ⟨S2x16x128, .f32⟩
  | .hbm, ⟨17, _⟩ => ⟨S2x16x128, .f32⟩
  | .hbm, ⟨18, _⟩ => ⟨S2x16x128, .f32⟩
  | .hbm, ⟨19, _⟩ => ⟨S_, .f32⟩
  | .hbm, ⟨20, _⟩ => ⟨S2x16x128, .f32⟩
  | .hbm, ⟨21, _⟩ => ⟨S2x16x128, .f32⟩
  | .hbm, ⟨22, _⟩ => ⟨S_, .f32⟩
  | .hbm, ⟨23, _⟩ => ⟨S2x16x128, .f32⟩
  | .hbm, ⟨24, _⟩ => ⟨S2x16x128, .f32⟩
  | .hbm, ⟨25, _⟩ => ⟨S2x16x128, .f32⟩
  | .hbm, ⟨26, _⟩ => ⟨S_, .f32⟩
  | .hbm, ⟨27, _⟩ => ⟨S2x16x128, .f32⟩
  | .hbm, ⟨28, _⟩ => ⟨S2x16x128, .f32⟩
  | .hbm, ⟨29, _⟩ => ⟨S2x16x128, .f32⟩
  | .hbm, ⟨30, _⟩ => ⟨S_, .f32⟩
  | .hbm, ⟨31, _⟩ => ⟨S2x16x128, .f32⟩
  | .hbm, ⟨32, _⟩ => ⟨S2x16x128, .f32⟩
  | .hbm, ⟨33, _⟩ => ⟨S2x16x128, .f32⟩
  | .hbm, ⟨34, _⟩ => ⟨S_, .f32⟩
  | .hbm, ⟨35, _⟩ => ⟨S2x16x128, .f32⟩
  | .hbm, ⟨36, _⟩ => ⟨S2x16x128, .f32⟩
  | _, _ => ⟨S2x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Real values among the extended reals: closure of "is a real number" under the arithmetic the programs use, the
   coercion through sums, quotients, exponentials and reciprocal roots, and what a printed test of finiteness says
   of the elements of its operand. -/
module

public import Idealize.ShloMosaic.PureOps.Ideal.Laws
public import Idealize.ShloMosaic.Lib.IdealHost
public import Idealize.ShloMosaic.Lib.ReduceAll
public import Idealize.ShloMosaic.Lib.StableHlo

@[expose] public section

noncomputable section

namespace Cert.Reals

open Idealize.ShloMosaic

/-- The extended real is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals, taken among the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem isReal_sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A quotient of reals by a nonzero real. -/
theorem div_coe_coe (a : ℝ) {b : ℝ} (hb : b ≠ 0) : Ideal.div (a : EReal) (b : EReal) = ((a / b : ℝ) : EReal) := by
  rw [Ideal.div_coe hb, ← EReal.coe_mul, one_div, div_eq_mul_inv]

theorem exp_coe (a : ℝ) : Ideal.exp (a : EReal) = ((Real.exp a : ℝ) : EReal) := rfl

/-- The logistic function of a real. -/
theorem logistic_coe (a : ℝ) : Ideal.logistic (a : EReal) = ((1 / (1 + Real.exp (-a)) : ℝ) : EReal) := by
  rw [Ideal.logistic, ← EReal.coe_neg, exp_coe, ← EReal.coe_one, ← EReal.coe_add, div_coe_coe _ (by positivity)]

theorem isReal_logistic (x : EReal) : IsReal (Ideal.logistic x) := by
  induction x with
  | bot => exact ⟨0, by simp⟩
  | coe a => exact ⟨_, logistic_coe a⟩
  | top => exact ⟨1, by simp⟩

theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg ha.not_gt, if_neg ha.ne']

/-- An absolute value below `⊤` is that of a real. -/
theorem isReal_of_abs_lt_top {x : EReal} (h : max x (-x) < ⊤) : IsReal x := by
  induction x with
  | bot => simp at h
  | coe a => exact ⟨a, rfl⟩
  | top => simp at h

/-- The printed test of finiteness, at one element. -/
theorem isReal_of_test {s : Shape} (x : FVec Ideal s .f32) (inf : FVec Ideal s .f32) (hinf : ∀ i, inf i = (⊤ : EReal)) (i : s.Idx)
    (h : cmpf .olt (Host.absf x) inf i = 1#1) : IsReal (x i) := by
  refine isReal_of_abs_lt_top ?_
  by_contra hn
  have hc : cmpf .olt (Host.absf x) inf i = Ideal.cmp .olt (max (x i) (-(x i))) (inf i) := rfl
  rw [hc, hinf i] at h
  simp [Ideal.cmp, hn] at h

/-- A scalar conjunction of two tests is 1 only when both are. -/
theorem and_one {s : Shape} {a b : IVec s 1} {j : s.Idx} (h : andi a b j = 1#1) : a j = 1#1 ∧ b j = 1#1 :=
  IntOp.andi_eq_one.1 h

instance : Subsingleton (⟨0, ![]⟩ : Shape).Idx := ⟨fun a b => funext fun i => i.elim0⟩

/-- The printed test that every element of an array is finite, read at each element. -/
theorem isReal_of_all {s : Shape} {axes : List (Fin s.rank)} {x : FVec Ideal s .f32} {hb : (⟨0, ![]⟩ : Shape).BroadcastsInDim s (![] : Fin 0 → Fin s.rank)}
    {init : IVec ⟨0, ![]⟩ 1} {hr : s.ReducesTo axes ⟨0, ![]⟩} {hu : 0 < (⟨0, ![]⟩ : Shape).numel} {j : (⟨0, ![]⟩ : Shape).Idx}
    (h : Host.reduce IntOp.andi (cmpf .olt (Host.absf x) (broadcastInDim s ![] hb (constant (F := Ideal) ⟨0, ![]⟩ .f32 0x7F800000#32))) init hr hu j = 1#1)
    (i : s.Idx) : IsReal (x i) :=
  isReal_of_test x _ (fun _ => by show Ideal.ofBits .f32 0x7F800000#32 = ⊤; simp [Ideal.ofBits, Ideal.ieee]) i (Host.reduce_andi_all _ init hr hu j h i)

end Cert.Reals
-- ==== Proof.Ffn.lean ====
/- The value of the SwiGLU backward call: each of its two results, block by block, is the reference's element. -/
module

public import proofs.«01_k».proof.Defs
public import proofs.«01_k».proof.Proof.Gen.KernelIdeal.Value
public import proofs.«01_k».proof.Proof.Gen.ReferenceIdeal.Read
public import proofs.«01_k».proof.Proof.Gen.ReferenceIdeal.Run
public import proofs.«01_k».proof.Proof.Reals
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.SL.Sem
open Cert.KernelIdeal Cert.KernelIdeal.Gen Cert.Reals
open Cert.ReferenceIdeal (Read.val_main_v7 Read.val_main_v8)

/-! ## The scalar identities -/

/-- The gradient through `up * silu(gate)` at the gate: the kernel's factored form is the sum of the product rule. -/
theorem gate_grad (g d u : EReal) (hd : IsReal d) (hu : IsReal u) :
    d * u * Ideal.logistic g * (1 + g * (1 - Ideal.logistic g)) =
      d * u * Ideal.logistic g + g * (d * u) * (Ideal.logistic g * (1 - Ideal.logistic g)) := by
  obtain ⟨a, rfl⟩ := hd
  obtain ⟨b, rfl⟩ := hu
  induction g with
  | bot => simp
  | coe g =>
    rw [logistic_coe, ← EReal.coe_one]
    simp only [← EReal.coe_mul, ← EReal.coe_sub, ← EReal.coe_add]
    congr 1; ring
  | top =>
    have h : (1 : EReal) - 1 = 0 := by rw [← EReal.coe_one, ← EReal.coe_sub]; simp
    simp [h]

/-! ## Where the blocks lie -/

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-! ## The reference's results at an element -/

section
open Cert.ReferenceIdeal.Read

variable (x0 : (⟨S4096x1024, .f32⟩ : BufTy).Contents (Elt Ideal)) (x1 : (⟨S2816x1024, .f32⟩ : BufTy).Contents (Elt Ideal))
  (x2 x3 : (⟨S4096x2816, .f32⟩ : BufTy).Contents (Elt Ideal))

theorem ref7 (a : Fin 4096) (b : Fin 2816) :
    val_main_v7 (F := Ideal) x0 x1 x2 x3 (ix2 a b) =
      (∑ x : Fin 1024, (x0 (ix2 a x) : EReal) * x1 (ix2 b x)) * x3 (ix2 a b) * Ideal.logistic (x2 (ix2 a b))
        + x2 (ix2 a b) * ((∑ x : Fin 1024, (x0 (ix2 a x) : EReal) * x1 (ix2 b x)) * x3 (ix2 a b))
          * (Ideal.logistic (x2 (ix2 a b)) * (1 - Ideal.logistic (x2 (ix2 a b)))) := by
  pointwise [val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v3, val_main_v4, val_main_v5, val_main_call1_v0, val_main_call1_v1, val_main_call1_v2, val_main_v6, val_main_v7, val_main_v8, Ideal.logistic]

theorem ref8 (a : Fin 4096) (b : Fin 2816) :
    val_main_v8 (F := Ideal) x0 x1 x2 (ix2 a b) =
      x2 (ix2 a b) * Ideal.logistic (x2 (ix2 a b)) * ∑ x : Fin 1024, (x0 (ix2 a x) : EReal) * x1 (ix2 b x) := by
  pointwise [val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v3, val_main_v4, val_main_v5, val_main_call1_v0, val_main_call1_v1, val_main_call1_v2, val_main_v6, val_main_v7, val_main_v8, Ideal.logistic]

end

/-! ## The kernel's results, block by block -/

variable (m : (ℓ : Loc nD τ sig) → Buf (Elt Ideal) ℓ)

theorem final4 (c : Dev nD)
    (h0 : ∀ i, IsReal (m ((c : Thread nD τ).loc main_arg0) i))
    (h1 : ∀ i, IsReal (m ((c : Thread nD τ).loc main_arg1) i))
    (h3 : ∀ i, IsReal (m ((c : Thread nD τ).loc main_arg3) i)) :
    (dats m 0 c).arrAt 4 cfg0.N = Cert.ReferenceIdeal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  idx_vars y
  obtain ⟨e0, e1, e2, e3, e4, e5⟩ := idx t
  pointwise [k0_pay4, k0_pay3, k0_pay2, k0_pay1]
  generalize hi : (win0_4.blk t).view.emb (ix2 y0 y1) = i
  have b2 : iblk m c 2 t (ix2 y0 y1) = m ((c : Thread nD τ).loc main_arg2) i := by subst hi; blk_ext [iblk, V, e2, e4]
  have b3 : iblk m c 3 t (ix2 y0 y1) = m ((c : Thread nD τ).loc main_arg3) i := by subst hi; blk_ext [iblk, V, e3, e4]
  have b0 : ∀ x, iblk m c 0 t (ix2 y0 x) = m ((c : Thread nD τ).loc main_arg0) (ix2 (i 0) x) := by
    intro x; subst hi; blk_ext [iblk, V, e0, e4]
  have b1 : ∀ x, iblk m c 1 t (ix2 y1 x) = m ((c : Thread nD τ).loc main_arg1) (ix2 (i 1) x) := by
    intro x; subst hi; blk_ext [iblk, V, e1, e4]
  simp only [b0, b1, b2, b3]
  clear hi
  idx_vars i
  exact (gate_grad _ _ _ (isReal_sum fun x => (h0 _).mul (h1 _)) (h3 _)).trans (ref7 _ _ _ _ i0 i1).symm

theorem final5 (c : Dev nD) :
    (dats m 0 c).arrAt 5 cfg0.N = Cert.ReferenceIdeal.Read.val_main_v8 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  idx_vars y
  obtain ⟨e0, e1, e2, e3, e4, e5⟩ := idx t
  pointwise [k0_pay5, k0_pay3, k0_pay2, k0_pay1]
  generalize hi : (win0_5.blk t).view.emb (ix2 y0 y1) = i
  have b2 : iblk m c 2 t (ix2 y0 y1) = m ((c : Thread nD τ).loc main_arg2) i := by subst hi; blk_ext [iblk, V, e2, e5]
  have b0 : ∀ x, iblk m c 0 t (ix2 y0 x) = m ((c : Thread nD τ).loc main_arg0) (ix2 (i 0) x) := by
    intro x; subst hi; blk_ext [iblk, V, e0, e5]
  have b1 : ∀ x, iblk m c 1 t (ix2 y1 x) = m ((c : Thread nD τ).loc main_arg1) (ix2 (i 1) x) := by
    intro x; subst hi; blk_ext [iblk, V, e1, e5]
  simp only [b0, b1, b2]
  clear hi
  idx_vars i
  refine Eq.trans ?_ (ref8 _ _ _ i0 i1).symm
  rw [mul_assoc, mul_comm]

/-! ## The claim -/

/-- What the precondition says: every element of `dx2`, `w_down` and `up` is a real number. -/
theorem pre_reads [Cert.Pre_ffn_finite.Facts] (x0 : (⟨S4096x1024, .f32⟩ : BufTy).Contents (Elt Ideal)) (x1 : (⟨S2816x1024, .f32⟩ : BufTy).Contents (Elt Ideal))
    (x2 x3 : (⟨S4096x2816, .f32⟩ : BufTy).Contents (Elt Ideal)) (h : Cert.Pre_ffn_finite.fn (F := Ideal) x0 x1 x2 x3 = fun _ => 1#1) :
    (∀ i, IsReal (x0 i)) ∧ (∀ i, IsReal (x1 i)) ∧ (∀ i, IsReal (x3 i)) := by
  have h := congrFun h (Shape.Idx.first Cert.Pre_ffn_finite.Facts.h_S_)
  dsimp only [Cert.Pre_ffn_finite.fn] at h
  obtain ⟨h, e3⟩ := and_one h
  obtain ⟨e0, e1⟩ := and_one h
  exact ⟨isReal_of_all e0, isReal_of_all e1, isReal_of_all e3⟩

/-- The reference runs, leaves its arguments unchanged and declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic [Cert.Pre_ffn_finite.Facts] : Cert.algebraic_KernelIdeal_ReferenceIdeal_pre_ffn_finite := by
  intro m g m' g' hpre hag
  refine ⟨fun c => (dats m 0 c).arrAt 4 cfg0.N, fun c => (dats m 0 c).arrAt 5 cfg0.N, Cert.KernelIdeal.Value.run_blocks m g, ?_⟩
  refine (θ_run _ _ _).mono (fun r h c => ?_) (Cert.ReferenceIdeal.Value.run (F := Ideal) m' g')
  obtain ⟨h0, h1, h3⟩ := pre_reads _ _ _ _ (hpre c)
  obtain ⟨a0, a1, a2, a3⟩ := hag c
  obtain ⟨r0, r1, r2, r3, r4, r5⟩ := h c
  refine ⟨?_, ?_, r2, r3, r4, r5⟩
  · rw [r0, a0, a1, a2, a3]; exact (final4 m c h0 h1 h3).symm
  · rw [r1, a0, a1, a2]; exact (final5 m c).symm

end Cert.Ffn
-- ==== Proof.RowNorm.lean ====
/- The gradient of the root-mean-square norm of a row, among the extended reals: the form that factors the reciprocal
   root out is the form the chain rule writes, whatever the row and the incoming gradient hold, the infinities
   included. -/
module

public import proofs.«01_k».proof.Proof.Reals

@[expose] public section

noncomputable section

namespace Cert.Reals

open Idealize.ShloMosaic

/-! ## The constants -/

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The norm's small constant is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-! ## Sums -/

/-- A nonnegative real factor goes through a sum, whatever the terms. -/
theorem coe_mul_sum {ι : Type*} (s : Finset ι) (f : ι → EReal) {r : ℝ} (hr : 0 ≤ r) :
    (r : EReal) * ∑ i ∈ s, f i = ∑ i ∈ s, (r : EReal) * f i := by
  classical
  induction s using Finset.induction_on with
  | empty => simp
  | insert a s h ih =>
    rw [Finset.sum_insert h, Finset.sum_insert h,
      EReal.left_distrib_of_nonneg_of_ne_top (EReal.coe_nonneg.2 hr) (EReal.coe_ne_top r), ih]

/-- A sum of nonnegative terms one of which is `⊤` is `⊤`. -/
theorem sum_eq_top {ι : Type*} {s : Finset ι} {f : ι → EReal} (h : ∀ i, 0 ≤ f i) {k : ι} (hk : k ∈ s) (hf : f k = ⊤) :
    ∑ i ∈ s, f i = ⊤ :=
  top_unique (hf ▸ Finset.single_le_sum (fun i _ => h i) hk)

theorem mul_self_nonneg (x : EReal) : 0 ≤ x * x := by
  induction x with
  | bot => simp
  | coe a => rw [← EReal.coe_mul]; exact EReal.coe_nonneg.2 (_root_.mul_self_nonneg a)
  | top => simp

theorem isReal_or_sq_top (x : EReal) : IsReal x ∨ x * x = ⊤ := by
  induction x with
  | bot => right; simp
  | coe a => left; exact ⟨a, rfl⟩
  | top => right; simp

/-! ## The mean square of a row -/

/-- The mean square plus the small constant, of a row: `⊤` when an element is infinite, else a positive real. -/
theorem meanSq {n : ℕ} (x : Fin n → EReal) {C e : ℝ} (hC : 0 < C) (he : 0 < e) :
    (Ideal.div (∑ k, x k * x k) (C : EReal) + (e : EReal) = ⊤) ∨
      ((∀ k, IsReal (x k)) ∧ ∃ v : ℝ, 0 < v ∧ Ideal.div (∑ k, x k * x k) (C : EReal) + (e : EReal) = (v : EReal)) := by
  by_cases h : ∀ k, IsReal (x k)
  · right
    refine ⟨h, ?_⟩
    choose g hg using h
    refine ⟨(∑ k, g k * g k) / C + e, add_pos_of_nonneg_of_pos (div_nonneg (Finset.sum_nonneg fun k _ => _root_.mul_self_nonneg (g k)) hC.le) he, ?_⟩
    simp only [hg, ← EReal.coe_mul, ← coe_sum]
    rw [div_coe_coe _ hC.ne', ← EReal.coe_add]
  · left
    obtain ⟨k, hk⟩ := not_forall.1 h
    have hs := sum_eq_top (s := Finset.univ) (f := fun k => x k * x k) (fun i => mul_self_nonneg (x i)) (Finset.mem_univ k)
      ((isReal_or_sq_top (x k)).resolve_left hk)
    rw [hs, Ideal.div_coe hC.ne', EReal.top_mul_coe_of_pos (by positivity)]
    simp

theorem rsqrt_top : Ideal.rsqrt ⊤ = 0 := rfl

theorem div_zero_left (y : EReal) (hy : y ≠ 0) : Ideal.div 0 y = 0 := by
  simp [Ideal.div, hy]

/-- The gradient of the norm at one element of a row: `rs * (dn - (x rs) mean (dn (x rs)))` is the sum the chain rule
    writes, through the mean square's two equal factors and the derivative of the reciprocal root. -/
theorem norm_grad {n : ℕ} (x dn : Fin n → EReal) (j : Fin n) {C e : ℝ} (hC : 0 < C) (he : 0 < e) (ms rs t : EReal)
    (hms : ms = Ideal.div (∑ k, x k * x k) (C : EReal) + (e : EReal)) (hrs : rs = Ideal.rsqrt ms)
    (ht : t = Ideal.div ((∑ k, x k * dn k) * (((-(1 / 2) : ℝ) : EReal) * Ideal.div rs ms)) (C : EReal)) :
    rs * (dn j - x j * rs * Ideal.div (∑ k, dn k * (x k * rs)) (C : EReal)) = dn j * rs + (x j * t + t * x j) := by
  subst hrs ht
  rcases meanSq x hC he with h | ⟨hx, v, hv, h⟩
  · rw [← hms] at h
    rw [h, rsqrt_top, div_zero_left _ (by simp)]
    simp [div_zero_left _ (show (C : EReal) ≠ 0 by exact_mod_cast hC.ne')]
  · rw [← hms] at h
    choose g hg using hx
    rw [h, rsqrt_coe hv, div_coe_coe _ hv.ne']
    have hr : (0 : ℝ) < (Real.sqrt v)⁻¹ := inv_pos.2 (Real.sqrt_pos.2 hv)
    have hvr : (Real.sqrt v)⁻¹ / v = (Real.sqrt v)⁻¹ * ((Real.sqrt v)⁻¹ * (Real.sqrt v)⁻¹) := by
      rw [← mul_inv, Real.mul_self_sqrt hv.le]; rfl
    rw [hvr]
    generalize (Real.sqrt v)⁻¹ = r at hr
    have hS : ∑ k, dn k * (x k * (r : EReal)) = (r : EReal) * ∑ k, x k * dn k := by
      rw [coe_mul_sum _ _ hr.le]
      exact Finset.sum_congr rfl fun k _ => by rw [mul_comm, mul_comm (x k), mul_assoc]
    rw [hS]
    generalize ∑ k, x k * dn k = S
    rw [hg j, Ideal.div_coe hC.ne', Ideal.div_coe hC.ne', sub_eq_add_neg,
      EReal.left_distrib_of_nonneg_of_ne_top (EReal.coe_nonneg.2 hr.le) (EReal.coe_ne_top r), mul_comm (r : EReal) (dn j)]
    congr 1
    have h2 : ∀ y : EReal, y + y = ((2 : ℝ) : EReal) * y := fun y => by
      rw [show ((2 : ℝ) : EReal) = 1 + 1 by rw [← EReal.coe_one, ← EReal.coe_add]; norm_num,
        EReal.right_distrib_of_nonneg zero_le_one zero_le_one, one_mul]
    rw [mul_comm _ ((g j : ℝ) : EReal), h2, ← neg_mul]
    have e1 : (r : EReal) * (-((g j : EReal) * r) * ((r : EReal) * S * ((1 / C : ℝ) : EReal)))
        = ((r * -(g j * r) * r * (1 / C) : ℝ) : EReal) * S := by
      simp only [EReal.coe_mul, EReal.coe_neg]
      ac_rfl
    have e2 : ((2 : ℝ) : EReal) * ((g j : EReal) * (S * (((-(1 / 2) : ℝ) : EReal) * ((r * (r * r) : ℝ) : EReal)) * ((1 / C : ℝ) : EReal)))
        = ((2 * g j * -(1 / 2) * (r * (r * r)) * (1 / C) : ℝ) : EReal) * S := by
      simp only [EReal.coe_mul]
      ac_rfl
    rw [e1, e2]
    congr 2
    ring

end Cert.Reals
-- ==== Proof.Norm2.lean ====
module

public import proofs.«01_k».proof.Defs
public import proofs.«01_k».proof.Proof.Gen.Norm2BwdIdeal.Value
public import proofs.«01_k».proof.Proof.Gen.Norm2BwdRefIdeal.Read
public import proofs.«01_k».proof.Proof.Gen.Norm2BwdRefIdeal.Run
public import proofs.«01_k».proof.Proof.RowNorm
public import Idealize.ShloMosaic.Lib.Pipeline.ValueKit
public import Idealize.ShloMosaic.Lib.Pointwise

@[expose] public section

set_option maxRecDepth 16384

noncomputable section

namespace Cert.Norm2

open Idealize.ShloMosaic Idealize.ShloMosaic.TcCoe Idealize.SL.Sem
open Cert.Norm2BwdIdeal Cert.Norm2BwdIdeal.Gen Cert.Reals

/-! ## The gradient at an element, of the arrays -/

section

variable (x0 : (⟨S4096x2816, .f32⟩ : BufTy).Contents (Elt Ideal)) (x1 : (⟨S1024x2816, .f32⟩ : BufTy).Contents (Elt Ideal))
  (x2 : (⟨S4096x2816, .f32⟩ : BufTy).Contents (Elt Ideal)) (x3 : (⟨S1024x2816, .f32⟩ : BufTy).Contents (Elt Ideal))
  (x4 : (⟨S4096x1024, .f32⟩ : BufTy).Contents (Elt Ideal)) (x5 : (⟨S1024, .f32⟩ : BufTy).Contents (Elt Ideal))
  (x6 : (⟨S4096x1024, .f32⟩ : BufTy).Contents (Elt Ideal))

/-- The gradient of the norm's result: the two products, added. -/
def dh (a : Fin 4096) (b : Fin 1024) : EReal :=
  ∑ k : Fin 2816, (x0 (ix2 a k) : EReal) * x1 (ix2 b k) + ∑ k : Fin 2816, (x2 (ix2 a k) : EReal) * x3 (ix2 b k)

/-- The mean square of row `a` plus the small constant. -/
def ms (a : Fin 4096) : EReal :=
  Ideal.div (∑ k : Fin 1024, (x4 (ix2 a k) : EReal) * x4 (ix2 a k)) (Ideal.ofBits .f32 0x44800000#32) + Ideal.ofBits .f32 0x358637BD#32

/-- The gradient of the norm's operand, the reciprocal root factored out. -/
def dx (a : Fin 4096) (b : Fin 1024) : EReal :=
  x6 (ix2 a b) + Ideal.rsqrt (ms x4 a) * (dh x0 x1 x2 x3 a b * x5 (ix1 b)
    - x4 (ix2 a b) * Ideal.rsqrt (ms x4 a)
      * Ideal.div (∑ k : Fin 1024, dh x0 x1 x2 x3 a k * x5 (ix1 k) * (x4 (ix2 a k) * Ideal.rsqrt (ms x4 a))) (Ideal.ofBits .f32 0x44800000#32))

/-- Row `a`'s share of the weight's gradient at column `b`. -/
def dg (a : Fin 4096) (b : Fin 1024) : EReal :=
  dh x0 x1 x2 x3 a b * (x4 (ix2 a b) * Ideal.rsqrt (ms x4 a))

open Cert.Norm2BwdRefIdeal.Read

theorem ref41 (a : Fin 4096) (b : Fin 1024) : val_main_v41 (F := Ideal) x0 x1 x2 x3 x4 x5 x6 (ix2 a b) = dx x0 x1 x2 x3 x4 x5 x6 a b := by
  obtain ⟨e, he, hE⟩ := ofBits_eps
  have h := norm_grad (fun k => x4 (ix2 a k)) (fun k => dh x0 x1 x2 x3 a k * x5 (ix1 k)) b (by norm_num : (0 : ℝ) < 1024) he (ms x4 a) _ _
    (by rw [ms, ofBits_1024, hE]) rfl rfl
  rw [← ofBits_1024, ← ofBits_neg_half] at h
  rw [dx, h]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_v43, dh, ms]
  simp only [Fin.sum_univ_one, add_assoc, add_comm (∑ k : Fin 2816, (x2 (ix2 _ k) : EReal) * x3 (ix2 _ k))]

theorem ref42 (a : Fin 4096) (b : Fin 1024) : val_main_v42 (F := Ideal) x0 x1 x2 x3 x4 x5 x6 (ix2 a b) = dx x0 x1 x2 x3 x4 x5 x6 a b :=
  ref41 x0 x1 x2 x3 x4 x5 x6 a b

theorem ref43 (a : Fin 1) (b : Fin 1024) : val_main_v43 (F := Ideal) x0 x1 x2 x3 x4 (ix2 a b)
    = ∑ r : Fin 4096, dg x0 x1 x2 x3 x4 r b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_v43, dg, dh, ms]
  simp only [Fin.sum_univ_one, mul_comm, add_comm]

end

/-! ## The arguments -/

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
end

/-! ## The blocks -/

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

variable (m : (ℓ : Loc nD τ sig) → Buf (Elt Ideal) ℓ)

theorem row_lt (t : Fin cfg0.N) (y : Fin 256) : t.val * 256 + y.val < 4096 := by
  have := t.isLt; have : cfg0.N = 16 := N_0; omega

/-- The array's row that row `y` of point `t`'s blocks is. -/
def row (t : Fin cfg0.N) (y : Fin 256) : Fin 4096 := ⟨t.val * 256 + y.val, row_lt t y⟩

section
variable (c : Dev nD) (t : Fin cfg0.N)

theorem b0 (y : Fin 256) (k : Fin 2816) : iblk m c 0 t (ix2 y k) = (A0 m c) (ix2 (row t y) k) := by
  obtain ⟨e0, e1, e2, e3, e4, e5, e6, e7, e8, e9⟩ := idx t; blk_ext! [iblk, V, row, e0]
theorem b1 (k : Fin 2816) (b : Fin 1024) : iblk m c 1 t (ix2 k b) = (A1 m c) (ix2 b k) := by
  obtain ⟨e0, e1, e2, e3, e4, e5, e6, e7, e8, e9⟩ := idx t; blk_ext! [iblk, V, row, e1]
theorem b2 (y : Fin 256) (k : Fin 2816) : iblk m c 2 t (ix2 y k) = (A2 m c) (ix2 (row t y) k) := by
  obtain ⟨e0, e1, e2, e3, e4, e5, e6, e7, e8, e9⟩ := idx t; blk_ext! [iblk, V, row, e2]
theorem b3 (k : Fin 2816) (b : Fin 1024) : iblk m c 3 t (ix2 k b) = (A3 m c) (ix2 b k) := by
  obtain ⟨e0, e1, e2, e3, e4, e5, e6, e7, e8, e9⟩ := idx t; blk_ext! [iblk, V, row, e3]
theorem b4 (y : Fin 256) (k : Fin 1024) : iblk m c 4 t (ix2 y k) = (A4 m c) (ix2 (row t y) k) := by
  obtain ⟨e0, e1, e2, e3, e4, e5, e6, e7, e8, e9⟩ := idx t; blk_ext! [iblk, V, row, e4]
theorem b5 (z : Fin 1) (k : Fin 1024) : iblk m c 5 t (ix2 z k) = (A5 m c) (ix1 k) := by
  obtain ⟨e0, e1, e2, e3, e4, e5, e6, e7, e8, e9⟩ := idx t; blk_ext! [iblk, V, row, e5]
theorem b6 (y : Fin 256) (k : Fin 1024) : iblk m c 6 t (ix2 y k) = (A6 m c) (ix2 (row t y) k) := by
  obtain ⟨e0, e1, e2, e3, e4, e5, e6, e7, e8, e9⟩ := idx t; blk_ext! [iblk, V, row, e6]

/-- What every point leaves in the first output's block. -/
theorem out7 (y0 : Fin 256) (y1 : Fin 1024) :
    (outsAt0 m c t.val t.isLt).1 (ix2 y0 y1) = dx (A0 m c) (A1 m c) (A2 m c) (A3 m c) (A4 m c) (A5 m c) (A6 m c) (row t y0) y1 := by
  have hN := lt_of_lt_of_eq t.isLt N_0
  by_cases h0 : t.val % 16 = 0
  · rw [outsAt0_A m c t h0 (by omega)]
    frame_out
    pointwise [k0_pay1, k0_pay2, k0_pay3, k0_pay4, k0_pay5, k0_pay6, k0_pay7, k0_pay8]
    simp only [b0, b1, b2, b3, b4, b5, b6, dx, dh, ms]
  · rw [outsAt0_B m c t h0 (by omega)]
    frame_out
    pointwise [k0_pay1, k0_pay2, k0_pay3, k0_pay4, k0_pay5, k0_pay6, k0_pay7, k0_pay8]
    simp only [b0, b1, b2, b3, b4, b5, b6, dx, dh, ms]

/-- What every point leaves in the second output's block: the first's, narrowed. -/
theorem out8 (y0 : Fin 256) (y1 : Fin 1024) :
    (outsAt0 m c t.val t.isLt).2.1 (ix2 y0 y1) = dx (A0 m c) (A1 m c) (A2 m c) (A3 m c) (A4 m c) (A5 m c) (A6 m c) (row t y0) y1 := by
  have hN := lt_of_lt_of_eq t.isLt N_0
  by_cases h0 : t.val % 16 = 0
  · rw [outsAt0_A m c t h0 (by omega)]
    frame_out
    pointwise [k0_pay1, k0_pay2, k0_pay3, k0_pay4, k0_pay5, k0_pay6, k0_pay7, k0_pay8]
    simp only [b0, b1, b2, b3, b4, b5, b6, dx, dh, ms]
  · rw [outsAt0_B m c t h0 (by omega)]
    frame_out
    pointwise [k0_pay1, k0_pay2, k0_pay3, k0_pay4, k0_pay5, k0_pay6, k0_pay7, k0_pay8]
    simp only [b0, b1, b2, b3, b4, b5, b6, dx, dh, ms]

theorem final7 : (dats m 0 c).arrAt 7 cfg0.N = Cert.Norm2BwdRefIdeal.Read.val_main_v41 (F := Ideal) (A0 m c) (A1 m c) (A2 m c) (A3 m c) (A4 m c) (A5 m c) (A6 m c) := by
  refine (dats m 0 c).arrAt_eq_of_covers 7 _ (by decide +kernel) fun t hf y => ?_
  blk_simp
  rw [after0_7]
  idx_vars y
  refine (out7 m c t y0 y1).trans ((ref41 _ _ _ _ _ _ _ _ _).symm.trans (congrArg _ ?_))
  obtain ⟨e0, e1, e2, e3, e4, e5, e6, e7, e8, e9⟩ := idx t
  blk_ext [row, e7]

theorem final8 : (dats m 0 c).arrAt 8 cfg0.N = Cert.Norm2BwdRefIdeal.Read.val_main_v42 (F := Ideal) (A0 m c) (A1 m c) (A2 m c) (A3 m c) (A4 m c) (A5 m c) (A6 m c) := by
  refine (dats m 0 c).arrAt_eq_of_covers 8 _ (by decide +kernel) fun t hf y => ?_
  blk_simp
  rw [after0_8]
  idx_vars y
  refine (out8 m c t y0 y1).trans ((ref42 _ _ _ _ _ _ _ _ _).symm.trans (congrArg _ ?_))
  obtain ⟨e0, e1, e2, e3, e4, e5, e6, e7, e8, e9⟩ := idx t
  blk_ext [row, e8]

/-- One point's share of the weight's gradient. -/
def part (t : Fin cfg0.N) (y : S1x1024.Idx) : EReal :=
  ∑ r : Fin 256, dg (A0 m c) (A1 m c) (A2 m c) (A3 m c) (A4 m c) (row t r) (y 1)

theorem final9 : (dats m 0 c).arrAt 9 cfg0.N = Cert.Norm2BwdRefIdeal.Read.val_main_v43 (F := Ideal) (A0 m c) (A1 m c) (A2 m c) (A3 m c) (A4 m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => (0 : EReal)) (part m c)
    (fun t h j => by
      have hN := lt_of_lt_of_eq t.isLt N_0
      simp only [outsAt0_A m c t h (by omega)]
      frame_out
      idx_vars j
      pointwise [k0_pay1, k0_pay2, k0_pay3, k0_pay4, k0_pay5, k0_pay6, k0_pay7, k0_pay8, part]
      simp only [b0, b1, b2, b3, b4, b5, b6, dg, dh, ms])
    (fun t h j => by
      have hN := lt_of_lt_of_eq t.isLt N_0
      simp only [outsAt0_B m c t h (by omega)]
      frame_out
      idx_vars j
      pointwise [k0_pay1, k0_pay2, k0_pay3, k0_pay4, k0_pay5, k0_pay6, k0_pay7, k0_pay8, part]
      simp only [b0, b1, b2, b3, b4, b5, b6, dg, dh, ms])
    (le_of_eq N_0) t0_15 rfl j, zero_add]
  idx_vars j
  rw [ref43]
  simp only [part]
  exact Fin.sum_mul_add_congr fun t k h => rfl

end

/-! ## The claims -/

theorem frame_reference : Cert.quiescent_Norm2BwdRefIdeal := fun m ρ _ =>
  (θ_run Cert.Norm2BwdRefIdeal.defs _ _).mono (fun r h => ⟨fun c => (h c).2.2.2, sem_eq_zero_of_no_sems (by decide) r.2⟩)
    (Cert.Norm2BwdRefIdeal.Value.run (F := Ideal) m ρ)

theorem algebraic : Cert.algebraic_Norm2BwdIdeal_Norm2BwdRefIdeal := by
  intro m g m' g' _ hag
  refine ⟨fun c => (dats m 0 c).arrAt 7 cfg0.N, fun c => (dats m 0 c).arrAt 8 cfg0.N, fun c => (dats m 0 c).arrAt 9 cfg0.N,
    Cert.Norm2BwdIdeal.Value.run_blocks m g, ?_⟩
  refine (θ_run _ _ _).mono (fun r h c => ?_) (Cert.Norm2BwdRefIdeal.Value.run (F := Ideal) m' g')
  obtain ⟨a0, a1, a2, a3, a4, a5, a6⟩ := hag c
  obtain ⟨r0, r1, r2, r3⟩ := h c
  refine ⟨?_, ?_, ?_, r3⟩
  · rw [r0, Cert.Norm2BwdRefIdeal.Read.val_main_v41_eq, a0, a1, a2, a3, a4, a5, a6]; exact (final7 m c).symm
  · rw [r1, Cert.Norm2BwdRefIdeal.Read.val_main_v42_eq, a0, a1, a2, a3, a4, a5, a6]; exact (final8 m c).symm
  · rw [r2, a0, a1, a2, a3, a4]; exact (final9 m c).symm

end Cert.Norm2
-- ==== Proof.Norm1.lean ====
module

public import proofs.«01_k».proof.Defs
public import proofs.«01_k».proof.Proof.Gen.Norm1BwdIdeal.Value
public import proofs.«01_k».proof.Proof.Gen.Norm1BwdRefIdeal.Read
public import proofs.«01_k».proof.Proof.Gen.Norm1BwdRefIdeal.Run
public import proofs.«01_k».proof.Proof.RowNorm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Norm1

open Idealize.ShloMosaic Idealize.ShloMosaic.TcCoe Idealize.SL.Sem
open Cert.Norm1BwdIdeal Cert.Norm1BwdIdeal.Gen Cert.Reals

/-! ## The gradient at an element, of the arrays -/

section

variable (x0 : (⟨S4096x8208, .f32⟩ : BufTy).Contents (Elt Ideal)) (x1 : (⟨S1024x8208, .f32⟩ : BufTy).Contents (Elt Ideal))
  (x2 : (⟨S4096x1024, .f32⟩ : BufTy).Contents (Elt Ideal)) (x3 : (⟨S1024, .f32⟩ : BufTy).Contents (Elt Ideal))
  (x4 : (⟨S4096x1024, .f32⟩ : BufTy).Contents (Elt Ideal))

/-- The gradient of the norm's result. -/
def dh (a : Fin 4096) (b : Fin 1024) : EReal :=
  ∑ k : Fin 8208, (x0 (ix2 a k) : EReal) * x1 (ix2 b k)

/-- One term of that product. -/
def term (a : Fin 4096) (b : Fin 1024) (k : Fin 8208) : EReal := (x0 (ix2 a k) : EReal) * x1 (ix2 b k)

/-- The mean square of row `a` plus the small constant. -/
def ms (a : Fin 4096) : EReal :=
  Ideal.div (∑ k : Fin 1024, (x2 (ix2 a k) : EReal) * x2 (ix2 a k)) (Ideal.ofBits .f32 0x44800000#32) + Ideal.ofBits .f32 0x358637BD#32

/-- The gradient of the norm's operand, the reciprocal root factored out. -/
def dx (a : Fin 4096) (b : Fin 1024) : EReal :=
  x4 (ix2 a b) + Ideal.rsqrt (ms x2 a) * (dh x0 x1 a b * x3 (ix1 b)
    - x2 (ix2 a b) * Ideal.rsqrt (ms x2 a)
      * Ideal.div (∑ k : Fin 1024, dh x0 x1 a k * x3 (ix1 k) * (x2 (ix2 a k) * Ideal.rsqrt (ms x2 a))) (Ideal.ofBits .f32 0x44800000#32))

/-- Row `a`'s share of the weight's gradient at column `b`. -/
def dg (a : Fin 4096) (b : Fin 1024) : EReal :=
  dh x0 x1 a b * (x2 (ix2 a b) * Ideal.rsqrt (ms x2 a))

open Cert.Norm1BwdRefIdeal.Read

theorem ref38 (a : Fin 4096) (b : Fin 1024) : val_main_v38 (F := Ideal) x0 x1 x2 x3 x4 (ix2 a b) = dx x0 x1 x2 x3 x4 a b := by
  obtain ⟨e, he, hE⟩ := ofBits_eps
  have h := norm_grad (fun k => x2 (ix2 a k)) (fun k => dh x0 x1 a k * x3 (ix1 k)) b (by norm_num : (0 : ℝ) < 1024) he (ms x2 a) _ _
    (by rw [ms, ofBits_1024, hE]) rfl rfl
  rw [← ofBits_1024, ← ofBits_neg_half] at h
  rw [dx, h]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, dh, ms]
  simp only [Fin.sum_univ_one, add_assoc]

theorem ref39 (a : Fin 4096) (b : Fin 1024) : val_main_v39 (F := Ideal) x0 x1 x2 x3 x4 (ix2 a b) = dx x0 x1 x2 x3 x4 a b :=
  ref38 x0 x1 x2 x3 x4 a b

theorem ref40 (a : Fin 1) (b : Fin 1024) : val_main_v40 (F := Ideal) x0 x1 x2 (ix2 a b) = ∑ r : Fin 4096, dg x0 x1 x2 r b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, dg, dh, ms]
  simp only [Fin.sum_univ_one, mul_comm]

end

/-! ## The packed columns -/

/-- The packed columns: the gate's sixteen last, then zeros. -/
def pack (f : Fin 8208 → EReal) (k : Fin 8320) : EReal :=
  if h : k.val < 3072 then f ⟨k.val, by omega⟩ else
  if h : k.val < 8192 then f ⟨k.val + 16, by omega⟩ else
  if h : k.val < 8208 then f ⟨k.val - 5120, by omega⟩ else 0

theorem pack_mul (f g : Fin 8208 → EReal) (k : Fin 8320) : pack f k * pack g k = pack (fun k => f k * g k) k := by
  unfold pack
  split_ifs
  · rfl
  · rfl
  · rfl
  · exact mul_zero _

/-- Packing the columns leaves their sum. -/
theorem sum_pack (f : Fin 8208 → EReal) : ∑ k, pack f k = ∑ k, f k := by
  have h₁ : ∑ k, pack f k = ∑ i : Fin 3072, f ⟨i.val, by omega⟩
      + (∑ i : Fin 5120, f ⟨i.val + 3088, by omega⟩ + (∑ i : Fin 16, f ⟨i.val + 3072, by omega⟩ + 0)) := by
    refine (Fin.sum_univ_add (a := 3072) (b := 5248) (pack f)).trans (congrArg₂ _ ?_ ?_)
    · exact Finset.sum_congr rfl fun i _ => dif_pos i.isLt
    refine (Fin.sum_univ_add (a := 5120) (b := 128) fun i => pack f (Fin.natAdd 3072 i)).trans (congrArg₂ _ ?_ ?_)
    · refine Finset.sum_congr rfl fun i _ => ?_
      have := i.isLt
      simp only [pack, Fin.val_natAdd, Fin.val_castAdd]
      rw [dif_neg (by omega), dif_pos (by omega)]
      exact congrArg f (Fin.ext (by simp only; omega))
    refine (Fin.sum_univ_add (a := 16) (b := 112) fun i => pack f (Fin.natAdd 3072 (Fin.natAdd 5120 i))).trans (congrArg₂ _ ?_ ?_)
    · refine Finset.sum_congr rfl fun i _ => ?_
      have := i.isLt
      simp only [pack, Fin.val_natAdd, Fin.val_castAdd]
      rw [dif_neg (by omega), dif_neg (by omega), dif_pos (by omega)]
      exact congrArg f (Fin.ext (by simp only; omega))
    · refine Finset.sum_eq_zero fun i _ => ?_
      simp only [pack, Fin.val_natAdd]
      rw [dif_neg (by omega), dif_neg (by omega), dif_neg (by omega)]
  have h₂ : ∑ k, f k = ∑ i : Fin 3072, f ⟨i.val, by omega⟩
      + (∑ i : Fin 16, f ⟨i.val + 3072, by omega⟩ + ∑ i : Fin 5120, f ⟨i.val + 3088, by omega⟩) := by
    refine (Fin.sum_univ_add (a := 3072) (b := 5136) f).trans (congrArg₂ _ rfl ?_)
    refine (Fin.sum_univ_add (a := 16) (b := 5120) fun i => f (Fin.natAdd 3072 i)).trans (congrArg₂ _ ?_ ?_)
    · exact Finset.sum_congr rfl fun i _ => congrArg f (Fin.ext (by simp only [Fin.val_natAdd, Fin.val_castAdd]; omega))
    · exact Finset.sum_congr rfl fun i _ => congrArg f (Fin.ext (by simp only [Fin.val_natAdd]; omega))
  rw [h₁, h₂, add_zero, add_comm (∑ i : Fin 16, _)]

/-- The packed gradient, as the host operations build it. -/
def packed0 (x : (⟨S4096x8208, .f32⟩ : BufTy).Contents (Elt Ideal)) : (⟨S4096x8320, .bf16⟩ : BufTy).Contents (Elt Ideal) :=
  truncf (F := Ideal) .bf16 (concatenate S4096x8320 1 [⟨S4096x3072, (extractStridedSlice S4096x3072 ![0, 0] x slices_S4096x8208_S4096x3072_0_0 : (⟨S4096x3072, .f32⟩ : BufTy).Contents (Elt Ideal))⟩,
    ⟨S4096x5120, (extractStridedSlice S4096x5120 ![0, 3088] x slices_S4096x8208_S4096x5120_0_3088 : (⟨S4096x5120, .f32⟩ : BufTy).Contents (Elt Ideal))⟩,
    ⟨S4096x16, (extractStridedSlice S4096x16 ![0, 3072] x slices_S4096x8208_S4096x16_0_3072 : (⟨S4096x16, .f32⟩ : BufTy).Contents (Elt Ideal))⟩,
    ⟨S4096x112, (broadcastInDim S4096x112 ![] bcast_S_S4096x112 (constant (F := Ideal) S_ .f32 0x00000000#32) : (⟨S4096x112, .f32⟩ : BufTy).Contents (Elt Ideal))⟩]
    concatenates_S4096x3072_S4096x5120_S4096x16_S4096x112_S4096x8320_d1 : (⟨S4096x8320, .f32⟩ : BufTy).Contents (Elt Ideal)) bitsLt_bf16_f32

theorem packed0_apply (x : (⟨S4096x8208, .f32⟩ : BufTy).Contents (Elt Ideal)) (a : Fin 4096) (k : Fin 8320) :
    packed0 x (ix2 a k) = pack (fun k => x (ix2 a k)) k := by
  pointwise [packed0, pack]
  by_cases h1 : k.val < 3072
  · rw [dif_pos h1, dif_pos h1]
  rw [dif_neg h1, dif_neg h1]
  by_cases h2 : k.val < 8192
  · rw [dif_pos (show k.val - 3072 < 5120 by omega), dif_pos h2]
    exact congrArg (fun k => x (ix2 a k)) (Fin.ext (show 3088 + (k.val - 3072) = k.val + 16 by omega))
  rw [dif_neg (show ¬k.val - 3072 < 5120 by omega), dif_neg h2]
  by_cases h3 : k.val < 8208
  · rw [dif_pos (show k.val - 3072 - 5120 < 16 by omega), dif_pos h3]
    exact congrArg (fun k => x (ix2 a k)) (Fin.ext (show 3072 + (k.val - 3072 - 5120) = k.val - 5120 by omega))
  · rw [dif_neg (show ¬k.val - 3072 - 5120 < 16 by omega), dif_neg h3]

/-- The packed weight, as the host operations build it. -/
def packed1 (x : (⟨S1024x8208, .f32⟩ : BufTy).Contents (Elt Ideal)) : (⟨S8320x1024, .bf16⟩ : BufTy).Contents (Elt Ideal) :=
  truncf (F := Ideal) .bf16 (concatenate S8320x1024 0 [⟨S3072x1024, (extractStridedSlice S3072x1024 ![0, 0] (transpose S8208x1024 [1, 0] x transposes_S1024x8208_S8208x1024_1_0) slices_S8208x1024_S3072x1024_0_0 : (⟨S3072x1024, .f32⟩ : BufTy).Contents (Elt Ideal))⟩,
    ⟨S5120x1024, (extractStridedSlice S5120x1024 ![3088, 0] (transpose S8208x1024 [1, 0] x transposes_S1024x8208_S8208x1024_1_0) slices_S8208x1024_S5120x1024_3088_0 : (⟨S5120x1024, .f32⟩ : BufTy).Contents (Elt Ideal))⟩,
    ⟨S16x1024, (extractStridedSlice S16x1024 ![3072, 0] (transpose S8208x1024 [1, 0] x transposes_S1024x8208_S8208x1024_1_0) slices_S8208x1024_S16x1024_3072_0 : (⟨S16x1024, .f32⟩ : BufTy).Contents (Elt Ideal))⟩,
    ⟨S112x1024, (broadcastInDim S112x1024 ![] bcast_S_S112x1024 (constant (F := Ideal) S_ .f32 0x00000000#32) : (⟨S112x1024, .f32⟩ : BufTy).Contents (Elt Ideal))⟩]
    concatenates_S3072x1024_S5120x1024_S16x1024_S112x1024_S8320x1024_d0 : (⟨S8320x1024, .f32⟩ : BufTy).Contents (Elt Ideal)) bitsLt_bf16_f32

theorem packed1_apply (x : (⟨S1024x8208, .f32⟩ : BufTy).Contents (Elt Ideal)) (k : Fin 8320) (b : Fin 1024) :
    packed1 x (ix2 k b) = pack (fun k => x (ix2 b k)) k := by
  pointwise [packed1, pack]
  by_cases h1 : k.val < 3072
  · rw [dif_pos h1, dif_pos h1]
  rw [dif_neg h1, dif_neg h1]
  by_cases h2 : k.val < 8192
  · rw [dif_pos (show k.val - 3072 < 5120 by omega), dif_pos h2]
    exact congrArg (fun k => x (ix2 b k)) (Fin.ext (show 3088 + (k.val - 3072) = k.val + 16 by omega))
  rw [dif_neg (show ¬k.val - 3072 < 5120 by omega), dif_neg h2]
  by_cases h3 : k.val < 8208
  · rw [dif_pos (show k.val - 3072 - 5120 < 16 by omega), dif_pos h3]
    exact congrArg (fun k => x (ix2 b k)) (Fin.ext (show 3072 + (k.val - 3072 - 5120) = k.val - 5120 by omega))
  · rw [dif_neg (show ¬k.val - 3072 - 5120 < 16 by omega), dif_neg h3]

/-! ## The arguments and the blocks -/

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
end

theorem idx : ∀ t : Fin cfg0.N, win0_0.index t = ![t.val / 5, t.val % 5] ∧ win0_1.index t = ![t.val % 5, 0] ∧ win0_2.index t = ![t.val / 5, 0]
    ∧ win0_3.index t = ![0, 0] ∧ win0_4.index t = ![t.val / 5, 0] ∧ win0_5.index t = ![t.val / 5, 0] ∧ win0_6.index t = ![t.val / 5, 0]
    ∧ win0_7.index t = ![0, 0] :=
  (by decide +kernel : ∀ t : Fin grid0.N, _)

variable (m : (ℓ : Loc nD τ sig) → Buf (Elt Ideal) ℓ)

theorem row_lt (t : Fin cfg0.N) (y : Fin 512) : t.val / 5 * 512 + y.val < 4096 := by
  have := t.isLt; have : cfg0.N = 40 := N_0; omega

/-- The array's row that row `y` of point `t`'s blocks is. -/
def row (t : Fin cfg0.N) (y : Fin 512) : Fin 4096 := ⟨t.val / 5 * 512 + y.val, row_lt t y⟩

/-- The packed column that column `k` of point `t`'s block is. -/
def col (t : Fin cfg0.N) (k : Fin 1664) : Fin 8320 := ⟨t.val % 5 * 1664 + k.val, by omega⟩

variable (c : Dev nD) (t : Fin cfg0.N)

theorem V5 : V m c main_v5 = packed0 (A0 m c) := by dsimp only [V]; after_results_simp; rfl
theorem V12 : V m c main_v12 = packed1 (A1 m c) := by dsimp only [V]; after_results_simp; rfl

theorem b0 (y : Fin 512) (k : Fin 1664) : iblk m c 0 t (ix2 y k) = pack (fun k => A0 m c (ix2 (row t y) k)) (col t k) := by
  have h : iblk m c 0 t (ix2 y k) = V m c main_v5 (ix2 (row t y) (col t k)) := by
    obtain ⟨e0, e1, e2, e3, e4, e5, e6, e7⟩ := idx t; blk_ext [iblk, row, col, e0]
  rw [h, V5, packed0_apply]
theorem b1 (k : Fin 1664) (b : Fin 1024) : iblk m c 1 t (ix2 k b) = pack (fun k => A1 m c (ix2 b k)) (col t k) := by
  have h : iblk m c 1 t (ix2 k b) = V m c main_v12 (ix2 (col t k) b) := by
    obtain ⟨e0, e1, e2, e3, e4, e5, e6, e7⟩ := idx t; blk_ext [iblk, row, col, e1]
  rw [h, V12, packed1_apply]
theorem b2 (y : Fin 512) (k : Fin 1024) : iblk m c 2 t (ix2 y k) = A2 m c (ix2 (row t y) k) := by
  obtain ⟨e0, e1, e2, e3, e4, e5, e6, e7⟩ := idx t; blk_ext! [iblk, V, row, e2]
theorem b3 (z : Fin 1) (k : Fin 1024) : iblk m c 3 t (ix2 z k) = A3 m c (ix1 k) := by
  obtain ⟨e0, e1, e2, e3, e4, e5, e6, e7⟩ := idx t; blk_ext! [iblk, V, row, e3]
theorem b4 (y : Fin 512) (k : Fin 1024) : iblk m c 4 t (ix2 y k) = A4 m c (ix2 (row t y) k) := by
  obtain ⟨e0, e1, e2, e3, e4, e5, e6, e7⟩ := idx t; blk_ext! [iblk, V, row, e4]

/-! ## The accumulated product -/

/-- What point `t` adds to the accumulator. -/
def part (t : Fin cfg0.N) (y : S512x1024.Idx) : EReal :=
  ∑ k : Fin 1664, pack (fun k => A0 m c (ix2 (row t (y 0)) k)) (col t k) * pack (fun k => A1 m c (ix2 (y 1) k)) (col t k)

theorem acc_first (h0 : t.val % 5 = 0) (y : S512x1024.Idx) : (outsAt0 m c t.val t.isLt).2.2.2 y = 0 + part m c t y := by
  rw [outsAt0_A m c t (by omega) (by omega) (by omega)]
  frame_out
  idx_vars y
  pointwise [k0_pay1, k0_pay2, k0_pay3, k0_pay4, k0_pay5, k0_pay6, k0_pay7, k0_pay8, k0_pay9, part]
  simp only [b0, b1]

theorem acc_next (h0 : ¬t.val % 5 = 0) (y : S512x1024.Idx) : (outsAt0 m c t.val t.isLt).2.2.2 y
    = (outsAt0 m c (t.val - 1) (Nat.lt_of_le_of_lt (Nat.sub_le _ _) t.isLt)).2.2.2 y + part m c t y := by
  have hN := lt_of_lt_of_eq t.isLt N_0
  by_cases h1 : t.val % 5 = 4
  · by_cases h2 : t.val < 5
    · rw [outsAt0_C m c t (by omega) (by omega) (by omega) (by omega) (by omega)]
      frame_out
      rw [read_unread_whole]
      idx_vars y
      pointwise [k0_pay1, k0_pay2, k0_pay3, k0_pay4, k0_pay5, k0_pay6, k0_pay7, k0_pay8, k0_pay9, part]
      simp only [b0, b1]
    · rw [outsAt0_D m c t (by omega) (by omega) (by omega) (by omega) (by omega)]
      frame_out
      rw [read_unread_whole]
      idx_vars y
      pointwise [k0_pay1, k0_pay2, k0_pay3, k0_pay4, k0_pay5, k0_pay6, k0_pay7, k0_pay8, k0_pay9, part]
      simp only [b0, b1]
  · rw [outsAt0_B m c t (by omega) (by omega) (by omega)]
    frame_out
    rw [read_unread_whole]
    idx_vars y
    pointwise [k0_pay1, k0_pay2, k0_pay3, k0_pay4, k0_pay5, k0_pay6, k0_pay7, k0_pay8, k0_pay9, part]
    simp only [b0, b1]

/-- At the last point of a row block the accumulator holds the whole product. -/
theorem acc_last (h : t.val % 5 = 4) (y0 : Fin 512) (y1 : Fin 1024) :
    (outsAt0 m c t.val t.isLt).2.2.2 (ix2 y0 y1) = dh (A0 m c) (A1 m c) (row t y0) y1 := by
  have hN := lt_of_lt_of_eq t.isLt N_0
  rw [Pipeline.eq_sum_fin_of_reset_step_apply_of_flush (fun n h => (outsAt0 m c n h).2.2.2) 5 (fun _ => (0 : EReal)) (part m c)
    (fun t h y => acc_first m c t h y) (fun t h y => acc_next m c t h y) t h, zero_add, dh]
  refine Eq.trans ?_ (sum_pack _)
  simp only [part, pack_mul]
  refine Fin.sum_mul_add_congr fun s k h' => ?_
  have e : row ⟨5 * (t.val / 5) + s.val, by have := N_0; have : cfg0.N = 40 := N_0; omega⟩ y0 = row t y0 := Fin.ext (by simp only [row]; omega)
  have e' : col ⟨5 * (t.val / 5) + s.val, by have : cfg0.N = 40 := N_0; omega⟩ k = ⟨s.val * 1664 + k.val, h'⟩ := Fin.ext (by simp only [col]; omega)
  exact congrArg₂ (fun r k => pack (term (A0 m c) (A1 m c) r y1) k) e e'

/-! ## The outputs -/

theorem out5 (h : t.val % 5 = 4) (y0 : Fin 512) (y1 : Fin 1024) :
    (outsAt0 m c t.val t.isLt).1 (ix2 y0 y1) = dx (A0 m c) (A1 m c) (A2 m c) (A3 m c) (A4 m c) (row t y0) y1 := by
  have hN := lt_of_lt_of_eq t.isLt N_0
  have hd := fun y1 => (acc_next m c t (by omega) (ix2 y0 y1)).symm.trans (acc_last m c t h y0 y1)
  have e1 : ∀ y1 : Fin 1024, (ix2 y0 y1 : S512x1024.Idx) 1 = y1 := fun _ => rfl
  have e0 : ∀ y1 : Fin 1024, (ix2 y0 y1 : S512x1024.Idx) 0 = y0 := fun _ => rfl
  simp only [part, e0, e1] at hd
  by_cases h2 : t.val < 5
  · rw [outsAt0_C m c t (by omega) (by omega) (by omega) (by omega) (by omega)]
    frame_out
    pointwise [k0_pay1, k0_pay2, k0_pay3, k0_pay4, k0_pay5, k0_pay6, k0_pay7, k0_pay8, k0_pay9, read_unread_whole]
    simp only [b0, b1, b2, b3, b4, hd, dx, ms]
  · rw [outsAt0_D m c t (by omega) (by omega) (by omega) (by omega) (by omega)]
    frame_out
    pointwise [k0_pay1, k0_pay2, k0_pay3, k0_pay4, k0_pay5, k0_pay6, k0_pay7, k0_pay8, k0_pay9, read_unread_whole]
    simp only [b0, b1, b2, b3, b4, hd, dx, ms]

theorem out6 (h : t.val % 5 = 4) (y0 : Fin 512) (y1 : Fin 1024) :
    (outsAt0 m c t.val t.isLt).2.1 (ix2 y0 y1) = dx (A0 m c) (A1 m c) (A2 m c) (A3 m c) (A4 m c) (row t y0) y1 := by
  refine Eq.trans ?_ (out5 m c t h y0 y1)
  have hN := lt_of_lt_of_eq t.isLt N_0
  by_cases h2 : t.val < 5
  · rw [outsAt0_C m c t (by omega) (by omega) (by omega) (by omega) (by omega)]
    frame_out
    rfl
  · rw [outsAt0_D m c t (by omega) (by omega) (by omega) (by omega) (by omega)]
    frame_out
    rfl

theorem final5 : (dats m 0 c).arrAt 5 cfg0.N = Cert.Norm1BwdRefIdeal.Read.val_main_v38 (F := Ideal) (A0 m c) (A1 m c) (A2 m c) (A3 m c) (A4 m c) := by
  refine (dats m 0 c).arrAt_eq_of_covers 5 _ (by decide +kernel) fun t hf y => ?_
  blk_simp
  rw [after0_5]
  idx_vars y
  refine (out5 m c t ((flush0_5 t).mp hf) y0 y1).trans ((ref38 _ _ _ _ _ _ _).symm.trans (congrArg _ ?_))
  obtain ⟨e0, e1, e2, e3, e4, e5, e6, e7⟩ := idx t
  blk_ext [row, e5]

theorem final6 : (dats m 0 c).arrAt 6 cfg0.N = Cert.Norm1BwdRefIdeal.Read.val_main_v39 (F := Ideal) (A0 m c) (A1 m c) (A2 m c) (A3 m c) (A4 m c) := by
  refine (dats m 0 c).arrAt_eq_of_covers 6 _ (by decide +kernel) fun t hf y => ?_
  blk_simp
  rw [after0_6]
  idx_vars y
  refine (out6 m c t ((flush0_6 t).mp hf) y0 y1).trans ((ref39 _ _ _ _ _ _ _).symm.trans (congrArg _ ?_))
  obtain ⟨e0, e1, e2, e3, e4, e5, e6, e7⟩ := idx t
  blk_ext [row, e6]

/-- One row block's share of the weight's gradient. -/
def share (t : Fin cfg0.N) (y : S1x1024.Idx) : EReal :=
  ∑ r : Fin 512, dg (A0 m c) (A1 m c) (A2 m c) (row t r) (y 1)

theorem dg_skip (h : ¬t.val % 5 = 4) :
    (outsAt0 m c t.val t.isLt).2.2.1 = (outsAt0 m c (t.val - 1) (Nat.lt_of_le_of_lt (Nat.sub_le _ _) t.isLt)).2.2.1 := by
  by_cases h0 : t.val % 5 = 0
  · rw [outsAt0_A m c t (by omega) (by omega) (by omega)]; rfl
  · rw [outsAt0_B m c t (by omega) (by omega) (by omega)]; rfl

theorem dg_first (h : t.val = 4) (y : S1x1024.Idx) : (outsAt0 m c t.val t.isLt).2.2.1 y = 0 + share m c t y := by
  have hN := lt_of_lt_of_eq t.isLt N_0
  idx_vars y
  have hd := fun r => (acc_next m c t (by omega) (ix2 r y1)).symm.trans (acc_last m c t (by omega) r y1)
  have e1 : ∀ y0 : Fin 512, (ix2 y0 y1 : S512x1024.Idx) 1 = y1 := fun _ => rfl
  have e0 : ∀ y0 : Fin 512, (ix2 y0 y1 : S512x1024.Idx) 0 = y0 := fun _ => rfl
  simp only [part, e0, e1] at hd
  rw [outsAt0_C m c t (by omega) (by omega) (by omega) (by omega) (by omega)]
  frame_out
  pointwise [k0_pay1, k0_pay2, k0_pay3, k0_pay4, k0_pay5, k0_pay6, k0_pay7, k0_pay8, k0_pay9, read_unread_whole, share]
  simp only [b0, b1, b2, b3, b4, hd, dg, ms]

theorem dg_next (h : t.val % 5 = 4) (h2 : 5 ≤ t.val) (y : S1x1024.Idx) : (outsAt0 m c t.val t.isLt).2.2.1 y
    = (outsAt0 m c (t.val - 1) (Nat.lt_of_le_of_lt (Nat.sub_le _ _) t.isLt)).2.2.1 y + share m c t y := by
  have hN := lt_of_lt_of_eq t.isLt N_0
  idx_vars y
  have hd := fun r => (acc_next m c t (by omega) (ix2 r y1)).symm.trans (acc_last m c t (by omega) r y1)
  have e1 : ∀ y0 : Fin 512, (ix2 y0 y1 : S512x1024.Idx) 1 = y1 := fun _ => rfl
  have e0 : ∀ y0 : Fin 512, (ix2 y0 y1 : S512x1024.Idx) 0 = y0 := fun _ => rfl
  simp only [part, e0, e1] at hd
  rw [outsAt0_D m c t (by omega) (by omega) (by omega) (by omega) (by omega)]
  frame_out
  pointwise [k0_pay1, k0_pay2, k0_pay3, k0_pay4, k0_pay5, k0_pay6, k0_pay7, k0_pay8, k0_pay9, read_unread_whole, share]
  simp only [b0, b1, b2, b3, b4, hd, dg, ms]

theorem last_lt (q : ℕ) (h : q < 8) : 5 * q + 4 < cfg0.N := by have : cfg0.N = 40 := N_0; omega

theorem dg_step (q : ℕ) (h : q + 1 < 8) (y : S1x1024.Idx) : (outsAt0 m c (5 * (q + 1) + 4) (last_lt _ h)).2.2.1 y
    = (outsAt0 m c (5 * q + 4) (last_lt _ (by omega))).2.2.1 y + share m c ⟨5 * (q + 1) + 4, last_lt _ h⟩ y := by
  have hN : cfg0.N = 40 := N_0
  rw [dg_next m c ⟨5 * (q + 1) + 4, last_lt _ h⟩ (by simp only; omega) (by simp only; omega) y]
  refine congrArg (fun f : S1x1024.Idx → EReal => f y + _) ?_
  exact (dg_skip m c ⟨5 * (q + 1) + 3, by omega⟩ (by simp only; omega)).trans
    ((dg_skip m c ⟨5 * (q + 1) + 2, by omega⟩ (by simp only; omega)).trans
      ((dg_skip m c ⟨5 * (q + 1) + 1, by omega⟩ (by simp only; omega)).trans
        (dg_skip m c ⟨5 * (q + 1), by omega⟩ (by simp only; omega))))

/-- The last point. -/
def last : Fin cfg0.N := ⟨39, lt_of_lt_of_eq (by decide) N_0.symm⟩

theorem dg_sum (q : Fin 8) (h : q.val + 1 = 8) (y : S1x1024.Idx) : (outsAt0 m c (5 * q.val + 4) (last_lt _ q.isLt)).2.2.1 y
    = ∑ q : Fin 8, share m c ⟨5 * q.val + 4, last_lt _ q.isLt⟩ y := by
  rw [Pipeline.eq_sum_fin_of_reset_step_apply_last (N := 8) (fun n h => (outsAt0 m c (5 * n + 4) (last_lt n h)).2.2.1) 8 (fun _ => (0 : EReal))
    (fun q => share m c ⟨5 * q.val + 4, last_lt _ q.isLt⟩)
    (fun q h y => dg_first m c ⟨5 * q.val + 4, last_lt _ q.isLt⟩ (by simp only; omega) y)
    (fun q h y => by
      obtain ⟨_ | q, hq⟩ := q
      · exact absurd rfl h
      · exact dg_step m c q hq y)
    (le_refl 8) q h y, zero_add]

theorem outs_congr {n k : ℕ} (e : n = k) (hn : n < cfg0.N) (hk : k < cfg0.N) : outsAt0 m c n hn = outsAt0 m c k hk := by
  subst e; rfl

theorem final7 : (dats m 0 c).arrAt 7 cfg0.N = Cert.Norm1BwdRefIdeal.Read.val_main_v40 (F := Ideal) (A0 m c) (A1 m c) (A2 m c) := by
  refine (dats m 0 c).arrAt_eq_of_after_last 7 last (by decide +kernel) _ fun j => ?_
  blk_simp
  rw [after0_7, outs_congr m c (show last.val = 5 * (7 : Fin 8).val + 4 from rfl) last.isLt (last_lt _ (7 : Fin 8).isLt), dg_sum m c 7 rfl j]
  idx_vars j
  rw [ref40]
  simp only [share]
  refine Fin.sum_mul_add_congr fun q k h => ?_
  exact congrArg (fun r => dg (A0 m c) (A1 m c) (A2 m c) r j1) (Fin.ext (by simp only [row]; omega))

/-! ## The claims -/

theorem frame_reference : Cert.quiescent_Norm1BwdRefIdeal := fun m ρ _ =>
  (θ_run Cert.Norm1BwdRefIdeal.defs _ _).mono (fun r h => ⟨fun c => (h c).2.2.2, sem_eq_zero_of_no_sems (by decide) r.2⟩)
    (Cert.Norm1BwdRefIdeal.Value.run (F := Ideal) m ρ)

theorem algebraic : Cert.algebraic_Norm1BwdIdeal_Norm1BwdRefIdeal := by
  intro m g m' g' _ hag
  refine ⟨fun c => (dats m 0 c).arrAt 5 cfg0.N, fun c => (dats m 0 c).arrAt 6 cfg0.N, fun c => (dats m 0 c).arrAt 7 cfg0.N,
    Cert.Norm1BwdIdeal.Value.run_blocks m g, ?_⟩
  refine (θ_run _ _ _).mono (fun r h c => ?_) (Cert.Norm1BwdRefIdeal.Value.run (F := Ideal) m' g')
  obtain ⟨a0, a1, a2, a3, a4⟩ := hag c
  obtain ⟨r0, r1, r2, r3⟩ := h c
  refine ⟨?_, ?_, ?_, r3⟩
  · rw [r0, Cert.Norm1BwdRefIdeal.Read.val_main_v38_eq, a0, a1, a2, a3, a4]; exact (final5 m c).symm
  · rw [r1, Cert.Norm1BwdRefIdeal.Read.val_main_v39_eq, a0, a1, a2, a3, a4]; exact (final6 m c).symm
  · rw [r2, a0, a1, a2]; exact (final7 m c).symm

end Cert.Norm1
-- ==== Proof.Loss.lean ====
module

public import proofs.«01_k».proof.Defs
public import proofs.«01_k».proof.Proof.Gen.LossHeadIdeal.Value
public import proofs.«01_k».proof.Proof.Gen.LossHeadRefIdeal.Read
public import proofs.«01_k».proof.Proof.Gen.LossHeadRefIdeal.Run
public import proofs.«01_k».proof.Proof.RowNorm
public import Idealize.ShloMosaic.Lib.Pipeline.ValueKit
public import Idealize.ShloMosaic.Lib.Pointwise

@[expose] public section

set_option maxRecDepth 16384

noncomputable section

namespace Cert.Loss

open Idealize.ShloMosaic Idealize.ShloMosaic.TcCoe Idealize.SL.Sem
open Cert.LossHeadIdeal Cert.LossHeadIdeal.Gen Cert.Reals

/-! ## Constants -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv : Ideal.ofBits .f32 0x3A800000#32 = ((1 / 1024 : ℝ) : EReal) := by
  simp [Ideal.ofBits, Ideal.ieee, -EReal.coe_mul]; norm_num

/-- The reference halves, divides by the row length and doubles; the kernel multiplies by the reciprocal of the length. -/
theorem seed (e : EReal) : Ideal.div (Ideal.ofBits .f32 0x3F000000#32) (Ideal.ofBits .f32 0x44800000#32) * (Ideal.ofBits .f32 0x40000000#32 * e)
    = e * Ideal.ofBits .f32 0x3A800000#32 := by
  rw [ofBits_half, ofBits_two, ofBits_inv, ofBits_1024, div_coe_coe _ (by norm_num), ← mul_assoc, ← EReal.coe_mul, mul_comm]
  norm_num

/-! ## The gradient at an element, of the arrays -/

section

variable (x0 : (⟨S4096x1024, .f32⟩ : BufTy).Contents (Elt Ideal)) (x1 : (⟨S1024, .f32⟩ : BufTy).Contents (Elt Ideal))
  (x2 : (⟨S4096x1024, .f32⟩ : BufTy).Contents (Elt Ideal))

/-- The mean square of row `a` plus the small constant. -/
def ms (a : Fin 4096) : EReal :=
  Ideal.div (∑ k : Fin 1024, (x0 (ix2 a k) : EReal) * x0 (ix2 a k)) (Ideal.ofBits .f32 0x44800000#32) + Ideal.ofBits .f32 0x358637BD#32

/-- The difference between the normalised row and the target. -/
def err (a : Fin 4096) (b : Fin 1024) : EReal :=
  x0 (ix2 a b) * Ideal.rsqrt (ms x0 a) * x1 (ix1 b) - x2 (ix2 a b)

/-- Row `a`'s mean squared error. -/
def mse (a : Fin 4096) : EReal :=
  Ideal.div (∑ k : Fin 1024, err x0 x1 x2 a k * err x0 x1 x2 a k) (Ideal.ofBits .f32 0x44800000#32)

/-- The gradient of the norm's operand, the reciprocal root factored out. -/
def dx (a : Fin 4096) (b : Fin 1024) : EReal :=
  Ideal.rsqrt (ms x0 a) * (err x0 x1 x2 a b * Ideal.ofBits .f32 0x3A800000#32 * x1 (ix1 b)
    - x0 (ix2 a b) * Ideal.rsqrt (ms x0 a)
      * Ideal.div (∑ k : Fin 1024, err x0 x1 x2 a k * Ideal.ofBits .f32 0x3A800000#32 * x1 (ix1 k) * (x0 (ix2 a k) * Ideal.rsqrt (ms x0 a)))
          (Ideal.ofBits .f32 0x44800000#32))

/-- Row `a`'s share of the weight's gradient at column `b`. -/
def dg (a : Fin 4096) (b : Fin 1024) : EReal :=
  err x0 x1 x2 a b * Ideal.ofBits .f32 0x3A800000#32 * (x0 (ix2 a b) * Ideal.rsqrt (ms x0 a))

open Cert.LossHeadRefIdeal.Read

theorem ref51 (a b : Fin 1) : val_main_v51 (F := Ideal) x0 x1 x2 (ix2 a b)
    = Ideal.ofBits .f32 0x3F000000#32 * ∑ r : Fin 4096, mse x0 x1 x2 r := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53, mse, err, ms]

theorem ref50 (a : Fin 4096) (b : Fin 1024) : val_main_v50 (F := Ideal) x0 x1 x2 (ix2 a b) = dx x0 x1 x2 a b := by
  obtain ⟨e, he, hE⟩ := ofBits_eps
  have h := norm_grad (fun k => x0 (ix2 a k)) (fun k => err x0 x1 x2 a k * Ideal.ofBits .f32 0x3A800000#32 * x1 (ix1 k)) b
    (by norm_num : (0 : ℝ) < 1024) he (ms x0 a) _ _ (by rw [ms, ofBits_1024, hE]) rfl rfl
  rw [← ofBits_1024, ← ofBits_neg_half] at h
  rw [dx, h]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53, err, ms]
  simp only [seed, Fin.sum_univ_one, add_assoc]

theorem ref52 (a : Fin 4096) (b : Fin 1024) : val_main_v52 (F := Ideal) x0 x1 x2 (ix2 a b) = dx x0 x1 x2 a b :=
  ref50 x0 x1 x2 a b

theorem ref53 (a : Fin 1) (b : Fin 1024) : val_main_v53 (F := Ideal) x0 x1 x2 (ix2 a b) = ∑ r : Fin 4096, dg x0 x1 x2 r b := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53, dg, err, ms]
  simp only [seed, Fin.sum_univ_one, mul_comm (_ * Ideal.rsqrt _) (_ * Ideal.ofBits .f32 0x3A800000#32)]

end

/-! ## The arguments and the blocks -/

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
end

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

theorem row_lt (t : Fin cfg0.N) (y : Fin 512) : t.val * 512 + y.val < 4096 := by
  have := t.isLt; have : cfg0.N = 8 := N_0; omega

/-- The array's row that row `y` of point `t`'s blocks is. -/
def row (t : Fin cfg0.N) (y : Fin 512) : Fin 4096 := ⟨t.val * 512 + y.val, row_lt t y⟩

variable (c : Dev nD) (t : Fin cfg0.N)

theorem b0 (y : Fin 512) (k : Fin 1024) : iblk m c 0 t (ix2 y k) = A0 m c (ix2 (row t y) k) := by
  obtain ⟨e0, e1, e2, e3, e4, e5, e6⟩ := idx t; blk_ext! [iblk, V, row, e0]
theorem b1 (z : Fin 1) (k : Fin 1024) : iblk m c 1 t (ix2 z k) = A1 m c (ix1 k) := by
  obtain ⟨e0, e1, e2, e3, e4, e5, e6⟩ := idx t; blk_ext! [iblk, V, row, e1]
theorem b2 (y : Fin 512) (k : Fin 1024) : iblk m c 2 t (ix2 y k) = A2 m c (ix2 (row t y) k) := by
  obtain ⟨e0, e1, e2, e3, e4, e5, e6⟩ := idx t; blk_ext! [iblk, V, row, e2]

/-! ## The outputs -/

theorem out4 (y0 : Fin 512) (y1 : Fin 1024) :
    (outsAt0 m c t.val t.isLt).2.1 (ix2 y0 y1) = dx (A0 m c) (A1 m c) (A2 m c) (row t y0) y1 := by
  have hN := lt_of_lt_of_eq t.isLt N_0
  by_cases h0 : t.val % 8 = 0
  · rw [outsAt0_A m c t h0 (by omega)]
    frame_out
    pointwise [k0_pay1, k0_pay2, k0_pay3, k0_pay4, k0_pay5, k0_pay6, k0_pay7, k0_pay8, k0_pay9, k0_pay10, k0_pay11]
    simp only [b0, b1, b2, dx, err, ms]
  · rw [outsAt0_B m c t h0 (by omega)]
    frame_out
    pointwise [k0_pay1, k0_pay2, k0_pay3, k0_pay4, k0_pay5, k0_pay6, k0_pay7, k0_pay8, k0_pay9, k0_pay10, k0_pay11]
    simp only [b0, b1, b2, dx, err, ms]

theorem out5 (y0 : Fin 512) (y1 : Fin 1024) :
    (outsAt0 m c t.val t.isLt).2.2.1 (ix2 y0 y1) = dx (A0 m c) (A1 m c) (A2 m c) (row t y0) y1 := by
  refine Eq.trans ?_ (out4 m c t y0 y1)
  have hN := lt_of_lt_of_eq t.isLt N_0
  by_cases h0 : t.val % 8 = 0
  · rw [outsAt0_A m c t h0 (by omega)]
    frame_out
    rfl
  · rw [outsAt0_B m c t h0 (by omega)]
    frame_out
    rfl

theorem final4 : (dats m 0 c).arrAt 4 cfg0.N = Cert.LossHeadRefIdeal.Read.val_main_v50 (F := Ideal) (A0 m c) (A1 m c) (A2 m c) := by
  refine (dats m 0 c).arrAt_eq_of_covers 4 _ (by decide +kernel) fun t hf y => ?_
  blk_simp
  rw [after0_4]
  idx_vars y
  refine (out4 m c t y0 y1).trans ((ref50 _ _ _ _ _).symm.trans (congrArg _ ?_))
  obtain ⟨e0, e1, e2, e3, e4, e5, e6⟩ := idx t
  blk_ext [row, e4]

theorem final5 : (dats m 0 c).arrAt 5 cfg0.N = Cert.LossHeadRefIdeal.Read.val_main_v52 (F := Ideal) (A0 m c) (A1 m c) (A2 m c) := by
  refine (dats m 0 c).arrAt_eq_of_covers 5 _ (by decide +kernel) fun t hf y => ?_
  blk_simp
  rw [after0_5]
  idx_vars y
  refine (out5 m c t y0 y1).trans ((ref52 _ _ _ _ _).symm.trans (congrArg _ ?_))
  obtain ⟨e0, e1, e2, e3, e4, e5, e6⟩ := idx t
  blk_ext [row, e5]

/-- One row block's share of the weight's gradient. -/
def share (t : Fin cfg0.N) (y : S1x1024.Idx) : EReal :=
  ∑ r : Fin 512, dg (A0 m c) (A1 m c) (A2 m c) (row t r) (y 1)

theorem final6 : (dats m 0 c).arrAt 6 cfg0.N = Cert.LossHeadRefIdeal.Read.val_main_v53 (F := Ideal) (A0 m c) (A1 m c) (A2 m c) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => (0 : EReal)) (share m c)
    (fun t h j => by
      have hN := lt_of_lt_of_eq t.isLt N_0
      simp only [outsAt0_A m c t h (by omega)]
      frame_out
      idx_vars j
      pointwise [k0_pay1, k0_pay2, k0_pay3, k0_pay4, k0_pay5, k0_pay6, k0_pay7, k0_pay8, k0_pay9, k0_pay10, k0_pay11, share]
      simp only [b0, b1, b2, dg, err, ms])
    (fun t h j => by
      have hN := lt_of_lt_of_eq t.isLt N_0
      simp only [outsAt0_B m c t h (by omega)]
      frame_out
      idx_vars j
      pointwise [k0_pay1, k0_pay2, k0_pay3, k0_pay4, k0_pay5, k0_pay6, k0_pay7, k0_pay8, k0_pay9, k0_pay10, k0_pay11, share]
      simp only [b0, b1, b2, dg, err, ms])
    (le_of_eq N_0) t0_7 rfl j, zero_add]
  idx_vars j
  rw [ref53]
  simp only [share]
  exact Fin.sum_mul_add_congr fun t k h => rfl

/-- One row block's share of the loss. -/
def lshare (t : Fin cfg0.N) (_ : S1x1.Idx) : EReal :=
  Ideal.ofBits .f32 0x3F000000#32 * ∑ r : Fin 512, mse (A0 m c) (A1 m c) (A2 m c) (row t r)

theorem final3 : (dats m 0 c).arrAt 3 cfg0.N = Cert.LossHeadRefIdeal.Read.val_main_v51 (F := Ideal) (A0 m c) (A1 m c) (A2 m c) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => (0 : EReal)) (lshare m c)
    (fun t h j => by
      have hN := lt_of_lt_of_eq t.isLt N_0
      simp only [outsAt0_A m c t h (by omega)]
      frame_out
      idx_vars j
      pointwise [k0_pay1, k0_pay2, k0_pay3, k0_pay4, k0_pay5, k0_pay6, k0_pay7, k0_pay8, k0_pay9, k0_pay10, k0_pay11, lshare]
      simp only [b0, b1, b2, mse, err, ms])
    (fun t h j => by
      have hN := lt_of_lt_of_eq t.isLt N_0
      simp only [outsAt0_B m c t h (by omega)]
      frame_out
      idx_vars j
      pointwise [k0_pay1, k0_pay2, k0_pay3, k0_pay4, k0_pay5, k0_pay6, k0_pay7, k0_pay8, k0_pay9, k0_pay10, k0_pay11, lshare]
      simp only [b0, b1, b2, mse, err, ms])
    (le_of_eq N_0) t0_7 rfl j, zero_add]
  idx_vars j
  rw [ref51]
  simp only [lshare]
  rw [ofBits_half, ← coe_mul_sum _ _ (by norm_num)]
  exact congrArg _ (Fin.sum_mul_add_congr fun t k h => rfl)

/-! ## The claims -/

theorem frame_reference : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

theorem algebraic : Cert.algebraic_LossHeadIdeal_LossHeadRefIdeal := by
  intro m g m' g' _ hag
  refine ⟨fun c => (dats m 0 c).arrAt 3 cfg0.N, fun c => (dats m 0 c).arrAt 4 cfg0.N, fun c => (dats m 0 c).arrAt 5 cfg0.N,
    fun c => (dats m 0 c).arrAt 6 cfg0.N, Cert.LossHeadIdeal.Value.run_blocks m g, ?_⟩
  refine (θ_run _ _ _).mono (fun r h c => ?_) (Cert.LossHeadRefIdeal.Value.run (F := Ideal) m' g')
  obtain ⟨a0, a1, a2⟩ := hag c
  obtain ⟨r0, r1, r2, r3, r4⟩ := h c
  refine ⟨?_, ?_, ?_, ?_, r4⟩
  · rw [r0, a0, a1, a2]; exact (final3 m c).symm
  · rw [r1, Cert.LossHeadRefIdeal.Read.val_main_v50_eq, a0, a1, a2]; exact (final4 m c).symm
  · rw [r2, Cert.LossHeadRefIdeal.Read.val_main_v52_eq, a0, a1, a2]; exact (final5 m c).symm
  · rw [r3, a0, a1, a2]; exact (final6 m c).symm

end Cert.Loss
-- ==== Proof.Mix.lean ====
module

public import proofs.«01_k».proof.Defs
public import proofs.«01_k».proof.Proof.Gen.MixBwdIdeal.Value
public import proofs.«01_k».proof.Proof.Gen.MixBwdRefIdeal.Read
public import proofs.«01_k».proof.Proof.Gen.MixBwdRefIdeal.Run
public import proofs.«01_k».proof.Proof.Gen.On_on_gates
public import proofs.«01_k».proof.Proof.Reals
public import Idealize.ShloMosaic.Lib.Pipeline.ValueKit
public import Idealize.ShloMosaic.Lib.Pointwise
public import Idealize.ShloMosaic.Lib.StableHlo.Predicate

@[expose] public section

set_option maxRecDepth 16384

noncomputable section

namespace Cert.Mix

open Idealize.ShloMosaic Idealize.ShloMosaic.TcCoe Idealize.SL.Sem
open Cert.MixBwdIdeal Cert.MixBwdIdeal.Gen Cert.Reals

/-! ## The packed projection -/

/-- The packed columns: the gate's sixteen last, then zeros. -/
def pack (f : Fin 8208 → EReal) (k : Fin 8320) : EReal :=
  if h : k.val < 3072 then f ⟨k.val, by omega⟩ else
  if h : k.val < 8192 then f ⟨k.val + 16, by omega⟩ else
  if h : k.val < 8208 then f ⟨k.val - 5120, by omega⟩ else 0

/-- The packed projection, as the host operations build it. -/
def packed0 (x : (⟨S4096x8208, .f32⟩ : BufTy).Contents (Elt Ideal)) : (⟨S4096x8320, .bf16⟩ : BufTy).Contents (Elt Ideal) :=
  truncf (F := Ideal) .bf16 (concatenate S4096x8320 1 [⟨S4096x3072, (extractStridedSlice S4096x3072 ![0, 0] x slices_S4096x8208_S4096x3072_0_0 : (⟨S4096x3072, .f32⟩ : BufTy).Contents (Elt Ideal))⟩,
    ⟨S4096x5120, (extractStridedSlice S4096x5120 ![0, 3088] x slices_S4096x8208_S4096x5120_0_3088 : (⟨S4096x5120, .f32⟩ : BufTy).Contents (Elt Ideal))⟩,
    ⟨S4096x16, (extractStridedSlice S4096x16 ![0, 3072] x slices_S4096x8208_S4096x16_0_3072 : (⟨S4096x16, .f32⟩ : BufTy).Contents (Elt Ideal))⟩,
    ⟨S4096x112, (broadcastInDim S4096x112 ![] bcast_S_S4096x112 (constant (F := Ideal) S_ .f32 0x00000000#32) : (⟨S4096x112, .f32⟩ : BufTy).Contents (Elt Ideal))⟩]
    concatenates_S4096x3072_S4096x5120_S4096x16_S4096x112_S4096x8320_d1 : (⟨S4096x8320, .f32⟩ : BufTy).Contents (Elt Ideal)) bitsLt_bf16_f32

theorem packed0_apply (x : (⟨S4096x8208, .f32⟩ : BufTy).Contents (Elt Ideal)) (a : Fin 4096) (k : Fin 8320) :
    packed0 x (ix2 a k) = pack (fun k => x (ix2 a k)) k := by
  pointwise [packed0, pack]
  by_cases h1 : k.val < 3072
  · rw [dif_pos h1, dif_pos h1]
  rw [dif_neg h1, dif_neg h1]
  by_cases h2 : k.val < 8192
  · rw [dif_pos (show k.val - 3072 < 5120 by omega), dif_pos h2]
    exact congrArg (fun k => x (ix2 a k)) (Fin.ext (show 3088 + (k.val - 3072) = k.val + 16 by omega))
  rw [dif_neg (show ¬k.val - 3072 < 5120 by omega), dif_neg h2]
  by_cases h3 : k.val < 8208
  · rw [dif_pos (show k.val - 3072 - 5120 < 16 by omega), dif_pos h3]
    exact congrArg (fun k => x (ix2 a k)) (Fin.ext (show 3072 + (k.val - 3072 - 5120) = k.val - 5120 by omega))
  · rw [dif_neg (show ¬k.val - 3072 - 5120 < 16 by omega), dif_neg h3]

/-! ## The gradients at an element, of the arrays -/

section

variable (x0 : (⟨S4096x1024, .f32⟩ : BufTy).Contents (Elt Ideal)) (x1 : (⟨S4096x8208, .f32⟩ : BufTy).Contents (Elt Ideal))
  (x2 x3 : (⟨S4096x1024, .f32⟩ : BufTy).Contents (Elt Ideal)) (x4 x5 x6 : (⟨S1024x1024, .f32⟩ : BufTy).Contents (Elt Ideal))

/-- A branch's projection back to the model width. -/
def proj (x : (⟨S4096x1024, .f32⟩ : BufTy).Contents (Elt Ideal)) (w : (⟨S1024x1024, .f32⟩ : BufTy).Contents (Elt Ideal)) (a : Fin 4096) (b : Fin 1024) : EReal :=
  ∑ l : Fin 1024, (x (ix2 a l) : EReal) * w (ix2 l b)

open Cert.MixBwdRefIdeal.Read

/-- The gradient of the merged branches. -/
def dm (a : Fin 4096) (b : Fin 1024) : EReal := ∑ l : Fin 1024, (x0 (ix2 a l) : EReal) * x6 (ix2 b l)

/-- The two gates. -/
def ga (a : Fin 4096) (b : Fin 1024) : EReal := Ideal.logistic (x1 (ix2 a ⟨6160 + b.val, by omega⟩))
def gb (a : Fin 4096) (b : Fin 1024) : EReal := Ideal.logistic (x1 (ix2 a ⟨7184 + b.val, by omega⟩))

theorem ref38 (a : Fin 4096) (b : Fin 1024) : val_main_v38 (F := Ideal) x0 x1 x6 (ix2 a b) = dm x0 x6 a b * ga x1 a b := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_v32, val_main_v33, val_main_v34, val_main_cst_5, val_main_v35, val_main_cst_6, val_main_v36, val_main_v37, val_main_v38, val_main_v39, val_main_v40, val_main_v41, val_main_v42, dm, ga, Ideal.logistic]
  exact mul_comm _ _

theorem ref39 (a : Fin 4096) (b : Fin 1024) : val_main_v39 (F := Ideal) x0 x1 x6 (ix2 a b) = dm x0 x6 a b * gb x1 a b := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_v32, val_main_v33, val_main_v34, val_main_cst_5, val_main_v35, val_main_cst_6, val_main_v36, val_main_v37, val_main_v38, val_main_v39, val_main_v40, val_main_v41, val_main_v42, dm, gb, Ideal.logistic]
  exact mul_comm _ _

theorem ref40 (a : Fin 4096) (b : Fin 1024) : val_main_v40 (F := Ideal) x0 x1 x5 x6 (ix2 a b)
    = ∑ l : Fin 1024, dm x0 x6 a l * gb x1 a l * x5 (ix2 b l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_v32, val_main_v33, val_main_v34, val_main_cst_5, val_main_v35, val_main_cst_6, val_main_v36, val_main_v37, val_main_v38, val_main_v39, val_main_v40, val_main_v41, val_main_v42, dm, gb, Ideal.logistic]
  exact Finset.sum_congr rfl fun x _ => by rw [mul_comm (Ideal.div 1 _)]

theorem ref41 (a : Fin 4096) (b : Fin 1024) : val_main_v41 (F := Ideal) x0 x1 x4 x6 (ix2 a b)
    = ∑ l : Fin 1024, dm x0 x6 a l * ga x1 a l * x4 (ix2 b l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_v32, val_main_v33, val_main_v34, val_main_cst_5, val_main_v35, val_main_cst_6, val_main_v36, val_main_v37, val_main_v38, val_main_v39, val_main_v40, val_main_v41, val_main_v42, dm, ga, Ideal.logistic]
  exact Finset.sum_congr rfl fun x _ => by rw [mul_comm (Ideal.div 1 _)]

theorem ref42a (a : Fin 4096) (b : Fin 8320) (b' : Fin 1024) (h : b.val = 6144 + b'.val) : val_main_v42 (F := Ideal) x0 x1 x2 x3 x4 x5 x6 (ix2 a b)
    = dm x0 x6 a b' * proj x2 x4 a b' * ga x1 a b' * (1 - ga x1 a b') := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_v32, val_main_v33, val_main_v34, val_main_cst_5, val_main_v35, val_main_cst_6, val_main_v36, val_main_v37, val_main_v38, val_main_v39, val_main_v40, val_main_v41, val_main_v42, dm, ga, proj, Ideal.logistic]
  obtain ⟨b, hb⟩ := b
  obtain rfl : b = 6144 + b'.val := h
  rw [dif_neg (by simp), dif_pos (by simp)]
  simp only [Nat.add_sub_cancel_left, Fin.eta, mul_assoc]

theorem ref42b (a : Fin 4096) (b : Fin 8320) (b' : Fin 1024) (h : b.val = 7168 + b'.val) : val_main_v42 (F := Ideal) x0 x1 x2 x3 x4 x5 x6 (ix2 a b)
    = dm x0 x6 a b' * proj x3 x5 a b' * gb x1 a b' * (1 - gb x1 a b') := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_v32, val_main_v33, val_main_v34, val_main_cst_5, val_main_v35, val_main_cst_6, val_main_v36, val_main_v37, val_main_v38, val_main_v39, val_main_v40, val_main_v41, val_main_v42, dm, gb, proj, Ideal.logistic]
  obtain ⟨b, hb⟩ := b
  obtain rfl : b = 7168 + b'.val := h
  rw [dif_neg (show ¬7168 + b'.val < 6144 by omega), dif_neg (show ¬7168 + b'.val - 6144 < 1024 by omega), dif_pos (show 7168 + b'.val - 6144 - 1024 < 1024 by omega)]
  have e : ∀ h, (⟨7168 + b'.val - 6144 - 1024, h⟩ : Fin 1024) = b' := fun h => Fin.ext (show 7168 + b'.val - 6144 - 1024 = b'.val by omega)
  have e' : 7184 + (7168 + b'.val - 6144 - 1024) = 7184 + b'.val := by omega
  simp only [e, e', mul_assoc]

/-- A branch's projection, as the host operations build it. -/
def hproj (x : (⟨S4096x1024, .f32⟩ : BufTy).Contents (Elt Ideal)) (w : (⟨S1024x1024, .f32⟩ : BufTy).Contents (Elt Ideal)) : (⟨S4096x1024, .bf16⟩ : BufTy).Contents (Elt Ideal) :=
  truncf (F := Ideal) .bf16 (Host.dotGeneral (F := Ideal) (φ₁ := .f32) (φ₂ := .f32) dot_S4096x1024_S1024x1024_S4096x1024_1_0_0_1_n_n none x w : (⟨S4096x1024, .f32⟩ : BufTy).Contents (Elt Ideal)) bitsLt_bf16_f32

theorem hproj_apply (a : Fin 4096) (b : Fin 1024) : hproj x2 x4 (ix2 a b) = proj x2 x4 a b := by
  pointwise [hproj, proj]

end

/-! ## The arguments and the blocks -/

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
end

theorem idx : ∀ t : Fin cfg0.N, win0_0.index t = ![t.val, 0] ∧ win0_1.index t = ![t.val, 6] ∧ win0_2.index t = ![t.val, 7]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 3] :=
  (by decide +kernel : ∀ t : Fin grid0.N, _)

variable (m : (ℓ : Loc nD τ sig) → Buf (Elt Ideal) ℓ)

theorem row_lt (t : Fin cfg0.N) (y : Fin 512) : t.val * 512 + y.val < 4096 := by
  have := t.isLt; have : cfg0.N = 8 := N_0; omega

/-- The array's row that row `y` of point `t`'s blocks is. -/
def row (t : Fin cfg0.N) (y : Fin 512) : Fin 4096 := ⟨t.val * 512 + y.val, row_lt t y⟩

variable (c : Dev nD) (t : Fin cfg0.N)

theorem V8 : V m c main_v8 = packed0 (A1 m c) := by dsimp only [V]; after_results_simp; rfl

theorem V9 : V m c main_v9 = hproj (A2 m c) (A4 m c) := by dsimp only [V]; after_results_simp; rfl
theorem V10 : V m c main_v10 = hproj (A3 m c) (A5 m c) := by dsimp only [V]; after_results_simp; rfl

theorem b0 (y : Fin 512) (k : Fin 1024) : iblk m c 0 t (ix2 y k) = A0 m c (ix2 (row t y) k) := by
  obtain ⟨e0, e1, e2, e3, e4, e5, e6, e7, e8, e9, e10, e11, e12⟩ := idx t; blk_ext! [iblk, V, row, e0]
theorem b1 (y : Fin 512) (k : Fin 1024) : X0_1 m c t (ix2 y k) = A1 m c (ix2 (row t y) ⟨6160 + k.val, by omega⟩) := by
  have h : X0_1 m c t (ix2 y k) = V m c main_v8 (ix2 (row t y) ⟨6144 + k.val, by omega⟩) := by
    unfold X0_1 Pipeline.Window.fill
    rw [dif_pos (moved0_1 t _)]
    obtain ⟨e0, e1, e2, e3, e4, e5, e6, e7, e8, e9, e10, e11, e12⟩ := idx t; blk_ext [iblk, row, e1]
  rw [h, V8, packed0_apply, pack, dif_neg (show ¬6144 + k.val < 3072 by omega), dif_pos (show 6144 + k.val < 8192 by omega)]
  exact congrArg (fun k => A1 m c (ix2 (row t y) k)) (Fin.ext (show 6144 + k.val + 16 = 6160 + k.val by omega))
theorem b2 (y : Fin 512) (k : Fin 1024) : X0_2 m c t (ix2 y k) = A1 m c (ix2 (row t y) ⟨7184 + k.val, by omega⟩) := by
  have h : X0_2 m c t (ix2 y k) = V m c main_v8 (ix2 (row t y) ⟨7168 + k.val, by omega⟩) := by
    unfold X0_2 Pipeline.Window.fill
    rw [dif_pos (moved0_2 t _)]
    obtain ⟨e0, e1, e2, e3, e4, e5, e6, e7, e8, e9, e10, e11, e12⟩ := idx t; blk_ext [iblk, row, e2]
  rw [h, V8, packed0_apply, pack, dif_neg (show ¬7168 + k.val < 3072 by omega), dif_pos (show 7168 + k.val < 8192 by omega)]
  exact congrArg (fun k => A1 m c (ix2 (row t y) k)) (Fin.ext (show 7168 + k.val + 16 = 7184 + k.val by omega))
theorem b3 (y : Fin 512) (k : Fin 1024) : iblk m c 3 t (ix2 y k) = proj (A2 m c) (A4 m c) (row t y) k := by
  have h : iblk m c 3 t (ix2 y k) = V m c main_v9 (ix2 (row t y) k) := by
    obtain ⟨e0, e1, e2, e3, e4, e5, e6, e7, e8, e9, e10, e11, e12⟩ := idx t; blk_ext [iblk, row, e3]
  rw [h, V9, hproj_apply]
theorem b4 (y : Fin 512) (k : Fin 1024) : iblk m c 4 t (ix2 y k) = proj (A3 m c) (A5 m c) (row t y) k := by
  have h : iblk m c 4 t (ix2 y k) = V m c main_v10 (ix2 (row t y) k) := by
    obtain ⟨e0, e1, e2, e3, e4, e5, e6, e7, e8, e9, e10, e11, e12⟩ := idx t; blk_ext [iblk, row, e4]
  rw [h, V10, hproj_apply]
theorem b5 (y k : Fin 1024) : iblk m c 5 t (ix2 y k) = A4 m c (ix2 y k) := by
  obtain ⟨e0, e1, e2, e3, e4, e5, e6, e7, e8, e9, e10, e11, e12⟩ := idx t; blk_ext! [iblk, V, row, e5]
theorem b6 (y k : Fin 1024) : iblk m c 6 t (ix2 y k) = A5 m c (ix2 y k) := by
  obtain ⟨e0, e1, e2, e3, e4, e5, e6, e7, e8, e9, e10, e11, e12⟩ := idx t; blk_ext! [iblk, V, row, e6]
theorem b7 (y k : Fin 1024) : iblk m c 7 t (ix2 y k) = A6 m c (ix2 y k) := by
  obtain ⟨e0, e1, e2, e3, e4, e5, e6, e7, e8, e9, e10, e11, e12⟩ := idx t; blk_ext! [iblk, V, row, e7]

/-! ## The outputs -/

theorem out8 (y0 : Fin 512) (y1 : Fin 1024) : (outsAt0 m c t).1 (ix2 y0 y1)
    = dm (A0 m c) (A6 m c) (row t y0) y1 * ga (A1 m c) (row t y0) y1 := by
  unfold outsAt0
  frame_out
  pointwise [k0_pay1, k0_pay2, k0_pay3, k0_pay4, k0_pay5, k0_pay6, k0_pay7, k0_pay8, k0_pay9, k0_pay10]
  simp only [b0, b1, b7, dm, ga]
theorem out9 (y0 : Fin 512) (y1 : Fin 1024) : (outsAt0 m c t).2.1 (ix2 y0 y1)
    = dm (A0 m c) (A6 m c) (row t y0) y1 * gb (A1 m c) (row t y0) y1 := by
  unfold outsAt0
  frame_out
  pointwise [k0_pay1, k0_pay2, k0_pay3, k0_pay4, k0_pay5, k0_pay6, k0_pay7, k0_pay8, k0_pay9, k0_pay10]
  simp only [b0, b2, b7, dm, gb]
theorem out10 (y0 : Fin 512) (y1 : Fin 1024) : (outsAt0 m c t).2.2.1 (ix2 y0 y1)
    = ∑ l : Fin 1024, dm (A0 m c) (A6 m c) (row t y0) l * gb (A1 m c) (row t y0) l * A5 m c (ix2 y1 l) := by
  unfold outsAt0
  frame_out
  pointwise [k0_pay1, k0_pay2, k0_pay3, k0_pay4, k0_pay5, k0_pay6, k0_pay7, k0_pay8, k0_pay9, k0_pay10]
  simp only [b0, b2, b6, b7, dm, gb]
theorem out11 (y0 : Fin 512) (y1 : Fin 1024) : (outsAt0 m c t).2.2.2.1 (ix2 y0 y1)
    = ∑ l : Fin 1024, dm (A0 m c) (A6 m c) (row t y0) l * ga (A1 m c) (row t y0) l * A4 m c (ix2 y1 l) := by
  unfold outsAt0
  frame_out
  pointwise [k0_pay1, k0_pay2, k0_pay3, k0_pay4, k0_pay5, k0_pay6, k0_pay7, k0_pay8, k0_pay9, k0_pay10]
  simp only [b0, b1, b5, b7, dm, ga]
theorem out12 (y0 : Fin 512) (y1 : Fin 2048) (b : Fin 8320) (hb : b.val = 6144 + y1.val) : (outsAt0 m c t).2.2.2.2 (ix2 y0 y1)
    = Cert.MixBwdRefIdeal.Read.val_main_v42 (F := Ideal) (A0 m c) (A1 m c) (A2 m c) (A3 m c) (A4 m c) (A5 m c) (A6 m c) (ix2 (row t y0) b) := by
  unfold outsAt0
  frame_out
  canon_tiles x h
  · idx_vars x
    have e0 : y0 = x0 := Fin.ext h0
    subst e0
    rw [ref42b _ _ _ _ _ _ _ _ b x1 (by rw [hb, show y1.val = 1024 + x1.val from h1]; omega)]
    pointwise [k0_pay1, k0_pay2, k0_pay3, k0_pay4, k0_pay5, k0_pay6, k0_pay7, k0_pay8, k0_pay9, k0_pay10]
    simp only [b0, b2, b4, b7, dm, gb]
  · idx_vars x
    have e0 : y0 = x0 := Fin.ext h0
    subst e0
    rw [ref42a _ _ _ _ _ _ _ _ b x1 (by rw [hb, show y1.val = x1.val from h1])]
    pointwise [k0_pay1, k0_pay2, k0_pay3, k0_pay4, k0_pay5, k0_pay6, k0_pay7, k0_pay8, k0_pay9, k0_pay10]
    simp only [b0, b1, b3, b7, dm, ga]

/-! ## The finished arrays -/

theorem final8 : (dats m 0 c).arrAt 8 cfg0.N = Cert.MixBwdRefIdeal.Read.val_main_v38 (F := Ideal) (A0 m c) (A1 m c) (A6 m c) := by
  refine (dats m 0 c).arrAt_eq_of_covers 8 _ (by decide +kernel) fun t hf y => ?_
  blk_simp
  rw [after0_8]
  idx_vars y
  refine (out8 m c t y0 y1).trans ((ref38 _ _ _ _ _).symm.trans (congrArg _ ?_))
  obtain ⟨e0, e1, e2, e3, e4, e5, e6, e7, e8, e9, e10, e11, e12⟩ := idx t
  blk_ext [row, e8]

theorem final9 : (dats m 0 c).arrAt 9 cfg0.N = Cert.MixBwdRefIdeal.Read.val_main_v39 (F := Ideal) (A0 m c) (A1 m c) (A6 m c) := by
  refine (dats m 0 c).arrAt_eq_of_covers 9 _ (by decide +kernel) fun t hf y => ?_
  blk_simp
  rw [after0_9]
  idx_vars y
  refine (out9 m c t y0 y1).trans ((ref39 _ _ _ _ _).symm.trans (congrArg _ ?_))
  obtain ⟨e0, e1, e2, e3, e4, e5, e6, e7, e8, e9, e10, e11, e12⟩ := idx t
  blk_ext [row, e9]

theorem final10 : (dats m 0 c).arrAt 10 cfg0.N = Cert.MixBwdRefIdeal.Read.val_main_v40 (F := Ideal) (A0 m c) (A1 m c) (A5 m c) (A6 m c) := by
  refine (dats m 0 c).arrAt_eq_of_covers 10 _ (by decide +kernel) fun t hf y => ?_
  blk_simp
  rw [after0_10]
  idx_vars y
  refine (out10 m c t y0 y1).trans ((ref40 _ _ _ _ _ _).symm.trans (congrArg _ ?_))
  obtain ⟨e0, e1, e2, e3, e4, e5, e6, e7, e8, e9, e10, e11, e12⟩ := idx t
  blk_ext [row, e10]

theorem final11 : (dats m 0 c).arrAt 11 cfg0.N = Cert.MixBwdRefIdeal.Read.val_main_v41 (F := Ideal) (A0 m c) (A1 m c) (A4 m c) (A6 m c) := by
  refine (dats m 0 c).arrAt_eq_of_covers 11 _ (by decide +kernel) fun t hf y => ?_
  blk_simp
  rw [after0_11]
  idx_vars y
  refine (out11 m c t y0 y1).trans ((ref41 _ _ _ _ _ _).symm.trans (congrArg _ ?_))
  obtain ⟨e0, e1, e2, e3, e4, e5, e6, e7, e8, e9, e10, e11, e12⟩ := idx t
  blk_ext [row, e11]

theorem xi12 (y : ((cfg0.win 12).xblock (cfg0.grid.coords t)).Idx) (h0 : (y 0).val < 512) (h1 : (y 1).val < 2048) :
    (cfg0.win 12).xinj (cfg0.grid.coords t) y = (ix2 ⟨(y 0).val, h0⟩ ⟨(y 1).val, h1⟩ : S512x2048.Idx) := by
  funext a
  fin_cases a <;> rfl

theorem emb12 (y : ((cfg0.win 12).xblock (cfg0.grid.coords t)).Idx) (h0 : (y 0).val < 512) (h1 : (y 1).val < 2048) :
    ix2 (row t ⟨(y 0).val, h0⟩) ⟨6144 + (y 1).val, by omega⟩ = (win0_12.blk t).view.emb y := by
  obtain ⟨e0, e1, e2, e3, e4, e5, e6, e7, e8, e9, e10, e11, e12⟩ := idx t
  have h : ∀ a, ((win0_12.blk t).view.emb y a : Nat) = win0_12.index t a * win0_12.size a + (y a).val := fun a => win0_12.rect_emb_val t y a
  funext a
  refine Fin.ext ((h a).symm ▸ ?_)
  rw [e12]
  fin_cases a <;> rfl

theorem point12 (y : ((cfg0.win 12).xblock (cfg0.grid.coords t)).Idx) : (outsAt0 m c t).2.2.2.2 ((cfg0.win 12).xinj (cfg0.grid.coords t) y)
    = Cert.MixBwdRefIdeal.Read.val_main_v42 (F := Ideal) (A0 m c) (A1 m c) (A2 m c) (A3 m c) (A4 m c) (A5 m c) (A6 m c) ((win0_12.blk t).view.emb y) := by
  have hy0 : (y 0).val < 512 := lt_of_lt_of_le (y 0).isLt ((cfg0.win 12).xsize_le (cfg0.grid.coords t) 0)
  have hy1 : (y 1).val < 2048 := lt_of_lt_of_le (y 1).isLt ((cfg0.win 12).xsize_le (cfg0.grid.coords t) 1)
  rw [← emb12 t y hy0 hy1, xi12 t y hy0 hy1]
  exact out12 m c t _ _ _ rfl

theorem final12 (a : Fin 4096) (b : Fin 8320) (h : 6144 ≤ b.val ∧ b.val < 8192) : (dats m 0 c).arrAt 12 cfg0.N (ix2 a b)
    = Cert.MixBwdRefIdeal.Read.val_main_v42 (F := Ideal) (A0 m c) (A1 m c) (A2 m c) (A3 m c) (A4 m c) (A5 m c) (A6 m c) (ix2 a b) := by
  refine ((dats m 0 c).arrAt_apply_of_coversWhere 12 (Cert.MixBwdRefIdeal.Read.val_main_v42 (F := Ideal) (A0 m c) (A1 m c) (A2 m c) (A3 m c) (A4 m c) (A5 m c) (A6 m c))
    (P := fun i => (i 1).val / 2048 = 3) (fun β => β (1 : Fin 2) = 3) (by decide +kernel) (fun t hf y => ?_) (fun j => Iff.rfl) (ix2 a b)).trans (if_pos (show b.val / 2048 = 3 by omega))
  blk_simp
  rw [after0_12]
  exact point12 m c t y

theorem mask (x0 : FVec Ideal S4096x1024 .f32) (x1 : FVec Ideal S4096x8208 .f32) (x2 x3 : FVec Ideal S4096x1024 .f32) (x4 x5 x6 : FVec Ideal S1024x1024 .f32) (a : Fin 4096) (b : Fin 8320)
    (h : (Cert.On_on_gates.fn (F := Ideal) x0 x1 x2 x3 x4 x5 x6).2.2.2.2 (ix2 a b) = 1#1) : 6144 ≤ b.val ∧ b.val < 8192 := by
  have e : (Cert.On_on_gates.fn (F := Ideal) x0 x1 x2 x3 x4 x5 x6).2.2.2.2 (ix2 a b)
      = IntOp.andi (IntOp.cmpi CmpIPredicate.sge (BitVec.ofNat 32 b.val) 6144#32) (IntOp.cmpi CmpIPredicate.slt (BitVec.ofNat 32 b.val) 8192#32) := by
    pointwise [Cert.On_on_gates.fn]
  rw [e] at h
  have hb := b.isLt
  have e1 : (BitVec.ofNat 32 b.val).toNat = b.val := by rw [BitVec.toNat_ofNat]; omega
  have key : ∀ p q : BitVec 1, IntOp.andi p q = 1#1 → p = 1#1 ∧ q = 1#1 := by decide
  obtain ⟨h1, h2⟩ := key _ _ h
  rw [StableHlo.Predicate.sge_iff_toNat (by omega) (by decide), e1] at h1
  rw [StableHlo.Predicate.slt_iff_toNat (by omega) (by decide), e1] at h2
  exact ⟨h1, h2⟩

/-! ## The claims -/

theorem frame_reference : Cert.quiescent_MixBwdRefIdeal := fun m ρ _ =>
  (θ_run Cert.MixBwdRefIdeal.defs _ _).mono (fun r h => ⟨fun c => (h c).2.2.2.2.2, sem_eq_zero_of_no_sems (by decide) r.2⟩)
    (Cert.MixBwdRefIdeal.Value.run (F := Ideal) m ρ)

theorem algebraic : Cert.algebraic_MixBwdIdeal_MixBwdRefIdeal_on_on_gates := by
  intro m g m' g' _ hag
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N,
    (θ_run _ _ _).mono (fun r h c => ?_) (Cert.MixBwdIdeal.Value.run_blocks m g), ?_⟩
  · obtain ⟨r0, r1, r2, r3, r4, r5⟩ := h c
    exact ⟨fun i _ => congrFun r0 i, fun i _ => congrFun r1 i, fun i _ => congrFun r2 i, fun i _ => congrFun r3 i, fun i _ => congrFun r4 i, r5⟩
  refine (θ_run _ _ _).mono (fun r h c => ?_) (Cert.MixBwdRefIdeal.Value.run (F := Ideal) m' g')
  obtain ⟨a0, a1, a2, a3, a4, a5, a6⟩ := hag c
  obtain ⟨r0, r1, r2, r3, r4, r5⟩ := h c
  refine ⟨fun i _ => congrFun ?_ i, fun i _ => congrFun ?_ i, fun i _ => congrFun ?_ i, fun i _ => congrFun ?_ i, fun i hi => ?_, r5⟩
  · rw [r0, Cert.MixBwdRefIdeal.Read.val_main_v38_eq, a0, a1, a6]; exact (final8 m c).symm
  · rw [r1, Cert.MixBwdRefIdeal.Read.val_main_v39_eq, a0, a1, a6]; exact (final9 m c).symm
  · rw [r2, Cert.MixBwdRefIdeal.Read.val_main_v40_eq, a0, a1, a5, a6]; exact (final10 m c).symm
  · rw [r3, Cert.MixBwdRefIdeal.Read.val_main_v41_eq, a0, a1, a4, a6]; exact (final11 m c).symm
  · rw [r4, Cert.MixBwdRefIdeal.Read.val_main_v42_eq, a0, a1, a2, a3, a4, a5, a6]
    revert hi
    idx_vars i
    intro hi
    exact (final12 m c i0 i1 (mask _ _ _ _ _ _ _ i0 i1 hi)).symm

end Cert.Mix
-- ==== Proof.Conv.lean ====
module

public import proofs.«01_k».proof.Defs
public import proofs.«01_k».proof.Proof.Gen.ConvBwdIdeal.Value
public import proofs.«01_k».proof.Proof.Gen.ConvBwdRefIdeal.Read
public import proofs.«01_k».proof.Proof.Gen.ConvBwdRefIdeal.Run
public import proofs.«01_k».proof.Proof.Reals
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Conv

open Idealize.ShloMosaic Idealize.ShloMosaic.TcCoe Idealize.SL.Sem
open Cert.ConvBwdIdeal Cert.ConvBwdIdeal.Gen Cert.Reals

/-! ## The packed projection -/

/-- The packed columns: the gate's sixteen last, then zeros. -/
def pack (f : Fin 8208 → EReal) (k : Fin 8320) : EReal :=
  if h : k.val < 3072 then f ⟨k.val, by omega⟩ else
  if h : k.val < 8192 then f ⟨k.val + 16, by omega⟩ else
  if h : k.val < 8208 then f ⟨k.val - 5120, by omega⟩ else 0

/-- The packed projection, as the host operations build it. -/
def packed0 (x : (⟨S4096x8208, .f32⟩ : BufTy).Contents (Elt Ideal)) : (⟨S4096x8320, .bf16⟩ : BufTy).Contents (Elt Ideal) :=
  truncf (F := Ideal) .bf16 (concatenate S4096x8320 1 [⟨S4096x3072, (extractStridedSlice S4096x3072 ![0, 0] x slices_S4096x8208_S4096x3072_0_0 : (⟨S4096x3072, .f32⟩ : BufTy).Contents (Elt Ideal))⟩,
    ⟨S4096x5120, (extractStridedSlice S4096x5120 ![0, 3088] x slices_S4096x8208_S4096x5120_0_3088 : (⟨S4096x5120, .f32⟩ : BufTy).Contents (Elt Ideal))⟩,
    ⟨S4096x16, (extractStridedSlice S4096x16 ![0, 3072] x slices_S4096x8208_S4096x16_0_3072 : (⟨S4096x16, .f32⟩ : BufTy).Contents (Elt Ideal))⟩,
    ⟨S4096x112, (broadcastInDim S4096x112 ![] bcast_S_S4096x112 (constant (F := Ideal) S_ .f32 0x00000000#32) : (⟨S4096x112, .f32⟩ : BufTy).Contents (Elt Ideal))⟩]
    concatenates_S4096x3072_S4096x5120_S4096x16_S4096x112_S4096x8320_d1 : (⟨S4096x8320, .f32⟩ : BufTy).Contents (Elt Ideal)) bitsLt_bf16_f32

theorem packed0_apply (x : (⟨S4096x8208, .f32⟩ : BufTy).Contents (Elt Ideal)) (a : Fin 4096) (k : Fin 8320) :
    packed0 x (ix2 a k) = pack (fun k => x (ix2 a k)) k := by
  pointwise [packed0, pack]
  by_cases h1 : k.val < 3072
  · rw [dif_pos h1, dif_pos h1]
  rw [dif_neg h1, dif_neg h1]
  by_cases h2 : k.val < 8192
  · rw [dif_pos (show k.val - 3072 < 5120 by omega), dif_pos h2]
    exact congrArg (fun k => x (ix2 a k)) (Fin.ext (show 3088 + (k.val - 3072) = k.val + 16 by omega))
  rw [dif_neg (show ¬k.val - 3072 < 5120 by omega), dif_neg h2]
  by_cases h3 : k.val < 8208
  · rw [dif_pos (show k.val - 3072 - 5120 < 16 by omega), dif_pos h3]
    exact congrArg (fun k => x (ix2 a k)) (Fin.ext (show 3072 + (k.val - 3072 - 5120) = k.val - 5120 by omega))
  · rw [dif_neg (show ¬k.val - 3072 - 5120 < 16 by omega), dif_neg h3]

section

variable (x0 : (⟨S4096x8208, .f32⟩ : BufTy).Contents (Elt Ideal)) (x1 : (⟨S4096x1024, .f32⟩ : BufTy).Contents (Elt Ideal))
  (x2 : (⟨S3x1024, .f32⟩ : BufTy).Contents (Elt Ideal)) (x3 : (⟨S1024, .f32⟩ : BufTy).Contents (Elt Ideal)) (x4 : (⟨S4096x8320, .f32⟩ : BufTy).Contents (Elt Ideal))

/-- The gated input of the convolution. -/
def u (a : Fin 4096) (k : Fin 1024) : EReal := (x0 (ix2 a ⟨4112 + k.val, by omega⟩) : EReal) * x0 (ix2 a ⟨5136 + k.val, by omega⟩)

/-- The gradient of the convolution's output. -/
def dc (a : Fin 4096) (k : Fin 1024) : EReal := (x0 (ix2 a ⟨3088 + k.val, by omega⟩) : EReal) * x1 (ix2 a k)

/-- The gated input `s` rows before row `a`, zero before the first row. -/
def up (s : ℕ) (a : Fin 4096) (k : Fin 1024) : EReal := if h : a.val < s then 0 else u x0 ⟨a.val - s, by omega⟩ k

/-- The output's gradient `s` rows after row `a`, zero after the last row. -/
def dn (s : ℕ) (a : Fin 4096) (k : Fin 1024) : EReal := if h : s + a.val < 4096 then dc x0 x1 ⟨s + a.val, h⟩ k else 0

/-- The convolution's output. -/
def conv (a : Fin 4096) (k : Fin 1024) : EReal :=
  (x2 (ix2 0 k) : EReal) * up x0 2 a k + (x2 (ix2 1 k) : EReal) * up x0 1 a k + (x2 (ix2 2 k) : EReal) * u x0 a k + x3 (ix1 k)

/-- The gradient of the gated input. -/
def du (a : Fin 4096) (k : Fin 1024) : EReal :=
  (x2 (ix2 2 k) : EReal) * dc x0 x1 a k + (x2 (ix2 1 k) : EReal) * dn x0 x1 1 a k + (x2 (ix2 0 k) : EReal) * dn x0 x1 2 a k

/-- What row `a` adds to the gradients of the three taps and the bias, one row each of eight. -/
def term (y : Fin 8) (a : Fin 4096) (k : Fin 1024) : EReal :=
  if y.val < 1 then dc x0 x1 a k * up x0 2 a k else if y.val < 2 then dc x0 x1 a k * up x0 1 a k else
  if y.val < 3 then dc x0 x1 a k * u x0 a k else if y.val < 4 then dc x0 x1 a k else 0

open Cert.ConvBwdRefIdeal.Read

theorem sum_up (s n : ℕ) (hn : s + n = 4096) (f : Fin 4096 → EReal) (k : Fin 1024) :
    (∑ a : Fin 4096, f a * up x0 s a k) = ∑ x : Fin n, f ⟨s + x.val, by omega⟩ * u x0 ⟨x.val, by omega⟩ k := by
  obtain rfl : n = 4096 - s := by omega
  rw [← Fin.sum_congr' (fun a => f a * up x0 s a k) hn, Fin.sum_univ_add]
  refine (congrArg₂ (· + ·) (Finset.sum_eq_zero fun x _ => ?_) (Finset.sum_congr rfl fun x _ => ?_)).trans (zero_add _)
  · exact (congrArg _ (dif_pos (show (Fin.cast hn (Fin.castAdd (4096 - s) x)).val < s from x.isLt))).trans (mul_zero _)
  · refine congrArg₂ (· * ·) rfl ((dif_neg (show ¬(Fin.cast hn (Fin.natAdd s x)).val < s from Nat.not_lt.mpr (Nat.le_add_right s x.val))).trans ?_)
    exact congrArg (fun a => u x0 a k) (Fin.ext (Nat.add_sub_cancel_left s x.val))

theorem dn_mul (s : ℕ) (w : EReal) (a : Fin 4096) (k : Fin 1024) (hs : s ≤ 4096) :
    (if h : a.val < 4096 - s ∧ k.val < 1024 then w * ((x0 (ix2 ⟨s + a.val, by omega⟩ ⟨3088 + k.val, by omega⟩) : EReal) * x1 (ix2 ⟨s + a.val, by omega⟩ k)) else 0)
      = w * dn x0 x1 s a k := by
  by_cases h : s + a.val < 4096
  · rw [dif_pos ⟨by omega, k.isLt⟩, dn, dif_pos h, dc]
  · rw [dif_neg (fun h' => h (by omega)), dn, dif_neg h, mul_zero]

theorem ref80b (a : Fin 4096) (b : Fin 8320) (k : Fin 1024) (h : b.val = 3072 + k.val) : val_main_v80 (F := Ideal) x0 x1 x2 x3 x4 (ix2 a b)
    = x1 (ix2 a k) * conv x0 x2 x3 a k := by
  obtain ⟨b, hb⟩ := b
  obtain rfl : b = 3072 + k.val := h
  pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
  rfl

theorem ref80c (a : Fin 4096) (b : Fin 8320) (k : Fin 1024) (h : b.val = 4096 + k.val) : val_main_v80 (F := Ideal) x0 x1 x2 x3 x4 (ix2 a b)
    = du x0 x1 x2 a k * x0 (ix2 a ⟨5136 + k.val, by omega⟩) := by
  obtain ⟨b, hb⟩ := b
  obtain rfl : b = 4096 + k.val := h
  pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
  rw [dif_neg (show ¬4096 + k.val < 3072 by omega), dif_neg (show ¬4096 + k.val - 3072 < 1024 by omega), dif_pos (show 4096 + k.val - 3072 - 1024 < 1024 by omega)]
  have e : 4096 + k.val - 3072 - 1024 = k.val := by omega
  simp only [e, Fin.eta]
  exact congrArg (· * _) (congrArg₂ (· + ·) (congrArg₂ (· + ·) rfl (dn_mul x0 x1 1 _ a k (by decide))) (dn_mul x0 x1 2 _ a k (by decide)))

theorem ref80d (a : Fin 4096) (b : Fin 8320) (k : Fin 1024) (h : b.val = 5120 + k.val) : val_main_v80 (F := Ideal) x0 x1 x2 x3 x4 (ix2 a b)
    = du x0 x1 x2 a k * x0 (ix2 a ⟨4112 + k.val, by omega⟩) := by
  obtain ⟨b, hb⟩ := b
  obtain rfl : b = 5120 + k.val := h
  pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
  rw [dif_neg (show ¬5120 + k.val < 3072 by omega), dif_neg (show ¬5120 + k.val - 3072 < 1024 by omega), dif_neg (show ¬5120 + k.val - 3072 - 1024 < 1024 by omega), dif_pos (show 5120 + k.val - 3072 - 1024 - 1024 < 1024 by omega)]
  have e : 5120 + k.val - 3072 - 1024 - 1024 = k.val := by omega
  simp only [e, Fin.eta]
  exact (mul_comm _ _).trans (congrArg (· * _) (congrArg₂ (· + ·) (congrArg₂ (· + ·) rfl (dn_mul x0 x1 1 _ a k (by decide))) (dn_mul x0 x1 2 _ a k (by decide))))

theorem ref80x (a : Fin 4096) (b : Fin 8320) (h : ¬b.val / 3072 = 1) : val_main_v80 (F := Ideal) x0 x1 x2 x3 x4 (ix2 a b) = x4 (ix2 a b) := by
  pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
  by_cases h1 : b.val < 3072
  · rw [dif_pos h1]
  rw [dif_neg h1, dif_neg (show ¬b.val - 3072 < 1024 by omega), dif_neg (show ¬b.val - 3072 - 1024 < 1024 by omega), dif_neg (show ¬b.val - 3072 - 1024 - 1024 < 1024 by omega)]
  exact congrArg (fun b => x4 (ix2 a b)) (Fin.ext (by show 6144 + (b.val - 3072 - 1024 - 1024 - 1024) = b.val; omega))

theorem ref79 (y : Fin 8) (k : Fin 1024) : val_main_v79 (F := Ideal) x0 x1 (ix2 y k) = ∑ a : Fin 4096, term x0 x1 y a k := by
  obtain ⟨y, hy⟩ := y
  interval_cases y
  · pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
    simp [term]
    exact (sum_up x0 2 4094 (by decide) (fun a => dc x0 x1 a k) k).symm
  · pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
    simp [term]
    exact (sum_up x0 1 4095 (by decide) (fun a => dc x0 x1 a k) k).symm
  · pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
    simp [term]
    rfl
  · pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
    simp [term]
    rfl
  all_goals pointwise [val_main_v0, val_main_v1, val_main_v2, val_main_v3, val_main_v4, val_main_v5, val_main_cst, val_main_v6, val_main_v7, val_main_v8, val_main_cst_0, val_main_v9, val_main_v10, val_main_v11, val_main_v12, val_main_v13, val_main_v14, val_main_cst_1, val_main_v15, val_main_v16, val_main_v17, val_main_cst_2, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst_3, val_main_v35, val_main_v36, val_main_cst_4, val_main_v37, val_main_v38, val_main_v39, val_main_v40, val_main_cst_5, val_main_v41, val_main_v42, val_main_cst_6, val_main_v43, val_main_v44, val_main_cst_7, val_main_v45, val_main_v46, val_main_v47, val_main_v48, val_main_cst_8, val_main_v49, val_main_v50, val_main_cst_9, val_main_v51, val_main_v52, val_main_v53, val_main_cst_10, val_main_v54, val_main_v55, val_main_v56, val_main_cst_11, val_main_v57, val_main_v58, val_main_v59, val_main_v60, val_main_v61, val_main_cst_12, val_main_v62, val_main_v63, val_main_cst_13, val_main_v64, val_main_v65, val_main_v66, val_main_cst_14, val_main_v67, val_main_v68, val_main_v69, val_main_cst_15, val_main_v70, val_main_v71, val_main_v72, val_main_v73, val_main_v74, val_main_v75, val_main_v76, val_main_v77, val_main_cst_16, val_main_v78, val_main_v79, val_main_v80]
  all_goals simp [term]

end

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
end

theorem idx : ∀ t : Fin cfg0.N, (grid0.coords t 0).val = t.val ∧ win0_0.index t = ![t.val, 3] ∧ win0_1.index t = ![t.val, 4] ∧ win0_2.index t = ![t.val, 5]
    ∧ win0_3.index t = ![t.val, 0] ∧ win0_4.index t = ![t.val * 32 - 1, 4] ∧ win0_5.index t = ![t.val * 32 - 1, 5] ∧ win0_6.index t = ![min (t.val * 32 + 32) 255, 3]
    ∧ win0_7.index t = ![min (t.val * 32 + 32) 255, 0] ∧ win0_8.index t = ![0, 0] ∧ win0_9.index t = ![t.val, 1] ∧ win0_10.index t = ![0, 0] :=
  (by decide +kernel : ∀ t : Fin grid0.N, _)

variable (m : (ℓ : Loc nD τ sig) → Buf (Elt Ideal) ℓ)

theorem row_lt (t : Fin cfg0.N) (y : Fin 512) : t.val * 512 + y.val < 4096 := by
  have := t.isLt; have : cfg0.N = 8 := N_0; omega

/-- The array's row that row `y` of point `t`'s blocks is. -/
def row (t : Fin cfg0.N) (y : Fin 512) : Fin 4096 := ⟨t.val * 512 + y.val, row_lt t y⟩

/-- The array's row that row `y` of the sixteen rows before point `t`'s blocks is. -/
def rowB (t : Fin cfg0.N) (y : Fin 16) : Fin 4096 := ⟨(t.val * 32 - 1) * 16 + y.val, by have := row_lt t 0; have := y.isLt; simp at this; omega⟩

/-- The array's row that row `y` of the sixteen rows after point `t`'s blocks is. -/
def rowN (t : Fin cfg0.N) (y : Fin 16) : Fin 4096 := ⟨min (t.val * 32 + 32) 255 * 16 + y.val, by have := y.isLt; omega⟩

variable (c : Dev nD) (t : Fin cfg0.N)

theorem V9 : V m c main_v9 = packed0 (A0 m c) := by entry_read; rfl

theorem zero_int : (FloatOps.sitofp (F := Ideal) FTy.f32 (0#32) : EReal) = 0 := by
  simp [FloatOps.sitofp]

/-- The eight rows of weights: the three taps, the bias, and zeros. -/
theorem V3 (y : Fin 8) (k : Fin 1024) : (V m c main_v3 : FVec Ideal S8x1024 .f32) (ix2 y k)
    = (if h : y.val < 3 then A2 m c (ix2 ⟨y.val, h⟩ k) else 0 : EReal) + (if 3 ≤ y.val ∧ y.val - 3 < 1 then A3 m c (ix1 k) else 0 : EReal) := by
  unfold V; after_reads_at
  rw [zero_int]
  rfl

theorem b0 (y : Fin 512) (k : Fin 1024) : X0_0 m c t (ix2 y k) = A0 m c (ix2 (row t y) ⟨3088 + k.val, by omega⟩) := by
  have h : X0_0 m c t (ix2 y k) = V m c main_v9 (ix2 (row t y) ⟨3072 + k.val, by omega⟩) := by
    unfold X0_0 Pipeline.Window.fill
    rw [dif_pos (moved0_0 t _)]
    obtain ⟨g0, e0, e1, e2, e3, e4, e5, e6, e7, e8, e9, e10⟩ := idx t; blk_ext [iblk, row, e0]
  rw [h, V9, packed0_apply, pack, dif_neg (show ¬3072 + k.val < 3072 by omega), dif_pos (show 3072 + k.val < 8192 by omega)]
  exact congrArg (fun k => A0 m c (ix2 (row t y) k)) (Fin.ext (show 3072 + k.val + 16 = 3088 + k.val by omega))
theorem b1 (y : Fin 512) (k : Fin 1024) : X0_1 m c t (ix2 y k) = A0 m c (ix2 (row t y) ⟨4112 + k.val, by omega⟩) := by
  have h : X0_1 m c t (ix2 y k) = V m c main_v9 (ix2 (row t y) ⟨4096 + k.val, by omega⟩) := by
    unfold X0_1 Pipeline.Window.fill
    rw [dif_pos (moved0_1 t _)]
    obtain ⟨g0, e0, e1, e2, e3, e4, e5, e6, e7, e8, e9, e10⟩ := idx t; blk_ext [iblk, row, e1]
  rw [h, V9, packed0_apply, pack, dif_neg (show ¬4096 + k.val < 3072 by omega), dif_pos (show 4096 + k.val < 8192 by omega)]
  exact congrArg (fun k => A0 m c (ix2 (row t y) k)) (Fin.ext (show 4096 + k.val + 16 = 4112 + k.val by omega))
theorem b2 (y : Fin 512) (k : Fin 1024) : X0_2 m c t (ix2 y k) = A0 m c (ix2 (row t y) ⟨5136 + k.val, by omega⟩) := by
  have h : X0_2 m c t (ix2 y k) = V m c main_v9 (ix2 (row t y) ⟨5120 + k.val, by omega⟩) := by
    unfold X0_2 Pipeline.Window.fill
    rw [dif_pos (moved0_2 t _)]
    obtain ⟨g0, e0, e1, e2, e3, e4, e5, e6, e7, e8, e9, e10⟩ := idx t; blk_ext [iblk, row, e2]
  rw [h, V9, packed0_apply, pack, dif_neg (show ¬5120 + k.val < 3072 by omega), dif_pos (show 5120 + k.val < 8192 by omega)]
  exact congrArg (fun k => A0 m c (ix2 (row t y) k)) (Fin.ext (show 5120 + k.val + 16 = 5136 + k.val by omega))
theorem b4 (y : Fin 16) (k : Fin 1024) : X0_4 m c t (ix2 y k) = A0 m c (ix2 (rowB t y) ⟨4112 + k.val, by omega⟩) := by
  have h : X0_4 m c t (ix2 y k) = V m c main_v9 (ix2 (rowB t y) ⟨4096 + k.val, by omega⟩) := by
    unfold X0_4 Pipeline.Window.fill
    rw [dif_pos (moved0_4 t _)]
    obtain ⟨g0, e0, e1, e2, e3, e4, e5, e6, e7, e8, e9, e10⟩ := idx t; blk_ext [iblk, rowB, e4]
  rw [h, V9, packed0_apply, pack, dif_neg (show ¬4096 + k.val < 3072 by omega), dif_pos (show 4096 + k.val < 8192 by omega)]
  exact congrArg (fun k => A0 m c (ix2 (rowB t y) k)) (Fin.ext (show 4096 + k.val + 16 = 4112 + k.val by omega))
theorem b5 (y : Fin 16) (k : Fin 1024) : X0_5 m c t (ix2 y k) = A0 m c (ix2 (rowB t y) ⟨5136 + k.val, by omega⟩) := by
  have h : X0_5 m c t (ix2 y k) = V m c main_v9 (ix2 (rowB t y) ⟨5120 + k.val, by omega⟩) := by
    unfold X0_5 Pipeline.Window.fill
    rw [dif_pos (moved0_5 t _)]
    obtain ⟨g0, e0, e1, e2, e3, e4, e5, e6, e7, e8, e9, e10⟩ := idx t; blk_ext [iblk, rowB, e5]
  rw [h, V9, packed0_apply, pack, dif_neg (show ¬5120 + k.val < 3072 by omega), dif_pos (show 5120 + k.val < 8192 by omega)]
  exact congrArg (fun k => A0 m c (ix2 (rowB t y) k)) (Fin.ext (show 5120 + k.val + 16 = 5136 + k.val by omega))
theorem b6 (y : Fin 16) (k : Fin 1024) : X0_6 m c t (ix2 y k) = A0 m c (ix2 (rowN t y) ⟨3088 + k.val, by omega⟩) := by
  have h : X0_6 m c t (ix2 y k) = V m c main_v9 (ix2 (rowN t y) ⟨3072 + k.val, by omega⟩) := by
    unfold X0_6 Pipeline.Window.fill
    rw [dif_pos (moved0_6 t _)]
    obtain ⟨g0, e0, e1, e2, e3, e4, e5, e6, e7, e8, e9, e10⟩ := idx t; blk_ext [iblk, rowN, e6]
  rw [h, V9, packed0_apply, pack, dif_neg (show ¬3072 + k.val < 3072 by omega), dif_pos (show 3072 + k.val < 8192 by omega)]
  exact congrArg (fun k => A0 m c (ix2 (rowN t y) k)) (Fin.ext (show 3072 + k.val + 16 = 3088 + k.val by omega))
theorem b3 (y : Fin 512) (k : Fin 1024) : iblk m c 3 t (ix2 y k) = A1 m c (ix2 (row t y) k) := by
  obtain ⟨g0, e0, e1, e2, e3, e4, e5, e6, e7, e8, e9, e10⟩ := idx t; blk_ext! [iblk, V, row, e3]
theorem b7 (y : Fin 16) (k : Fin 1024) : iblk m c 7 t (ix2 y k) = A1 m c (ix2 (rowN t y) k) := by
  obtain ⟨g0, e0, e1, e2, e3, e4, e5, e6, e7, e8, e9, e10⟩ := idx t; blk_ext! [iblk, V, rowN, e7]
theorem b8 (y : Fin 8) (k : Fin 1024) : iblk m c 8 t (ix2 y k) = V m c main_v3 (ix2 y k) := by
  obtain ⟨g0, e0, e1, e2, e3, e4, e5, e6, e7, e8, e9, e10⟩ := idx t; blk_ext [iblk, e8]
theorem b8_0 (k : Fin 1024) : iblk m c 8 t (ix2 0 k) = A2 m c (ix2 0 k) := by
  rw [b8]; refine (V3 m c 0 k).trans ?_; rw [dif_pos (by decide), if_neg (by decide)]; exact add_zero (_ : EReal)
theorem b8_1 (k : Fin 1024) : iblk m c 8 t (ix2 1 k) = A2 m c (ix2 1 k) := by
  rw [b8]; refine (V3 m c 1 k).trans ?_; rw [dif_pos (by decide), if_neg (by decide)]; exact add_zero (_ : EReal)
theorem b8_2 (k : Fin 1024) : iblk m c 8 t (ix2 2 k) = A2 m c (ix2 2 k) := by
  rw [b8]; refine (V3 m c 2 k).trans ?_; rw [dif_pos (by decide), if_neg (by decide)]; exact add_zero (_ : EReal)
theorem b8_3 (k : Fin 1024) : iblk m c 8 t (ix2 3 k) = A3 m c (ix1 k) := by
  rw [b8]; refine (V3 m c 3 k).trans ?_; rw [dif_neg (by decide), if_pos (by decide)]; exact zero_add (_ : EReal)

/-! ## The shifted blocks -/

theorem first_iff (h : t.val = 0) : Scalar.cmpi CmpIPredicate.eq (BitVec.ofNat 32 (grid0.coords t 0).val) 0#32 = 1#1 := by
  rw [(idx t).1, h]; rfl
theorem first_not (h : ¬t.val = 0) : ¬Scalar.cmpi CmpIPredicate.eq (BitVec.ofNat 32 (grid0.coords t 0).val) 0#32 = 1#1 := by
  have := lt_of_lt_of_eq t.isLt N_0
  rw [(idx t).1]; generalize t.val = n at *; interval_cases n <;> first | exact absurd rfl h | decide
theorem last_iff (h : t.val = 7) : Scalar.cmpi CmpIPredicate.eq (BitVec.ofNat 32 (grid0.coords t 0).val) 7#32 = 1#1 := by
  rw [(idx t).1, h]; rfl
theorem last_not (h : ¬t.val = 7) : ¬Scalar.cmpi CmpIPredicate.eq (BitVec.ofNat 32 (grid0.coords t 0).val) 7#32 = 1#1 := by
  have := lt_of_lt_of_eq t.isLt N_0
  rw [(idx t).1]; generalize t.val = n at *; interval_cases n <;> first | exact absurd rfl h | decide

/-- The rows before: from the sixteen rows before the block, zero at the first block, or from the block itself. -/
theorem shift_up (s : ℕ) (h1 : 1 ≤ s) (h2 : s ≤ 16) (y : Fin 512) (k : Fin 1024) (f4 f5 : Fin 16 → EReal) (f1 f2 : Fin 512 → EReal)
    (b4 : ∀ y, f4 y = A0 m c (ix2 (rowB t y) ⟨4112 + k.val, by omega⟩)) (b5 : ∀ y, f5 y = A0 m c (ix2 (rowB t y) ⟨5136 + k.val, by omega⟩))
    (b1 : ∀ y, f1 y = A0 m c (ix2 (row t y) ⟨4112 + k.val, by omega⟩)) (b2 : ∀ y, f2 y = A0 m c (ix2 (row t y) ⟨5136 + k.val, by omega⟩)) :
    (if h : (16 + y.val + 528 - s) % 528 < 16 then
      Scalar.select (Scalar.cmpi CmpIPredicate.eq (BitVec.ofNat 32 (grid0.coords t 0).val) 0#32) (0 : EReal)
        (f4 ⟨(16 + y.val + 528 - s) % 528, h⟩ * f5 ⟨(16 + y.val + 528 - s) % 528, h⟩)
    else f1 ⟨(16 + y.val + 528 - s) % 528 - 16, by omega⟩ * f2 ⟨(16 + y.val + 528 - s) % 528 - 16, by omega⟩)
      = up (A0 m c) s (row t y) k := by
  have hy := y.isLt
  have hv : (row t y).val = t.val * 512 + y.val := rfl
  have e : (16 + y.val + 528 - s) % 528 = 16 + y.val - s := by omega
  simp only [e, b1, b2, b4, b5]
  by_cases h : 16 + y.val - s < 16
  · rw [dif_pos h]
    by_cases h0 : t.val = 0
    · rw [up, dif_pos (show (row t y).val < s by omega)]
      exact if_pos (first_iff t h0)
    · rw [up, dif_neg (show ¬(row t y).val < s by omega)]
      refine (if_neg (first_not t h0)).trans ?_
      rw [u, show rowB t ⟨16 + y.val - s, h⟩ = ⟨(row t y).val - s, by have := (row t y).isLt; omega⟩ from Fin.ext (show (t.val * 32 - 1) * 16 + (16 + y.val - s) = t.val * 512 + y.val - s by omega)]
  · rw [dif_neg h, up, dif_neg (show ¬(row t y).val < s by omega), u]
    rw [show row t ⟨16 + y.val - s - 16, by omega⟩ = ⟨(row t y).val - s, by have := (row t y).isLt; omega⟩ from Fin.ext (show t.val * 512 + (16 + y.val - s - 16) = t.val * 512 + y.val - s by omega)]

/-- The rows after: from the block itself, or from the sixteen rows after it, zero at the last block. -/
theorem shift_dn (s r : ℕ) (hr : r + s = 528) (h1 : 1 ≤ s) (h2 : s ≤ 16) (y : Fin 512) (k : Fin 1024) (f3 f0 : Fin 512 → EReal) (f7 f6 : Fin 16 → EReal)
    (b3 : ∀ y, f3 y = A1 m c (ix2 (row t y) k)) (b0 : ∀ y, f0 y = A0 m c (ix2 (row t y) ⟨3088 + k.val, by omega⟩))
    (b7 : ∀ y, f7 y = A1 m c (ix2 (rowN t y) k)) (b6 : ∀ y, f6 y = A0 m c (ix2 (rowN t y) ⟨3088 + k.val, by omega⟩)) :
    (if h : (y.val + 528 - r) % 528 < 512 then f3 ⟨(y.val + 528 - r) % 528, h⟩ * f0 ⟨(y.val + 528 - r) % 528, h⟩
    else Scalar.select (Scalar.cmpi CmpIPredicate.eq (BitVec.ofNat 32 (grid0.coords t 0).val) 7#32) (0 : EReal)
        (f7 ⟨(y.val + 528 - r) % 528 - 512, by omega⟩ * f6 ⟨(y.val + 528 - r) % 528 - 512, by omega⟩))
      = dn (A0 m c) (A1 m c) s (row t y) k := by
  have hy := y.isLt
  have hv : (row t y).val = t.val * 512 + y.val := rfl
  have ht := lt_of_lt_of_eq t.isLt N_0
  have e : (y.val + 528 - r) % 528 = y.val + s := by omega
  simp only [e, b0, b3, b6, b7]
  by_cases h : y.val + s < 512
  · rw [dif_pos h, dn, dif_pos (show s + (row t y).val < 4096 by omega), dc]
    refine (mul_comm (_ : EReal) _).trans ?_
    rw [show row t ⟨y.val + s, h⟩ = ⟨s + (row t y).val, by show s + (t.val * 512 + y.val) < 4096; omega⟩ from Fin.ext (show t.val * 512 + (y.val + s) = s + (t.val * 512 + y.val) by omega)]
  · rw [dif_neg h]
    by_cases h0 : t.val = 7
    · rw [dn, dif_neg (show ¬s + (row t y).val < 4096 by omega)]
      exact if_pos (last_iff t h0)
    · rw [dn, dif_pos (show s + (row t y).val < 4096 by omega)]
      refine (if_neg (last_not t h0)).trans ?_
      refine (mul_comm (_ : EReal) _).trans ?_
      rw [dc, show rowN t ⟨y.val + s - 512, by omega⟩ = ⟨s + (row t y).val, by show s + (t.val * 512 + y.val) < 4096; omega⟩ from
        Fin.ext (show min (t.val * 32 + 32) 255 * 16 + (y.val + s - 512) = s + (t.val * 512 + y.val) by omega)]

theorem pay11 (y : Fin 512) (k : Fin 1024) : k0_pay11 (F := Ideal) (grid0.coords t) (X0_1 m c t) (X0_2 m c t) (X0_4 m c t) (X0_5 m c t) (ix2 y k)
    = up (A0 m c) 1 (row t y) k := by
  pointwise [k0_pay6, k0_pay7, k0_pay9, k0_pay10, k0_pay11]
  exact shift_up m c t 1 (by decide) (by decide) y k (fun y => X0_4 m c t (ix2 y k)) (fun y => X0_5 m c t (ix2 y k)) (fun y => X0_1 m c t (ix2 y k)) (fun y => X0_2 m c t (ix2 y k))
    (fun y => b4 m c t y k) (fun y => b5 m c t y k) (fun y => b1 m c t y k) (fun y => b2 m c t y k)
theorem pay12 (y : Fin 512) (k : Fin 1024) : k0_pay12 (F := Ideal) (grid0.coords t) (X0_1 m c t) (X0_2 m c t) (X0_4 m c t) (X0_5 m c t) (ix2 y k)
    = up (A0 m c) 2 (row t y) k := by
  pointwise [k0_pay6, k0_pay7, k0_pay9, k0_pay10, k0_pay12]
  exact shift_up m c t 2 (by decide) (by decide) y k (fun y => X0_4 m c t (ix2 y k)) (fun y => X0_5 m c t (ix2 y k)) (fun y => X0_1 m c t (ix2 y k)) (fun y => X0_2 m c t (ix2 y k))
    (fun y => b4 m c t y k) (fun y => b5 m c t y k) (fun y => b1 m c t y k) (fun y => b2 m c t y k)

theorem pay15 (y : Fin 512) (k : Fin 1024) : k0_pay15 (F := Ideal) (BitVec.ofNat 32 (grid0.coords t 0).val) (k0_pay5 (X0_0 m c t)) (k0_pay8 (iblk m c 3 t)) (iblk m c 7 t)
      (X0_6 m c t) (View.ld (iblk m c 8 t) (Rect.unit ![2, 0] ![1, 1024] inb_S8x1024_S1x1024_2_0))
      (View.ld (iblk m c 8 t) (Rect.unit ![1, 0] ![1, 1024] inb_S8x1024_S1x1024_1_0))
      (View.ld (iblk m c 8 t) (Rect.unit ![0, 0] ![1, 1024] inb_S8x1024_S1x1024_0_0)) (ix2 y k)
    = du (A0 m c) (A1 m c) (A2 m c) (row t y) k := by
  pointwise [k0_pay5, k0_pay8, k0_pay14, k0_pay15]
  refine congrArg₂ (· + ·) (congrArg₂ (· + ·) (congrArg₂ (· * ·) (b8_2 m c t k) ?_) (congrArg₂ (· * ·) (b8_1 m c t k) ?_)) (congrArg₂ (· * ·) (b8_0 m c t k) ?_)
  · rw [b3, b0]; exact mul_comm (_ : EReal) _
  · exact shift_dn m c t 1 527 (by decide) (by decide) (by decide) y k (fun y => iblk m c 3 t (ix2 y k)) (fun y => X0_0 m c t (ix2 y k)) (fun y => iblk m c 7 t (ix2 y k)) (fun y => X0_6 m c t (ix2 y k))
      (fun y => b3 m c t y k) (fun y => b0 m c t y k) (fun y => b7 m c t y k) (fun y => b6 m c t y k)
  · exact shift_dn m c t 2 526 (by decide) (by decide) (by decide) y k (fun y => iblk m c 3 t (ix2 y k)) (fun y => X0_0 m c t (ix2 y k)) (fun y => iblk m c 7 t (ix2 y k)) (fun y => X0_6 m c t (ix2 y k))
      (fun y => b3 m c t y k) (fun y => b0 m c t y k) (fun y => b7 m c t y k) (fun y => b6 m c t y k)

theorem pay16 (y : Fin 512) (k : Fin 1024) : k0_pay16 (F := Ideal) (k0_pay8 (iblk m c 3 t)) (k0_pay9 (X0_1 m c t) (X0_2 m c t))
      (k0_pay13 (grid0.coords t) (X0_1 m c t) (X0_2 m c t) (X0_4 m c t) (X0_5 m c t)
        (View.ld (iblk m c 8 t) (Rect.unit ![0, 0] ![1, 1024] inb_S8x1024_S1x1024_0_0))
        (View.ld (iblk m c 8 t) (Rect.unit ![1, 0] ![1, 1024] inb_S8x1024_S1x1024_1_0)))
      (View.ld (iblk m c 8 t) (Rect.unit ![2, 0] ![1, 1024] inb_S8x1024_S1x1024_2_0))
      (View.ld (iblk m c 8 t) (Rect.unit ![3, 0] ![1, 1024] inb_S8x1024_S1x1024_3_0)) (ix2 y k)
    = (show EReal from A1 m c (ix2 (row t y) k)) * conv (A0 m c) (A2 m c) (A3 m c) (row t y) k := by
  pointwise [k0_pay6, k0_pay7, k0_pay8, k0_pay9, k0_pay13, k0_pay16]
  rw [pay11, pay12]
  simp only [b8_0, b8_1, b8_2, b8_3, b3, b1, b2]
  rfl

/-- A point's share of the gradients of the weights. -/
def share (t : Fin cfg0.N) (j : S8x1024.Idx) : EReal := ∑ r : Fin 512, term (A0 m c) (A1 m c) (j 0) (row t r) (j 1)

theorem sums_apply (v12 v25 v27 v46 : FVec Ideal S512x1024 .f32) (y : Fin 8) (k : Fin 1024) : k0_pay3 (F := Ideal) v12 v25 v27 v46 (ix2 y k)
    = ∑ r : Fin 512, (if y.val < 1 then v46 (ix2 r k) * v27 (ix2 r k) else if y.val < 2 then v46 (ix2 r k) * v25 (ix2 r k) else
      if y.val < 3 then v46 (ix2 r k) * v12 (ix2 r k) else if y.val < 4 then v46 (ix2 r k) else (0 : EReal)) := by
  obtain ⟨y, hy⟩ := y
  interval_cases y
  all_goals pointwise [k0_pay3]
  all_goals simp

theorem pay3 (y : Fin 8) (k : Fin 1024) : k0_pay3 (F := Ideal) (k0_pay9 (X0_1 m c t) (X0_2 m c t))
      (k0_pay11 (grid0.coords t) (X0_1 m c t) (X0_2 m c t) (X0_4 m c t) (X0_5 m c t))
      (k0_pay12 (grid0.coords t) (X0_1 m c t) (X0_2 m c t) (X0_4 m c t) (X0_5 m c t))
      (k0_pay14 (k0_pay5 (X0_0 m c t)) (k0_pay8 (iblk m c 3 t))) (ix2 y k) = share m c t (ix2 y k) := by
  refine (sums_apply _ _ _ _ y k).trans (Finset.sum_congr rfl fun r _ => ?_)
  have e46 : k0_pay14 (F := Ideal) (k0_pay5 (X0_0 m c t)) (k0_pay8 (iblk m c 3 t)) (ix2 r k) = dc (A0 m c) (A1 m c) (row t r) k := by
    pointwise [k0_pay5, k0_pay8, k0_pay14]
    rw [b3, b0]; exact mul_comm (_ : EReal) _
  have e12 : k0_pay9 (F := Ideal) (X0_1 m c t) (X0_2 m c t) (ix2 r k) = u (A0 m c) (row t r) k := by
    pointwise [k0_pay6, k0_pay7, k0_pay9]
    rw [b1, b2]; rfl
  rw [e46, e12, pay11, pay12]
  rfl

/-! ## The outputs -/

theorem out9 (y0 : Fin 512) (y1 : Fin 3072) (b : Fin 8320) (hb : b.val = 3072 + y1.val) : (outsAt0 m c t.val t.isLt).1 (ix2 y0 y1)
    = Cert.ConvBwdRefIdeal.Read.val_main_v80 (F := Ideal) (A0 m c) (A1 m c) (A2 m c) (A3 m c) (A4 m c) (ix2 (row t y0) b) := by
  have hN := lt_of_lt_of_eq t.isLt N_0
  by_cases hA : t.val % 8 = 0
  · rw [outsAt0_A m c t hA (by omega)]
    frame_out
    canon_tiles x h
    · idx_vars x
      have e0 : y0 = x0 := Fin.ext h0
      subst e0
      rw [ref80d _ _ _ _ _ _ b x1 (by rw [hb, show y1.val = 2048 + x1.val from h1]; omega)]
      pointwise [k0_pay2, k0_pay6]
      exact congrArg₂ (· * ·) (pay15 m c t y0 x1) (b1 m c t y0 x1)
    · idx_vars x
      have e0 : y0 = x0 := Fin.ext h0
      subst e0
      rw [ref80c _ _ _ _ _ _ b x1 (by rw [hb, show y1.val = 1024 + x1.val from h1]; omega)]
      pointwise [k0_pay1, k0_pay7]
      exact congrArg₂ (· * ·) (pay15 m c t y0 x1) (b2 m c t y0 x1)
    · idx_vars x
      have e0 : y0 = x0 := Fin.ext h0
      subst e0
      rw [ref80b _ _ _ _ _ _ b x1 (by rw [hb, show y1.val = x1.val from h1])]
      exact pay16 m c t y0 x1
  · rw [outsAt0_B m c t hA (by omega)]
    frame_out
    canon_tiles x h
    · idx_vars x
      have e0 : y0 = x0 := Fin.ext h0
      subst e0
      rw [ref80d _ _ _ _ _ _ b x1 (by rw [hb, show y1.val = 2048 + x1.val from h1]; omega)]
      pointwise [k0_pay2, k0_pay6]
      exact congrArg₂ (· * ·) (pay15 m c t y0 x1) (b1 m c t y0 x1)
    · idx_vars x
      have e0 : y0 = x0 := Fin.ext h0
      subst e0
      rw [ref80c _ _ _ _ _ _ b x1 (by rw [hb, show y1.val = 1024 + x1.val from h1]; omega)]
      pointwise [k0_pay1, k0_pay7]
      exact congrArg₂ (· * ·) (pay15 m c t y0 x1) (b2 m c t y0 x1)
    · idx_vars x
      have e0 : y0 = x0 := Fin.ext h0
      subst e0
      rw [ref80b _ _ _ _ _ _ b x1 (by rw [hb, show y1.val = x1.val from h1])]
      exact pay16 m c t y0 x1

/-! ## The finished arrays -/

theorem xi9 (y : ((cfg0.win 9).xblock (cfg0.grid.coords t)).Idx) (h0 : (y 0).val < 512) (h1 : (y 1).val < 3072) :
    (cfg0.win 9).xinj (cfg0.grid.coords t) y = (ix2 ⟨(y 0).val, h0⟩ ⟨(y 1).val, h1⟩ : S512x3072.Idx) := by
  funext a
  fin_cases a <;> rfl

theorem emb9 (y : ((cfg0.win 9).xblock (cfg0.grid.coords t)).Idx) (h0 : (y 0).val < 512) (h1 : (y 1).val < 3072) :
    ix2 (row t ⟨(y 0).val, h0⟩) ⟨3072 + (y 1).val, by omega⟩ = (win0_9.blk t).view.emb y := by
  obtain ⟨g0, e0, e1, e2, e3, e4, e5, e6, e7, e8, e9, e10⟩ := idx t
  have h : ∀ a, ((win0_9.blk t).view.emb y a : Nat) = win0_9.index t a * win0_9.size a + (y a).val := fun a => win0_9.rect_emb_val t y a
  funext a
  refine Fin.ext ((h a).symm ▸ ?_)
  rw [e9]
  fin_cases a <;> rfl

theorem point9 (y : ((cfg0.win 9).xblock (cfg0.grid.coords t)).Idx) : (outsAt0 m c t.val t.isLt).1 ((cfg0.win 9).xinj (cfg0.grid.coords t) y)
    = Cert.ConvBwdRefIdeal.Read.val_main_v80 (F := Ideal) (A0 m c) (A1 m c) (A2 m c) (A3 m c) (A4 m c) ((win0_9.blk t).view.emb y) := by
  have hy0 : (y 0).val < 512 := lt_of_lt_of_le (y 0).isLt ((cfg0.win 9).xsize_le (cfg0.grid.coords t) 0)
  have hy1 : (y 1).val < 3072 := lt_of_lt_of_le (y 1).isLt ((cfg0.win 9).xsize_le (cfg0.grid.coords t) 1)
  rw [← emb9 t y hy0 hy1, xi9 t y hy0 hy1]
  exact out9 m c t _ _ _ rfl

theorem old9 (a : Fin 4096) (b : Fin 8320) : (dats m 0 c).A 9 (ix2 a b) = A4 m c (ix2 a b) := by
  show V m c main_v12_0 (ix2 a b) = A4 m c (ix2 a b)
  entry_read
  rfl

theorem final9 : (dats m 0 c).arrAt 9 cfg0.N = Cert.ConvBwdRefIdeal.Read.val_main_v80 (F := Ideal) (A0 m c) (A1 m c) (A2 m c) (A3 m c) (A4 m c) := by
  funext i
  refine ((dats m 0 c).arrAt_apply_of_coversWhere 9 (Cert.ConvBwdRefIdeal.Read.val_main_v80 (F := Ideal) (A0 m c) (A1 m c) (A2 m c) (A3 m c) (A4 m c))
    (P := fun i => (i 1).val / 3072 = 1) (fun β => β (1 : Fin 2) = 1) (by decide +kernel) (fun t hf y => ?_) (fun j => Iff.rfl) i).trans ?_
  · blk_simp
    rw [after0_9]
    exact point9 m c t y
  · revert i
    intro i
    idx_vars i
    by_cases h : i1.val / 3072 = 1
    · exact if_pos h
    · refine (if_neg h).trans ?_
      rw [old9]
      exact (ref80x _ _ _ _ _ i0 i1 h).symm

theorem final10 : (dats m 0 c).arrAt 10 cfg0.N = Cert.ConvBwdRefIdeal.Read.val_main_v79 (F := Ideal) (A0 m c) (A1 m c) := by
  refine (dats m 0 c).arrAt_eq_of_after_last 10 t0_7 (by decide +kernel) _ fun j => ?_
  blk_simp
  rw [after0_10, Pipeline.eq_sum_fin_of_reset_step_apply_last (fun n h => (outsAt0 m c n h).2) 8 (fun _ => (0 : EReal)) (share m c)
    (fun t h j => by
      have hN := lt_of_lt_of_eq t.isLt N_0
      simp only [outsAt0_A m c t h (by omega)]
      frame_out
      idx_vars j
      rw [pay3, zero_add])
    (fun t h j => by
      have hN := lt_of_lt_of_eq t.isLt N_0
      simp only [outsAt0_B m c t h (by omega)]
      frame_out
      idx_vars j
      pointwise [k0_pay4]
      rw [pay3])
    (le_of_eq N_0) t0_7 rfl j, zero_add]
  idx_vars j
  refine Eq.trans ?_ (ref79 _ _ _ _).symm
  exact Fin.sum_mul_add_congr fun t k h => rfl

/-! ## The claims -/

theorem frame_reference : Cert.quiescent_ConvBwdRefIdeal := fun m ρ _ =>
  (θ_run Cert.ConvBwdRefIdeal.defs _ _).mono (fun r h => ⟨fun c => (h c).2.2, sem_eq_zero_of_no_sems (by decide) r.2⟩)
    (Cert.ConvBwdRefIdeal.Value.run (F := Ideal) m ρ)

theorem algebraic : Cert.algebraic_ConvBwdIdeal_ConvBwdRefIdeal := by
  intro m g m' g' _ hag
  refine ⟨fun c => (dats m 0 c).arrAt 9 cfg0.N, fun c => (dats m 0 c).arrAt 10 cfg0.N, Cert.ConvBwdIdeal.Value.run_blocks m g, ?_⟩
  refine (θ_run _ _ _).mono (fun r h c => ?_) (Cert.ConvBwdRefIdeal.Value.run (F := Ideal) m' g')
  obtain ⟨a0, a1, a2, a3, a4⟩ := hag c
  obtain ⟨r0, r1, r2⟩ := h c
  refine ⟨?_, ?_, r2⟩
  · rw [r0, Cert.ConvBwdRefIdeal.Read.val_main_v80_eq, a0, a1, a2, a3, a4]; exact (final9 m c).symm
  · rw [r1, a0, a1]; exact (final10 m c).symm

end Cert.Conv
-- ==== Proof.GlaBlock.lean ====
module
public import proofs.«01_k».proof.Defs
public import proofs.«01_k».proof.Proof.Gen.GlaFwdIdeal.Value
public import Idealize.ShloMosaic.Lib.Pipeline.ValueKit
public import Idealize.ShloMosaic.Lib.Pointwise
public import Idealize.ShloMosaic.Lib.StableHlo.ReadAt
public import Idealize.ShloMosaic.Lib.Pipeline.ReadBack
@[expose] public section
set_option maxRecDepth 16384
noncomputable section
namespace Cert.Gla
open Idealize.ShloMosaic Idealize.ShloMosaic.TcCoe Idealize.SL.Sem
open Cert.GlaFwdIdeal Cert.GlaFwdIdeal.Gen
variable (m : (ℓ : Loc nD τ sig) → Buf (Elt Ideal) ℓ) (c : Dev nD) (t : Fin cfg0.N)

/-- The new state of a head, from the chunk's decays, keys and values and the state before. -/
def upd0 (la : Vec Ideal S64x512 .f32) (k : Vec Ideal S64x512 .bf16) (v : Vec Ideal S64x1024 .bf16) (s : Vec Ideal S256x128 .f32) : FVec Ideal S256x128 .f32 :=
  k0_pay101 k0_pay4 la k v s
def upd1 (la : Vec Ideal S64x512 .f32) (k : Vec Ideal S64x512 .bf16) (v : Vec Ideal S64x1024 .bf16) (s : Vec Ideal S256x128 .f32) : FVec Ideal S256x128 .f32 :=
  k0_pay105 (k0_pay96 k0_pay4 la) (k0_pay97 k0_pay4 la k) (k0_pay99 v) s
def upd2 (la : Vec Ideal S64x512 .f32) (k : Vec Ideal S64x512 .bf16) (v : Vec Ideal S64x1024 .bf16) (s : Vec Ideal S256x128 .f32) : FVec Ideal S256x128 .f32 :=
  k0_pay108 (k0_pay96 k0_pay4 la) (k0_pay97 k0_pay4 la k) (k0_pay99 v) s
def upd3 (la : Vec Ideal S64x512 .f32) (k : Vec Ideal S64x512 .bf16) (v : Vec Ideal S64x1024 .bf16) (s : Vec Ideal S256x128 .f32) : FVec Ideal S256x128 .f32 :=
  k0_pay113 (k0_pay96 k0_pay4 la) (k0_pay110 (k0_pay99 v)) (k0_pay111 (k0_pay97 k0_pay4 la k)) (constant S256x128 .f32 0#32) s

theorem inb512 (i : Fin 8) : ∀ a, (![64 * i.val, 0] : Fin 2 → ℕ) a + (![64, 512] : Fin 2 → ℕ) a ≤ S512x512.size a := by revert i; decide
theorem inb1024 (i : Fin 8) : ∀ a, (![64 * i.val, 0] : Fin 2 → ℕ) a + (![64, 1024] : Fin 2 → ℕ) a ≤ S512x1024.size a := by revert i; decide
/-- Chunk `i` of a block of keys, of decays, of values. -/
def ck {e : EltTy} (x : Vec Ideal S512x512 e) (i : Fin 8) : Vec Ideal S64x512 e := View.ld x (Rect.unit ![64 * i.val, 0] ![64, 512] (inb512 i))
def cv {e : EltTy} (x : Vec Ideal S512x1024 e) (i : Fin 8) : Vec Ideal S64x1024 e := View.ld x (Rect.unit ![64 * i.val, 0] ![64, 1024] (inb1024 i))

/-- The decays of a block of rows. -/
def laB : Vec Ideal S512x512 .f32 := k0_pay3 (iblk m c 4 t) (iblk m c 5 t) (iblk m c 6 t)

/-- The state of a head after `n` chunks of the block, from the state `s` at its start. -/
def iter (f : Vec Ideal S64x512 .f32 → Vec Ideal S64x512 .bf16 → Vec Ideal S64x1024 .bf16 → Vec Ideal S256x128 .f32 → FVec Ideal S256x128 .f32) (s : Vec Ideal S256x128 .f32) :
    (n : ℕ) → n ≤ 8 → Vec Ideal S256x128 .f32
  | 0, _ => s
  | n + 1, h => f (ck (laB m c t) ⟨n, h⟩) (ck (X0_1 m c t) ⟨n, h⟩) (cv (X0_2 m c t) ⟨n, h⟩) (iter f s n (Nat.le_of_succ_le h))

theorem inbO (h : Fin 4) (i : Fin 8) : ∀ a, (![64 * i.val, 256 * h.val] : Fin 2 → ℕ) a + (![64, 256] : Fin 2 → ℕ) a ≤ S512x1024.size a := by revert h i; decide
theorem inbS (i : Fin 8) : ∀ a, (![i.val, 0, 0] : Fin 3 → ℕ) a + (![1, 256, 512] : Fin 3 → ℕ) a ≤ S8x256x512.size a := by revert i; decide
theorem inbT (h : Fin 4) : ∀ a, (![0, 128 * h.val] : Fin 2 → ℕ) a + (![256, 128] : Fin 2 → ℕ) a ≤ S256x512.size a := by revert h; decide
theorem inbH (h : Fin 4) : ∀ a, (![0, 256 * h.val] : Fin 2 → ℕ) a + (![512, 256] : Fin 2 → ℕ) a ≤ S512x1024.size a := by revert h; decide

/-- The columns of a head in the carried state. -/
def cs (s : Vec Ideal S256x512 .f32) (h : Fin 4) : Vec Ideal S256x128 .f32 := View.ld s (Rect.unit ![0, 128 * h.val] ![256, 128] (inbT h))

/-- The pieces of the carried state, head by head. -/
def tiles (s : Vec Ideal S256x512 .f32) (n : ℕ) (h : n ≤ 8) : List (View.Piece (Elt Ideal) S256x512 .f32) :=
  [⟨Rect.unit ![0, 384] ![256, 128] inb_S256x512_S256x128_0_384, iter m c t upd3 (cs s 3) n h⟩,
   ⟨Rect.unit ![0, 256] ![256, 128] inb_S256x512_S256x128_0_256, iter m c t upd2 (cs s 2) n h⟩,
   ⟨Rect.unit ![0, 128] ![256, 128] inb_S256x512_S256x128_0_128, iter m c t upd1 (cs s 1) n h⟩,
   ⟨Rect.unit ![0, 0] ![256, 128] inb_S256x512_S256x128_0_0, iter m c t upd0 (cs s 0) n h⟩]

/-- What a head reads of a chunk through its new state. -/
def out0 (la : Vec Ideal S64x512 .f32) (k q : Vec Ideal S64x512 .bf16) (v : Vec Ideal S64x1024 .bf16) (s : Vec Ideal S256x128 .f32) : FVec Ideal S64x256 .f32 :=
  k0_pay103 (k0_pay102 k0_pay4 la k q v s)
def out1 (la : Vec Ideal S64x512 .f32) (k q : Vec Ideal S64x512 .bf16) (v : Vec Ideal S64x1024 .bf16) (s : Vec Ideal S256x128 .f32) : FVec Ideal S64x256 .f32 :=
  k0_pay106 (k0_pay96 k0_pay4 la) (k0_pay97 k0_pay4 la k) (k0_pay98 q) (k0_pay99 v) s
def out2 (la : Vec Ideal S64x512 .f32) (k q : Vec Ideal S64x512 .bf16) (v : Vec Ideal S64x1024 .bf16) (s : Vec Ideal S256x128 .f32) : FVec Ideal S64x256 .f32 :=
  k0_pay109 (k0_pay96 k0_pay4 la) (k0_pay97 k0_pay4 la k) (k0_pay98 q) (k0_pay99 v) s
def out3 (la : Vec Ideal S64x512 .f32) (k q : Vec Ideal S64x512 .bf16) (v : Vec Ideal S64x1024 .bf16) (s : Vec Ideal S256x128 .f32) : FVec Ideal S64x256 .f32 :=
  k0_pay114 (k0_pay96 k0_pay4 la) (k0_pay98 q) (k0_pay110 (k0_pay99 v)) (k0_pay111 (k0_pay97 k0_pay4 la k)) (constant S256x128 .f32 0#32) s

/-- The readings of the first `n` chunks, newest first. -/
def oP (s : Vec Ideal S256x512 .f32) : (n : ℕ) → n ≤ 8 → List (View.Piece (Elt Ideal) S512x1024 .f32)
  | 0, _ => []
  | n + 1, h =>
    [⟨Rect.unit ![64 * (⟨n, h⟩ : Fin 8).val, 256 * (3 : Fin 4).val] ![64, 256] (inbO 3 ⟨n, h⟩), out3 (ck (laB m c t) ⟨n, h⟩) (ck (X0_1 m c t) ⟨n, h⟩) (ck (X0_0 m c t) ⟨n, h⟩) (cv (X0_2 m c t) ⟨n, h⟩) (iter m c t upd3 (cs s 3) n (Nat.le_of_succ_le h))⟩,
     ⟨Rect.unit ![64 * (⟨n, h⟩ : Fin 8).val, 256 * (2 : Fin 4).val] ![64, 256] (inbO 2 ⟨n, h⟩), out2 (ck (laB m c t) ⟨n, h⟩) (ck (X0_1 m c t) ⟨n, h⟩) (ck (X0_0 m c t) ⟨n, h⟩) (cv (X0_2 m c t) ⟨n, h⟩) (iter m c t upd2 (cs s 2) n (Nat.le_of_succ_le h))⟩,
     ⟨Rect.unit ![64 * (⟨n, h⟩ : Fin 8).val, 256 * (1 : Fin 4).val] ![64, 256] (inbO 1 ⟨n, h⟩), out1 (ck (laB m c t) ⟨n, h⟩) (ck (X0_1 m c t) ⟨n, h⟩) (ck (X0_0 m c t) ⟨n, h⟩) (cv (X0_2 m c t) ⟨n, h⟩) (iter m c t upd1 (cs s 1) n (Nat.le_of_succ_le h))⟩,
     ⟨Rect.unit ![64 * (⟨n, h⟩ : Fin 8).val, 256 * (0 : Fin 4).val] ![64, 256] (inbO 0 ⟨n, h⟩), out0 (ck (laB m c t) ⟨n, h⟩) (ck (X0_1 m c t) ⟨n, h⟩) (ck (X0_0 m c t) ⟨n, h⟩) (cv (X0_2 m c t) ⟨n, h⟩) (iter m c t upd0 (cs s 0) n (Nat.le_of_succ_le h))⟩] ++ oP s n (Nat.le_of_succ_le h)

/-- The states stored by the first `n` chunks, newest first. -/
def sP (L : ℕ → List (View.Piece (Elt Ideal) S256x512 .f32)) (s : Vec Ideal S256x512 .f32) : (n : ℕ) → n ≤ 8 → List (View.Piece (Elt Ideal) S8x256x512 .bf16)
  | 0, _ => []
  | n + 1, h => ⟨Rect.unit ![(⟨n, h⟩ : Fin 8).val, 0, 0] ![1, 256, 512] (inbS ⟨n, h⟩), k0_pay25 ((View.whole cc0_scratch0).readCov (tiles m c t s (n + 1) h ++ L n) (Rect.unit ![0, 0] ![256, 512] inb_S256x512_S256x512_0_0).toLoadRect)⟩ :: sP L s n (Nat.le_of_succ_le h)

/-- The gated norm of what the heads read. -/
def gP (s : Vec Ideal S256x512 .f32) : List (View.Piece (Elt Ideal) S512x1024 .bf16) :=
  [⟨Rect.unit ![0, 256 * (3 : Fin 4).val] ![512, 256] (inbH 3), k0_pay1 ((View.whole cc0_scratch2).readCov ((oP m c t s 8 (le_refl 8)).drop 0) (Rect.unit ![0, 256 * (3 : Fin 4).val] ![512, 256] (inbH 3)).toLoadRect) (View.ld (X0_3 m c t) (Rect.unit ![0, 256 * (3 : Fin 4).val] ![512, 256] (inbH 3))) (iblk m c 7 t)⟩,
   ⟨Rect.unit ![0, 256 * (2 : Fin 4).val] ![512, 256] (inbH 2), k0_pay1 ((View.whole cc0_scratch2).readCov ((oP m c t s 8 (le_refl 8)).drop 1) (Rect.unit ![0, 256 * (2 : Fin 4).val] ![512, 256] (inbH 2)).toLoadRect) (View.ld (X0_3 m c t) (Rect.unit ![0, 256 * (2 : Fin 4).val] ![512, 256] (inbH 2))) (iblk m c 7 t)⟩,
   ⟨Rect.unit ![0, 256 * (1 : Fin 4).val] ![512, 256] (inbH 1), k0_pay1 ((View.whole cc0_scratch2).readCov ((oP m c t s 8 (le_refl 8)).drop 2) (Rect.unit ![0, 256 * (1 : Fin 4).val] ![512, 256] (inbH 1)).toLoadRect) (View.ld (X0_3 m c t) (Rect.unit ![0, 256 * (1 : Fin 4).val] ![512, 256] (inbH 1))) (iblk m c 7 t)⟩,
   ⟨Rect.unit ![0, 256 * (0 : Fin 4).val] ![512, 256] (inbH 0), k0_pay1 ((View.whole cc0_scratch2).readCov ((oP m c t s 8 (le_refl 8)).drop 3) (Rect.unit ![0, 256 * (0 : Fin 4).val] ![512, 256] (inbH 0)).toLoadRect) (View.ld (X0_3 m c t) (Rect.unit ![0, 256 * (0 : Fin 4).val] ![512, 256] (inbH 0))) (iblk m c 7 t)⟩]

/-- The tiles stored before chunk `n`'s, over `L`. -/
def tailS (s : Vec Ideal S256x512 .f32) (L : List (View.Piece (Elt Ideal) S256x512 .f32)) : ℕ → List (View.Piece (Elt Ideal) S256x512 .f32)
  | 0 => L
  | n + 1 => if h : n + 1 ≤ 8 then tiles m c t s (n + 1) h ++ tailS s L n else L

set_option maxHeartbeats 4000000 in
theorem carry_A (h0 : t.val % 8 = 0) : ∃ L, (outsAt0 m c t.val t.isLt).2.2 = View.canon (tiles m c t (k0_pay2 (F := Ideal)) 8 (le_refl 8) ++ L) := by
  rw [outsAt0_A m c t h0]
  frame_open
  simp (disch := decide) only [↓ View.readCov_skip, ↓ View.readCov_cons_toLoadRect, ↓ View.readCov_fill]
  frame_out
  exact ⟨_, rfl⟩

set_option maxHeartbeats 4000000 in
theorem states_A (h0 : t.val % 8 = 0) : ∃ L, (outsAt0 m c t.val t.isLt).2.1 = View.canon (sP m c t L (k0_pay2 (F := Ideal)) 8 (le_refl 8)) := by
  rw [outsAt0_A m c t h0]
  frame_open
  simp (disch := decide) only [↓ View.readCov_skip, ↓ View.readCov_cons_toLoadRect, ↓ View.readCov_fill]
  frame_out
  exact ⟨tailS m c t (k0_pay2 (F := Ideal)) [⟨Rect.unit ![0, 0] ![256, 512] inb_S256x512_S256x512_0_0, (k0_pay2 (F := Ideal))⟩], rfl⟩

set_option maxHeartbeats 4000000 in
theorem gated_A (h0 : t.val % 8 = 0) : (outsAt0 m c t.val t.isLt).1 = View.canon (gP m c t (k0_pay2 (F := Ideal))) := by
  rw [outsAt0_A m c t h0]
  frame_open
  simp (disch := decide) only [↓ View.readCov_skip, ↓ View.readCov_cons_toLoadRect, ↓ View.readCov_fill]
  frame_out
  rfl

set_option maxHeartbeats 4000000 in
theorem carry_B (h0 : ¬t.val % 8 = 0) : ∃ L, (outsAt0 m c t.val t.isLt).2.2 = View.canon (tiles m c t (outsAt0 m c (t.val - 1) (Nat.lt_of_le_of_lt (Nat.sub_le _ _) t.isLt)).2.2 8 (le_refl 8) ++ L) := by
  rw [outsAt0_B m c t h0]
  frame_open
  simp (disch := decide) only [↓ View.readCov_skip, ↓ View.readCov_cons_toLoadRect, ↓ View.readCov_fill]
  frame_out
  simp only [read_unread_whole]
  exact ⟨_, rfl⟩

set_option maxHeartbeats 4000000 in
theorem states_B (h0 : ¬t.val % 8 = 0) : ∃ L, (outsAt0 m c t.val t.isLt).2.1 = View.canon (sP m c t L (outsAt0 m c (t.val - 1) (Nat.lt_of_le_of_lt (Nat.sub_le _ _) t.isLt)).2.2 8 (le_refl 8)) := by
  rw [outsAt0_B m c t h0]
  frame_open
  simp (disch := decide) only [↓ View.readCov_skip, ↓ View.readCov_cons_toLoadRect, ↓ View.readCov_fill]
  frame_out
  simp only [read_unread_whole]
  exact ⟨tailS m c t (outsAt0 m c (t.val - 1) (Nat.lt_of_le_of_lt (Nat.sub_le _ _) t.isLt)).2.2 [], rfl⟩

set_option maxHeartbeats 4000000 in
theorem gated_B (h0 : ¬t.val % 8 = 0) : (outsAt0 m c t.val t.isLt).1 = View.canon (gP m c t (outsAt0 m c (t.val - 1) (Nat.lt_of_le_of_lt (Nat.sub_le _ _) t.isLt)).2.2) := by
  rw [outsAt0_B m c t h0]
  frame_open
  simp (disch := decide) only [↓ View.readCov_skip, ↓ View.readCov_cons_toLoadRect, ↓ View.readCov_fill]
  frame_out
  simp only [read_unread_whole]
  rfl
-- ==== Proof.GlaMath.lean ====
/- The gated linear attention branch as formulas over extended reals, entry by entry: the decay of each chunk of 64 rows, the
   state after each chunk, what the queries read of it, and the normalised and gated output. Both programs are brought to these. -/
module
public import Idealize.ShloMosaic.Lib.Pointwise
public import Idealize.ShloMosaic.Lib.IdealHost
public import proofs.«01_k».proof.Defs
@[expose] public section
noncomputable section
namespace Cert.Gla
open Idealize.ShloMosaic
open Cert.GlaFwdIdeal

/-- The sum of the entries up to and including `l`. -/
def cum (f : Fin 64 → EReal) (l : Fin 64) : EReal := ∑ j : Fin 64, if j.val ≤ l.val then f j else 0

/-- Row `l` of chunk `n`. -/
def row (n : ℕ) (l : Fin 64) : Fin 4096 := ⟨(64 * n + l.val) % 4096, Nat.mod_lt _ (by norm_num)⟩
/-- Key `k` of head `h` among the 512 keys. -/
def hk (h : Fin 4) (k : Fin 128) : Fin 512 := ⟨h.val * 128 + k.val, by omega⟩

variable (x0 : (⟨S4096x8208, .f32⟩ : BufTy).Contents (Elt Ideal)) (x1 : (⟨S16x512, .f32⟩ : BufTy).Contents (Elt Ideal))
  (x2 : (⟨S512, .f32⟩ : BufTy).Contents (Elt Ideal)) (x3 : (⟨S256, .f32⟩ : BufTy).Contents (Elt Ideal))

/-- The gate before the logistic function. -/
def fg (a : Fin 4096) (k : Fin 512) : EReal :=
  (∑ x : Fin 16, (x0 (ix2 a (⟨3072 + x.val, by omega⟩ : Fin 8208)) : EReal) * x1 (ix2 x k)) + x2 (ix1 k)
/-- The logarithm of a gate's value, over sixteen. -/
def lsig (f : EReal) : EReal := (min f 0 - Ideal.log1p (Ideal.exp (0 - max f (-f)))) * Ideal.ofBits .f32 0x3D800000#32
/-- The logarithms of a key's decay over the rows of chunk `n`. -/
def lac (n : ℕ) (h : Fin 4) (k : Fin 128) (l : Fin 64) : EReal := lsig (fg x0 x1 x2 (row n l) (hk h k))
/-- A key, decayed to the end of its chunk. -/
def kd (n : ℕ) (h : Fin 4) (k : Fin 128) (l : Fin 64) : EReal :=
  (x0 (ix2 (row n l) (⟨512 + (h.val * 128 + k.val), by omega⟩ : Fin 8208)) : EReal)
    * Ideal.exp (cum (lac x0 x1 x2 n h k) 63 - cum (lac x0 x1 x2 n h k) l)
/-- One chunk's decay of the state. -/
def gam (n : ℕ) (h : Fin 4) (k : Fin 128) : EReal := Ideal.exp (cum (lac x0 x1 x2 n h k) 63)
/-- A value. -/
def vv (n : ℕ) (h : Fin 4) (v : Fin 256) (l : Fin 64) : EReal := x0 (ix2 (row n l) (⟨1024 + (h.val * 256 + v.val), by omega⟩ : Fin 8208))
/-- A scaled query. -/
def qq (n : ℕ) (h : Fin 4) (l : Fin 64) (k : Fin 128) : EReal :=
  (x0 (ix2 (row n l) (⟨h.val * 128 + k.val, by omega⟩ : Fin 8208)) : EReal) * Ideal.ofBits .f32 0x3DB504F3#32
/-- The state at key `k` and value `v` of head `h` after `n` chunks. -/
def st (h : Fin 4) (k : Fin 128) (v : Fin 256) : ℕ → EReal
  | 0 => 0
  | n + 1 => st h k v n * gam x0 x1 x2 n h k + ∑ l : Fin 64, vv x0 n h v l * kd x0 x1 x2 n h k l
/-- What row `l` of chunk `n` reads of the state after its chunk. -/
def oo (n : ℕ) (h : Fin 4) (l : Fin 64) (v : Fin 256) : EReal := ∑ k : Fin 128, qq x0 n h l k * st x0 x1 x2 h k v (n + 1)
/-- The normalised and gated output, of the vector `o` a row reads, at value `v`. -/
def gated (o : Fin 256 → EReal) (g r : EReal) (v : Fin 256) : EReal :=
  o v * Ideal.rsqrt (Ideal.div (∑ x : Fin 256, o x * o x) (Ideal.ofBits .f32 0x43800000#32) + Ideal.ofBits .f32 0x358637BD#32) * g
    * (r * Ideal.logistic r)
/-- The output at row `a` and column `k`. -/
def outE (a : Fin 4096) (k : Fin 1024) : EReal :=
  gated (oo x0 x1 x2 (a.val / 64) ⟨k.val / 256, by omega⟩ ⟨a.val % 64, by omega⟩) (x3 (ix1 (⟨k.val % 256, by omega⟩ : Fin 256)))
    (x0 (ix2 a (⟨2048 + k.val, by omega⟩ : Fin 8208))) ⟨k.val % 256, by omega⟩
/-- The stored state at chunk `n`, value `y` and key `k` of the 512. -/
def stE (n : Fin 64) (y : Fin 256) (k : Fin 512) : EReal := st x0 x1 x2 ⟨k.val / 128, by omega⟩ ⟨k.val % 128, by omega⟩ y (n.val + 1)

theorem row_val (n : ℕ) (hn : n < 64) (l : Fin 64) : (row n l).val = 64 * n + l.val := Nat.mod_eq_of_lt (by omega)

theorem log1p_nonneg {x : EReal} (hx : 0 ≤ x) : 0 ≤ Ideal.log1p x := by
  unfold Ideal.log1p
  induction x using EReal.rec with
  | bot => simp at hx
  | top => rw [show (1 : EReal) + ⊤ = ⊤ from EReal.coe_add_top 1]; exact le_top
  | coe r =>
    have hr : 0 ≤ r := by exact_mod_cast hx
    rw [← EReal.coe_one, ← EReal.coe_add]
    show 0 ≤ (if 1 + r ≤ 0 then ⊥ else (Real.log (1 + r) : EReal))
    rw [if_neg (by linarith)]
    exact_mod_cast Real.log_nonneg (by linarith)

theorem exp_nonneg (x : EReal) : 0 ≤ Ideal.exp x := by
  induction x using EReal.rec with
  | bot => exact le_rfl
  | top => exact le_top
  | coe r => show (0 : EReal) ≤ ((Real.exp r : ℝ) : EReal); exact_mod_cast (Real.exp_pos r).le

theorem ofBits_16 : Ideal.ofBits .f32 0x41800000#32 = ((16 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num

/-- The two ways of writing the logarithm of the logistic function. -/
theorem lsig_eq (f : EReal) : Ideal.div (-(max (-f) 0 + Ideal.log1p (Ideal.exp (-max (-f) (- -f))))) (Ideal.ofBits .f32 0x41800000#32) = lsig f := by
  have ha : max (-f) (- -f) = max f (-f) := by
    rw [neg_neg, max_comm]
  have hb : (0 : EReal) ≤ max (-f) 0 := le_max_right _ _
  have hm : -max (-f) 0 = min f 0 := by
    rcases le_total (-f) 0 with h | h
    · rw [max_eq_right h, neg_zero, min_eq_right]; exact EReal.neg_le_zero.1 h
    · rw [max_eq_left h, neg_neg, min_eq_left]; exact EReal.neg_le_neg_iff.1 (by rwa [neg_zero])
  have hc := log1p_nonneg (exp_nonneg (-max f (-f)))
  unfold lsig
  rw [ha, EReal.neg_add (Or.inl fun h => by rw [h] at hb; simp at hb) (Or.inr fun h => by rw [h] at hc; simp at hc), hm, zero_sub, ofBits_16, ofBits_sixteenth,
    Ideal.div, if_neg (by norm_num), one_div, EReal.coe_inv]
end Cert.Gla
-- ==== Proof.GlaRef.lean ====
/- The scanned reference: each of its carried buffers after `n` chunks, entry by entry. -/
module
public import proofs.«01_k».proof.Defs
public import proofs.«01_k».proof.Proof.Gen.GlaFwdRefIdeal.Step
public import proofs.«01_k».proof.Proof.Gen.GlaFwdRefIdeal.Run
public import proofs.«01_k».proof.Proof.GlaMath
public import Idealize.ShloMosaic.Lib.Pipeline.ValueKit
public import Idealize.ShloMosaic.Lib.Pointwise
public import Idealize.ShloMosaic.Lib.StableHlo.ReadAt
@[expose] public section
set_option maxRecDepth 65536
noncomputable section
namespace Cert.Gla.Ref
open Idealize.ShloMosaic Idealize.ShloMosaic.TcCoe Idealize.SL.Sem
open Idealize.ShloMosaic.StableHlo
open Cert.GlaFwdRefIdeal Cert.GlaFwdRefIdeal.Gen Cert.GlaFwdRefIdeal.Step Cert.GlaFwdRefIdeal.Value

/-- A window of 64 padded 63 low sums the entries up to and including its own. -/
theorem window_cum (x : S64x4x64x128.Idx → EReal) (init : S_.Idx → EReal)
    (h : S64x4x64x128.ReduceWindows ![1, 1, 64, 1] ![1, 1, 1, 1] ![0, 0, 63, 0] ![0, 0, 0, 0] S64x4x64x128) (hu : 0 < S_.numel)
    (hi : init (Shape.Idx.first hu) = 0) (n : Fin 64) (a : Fin 4) (l : Fin 64) (k : Fin 128) :
    Host.reduceWindowAdd (F := Ideal) (φ := .f32) ![1, 1, 64, 1] ![1, 1, 1, 1] ![0, 0, 63, 0] ![0, 0, 0, 0] x init h hu (ix4 n a l k)
      = cum (fun j => x (ix4 n a j k)) l := by
  have e : Host.reduceWindowAdd (F := Ideal) (φ := .f32) ![1, 1, 64, 1] ![1, 1, 1, 1] ![0, 0, 63, 0] ![0, 0, 0, 0] x init h hu (ix4 n a l k)
      = ∑ w : (⟨4, ![1, 1, 64, 1]⟩ : Shape).Idx,
        (if hin : ∀ b : Fin 4, (![0, 0, 63, 0] : Fin 4 → Nat) b ≤ ((ix4 n a l k : S64x4x64x128.Idx) b).val * (![1, 1, 1, 1] : Fin 4 → Nat) b + (w b).val
            ∧ ((ix4 n a l k : S64x4x64x128.Idx) b).val * (![1, 1, 1, 1] : Fin 4 → Nat) b + (w b).val - (![0, 0, 63, 0] : Fin 4 → Nat) b < S64x4x64x128.size b
          then x (fun b => ⟨((ix4 n a l k : S64x4x64x128.Idx) b).val * (![1, 1, 1, 1] : Fin 4 → Nat) b + (w b).val - (![0, 0, 63, 0] : Fin 4 → Nat) b, (hin b).2⟩)
          else (0 : EReal)) := by
    rw [sum_idx_eq_foldl, ← hi]
    show Host.reduceWindow (fun a b : EReal => a + b) ![1, 1, 64, 1] ![1, 1, 1, 1] ![0, 0, 63, 0] ![0, 0, 0, 0] x (fun _ : (⟨0, ![]⟩ : Shape).Idx => init (Shape.Idx.first hu)) h (by decide) (ix4 n a l k) = _
    unfold Host.reduceWindow
    dsimp only
    congr 1
    funext r i
    congr 1
    split_ifs with h1 h2 h2
    · rfl
    · exact absurd h1 h2
    · exact absurd h2 h1
    · rfl
  rw [e, sum_idx4]
  simp only [Fin.sum_univ_one]
  refine Fintype.sum_equiv (Equiv.addRight (l + 1)) _ _ fun w => ?_
  have hv : ((Equiv.addRight (l + 1)) w).val = (w.val + (l.val + 1) % 64) % 64 := by
    show (w + (l + 1)).val = _
    rw [Fin.val_add, Fin.val_add]; rfl
  by_cases hw : 63 ≤ l.val + w.val
  · rw [dif_pos (by
      intro b
      match b with
      | ⟨0, _⟩ => exact ⟨Nat.zero_le _, by show n.val * 1 + 0 - 0 < 64; omega⟩
      | ⟨1, _⟩ => exact ⟨Nat.zero_le _, by show a.val * 1 + 0 - 0 < 4; omega⟩
      | ⟨2, _⟩ => exact ⟨by show 63 ≤ l.val * 1 + w.val; omega, by show l.val * 1 + w.val - 63 < 64; omega⟩
      | ⟨3, _⟩ => exact ⟨Nat.zero_le _, by show k.val * 1 + 0 - 0 < 128; omega⟩), if_pos (by rw [hv]; omega)]
    congr 1
    funext b
    apply Fin.ext
    match b with
    | ⟨0, _⟩ => show n.val * 1 + 0 - 0 = n.val; omega
    | ⟨1, _⟩ => show a.val * 1 + 0 - 0 = a.val; omega
    | ⟨2, _⟩ => show l.val * 1 + w.val - 63 = ((Equiv.addRight (l + 1)) w).val; rw [hv]; omega
    | ⟨3, _⟩ => show k.val * 1 + 0 - 0 = k.val; omega
  · rw [dif_neg (fun hin => hw (by have := (hin 2).1; change 63 ≤ l.val * 1 + w.val at this; omega)), if_neg (by rw [hv]; omega)]

variable (x0 : (⟨S4096x8208, .f32⟩ : BufTy).Contents (Elt Ideal)) (x1 : (⟨S16x512, .f32⟩ : BufTy).Contents (Elt Ideal))
  (x2 : (⟨S512, .f32⟩ : BufTy).Contents (Elt Ideal)) (x3 : (⟨S256, .f32⟩ : BufTy).Contents (Elt Ideal))

theorem A28 (n : Fin 64) (h : Fin 4) (l : Fin 64) (k : Fin 128) : A_main_v28 (F := Ideal) x0 x1 x2 (ix4 n h l k) = qq x0 n h l k := by
  pointwise [A_main_v0, A_main_v26, A_main_v27, A_main_v28, K_main_v25, K_main_cst_1]
  have hr : (⟨n.val * 64 + l.val, by omega⟩ : Fin 4096) = row n.val l := Fin.ext (by rw [row_val n.val n.isLt]; show n.val * 64 + l.val = _; omega)
  rw [hr]; rfl
theorem A32 (n : Fin 64) (h : Fin 4) (l : Fin 64) (v : Fin 256) : A_main_v32 (F := Ideal) x0 x1 x2 (ix4 n h l v) = vv x0 n h v l := by
  pointwise [A_main_v32, A_main_v31, A_main_v2]
  have hr : (⟨n.val * 64 + l.val, by omega⟩ : Fin 4096) = row n.val l := Fin.ext (by rw [row_val n.val n.isLt]; show n.val * 64 + l.val = _; omega)
  rw [hr]; rfl
theorem A24 (a : Fin 4096) (k : Fin 512) : A_main_v24 (F := Ideal) x0 x1 x2 (ix2 a k) = lsig (fg x0 x1 x2 a k) := by
  refine Eq.trans ?_ (lsig_eq _)
  pointwise [K_main_cst,K_main_v9,K_main_v11,K_main_v14,K_main_cst_0,K_main_v23,K_main_cst_1,K_main_v25,A_main_v0,A_main_v1,A_main_v2,A_main_v3,A_main_v4,A_main_v5,A_main_v6,A_main_v7,A_main_v8,A_main_v10,A_main_v12,A_main_v13,A_main_v15,A_main_v16,A_main_v17,A_main_v18,A_main_v19,A_main_v20,A_main_v21,A_main_v22,A_main_v24]
  rw [if_neg (fun h => h rfl)]
  rfl
theorem A35 (n : Fin 64) (h : Fin 4) (l : Fin 64) (k : Fin 128) : A_main_v35 (F := Ideal) x0 x1 x2 (ix4 n h l k) = cum (lac x0 x1 x2 n h k) l := by
  unfold A_main_v35
  refine (window_cum _ _ _ _ (by pointwise [K_main_call0_call0_v0, K_main_call0_call0_cst]) n h l k).trans (congrArg (fun f => cum f l) (funext fun j => ?_))
  show A_main_v34 (F := Ideal) x0 x1 x2 (ix4 n h j k) = _
  pointwise [A_main_v34, A_main_v33]
  have hr : (⟨n.val * 64 + j.val, by omega⟩ : Fin 4096) = row n.val j := Fin.ext (by rw [row_val n.val n.isLt]; show n.val * 64 + j.val = _; omega)
  rw [A24, hr]; rfl
theorem A40 (n : Fin 64) (h : Fin 4) (l : Fin 64) (k : Fin 128) : A_main_v40 (F := Ideal) x0 x1 x2 (ix4 n h l k) = kd x0 x1 x2 n h k l := by
  pointwise [A_main_v40, A_main_v39, A_main_v38, A_main_v37, A_main_v36, A_main_v30, A_main_v29, A_main_v1]
  have hr : (⟨n.val * 64 + l.val, by omega⟩ : Fin 4096) = row n.val l := Fin.ext (by rw [row_val n.val n.isLt]; show n.val * 64 + l.val = _; omega)
  rw [A35, A35, hr]; rfl
theorem A42 (n : Fin 64) (h : Fin 4) (k : Fin 128) : A_main_v42 (F := Ideal) x0 x1 x2 (ix3 n h k) = gam x0 x1 x2 n h k := by
  pointwise [A_main_v42, A_main_v41, A_main_v36]
  rw [A35]; rfl

theorem ix3_of {n0 n1 n2 a b e : ℕ} (ha : a < n0) (hb : b < n1) (he : e < n2) (i : Fin n0) (j : Fin n1) (k : Fin n2) (h0 : a = i.val) (h1 : b = j.val) (h2 : e = k.val) :
    (ix3 ⟨a, ha⟩ ⟨b, hb⟩ ⟨e, he⟩ : (⟨3, ![n0, n1, n2]⟩ : Shape).Idx) = ix3 i j k := by
  subst h0 h1 h2; rfl
theorem ix4_of {n0 n1 n2 n3 a b e f : ℕ} (ha : a < n0) (hb : b < n1) (he : e < n2) (hf : f < n3) (i : Fin n0) (j : Fin n1) (k : Fin n2) (l : Fin n3)
    (h0 : a = i.val) (h1 : b = j.val) (h2 : e = k.val) (h3 : f = l.val) :
    (ix4 ⟨a, ha⟩ ⟨b, hb⟩ ⟨e, he⟩ ⟨f, hf⟩ : (⟨4, ![n0, n1, n2, n3]⟩ : Shape).Idx) = ix4 i j k l := by
  subst h0 h1 h2 h3; rfl
theorem toInt_ofNat : ∀ j : Fin 64, (BitVec.ofNat 32 j.val).toInt = j.val := by decide
theorem clamp0 {s t : Shape} (ht : t.rank = s.rank) (start : Fin s.rank → Int) (a : Fin s.rank) (x : ℕ) (hk : start a = 0) (hle : t.size (a.cast ht.symm) ≤ s.size a) :
    Host.clampedStart s t ht start a + x = x := by
  rw [Host.clampedStart_of_le ht start a 0 hk (by omega), Nat.zero_add]

section trip
abbrev bQ (V0 : Valuation τ sig (Elt Ideal)) : S64x4x64x128.Idx → EReal := V0 (Proc.devRef .tc main_v46_0)
abbrev bK (V0 : Valuation τ sig (Elt Ideal)) : S64x4x64x128.Idx → EReal := V0 (Proc.devRef .tc main_v46_1)
abbrev bV (V0 : Valuation τ sig (Elt Ideal)) : S64x4x64x256.Idx → EReal := V0 (Proc.devRef .tc main_v46_2)
abbrev bG (V0 : Valuation τ sig (Elt Ideal)) : S64x4x128.Idx → EReal := V0 (Proc.devRef .tc main_v46_3)
abbrev bS (V0 : Valuation τ sig (Elt Ideal)) : S4x128x256.Idx → EReal := V0 (Proc.devRef .tc main_v46_5)
abbrev bO (V0 : Valuation τ sig (Elt Ideal)) : S64x4x64x256.Idx → EReal := V0 (Proc.devRef .tc main_v46_6)
abbrev bT (V0 : Valuation τ sig (Elt Ideal)) : S64x4x128x256.Idx → EReal := V0 (Proc.devRef .tc main_v46_7)
variable (V0 : Valuation τ sig (Elt Ideal)) (j : Fin 64) (hc : V0 (Proc.devRef .tc main_v46_4) = fun _ => BitVec.ofNat 32 j.val)
include hc
theorem start0 : BitVec.toInt (V0 (Proc.devRef .tc main_v46_4) (Shape.Idx.first h_S_)) = j.val := by
  rw [hc]; exact toInt_ofNat j
theorem newSt (h : Fin 4) (k : Fin 128) (v : Fin 256) : @Eq EReal (res_main_while0b_v78 V0 (ix3 h k v))
    (bG V0 (ix3 j h k) * bS V0 (ix3 h k v) + ∑ x : Fin 64, bK V0 (ix4 j h x k) * bV V0 (ix4 j h x v)) := by
  have e0 := start0 V0 j hc
  have hj := j.isLt
  pointwise [res_main_while0b_v78]
  refine congrArg₂ (· + ·) (congrArg₂ (· * ·) (congrArg (bG V0) (ix3_of _ _ _ _ _ _ ?_ ?_ ?_)) rfl)
    (Finset.sum_congr rfl fun x _ => congrArg₂ (· * ·) (congrArg (bK V0) (ix4_of _ _ _ _ _ _ _ _ ?_ ?_ ?_ ?_)) (congrArg (bV V0) (ix4_of _ _ _ _ _ _ _ _ ?_ ?_ ?_ ?_)))
  · exact Host.clampedStart_of_le _ _ _ j.val e0 (by show j.val + 1 ≤ 64; omega)
  · exact clamp0 _ _ _ _ rfl (by decide)
  · exact clamp0 _ _ _ _ rfl (by decide)
  · exact Host.clampedStart_of_le _ _ _ j.val e0 (by show j.val + 1 ≤ 64; omega)
  · exact clamp0 _ _ _ _ rfl (by decide)
  · exact clamp0 _ _ _ _ rfl (by decide)
  · exact clamp0 _ _ _ _ rfl (by decide)
  · exact Host.clampedStart_of_le _ _ _ j.val e0 (by show j.val + 1 ≤ 64; omega)
  · exact clamp0 _ _ _ _ rfl (by decide)
  · exact clamp0 _ _ _ _ rfl (by decide)
  · exact clamp0 _ _ _ _ rfl (by decide)
end trip

theorem inside0 {s t : Shape} (ht : t.rank = s.rank) (start : Fin s.rank → Int) (a : Fin s.rank) {j n sz : ℕ} (hk : start a = j)
    (hle : j + t.size (a.cast ht.symm) ≤ s.size a) (hn : n = j) (hz : 0 < sz) :
    Host.clampedStart s t ht start a ≤ n ∧ n < Host.clampedStart s t ht start a + sz := by
  rw [Host.clampedStart_of_le ht start a j hk hle]; omega
theorem insideB {s t : Shape} (ht : t.rank = s.rank) (start : Fin s.rank → Int) (a : Fin s.rank) {n sz : ℕ} (hk : start a = 0)
    (hle : t.size (a.cast ht.symm) ≤ s.size a) (hz : n < sz) :
    Host.clampedStart s t ht start a ≤ n ∧ n < Host.clampedStart s t ht start a + sz := by
  rw [Host.clampedStart_of_le ht start a 0 hk (by omega)]; omega
theorem eq_of_inside {s t : Shape} (ht : t.rank = s.rank) (start : Fin s.rank → Int) (a : Fin s.rank) {j n sz : ℕ} (hk : start a = j)
    (hle : j + t.size (a.cast ht.symm) ≤ s.size a) (hz : sz = 1)
    (h : Host.clampedStart s t ht start a ≤ n ∧ n < Host.clampedStart s t ht start a + sz) : n = j := by
  rw [Host.clampedStart_of_le ht start a j hk hle] at h; omega
theorem clampS {s t : Shape} (ht : t.rank = s.rank) (start : Fin s.rank → Int) (a : Fin s.rank) (x : ℕ) (hk : start a = 0) (hle : t.size (a.cast ht.symm) ≤ s.size a) :
    x - Host.clampedStart s t ht start a = x := by
  rw [Host.clampedStart_of_le ht start a 0 hk (by omega), Nat.sub_zero]
theorem clamp0S {s t s' t' : Shape} (ht : t.rank = s.rank) (start : Fin s.rank → Int) (a : Fin s.rank) (ht' : t'.rank = s'.rank) (start' : Fin s'.rank → Int) (a' : Fin s'.rank)
    (x : ℕ) (hk : start a = 0) (hle : t.size (a.cast ht.symm) ≤ s.size a) (hk' : start' a' = 0) (hle' : t'.size (a'.cast ht'.symm) ≤ s'.size a') :
    Host.clampedStart s t ht start a + (x - Host.clampedStart s' t' ht' start' a') = x := by
  rw [clampS ht' start' a' x hk' hle', clamp0 ht start a x hk hle]

section trip2
variable (V0 : Valuation τ sig (Elt Ideal)) (j : Fin 64) (hc : V0 (Proc.devRef .tc main_v46_4) = fun _ => BitVec.ofNat 32 j.val)
/-- The state after the trip. -/
abbrev bN (V0 : Valuation τ sig (Elt Ideal)) : S4x128x256.Idx → EReal := res_main_while0b_v78 V0
include hc
theorem new6 (n : Fin 64) (h : Fin 4) (l : Fin 64) (v : Fin 256) : @Eq EReal (Value.step_main_v46_6 V0 (ix4 n h l v))
    (if n = j then ∑ x : Fin 128, bQ V0 (ix4 j h l x) * bN V0 (ix3 h x v) else bO V0 (ix4 n h l v)) := by
  have e0 := start0 V0 j hc
  have hj := j.isLt
  pointwise [Value.step_main_v46_6, id]
  by_cases hn : n = j
  · rw [if_pos hn, dif_pos (by
      intro a
      match a with
      | ⟨0, _⟩ => exact inside0 _ _ _ e0 (by show j.val + 1 ≤ 64; omega) (congrArg Fin.val hn) Nat.one_pos
      | ⟨1, _⟩ => exact insideB _ _ _ rfl le_rfl h.isLt
      | ⟨2, _⟩ => exact insideB _ _ _ rfl le_rfl l.isLt
      | ⟨3, _⟩ => exact insideB _ _ _ rfl le_rfl v.isLt)]
    refine Finset.sum_congr rfl fun x _ => congrArg₂ (· * ·) (congrArg (bQ V0) (ix4_of _ _ _ _ _ _ _ _ ?_ ?_ ?_ ?_))
      (congrArg (bN V0) (ix3_of _ _ _ _ _ _ ?_ rfl ?_))
    · exact Host.clampedStart_of_le _ _ _ j.val e0 (by show j.val + 1 ≤ 64; omega)
    · exact clamp0S _ _ _ _ _ _ _ rfl (by decide) rfl (by decide)
    · exact clamp0S _ _ _ _ _ _ _ rfl (by decide) rfl (by decide)
    · exact clamp0 _ _ _ _ rfl (by decide)
    · exact clampS _ _ _ _ rfl (by decide)
    · exact clampS _ _ _ _ rfl (by decide)
  · rw [if_neg hn, dif_neg (fun hin => hn (Fin.ext (eq_of_inside _ _ _ e0 (by show j.val + 1 ≤ 64; omega) rfl (hin 0))))]
theorem new7 (n : Fin 64) (h : Fin 4) (k : Fin 128) (v : Fin 256) : @Eq EReal (Value.step_main_v46_7 V0 (ix4 n h k v))
    (if n = j then bN V0 (ix3 h k v) else bT V0 (ix4 n h k v)) := by
  have e0 := start0 V0 j hc
  have hj := j.isLt
  pointwise [Value.step_main_v46_7, id]
  by_cases hn : n = j
  · rw [if_pos hn, dif_pos (by
      intro a
      match a with
      | ⟨0, _⟩ => exact inside0 _ _ _ e0 (by show j.val + 1 ≤ 64; omega) (congrArg Fin.val hn) Nat.one_pos
      | ⟨1, _⟩ => exact insideB _ _ _ rfl le_rfl h.isLt
      | ⟨2, _⟩ => exact insideB _ _ _ rfl le_rfl k.isLt
      | ⟨3, _⟩ => exact insideB _ _ _ rfl le_rfl v.isLt)]
    refine congrArg (bN V0) (ix3_of _ _ _ _ _ _ ?_ ?_ ?_)
    · exact clampS _ _ _ _ rfl (by decide)
    · exact clampS _ _ _ _ rfl (by decide)
    · exact clampS _ _ _ _ rfl (by decide)
  · rw [if_neg hn, dif_neg (fun hin => hn (Fin.ext (eq_of_inside _ _ _ e0 (by show j.val + 1 ≤ 64; omega) rfl (hin 0))))]
end trip2

theorem o66 (V0 : Valuation τ sig (Elt Ideal)) (a : Fin 4096) (k : Fin 1024) : @Eq EReal (out_main_v66 V0 (ix2 a k))
    (gated (fun x => bO V0 (ix4 ⟨a.val / 64, by omega⟩ ⟨k.val / 256, by omega⟩ ⟨a.val % 64, by omega⟩ x))
      (V0 (Proc.devRef .tc main_arg3) (ix1 (⟨k.val % 256, by omega⟩ : Fin 256))) (V0 (Proc.devRef .tc main_arg0) (ix2 a (⟨2048 + k.val, by omega⟩ : Fin 8208)))
      ⟨k.val % 256, by omega⟩) := by
  pointwise [out_main_v66]
  rfl
theorem o69 (V0 : Valuation τ sig (Elt Ideal)) (n : Fin 64) (y : Fin 256) (k : Fin 512) : @Eq EReal (out_main_v69 V0 (ix3 n y k))
    (bT V0 (ix4 n ⟨k.val / 128, by omega⟩ ⟨k.val % 128, by omega⟩ y)) := by
  pointwise [out_main_v69]

section run
variable (m : (ℓ : Loc nD τ sig) → Buf (Elt Ideal) ℓ) (c : Dev nD)
/-- The device's four arguments. -/
abbrev r0 : (⟨S4096x8208, .f32⟩ : BufTy).Contents (Elt Ideal) := m ((c.tc : Thread nD τ).loc main_arg0)
abbrev r1 : (⟨S16x512, .f32⟩ : BufTy).Contents (Elt Ideal) := m ((c.tc : Thread nD τ).loc main_arg1)
abbrev r2 : (⟨S512, .f32⟩ : BufTy).Contents (Elt Ideal) := m ((c.tc : Thread nD τ).loc main_arg2)
abbrev r3 : (⟨S256, .f32⟩ : BufTy).Contents (Elt Ideal) := m ((c.tc : Thread nD τ).loc main_arg3)
/-- The loop's buffers after `k` trips. -/
def after (k : ℕ) : Valuation τ sig (Elt Ideal) := STEP^[k] (entryContents preI m c)
theorem S_succ (k : ℕ) : after m c (k + 1) = STEP (after m c k) := Function.iterate_succ_apply' _ _ _

theorem entry0 : bQ (after m c 0) = A_main_v28 (F := Ideal) (r0 m c) (r1 m c) (r2 m c) := by
  show entryContents preI m c (Proc.devRef .tc main_v46_0) = _
  simp only [entryContents, afterL_cons, afterL_nil]
  after_reads_simp
  rfl
theorem entry1 : bK (after m c 0) = A_main_v40 (F := Ideal) (r0 m c) (r1 m c) (r2 m c) := by
  show entryContents preI m c (Proc.devRef .tc main_v46_1) = _
  simp only [entryContents, afterL_cons, afterL_nil]
  after_reads_simp
  rfl
theorem entry2 : bV (after m c 0) = A_main_v32 (F := Ideal) (r0 m c) (r1 m c) (r2 m c) := by
  show entryContents preI m c (Proc.devRef .tc main_v46_2) = _
  simp only [entryContents, afterL_cons, afterL_nil]
  after_reads_simp
  rfl
theorem entry3 : bG (after m c 0) = A_main_v42 (F := Ideal) (r0 m c) (r1 m c) (r2 m c) := by
  show entryContents preI m c (Proc.devRef .tc main_v46_3) = _
  simp only [entryContents, afterL_cons, afterL_nil]
  after_reads_simp
  rfl
theorem entry5 : bS (after m c 0) = K_main_v43 (F := Ideal) := by
  show entryContents preI m c (Proc.devRef .tc main_v46_5) = _
  simp only [entryContents, afterL_cons, afterL_nil]
  after_reads_simp
  rfl
theorem S0 : ∀ k, bQ (after m c k) = A_main_v28 (F := Ideal) (r0 m c) (r1 m c) (r2 m c)
  | 0 => entry0 m c
  | k + 1 => (congrArg bQ (S_succ m c k)).trans ((STEP_main_v46_0 _).trans (S0 k))
theorem S1 : ∀ k, bK (after m c k) = A_main_v40 (F := Ideal) (r0 m c) (r1 m c) (r2 m c)
  | 0 => entry1 m c
  | k + 1 => (congrArg bK (S_succ m c k)).trans ((STEP_main_v46_1 _).trans (S1 k))
theorem S2 : ∀ k, bV (after m c k) = A_main_v32 (F := Ideal) (r0 m c) (r1 m c) (r2 m c)
  | 0 => entry2 m c
  | k + 1 => (congrArg bV (S_succ m c k)).trans ((STEP_main_v46_2 _).trans (S2 k))
theorem S3 : ∀ k, bG (after m c k) = A_main_v42 (F := Ideal) (r0 m c) (r1 m c) (r2 m c)
  | 0 => entry3 m c
  | k + 1 => (congrArg bG (S_succ m c k)).trans ((STEP_main_v46_3 _).trans (S3 k))
theorem S4 : ∀ k, after m c k (Proc.devRef .tc main_v46_4) = fun _ => BitVec.ofNat 32 k
  | 0 => ctr_entry m c
  | k + 1 => by
    rw [S_succ, STEP_main_v46_4]
    show id (addi (after m c k (Proc.devRef .tc main_v46_4)) (constantI S_ 32 1#32)) = _
    rw [S4 k]
    funext i
    show BitVec.ofNat 32 k + 1#32 = BitVec.ofNat 32 (k + 1)
    exact (BitVec.ofNat_add ..).symm
theorem S5 : ∀ k, k ≤ 64 → ∀ (h : Fin 4) (κ : Fin 128) (v : Fin 256), bS (after m c k) (ix3 h κ v) = st (r0 m c) (r1 m c) (r2 m c) h κ v k
  | 0, _, h, κ, v => by
    rw [entry5]
    pointwise [K_main_v43, K_main_cst_2]
    rfl
  | k + 1, hk, h, κ, v => by
    have e : bS (after m c (k + 1)) = bN (after m c k) := (congrArg bS (S_succ m c k)).trans (STEP_main_v46_5 _)
    rw [e]
    refine (newSt (after m c k) ⟨k, by omega⟩ (S4 m c k) h κ v).trans ?_
    rw [S1, S2, S3, S5 k (by omega) h κ v]
    simp only [A40, A32, A42]
    rw [st, mul_comm (gam _ _ _ _ _ _)]
    exact congrArg (_ + ·) (Finset.sum_congr rfl fun x _ => mul_comm _ _)
theorem newN (k : ℕ) (hk : k < 64) (h : Fin 4) (κ : Fin 128) (v : Fin 256) : bN (after m c k) (ix3 h κ v) = st (r0 m c) (r1 m c) (r2 m c) h κ v (k + 1) := by
  have e : bS (after m c (k + 1)) = bN (after m c k) := (congrArg bS (S_succ m c k)).trans (STEP_main_v46_5 _)
  rw [← e]; exact S5 m c (k + 1) hk h κ v
theorem S6 : ∀ k, k ≤ 64 → ∀ (n : Fin 64), n.val < k → ∀ (h : Fin 4) (l : Fin 64) (v : Fin 256),
    bO (after m c k) (ix4 n h l v) = oo (r0 m c) (r1 m c) (r2 m c) n.val h l v
  | 0, _, n, hn, _, _, _ => absurd hn (Nat.not_lt_zero _)
  | k + 1, hk, n, hn, h, l, v => by
    have e : bO (after m c (k + 1)) = Value.step_main_v46_6 (after m c k) := (congrArg bO (S_succ m c k)).trans (STEP_main_v46_6 _)
    rw [e]
    refine (new6 (after m c k) ⟨k, by omega⟩ (S4 m c k) n h l v).trans ?_
    by_cases hnk : n = ⟨k, by omega⟩
    · rw [if_pos hnk, S0]
      rw [show n.val = k from congrArg Fin.val hnk]
      simp only [A28, newN m c k (by omega)]
      rfl
    · rw [if_neg hnk]
      exact S6 k (by omega) n (lt_of_le_of_ne (Nat.lt_succ_iff.1 hn) fun h => hnk (Fin.ext h)) h l v
theorem S7 : ∀ k, k ≤ 64 → ∀ (n : Fin 64), n.val < k → ∀ (h : Fin 4) (κ : Fin 128) (v : Fin 256),
    bT (after m c k) (ix4 n h κ v) = st (r0 m c) (r1 m c) (r2 m c) h κ v (n.val + 1)
  | 0, _, n, hn, _, _, _ => absurd hn (Nat.not_lt_zero _)
  | k + 1, hk, n, hn, h, l, v => by
    have e : bT (after m c (k + 1)) = Value.step_main_v46_7 (after m c k) := (congrArg bT (S_succ m c k)).trans (STEP_main_v46_7 _)
    rw [e]
    refine (new7 (after m c k) ⟨k, by omega⟩ (S4 m c k) n h l v).trans ?_
    by_cases hnk : n = ⟨k, by omega⟩
    · rw [if_pos hnk]
      rw [show n.val = k from congrArg Fin.val hnk]
      exact newN m c k (by omega) h l v
    · rw [if_neg hnk]
      exact S7 k (by omega) n (lt_of_le_of_ne (Nat.lt_succ_iff.1 hn) fun h => hnk (Fin.ext h)) h l v

/-- The reference's output, entry by entry. -/
theorem ref66 (a : Fin 4096) (k : Fin 1024) : @Eq EReal (out_main_v66 (STEP^[64] (entryContents preI m c)) (ix2 a k))
    (outE (r0 m c) (r1 m c) (r2 m c) (r3 m c) a k) := by
  refine (o66 (after m c 64) a k).trans ?_
  rw [show after m c 64 (Proc.devRef .tc main_arg3) = r3 m c from iter_main_arg3 m c 64,
    show after m c 64 (Proc.devRef .tc main_arg0) = r0 m c from iter_main_arg0 m c 64]
  refine congrArg (fun f => gated f _ _ _) (funext fun x => ?_)
  exact S6 m c 64 le_rfl _ (by show a.val / 64 < 64; omega) _ _ _
/-- The reference's stored states, entry by entry. -/
theorem ref69 (n : Fin 64) (y : Fin 256) (k : Fin 512) : @Eq EReal (out_main_v69 (STEP^[64] (entryContents preI m c)) (ix3 n y k))
    (stE (r0 m c) (r1 m c) (r2 m c) n y k) :=
  (o69 (after m c 64) n y k).trans (S7 m c 64 le_rfl n n.isLt _ _ _)
end run
end Cert.Gla.Ref
-- ==== Proof.GlaHeads.lean ====
/- The forward call of gated linear attention: the kernel's chunks against the scanned reference. -/
module
public import proofs.«01_k».proof.Proof.GlaBlock
public import proofs.«01_k».proof.Proof.GlaRef
@[expose] public section
set_option maxRecDepth 16384
noncomputable section
namespace Cert.Gla
open Idealize.ShloMosaic Idealize.ShloMosaic.TcCoe Idealize.SL.Sem
open Cert.GlaFwdIdeal Cert.GlaFwdIdeal.Gen

/-! ## A chunk of one head, entry by entry -/

/-- The triangular mask's comparison. -/
theorem sel (x1 x : Fin 64) (a : EReal) : Scalar.select (IntOp.cmpi .sle (BitVec.ofNat 32 x1.val) (BitVec.ofNat 32 x.val)) a 0 = if x1.val ≤ x.val then a else 0 := by
  have h : ∀ x1 x : Fin 64, IntOp.cmpi .sle (BitVec.ofNat 32 x1.val) (BitVec.ofNat 32 x.val) = if x1.val ≤ x.val then 1#1 else 0#1 := by decide +kernel
  rw [h]
  split_ifs <;> rfl
theorem sel63 (x1 : Fin 64) (a : EReal) : Scalar.select (IntOp.cmpi .sle (BitVec.ofNat 32 x1.val) 63#32) a 0 = if x1.val ≤ 63 then a else 0 := sel x1 63 a

/-- One step of a head's state, entry by entry. -/
def updE (la k v : Fin 64 → EReal) (s : EReal) : EReal := s * Ideal.exp (cum la 63) + ∑ x : Fin 64, v x * (k x * Ideal.exp (cum la 63 - cum la x))

/-- Value `y` of head `h` among the 1024 values. -/
def hv (h : Fin 4) (y : Fin 256) : Fin 1024 := ⟨h.val * 256 + y.val, by omega⟩

section pay
variable (la : Vec Ideal S64x512 .f32) (k q : Vec Ideal S64x512 .bf16) (v : Vec Ideal S64x1024 .bf16) (s : Vec Ideal S256x128 .f32)
theorem upd0_apply (y : Fin 256) (κ : Fin 128) :
    upd0 la k v s (ix2 y κ) = updE (fun x => la (ix2 x (hk 0 κ))) (fun x => k (ix2 x (hk 0 κ))) (fun x => v (ix2 x (hv 0 y))) (s (ix2 y κ)) := by
  rw [show hk 0 κ = (⟨0 + κ.val, by omega⟩ : Fin 512) from Fin.ext (by show 0 * 128 + κ.val = 0 + κ.val; omega),
    show hv 0 y = (⟨0 + y.val, by omega⟩ : Fin 1024) from Fin.ext (by show 0 * 256 + y.val = 0 + y.val; omega)]
  unfold updE cum
  pointwise [upd0, k0_pay101, k0_pay100, k0_pay97, k0_pay96, k0_pay95, k0_pay94, k0_pay4, k0_pay99]
  simp only [sel, sel63, Nat.zero_add, zero_add]
theorem out0_apply (l : Fin 64) (y : Fin 256) :
    out0 la k q v s (ix2 l y) = ∑ x : Fin 128, q (ix2 l (hk 0 x)) * Ideal.ofBits .f32 0x3DB504F3#32 * upd0 la k v s (ix2 y x) := by
  rw [Finset.sum_congr rfl fun x _ => by
    rw [show hk 0 x = (⟨0 + x.val, by omega⟩ : Fin 512) from Fin.ext (by show 0 * 128 + x.val = 0 + x.val; omega)]]
  pointwise [out0, upd0, k0_pay103, k0_pay102, k0_pay101, k0_pay98]
  try simp only [Nat.zero_add, zero_add]
theorem upd1_apply (y : Fin 256) (κ : Fin 128) :
    upd1 la k v s (ix2 y κ) = updE (fun x => la (ix2 x (hk 1 κ))) (fun x => k (ix2 x (hk 1 κ))) (fun x => v (ix2 x (hv 1 y))) (s (ix2 y κ)) := by
  rw [show hk 1 κ = (⟨128 + κ.val, by omega⟩ : Fin 512) from Fin.ext (by show 1 * 128 + κ.val = 128 + κ.val; omega),
    show hv 1 y = (⟨256 + y.val, by omega⟩ : Fin 1024) from Fin.ext (by show 1 * 256 + y.val = 256 + y.val; omega)]
  unfold updE cum
  pointwise [upd1, k0_pay105, k0_pay104, k0_pay97, k0_pay96, k0_pay95, k0_pay94, k0_pay4, k0_pay99]
  simp only [sel, sel63]
theorem out1_apply (l : Fin 64) (y : Fin 256) :
    out1 la k q v s (ix2 l y) = ∑ x : Fin 128, q (ix2 l (hk 1 x)) * Ideal.ofBits .f32 0x3DB504F3#32 * upd1 la k v s (ix2 y x) := by
  rw [Finset.sum_congr rfl fun x _ => by
    rw [show hk 1 x = (⟨128 + x.val, by omega⟩ : Fin 512) from Fin.ext (by show 1 * 128 + x.val = 128 + x.val; omega)]]
  pointwise [out1, upd1, k0_pay106, k0_pay105, k0_pay98]
  try simp only [Nat.zero_add, zero_add]
theorem upd2_apply (y : Fin 256) (κ : Fin 128) :
    upd2 la k v s (ix2 y κ) = updE (fun x => la (ix2 x (hk 2 κ))) (fun x => k (ix2 x (hk 2 κ))) (fun x => v (ix2 x (hv 2 y))) (s (ix2 y κ)) := by
  rw [show hk 2 κ = (⟨256 + κ.val, by omega⟩ : Fin 512) from Fin.ext (by show 2 * 128 + κ.val = 256 + κ.val; omega),
    show hv 2 y = (⟨512 + y.val, by omega⟩ : Fin 1024) from Fin.ext (by show 2 * 256 + y.val = 512 + y.val; omega)]
  unfold updE cum
  pointwise [upd2, k0_pay108, k0_pay107, k0_pay97, k0_pay96, k0_pay95, k0_pay94, k0_pay4, k0_pay99]
  simp only [sel, sel63]
theorem out2_apply (l : Fin 64) (y : Fin 256) :
    out2 la k q v s (ix2 l y) = ∑ x : Fin 128, q (ix2 l (hk 2 x)) * Ideal.ofBits .f32 0x3DB504F3#32 * upd2 la k v s (ix2 y x) := by
  rw [Finset.sum_congr rfl fun x _ => by
    rw [show hk 2 x = (⟨256 + x.val, by omega⟩ : Fin 512) from Fin.ext (by show 2 * 128 + x.val = 256 + x.val; omega)]]
  pointwise [out2, upd2, k0_pay109, k0_pay108, k0_pay98]
  try simp only [Nat.zero_add, zero_add]
theorem upd3_apply (y : Fin 256) (κ : Fin 128) :
    upd3 la k v s (ix2 y κ) = updE (fun x => la (ix2 x (hk 3 κ))) (fun x => k (ix2 x (hk 3 κ))) (fun x => v (ix2 x (hv 3 y))) (s (ix2 y κ)) := by
  rw [show hk 3 κ = (⟨384 + κ.val, by omega⟩ : Fin 512) from Fin.ext (by show 3 * 128 + κ.val = 384 + κ.val; omega),
    show hv 3 y = (⟨768 + y.val, by omega⟩ : Fin 1024) from Fin.ext (by show 3 * 256 + y.val = 768 + y.val; omega)]
  unfold updE cum
  pointwise [upd3, k0_pay113, k0_pay112, k0_pay110, k0_pay111, k0_pay97, k0_pay96, k0_pay95, k0_pay94, k0_pay4, k0_pay99]
  simp only [sel, sel63]
theorem out3_apply (l : Fin 64) (y : Fin 256) :
    out3 la k q v s (ix2 l y) = ∑ x : Fin 128, q (ix2 l (hk 3 x)) * Ideal.ofBits .f32 0x3DB504F3#32 * upd3 la k v s (ix2 y x) := by
  rw [Finset.sum_congr rfl fun x _ => by
    rw [show hk 3 x = (⟨384 + x.val, by omega⟩ : Fin 512) from Fin.ext (by show 3 * 128 + x.val = 384 + x.val; omega)]]
  pointwise [out3, upd3, k0_pay114, k0_pay113, k0_pay98]
  try simp only [Nat.zero_add, zero_add]

/-- The heads' steps and readings, by head. -/
def updH : Fin 4 → Vec Ideal S64x512 .f32 → Vec Ideal S64x512 .bf16 → Vec Ideal S64x1024 .bf16 → Vec Ideal S256x128 .f32 → FVec Ideal S256x128 .f32
  | 0 => upd0
  | 1 => upd1
  | 2 => upd2
  | 3 => upd3
theorem updH_apply (h : Fin 4) (y : Fin 256) (κ : Fin 128) :
    updH h la k v s (ix2 y κ) = updE (fun x => la (ix2 x (hk h κ))) (fun x => k (ix2 x (hk h κ))) (fun x => v (ix2 x (hv h y))) (s (ix2 y κ)) :=
  match h with
  | 0 => upd0_apply la k v s y κ
  | 1 => upd1_apply la k v s y κ
  | 2 => upd2_apply la k v s y κ
  | 3 => upd3_apply la k v s y κ
end pay

theorem pay1_apply (o : Vec Ideal S512x256 .f32) (r : Vec Ideal S512x256 .bf16) (g : Vec Ideal S1x256 .f32) (y : Fin 512) (κ : Fin 256) :
    k0_pay1 o r g (ix2 y κ) = gated (fun x => o (ix2 y x)) (g (ix2 0 κ)) (r (ix2 y κ)) κ := by
  pointwise [k0_pay1, gated]
theorem pay3_apply (x : Vec Ideal S512x128 .bf16) (w : Vec Ideal S128x512 .bf16) (b : Vec Ideal S1x512 .f32) (y : Fin 512) (κ : Fin 512) :
    k0_pay3 x w b (ix2 y κ) = lsig ((∑ j : Fin 128, x (ix2 y j) * w (ix2 j κ)) + b (ix2 0 κ)) := by
  pointwise [k0_pay3, lsig]
  rfl
theorem pay25_apply (x : Vec Ideal S256x512 .f32) (y : Fin 256) (κ : Fin 512) : k0_pay25 x (ix3 0 y κ) = x (ix2 y κ) := by
  pointwise [k0_pay25]

/-! ## The packed projection and the blocks -/
/-- The packed columns: the gate's sixteen last, then zeros. -/
def pack (f : Fin 8208 → EReal) (k : Fin 8320) : EReal :=
  if h : k.val < 3072 then f ⟨k.val, by omega⟩ else
  if h : k.val < 8192 then f ⟨k.val + 16, by omega⟩ else
  if h : k.val < 8208 then f ⟨k.val - 5120, by omega⟩ else 0

/-- The packed projection, as the host operations build it. -/
def packed0 (x : (⟨S4096x8208, .f32⟩ : BufTy).Contents (Elt Ideal)) : (⟨S4096x8320, .bf16⟩ : BufTy).Contents (Elt Ideal) :=
  truncf (F := Ideal) .bf16 (concatenate S4096x8320 1 [⟨S4096x3072, (extractStridedSlice S4096x3072 ![0, 0] x slices_S4096x8208_S4096x3072_0_0 : (⟨S4096x3072, .f32⟩ : BufTy).Contents (Elt Ideal))⟩,
    ⟨S4096x5120, (extractStridedSlice S4096x5120 ![0, 3088] x slices_S4096x8208_S4096x5120_0_3088 : (⟨S4096x5120, .f32⟩ : BufTy).Contents (Elt Ideal))⟩,
    ⟨S4096x16, (extractStridedSlice S4096x16 ![0, 3072] x slices_S4096x8208_S4096x16_0_3072 : (⟨S4096x16, .f32⟩ : BufTy).Contents (Elt Ideal))⟩,
    ⟨S4096x112, (broadcastInDim S4096x112 ![] bcast_S_S4096x112 (constant (F := Ideal) S_ .f32 0x00000000#32) : (⟨S4096x112, .f32⟩ : BufTy).Contents (Elt Ideal))⟩]
    concatenates_S4096x3072_S4096x5120_S4096x16_S4096x112_S4096x8320_d1 : (⟨S4096x8320, .f32⟩ : BufTy).Contents (Elt Ideal)) bitsLt_bf16_f32

theorem packed0_apply (x : (⟨S4096x8208, .f32⟩ : BufTy).Contents (Elt Ideal)) (a : Fin 4096) (k : Fin 8320) :
    packed0 x (ix2 a k) = pack (fun k => x (ix2 a k)) k := by
  pointwise [packed0, pack]
  by_cases h1 : k.val < 3072
  · rw [dif_pos h1, dif_pos h1]
  rw [dif_neg h1, dif_neg h1]
  by_cases h2 : k.val < 8192
  · rw [dif_pos (show k.val - 3072 < 5120 by omega), dif_pos h2]
    exact congrArg (fun k => x (ix2 a k)) (Fin.ext (show 3088 + (k.val - 3072) = k.val + 16 by omega))
  rw [dif_neg (show ¬k.val - 3072 < 5120 by omega), dif_neg h2]
  by_cases h3 : k.val < 8208
  · rw [dif_pos (show k.val - 3072 - 5120 < 16 by omega), dif_pos h3]
    exact congrArg (fun k => x (ix2 a k)) (Fin.ext (show 3072 + (k.val - 3072 - 5120) = k.val - 5120 by omega))
  · rw [dif_neg (show ¬k.val - 3072 - 5120 < 16 by omega), dif_neg h3]

variable (m : (ℓ : Loc nD τ sig) → Buf (Elt Ideal) ℓ) (c : Dev nD)
/-- The device's four arguments. -/
abbrev A0 : (⟨S4096x8208, .f32⟩ : BufTy).Contents (Elt Ideal) := m ((c : Thread nD τ).loc main_arg0)
abbrev A1 : (⟨S16x512, .f32⟩ : BufTy).Contents (Elt Ideal) := m ((c : Thread nD τ).loc main_arg1)
abbrev A2 : (⟨S512, .f32⟩ : BufTy).Contents (Elt Ideal) := m ((c : Thread nD τ).loc main_arg2)
abbrev A3 : (⟨S256, .f32⟩ : BufTy).Contents (Elt Ideal) := m ((c : Thread nD τ).loc main_arg3)

theorem idx : ∀ t : Fin cfg0.N, win0_0.index t = ![t.val, 0] ∧ win0_1.index t = ![t.val, 1] ∧ win0_2.index t = ![t.val, 1]
    ∧ win0_3.index t = ![t.val, 2] ∧ win0_4.index t = ![t.val, 64] ∧ win0_5.index t = ![0, 0] ∧ win0_6.index t = ![0, 0] ∧ win0_7.index t = ![0, 0]
    ∧ win0_8.index t = ![t.val, 0] ∧ win0_9.index t = ![t.val, 0, 0] :=
  (by decide +kernel : ∀ t : Fin grid0.N, _)

theorem V5 : V m c main_v5 = packed0 (A0 m c) := by entry_read; rfl
theorem V7 (j : Fin 128) (κ : Fin 512) : (V m c main_v7 : FVec Ideal S128x512 .bf16) (ix2 j κ)
    = (if h : j.val < 16 then A1 m c (ix2 ⟨j.val, h⟩ κ) else 0 : EReal) := by
  unfold V; after_reads_at
  have z : @Eq EReal (FloatOps.sitofp (F := Ideal) FTy.f32 (0#32 : BitVec 32)) 0 := by simp [FloatOps.sitofp]
  exact dite_congr rfl (fun _ => rfl) (fun _ => z)
theorem V8 (κ : Fin 512) : (V m c main_v8 : FVec Ideal S1x512 .f32) (ix2 0 κ) = A2 m c (ix1 κ) := by
  unfold V; after_reads_at
theorem V9 (κ : Fin 256) : (V m c main_v9 : FVec Ideal S1x256 .f32) (ix2 0 κ) = A3 m c (ix1 κ) := by
  unfold V; after_reads_at

variable (t : Fin cfg0.N)
theorem rowT_lt (y : Fin 512) : t.val * 512 + y.val < 4096 := by
  have := t.isLt; have : cfg0.N = 8 := N_0; omega
/-- The array's row that row `y` of point `t`'s blocks is. -/
def rowT (y : Fin 512) : Fin 4096 := ⟨t.val * 512 + y.val, rowT_lt t y⟩
theorem b0 (y : Fin 512) (k : Fin 512) : X0_0 m c t (ix2 y k) = A0 m c (ix2 (rowT t y) ⟨0 + k.val, by omega⟩) := by
  have h : X0_0 m c t (ix2 y k) = V m c main_v5 (ix2 (rowT t y) ⟨0 + k.val, by omega⟩) := by
    unfold X0_0 Pipeline.Window.fill
    rw [dif_pos (moved0_0 t _)]
    obtain ⟨e0, e1, e2, e3, e4, e5, e6, e7, e8, e9⟩ := idx t; blk_ext [iblk, rowT, e0]
  rw [h, V5, packed0_apply, pack, dif_pos (show 0 + k.val < 3072 by omega)]
theorem b1 (y : Fin 512) (k : Fin 512) : X0_1 m c t (ix2 y k) = A0 m c (ix2 (rowT t y) ⟨512 + k.val, by omega⟩) := by
  have h : X0_1 m c t (ix2 y k) = V m c main_v5 (ix2 (rowT t y) ⟨512 + k.val, by omega⟩) := by
    unfold X0_1 Pipeline.Window.fill
    rw [dif_pos (moved0_1 t _)]
    obtain ⟨e0, e1, e2, e3, e4, e5, e6, e7, e8, e9⟩ := idx t; blk_ext [iblk, rowT, e1]
  rw [h, V5, packed0_apply, pack, dif_pos (show 512 + k.val < 3072 by omega)]
theorem b2 (y : Fin 512) (k : Fin 1024) : X0_2 m c t (ix2 y k) = A0 m c (ix2 (rowT t y) ⟨1024 + k.val, by omega⟩) := by
  have h : X0_2 m c t (ix2 y k) = V m c main_v5 (ix2 (rowT t y) ⟨1024 + k.val, by omega⟩) := by
    unfold X0_2 Pipeline.Window.fill
    rw [dif_pos (moved0_2 t _)]
    obtain ⟨e0, e1, e2, e3, e4, e5, e6, e7, e8, e9⟩ := idx t; blk_ext [iblk, rowT, e2]
  rw [h, V5, packed0_apply, pack, dif_pos (show 1024 + k.val < 3072 by omega)]
theorem b3 (y : Fin 512) (k : Fin 1024) : X0_3 m c t (ix2 y k) = A0 m c (ix2 (rowT t y) ⟨2048 + k.val, by omega⟩) := by
  have h : X0_3 m c t (ix2 y k) = V m c main_v5 (ix2 (rowT t y) ⟨2048 + k.val, by omega⟩) := by
    unfold X0_3 Pipeline.Window.fill
    rw [dif_pos (moved0_3 t _)]
    obtain ⟨e0, e1, e2, e3, e4, e5, e6, e7, e8, e9⟩ := idx t; blk_ext [iblk, rowT, e3]
  rw [h, V5, packed0_apply, pack, dif_pos (show 2048 + k.val < 3072 by omega)]
theorem b4 (y : Fin 512) (j : Fin 128) : iblk m c 4 t (ix2 y j) = (if h : j.val < 16 then A0 m c (ix2 (rowT t y) ⟨3072 + j.val, by omega⟩) else 0 : EReal) := by
  have h : iblk m c 4 t (ix2 y j) = V m c main_v5 (ix2 (rowT t y) ⟨8192 + j.val, by omega⟩) := by
    obtain ⟨e0, e1, e2, e3, e4, e5, e6, e7, e8, e9⟩ := idx t; blk_ext [iblk, rowT, e4]
  rw [h, V5, packed0_apply, pack, dif_neg (show ¬8192 + j.val < 3072 by omega), dif_neg (show ¬8192 + j.val < 8192 by omega)]
  by_cases hj : j.val < 16
  · rw [dif_pos (show 8192 + j.val < 8208 by omega), dif_pos hj]
    exact congrArg (fun k => A0 m c (ix2 (rowT t y) k)) (Fin.ext (show 8192 + j.val - 5120 = 3072 + j.val by omega))
  · rw [dif_neg (show ¬8192 + j.val < 8208 by omega), dif_neg hj]
theorem b5 (j : Fin 128) (κ : Fin 512) : iblk m c 5 t (ix2 j κ) = V m c main_v7 (ix2 j κ) := by
  obtain ⟨e0, e1, e2, e3, e4, e5, e6, e7, e8, e9⟩ := idx t; blk_ext [iblk, e5]
theorem b6 (κ : Fin 512) : iblk m c 6 t (ix2 0 κ) = A2 m c (ix1 κ) := by
  refine Eq.trans ?_ (V8 m c κ)
  obtain ⟨e0, e1, e2, e3, e4, e5, e6, e7, e8, e9⟩ := idx t; blk_ext [iblk, e6]
theorem b7 (κ : Fin 256) : iblk m c 7 t (ix2 0 κ) = A3 m c (ix1 κ) := by
  refine Eq.trans ?_ (V9 m c κ)
  obtain ⟨e0, e1, e2, e3, e4, e5, e6, e7, e8, e9⟩ := idx t; blk_ext [iblk, e7]

/-- The gate's block and its weights, as numbers. -/
abbrev B4 : S512x128.Idx → EReal := iblk m c 4 t
abbrev B5 : S128x512.Idx → EReal := iblk m c 5 t
/-- The decays of the block's rows. -/
theorem laB_apply (y : Fin 512) (κ : Fin 512) : laB m c t (ix2 y κ) = lsig (fg (A0 m c) (A1 m c) (A2 m c) (rowT t y) κ) := by
  unfold laB
  rw [pay3_apply, b6]
  refine congrArg (fun z : EReal => lsig (z + A2 m c (ix1 κ))) ?_
  refine (Fin.sum_univ_add (a := 16) (b := 112) (fun j : Fin 128 => (B4 m c t (ix2 y j)) * B5 m c t (ix2 j κ))).trans ?_
  refine (congrArg₂ (· + ·) (Finset.sum_congr rfl fun j _ => ?_) (Finset.sum_eq_zero fun j _ => ?_)).trans (add_zero _)
  · exact congrArg₂ (fun a b : EReal => a * b) ((b4 m c t y _).trans (dif_pos j.isLt)) (((b5 m c t _ κ).trans (V7 m c _ κ)).trans (dif_pos j.isLt))
  · have h : B4 m c t (ix2 y (Fin.natAdd 16 j)) = 0 := (b4 m c t y _).trans (dif_neg (show ¬(Fin.natAdd 16 j).val < 16 by rw [Fin.val_natAdd]; omega))
    rw [h]
    exact zero_mul (_ : EReal)
-- ==== Proof.Gla.lean ====
/- The forward call of gated linear attention: the kernel's chunks against the scanned reference. -/
module
public import proofs.«01_k».proof.Proof.GlaHeads
public import proofs.«01_k».proof.Proof.GlaRef
@[expose] public section
set_option maxRecDepth 16384
noncomputable section
namespace Cert.Gla
open Idealize.ShloMosaic Idealize.ShloMosaic.TcCoe Idealize.SL.Sem
open Cert.GlaFwdIdeal Cert.GlaFwdIdeal.Gen
variable (m : (ℓ : Loc nD τ sig) → Buf (Elt Ideal) ℓ) (c : Dev nD) (t : Fin cfg0.N)

/-! ## The chunks of a block -/

/-- Row `l` of chunk `i` in a block. -/
def cr (i : Fin 8) (l : Fin 64) : Fin 512 := ⟨64 * i.val + l.val, by omega⟩
theorem ck_apply {e : EltTy} (x : Vec Ideal S512x512 e) (i : Fin 8) (l : Fin 64) (κ : Fin 512) : ck x i (ix2 l κ) = x (ix2 (cr i l) κ) :=
  congrArg x (funext fun a => match a with
    | ⟨0, _⟩ => Fin.ext (show 64 * i.val + 1 * l.val = 64 * i.val + l.val by omega)
    | ⟨1, _⟩ => Fin.ext (show 0 + 1 * κ.val = κ.val by omega))
theorem cv_apply {e : EltTy} (x : Vec Ideal S512x1024 e) (i : Fin 8) (l : Fin 64) (κ : Fin 1024) : cv x i (ix2 l κ) = x (ix2 (cr i l) κ) :=
  congrArg x (funext fun a => match a with
    | ⟨0, _⟩ => Fin.ext (show 64 * i.val + 1 * l.val = 64 * i.val + l.val by omega)
    | ⟨1, _⟩ => Fin.ext (show 0 + 1 * κ.val = κ.val by omega))
theorem cs_apply (s : Vec Ideal S256x512 .f32) (h : Fin 4) (y : Fin 256) (κ : Fin 128) : cs s h (ix2 y κ) = s (ix2 y (hk h κ)) :=
  congrArg s (funext fun a => match a with
    | ⟨0, _⟩ => Fin.ext (show 0 + 1 * y.val = y.val by omega)
    | ⟨1, _⟩ => Fin.ext (show 128 * h.val + 1 * κ.val = h.val * 128 + κ.val by omega))
theorem rowT_cr (i : Fin 8) (l : Fin 64) : rowT t (cr i l) = row (8 * t.val + i.val) l := by
  have := t.isLt; have : cfg0.N = 8 := N_0
  refine Fin.ext ((show t.val * 512 + (64 * i.val + l.val) = 64 * (8 * t.val + i.val) + l.val by omega).trans (row_val _ (by omega) l).symm)

theorem la_chunk (i : Fin 8) (h : Fin 4) (κ : Fin 128) :
    (fun x => ck (laB m c t) i (ix2 x (hk h κ))) = lac (A0 m c) (A1 m c) (A2 m c) (8 * t.val + i.val) h κ := funext fun x => by
  rw [ck_apply, laB_apply, rowT_cr]; rfl
theorem k_chunk (i : Fin 8) (h : Fin 4) (κ : Fin 128) (x : Fin 64) :
    ck (X0_1 m c t) i (ix2 x (hk h κ)) = A0 m c (ix2 (row (8 * t.val + i.val) x) (⟨512 + (h.val * 128 + κ.val), by omega⟩ : Fin 8208)) := by
  rw [ck_apply, b1, rowT_cr]; rfl
theorem q_chunk (i : Fin 8) (h : Fin 4) (κ : Fin 128) (x : Fin 64) :
    ck (X0_0 m c t) i (ix2 x (hk h κ)) = A0 m c (ix2 (row (8 * t.val + i.val) x) (⟨h.val * 128 + κ.val, by omega⟩ : Fin 8208)) := by
  rw [ck_apply, b0, rowT_cr]
  exact congrArg (fun k => A0 m c (ix2 (row (8 * t.val + i.val) x) k)) (Fin.ext (Nat.zero_add _))
theorem v_chunk (i : Fin 8) (h : Fin 4) (y : Fin 256) (x : Fin 64) :
    cv (X0_2 m c t) i (ix2 x (hv h y)) = A0 m c (ix2 (row (8 * t.val + i.val) x) (⟨1024 + (h.val * 256 + y.val), by omega⟩ : Fin 8208)) := by
  rw [cv_apply, b2, rowT_cr]; rfl

/-- The state of a key of the 512 and a value, after `n` chunks. -/
def stC (y : Fin 256) (k : Fin 512) (n : ℕ) : EReal := st (A0 m c) (A1 m c) (A2 m c) ⟨k.val / 128, by omega⟩ ⟨k.val % 128, by omega⟩ y n
theorem stC_hk (h : Fin 4) (κ : Fin 128) (y : Fin 256) (n : ℕ) : stC m c y (hk h κ) n = st (A0 m c) (A1 m c) (A2 m c) h κ y n := by
  have h1 : (⟨(hk h κ).val / 128, by omega⟩ : Fin 4) = h := Fin.ext (show (h.val * 128 + κ.val) / 128 = h.val by omega)
  have h2 : (⟨(hk h κ).val % 128, by omega⟩ : Fin 128) = κ := Fin.ext (show (h.val * 128 + κ.val) % 128 = κ.val by omega)
  unfold stC
  rw [h1, h2]

/-- The carried state is that of the chunks before the block's. -/
def Carried (s : Vec Ideal S256x512 .f32) : Prop := ∀ (y : Fin 256) (k : Fin 512), s (ix2 y k) = stC m c y k (8 * t.val)

variable (s : Vec Ideal S256x512 .f32) (hs : Carried m c t s)
include hs
theorem upd_apply (i : Fin 8) (h : Fin 4) (u : Vec Ideal S256x128 .f32) (y : Fin 256) (κ : Fin 128)
    (hu : u (ix2 y κ) = st (A0 m c) (A1 m c) (A2 m c) h κ y (8 * t.val + i.val)) :
    updH h (ck (laB m c t) i) (ck (X0_1 m c t) i) (cv (X0_2 m c t) i) u (ix2 y κ) = st (A0 m c) (A1 m c) (A2 m c) h κ y (8 * t.val + i.val + 1) := by
  rw [updH_apply, la_chunk, hu]
  unfold updE
  refine congrArg₂ (fun a b : EReal => a + b) rfl (Finset.sum_congr rfl fun x _ => ?_)
  exact congrArg₂ (fun a b : EReal => a * b) (v_chunk m c t i h y x) (congrArg (fun a : EReal => a * _) (k_chunk m c t i h κ x))
theorem iter_apply (h : Fin 4) (y : Fin 256) (κ : Fin 128) : (n : ℕ) → (hn : n ≤ 8) →
    iter m c t (updH h) (cs s h) n hn (ix2 y κ) = st (A0 m c) (A1 m c) (A2 m c) h κ y (8 * t.val + n)
  | 0, _ => (cs_apply s h y κ).trans ((hs y (hk h κ)).trans (stC_hk m c h κ y _))
  | n + 1, hn => upd_apply m c t s hs ⟨n, hn⟩ h _ y κ (iter_apply h y κ n (Nat.le_of_succ_le hn))

/-- What a chunk's rows read. -/
theorem out_apply (i : Fin 8) (h : Fin 4) (f : Vec Ideal S256x128 .f32 → FVec Ideal S64x256 .f32) (u : Vec Ideal S256x128 .f32) (l : Fin 64) (y : Fin 256)
    (hf : ∀ u, f u (ix2 l y) = ∑ x : Fin 128, ck (e := .bf16) (X0_0 m c t) i (ix2 l (hk h x)) * Ideal.ofBits .f32 0x3DB504F3#32
      * updH h (ck (laB m c t) i) (ck (X0_1 m c t) i) (cv (X0_2 m c t) i) u (ix2 y x))
    (hu : ∀ κ, u (ix2 y κ) = st (A0 m c) (A1 m c) (A2 m c) h κ y (8 * t.val + i.val)) :
    f u (ix2 l y) = oo (A0 m c) (A1 m c) (A2 m c) (8 * t.val + i.val) h l y := by
  rw [hf]
  refine Finset.sum_congr rfl fun x _ => ?_
  rw [upd_apply m c t s hs i h u y x (hu x), q_chunk]
  rfl

/-! ## The pieces of the carried state -/

omit hs in
theorem embT (h : Fin 4) (y : Fin 256) (κ : Fin 128) : (Rect.unit (s := S256x512) ![0, 128 * h.val] ![256, 128] (inbT h)).emb (ix2 y κ) = ix2 y (hk h κ) :=
  funext fun a => match a with
    | ⟨0, _⟩ => Fin.ext (show 0 + 1 * y.val = y.val by omega)
    | ⟨1, _⟩ => Fin.ext (show 128 * h.val + 1 * κ.val = h.val * 128 + κ.val by omega)
theorem tiles_eq (n : ℕ) (hn : n ≤ 8) (L : List (View.Piece (Elt Ideal) S256x512 .f32)) (y : Fin 256) (k : Fin 512) :
    View.canon (tiles m c t s n hn ++ L) (ix2 y k) = stC m c y k (8 * t.val + n) := by
  refine View.canon_append_of_pieces (fun i => stC m c (i 0) (i 1) (8 * t.val + n)) L (tiles m c t s n hn) ?_ (ix2 y k) ?_
  · have key : ∀ (h : Fin 4) (x : S256x128.Idx), iter m c t (updH h) (cs s h) n hn x
        = (fun i : S256x512.Idx => stC m c (i 0) (i 1) (8 * t.val + n)) ((Rect.unit (s := S256x512) ![0, 128 * h.val] ![256, 128] (inbT h)).emb x) := fun h x => by
      idx_vars x
      rw [embT, iter_apply m c t s hs]
      exact (stC_hk m c h x1 x0 _).symm
    intro p hp x
    simp only [tiles, List.mem_cons, List.not_mem_nil, or_false] at hp
    rcases hp with rfl | rfl | rfl | rfl
    · exact key 3 x
    · exact key 2 x
    · exact key 1 x
    · exact key 0 x
  · have mem : ∀ h : Fin 4, k.val / 128 = h.val → ix2 y k ∈ (Rect.unit (s := S256x512) ![0, 128 * h.val] ![256, 128] (inbT h)).set := fun h hh => by
      rw [Rect.mem_set_unit]
      exact fun a => match a with
        | ⟨0, _⟩ => (show 0 ≤ y.val ∧ y.val < 0 + 256 by omega)
        | ⟨1, _⟩ => (show 128 * h.val ≤ k.val ∧ k.val < 128 * h.val + 128 by omega)
    have hk4 : k.val / 128 = 0 ∨ k.val / 128 = 1 ∨ k.val / 128 = 2 ∨ k.val / 128 = 3 := by omega
    rcases hk4 with h | h | h | h
    · exact ⟨_, List.mem_cons_of_mem _ (List.mem_cons_of_mem _ (List.mem_cons_of_mem _ (List.mem_cons_self ..))), mem 0 h⟩
    · exact ⟨_, List.mem_cons_of_mem _ (List.mem_cons_of_mem _ (List.mem_cons_self ..)), mem 1 h⟩
    · exact ⟨_, List.mem_cons_of_mem _ (List.mem_cons_self ..), mem 2 h⟩
    · exact ⟨_, List.mem_cons_self .., mem 3 h⟩

/-! ## The stored states -/

theorem piece_s (n : ℕ) (hn : n + 1 ≤ 8) (L : List (View.Piece (Elt Ideal) S256x512 .f32)) (x : S1x256x512.Idx) :
    k0_pay25 ((View.whole cc0_scratch0).readCov (tiles m c t s (n + 1) hn ++ L) (Rect.unit ![0, 0] ![256, 512] inb_S256x512_S256x512_0_0).toLoadRect) x
      = (fun i : S8x256x512.Idx => stC m c (i 1) (i 2) (8 * t.val + (i 0).val + 1))
        ((Rect.unit (s := S8x256x512) ![(⟨n, hn⟩ : Fin 8).val, 0, 0] ![1, 256, 512] (inbS ⟨n, hn⟩)).emb x) := by
  idx_vars x
  obtain rfl : x0 = 0 := Subsingleton.elim _ _
  have e : (Rect.unit (s := S8x256x512) ![(⟨n, hn⟩ : Fin 8).val, 0, 0] ![1, 256, 512] (inbS ⟨n, hn⟩)).emb (ix3 0 x1 x2) = ix3 (⟨n, hn⟩ : Fin 8) x1 x2 :=
    funext fun a => match a with
      | ⟨0, _⟩ => Fin.ext (show n + 1 * 0 = n by omega)
      | ⟨1, _⟩ => Fin.ext (show 0 + 1 * x1.val = x1.val by omega)
      | ⟨2, _⟩ => Fin.ext (show 0 + 1 * x2.val = x2.val by omega)
  rw [pay25_apply, e, View.readCov_eq_canon']
  refine Eq.trans (congrArg _ ?_) (tiles_eq m c t s hs (n + 1) hn L x1 x2)
  exact funext fun a => match a with
    | ⟨0, _⟩ => Fin.ext (show 0 + 1 * x1.val = x1.val by omega)
    | ⟨1, _⟩ => Fin.ext (show 0 + 1 * x2.val = x2.val by omega)
theorem sP_eq (L : ℕ → List (View.Piece (Elt Ideal) S256x512 .f32)) : (n : ℕ) → (hn : n ≤ 8) → ∀ p ∈ sP m c t L s n hn, ∀ x,
    p.2 x = (fun i : S8x256x512.Idx => stC m c (i 1) (i 2) (8 * t.val + (i 0).val + 1)) (p.1.emb x)
  | 0, _ => fun p hp => absurd hp (List.not_mem_nil)
  | n + 1, hn => fun p hp x => by
    rcases List.mem_cons.1 hp with rfl | hp
    · exact piece_s m c t s hs n hn (L n) x
    · exact sP_eq L n (Nat.le_of_succ_le hn) p hp x
omit hs in
theorem sP_mem (L : ℕ → List (View.Piece (Elt Ideal) S256x512 .f32)) (y : Fin 256) (k : Fin 512) : (n : ℕ) → (hn : n ≤ 8) → (i : Fin 8) → i.val < n →
    ∃ p ∈ sP m c t L s n hn, ix3 i y k ∈ p.1.set
  | 0, _ => fun i hi => absurd hi (Nat.not_lt_zero _)
  | n + 1, hn => fun i hi => by
    by_cases h : i.val < n
    · obtain ⟨p, hp, hm⟩ := sP_mem L y k n (Nat.le_of_succ_le hn) i h
      exact ⟨p, List.mem_cons_of_mem _ hp, hm⟩
    · refine ⟨_, List.mem_cons_self .., ?_⟩
      rw [Rect.mem_set_unit]
      exact fun a => match a with
        | ⟨0, _⟩ => (show n ≤ i.val ∧ i.val < n + 1 by omega)
        | ⟨1, _⟩ => (show 0 ≤ y.val ∧ y.val < 0 + 256 by omega)
        | ⟨2, _⟩ => (show 0 ≤ k.val ∧ k.val < 0 + 512 by omega)
theorem states_eq (L : ℕ → List (View.Piece (Elt Ideal) S256x512 .f32)) (i : Fin 8) (y : Fin 256) (k : Fin 512) :
    View.canon (sP m c t L s 8 (le_refl 8)) (ix3 i y k) = stC m c y k (8 * t.val + i.val + 1) :=
  View.canon_apply_of_pieces (fun i : S8x256x512.Idx => stC m c (i 1) (i 2) (8 * t.val + (i 0).val + 1)) _ (sP_eq m c t s hs L 8 (le_refl 8)) (ix3 i y k)
    (sP_mem m c t s L y k 8 (le_refl 8) i i.isLt)

/-! ## What the rows read, gated -/

/-- Value `y` of head `h` at row `l` of chunk `i`. -/
def ooC (a : Fin 512) (k : Fin 1024) : EReal :=
  oo (A0 m c) (A1 m c) (A2 m c) (8 * t.val + a.val / 64) ⟨k.val / 256, by omega⟩ ⟨a.val % 64, by omega⟩ ⟨k.val % 256, by omega⟩
omit hs in
theorem ooC_cr (i : Fin 8) (h : Fin 4) (l : Fin 64) (y : Fin 256) : ooC m c t (cr i l) (hv h y) = oo (A0 m c) (A1 m c) (A2 m c) (8 * t.val + i.val) h l y := by
  have h1 : (⟨(hv h y).val / 256, by omega⟩ : Fin 4) = h := Fin.ext (show (h.val * 256 + y.val) / 256 = h.val by omega)
  have h2 : (⟨(hv h y).val % 256, by omega⟩ : Fin 256) = y := Fin.ext (show (h.val * 256 + y.val) % 256 = y.val by omega)
  have h3 : (⟨(cr i l).val % 64, by omega⟩ : Fin 64) = l := Fin.ext (show (64 * i.val + l.val) % 64 = l.val by omega)
  have h4 : (cr i l).val / 64 = i.val := show (64 * i.val + l.val) / 64 = i.val by omega
  unfold ooC
  rw [h1, h2, h3, h4]
omit hs in
theorem embO (h : Fin 4) (i : Fin 8) (l : Fin 64) (y : Fin 256) :
    (Rect.unit (s := S512x1024) ![64 * i.val, 256 * h.val] ![64, 256] (inbO h i)).emb (ix2 l y) = ix2 (cr i l) (hv h y) :=
  funext fun a => match a with
    | ⟨0, _⟩ => Fin.ext (show 64 * i.val + 1 * l.val = 64 * i.val + l.val by omega)
    | ⟨1, _⟩ => Fin.ext (show 256 * h.val + 1 * y.val = h.val * 256 + y.val by omega)
theorem piece_o (i : Fin 8) (h : Fin 4) (f : Vec Ideal S256x128 .f32 → FVec Ideal S64x256 .f32)
    (hf : ∀ u l y, f u (ix2 l y) = ∑ x : Fin 128, ck (e := .bf16) (X0_0 m c t) i (ix2 l (hk h x)) * Ideal.ofBits .f32 0x3DB504F3#32
      * updH h (ck (laB m c t) i) (ck (X0_1 m c t) i) (cv (X0_2 m c t) i) u (ix2 y x)) (x : S64x256.Idx) :
    f (iter m c t (updH h) (cs s h) i.val (by omega)) x = (fun j : S512x1024.Idx => ooC m c t (j 0) (j 1))
      ((Rect.unit (s := S512x1024) ![64 * i.val, 256 * h.val] ![64, 256] (inbO h i)).emb x) := by
  idx_vars x
  rw [embO]
  exact (out_apply m c t s hs i h f _ x0 x1 (fun u => hf u x0 x1) (fun κ => iter_apply m c t s hs h x1 κ i.val _)).trans (ooC_cr m c t i h x0 x1).symm
theorem oP_eq : (n : ℕ) → (hn : n ≤ 8) → ∀ p ∈ oP m c t s n hn, ∀ x, p.2 x = (fun j : S512x1024.Idx => ooC m c t (j 0) (j 1)) (p.1.emb x)
  | 0, _ => fun p hp => absurd hp (List.not_mem_nil)
  | n + 1, hn => fun p hp x => by
    rcases List.mem_append.1 hp with hp | hp
    · simp only [List.mem_cons, List.not_mem_nil, or_false] at hp
      rcases hp with rfl | rfl | rfl | rfl
      · exact piece_o m c t s hs ⟨n, hn⟩ 3 (out3 _ _ _ _) (fun u l y => out3_apply _ _ _ _ u l y) x
      · exact piece_o m c t s hs ⟨n, hn⟩ 2 (out2 _ _ _ _) (fun u l y => out2_apply _ _ _ _ u l y) x
      · exact piece_o m c t s hs ⟨n, hn⟩ 1 (out1 _ _ _ _) (fun u l y => out1_apply _ _ _ _ u l y) x
      · exact piece_o m c t s hs ⟨n, hn⟩ 0 (out0 _ _ _ _) (fun u l y => out0_apply _ _ _ _ u l y) x
    · exact oP_eq n (Nat.le_of_succ_le hn) p hp x

omit hs in
theorem oP_mem (a : Fin 512) (k : Fin 1024) : (n : ℕ) → (hn : n ≤ 8) → a.val / 64 < n → ∃ p ∈ oP m c t s n hn, ix2 a k ∈ p.1.set
  | 0, _ => fun h => absurd h (Nat.not_lt_zero _)
  | n + 1, hn => fun hi => by
    by_cases h : a.val / 64 < n
    · obtain ⟨p, hp, hm⟩ := oP_mem a k n (Nat.le_of_succ_le hn) h
      exact ⟨p, List.mem_append_right _ hp, hm⟩
    · have mem : ∀ h : Fin 4, k.val / 256 = h.val → ix2 a k ∈ (Rect.unit (s := S512x1024) ![64 * (⟨n, hn⟩ : Fin 8).val, 256 * h.val] ![64, 256] (inbO h ⟨n, hn⟩)).set := fun h hh => by
        rw [Rect.mem_set_unit]
        exact fun x => match x with
          | ⟨0, _⟩ => (show 64 * n ≤ a.val ∧ a.val < 64 * n + 64 by omega)
          | ⟨1, _⟩ => (show 256 * h.val ≤ k.val ∧ k.val < 256 * h.val + 256 by omega)
      have hk4 : k.val / 256 = 0 ∨ k.val / 256 = 1 ∨ k.val / 256 = 2 ∨ k.val / 256 = 3 := by omega
      rcases hk4 with h | h | h | h
      · exact ⟨_, List.mem_append_left _ (List.mem_cons_of_mem _ (List.mem_cons_of_mem _ (List.mem_cons_of_mem _ (List.mem_cons_self ..)))), mem 0 h⟩
      · exact ⟨_, List.mem_append_left _ (List.mem_cons_of_mem _ (List.mem_cons_of_mem _ (List.mem_cons_self ..))), mem 1 h⟩
      · exact ⟨_, List.mem_append_left _ (List.mem_cons_of_mem _ (List.mem_cons_self ..)), mem 2 h⟩
      · exact ⟨_, List.mem_append_left _ (List.mem_cons_self ..), mem 3 h⟩
omit hs in
/-- A head's readings are among the pieces stored when it is read back. -/
theorem oP_drop (a : Fin 512) (y : Fin 256) (n : ℕ) (hn : n + 1 ≤ 8) (ha : a.val / 64 ≤ n) (h : Fin 4) :
    ∃ p ∈ (oP m c t s (n + 1) hn).drop (3 - h.val), ix2 a (hv h y) ∈ p.1.set := by
  by_cases hl : a.val / 64 < n
  · obtain ⟨p, hp, hm⟩ := oP_mem m c t s a (hv h y) n (Nat.le_of_succ_le hn) hl
    refine ⟨p, ?_, hm⟩
    unfold oP
    rw [List.drop_append_of_le_length (by simp only [List.length_cons, List.length_nil]; omega)]
    exact List.mem_append_right _ hp
  · have mem : ix2 a (hv h y) ∈ (Rect.unit (s := S512x1024) ![64 * (⟨n, hn⟩ : Fin 8).val, 256 * h.val] ![64, 256] (inbO h ⟨n, hn⟩)).set := by
      rw [Rect.mem_set_unit]
      exact fun x => match x with
        | ⟨0, _⟩ => (show 64 * n ≤ a.val ∧ a.val < 64 * n + 64 by omega)
        | ⟨1, _⟩ => (show 256 * h.val ≤ h.val * 256 + y.val ∧ h.val * 256 + y.val < 256 * h.val + 256 by omega)
    match h, mem with
    | 0, mem => exact ⟨_, List.mem_cons_self .., mem⟩
    | 1, mem => exact ⟨_, List.mem_cons_self .., mem⟩
    | 2, mem => exact ⟨_, List.mem_cons_self .., mem⟩
    | 3, mem => exact ⟨_, List.mem_cons_self .., mem⟩
theorem read_o (a : Fin 512) (h : Fin 4) (y : Fin 256) : View.canon ((oP m c t s 8 (le_refl 8)).drop (3 - h.val)) (ix2 a (hv h y)) = ooC m c t a (hv h y) :=
  View.canon_apply_of_pieces (fun j : S512x1024.Idx => ooC m c t (j 0) (j 1)) _ (fun p hp => oP_eq m c t s hs 8 (le_refl 8) p (List.mem_of_mem_drop hp)) (ix2 a (hv h y))
    (oP_drop m c t s a y 7 (le_refl 8) (by omega) h)
omit hs in
theorem embH (h : Fin 4) (y : Fin 512) (κ : Fin 256) : (Rect.unit (s := S512x1024) ![0, 256 * h.val] ![512, 256] (inbH h)).emb (ix2 y κ) = ix2 y (hv h κ) :=
  funext fun a => match a with
    | ⟨0, _⟩ => Fin.ext (show 0 + 1 * y.val = y.val by omega)
    | ⟨1, _⟩ => Fin.ext (show 256 * h.val + 1 * κ.val = h.val * 256 + κ.val by omega)
omit hs in
theorem outE_hv (y : Fin 512) (h : Fin 4) (κ : Fin 256) : outE (A0 m c) (A1 m c) (A2 m c) (A3 m c) (rowT t y) (hv h κ)
    = gated (fun x => ooC m c t y (hv h x)) (A3 m c (ix1 κ)) (A0 m c (ix2 (rowT t y) ⟨2048 + (hv h κ).val, by omega⟩)) κ := by
  have h1 : (⟨(hv h κ).val / 256, by omega⟩ : Fin 4) = h := Fin.ext (show (h.val * 256 + κ.val) / 256 = h.val by omega)
  have h2 : (⟨(hv h κ).val % 256, by omega⟩ : Fin 256) = κ := Fin.ext (show (h.val * 256 + κ.val) % 256 = κ.val by omega)
  unfold outE
  rw [h1, h2]
  refine congrArg (fun f => gated f _ _ κ) (funext fun x => ?_)
  have h3 : (⟨(hv h x).val / 256, by omega⟩ : Fin 4) = h := Fin.ext (show (h.val * 256 + x.val) / 256 = h.val by omega)
  have h4 : (⟨(hv h x).val % 256, by omega⟩ : Fin 256) = x := Fin.ext (show (h.val * 256 + x.val) % 256 = x.val by omega)
  have h5 : (⟨(rowT t y).val % 64, by omega⟩ : Fin 64) = ⟨y.val % 64, by omega⟩ := Fin.ext (show (t.val * 512 + y.val) % 64 = y.val % 64 by omega)
  have h6 : (rowT t y).val / 64 = 8 * t.val + y.val / 64 := show (t.val * 512 + y.val) / 64 = 8 * t.val + y.val / 64 by omega
  unfold ooC
  rw [h3, h4, h5, h6]
theorem piece_g (h : Fin 4) (x : S512x256.Idx) :
    k0_pay1 ((View.whole cc0_scratch2).readCov ((oP m c t s 8 (le_refl 8)).drop (3 - h.val)) (Rect.unit ![0, 256 * h.val] ![512, 256] (inbH h)).toLoadRect)
      (View.ld (X0_3 m c t) (Rect.unit ![0, 256 * h.val] ![512, 256] (inbH h))) (iblk m c 7 t) x
    = (fun j : S512x1024.Idx => outE (A0 m c) (A1 m c) (A2 m c) (A3 m c) (rowT t (j 0)) (j 1)) ((Rect.unit (s := S512x1024) ![0, 256 * h.val] ![512, 256] (inbH h)).emb x) := by
  idx_vars x
  rw [embH, pay1_apply, b7]
  refine Eq.trans ?_ (outE_hv m c t x0 h x1).symm
  have e : ∀ k : Fin 256, (View.whole cc0_scratch2).readCov ((oP m c t s 8 (le_refl 8)).drop (3 - h.val)) (Rect.unit (s := S512x1024) ![0, 256 * h.val] ![512, 256] (inbH h)).toLoadRect (ix2 x0 k)
      = ooC m c t x0 (hv h k) := fun k => by
    rw [View.readCov_eq_canon']
    exact (congrArg _ (embH h x0 k)).trans (read_o m c t s hs x0 h k)
  refine congrArg₂ (fun (o : Fin 256 → EReal) (r : EReal) => gated o (A3 m c (ix1 x1)) r x1) (funext e) ?_
  exact (congrArg (X0_3 m c t) (embH h x0 x1)).trans (b3 m c t x0 (hv h x1))
theorem gated_eq (y : Fin 512) (k : Fin 1024) : View.canon (gP m c t s) (ix2 y k) = outE (A0 m c) (A1 m c) (A2 m c) (A3 m c) (rowT t y) k := by
  refine View.canon_apply_of_pieces (Val := Elt Ideal) (e := .bf16) (fun j : S512x1024.Idx => outE (A0 m c) (A1 m c) (A2 m c) (A3 m c) (rowT t (j 0)) (j 1)) _ ?_ (ix2 y k) ?_
  · intro p hp x
    simp only [gP, List.mem_cons, List.not_mem_nil, or_false] at hp
    rcases hp with rfl | rfl | rfl | rfl
    · exact piece_g m c t s hs 3 x
    · exact piece_g m c t s hs 2 x
    · exact piece_g m c t s hs 1 x
    · exact piece_g m c t s hs 0 x
  · have mem : ∀ h : Fin 4, k.val / 256 = h.val → ix2 y k ∈ (Rect.unit (s := S512x1024) ![0, 256 * h.val] ![512, 256] (inbH h)).set := fun h hh => by
      rw [Rect.mem_set_unit]
      exact fun a => match a with
        | ⟨0, _⟩ => (show 0 ≤ y.val ∧ y.val < 0 + 512 by omega)
        | ⟨1, _⟩ => (show 256 * h.val ≤ k.val ∧ k.val < 256 * h.val + 256 by omega)
    have hk4 : k.val / 256 = 0 ∨ k.val / 256 = 1 ∨ k.val / 256 = 2 ∨ k.val / 256 = 3 := by omega
    rcases hk4 with h | h | h | h
    · exact ⟨_, List.mem_cons_of_mem _ (List.mem_cons_of_mem _ (List.mem_cons_of_mem _ (List.mem_cons_self ..))), mem 0 h⟩
    · exact ⟨_, List.mem_cons_of_mem _ (List.mem_cons_of_mem _ (List.mem_cons_self ..)), mem 1 h⟩
    · exact ⟨_, List.mem_cons_of_mem _ (List.mem_cons_self ..), mem 2 h⟩
    · exact ⟨_, List.mem_cons_self .., mem 3 h⟩
omit hs

/-! ## The grid's points in order -/

theorem zero_carried (h0 : t.val = 0) : Carried m c t (k0_pay2 (F := Ideal)) := fun y k => by
  unfold stC
  rw [h0]
  pointwise [k0_pay2]
  rfl
/-- What the points leave in the carried state. -/
theorem carry : (n : ℕ) → (hn : n < cfg0.N) → ∀ (y : Fin 256) (k : Fin 512), (outsAt0 m c n hn).2.2 (ix2 y k) = stC m c y k (8 * n + 8)
  | 0, hn => fun y k => by
    obtain ⟨L, e⟩ := carry_A m c ⟨0, hn⟩ rfl
    exact (congrFun e (ix2 y k)).trans (tiles_eq m c ⟨0, hn⟩ _ (zero_carried m c ⟨0, hn⟩ rfl) 8 (le_refl 8) L y k)
  | n + 1, hn => fun y k => by
    have hN := lt_of_lt_of_eq hn N_0
    obtain ⟨L, e⟩ := carry_B m c ⟨n + 1, hn⟩ (show ¬(n + 1) % 8 = 0 by omega)
    refine (congrFun e (ix2 y k)).trans (tiles_eq m c ⟨n + 1, hn⟩ _ (fun y k => ?_) 8 (le_refl 8) L y k)
    exact carry n (Nat.lt_of_succ_lt hn) y k
theorem before_carried (h0 : ¬t.val % 8 = 0) : Carried m c t (outsAt0 m c (t.val - 1) (Nat.lt_of_le_of_lt (Nat.sub_le _ _) t.isLt)).2.2 := fun y k =>
  (carry m c (t.val - 1) _ y k).trans (congrArg (stC m c y k) (by omega))
theorem point8 (y : Fin 512) (k : Fin 1024) : (outsAt0 m c t.val t.isLt).1 (ix2 y k) = outE (A0 m c) (A1 m c) (A2 m c) (A3 m c) (rowT t y) k := by
  have hN := lt_of_lt_of_eq t.isLt N_0
  by_cases h0 : t.val % 8 = 0
  · exact (congrFun (gated_A m c t h0) (ix2 y k)).trans (gated_eq m c t _ (zero_carried m c t (by omega)) y k)
  · exact (congrFun (gated_B m c t h0) (ix2 y k)).trans (gated_eq m c t _ (before_carried m c t h0) y k)
theorem point9 (i : Fin 8) (y : Fin 256) (k : Fin 512) : (outsAt0 m c t.val t.isLt).2.1 (ix3 i y k) = stC m c y k (8 * t.val + i.val + 1) := by
  have hN := lt_of_lt_of_eq t.isLt N_0
  by_cases h0 : t.val % 8 = 0
  · obtain ⟨L, e⟩ := states_A m c t h0
    exact (congrFun e (ix3 i y k)).trans (states_eq m c t _ (zero_carried m c t (by omega)) L i y k)
  · obtain ⟨L, e⟩ := states_B m c t h0
    exact (congrFun e (ix3 i y k)).trans (states_eq m c t _ (before_carried m c t h0) L i y k)

/-! ## The finished arrays -/

/-- The two results, as functions of the arguments. -/
def F8 (x0 : (⟨S4096x8208, .f32⟩ : BufTy).Contents (Elt Ideal)) (x1 : (⟨S16x512, .f32⟩ : BufTy).Contents (Elt Ideal))
    (x2 : (⟨S512, .f32⟩ : BufTy).Contents (Elt Ideal)) (x3 : (⟨S256, .f32⟩ : BufTy).Contents (Elt Ideal)) : (⟨S4096x1024, .bf16⟩ : BufTy).Contents (Elt Ideal) :=
  fun j => outE x0 x1 x2 x3 (j 0) (j 1)
def F9 (x0 : (⟨S4096x8208, .f32⟩ : BufTy).Contents (Elt Ideal)) (x1 : (⟨S16x512, .f32⟩ : BufTy).Contents (Elt Ideal))
    (x2 : (⟨S512, .f32⟩ : BufTy).Contents (Elt Ideal)) : (⟨S64x256x512, .bf16⟩ : BufTy).Contents (Elt Ideal) :=
  fun j => stE x0 x1 x2 (j 0) (j 1) (j 2)
theorem F8_apply (x0 : (⟨S4096x8208, .f32⟩ : BufTy).Contents (Elt Ideal)) (x1 : (⟨S16x512, .f32⟩ : BufTy).Contents (Elt Ideal))
    (x2 : (⟨S512, .f32⟩ : BufTy).Contents (Elt Ideal)) (x3 : (⟨S256, .f32⟩ : BufTy).Contents (Elt Ideal)) (a : Fin 4096) (k : Fin 1024) :
    F8 x0 x1 x2 x3 (ix2 a k) = outE x0 x1 x2 x3 a k := rfl
theorem F9_apply (x0 : (⟨S4096x8208, .f32⟩ : BufTy).Contents (Elt Ideal)) (x1 : (⟨S16x512, .f32⟩ : BufTy).Contents (Elt Ideal))
    (x2 : (⟨S512, .f32⟩ : BufTy).Contents (Elt Ideal)) (n : Fin 64) (y : Fin 256) (k : Fin 512) :
    F9 x0 x1 x2 (ix3 n y k) = stE x0 x1 x2 n y k := rfl
/-- The array's chunk that chunk `i` of point `t` is. -/
def chunkT (i : Fin 8) : Fin 64 := ⟨t.val * 8 + i.val, by have := lt_of_lt_of_eq t.isLt N_0; omega⟩
theorem point9' (i : Fin 8) (y : Fin 256) (k : Fin 512) : (outsAt0 m c t.val t.isLt).2.1 (ix3 i y k) = stE (A0 m c) (A1 m c) (A2 m c) (chunkT t i) y k :=
  (point9 m c t i y k).trans (congrArg (stC m c y k) (show 8 * t.val + i.val + 1 = t.val * 8 + i.val + 1 by omega))

theorem final8 : (dats m 0 c).arrAt 8 cfg0.N = F8 (A0 m c) (A1 m c) (A2 m c) (A3 m c) := by
  refine (dats m 0 c).arrAt_eq_of_covers 8 _ (by decide +kernel) fun t hf y => ?_
  blk_simp
  rw [after0_8]
  idx_vars y
  refine (point8 m c t y0 y1).trans ((F8_apply _ _ _ _ _ _).symm.trans (congrArg _ ?_))
  obtain ⟨e0, e1, e2, e3, e4, e5, e6, e7, e8, e9⟩ := idx t
  blk_ext [rowT, e8]
theorem final9 : (dats m 0 c).arrAt 9 cfg0.N = F9 (A0 m c) (A1 m c) (A2 m c) := by
  refine (dats m 0 c).arrAt_eq_of_covers 9 _ (by decide +kernel) fun t hf y => ?_
  blk_simp
  rw [after0_9]
  idx_vars y
  refine (point9' m c t y0 y1 y2).trans ((F9_apply _ _ _ _ _ _).symm.trans (congrArg _ ?_))
  obtain ⟨e0, e1, e2, e3, e4, e5, e6, e7, e8, e9⟩ := idx t
  blk_ext [chunkT, e9]

/-! ## The claims -/

theorem frame_reference : Cert.quiescent_GlaFwdRefIdeal := fun m ρ _ =>
  (θ_run Cert.GlaFwdRefIdeal.defs _ _).mono (fun r h => ⟨fun c => (h c).2.2, sem_eq_zero_of_no_sems (by decide) r.2⟩)
    (Cert.GlaFwdRefIdeal.Value.run (F := Ideal) m ρ)

theorem algebraic : Cert.algebraic_GlaFwdIdeal_GlaFwdRefIdeal := by
  intro m g m' g' _ hag
  refine ⟨fun c => (dats m 0 c).arrAt 8 cfg0.N, fun c => (dats m 0 c).arrAt 9 cfg0.N, Cert.GlaFwdIdeal.Value.run_blocks m g, ?_⟩
  refine (θ_run _ _ _).mono (fun r h c => ?_) (Cert.GlaFwdRefIdeal.Value.run (F := Ideal) m' g')
  obtain ⟨a0, a1, a2, a3⟩ := hag c
  obtain ⟨r0, r1, r2⟩ := h c
  refine ⟨?_, ?_, r2⟩
  · refine r0.trans (Eq.trans ?_ (final8 m c).symm)
    funext j
    idx_vars j
    refine (Ref.ref66 m' c j0 j1).trans ?_
    rw [show Ref.r0 m' c = A0 m c from a0, show Ref.r1 m' c = A1 m c from a1, show Ref.r2 m' c = A2 m c from a2, show Ref.r3 m' c = A3 m c from a3]
    rfl
  · refine r1.trans (Eq.trans ?_ (final9 m c).symm)
    funext j
    idx_vars j
    refine (Ref.ref69 m' c j0 j1 j2).trans ?_
    rw [show Ref.r0 m' c = A0 m c from a0, show Ref.r1 m' c = A1 m c from a1, show Ref.r2 m' c = A2 m c from a2]
    rfl

end Cert.Gla
-- ==== Proof.RmsF.lean ====
module

public import proofs.«01_k».proof.Defs
public import proofs.«01_k».proof.Proof.Gen.RmsFwdIdeal.Value
public import proofs.«01_k».proof.Proof.Gen.RmsFwdRefIdeal.Read
public import proofs.«01_k».proof.Proof.Gen.RmsFwdRefIdeal.Run
public import Idealize.ShloMosaic.Lib.Pipeline.ValueKit
public import Idealize.ShloMosaic.Lib.Pointwise

@[expose] public section

set_option maxRecDepth 16384

/-! The norm of the rows: the value of the kernel and of the host operations at an element. -/

noncomputable section

namespace Cert.RmsF

open Idealize.ShloMosaic Idealize.ShloMosaic.TcCoe Idealize.SL.Sem
open Cert.RmsFwdIdeal Cert.RmsFwdIdeal.Gen

section

variable (x0 : (⟨S4096x1024, .f32⟩ : BufTy).Contents (Elt Ideal)) (x1 : (⟨S1024, .f32⟩ : BufTy).Contents (Elt Ideal))

/-- The normed row: each entry over its row's root mean square, times the weight. -/
def hn (a : Fin 4096) (b : Fin 1024) : EReal :=
  (x0 (ix2 a b) : EReal) * Ideal.rsqrt (Ideal.div (∑ k : Fin 1024, (x0 (ix2 a k) : EReal) * x0 (ix2 a k)) (Ideal.ofBits .f32 0x44800000#32) + Ideal.ofBits .f32 0x358637BD#32)
    * x1 (ix1 b)

open Cert.RmsFwdRefIdeal.Read

theorem ref13 (a : Fin 4096) (b : Fin 1024) : val_main_v13 (F := Ideal) x0 x1 (ix2 a b) = hn x0 x1 a b := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, hn]

end

section
variable (m : (ℓ : Loc nD τ sig) → Buf (Elt Ideal) ℓ) (c : Dev nD)
abbrev A0 := m ((c : Thread nD τ).loc main_arg0)
abbrev A1 := m ((c : Thread nD τ).loc main_arg1)
end

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The array's row that row `y` of point `t`'s blocks is. -/
def row (t : Fin cfg0.N) (y : Fin 512) : Fin 4096 := ⟨t.val * 512 + y.val, by have := t.isLt; have : cfg0.N = 8 := N_0; omega⟩

variable (c : Dev nD) (t : Fin cfg0.N)

theorem b0 (y : Fin 512) (k : Fin 1024) : iblk m c 0 t (ix2 y k) = A0 m c (ix2 (row t y) k) := by
  obtain ⟨e0, e1, e2⟩ := idx t; blk_ext! [iblk, V, row, e0]
theorem b1 (z : Fin 1) (k : Fin 1024) : iblk m c 1 t (ix2 z k) = A1 m c (ix1 k) := by
  obtain ⟨e0, e1, e2⟩ := idx t; blk_ext! [iblk, V, row, e1]

theorem out2 (y0 : Fin 512) (y1 : Fin 1024) : (dats m 0 c).after 2 t (ix2 y0 y1) = hn (A0 m c) (A1 m c) (row t y0) y1 := by
  rw [after0_2]; frame_out
  pointwise [k0_pay1]
  simp only [b0, b1, hn]

theorem final2 : (dats m 0 c).arrAt 2 cfg0.N = Cert.RmsFwdRefIdeal.Read.val_main_v13 (F := Ideal) (A0 m c) (A1 m c) := by
  refine (dats m 0 c).arrAt_eq_of_covers 2 _ (by decide +kernel) fun t hf y => ?_
  blk_simp
  idx_vars y
  refine (out2 m c t y0 y1).trans ((ref13 _ _ _ _).symm.trans (congrArg _ ?_))
  obtain ⟨e0, e1, e2⟩ := idx t
  blk_ext [row, e2]

/-! ## The claims -/

theorem frame_reference : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

theorem algebraic : Cert.algebraic_RmsFwdIdeal_RmsFwdRefIdeal := by
  intro m g m' g' _ hag
  refine ⟨fun c => (dats m 0 c).arrAt 2 cfg0.N,
    Cert.RmsFwdIdeal.Value.run_blocks m g, ?_⟩
  refine (θ_run _ _ _).mono (fun r h c => ?_) (Cert.RmsFwdRefIdeal.Value.run (F := Ideal) m' g')
  obtain ⟨a0, a1⟩ := hag c
  obtain ⟨r0, r1⟩ := h c
  refine ⟨?_, r1⟩
  · rw [r0, Cert.RmsFwdRefIdeal.Read.val_main_v13_eq, a0, a1]; exact (final2 m c).symm

end Cert.RmsF
-- ==== Proof.ConvF.lean ====
module

public import proofs.«01_k».proof.Defs
public import proofs.«01_k».proof.Proof.Gen.ConvFwdIdeal.Value
public import proofs.«01_k».proof.Proof.Gen.ConvFwdRefIdeal.Read
public import proofs.«01_k».proof.Proof.Gen.ConvFwdRefIdeal.Run
public import proofs.«01_k».proof.Proof.Mix
public import Idealize.ShloMosaic.Lib.StableHlo.ReadAt
public import Idealize.ShloMosaic.Lib.Pipeline.ValueKit
public import Idealize.ShloMosaic.Lib.Pointwise

@[expose] public section

set_option maxRecDepth 16384

/-! The gated short convolution: three taps, a bias, and the gate. -/

noncomputable section

namespace Cert.ConvF

open Idealize.ShloMosaic Idealize.ShloMosaic.TcCoe Idealize.SL.Sem
open Cert.ConvFwdIdeal Cert.ConvFwdIdeal.Gen
open Cert.Mix (pack packed0 packed0_apply)

section

variable (x0 : (⟨S4096x8208, .f32⟩ : BufTy).Contents (Elt Ideal)) (x1 : (⟨S3x1024, .f32⟩ : BufTy).Contents (Elt Ideal)) (x2 : (⟨S1024, .f32⟩ : BufTy).Contents (Elt Ideal))

/-- The gated input of the convolution. -/
def u (a : Fin 4096) (k : Fin 1024) : EReal := (x0 (ix2 a ⟨4112 + k.val, by omega⟩) : EReal) * x0 (ix2 a ⟨5136 + k.val, by omega⟩)

/-- The gated input `s` rows before row `a`, zero before the first row. -/
def up (s : ℕ) (a : Fin 4096) (k : Fin 1024) : EReal := if h : a.val < s then 0 else u x0 ⟨a.val - s, by omega⟩ k

/-- The convolution's output, gated. -/
def conv (a : Fin 4096) (k : Fin 1024) : EReal :=
  x0 (ix2 a ⟨3088 + k.val, by omega⟩)
    * ((x1 (ix2 0 k) : EReal) * up x0 2 a k + (x1 (ix2 1 k) : EReal) * up x0 1 a k + (x1 (ix2 2 k) : EReal) * u x0 a k + x2 (ix1 k))

open Cert.ConvFwdRefIdeal.Read

theorem ref31 (a : Fin 4096) (b : Fin 1024) : val_main_v31 (F := Ideal) x0 x1 x2 (ix2 a b) = conv x0 x1 x2 a b := by
  pointwise [val_main_v0, val_main_v1, val_main_v2, val_main_v3, val_main_v4, val_main_v5, val_main_cst, val_main_v6, val_main_v7, val_main_v8, val_main_v9, val_main_v10, val_main_v11, val_main_v12, val_main_v13, val_main_cst_0, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, conv, up, u]

end

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
end

theorem idx : ∀ t : Fin cfg0.N, (grid0.coords t 0).val = t.val ∧ win0_0.index t = ![t.val, 3] ∧ win0_1.index t = ![t.val, 4] ∧ win0_2.index t = ![t.val, 5]
    ∧ win0_3.index t = ![t.val * 32 - 1, 4] ∧ win0_4.index t = ![t.val * 32 - 1, 5] ∧ win0_5.index t = ![0, 0] ∧ win0_6.index t = ![t.val, 0] :=
  (by decide +kernel : ∀ t : Fin grid0.N, _)

variable (m : (ℓ : Loc nD τ sig) → Buf (Elt Ideal) ℓ)

/-- The array's row that row `y` of point `t`'s blocks is. -/
def row (t : Fin cfg0.N) (y : Fin 512) : Fin 4096 := ⟨t.val * 512 + y.val, by have := t.isLt; have : cfg0.N = 8 := N_0; omega⟩

theorem row_lt (t : Fin cfg0.N) (y : Fin 512) : t.val * 512 + y.val < 4096 := (row t y).isLt

/-- The array's row that row `y` of the sixteen rows before point `t`'s blocks is. -/
def rowB (t : Fin cfg0.N) (y : Fin 16) : Fin 4096 := ⟨(t.val * 32 - 1) * 16 + y.val, by have := row_lt t 0; have := y.isLt; simp at this; omega⟩

variable (c : Dev nD) (t : Fin cfg0.N)

theorem Vp : V m c main_v9 = packed0 (A0 m c) := by entry_read; rfl

theorem zero_int : (FloatOps.sitofp (F := Ideal) FTy.f32 (0#32) : EReal) = 0 := by
  simp [FloatOps.sitofp]

/-- The eight rows of weights: the three taps, the bias, and zeros. -/
theorem V3 (y : Fin 8) (k : Fin 1024) : (V m c main_v3 : FVec Ideal S8x1024 .f32) (ix2 y k)
    = (if h : y.val < 3 then A1 m c (ix2 ⟨y.val, h⟩ k) else 0 : EReal) + (if 3 ≤ y.val ∧ y.val - 3 < 1 then A2 m c (ix1 k) else 0 : EReal) := by
  unfold V; after_reads_at
  rw [zero_int]
  rfl

theorem b0 (y : Fin 512) (k : Fin 1024) : X0_0 m c t (ix2 y k) = A0 m c (ix2 (row t y) ⟨3088 + k.val, by omega⟩) := by
  have h : X0_0 m c t (ix2 y k) = V m c main_v9 (ix2 (row t y) ⟨3072 + k.val, by omega⟩) := by
    unfold X0_0 Pipeline.Window.fill
    rw [dif_pos (moved0_0 t _)]
    obtain ⟨g0, e0, e1, e2, e3, e4, e5, e6⟩ := idx t; blk_ext [iblk, row, e0]
  rw [h, Vp, packed0_apply, pack, dif_neg (show ¬3072 + k.val < 3072 by omega), dif_pos (show 3072 + k.val < 8192 by omega)]
  exact congrArg (fun k => A0 m c (ix2 (row t y) k)) (Fin.ext (show 3072 + k.val + 16 = 3088 + k.val by omega))
theorem b1 (y : Fin 512) (k : Fin 1024) : X0_1 m c t (ix2 y k) = A0 m c (ix2 (row t y) ⟨4112 + k.val, by omega⟩) := by
  have h : X0_1 m c t (ix2 y k) = V m c main_v9 (ix2 (row t y) ⟨4096 + k.val, by omega⟩) := by
    unfold X0_1 Pipeline.Window.fill
    rw [dif_pos (moved0_1 t _)]
    obtain ⟨g0, e0, e1, e2, e3, e4, e5, e6⟩ := idx t; blk_ext [iblk, row, e1]
  rw [h, Vp, packed0_apply, pack, dif_neg (show ¬4096 + k.val < 3072 by omega), dif_pos (show 4096 + k.val < 8192 by omega)]
  exact congrArg (fun k => A0 m c (ix2 (row t y) k)) (Fin.ext (show 4096 + k.val + 16 = 4112 + k.val by omega))
theorem b2 (y : Fin 512) (k : Fin 1024) : X0_2 m c t (ix2 y k) = A0 m c (ix2 (row t y) ⟨5136 + k.val, by omega⟩) := by
  have h : X0_2 m c t (ix2 y k) = V m c main_v9 (ix2 (row t y) ⟨5120 + k.val, by omega⟩) := by
    unfold X0_2 Pipeline.Window.fill
    rw [dif_pos (moved0_2 t _)]
    obtain ⟨g0, e0, e1, e2, e3, e4, e5, e6⟩ := idx t; blk_ext [iblk, row, e2]
  rw [h, Vp, packed0_apply, pack, dif_neg (show ¬5120 + k.val < 3072 by omega), dif_pos (show 5120 + k.val < 8192 by omega)]
  exact congrArg (fun k => A0 m c (ix2 (row t y) k)) (Fin.ext (show 5120 + k.val + 16 = 5136 + k.val by omega))
theorem b3 (y : Fin 16) (k : Fin 1024) : X0_3 m c t (ix2 y k) = A0 m c (ix2 (rowB t y) ⟨4112 + k.val, by omega⟩) := by
  have h : X0_3 m c t (ix2 y k) = V m c main_v9 (ix2 (rowB t y) ⟨4096 + k.val, by omega⟩) := by
    unfold X0_3 Pipeline.Window.fill
    rw [dif_pos (moved0_3 t _)]
    obtain ⟨g0, e0, e1, e2, e3, e4, e5, e6⟩ := idx t; blk_ext [iblk, rowB, e3]
  rw [h, Vp, packed0_apply, pack, dif_neg (show ¬4096 + k.val < 3072 by omega), dif_pos (show 4096 + k.val < 8192 by omega)]
  exact congrArg (fun k => A0 m c (ix2 (rowB t y) k)) (Fin.ext (show 4096 + k.val + 16 = 4112 + k.val by omega))
theorem b4 (y : Fin 16) (k : Fin 1024) : X0_4 m c t (ix2 y k) = A0 m c (ix2 (rowB t y) ⟨5136 + k.val, by omega⟩) := by
  have h : X0_4 m c t (ix2 y k) = V m c main_v9 (ix2 (rowB t y) ⟨5120 + k.val, by omega⟩) := by
    unfold X0_4 Pipeline.Window.fill
    rw [dif_pos (moved0_4 t _)]
    obtain ⟨g0, e0, e1, e2, e3, e4, e5, e6⟩ := idx t; blk_ext [iblk, rowB, e4]
  rw [h, Vp, packed0_apply, pack, dif_neg (show ¬5120 + k.val < 3072 by omega), dif_pos (show 5120 + k.val < 8192 by omega)]
  exact congrArg (fun k => A0 m c (ix2 (rowB t y) k)) (Fin.ext (show 5120 + k.val + 16 = 5136 + k.val by omega))
theorem b5 (y : Fin 8) (k : Fin 1024) : iblk m c 5 t (ix2 y k) = V m c main_v3 (ix2 y k) := by
  obtain ⟨g0, e0, e1, e2, e3, e4, e5, e6⟩ := idx t; blk_ext [iblk, e5]
theorem b5_0 (k : Fin 1024) : iblk m c 5 t (ix2 0 k) = A1 m c (ix2 0 k) := by
  rw [b5]; refine (V3 m c 0 k).trans ?_; rw [dif_pos (by decide), if_neg (by decide)]; exact add_zero (_ : EReal)
theorem b5_1 (k : Fin 1024) : iblk m c 5 t (ix2 1 k) = A1 m c (ix2 1 k) := by
  rw [b5]; refine (V3 m c 1 k).trans ?_; rw [dif_pos (by decide), if_neg (by decide)]; exact add_zero (_ : EReal)
theorem b5_2 (k : Fin 1024) : iblk m c 5 t (ix2 2 k) = A1 m c (ix2 2 k) := by
  rw [b5]; refine (V3 m c 2 k).trans ?_; rw [dif_pos (by decide), if_neg (by decide)]; exact add_zero (_ : EReal)
theorem b5_3 (k : Fin 1024) : iblk m c 5 t (ix2 3 k) = A2 m c (ix1 k) := by
  rw [b5]; refine (V3 m c 3 k).trans ?_; rw [dif_neg (by decide), if_pos (by decide)]; exact zero_add (_ : EReal)

theorem first_iff (h : t.val = 0) : Scalar.cmpi CmpIPredicate.eq (BitVec.ofNat 32 (grid0.coords t 0).val) 0#32 = 1#1 := by
  rw [(idx t).1, h]; rfl
theorem first_not (h : ¬t.val = 0) : ¬Scalar.cmpi CmpIPredicate.eq (BitVec.ofNat 32 (grid0.coords t 0).val) 0#32 = 1#1 := by
  have := lt_of_lt_of_eq t.isLt N_0
  rw [(idx t).1]; generalize t.val = n at *; interval_cases n <;> first | exact absurd rfl h | decide
/-- The rows before: from the sixteen rows before the block, zero at the first block, or from the block itself. -/
theorem shift_up (s : ℕ) (h1 : 1 ≤ s) (h2 : s ≤ 16) (y : Fin 512) (k : Fin 1024) (f4 f5 : Fin 16 → EReal) (f1 f2 : Fin 512 → EReal)
    (b4 : ∀ y, f4 y = A0 m c (ix2 (rowB t y) ⟨4112 + k.val, by omega⟩)) (b5 : ∀ y, f5 y = A0 m c (ix2 (rowB t y) ⟨5136 + k.val, by omega⟩))
    (b1 : ∀ y, f1 y = A0 m c (ix2 (row t y) ⟨4112 + k.val, by omega⟩)) (b2 : ∀ y, f2 y = A0 m c (ix2 (row t y) ⟨5136 + k.val, by omega⟩)) :
    (if h : (16 + y.val + 528 - s) % 528 < 16 then
      Scalar.select (Scalar.cmpi CmpIPredicate.eq (BitVec.ofNat 32 (grid0.coords t 0).val) 0#32) (0 : EReal)
        (f4 ⟨(16 + y.val + 528 - s) % 528, h⟩ * f5 ⟨(16 + y.val + 528 - s) % 528, h⟩)
    else f1 ⟨(16 + y.val + 528 - s) % 528 - 16, by omega⟩ * f2 ⟨(16 + y.val + 528 - s) % 528 - 16, by omega⟩)
      = up (A0 m c) s (row t y) k := by
  have hy := y.isLt
  have hv : (row t y).val = t.val * 512 + y.val := rfl
  have e : (16 + y.val + 528 - s) % 528 = 16 + y.val - s := by omega
  simp only [e, b1, b2, b4, b5]
  by_cases h : 16 + y.val - s < 16
  · rw [dif_pos h]
    by_cases h0 : t.val = 0
    · rw [up, dif_pos (show (row t y).val < s by omega)]
      exact if_pos (first_iff t h0)
    · rw [up, dif_neg (show ¬(row t y).val < s by omega)]
      refine (if_neg (first_not t h0)).trans ?_
      rw [u, show rowB t ⟨16 + y.val - s, h⟩ = ⟨(row t y).val - s, by have := (row t y).isLt; omega⟩ from Fin.ext (show (t.val * 32 - 1) * 16 + (16 + y.val - s) = t.val * 512 + y.val - s by omega)]
  · rw [dif_neg h, up, dif_neg (show ¬(row t y).val < s by omega), u]
    rw [show row t ⟨16 + y.val - s - 16, by omega⟩ = ⟨(row t y).val - s, by have := (row t y).isLt; omega⟩ from Fin.ext (show t.val * 512 + (16 + y.val - s - 16) = t.val * 512 + y.val - s by omega)]

theorem out6 (y0 : Fin 512) (y1 : Fin 1024) : outsAt0 m c t (ix2 y0 y1) = conv (A0 m c) (A1 m c) (A2 m c) (row t y0) y1 := by
  unfold outsAt0
  frame_out
  pointwise [k0_pay1, k0_pay2, k0_pay3]
  have e1 := shift_up m c t 1 (by decide) (by decide) y0 y1 (fun y => X0_3 m c t (ix2 y y1)) (fun y => X0_4 m c t (ix2 y y1)) (fun y => X0_1 m c t (ix2 y y1)) (fun y => X0_2 m c t (ix2 y y1))
    (fun y => b3 m c t y y1) (fun y => b4 m c t y y1) (fun y => b1 m c t y y1) (fun y => b2 m c t y y1)
  have e2 := shift_up m c t 2 (by decide) (by decide) y0 y1 (fun y => X0_3 m c t (ix2 y y1)) (fun y => X0_4 m c t (ix2 y y1)) (fun y => X0_1 m c t (ix2 y y1)) (fun y => X0_2 m c t (ix2 y y1))
    (fun y => b3 m c t y y1) (fun y => b4 m c t y y1) (fun y => b1 m c t y y1) (fun y => b2 m c t y y1)
  refine congrArg₂ (fun a b : EReal => a * b) (b0 m c t y0 y1) ?_
  refine congrArg₂ (fun a b : EReal => a + b) (congrArg₂ (fun a b : EReal => a + b) (congrArg₂ (fun a b : EReal => a + b)
    (congrArg₂ (fun a b : EReal => a * b) (b5_0 m c t y1) e2) (congrArg₂ (fun a b : EReal => a * b) (b5_1 m c t y1) e1))
    (congrArg₂ (fun a b : EReal => a * b) (b5_2 m c t y1) (congrArg₂ (fun a b : EReal => a * b) (b1 m c t y0 y1) (b2 m c t y0 y1)))) (b5_3 m c t y1)

theorem final6 : (dats m 0 c).arrAt 6 cfg0.N = Cert.ConvFwdRefIdeal.Read.val_main_v31 (F := Ideal) (A0 m c) (A1 m c) (A2 m c) := by
  refine (dats m 0 c).arrAt_eq_of_covers 6 _ (by decide +kernel) fun t hf y => ?_
  blk_simp
  rw [after0_6]
  idx_vars y
  refine (out6 m c t y0 y1).trans ((ref31 _ _ _ _ _).symm.trans (congrArg _ ?_))
  obtain ⟨g0, e0, e1, e2, e3, e4, e5, e6⟩ := idx t
  blk_ext [row, e6]

/-! ## The claims -/

theorem frame_reference : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

theorem algebraic : Cert.algebraic_ConvFwdIdeal_ConvFwdRefIdeal := by
  intro m g m' g' _ hag
  refine ⟨fun c => (dats m 0 c).arrAt 6 cfg0.N,
    Cert.ConvFwdIdeal.Value.run_blocks m g, ?_⟩
  refine (θ_run _ _ _).mono (fun r h c => ?_) (Cert.ConvFwdRefIdeal.Value.run (F := Ideal) m' g')
  obtain ⟨a0, a1, a2⟩ := hag c
  obtain ⟨r0, r1⟩ := h c
  refine ⟨?_, r1⟩
  · rw [r0, Cert.ConvFwdRefIdeal.Read.val_main_v31_eq, a0, a1, a2]; exact (final6 m c).symm

end Cert.ConvF
-- ==== Proof.MixF.lean ====
module

public import proofs.«01_k».proof.Defs
public import proofs.«01_k».proof.Proof.Gen.MixFwdIdeal.Value
public import proofs.«01_k».proof.Proof.Gen.MixFwdRefIdeal.Read
public import proofs.«01_k».proof.Proof.Gen.MixFwdRefIdeal.Run
public import proofs.«01_k».proof.Proof.Mix
public import Idealize.ShloMosaic.Lib.Pipeline.ValueKit
public import Idealize.ShloMosaic.Lib.Pointwise

@[expose] public section

set_option maxRecDepth 16384

/-! The gated merge of the two branches and the output product. -/

noncomputable section

namespace Cert.MixF

open Idealize.ShloMosaic Idealize.ShloMosaic.TcCoe Idealize.SL.Sem
open Cert.MixFwdIdeal Cert.MixFwdIdeal.Gen
open Cert.Mix (pack packed0 packed0_apply)

section

variable (x0 x1 : (⟨S4096x1024, .f32⟩ : BufTy).Contents (Elt Ideal)) (x2 : (⟨S4096x8208, .f32⟩ : BufTy).Contents (Elt Ideal)) (x3 : (⟨S4096x1024, .f32⟩ : BufTy).Contents (Elt Ideal)) (x4 x5 x6 : (⟨S1024x1024, .f32⟩ : BufTy).Contents (Elt Ideal))

/-- A branch's product with its weight. -/
def pr (x : (⟨S4096x1024, .f32⟩ : BufTy).Contents (Elt Ideal)) (w : (⟨S1024x1024, .f32⟩ : BufTy).Contents (Elt Ideal)) (a : Fin 4096) (b : Fin 1024) : EReal := ∑ l : Fin 1024, (x (ix2 a l) : EReal) * w (ix2 l b)

/-- The gated sum of the two branches. -/
def mx (a : Fin 4096) (b : Fin 1024) : EReal :=
  Ideal.logistic (x2 (ix2 a ⟨6160 + b.val, by omega⟩)) * pr x0 x4 a b + Ideal.logistic (x2 (ix2 a ⟨7184 + b.val, by omega⟩)) * pr x1 x5 a b

/-- The residual plus the merged branches' product. -/
def nx (a : Fin 4096) (b : Fin 1024) : EReal := x3 (ix2 a b) + ∑ l : Fin 1024, mx x0 x1 x2 x4 x5 a l * x6 (ix2 l b)

open Cert.MixFwdRefIdeal.Read

theorem ref21 (a : Fin 4096) (b : Fin 1024) : val_main_v21 (F := Ideal) x0 x4 (ix2 a b) = pr x0 x4 a b := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_v19, val_main_v20, val_main_v21, val_main_v22, val_main_v23, pr]
theorem ref22 (a : Fin 4096) (b : Fin 1024) : val_main_v22 (F := Ideal) x1 x5 (ix2 a b) = pr x1 x5 a b := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_v19, val_main_v20, val_main_v21, val_main_v22, val_main_v23, pr]
theorem ref23 (a : Fin 4096) (b : Fin 1024) : val_main_v23 (F := Ideal) x0 x1 x2 x4 x5 (ix2 a b) = mx x0 x1 x2 x4 x5 a b := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_v19, val_main_v20, val_main_v21, val_main_v22, val_main_v23, pr, mx, Ideal.logistic]
theorem ref20 (a : Fin 4096) (b : Fin 1024) : val_main_v20 (F := Ideal) x0 x1 x2 x3 x4 x5 x6 (ix2 a b)
    = nx x0 x1 x2 x3 x4 x5 x6 a b := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_v19, val_main_v20, val_main_v21, val_main_v22, val_main_v23, nx, pr, mx, Ideal.logistic]

end

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
end

theorem idx : ∀ t : Fin cfg0.N, win0_0.index t = ![t.val, 0] ∧ win0_1.index t = ![t.val, 0] ∧ win0_2.index t = ![t.val, 6] ∧ win0_3.index t = ![t.val, 7] ∧ win0_4.index t = ![t.val, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] :=
  (by decide +kernel : ∀ t : Fin grid0.N, _)

variable (m : (ℓ : Loc nD τ sig) → Buf (Elt Ideal) ℓ)

/-- The array's row that row `y` of point `t`'s blocks is. -/
def row (t : Fin cfg0.N) (y : Fin 512) : Fin 4096 := ⟨t.val * 512 + y.val, by have := t.isLt; have : cfg0.N = 8 := N_0; omega⟩

variable (c : Dev nD) (t : Fin cfg0.N)

theorem Vp : V m c main_v7 = packed0 (A2 m c) := by dsimp only [V]; after_results_simp; rfl

theorem b0 (y : Fin 512) (k : Fin 1024) : iblk m c 0 t (ix2 y k) = A0 m c (ix2 (row t y) k) := by
  obtain ⟨e0, e1, e2, e3, e4, e5, e6, e7, e8, e9, e10, e11⟩ := idx t; blk_ext! [iblk, V, row, e0]
theorem b1 (y : Fin 512) (k : Fin 1024) : iblk m c 1 t (ix2 y k) = A1 m c (ix2 (row t y) k) := by
  obtain ⟨e0, e1, e2, e3, e4, e5, e6, e7, e8, e9, e10, e11⟩ := idx t; blk_ext! [iblk, V, row, e1]
theorem b2 (y : Fin 512) (k : Fin 1024) : X0_2 m c t (ix2 y k) = A2 m c (ix2 (row t y) ⟨6160 + k.val, by omega⟩) := by
  have h : X0_2 m c t (ix2 y k) = V m c main_v7 (ix2 (row t y) ⟨6144 + k.val, by omega⟩) := by
    unfold X0_2 Pipeline.Window.fill
    rw [dif_pos (moved0_2 t _)]
    obtain ⟨e0, e1, e2, e3, e4, e5, e6, e7, e8, e9, e10, e11⟩ := idx t; blk_ext [iblk, row, e2]
  rw [h, Vp, packed0_apply, pack, dif_neg (show ¬6144 + k.val < 3072 by omega), dif_pos (show 6144 + k.val < 8192 by omega)]
  exact congrArg (fun k => A2 m c (ix2 (row t y) k)) (Fin.ext (show 6144 + k.val + 16 = 6160 + k.val by omega))
theorem b3 (y : Fin 512) (k : Fin 1024) : X0_3 m c t (ix2 y k) = A2 m c (ix2 (row t y) ⟨7184 + k.val, by omega⟩) := by
  have h : X0_3 m c t (ix2 y k) = V m c main_v7 (ix2 (row t y) ⟨7168 + k.val, by omega⟩) := by
    unfold X0_3 Pipeline.Window.fill
    rw [dif_pos (moved0_3 t _)]
    obtain ⟨e0, e1, e2, e3, e4, e5, e6, e7, e8, e9, e10, e11⟩ := idx t; blk_ext [iblk, row, e3]
  rw [h, Vp, packed0_apply, pack, dif_neg (show ¬7168 + k.val < 3072 by omega), dif_pos (show 7168 + k.val < 8192 by omega)]
  exact congrArg (fun k => A2 m c (ix2 (row t y) k)) (Fin.ext (show 7168 + k.val + 16 = 7184 + k.val by omega))
theorem b4 (y : Fin 512) (k : Fin 1024) : iblk m c 4 t (ix2 y k) = A3 m c (ix2 (row t y) k) := by
  obtain ⟨e0, e1, e2, e3, e4, e5, e6, e7, e8, e9, e10, e11⟩ := idx t; blk_ext! [iblk, V, row, e4]
theorem b5 (y k : Fin 1024) : iblk m c 5 t (ix2 y k) = A4 m c (ix2 y k) := by
  obtain ⟨e0, e1, e2, e3, e4, e5, e6, e7, e8, e9, e10, e11⟩ := idx t; blk_ext! [iblk, V, row, e5]
theorem b6 (y k : Fin 1024) : iblk m c 6 t (ix2 y k) = A5 m c (ix2 y k) := by
  obtain ⟨e0, e1, e2, e3, e4, e5, e6, e7, e8, e9, e10, e11⟩ := idx t; blk_ext! [iblk, V, row, e6]
theorem b7 (y k : Fin 1024) : iblk m c 7 t (ix2 y k) = A6 m c (ix2 y k) := by
  obtain ⟨e0, e1, e2, e3, e4, e5, e6, e7, e8, e9, e10, e11⟩ := idx t; blk_ext! [iblk, V, row, e7]

theorem out8 (y0 : Fin 512) (y1 : Fin 1024) : (outsAt0 m c t).1 (ix2 y0 y1) = pr (A0 m c) (A4 m c) (row t y0) y1 := by
  unfold outsAt0
  frame_out
  pointwise [k0_pay1, k0_pay2, k0_pay3, k0_pay4, k0_pay5]
  simp only [b0, b1, b2, b3, b4, b5, b6, b7, nx, pr, mx]

theorem out9 (y0 : Fin 512) (y1 : Fin 1024) : (outsAt0 m c t).2.1 (ix2 y0 y1) = pr (A1 m c) (A5 m c) (row t y0) y1 := by
  unfold outsAt0
  frame_out
  pointwise [k0_pay1, k0_pay2, k0_pay3, k0_pay4, k0_pay5]
  simp only [b0, b1, b2, b3, b4, b5, b6, b7, nx, pr, mx]

theorem out10 (y0 : Fin 512) (y1 : Fin 1024) : (outsAt0 m c t).2.2.1 (ix2 y0 y1) = mx (A0 m c) (A1 m c) (A2 m c) (A4 m c) (A5 m c) (row t y0) y1 := by
  unfold outsAt0
  frame_out
  pointwise [k0_pay1, k0_pay2, k0_pay3, k0_pay4, k0_pay5]
  simp only [b0, b1, b2, b3, b4, b5, b6, b7, nx, pr, mx]

theorem out11 (y0 : Fin 512) (y1 : Fin 1024) : (outsAt0 m c t).2.2.2 (ix2 y0 y1) = nx (A0 m c) (A1 m c) (A2 m c) (A3 m c) (A4 m c) (A5 m c) (A6 m c) (row t y0) y1 := by
  unfold outsAt0
  frame_out
  pointwise [k0_pay1, k0_pay2, k0_pay3, k0_pay4, k0_pay5]
  simp only [b0, b1, b2, b3, b4, b5, b6, b7, nx, pr, mx]

theorem final8 : (dats m 0 c).arrAt 8 cfg0.N = Cert.MixFwdRefIdeal.Read.val_main_v21 (F := Ideal) (A0 m c) (A4 m c) := by
  refine (dats m 0 c).arrAt_eq_of_covers 8 _ (by decide +kernel) fun t hf y => ?_
  blk_simp
  rw [after0_8]
  idx_vars y
  refine (out8 m c t y0 y1).trans ((ref21 _ _ _ _).symm.trans (congrArg _ ?_))
  obtain ⟨e0, e1, e2, e3, e4, e5, e6, e7, e8, e9, e10, e11⟩ := idx t
  blk_ext [row, e8]

theorem final9 : (dats m 0 c).arrAt 9 cfg0.N = Cert.MixFwdRefIdeal.Read.val_main_v22 (F := Ideal) (A1 m c) (A5 m c) := by
  refine (dats m 0 c).arrAt_eq_of_covers 9 _ (by decide +kernel) fun t hf y => ?_
  blk_simp
  rw [after0_9]
  idx_vars y
  refine (out9 m c t y0 y1).trans ((ref22 _ _ _ _).symm.trans (congrArg _ ?_))
  obtain ⟨e0, e1, e2, e3, e4, e5, e6, e7, e8, e9, e10, e11⟩ := idx t
  blk_ext [row, e9]

theorem final10 : (dats m 0 c).arrAt 10 cfg0.N = Cert.MixFwdRefIdeal.Read.val_main_v23 (F := Ideal) (A0 m c) (A1 m c) (A2 m c) (A4 m c) (A5 m c) := by
  refine (dats m 0 c).arrAt_eq_of_covers 10 _ (by decide +kernel) fun t hf y => ?_
  blk_simp
  rw [after0_10]
  idx_vars y
  refine (out10 m c t y0 y1).trans ((ref23 _ _ _ _ _ _ _).symm.trans (congrArg _ ?_))
  obtain ⟨e0, e1, e2, e3, e4, e5, e6, e7, e8, e9, e10, e11⟩ := idx t
  blk_ext [row, e10]

theorem final11 : (dats m 0 c).arrAt 11 cfg0.N = Cert.MixFwdRefIdeal.Read.val_main_v20 (F := Ideal) (A0 m c) (A1 m c) (A2 m c) (A3 m c) (A4 m c) (A5 m c) (A6 m c) := by
  refine (dats m 0 c).arrAt_eq_of_covers 11 _ (by decide +kernel) fun t hf y => ?_
  blk_simp
  rw [after0_11]
  idx_vars y
  refine (out11 m c t y0 y1).trans ((ref20 _ _ _ _ _ _ _ _ _).symm.trans (congrArg _ ?_))
  obtain ⟨e0, e1, e2, e3, e4, e5, e6, e7, e8, e9, e10, e11⟩ := idx t
  blk_ext [row, e11]

/-! ## The claims -/

theorem frame_reference : Cert.quiescent_MixFwdRefIdeal := fun m ρ _ =>
  (θ_run Cert.MixFwdRefIdeal.defs _ _).mono (fun r h => ⟨fun c => (h c).2.2.2.2, sem_eq_zero_of_no_sems (by decide) r.2⟩)
    (Cert.MixFwdRefIdeal.Value.run (F := Ideal) m ρ)

theorem algebraic : Cert.algebraic_MixFwdIdeal_MixFwdRefIdeal := by
  intro m g m' g' _ hag
  refine ⟨fun c => (dats m 0 c).arrAt 8 cfg0.N, fun c => (dats m 0 c).arrAt 9 cfg0.N, fun c => (dats m 0 c).arrAt 10 cfg0.N, fun c => (dats m 0 c).arrAt 11 cfg0.N,
    Cert.MixFwdIdeal.Value.run_blocks m g, ?_⟩
  refine (θ_run _ _ _).mono (fun r h c => ?_) (Cert.MixFwdRefIdeal.Value.run (F := Ideal) m' g')
  obtain ⟨a0, a1, a2, a3, a4, a5, a6⟩ := hag c
  obtain ⟨r0, r1, r2, r3, r4⟩ := h c
  refine ⟨?_, ?_, ?_, ?_, r4⟩
  · rw [r0, Cert.MixFwdRefIdeal.Read.val_main_v21_eq, a0, a4]; exact (final8 m c).symm
  · rw [r1, Cert.MixFwdRefIdeal.Read.val_main_v22_eq, a1, a5]; exact (final9 m c).symm
  · rw [r2, Cert.MixFwdRefIdeal.Read.val_main_v23_eq, a0, a1, a2, a4, a5]; exact (final10 m c).symm
  · rw [r3, Cert.MixFwdRefIdeal.Read.val_main_v20_eq, a0, a1, a2, a3, a4, a5, a6]; exact (final11 m c).symm

end Cert.MixF
-- ==== Proof.FfnF.lean ====
module

public import proofs.«01_k».proof.Defs
public import proofs.«01_k».proof.Proof.Gen.FfnFwdIdeal.Value
public import proofs.«01_k».proof.Proof.Gen.FfnFwdRefIdeal.Read
public import proofs.«01_k».proof.Proof.Gen.FfnFwdRefIdeal.Run
public import Idealize.ShloMosaic.Lib.Pipeline.ValueKit
public import Idealize.ShloMosaic.Lib.Pointwise

@[expose] public section

set_option maxRecDepth 16384

/-! The gated hidden layer: the norm, the two products, and the gate times the second. -/

noncomputable section

namespace Cert.FfnF

open Idealize.ShloMosaic Idealize.ShloMosaic.TcCoe Idealize.SL.Sem
open Cert.FfnFwdIdeal Cert.FfnFwdIdeal.Gen

section

variable (x0 : (⟨S4096x1024, .f32⟩ : BufTy).Contents (Elt Ideal)) (x1 : (⟨S1024, .f32⟩ : BufTy).Contents (Elt Ideal)) (x2 x3 : (⟨S1024x2816, .f32⟩ : BufTy).Contents (Elt Ideal))

/-- The normed row: each entry over its row's root mean square, times the weight. -/
def hn (a : Fin 4096) (b : Fin 1024) : EReal :=
  (x0 (ix2 a b) : EReal) * Ideal.rsqrt (Ideal.div (∑ k : Fin 1024, (x0 (ix2 a k) : EReal) * x0 (ix2 a k)) (Ideal.ofBits .f32 0x44800000#32) + Ideal.ofBits .f32 0x358637BD#32)
    * x1 (ix1 b)

/-- The normed rows times a weight. -/
def pr (w : (⟨S1024x2816, .f32⟩ : BufTy).Contents (Elt Ideal)) (a : Fin 4096) (b : Fin 2816) : EReal := ∑ l : Fin 1024, hn x0 x1 a l * w (ix2 l b)

open Cert.FfnFwdRefIdeal.Read

theorem ref17 (a : Fin 4096) (b : Fin 1024) : val_main_v17 (F := Ideal) x0 x1 (ix2 a b) = hn x0 x1 a b := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_call0_v0, val_main_call0_v1, val_main_call0_cst, val_main_call0_v2, val_main_call0_v3, val_main_call0_cst_0, val_main_call0_v4, val_main_call0_v5, val_main_v15, val_main_v16, val_main_v17, val_main_v18, val_main_v19, val_main_v20, hn]
theorem ref18 (a : Fin 4096) (b : Fin 2816) : val_main_v18 (F := Ideal) x0 x1 x2 (ix2 a b) = pr x0 x1 x2 a b := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_call0_v0, val_main_call0_v1, val_main_call0_cst, val_main_call0_v2, val_main_call0_v3, val_main_call0_cst_0, val_main_call0_v4, val_main_call0_v5, val_main_v15, val_main_v16, val_main_v17, val_main_v18, val_main_v19, val_main_v20, hn, pr]
theorem ref19 (a : Fin 4096) (b : Fin 2816) : val_main_v19 (F := Ideal) x0 x1 x3 (ix2 a b) = pr x0 x1 x3 a b := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_call0_v0, val_main_call0_v1, val_main_call0_cst, val_main_call0_v2, val_main_call0_v3, val_main_call0_cst_0, val_main_call0_v4, val_main_call0_v5, val_main_v15, val_main_v16, val_main_v17, val_main_v18, val_main_v19, val_main_v20, hn, pr]
theorem ref20 (a : Fin 4096) (b : Fin 2816) : val_main_v20 (F := Ideal) x0 x1 x2 x3 (ix2 a b)
    = pr x0 x1 x2 a b * Ideal.logistic (pr x0 x1 x2 a b) * pr x0 x1 x3 a b := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_call0_v0, val_main_call0_v1, val_main_call0_cst, val_main_call0_v2, val_main_call0_v3, val_main_call0_cst_0, val_main_call0_v4, val_main_call0_v5, val_main_v15, val_main_v16, val_main_v17, val_main_v18, val_main_v19, val_main_v20, hn, pr, Ideal.logistic]

end

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
end

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

/-- The array's row that row `y` of point `t`'s blocks is. -/
def row (t : Fin cfg0.N) (y : Fin 256) : Fin 4096 := ⟨t.val * 256 + y.val, by have := t.isLt; have : cfg0.N = 16 := N_0; omega⟩

variable (c : Dev nD) (t : Fin cfg0.N)

theorem b0 (y : Fin 256) (k : Fin 1024) : iblk m c 0 t (ix2 y k) = A0 m c (ix2 (row t y) k) := by
  obtain ⟨e0, e1, e2, e3, e4, e5, e6, e7⟩ := idx t; blk_ext! [iblk, V, row, e0]
theorem b1 (z : Fin 1) (k : Fin 1024) : iblk m c 1 t (ix2 z k) = A1 m c (ix1 k) := by
  obtain ⟨e0, e1, e2, e3, e4, e5, e6, e7⟩ := idx t; blk_ext! [iblk, V, row, e1]
theorem b2 (k : Fin 2816) (l : Fin 1024) : iblk m c 2 t (ix2 k l) = A2 m c (ix2 l k) := by
  obtain ⟨e0, e1, e2, e3, e4, e5, e6, e7⟩ := idx t; blk_ext! [iblk, V, row, e2]
theorem b3 (k : Fin 2816) (l : Fin 1024) : iblk m c 3 t (ix2 k l) = A3 m c (ix2 l k) := by
  obtain ⟨e0, e1, e2, e3, e4, e5, e6, e7⟩ := idx t; blk_ext! [iblk, V, row, e3]

theorem out4 (y0 : Fin 256) (y1 : Fin 1024) : (dats m 0 c).after 4 t (ix2 y0 y1) = hn (A0 m c) (A1 m c) (row t y0) y1 := by
  rw [after0_4]; frame_out
  pointwise [k0_pay1, k0_pay2, k0_pay3, k0_pay4]
  simp only [b0, b1, b2, b3, hn, pr]

theorem out5 (y0 : Fin 256) (y1 : Fin 2816) : (dats m 0 c).after 5 t (ix2 y0 y1) = pr (A0 m c) (A1 m c) (A2 m c) (row t y0) y1 := by
  rw [after0_5]; frame_out
  pointwise [k0_pay1, k0_pay2, k0_pay3, k0_pay4]
  simp only [b0, b1, b2, b3, hn, pr]

theorem out6 (y0 : Fin 256) (y1 : Fin 2816) : (dats m 0 c).after 6 t (ix2 y0 y1) = pr (A0 m c) (A1 m c) (A3 m c) (row t y0) y1 := by
  rw [after0_6]; frame_out
  pointwise [k0_pay1, k0_pay2, k0_pay3, k0_pay4]
  simp only [b0, b1, b2, b3, hn, pr]

theorem out7 (y0 : Fin 256) (y1 : Fin 2816) : (dats m 0 c).after 7 t (ix2 y0 y1) = pr (A0 m c) (A1 m c) (A2 m c) (row t y0) y1 * Ideal.logistic (pr (A0 m c) (A1 m c) (A2 m c) (row t y0) y1) * pr (A0 m c) (A1 m c) (A3 m c) (row t y0) y1 := by
  rw [after0_7]; frame_out
  pointwise [k0_pay1, k0_pay2, k0_pay3, k0_pay4]
  simp only [b0, b1, b2, b3, hn, pr]

theorem final4 : (dats m 0 c).arrAt 4 cfg0.N = Cert.FfnFwdRefIdeal.Read.val_main_v17 (F := Ideal) (A0 m c) (A1 m c) := by
  refine (dats m 0 c).arrAt_eq_of_covers 4 _ (by decide +kernel) fun t hf y => ?_
  blk_simp
  idx_vars y
  refine (out4 m c t y0 y1).trans ((ref17 _ _ _ _).symm.trans (congrArg _ ?_))
  obtain ⟨e0, e1, e2, e3, e4, e5, e6, e7⟩ := idx t
  blk_ext [row, e4]

theorem final5 : (dats m 0 c).arrAt 5 cfg0.N = Cert.FfnFwdRefIdeal.Read.val_main_v18 (F := Ideal) (A0 m c) (A1 m c) (A2 m c) := by
  refine (dats m 0 c).arrAt_eq_of_covers 5 _ (by decide +kernel) fun t hf y => ?_
  blk_simp
  idx_vars y
  refine (out5 m c t y0 y1).trans ((ref18 _ _ _ _ _).symm.trans (congrArg _ ?_))
  obtain ⟨e0, e1, e2, e3, e4, e5, e6, e7⟩ := idx t
  blk_ext [row, e5]

theorem final6 : (dats m 0 c).arrAt 6 cfg0.N = Cert.FfnFwdRefIdeal.Read.val_main_v19 (F := Ideal) (A0 m c) (A1 m c) (A3 m c) := by
  refine (dats m 0 c).arrAt_eq_of_covers 6 _ (by decide +kernel) fun t hf y => ?_
  blk_simp
  idx_vars y
  refine (out6 m c t y0 y1).trans ((ref19 _ _ _ _ _).symm.trans (congrArg _ ?_))
  obtain ⟨e0, e1, e2, e3, e4, e5, e6, e7⟩ := idx t
  blk_ext [row, e6]

theorem final7 : (dats m 0 c).arrAt 7 cfg0.N = Cert.FfnFwdRefIdeal.Read.val_main_v20 (F := Ideal) (A0 m c) (A1 m c) (A2 m c) (A3 m c) := by
  refine (dats m 0 c).arrAt_eq_of_covers 7 _ (by decide +kernel) fun t hf y => ?_
  blk_simp
  idx_vars y
  refine (out7 m c t y0 y1).trans ((ref20 _ _ _ _ _ _).symm.trans (congrArg _ ?_))
  obtain ⟨e0, e1, e2, e3, e4, e5, e6, e7⟩ := idx t
  blk_ext [row, e7]

/-! ## The claims -/

theorem frame_reference : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run (F := Ideal) m ρ)

theorem algebraic : Cert.algebraic_FfnFwdIdeal_FfnFwdRefIdeal := by
  intro m g m' g' _ hag
  refine ⟨fun c => (dats m 0 c).arrAt 4 cfg0.N, fun c => (dats m 0 c).arrAt 5 cfg0.N, fun c => (dats m 0 c).arrAt 6 cfg0.N, fun c => (dats m 0 c).arrAt 7 cfg0.N,
    Cert.FfnFwdIdeal.Value.run_blocks m g, ?_⟩
  refine (θ_run _ _ _).mono (fun r h c => ?_) (Cert.FfnFwdRefIdeal.Value.run (F := Ideal) m' g')
  obtain ⟨a0, a1, a2, a3⟩ := hag c
  obtain ⟨r0, r1, r2, r3, r4⟩ := h c
  refine ⟨?_, ?_, ?_, ?_, r4⟩
  · rw [r0, Cert.FfnFwdRefIdeal.Read.val_main_v17_eq, a0, a1]; exact (final4 m c).symm
  · rw [r1, Cert.FfnFwdRefIdeal.Read.val_main_v18_eq, a0, a1, a2]; exact (final5 m c).symm
  · rw [r2, Cert.FfnFwdRefIdeal.Read.val_main_v19_eq, a0, a1, a3]; exact (final6 m c).symm
  · rw [r3, Cert.FfnFwdRefIdeal.Read.val_main_v20_eq, a0, a1, a2, a3]; exact (final7 m c).symm

end Cert.FfnF
-- ==== Proof.GlaBState.lean ====
/- The states after each chunk, as the kernel's host operations compute them before the call: one chunk's decay and outer products
   at a time, the sixty-four results stacked. -/
module
public import proofs.«01_k».proof.Proof.Gen.GlaBwdIdeal.Frame
public import proofs.«01_k».proof.Proof.GlaRef
public import Idealize.ShloMosaic.Lib.StableHlo.ReadAt
public import Idealize.ShloMosaic.Lib.StableHlo.RunLoop
public import Idealize.ShloMosaic.Lib.Pipeline.Value
@[expose] public section
set_option maxRecDepth 65536
noncomputable section
namespace Cert.GlaBK
open Idealize.ShloMosaic Idealize.ShloMosaic.TcCoe Idealize.SL.Sem
open Idealize.ShloMosaic.StableHlo
open Cert.GlaBwdIdeal Cert.GlaBwdIdeal.Gen

theorem slices_chunk (i : ℕ) : S64x4x128x256.Slices ![i % 64, 0, 0, 0] S1x4x128x256 :=
  ⟨rfl, fun a => match a with
    | ⟨0, _⟩ => by show i % 64 + 1 ≤ 64; omega
    | ⟨1, _⟩ => Nat.le_of_eq (Nat.zero_add 4)
    | ⟨2, _⟩ => Nat.le_of_eq (Nat.zero_add 128)
    | ⟨3, _⟩ => Nat.le_of_eq (Nat.zero_add 256)⟩
/-- The state after `i` chunks, of all chunks' decays `g` and all chunks' additions `a`. -/
def stV (g a : FVec Ideal S64x4x128x256 .f32) : ℕ → FVec Ideal S1x4x128x256 .f32
  | 0 => broadcastInDim S1x4x128x256 ![] bcast_S_S1x4x128x256 (constant (F := Ideal) S_ .f32 0x00000000#32)
  | i + 1 => addf (mulf (extractStridedSlice S1x4x128x256 ![i % 64, 0, 0, 0] g (slices_chunk i)) (stV g a i))
      (extractStridedSlice S1x4x128x256 ![i % 64, 0, 0, 0] a (slices_chunk i))
/-- The decays. -/
def gV (x26 : FVec Ideal S64x4x64x128 .f32) : FVec Ideal S64x4x128x256 .f32 :=
  broadcastInDim S64x4x128x256 ![0, 1, 2, 3] bcast_S64x4x128x1_S64x4x128x256_0_1_2_3
    (broadcastInDim S64x4x128x1 ![0, 1, 2] bcast_S64x4x128_S64x4x128x1_0_1_2
      (Host.exp (shapeCast S64x4x128 (extractStridedSlice S64x4x1x128 ![0, 0, 63, 0] x26 slices_S64x4x64x128_S64x4x1x128_0_0_63_0) shapeCasts_S64x4x1x128_S64x4x128)))
/-- The additions. -/
def aV (x26 x21 : FVec Ideal S64x4x64x128 .f32) (x23 : FVec Ideal S64x4x64x256 .f32) : FVec Ideal S64x4x128x256 .f32 :=
  Host.dotGeneral dot_S64x4x64x128_S64x4x64x256_S64x4x128x256_2_2_3_3_01_01 none
    (mulf x21 (Host.exp (subf (broadcastInDim S64x4x64x128 ![0, 1, 2, 3] bcast_S64x4x1x128_S64x4x64x128_0_1_2_3
      (extractStridedSlice S64x4x1x128 ![0, 0, 63, 0] x26 slices_S64x4x64x128_S64x4x1x128_0_0_63_0)) x26))) x23
/-- The sixty-four states, stacked sixteen at a time. -/
def stack16 (f : ℕ → FVec Ideal S1x4x128x256 .f32) (j : Fin 4) : FVec Ideal S16x4x128x256 .f32 :=
  concatenate S16x4x128x256 0 (List.ofFn fun i : Fin 16 => ⟨S1x4x128x256, f (16 * j.val + i.val + 1)⟩)
    concatenates_S1x4x128x256_S1x4x128x256_S1x4x128x256_S1x4x128x256_S1x4x128x256_S1x4x128x256_S1x4x128x256_S1x4x128x256_S1x4x128x256_S1x4x128x256_S1x4x128x256_S1x4x128x256_S1x4x128x256_S1x4x128x256_S1x4x128x256_S1x4x128x256_S16x4x128x256_d0
def stack64 (f : ℕ → FVec Ideal S1x4x128x256 .f32) : FVec Ideal S64x4x128x256 .f32 :=
  concatenate S64x4x128x256 0 (List.ofFn fun j : Fin 4 => ⟨S16x4x128x256, stack16 f j⟩)
    concatenates_S16x4x128x256_S16x4x128x256_S16x4x128x256_S16x4x128x256_S64x4x128x256_d0

theorem stack64_apply (f : ℕ → FVec Ideal S1x4x128x256 .f32) (n : Fin 64) (h : Fin 4) (k : Fin 128) (y : Fin 256) :
    stack64 f (ix4 n h k y) = f (n.val + 1) (ix4 0 h k y) := by
  unfold stack64
  refine (concatenate_ofFn_apply (0 : Fin S64x4x128x256.rank) (fun j : Fin 4 => stack16 f j) _ rfl 16 rfl (ix4 n h k y) ⟨n.val / 16, by omega⟩ rfl
    (ix4 (⟨n.val % 16, by omega⟩ : Fin 16) h k y) rfl ?_).trans ?_
  · intro b hb
    match b with
    | ⟨0, _⟩ => exact absurd rfl hb
    | ⟨1, _⟩ => rfl
    | ⟨2, _⟩ => rfl
    | ⟨3, _⟩ => rfl
  unfold stack16
  refine (concatenate_ofFn_unit_apply (0 : Fin S16x4x128x256.rank) (fun i : Fin 16 => f (16 * (n.val / 16) + i.val + 1)) _ rfl rfl
    (ix4 (⟨n.val % 16, by omega⟩ : Fin 16) h k y) ⟨n.val % 16, by omega⟩ rfl (ix4 0 h k y) ?_).trans ?_
  · intro b hb
    match b with
    | ⟨0, _⟩ => exact absurd rfl hb
    | ⟨1, _⟩ => rfl
    | ⟨2, _⟩ => rfl
    | ⟨3, _⟩ => rfl
  exact congrArg (fun i => f i (ix4 0 h k y)) (show 16 * (n.val / 16) + n.val % 16 + 1 = n.val + 1 by omega)

theorem stV_apply (g a : FVec Ideal S64x4x128x256 .f32) (h : Fin 4) (k : Fin 128) (y : Fin 256) (G A : ℕ → EReal)
    (hg : ∀ n : Fin 64, g (ix4 n h k y) = G n.val) (ha : ∀ n : Fin 64, a (ix4 n h k y) = A n.val) :
    ∀ i, i < 64 → stV g a (i + 1) (ix4 0 h k y) = (G i * stV g a i (ix4 0 h k y) + A i : EReal) := by
  intro i hi
  have e : stV g a (i + 1) (ix4 0 h k y) = (g (ix4 (⟨i % 64, by omega⟩ : Fin 64) h k y) * stV g a i (ix4 0 h k y) + a (ix4 (⟨i % 64, by omega⟩ : Fin 64) h k y) : EReal) := by
    rw [stV]
    pointwise
  have hi' : i % 64 = i := Nat.mod_eq_of_lt hi
  rw [e, hg, ha]
  dsimp only
  rw [hi']
end Cert.GlaBK
-- ==== Proof.GlaBChain.lean ====
/- The kernel's chain of host operations before the call computes the states of `GlaBState`. -/
module
public import proofs.«01_k».proof.Proof.GlaBState
@[expose] public section
set_option maxRecDepth 65536
noncomputable section
namespace Cert.GlaBK
open Idealize.ShloMosaic Idealize.ShloMosaic.TcCoe Idealize.SL.Sem
open Idealize.ShloMosaic.StableHlo
open Cert.GlaBwdIdeal Cert.GlaBwdIdeal.Gen

/-- One chunk's step, at the chunk's own offset. -/
theorem fold (g a : FVec Ideal S64x4x128x256 .f32) (i j : ℕ) (h1 h2 : S64x4x128x256.Slices ![j, 0, 0, 0] S1x4x128x256) (hj : i % 64 = j) :
    addf (mulf (extractStridedSlice S1x4x128x256 ![j, 0, 0, 0] g h1) (stV g a i)) (extractStridedSlice S1x4x128x256 ![j, 0, 0, 0] a h2) = stV g a (i + 1) := by
  subst hj; rfl
/-- Sixteen states one upon the other, and four stacks of them. -/
def cat16 (x0 x1 x2 x3 x4 x5 x6 x7 x8 x9 x10 x11 x12 x13 x14 x15 : FVec Ideal S1x4x128x256 .f32) : FVec Ideal S16x4x128x256 .f32 :=
  concatenate S16x4x128x256 0
    [⟨S1x4x128x256, x0⟩, ⟨S1x4x128x256, x1⟩, ⟨S1x4x128x256, x2⟩, ⟨S1x4x128x256, x3⟩, ⟨S1x4x128x256, x4⟩, ⟨S1x4x128x256, x5⟩, ⟨S1x4x128x256, x6⟩, ⟨S1x4x128x256, x7⟩,
      ⟨S1x4x128x256, x8⟩, ⟨S1x4x128x256, x9⟩, ⟨S1x4x128x256, x10⟩, ⟨S1x4x128x256, x11⟩, ⟨S1x4x128x256, x12⟩, ⟨S1x4x128x256, x13⟩, ⟨S1x4x128x256, x14⟩, ⟨S1x4x128x256, x15⟩]
    concatenates_S1x4x128x256_S1x4x128x256_S1x4x128x256_S1x4x128x256_S1x4x128x256_S1x4x128x256_S1x4x128x256_S1x4x128x256_S1x4x128x256_S1x4x128x256_S1x4x128x256_S1x4x128x256_S1x4x128x256_S1x4x128x256_S1x4x128x256_S1x4x128x256_S16x4x128x256_d0
def cat4 (x y z w : FVec Ideal S16x4x128x256 .f32) : FVec Ideal S64x4x128x256 .f32 :=
  concatenate S64x4x128x256 0 [⟨S16x4x128x256, x⟩, ⟨S16x4x128x256, y⟩, ⟨S16x4x128x256, z⟩, ⟨S16x4x128x256, w⟩]
    concatenates_S16x4x128x256_S16x4x128x256_S16x4x128x256_S16x4x128x256_S64x4x128x256_d0
variable (Y : Valuation τ sig (Elt Ideal))
/-- The stacks, of the contents they are read from. -/
def c16_0 : FVec Ideal S16x4x128x256 .f32 :=
  cat16 (Y (Proc.devRef .tc main_v41)) (Y (Proc.devRef .tc main_v45)) (Y (Proc.devRef .tc main_v49)) (Y (Proc.devRef .tc main_v53))
    (Y (Proc.devRef .tc main_v57)) (Y (Proc.devRef .tc main_v61)) (Y (Proc.devRef .tc main_v65)) (Y (Proc.devRef .tc main_v69))
    (Y (Proc.devRef .tc main_v73)) (Y (Proc.devRef .tc main_v77)) (Y (Proc.devRef .tc main_v81)) (Y (Proc.devRef .tc main_v85))
    (Y (Proc.devRef .tc main_v89)) (Y (Proc.devRef .tc main_v93)) (Y (Proc.devRef .tc main_v97)) (Y (Proc.devRef .tc main_v101))
def c16_1 : FVec Ideal S16x4x128x256 .f32 :=
  cat16 (Y (Proc.devRef .tc main_v105)) (Y (Proc.devRef .tc main_v109)) (Y (Proc.devRef .tc main_v113)) (Y (Proc.devRef .tc main_v117))
    (Y (Proc.devRef .tc main_v121)) (Y (Proc.devRef .tc main_v125)) (Y (Proc.devRef .tc main_v129)) (Y (Proc.devRef .tc main_v133))
    (Y (Proc.devRef .tc main_v137)) (Y (Proc.devRef .tc main_v141)) (Y (Proc.devRef .tc main_v145)) (Y (Proc.devRef .tc main_v149))
    (Y (Proc.devRef .tc main_v153)) (Y (Proc.devRef .tc main_v157)) (Y (Proc.devRef .tc main_v161)) (Y (Proc.devRef .tc main_v165))
def c16_2 : FVec Ideal S16x4x128x256 .f32 :=
  cat16 (Y (Proc.devRef .tc main_v169)) (Y (Proc.devRef .tc main_v173)) (Y (Proc.devRef .tc main_v177)) (Y (Proc.devRef .tc main_v181))
    (Y (Proc.devRef .tc main_v185)) (Y (Proc.devRef .tc main_v189)) (Y (Proc.devRef .tc main_v193)) (Y (Proc.devRef .tc main_v197))
    (Y (Proc.devRef .tc main_v201)) (Y (Proc.devRef .tc main_v205)) (Y (Proc.devRef .tc main_v209)) (Y (Proc.devRef .tc main_v213))
    (Y (Proc.devRef .tc main_v217)) (Y (Proc.devRef .tc main_v221)) (Y (Proc.devRef .tc main_v225)) (Y (Proc.devRef .tc main_v229))
def c16_3 : FVec Ideal S16x4x128x256 .f32 :=
  cat16 (Y (Proc.devRef .tc main_v233)) (Y (Proc.devRef .tc main_v237)) (Y (Proc.devRef .tc main_v241)) (Y (Proc.devRef .tc main_v245))
    (Y (Proc.devRef .tc main_v249)) (Y (Proc.devRef .tc main_v253)) (Y (Proc.devRef .tc main_v257)) (Y (Proc.devRef .tc main_v261))
    (Y (Proc.devRef .tc main_v265)) (Y (Proc.devRef .tc main_v269)) (Y (Proc.devRef .tc main_v273)) (Y (Proc.devRef .tc main_v277))
    (Y (Proc.devRef .tc main_v281)) (Y (Proc.devRef .tc main_v285)) (Y (Proc.devRef .tc main_v289)) (Y (Proc.devRef .tc main_v293))
def c64 : FVec Ideal S64x4x128x256 .f32 :=
  cat4 (Y (Proc.devRef .tc main_v294)) (Y (Proc.devRef .tc main_v295)) (Y (Proc.devRef .tc main_v296)) (Y (Proc.devRef .tc main_v297))
variable (X : Valuation τ sig (Elt Ideal))
/-- All chunks' decays and additions, of the contents before the chain. -/
abbrev gX : FVec Ideal S64x4x128x256 .f32 := gV (X (Proc.devRef .tc main_v26))
abbrev aX : FVec Ideal S64x4x128x256 .f32 := aV (X (Proc.devRef .tc main_v26)) (X (Proc.devRef .tc main_v21)) (X (Proc.devRef .tc main_v23))
theorem r301 : StableHlo.after (hostOps0_6 (F := Ideal)) X (Proc.devRef .tc main_v301)
    = truncf (F := Ideal) .bf16 (shapeCast S64x256x512 (transpose S64x256x4x128 [0, 3, 1, 2]
        (c64 (upto (hostOps0_6 (F := Ideal)) X 272)) transposes_S64x4x128x256_S64x256x4x128_0_3_1_2) shapeCasts_S64x256x4x128_S64x256x512) bitsLt_bf16_f32 := by
  after_reads_simp
  rfl
theorem r294 : upto (hostOps0_6 (F := Ideal)) X 272 (Proc.devRef .tc main_v294) = c16_0 (upto (hostOps0_6 (F := Ideal)) X 268) := by
  after_reads_simp
  rfl
set_option maxHeartbeats 4000000 in
theorem s16_0 : c16_0 (upto (hostOps0_6 (F := Ideal)) X 268) = stack16 (stV (gX X) (aX X)) 0 := by
  have e0 : broadcastInDim S1x4x128x256 ![] bcast_S_S1x4x128x256 (constant (F := Ideal) S_ .f32 0x00000000#32) = stV (gX X) (aX X) 0 := rfl
  unfold gX aX gV aV at e0
  unfold c16_0
  after_reads_simp
  simp only [e0, fold, Nat.reduceMod, Nat.reduceAdd]
  rfl
theorem r295 : upto (hostOps0_6 (F := Ideal)) X 272 (Proc.devRef .tc main_v295) = c16_1 (upto (hostOps0_6 (F := Ideal)) X 269) := by
  after_reads_simp
  rfl
set_option maxHeartbeats 4000000 in
theorem s16_1 : c16_1 (upto (hostOps0_6 (F := Ideal)) X 269) = stack16 (stV (gX X) (aX X)) 1 := by
  have e0 : broadcastInDim S1x4x128x256 ![] bcast_S_S1x4x128x256 (constant (F := Ideal) S_ .f32 0x00000000#32) = stV (gX X) (aX X) 0 := rfl
  unfold gX aX gV aV at e0
  unfold c16_1
  after_reads_simp
  simp only [e0, fold, Nat.reduceMod, Nat.reduceAdd]
  rfl
theorem r296 : upto (hostOps0_6 (F := Ideal)) X 272 (Proc.devRef .tc main_v296) = c16_2 (upto (hostOps0_6 (F := Ideal)) X 270) := by
  after_reads_simp
  rfl
set_option maxHeartbeats 4000000 in
theorem s16_2 : c16_2 (upto (hostOps0_6 (F := Ideal)) X 270) = stack16 (stV (gX X) (aX X)) 2 := by
  have e0 : broadcastInDim S1x4x128x256 ![] bcast_S_S1x4x128x256 (constant (F := Ideal) S_ .f32 0x00000000#32) = stV (gX X) (aX X) 0 := rfl
  unfold gX aX gV aV at e0
  unfold c16_2
  after_reads_simp
  simp only [e0, fold, Nat.reduceMod, Nat.reduceAdd]
  rfl
theorem r297 : upto (hostOps0_6 (F := Ideal)) X 272 (Proc.devRef .tc main_v297) = c16_3 (upto (hostOps0_6 (F := Ideal)) X 271) := by
  after_reads_simp
  rfl
set_option maxHeartbeats 4000000 in
theorem s16_3 : c16_3 (upto (hostOps0_6 (F := Ideal)) X 271) = stack16 (stV (gX X) (aX X)) 3 := by
  have e0 : broadcastInDim S1x4x128x256 ![] bcast_S_S1x4x128x256 (constant (F := Ideal) S_ .f32 0x00000000#32) = stV (gX X) (aX X) 0 := rfl
  unfold gX aX gV aV at e0
  unfold c16_3
  after_reads_simp
  simp only [e0, fold, Nat.reduceMod, Nat.reduceAdd]
  rfl
theorem chain : StableHlo.after (hostOps0_6 (F := Ideal)) X (Proc.devRef .tc main_v301)
    = truncf (F := Ideal) .bf16 (shapeCast S64x256x512 (transpose S64x256x4x128 [0, 3, 1, 2]
        (stack64 (stV (gX X) (aX X))) transposes_S64x4x128x256_S64x256x4x128_0_3_1_2) shapeCasts_S64x256x4x128_S64x256x512) bitsLt_bf16_f32 := by
  rw [r301, c64, r294, r295, r296, r297, s16_0, s16_1, s16_2, s16_3]
  rfl
end Cert.GlaBK
-- ==== Proof.GlaBBlock.lean ====
/- The backward call of gated linear attention: what a block of its rows stores. -/
module
public import proofs.«01_k».proof.Defs
public import proofs.«01_k».proof.Proof.Gen.GlaBwdIdeal.Frame
public import Idealize.ShloMosaic.Lib.Pipeline.ValueKit
public import Idealize.ShloMosaic.Lib.Pointwise
public import Idealize.ShloMosaic.Lib.StableHlo.ReadAt
public import Idealize.ShloMosaic.Lib.Pipeline.ReadBack
@[expose] public section
set_option maxRecDepth 65536
noncomputable section
namespace Cert.GlaBK
open Idealize.ShloMosaic Idealize.ShloMosaic.TcCoe Idealize.SL.Sem
open Cert.GlaBwdIdeal Cert.GlaBwdIdeal.Gen
variable (m : (ℓ : Loc nD τ sig) → Buf (Elt Ideal) ℓ) (c : Dev nD) (t : Fin cfg0.N)

theorem inb512 (i : Fin 8) : ∀ a, (![64 * i.val, 0] : Fin 2 → ℕ) a + (![64, 512] : Fin 2 → ℕ) a ≤ S512x512.size a := by revert i; decide
theorem inb1024 (i : Fin 8) : ∀ a, (![64 * i.val, 0] : Fin 2 → ℕ) a + (![64, 1024] : Fin 2 → ℕ) a ≤ S512x1024.size a := by revert i; decide
theorem inbO (h : Fin 4) (i : Fin 8) : ∀ a, (![64 * i.val, 256 * h.val] : Fin 2 → ℕ) a + (![64, 256] : Fin 2 → ℕ) a ≤ S512x1024.size a := by revert h i; decide
theorem inbS (i : Fin 8) : ∀ a, (![i.val, 0, 0] : Fin 3 → ℕ) a + (![1, 256, 512] : Fin 3 → ℕ) a ≤ S8x256x512.size a := by revert i; decide
theorem inbT (h : Fin 4) : ∀ a, (![0, 128 * h.val] : Fin 2 → ℕ) a + (![256, 128] : Fin 2 → ℕ) a ≤ S256x512.size a := by revert h; decide
theorem inbH (h : Fin 4) : ∀ a, (![0, 256 * h.val] : Fin 2 → ℕ) a + (![512, 256] : Fin 2 → ℕ) a ≤ S512x1024.size a := by revert h; decide
theorem inbDQ (h : Fin 4) (i : Fin 8) : ∀ a, (![64 * i.val, 128 * h.val] : Fin 2 → ℕ) a + (![64, 128] : Fin 2 → ℕ) a ≤ S512x3072.size a := by revert h i; decide
theorem inbDK (i : Fin 8) : ∀ a, (![64 * i.val, 512] : Fin 2 → ℕ) a + (![64, 512] : Fin 2 → ℕ) a ≤ S512x3072.size a := by revert i; decide
theorem inbDV (h : Fin 4) (i : Fin 8) : ∀ a, (![64 * i.val, 1024 + 256 * h.val] : Fin 2 → ℕ) a + (![64, 256] : Fin 2 → ℕ) a ≤ S512x3072.size a := by revert h i; decide
theorem inbDR (h : Fin 4) : ∀ a, (![0, 2048 + 256 * h.val] : Fin 2 → ℕ) a + (![512, 256] : Fin 2 → ℕ) a ≤ S512x3072.size a := by revert h; decide

/-- Chunk `i` of a block; the columns of a head in a block and in the carried cotangent; the states of chunk `i`. -/
def ck {e : EltTy} (x : Vec Ideal S512x512 e) (i : Fin 8) : Vec Ideal S64x512 e := View.ld x (Rect.unit ![64 * i.val, 0] ![64, 512] (inb512 i))
def cv {e : EltTy} (x : Vec Ideal S512x1024 e) (i : Fin 8) : Vec Ideal S64x1024 e := View.ld x (Rect.unit ![64 * i.val, 0] ![64, 1024] (inb1024 i))
def ch {e : EltTy} (x : Vec Ideal S512x1024 e) (h : Fin 4) : Vec Ideal S512x256 e := View.ld x (Rect.unit ![0, 256 * h.val] ![512, 256] (inbH h))
def cs (s : Vec Ideal S256x512 .f32) (h : Fin 4) : Vec Ideal S256x128 .f32 := View.ld s (Rect.unit ![0, 128 * h.val] ![256, 128] (inbT h))
def sc (i : Fin 8) : Vec Ideal S1x256x512 .bf16 := View.ld (iblk m c 6 t) (Rect.unit ![i.val, 0, 0] ![1, 256, 512] (inbS i))
/-- The decays of a block of rows. -/
def laB : Vec Ideal S512x512 .f32 := k0_pay11 (iblk m c 4 t) (iblk m c 8 t) (iblk m c 9 t)
def gB : Vec Ideal S1x256 .f32 := k0_pay66 (iblk m c 10 t)
def q8 (i : Fin 8) : Vec Ideal S64x512 .bf16 := ck (X0_0 m c t) i

/-- What the heads read of the first `n` chunks, newest first. -/
def oP : (n : ℕ) → n ≤ 8 → List (View.Piece (Elt Ideal) S512x1024 .f32)
  | 0, _ => []
  | n + 1, h =>
    [⟨Rect.unit ![64 * (⟨n, h⟩ : Fin 8).val, 256 * (3 : Fin 4).val] ![64, 256] (inbO 3 ⟨n, h⟩), k0_pay18 (k0_pay12 (q8 m c t ⟨n, h⟩)) (sc m c t ⟨n, h⟩)⟩,
     ⟨Rect.unit ![64 * (⟨n, h⟩ : Fin 8).val, 256 * (2 : Fin 4).val] ![64, 256] (inbO 2 ⟨n, h⟩), k0_pay17 (k0_pay12 (q8 m c t ⟨n, h⟩)) (sc m c t ⟨n, h⟩)⟩,
     ⟨Rect.unit ![64 * (⟨n, h⟩ : Fin 8).val, 256 * (1 : Fin 4).val] ![64, 256] (inbO 1 ⟨n, h⟩), k0_pay16 (k0_pay12 (q8 m c t ⟨n, h⟩)) (sc m c t ⟨n, h⟩)⟩,
     ⟨Rect.unit ![64 * (⟨n, h⟩ : Fin 8).val, 256 * (0 : Fin 4).val] ![64, 256] (inbO 0 ⟨n, h⟩), k0_pay15 (k0_pay12 (q8 m c t ⟨n, h⟩)) (sc m c t ⟨n, h⟩)⟩] ++ oP n (Nat.le_of_succ_le h)
/-- A head's readings of the block. -/
def oH (h : Fin 4) : Vec Ideal S512x256 .f32 :=
  (View.whole cc0_scratch4).readCov ((oP m c t 8 (le_refl 8)).drop (3 - h.val)) (Rect.unit (s := S512x1024) (![0, 256 * h.val] : Fin 2 → ℕ) (![512, 256] : Fin 2 → ℕ) (inbH h)).toLoadRect

/-- The cotangent of what the heads read, head by head. -/
def do3 (g : Vec Ideal S1x256 .f32) (o : Vec Ideal S512x256 .f32) (r d : Vec Ideal S512x256 .bf16) : FVec Ideal S512x256 .bf16 := k0_pay107 g (k0_pay100 o) (k0_pay101 o) (k0_pay105 r d)
def do2 (g : Vec Ideal S1x256 .f32) (o : Vec Ideal S512x256 .f32) (r d : Vec Ideal S512x256 .bf16) : FVec Ideal S512x256 .bf16 := k0_pay99 (k0_pay89 o) (k0_pay90 o) (k0_pay97 g r d) (k0_pay98 g o r d)
def do1 (g : Vec Ideal S1x256 .f32) (o : Vec Ideal S512x256 .f32) (r d : Vec Ideal S512x256 .bf16) : FVec Ideal S512x256 .bf16 := k0_pay88 (k0_pay87 g o (k0_pay77 o) k0_pay78 r d)
def do0 (g : Vec Ideal S1x256 .f32) (o : Vec Ideal S512x256 .f32) (r d : Vec Ideal S512x256 .bf16) : FVec Ideal S512x256 .bf16 := k0_pay76 g (k0_pay68 o) (k0_pay69 o) (k0_pay70 r) d
def doP : List (View.Piece (Elt Ideal) S512x1024 .bf16) :=
  [⟨Rect.unit ![0, 256 * (3 : Fin 4).val] ![512, 256] (inbH 3), do3 (gB m c t) (oH m c t 3) (ch (X0_3 m c t) 3) (ch (iblk m c 5 t) 3)⟩,
   ⟨Rect.unit ![0, 256 * (2 : Fin 4).val] ![512, 256] (inbH 2), do2 (gB m c t) (oH m c t 2) (ch (X0_3 m c t) 2) (ch (iblk m c 5 t) 2)⟩,
   ⟨Rect.unit ![0, 256 * (1 : Fin 4).val] ![512, 256] (inbH 1), do1 (gB m c t) (oH m c t 1) (ch (X0_3 m c t) 1) (ch (iblk m c 5 t) 1)⟩,
   ⟨Rect.unit ![0, 256 * (0 : Fin 4).val] ![512, 256] (inbH 0), do0 (gB m c t) (oH m c t 0) (ch (X0_3 m c t) 0) (ch (iblk m c 5 t) 0)⟩]
/-- Chunk `i` of it. -/
def D8 (i : Fin 8) : Vec Ideal S64x1024 .bf16 := (View.whole cc0_scratch5).readCov (doP m c t) (Rect.unit (s := S512x1024) (![64 * i.val, 0] : Fin 2 → ℕ) (![64, 1024] : Fin 2 → ℕ) (inb1024 i)).toLoadRect

/-- The carried cotangent of a head's state, past a chunk. -/
def stp0 (la : Vec Ideal S64x512 .f32) (q : Vec Ideal S64x512 .bf16) (D : Vec Ideal S64x1024 .bf16) (s : Vec Ideal S256x128 .f32) : FVec Ideal S256x128 .f32 :=
  k0_pay127 (k0_pay114 k0_pay109 la) (k0_pay117 q) D s
def stp1 (la : Vec Ideal S64x512 .f32) (q : Vec Ideal S64x512 .bf16) (D : Vec Ideal S64x1024 .bf16) (s : Vec Ideal S256x128 .f32) : FVec Ideal S256x128 .f32 :=
  k0_pay135 (k0_pay114 k0_pay109 la) (k0_pay128 (k0_pay117 q) D s)
def stp2 (la : Vec Ideal S64x512 .f32) (q : Vec Ideal S64x512 .bf16) (D : Vec Ideal S64x1024 .bf16) (s : Vec Ideal S256x128 .f32) : FVec Ideal S256x128 .f32 :=
  k0_pay142 (k0_pay114 k0_pay109 la) (k0_pay136 (k0_pay117 q) D s)
def stp3 (la : Vec Ideal S64x512 .f32) (q : Vec Ideal S64x512 .bf16) (D : Vec Ideal S64x1024 .bf16) (s : Vec Ideal S256x128 .f32) : FVec Ideal S256x128 .f32 :=
  k0_pay150 (k0_pay149 (k0_pay114 k0_pay109 la) (k0_pay117 q) D s)

/-- The chunk worked on after `n` others. -/
def rv (n : ℕ) : Fin 8 := ⟨7 - n, by omega⟩
/-- A head's carried cotangent after `n` chunks of the block. -/
def iter (f : Vec Ideal S64x512 .f32 → Vec Ideal S64x512 .bf16 → Vec Ideal S64x1024 .bf16 → Vec Ideal S256x128 .f32 → FVec Ideal S256x128 .f32) (s : Vec Ideal S256x128 .f32) : ℕ → Vec Ideal S256x128 .f32
  | 0 => s
  | n + 1 => f (ck (laB m c t) (rv n)) (q8 m c t (rv n)) (D8 m c t (rv n)) (iter f s n)
def tiles (s : Vec Ideal S256x512 .f32) (n : ℕ) : List (View.Piece (Elt Ideal) S256x512 .f32) :=
  [⟨Rect.unit ![0, 384] ![256, 128] inb_S256x512_S256x128_0_384, iter m c t stp3 (cs s 3) n⟩,
   ⟨Rect.unit ![0, 256] ![256, 128] inb_S256x512_S256x128_0_256, iter m c t stp2 (cs s 2) n⟩,
   ⟨Rect.unit ![0, 128] ![256, 128] inb_S256x512_S256x128_0_128, iter m c t stp1 (cs s 1) n⟩,
   ⟨Rect.unit ![0, 0] ![256, 128] inb_S256x512_S256x128_0_0, iter m c t stp0 (cs s 0) n⟩]

/-- The gate's cotangent, head by head. -/
def dr0 (g : Vec Ideal S1x256 .f32) (o : Vec Ideal S512x256 .f32) (r d : Vec Ideal S512x256 .bf16) : FVec Ideal S512x256 .bf16 := k0_pay74 g (k0_pay69 o) (k0_pay70 r) d
def dr1 (g : Vec Ideal S1x256 .f32) (o : Vec Ideal S512x256 .f32) (r d : Vec Ideal S512x256 .bf16) : FVec Ideal S512x256 .bf16 := k0_pay85 g o (k0_pay77 o) k0_pay78 r d
def rP : List (View.Piece (Elt Ideal) S512x3072 .bf16) :=
  [⟨Rect.unit ![0, 2048 + 256 * (3 : Fin 4).val] ![512, 256] (inbDR 3), k0_pay106 (gB m c t) (oH m c t 3) (ch (X0_3 m c t) 3) (ch (iblk m c 5 t) 3)⟩,
   ⟨Rect.unit ![0, 2048 + 256 * (2 : Fin 4).val] ![512, 256] (inbDR 2), k0_pay95 (gB m c t) (oH m c t 2) (ch (X0_3 m c t) 2) (ch (iblk m c 5 t) 2)⟩,
   ⟨Rect.unit ![0, 2048 + 256 * (1 : Fin 4).val] ![512, 256] (inbDR 1), dr1 (gB m c t) (oH m c t 1) (ch (X0_3 m c t) 1) (ch (iblk m c 5 t) 1)⟩,
   ⟨Rect.unit ![0, 2048 + 256 * (0 : Fin 4).val] ![512, 256] (inbDR 0), dr0 (gB m c t) (oH m c t 0) (ch (X0_3 m c t) 0) (ch (iblk m c 5 t) 0)⟩]

/-- The query's and the value's cotangents of a chunk, head by head, and the key's before its decay. -/
def dq1 (D : Vec Ideal S64x1024 .bf16) (S : Vec Ideal S1x256x512 .bf16) : FVec Ideal S64x128 .bf16 := k0_pay131 (k0_pay130 D (k0_pay119 S)) (Scalar.ofBits .f32 0x3DB504F3#32)
def dv0 (la : Vec Ideal S64x512 .f32) (q k : Vec Ideal S64x512 .bf16) (D : Vec Ideal S64x1024 .bf16) (s : Vec Ideal S256x128 .f32) : FVec Ideal S64x256 .bf16 := k0_pay125 (k0_pay116 k0_pay109 la k) (k0_pay117 q) D s
def dv1 (la : Vec Ideal S64x512 .f32) (q k : Vec Ideal S64x512 .bf16) (D : Vec Ideal S64x1024 .bf16) (s : Vec Ideal S256x128 .f32) : FVec Ideal S64x256 .bf16 := k0_pay133 (k0_pay116 k0_pay109 la k) (k0_pay129 (k0_pay117 q) D s)
def dv2 (la : Vec Ideal S64x512 .f32) (q k : Vec Ideal S64x512 .bf16) (D : Vec Ideal S64x1024 .bf16) (s : Vec Ideal S256x128 .f32) : FVec Ideal S64x256 .bf16 := k0_pay140 (k0_pay116 k0_pay109 la k) (k0_pay117 q) D s
def dv3 (la : Vec Ideal S64x512 .f32) (q k : Vec Ideal S64x512 .bf16) (D : Vec Ideal S64x1024 .bf16) (s : Vec Ideal S256x128 .f32) : FVec Ideal S64x256 .bf16 := k0_pay147 (k0_pay116 k0_pay109 la k) (k0_pay117 q) D s
def dkS (la : Vec Ideal S64x512 .f32) (q : Vec Ideal S64x512 .bf16) (v D : Vec Ideal S64x1024 .bf16) (s0 s1 s2 s3 : Vec Ideal S256x128 .f32) : FVec Ideal S64x512 .bf16 :=
  k0_pay152 (k0_pay113 k0_pay109 la) (k0_pay124 (k0_pay117 q) (k0_pay118 v) D s0) (k0_pay132 (k0_pay118 v) (k0_pay129 (k0_pay117 q) D s1))
    (k0_pay139 (k0_pay117 q) (k0_pay118 v) D s2) (k0_pay146 (k0_pay117 q) (k0_pay118 v) D s3)
/-- What the block's chunks store, newest first. -/
def pP (s : Vec Ideal S256x512 .f32) : ℕ → List (View.Piece (Elt Ideal) S512x3072 .bf16)
  | 0 => rP m c t
  | n + 1 =>
    [⟨Rect.unit ![64 * (rv n).val, 512] ![64, 512] (inbDK (rv n)), dkS (ck (laB m c t) (rv n)) (q8 m c t (rv n)) (cv (X0_2 m c t) (rv n)) (D8 m c t (rv n))
        (iter m c t stp0 (cs s 0) n) (iter m c t stp1 (cs s 1) n) (iter m c t stp2 (cs s 2) n) (iter m c t stp3 (cs s 3) n)⟩,
     ⟨Rect.unit ![64 * (rv n).val, 1024 + 256 * (3 : Fin 4).val] ![64, 256] (inbDV 3 (rv n)), dv3 (ck (laB m c t) (rv n)) (q8 m c t (rv n)) (ck (X0_1 m c t) (rv n)) (D8 m c t (rv n)) (iter m c t stp3 (cs s 3) n)⟩,
     ⟨Rect.unit ![64 * (rv n).val, 128 * (3 : Fin 4).val] ![64, 128] (inbDQ 3 (rv n)), k0_pay145 (D8 m c t (rv n)) (k0_pay119 (sc m c t (rv n)))⟩,
     ⟨Rect.unit ![64 * (rv n).val, 1024 + 256 * (2 : Fin 4).val] ![64, 256] (inbDV 2 (rv n)), dv2 (ck (laB m c t) (rv n)) (q8 m c t (rv n)) (ck (X0_1 m c t) (rv n)) (D8 m c t (rv n)) (iter m c t stp2 (cs s 2) n)⟩,
     ⟨Rect.unit ![64 * (rv n).val, 128 * (2 : Fin 4).val] ![64, 128] (inbDQ 2 (rv n)), k0_pay138 (D8 m c t (rv n)) (k0_pay119 (sc m c t (rv n)))⟩,
     ⟨Rect.unit ![64 * (rv n).val, 1024 + 256 * (1 : Fin 4).val] ![64, 256] (inbDV 1 (rv n)), dv1 (ck (laB m c t) (rv n)) (q8 m c t (rv n)) (ck (X0_1 m c t) (rv n)) (D8 m c t (rv n)) (iter m c t stp1 (cs s 1) n)⟩,
     ⟨Rect.unit ![64 * (rv n).val, 128 * (1 : Fin 4).val] ![64, 128] (inbDQ 1 (rv n)), dq1 (D8 m c t (rv n)) (sc m c t (rv n))⟩,
     ⟨Rect.unit ![64 * (rv n).val, 1024 + 256 * (0 : Fin 4).val] ![64, 256] (inbDV 0 (rv n)), dv0 (ck (laB m c t) (rv n)) (q8 m c t (rv n)) (ck (X0_1 m c t) (rv n)) (D8 m c t (rv n)) (iter m c t stp0 (cs s 0) n)⟩,
     ⟨Rect.unit ![64 * (rv n).val, 128 * (0 : Fin 4).val] ![64, 128] (inbDQ 0 (rv n)), k0_pay123 (D8 m c t (rv n)) (k0_pay119 (sc m c t (rv n)))⟩] ++ pP s n
/-- The carried cotangents a block starts from. -/
abbrev prev : Vec Ideal S256x512 .f32 := (outsAt0 m c (t.val - 1) (Nat.lt_of_le_of_lt (Nat.sub_le _ _) t.isLt)).2.2.2.2.2
end Cert.GlaBK
-- ==== Proof.GlaBMath.lean ====
/- The gradient of the gated linear attention branch as formulas over extended reals, entry by entry: of the output, through its gate
   and its norm, of each chunk's queries, keys and values, and of the state carried from the last chunk to the first. -/
module
public import proofs.«01_k».proof.Proof.GlaMath
public import proofs.«01_k».proof.Proof.RowNorm
@[expose] public section
noncomputable section
namespace Cert.GlaB
open Idealize.ShloMosaic
open Cert.Gla Cert.Reals

/-! ## Through the norm and the gate: the row `o`, the incoming gradient `d`, the norm's weights `g`, the gate's argument `r` -/
section head
variable (o d g r : Fin 256 → EReal)
def msq : EReal := Ideal.div (∑ x : Fin 256, o x * o x) (Ideal.ofBits .f32 0x43800000#32) + Ideal.ofBits .f32 0x358637BD#32
def rsq : EReal := Ideal.rsqrt (msq o)
def dnE (v : Fin 256) : EReal := d v * (r v * Ideal.logistic (r v)) * g v
/-- The gradient of the row. -/
def doE (v : Fin 256) : EReal :=
  rsq o * (dnE d g r v - o v * rsq o * Ideal.div (∑ x : Fin 256, dnE d g r x * (o x * rsq o)) (Ideal.ofBits .f32 0x43800000#32))
/-- The gradient of the gate's argument. -/
def drE (v : Fin 256) : EReal :=
  d v * (o v * rsq o * g v) * (Ideal.logistic (r v) * (1 + r v * (1 - Ideal.logistic (r v))))
/-- What the chain rule takes back through the mean square, at each of its two equal factors. -/
def thru : EReal :=
  Ideal.div ((∑ x : Fin 256, o x * dnE d g r x) * (Ideal.ofBits .f32 0xBF000000#32 * Ideal.div (rsq o) (msq o))) (Ideal.ofBits .f32 0x43800000#32)

theorem ofBits_256 : Ideal.ofBits .f32 0x43800000#32 = ((256 : ℝ) : EReal) := by
  simp [Ideal.ofBits, Ideal.ieee, -EReal.coe_mul]; norm_num

theorem do_eq (v : Fin 256) : dnE d g r v * rsq o + o v * thru o d g r + thru o d g r * o v = doE o d g r v := by
  obtain ⟨e, he, hb⟩ := ofBits_eps
  have hm : msq o = Ideal.div (∑ k, o k * o k) ((256 : ℝ) : EReal) + (e : EReal) := by unfold msq; rw [ofBits_256, hb]
  have ht : thru o d g r = Ideal.div ((∑ k, o k * dnE d g r k) * (((-(1 / 2) : ℝ) : EReal) * Ideal.div (rsq o) (msq o))) ((256 : ℝ) : EReal) := by
    unfold thru; rw [ofBits_256, ofBits_neg_half]
  have h := norm_grad o (dnE d g r) v (by norm_num) he (msq o) (rsq o) (thru o d g r) hm rfl ht
  unfold doE
  rw [add_assoc, ← h, ofBits_256]

theorem isReal_norm (v : Fin 256) : IsReal (o v * rsq o) := by
  obtain ⟨e, he, hb⟩ := ofBits_eps
  have hm : msq o = Ideal.div (∑ k, o k * o k) ((256 : ℝ) : EReal) + (e : EReal) := by unfold msq; rw [ofBits_256, hb]
  unfold rsq
  rcases meanSq o (show (0 : ℝ) < 256 by norm_num) he with h | ⟨hx, w, hw, h⟩
  · rw [hm, h, rsqrt_top, mul_zero]; exact isReal_zero
  · rw [hm, h, rsqrt_coe hw]; exact (hx v).mul ⟨_, rfl⟩

theorem dr_eq (v : Fin 256) (hd : IsReal (d v)) (hg : IsReal (g v)) :
    o v * rsq o * g v * d v * Ideal.logistic (r v) + r v * (o v * rsq o * g v * d v) * (Ideal.logistic (r v) * (1 - Ideal.logistic (r v)))
      = drE o d g r v := by
  unfold drE
  rw [mul_comm (d v)]
  obtain ⟨y, hy⟩ := ((isReal_norm o v).mul hg).mul hd
  rw [hy]
  induction r v with
  | bot => simp
  | top => rw [Ideal.logistic_top, show (1 : EReal) - 1 = 0 by rw [← EReal.coe_one, ← EReal.coe_sub]; simp]; simp
  | coe a =>
    rw [logistic_coe]
    generalize 1 / (1 + Real.exp (-a)) = s
    simp only [← EReal.coe_one, ← EReal.coe_mul, ← EReal.coe_add, ← EReal.coe_sub]
    congr 1; ring
end head

/-! ## Through the chunks -/
variable (x0 : (⟨Cert.GlaFwdIdeal.S4096x8208, .f32⟩ : BufTy).Contents (Elt Ideal)) (x1 : (⟨Cert.GlaFwdIdeal.S16x512, .f32⟩ : BufTy).Contents (Elt Ideal))
  (x2 : (⟨Cert.GlaFwdIdeal.S512, .f32⟩ : BufTy).Contents (Elt Ideal)) (g : Fin 256 → EReal) (d : Fin 4096 → Fin 1024 → EReal)

/-- The gate's argument. -/
def rr (n : ℕ) (h : Fin 4) (l : Fin 64) (v : Fin 256) : EReal :=
  x0 (ix2 (row n l) (⟨2048 + (h.val * 256 + v.val), by omega⟩ : Fin 8208))
/-- The incoming gradient of a head's row. -/
def dd (n : ℕ) (h : Fin 4) (l : Fin 64) (v : Fin 256) : EReal := d (row n l) ⟨h.val * 256 + v.val, by omega⟩
/-- The gradient of what the queries read. -/
def DO (n : ℕ) (h : Fin 4) (l : Fin 64) (v : Fin 256) : EReal := doE (oo x0 x1 x2 n h l) (dd d n h l) g (rr x0 n h l) v
/-- The gradient of the gate's argument. -/
def DR (n : ℕ) (h : Fin 4) (l : Fin 64) (v : Fin 256) : EReal := drE (oo x0 x1 x2 n h l) (dd d n h l) g (rr x0 n h l) v
/-- What chunk `n` adds to the gradient of its state. -/
def add (n : ℕ) (h : Fin 4) (k : Fin 128) (v : Fin 256) : EReal := ∑ l : Fin 64, DO x0 x1 x2 g d n h l v * qq x0 n h l k
/-- The gradient of the state that `j` chunks, from the last one back, leave. -/
def carry (h : Fin 4) (k : Fin 128) (v : Fin 256) : ℕ → EReal
  | 0 => 0
  | j + 1 => (add x0 x1 x2 g d (63 - j) h k v + carry h k v j) * gam x0 x1 x2 (63 - j) h k
/-- The gradient of the state after chunk `n`. -/
def dst (n : ℕ) (h : Fin 4) (k : Fin 128) (v : Fin 256) : EReal := add x0 x1 x2 g d n h k v + carry x0 x1 x2 g d h k v (63 - n)
/-- The gradients of a query, a key and a value. -/
def DQ (n : ℕ) (h : Fin 4) (l : Fin 64) (k : Fin 128) : EReal :=
  (∑ v : Fin 256, DO x0 x1 x2 g d n h l v * st x0 x1 x2 h k v (n + 1)) * Ideal.ofBits .f32 0x3DB504F3#32
def DK (n : ℕ) (h : Fin 4) (l : Fin 64) (k : Fin 128) : EReal :=
  (∑ v : Fin 256, vv x0 n h v l * dst x0 x1 x2 g d n h k v) * Ideal.exp (cum (lac x0 x1 x2 n h k) 63 - cum (lac x0 x1 x2 n h k) l)
def DV (n : ℕ) (h : Fin 4) (l : Fin 64) (v : Fin 256) : EReal :=
  ∑ k : Fin 128, kd x0 x1 x2 n h k l * dst x0 x1 x2 g d n h k v
end Cert.GlaB
-- ==== Proof.GlaBHeads.lean ====
/- The backward call of gated linear attention: what the kernel computes of a chunk, entry by entry. -/
module
public import proofs.«01_k».proof.Proof.GlaBBlock
public import proofs.«01_k».proof.Proof.GlaBMath
public import proofs.«01_k».proof.Proof.GlaHeads
@[expose] public section
set_option maxRecDepth 16384
noncomputable section
namespace Cert.GlaBK
open Idealize.ShloMosaic Idealize.ShloMosaic.TcCoe Idealize.SL.Sem
open Cert.GlaBwdIdeal Cert.GlaBwdIdeal.Gen Cert.GlaB
open Cert.Gla (cum hk hv sel sel63)

theorem hk0 (κ : Fin 128) : hk 0 κ = (⟨0 + κ.val, by omega⟩ : Fin 512) := Fin.ext (by show 0 * 128 + κ.val = 0 + κ.val; omega)
theorem hk1 (κ : Fin 128) : hk 1 κ = (⟨128 + κ.val, by omega⟩ : Fin 512) := Fin.ext (by show 1 * 128 + κ.val = 128 + κ.val; omega)
theorem hk2 (κ : Fin 128) : hk 2 κ = (⟨256 + κ.val, by omega⟩ : Fin 512) := Fin.ext (by show 2 * 128 + κ.val = 256 + κ.val; omega)
theorem hk3 (κ : Fin 128) : hk 3 κ = (⟨384 + κ.val, by omega⟩ : Fin 512) := Fin.ext (by show 3 * 128 + κ.val = 384 + κ.val; omega)
theorem hv0 (y : Fin 256) : hv 0 y = (⟨0 + y.val, by omega⟩ : Fin 1024) := Fin.ext (by show 0 * 256 + y.val = 0 + y.val; omega)
theorem hv1 (y : Fin 256) : hv 1 y = (⟨256 + y.val, by omega⟩ : Fin 1024) := Fin.ext (by show 1 * 256 + y.val = 256 + y.val; omega)
theorem hv2 (y : Fin 256) : hv 2 y = (⟨512 + y.val, by omega⟩ : Fin 1024) := Fin.ext (by show 2 * 256 + y.val = 512 + y.val; omega)
theorem hv3 (y : Fin 256) : hv 3 y = (⟨768 + y.val, by omega⟩ : Fin 1024) := Fin.ext (by show 3 * 256 + y.val = 768 + y.val; omega)

/-! ## Through the norm and the gate -/
section norm
variable (g : Vec Ideal S1x256 .f32) (o : Vec Ideal S512x256 .f32) (r d : Vec Ideal S512x256 .bf16) (y : Fin 512) (κ : Fin 256)
def doH : Fin 4 → Vec Ideal S1x256 .f32 → Vec Ideal S512x256 .f32 → Vec Ideal S512x256 .bf16 → Vec Ideal S512x256 .bf16 → FVec Ideal S512x256 .bf16
  | 0 => do0
  | 1 => do1
  | 2 => do2
  | 3 => do3
def drH : Fin 4 → Vec Ideal S1x256 .f32 → Vec Ideal S512x256 .f32 → Vec Ideal S512x256 .bf16 → Vec Ideal S512x256 .bf16 → FVec Ideal S512x256 .bf16
  | 0 => dr0
  | 1 => dr1
  | 2 => fun g o r d => k0_pay95 g o r d
  | 3 => fun g o r d => k0_pay106 g o r d
theorem doH_apply (h : Fin 4) : doH h g o r d (ix2 y κ)
    = doE (fun x => o (ix2 y x)) (fun x => d (ix2 y x)) (fun x => g (ix2 0 x)) (fun x => r (ix2 y x)) κ :=
  match h with
  | 0 => by pointwise [doH, do0, k0_pay76, k0_pay68, k0_pay69, k0_pay70, k0_pay73, k0_pay71, k0_pay72, doE, dnE, rsq, msq]
  | 1 => by pointwise [doH, do1, k0_pay88, k0_pay87, k0_pay84, k0_pay83, k0_pay82, k0_pay81, k0_pay80, k0_pay79, k0_pay78, k0_pay77, doE, dnE, rsq, msq]
  | 2 => by pointwise [doH, do2, k0_pay99, k0_pay98, k0_pay97, k0_pay94, k0_pay93, k0_pay92, k0_pay91, k0_pay90, k0_pay89, doE, dnE, rsq, msq]
  | 3 => by pointwise [doH, do3, k0_pay107, k0_pay105, k0_pay104, k0_pay103, k0_pay102, k0_pay101, k0_pay100, doE, dnE, rsq, msq]
theorem drH_apply (h : Fin 4) : drH h g o r d (ix2 y κ)
    = drE (fun x => o (ix2 y x)) (fun x => d (ix2 y x)) (fun x => g (ix2 0 x)) (fun x => r (ix2 y x)) κ :=
  match h with
  | 0 => by pointwise [drH, dr0, k0_pay74, k0_pay68, k0_pay69, k0_pay70, k0_pay71, k0_pay72, drE, rsq, msq]
  | 1 => by pointwise [drH, dr1, k0_pay85, k0_pay83, k0_pay82, k0_pay81, k0_pay80, k0_pay79, k0_pay78, k0_pay77, drE, rsq, msq]
  | 2 => by pointwise [drH, k0_pay95, k0_pay93, k0_pay92, k0_pay91, k0_pay90, k0_pay89, drE, rsq, msq]
  | 3 => by pointwise [drH, k0_pay106, k0_pay104, k0_pay103, k0_pay102, k0_pay101, k0_pay100, drE, rsq, msq]
end norm

/-! ## What the heads read -/
theorem oH_pay (h : Fin 4) (q : Vec Ideal S64x512 .bf16) (S : Vec Ideal S1x256x512 .bf16) (l : Fin 64) (y : Fin 256) :
    (match h with | 0 => k0_pay15 | 1 => k0_pay16 | 2 => k0_pay17 | 3 => k0_pay18) (k0_pay12 q) S (ix2 l y)
      = ∑ x : Fin 128, q (ix2 l (hk h x)) * Ideal.ofBits .f32 0x3DB504F3#32 * S (ix3 0 y (hk h x)) :=
  match h with
  | 0 => by
    simp only [hk0]
    pointwise [k0_pay15, k0_pay12, k0_pay13, k0_pay14]
  | 1 => by
    simp only [hk1]
    pointwise [k0_pay16, k0_pay12, k0_pay13, k0_pay14]
  | 2 => by
    simp only [hk2]
    pointwise [k0_pay17, k0_pay12, k0_pay13, k0_pay14]
  | 3 => by
    simp only [hk3]
    pointwise [k0_pay18, k0_pay12, k0_pay13, k0_pay14]

/-! ## A chunk -/
section chunk
variable (la : Vec Ideal S64x512 .f32) (q k : Vec Ideal S64x512 .bf16) (v D : Vec Ideal S64x1024 .bf16) (S : Vec Ideal S1x256x512 .bf16) (s : Vec Ideal S256x128 .f32)
/-- The cotangent of a head's state, with the chunk's part. -/
def adE (q D : Fin 64 → EReal) (s : EReal) : EReal := (∑ l : Fin 64, D l * (q l * Ideal.ofBits .f32 0x3DB504F3#32)) + s
def ad (h : Fin 4) (y : Fin 256) (κ : Fin 128) : EReal := adE (fun l => q (ix2 l (hk h κ))) (fun l => D (ix2 l (hv h y))) (s (ix2 y κ))
def stpH : Fin 4 → Vec Ideal S64x512 .f32 → Vec Ideal S64x512 .bf16 → Vec Ideal S64x1024 .bf16 → Vec Ideal S256x128 .f32 → FVec Ideal S256x128 .f32
  | 0 => stp0
  | 1 => stp1
  | 2 => stp2
  | 3 => stp3
theorem stpH_apply (h : Fin 4) (y : Fin 256) (κ : Fin 128) : stpH h la q D s (ix2 y κ) = ad q D s h y κ * Ideal.exp (cum (fun l => la (ix2 l (hk h κ))) 63) :=
  match h with
  | 0 => by
    unfold ad adE cum
    simp only [hk0, hv0]
    pointwise [stpH, stp0, k0_pay127, k0_pay121, k0_pay117, k0_pay114, k0_pay112, k0_pay111, k0_pay109]
    simp only [sel63, sel, Nat.zero_add, zero_add]
  | 1 => by
    unfold ad adE cum
    simp only [hk1, hv1]
    pointwise [stpH, stp1, k0_pay135, k0_pay128, k0_pay117, k0_pay114, k0_pay112, k0_pay111, k0_pay109]
    simp only [sel63, sel]
  | 2 => by
    unfold ad adE cum
    simp only [hk2, hv2]
    pointwise [stpH, stp2, k0_pay142, k0_pay136, k0_pay117, k0_pay114, k0_pay112, k0_pay111, k0_pay109]
    simp only [sel63, sel]
  | 3 => by
    unfold ad adE cum
    simp only [hk3, hv3]
    pointwise [stpH, stp3, k0_pay150, k0_pay149, k0_pay143, k0_pay117, k0_pay114, k0_pay112, k0_pay111, k0_pay109]
    simp only [sel63, sel]
def dqH : Fin 4 → Vec Ideal S64x1024 .bf16 → Vec Ideal S1x256x512 .bf16 → FVec Ideal S64x128 .bf16
  | 0 => fun D S => k0_pay123 D (k0_pay119 S)
  | 1 => dq1
  | 2 => fun D S => k0_pay138 D (k0_pay119 S)
  | 3 => fun D S => k0_pay145 D (k0_pay119 S)
theorem dqH_apply (h : Fin 4) (l : Fin 64) (κ : Fin 128) :
    dqH h D S (ix2 l κ) = (∑ y : Fin 256, D (ix2 l (hv h y)) * S (ix3 0 y (hk h κ))) * Ideal.ofBits .f32 0x3DB504F3#32 :=
  match h with
  | 0 => by
    simp only [hk0, hv0]
    pointwise [dqH, k0_pay123, k0_pay119]
  | 1 => by
    simp only [hk1, hv1]
    pointwise [dqH, dq1, k0_pay131, k0_pay130, k0_pay119]
  | 2 => by
    simp only [hk2, hv2]
    pointwise [dqH, k0_pay138, k0_pay119]
  | 3 => by
    simp only [hk3, hv3]
    pointwise [dqH, k0_pay145, k0_pay119]
def dvH : Fin 4 → Vec Ideal S64x512 .f32 → Vec Ideal S64x512 .bf16 → Vec Ideal S64x512 .bf16 → Vec Ideal S64x1024 .bf16 → Vec Ideal S256x128 .f32 → FVec Ideal S64x256 .bf16
  | 0 => dv0
  | 1 => dv1
  | 2 => dv2
  | 3 => dv3
theorem dvH_apply (h : Fin 4) (l : Fin 64) (y : Fin 256) : dvH h la q k D s (ix2 l y)
    = ∑ κ : Fin 128, k (ix2 l (hk h κ)) * Ideal.exp (cum (fun l => la (ix2 l (hk h κ))) 63 - cum (fun l => la (ix2 l (hk h κ))) l) * ad q D s h y κ :=
  match h with
  | 0 => by
    unfold ad adE cum
    simp only [hk0, hv0]
    pointwise [dvH, dv0, k0_pay125, k0_pay122, k0_pay121, k0_pay117, k0_pay116, k0_pay115, k0_pay113, k0_pay112, k0_pay111, k0_pay109]
    simp only [sel63, sel, Nat.zero_add, zero_add]
  | 1 => by
    unfold ad adE cum
    simp only [hk1, hv1]
    pointwise [dvH, dv1, k0_pay133, k0_pay129, k0_pay128, k0_pay117, k0_pay116, k0_pay115, k0_pay113, k0_pay112, k0_pay111, k0_pay109]
    simp only [sel63, sel]
  | 2 => by
    unfold ad adE cum
    simp only [hk2, hv2]
    pointwise [dvH, dv2, k0_pay140, k0_pay137, k0_pay136, k0_pay117, k0_pay116, k0_pay115, k0_pay113, k0_pay112, k0_pay111, k0_pay109]
    simp only [sel63, sel]
  | 3 => by
    unfold ad adE cum
    simp only [hk3, hv3]
    pointwise [dvH, dv3, k0_pay147, k0_pay144, k0_pay143, k0_pay117, k0_pay116, k0_pay115, k0_pay113, k0_pay112, k0_pay111, k0_pay109]
    simp only [sel63, sel]
/-- The key's part of a head, before its decay. -/
def dkH : Fin 4 → Vec Ideal S64x512 .bf16 → Vec Ideal S64x1024 .bf16 → Vec Ideal S64x1024 .bf16 → Vec Ideal S256x128 .f32 → FVec Ideal S64x128 .f32
  | 0 => fun q v D s => k0_pay124 (k0_pay117 q) (k0_pay118 v) D s
  | 1 => fun q v D s => k0_pay132 (k0_pay118 v) (k0_pay129 (k0_pay117 q) D s)
  | 2 => fun q v D s => k0_pay139 (k0_pay117 q) (k0_pay118 v) D s
  | 3 => fun q v D s => k0_pay146 (k0_pay117 q) (k0_pay118 v) D s
theorem dkH_apply (h : Fin 4) (l : Fin 64) (κ : Fin 128) : dkH h q v D s (ix2 l κ) = ∑ y : Fin 256, v (ix2 l (hv h y)) * ad q D s h y κ :=
  match h with
  | 0 => by
    unfold ad adE
    simp only [hk0, hv0]
    pointwise [dkH, k0_pay124, k0_pay122, k0_pay121, k0_pay118, k0_pay117]
  | 1 => by
    unfold ad adE
    simp only [hk1, hv1]
    pointwise [dkH, k0_pay132, k0_pay129, k0_pay128, k0_pay118, k0_pay117]
  | 2 => by
    unfold ad adE
    simp only [hk2, hv2]
    pointwise [dkH, k0_pay139, k0_pay137, k0_pay136, k0_pay118, k0_pay117]
  | 3 => by
    unfold ad adE
    simp only [hk3, hv3]
    pointwise [dkH, k0_pay146, k0_pay144, k0_pay143, k0_pay118, k0_pay117]
theorem dkS_apply (s : Fin 4 → Vec Ideal S256x128 .f32) (h : Fin 4) (l : Fin 64) (κ : Fin 128) : dkS la q v D (s 0) (s 1) (s 2) (s 3) (ix2 l (hk h κ))
    = dkH h q v D (s h) (ix2 l κ) * Ideal.exp (cum (fun l => la (ix2 l (hk h κ))) 63 - cum (fun l => la (ix2 l (hk h κ))) l) :=
  match h with
  | 0 => by
    unfold cum
    simp only [hk0]
    pointwise [dkS, k0_pay152, k0_pay151, k0_pay113, k0_pay112, k0_pay111, k0_pay109]
    simp only [sel63, sel, Nat.zero_add]
    rfl
  | 1 => by
    unfold cum
    simp only [hk1]
    pointwise [dkS, k0_pay152, k0_pay151, k0_pay113, k0_pay112, k0_pay111, k0_pay109]
    simp only [sel63, sel]
    rfl
  | 2 => by
    unfold cum
    simp only [hk2]
    pointwise [dkS, k0_pay152, k0_pay151, k0_pay113, k0_pay112, k0_pay111, k0_pay109]
    simp only [sel63, sel]
    rw [dif_neg (show ¬256 + κ.val < 128 by omega), dif_neg (show ¬256 + κ.val - 128 < 128 by omega), dif_pos (show 256 + κ.val - 128 - 128 < 128 by omega)]
    simp only [show 256 + κ.val - 128 - 128 = κ.val by omega]
    rfl
  | 3 => by
    unfold cum
    simp only [hk3]
    pointwise [dkS, k0_pay152, k0_pay151, k0_pay113, k0_pay112, k0_pay111, k0_pay109]
    simp only [sel63, sel]
    rw [dif_neg (show ¬384 + κ.val < 128 by omega), dif_neg (show ¬384 + κ.val - 128 < 128 by omega), dif_neg (show ¬384 + κ.val - 128 - 128 < 128 by omega)]
    simp only [show 384 + κ.val - 128 - 128 - 128 = κ.val by omega]
    rfl
end chunk
theorem pay11_apply (x : Vec Ideal S512x128 .bf16) (w : Vec Ideal S128x512 .bf16) (b : Vec Ideal S1x512 .f32) (y : Fin 512) (κ : Fin 512) :
    k0_pay11 x w b (ix2 y κ) = Cert.Gla.lsig ((∑ j : Fin 128, x (ix2 y j) * w (ix2 j κ)) + b (ix2 0 κ)) := by
  pointwise [k0_pay11, k0_pay9, k0_pay8, Cert.Gla.lsig]
  rfl
theorem pay66_apply (g : Vec Ideal S1x256 .f32) (κ : Fin 256) : k0_pay66 g (ix2 0 κ) = g (ix2 0 κ) := by
  pointwise [k0_pay66]
end Cert.GlaBK
-- ==== Proof.GlaBHost.lean ====
/- What the kernel of the backward call reads: the projections, the gate's decays, the incoming gradient and the states after each
   chunk, block by block; the grid walks the blocks from the last to the first. -/
module
public import proofs.«01_k».proof.Proof.GlaBChain
public import proofs.«01_k».proof.Proof.GlaBHeads
public import Idealize.ShloMosaic.Lib.Pipeline.Frame
@[expose] public section
set_option maxRecDepth 65536
noncomputable section
namespace Cert.GlaBK
open Idealize.ShloMosaic Idealize.ShloMosaic.TcCoe Idealize.SL.Sem
open Idealize.ShloMosaic.StableHlo
open Cert.GlaBwdIdeal Cert.GlaBwdIdeal.Gen
open Cert.Gla (cum hk hv row row_val lac lsig fg lsig_eq kd gam vv qq st oo pack packed0 packed0_apply)

variable (m : (ℓ : Loc nD τ sig) → Buf (Elt Ideal) ℓ) (c : Dev nD)
/-- The device's six arguments. -/
abbrev A0 : (⟨S4096x8208, .f32⟩ : BufTy).Contents (Elt Ideal) := m ((c : Thread nD τ).loc main_arg0)
abbrev A1 : (⟨S4096x1024, .f32⟩ : BufTy).Contents (Elt Ideal) := m ((c : Thread nD τ).loc main_arg1)
abbrev A2 : (⟨S16x512, .f32⟩ : BufTy).Contents (Elt Ideal) := m ((c : Thread nD τ).loc main_arg2)
abbrev A3 : (⟨S512, .f32⟩ : BufTy).Contents (Elt Ideal) := m ((c : Thread nD τ).loc main_arg3)
abbrev A4 : (⟨S256, .f32⟩ : BufTy).Contents (Elt Ideal) := m ((c : Thread nD τ).loc main_arg4)
abbrev A5 : (⟨S4096x8320, .f32⟩ : BufTy).Contents (Elt Ideal) := m ((c : Thread nD τ).loc main_arg5)

/-! ## The states after each chunk -/

/-- The contents before the chain of states. -/
def X2 : Valuation τ sig (Elt Ideal) := StableHlo.after hostOps0_2 (StableHlo.after hostOps0_1 (StableHlo.after hostOps0 (fun b => m (c, b))))
def X4 : Valuation τ sig (Elt Ideal) := StableHlo.after hostOps0_4 (StableHlo.after hostOps0_3 (X2 m c))
def X5 : Valuation τ sig (Elt Ideal) := StableHlo.after hostOps0_5 (X4 m c)
theorem V_after (r : Ref sig .tc) : V m c r = StableHlo.after hostOps0_6 (X5 m c) (Proc.devRef .tc r) := by
  show StableHlo.after [hostOps0, hostOps0_1, hostOps0_2, hostOps0_3, hostOps0_4, hostOps0_5, hostOps0_6].flatten (fun b => m (c, b)) (Proc.devRef .tc r) = _
  simp only [List.flatten_cons, List.flatten_nil, List.append_nil, StableHlo.after_append]
  rfl
theorem row_of (n : Fin 64) (l : Fin 64) : (⟨n.val * 64 + l.val, by omega⟩ : Fin 4096) = row n.val l :=
  Fin.ext ((show n.val * 64 + l.val = 64 * n.val + l.val by omega).trans (row_val n.val n.isLt l).symm)
theorem X2_16 (a : Fin 4096) (k : Fin 512) : (X2 m c (Proc.devRef .tc main_v16) : FVec Ideal S4096x512 .f32) (ix2 a k) = fg (A0 m c) (A2 m c) (A3 m c) a k := by
  unfold X2 fg; after_reads_at
theorem X2_10 (a : Fin 4096) (k : Fin 512) : (X2 m c (Proc.devRef .tc main_v10) : FVec Ideal S4096x512 .f32) (ix2 a k) = A0 m c (ix2 a ⟨512 + k.val, by omega⟩) := by
  unfold X2; after_reads_at
theorem X2_11 (a : Fin 4096) (k : Fin 1024) : (X2 m c (Proc.devRef .tc main_v11) : FVec Ideal S4096x1024 .f32) (ix2 a k) = A0 m c (ix2 a ⟨1024 + k.val, by omega⟩) := by
  unfold X2; after_reads_at
section gen
variable (Y : Valuation τ sig (Elt Ideal))
theorem ops34_25 (n : Fin 64) (h : Fin 4) (l : Fin 64) (k : Fin 128) :
    (StableHlo.after hostOps0_4 (StableHlo.after hostOps0_3 Y) (Proc.devRef .tc main_v25) : FVec Ideal S64x4x64x128 .f32) (ix4 n h l k)
      = lsig ((Y (Proc.devRef .tc main_v16) : FVec Ideal S4096x512 .f32) (ix2 ⟨n.val * 64 + l.val, by omega⟩ (hk h k))) := by
  refine Eq.trans ?_ (lsig_eq _)
  after_reads_at
  rw [if_neg (fun h => h rfl)]
  rfl
theorem ops34_21 (n : Fin 64) (h : Fin 4) (l : Fin 64) (k : Fin 128) :
    (StableHlo.after hostOps0_4 (StableHlo.after hostOps0_3 Y) (Proc.devRef .tc main_v21) : FVec Ideal S64x4x64x128 .f32) (ix4 n h l k)
      = (Y (Proc.devRef .tc main_v10) : FVec Ideal S4096x512 .f32) (ix2 ⟨n.val * 64 + l.val, by omega⟩ (hk h k)) := by
  after_reads_at
  rfl
theorem ops34_23 (n : Fin 64) (h : Fin 4) (l : Fin 64) (k : Fin 256) :
    (StableHlo.after hostOps0_4 (StableHlo.after hostOps0_3 Y) (Proc.devRef .tc main_v23) : FVec Ideal S64x4x64x256 .f32) (ix4 n h l k)
      = (Y (Proc.devRef .tc main_v11) : FVec Ideal S4096x1024 .f32) (ix2 ⟨n.val * 64 + l.val, by omega⟩ (hv h k)) := by
  after_reads_at
  rfl
theorem ops5_26 (n : Fin 64) (h : Fin 4) (l : Fin 64) (k : Fin 128) :
    (StableHlo.after hostOps0_5 Y (Proc.devRef .tc main_v26) : FVec Ideal S64x4x64x128 .f32) (ix4 n h l k)
      = cum (fun j => (Y (Proc.devRef .tc main_v25) : FVec Ideal S64x4x64x128 .f32) (ix4 n h j k)) l := by
  after_reads_simp
  simp -implicitDefEqProofs only [StableHlo.TRef.toBuf, StableHlo.TRef.ofBuf, cast_cast, cast_eq]
  refine (Cert.Gla.Ref.window_cum _ _ _ _ ?_ n h l k)
  pointwise
theorem ops5_21 : StableHlo.after (hostOps0_5 (F := Ideal)) Y (Proc.devRef .tc main_v21) = Y (Proc.devRef .tc main_v21) := by after_reads_simp
theorem ops5_23 : StableHlo.after (hostOps0_5 (F := Ideal)) Y (Proc.devRef .tc main_v23) = Y (Proc.devRef .tc main_v23) := by after_reads_simp
end gen
theorem X5_26 (n : Fin 64) (h : Fin 4) (l : Fin 64) (k : Fin 128) :
    (X5 m c (Proc.devRef .tc main_v26) : FVec Ideal S64x4x64x128 .f32) (ix4 n h l k) = cum (lac (A0 m c) (A2 m c) (A3 m c) n.val h k) l := by
  refine (ops5_26 (X4 m c) n h l k).trans (congrArg (fun f => cum f l) (funext fun j => ?_))
  refine (ops34_25 (X2 m c) n h j k).trans ?_
  rw [X2_16, row_of]
  rfl
theorem X5_21 (n : Fin 64) (h : Fin 4) (l : Fin 64) (k : Fin 128) :
    (X5 m c (Proc.devRef .tc main_v21) : FVec Ideal S64x4x64x128 .f32) (ix4 n h l k) = A0 m c (ix2 (row n.val l) (⟨512 + (h.val * 128 + k.val), by omega⟩ : Fin 8208)) := by
  refine (congrFun (ops5_21 (X4 m c)) (ix4 n h l k)).trans ((ops34_21 (X2 m c) n h l k).trans ?_)
  rw [X2_10, row_of]
  rfl
theorem X5_23 (n : Fin 64) (h : Fin 4) (l : Fin 64) (v : Fin 256) :
    (X5 m c (Proc.devRef .tc main_v23) : FVec Ideal S64x4x64x256 .f32) (ix4 n h l v) = vv (A0 m c) n.val h v l := by
  refine (congrFun (ops5_23 (X4 m c)) (ix4 n h l v)).trans ((ops34_23 (X2 m c) n h l v).trans ?_)
  rw [X2_11, row_of]
  rfl
theorem gV_apply (x26 : FVec Ideal S64x4x64x128 .f32) (n : Fin 64) (h : Fin 4) (k : Fin 128) (y : Fin 256) :
    gV x26 (ix4 n h k y) = Ideal.exp (x26 (ix4 n h 63 k)) := by
  pointwise [gV]
theorem aV_apply (x26 x21 : FVec Ideal S64x4x64x128 .f32) (x23 : FVec Ideal S64x4x64x256 .f32) (n : Fin 64) (h : Fin 4) (k : Fin 128) (y : Fin 256) :
    aV x26 x21 x23 (ix4 n h k y) = ∑ l : Fin 64, (x21 (ix4 n h l k) * Ideal.exp (x26 (ix4 n h 63 k) - x26 (ix4 n h l k)) * x23 (ix4 n h l y) : EReal) := by
  pointwise [aV]
theorem stV_eq (h : Fin 4) (k : Fin 128) (y : Fin 256) : ∀ i, i ≤ 64 →
    stV (gV (X5 m c (Proc.devRef .tc main_v26))) (aV (X5 m c (Proc.devRef .tc main_v26)) (X5 m c (Proc.devRef .tc main_v21)) (X5 m c (Proc.devRef .tc main_v23))) i (ix4 0 h k y)
      = st (A0 m c) (A2 m c) (A3 m c) h k y i
  | 0, _ => by
    pointwise [stV]
    rfl
  | i + 1, hi => by
    refine (stV_apply _ _ h k y (fun n => gam (A0 m c) (A2 m c) (A3 m c) n h k)
      (fun n => ∑ l : Fin 64, vv (A0 m c) n h y l * kd (A0 m c) (A2 m c) (A3 m c) n h k l) (fun n => ?_) (fun n => ?_) i (by omega)).trans ?_
    · refine (gV_apply _ n h k y).trans ?_
      rw [X5_26]; rfl
    · refine (aV_apply _ _ _ n h k y).trans (Finset.sum_congr rfl fun l _ => ?_)
      rw [X5_26, X5_26, X5_21, X5_23, mul_comm]
      rfl
    · rw [stV_eq h k y i (by omega), mul_comm (gam _ _ _ _ _ _)]
      rfl
theorem ops6_301 (Y : Valuation τ sig (Elt Ideal)) (n : Fin 64) (y : Fin 256) (k : Fin 512) :
    (StableHlo.after hostOps0_6 Y (Proc.devRef .tc main_v301) : FVec Ideal S64x256x512 .bf16) (ix3 n y k)
      = stack64 (stV (gV (Y (Proc.devRef .tc main_v26))) (aV (Y (Proc.devRef .tc main_v26)) (Y (Proc.devRef .tc main_v21)) (Y (Proc.devRef .tc main_v23))))
          (ix4 n ⟨k.val / 128, by omega⟩ ⟨k.val % 128, by omega⟩ y) := by
  rw [chain]
  pointwise
theorem V301 (n : Fin 64) (y : Fin 256) (h : Fin 4) (κ : Fin 128) :
    (V m c main_v301 : FVec Ideal S64x256x512 .bf16) (ix3 n y (hk h κ)) = st (A0 m c) (A2 m c) (A3 m c) h κ y (n.val + 1) := by
  rw [V_after]
  refine (ops6_301 (X5 m c) n y (hk h κ)).trans ?_
  rw [stack64_apply]
  have h1 : (⟨(hk h κ).val / 128, by omega⟩ : Fin 4) = h := Fin.ext (show (h.val * 128 + κ.val) / 128 = h.val by omega)
  have h2 : (⟨(hk h κ).val % 128, by omega⟩ : Fin 128) = κ := Fin.ext (show (h.val * 128 + κ.val) % 128 = κ.val by omega)
  rw [h1, h2]
  exact stV_eq m c h κ y (n.val + 1) (by omega)

/-! ## The blocks -/

theorem V5 : V m c main_v5 = packed0 (A0 m c) := by
  unfold V; after_reads_simp; rfl
theorem V7 (j : Fin 128) (κ : Fin 512) : (V m c main_v7 : FVec Ideal S128x512 .bf16) (ix2 j κ)
    = (if h : j.val < 16 then A2 m c (ix2 ⟨j.val, h⟩ κ) else 0 : EReal) := by
  unfold V; after_reads_at
  have z : @Eq EReal (FloatOps.sitofp (F := Ideal) FTy.f32 (0#32 : BitVec 32)) 0 := by simp [FloatOps.sitofp]
  exact dite_congr rfl (fun _ => rfl) (fun _ => z)
theorem V8 (κ : Fin 512) : (V m c main_v8 : FVec Ideal S1x512 .f32) (ix2 0 κ) = A3 m c (ix1 κ) := by
  unfold V; after_reads_at
theorem V9 (κ : Fin 256) : (V m c main_v9 : FVec Ideal S1x256 .f32) (ix2 0 κ) = A4 m c (ix1 κ) := by
  unfold V; after_reads_at
theorem V302 (a : Fin 4096) (k : Fin 1024) : (V m c main_v302 : FVec Ideal S4096x1024 .bf16) (ix2 a k) = A1 m c (ix2 a k) := by
  unfold V; after_reads_at
theorem V304 (a : Fin 4096) (k : Fin 8320) : (V m c main_v304_0 : FVec Ideal S4096x8320 .bf16) (ix2 a k) = A5 m c (ix2 a k) := by
  unfold V; after_reads_simp; rfl

theorem idx : ∀ t : Fin cfg0.N, win0_0.index t = ![7 - t.val, 0] ∧ win0_1.index t = ![7 - t.val, 1] ∧ win0_2.index t = ![7 - t.val, 1]
    ∧ win0_3.index t = ![7 - t.val, 2] ∧ win0_4.index t = ![7 - t.val, 64] ∧ win0_5.index t = ![7 - t.val, 0] ∧ win0_6.index t = ![7 - t.val, 0, 0]
    ∧ win0_8.index t = ![0, 0] ∧ win0_9.index t = ![0, 0] ∧ win0_10.index t = ![0, 0] ∧ win0_11.index t = ![7 - t.val, 0] :=
  (by decide +kernel : ∀ t : Fin grid0.N, _)

variable (t : Fin cfg0.N)
theorem rowT_lt (y : Fin 512) : (7 - t.val) * 512 + y.val < 4096 := by omega
/-- The array's row that row `y` of point `t`'s blocks is. -/
def rowT (y : Fin 512) : Fin 4096 := ⟨(7 - t.val) * 512 + y.val, rowT_lt t y⟩
theorem b0 (y : Fin 512) (k : Fin 512) : X0_0 m c t (ix2 y k) = A0 m c (ix2 (rowT t y) ⟨0 + k.val, by omega⟩) := by
  have h : X0_0 m c t (ix2 y k) = V m c main_v5 (ix2 (rowT t y) ⟨0 + k.val, by omega⟩) := by
    unfold X0_0 Pipeline.Window.fill
    rw [dif_pos (moved0_0 t _)]
    obtain ⟨e0, e1, e2, e3, e4, e5, e6, e8, e9, e10, e11⟩ := idx t; blk_ext [iblk, rowT, e0]
  rw [h, V5, packed0_apply, pack, dif_pos (show 0 + k.val < 3072 by omega)]
theorem b1 (y : Fin 512) (k : Fin 512) : X0_1 m c t (ix2 y k) = A0 m c (ix2 (rowT t y) ⟨512 + k.val, by omega⟩) := by
  have h : X0_1 m c t (ix2 y k) = V m c main_v5 (ix2 (rowT t y) ⟨512 + k.val, by omega⟩) := by
    unfold X0_1 Pipeline.Window.fill
    rw [dif_pos (moved0_1 t _)]
    obtain ⟨e0, e1, e2, e3, e4, e5, e6, e8, e9, e10, e11⟩ := idx t; blk_ext [iblk, rowT, e1]
  rw [h, V5, packed0_apply, pack, dif_pos (show 512 + k.val < 3072 by omega)]
theorem b2 (y : Fin 512) (k : Fin 1024) : X0_2 m c t (ix2 y k) = A0 m c (ix2 (rowT t y) ⟨1024 + k.val, by omega⟩) := by
  have h : X0_2 m c t (ix2 y k) = V m c main_v5 (ix2 (rowT t y) ⟨1024 + k.val, by omega⟩) := by
    unfold X0_2 Pipeline.Window.fill
    rw [dif_pos (moved0_2 t _)]
    obtain ⟨e0, e1, e2, e3, e4, e5, e6, e8, e9, e10, e11⟩ := idx t; blk_ext [iblk, rowT, e2]
  rw [h, V5, packed0_apply, pack, dif_pos (show 1024 + k.val < 3072 by omega)]
theorem b3 (y : Fin 512) (k : Fin 1024) : X0_3 m c t (ix2 y k) = A0 m c (ix2 (rowT t y) ⟨2048 + k.val, by omega⟩) := by
  have h : X0_3 m c t (ix2 y k) = V m c main_v5 (ix2 (rowT t y) ⟨2048 + k.val, by omega⟩) := by
    unfold X0_3 Pipeline.Window.fill
    rw [dif_pos (moved0_3 t _)]
    obtain ⟨e0, e1, e2, e3, e4, e5, e6, e8, e9, e10, e11⟩ := idx t; blk_ext [iblk, rowT, e3]
  rw [h, V5, packed0_apply, pack, dif_pos (show 2048 + k.val < 3072 by omega)]
theorem b4 (y : Fin 512) (j : Fin 128) : iblk m c 4 t (ix2 y j) = (if h : j.val < 16 then A0 m c (ix2 (rowT t y) ⟨3072 + j.val, by omega⟩) else 0 : EReal) := by
  have h : iblk m c 4 t (ix2 y j) = V m c main_v5 (ix2 (rowT t y) ⟨8192 + j.val, by omega⟩) := by
    obtain ⟨e0, e1, e2, e3, e4, e5, e6, e8, e9, e10, e11⟩ := idx t; blk_ext [iblk, rowT, e4]
  rw [h, V5, packed0_apply, pack, dif_neg (show ¬8192 + j.val < 3072 by omega), dif_neg (show ¬8192 + j.val < 8192 by omega)]
  by_cases hj : j.val < 16
  · rw [dif_pos (show 8192 + j.val < 8208 by omega), dif_pos hj]
    exact congrArg (fun k => A0 m c (ix2 (rowT t y) k)) (Fin.ext (show 8192 + j.val - 5120 = 3072 + j.val by omega))
  · rw [dif_neg (show ¬8192 + j.val < 8208 by omega), dif_neg hj]
theorem b5 (y : Fin 512) (k : Fin 1024) : iblk m c 5 t (ix2 y k) = A1 m c (ix2 (rowT t y) k) := by
  refine Eq.trans ?_ (V302 m c (rowT t y) k)
  obtain ⟨e0, e1, e2, e3, e4, e5, e6, e8, e9, e10, e11⟩ := idx t; blk_ext [iblk, rowT, e5]
theorem b6 (i : Fin 8) (y : Fin 256) (h : Fin 4) (κ : Fin 128) :
    iblk m c 6 t (ix3 i y (hk h κ)) = st (A0 m c) (A2 m c) (A3 m c) h κ y (8 * (7 - t.val) + i.val + 1) := by
  refine Eq.trans ?_ ((V301 m c ⟨(7 - t.val) * 8 + i.val, by omega⟩ y h κ).trans (congrArg (st (A0 m c) (A2 m c) (A3 m c) h κ y)
    (show (7 - t.val) * 8 + i.val + 1 = 8 * (7 - t.val) + i.val + 1 by omega)))
  obtain ⟨e0, e1, e2, e3, e4, e5, e6, e8, e9, e10, e11⟩ := idx t; blk_ext [iblk, e6]
theorem b8 (j : Fin 128) (κ : Fin 512) : iblk m c 8 t (ix2 j κ) = V m c main_v7 (ix2 j κ) := by
  obtain ⟨e0, e1, e2, e3, e4, e5, e6, e8, e9, e10, e11⟩ := idx t; blk_ext [iblk, e8]
theorem b9 (κ : Fin 512) : iblk m c 9 t (ix2 0 κ) = A3 m c (ix1 κ) := by
  refine Eq.trans ?_ (V8 m c κ)
  obtain ⟨e0, e1, e2, e3, e4, e5, e6, e8, e9, e10, e11⟩ := idx t; blk_ext [iblk, e9]
theorem b10 (κ : Fin 256) : iblk m c 10 t (ix2 0 κ) = A4 m c (ix1 κ) := by
  refine Eq.trans ?_ (V9 m c κ)
  obtain ⟨e0, e1, e2, e3, e4, e5, e6, e8, e9, e10, e11⟩ := idx t; blk_ext [iblk, e10]

/-- The gate's block and its weights, as numbers. -/
abbrev B4 : S512x128.Idx → EReal := iblk m c 4 t
abbrev B8 : S128x512.Idx → EReal := iblk m c 8 t
/-- The decays of the block's rows. -/
theorem laB_apply (y : Fin 512) (κ : Fin 512) : laB m c t (ix2 y κ) = lsig (fg (A0 m c) (A2 m c) (A3 m c) (rowT t y) κ) := by
  unfold laB
  rw [pay11_apply, b9]
  refine congrArg (fun z : EReal => lsig (z + A3 m c (ix1 κ))) ?_
  refine (Fin.sum_univ_add (a := 16) (b := 112) (fun j : Fin 128 => (B4 m c t (ix2 y j)) * B8 m c t (ix2 j κ))).trans ?_
  refine (congrArg₂ (· + ·) (Finset.sum_congr rfl fun j _ => ?_) (Finset.sum_eq_zero fun j _ => ?_)).trans (add_zero _)
  · exact congrArg₂ (fun a b : EReal => a * b) ((b4 m c t y _).trans (dif_pos j.isLt)) (((b8 m c t _ κ).trans (V7 m c _ κ)).trans (dif_pos j.isLt))
  · have h : B4 m c t (ix2 y (Fin.natAdd 16 j)) = 0 := (b4 m c t y _).trans (dif_neg (show ¬(Fin.natAdd 16 j).val < 16 by rw [Fin.val_natAdd]; omega))
    rw [h]
    exact zero_mul (_ : EReal)
end Cert.GlaBK
-- ==== Proof.GlaBCarA.lean ====
/- The carried cotangents of the first block. -/
module
public import proofs.«01_k».proof.Proof.GlaBBlock
@[expose] public section
set_option maxRecDepth 65536
noncomputable section
namespace Cert.GlaBK
open Idealize.ShloMosaic Idealize.ShloMosaic.TcCoe Idealize.SL.Sem
open Cert.GlaBwdIdeal Cert.GlaBwdIdeal.Gen
variable (m : (ℓ : Loc nD τ sig) → Buf (Elt Ideal) ℓ) (c : Dev nD) (t : Fin cfg0.N)
set_option maxHeartbeats 4000000 in
theorem carry_A (h0 : t.val % 8 = 0) : ∃ L, (outsAt0 m c t.val t.isLt).2.2.2.2.2 = View.canon (tiles m c t (k0_pay4 (F := Ideal)) 8 ++ L) := by
  rw [outsAt0_A m c t h0]
  frame_open
  simp (disch := decide) only [↓ View.readCov_skip, ↓ View.readCov_cons_toLoadRect, ↓ View.readCov_fill]
  frame_out
  exact ⟨_, rfl⟩
end Cert.GlaBK
-- ==== Proof.GlaBCarB.lean ====
/- The carried cotangents of a later block. -/
module
public import proofs.«01_k».proof.Proof.GlaBBlock
@[expose] public section
set_option maxRecDepth 65536
noncomputable section
namespace Cert.GlaBK
open Idealize.ShloMosaic Idealize.ShloMosaic.TcCoe Idealize.SL.Sem
open Cert.GlaBwdIdeal Cert.GlaBwdIdeal.Gen
variable (m : (ℓ : Loc nD τ sig) → Buf (Elt Ideal) ℓ) (c : Dev nD) (t : Fin cfg0.N)
set_option maxHeartbeats 4000000 in
theorem carry_B (h0 : ¬t.val % 8 = 0) : ∃ L, (outsAt0 m c t.val t.isLt).2.2.2.2.2 = View.canon (tiles m c t (prev m c t) 8 ++ L) := by
  rw [outsAt0_B m c t h0]
  frame_open
  simp (disch := decide) only [↓ View.readCov_skip, ↓ View.readCov_cons_toLoadRect, ↓ View.readCov_fill]
  frame_out
  simp only [read_unread_whole]
  exact ⟨_, rfl⟩
end Cert.GlaBK
-- ==== Proof.GlaBOutA.lean ====
/- What the first block stores of the result. -/
module
public import proofs.«01_k».proof.Proof.GlaBBlock
@[expose] public section
set_option maxRecDepth 65536
noncomputable section
namespace Cert.GlaBK
open Idealize.ShloMosaic Idealize.ShloMosaic.TcCoe Idealize.SL.Sem
open Cert.GlaBwdIdeal Cert.GlaBwdIdeal.Gen
variable (m : (ℓ : Loc nD τ sig) → Buf (Elt Ideal) ℓ) (c : Dev nD) (t : Fin cfg0.N)
set_option maxHeartbeats 4000000 in
theorem out_A (h0 : t.val % 8 = 0) : (outsAt0 m c t.val t.isLt).1 = View.canon (pP m c t (k0_pay4 (F := Ideal)) 8) := by
  rw [outsAt0_A m c t h0]
  frame_open
  simp (disch := decide) only [↓ View.readCov_skip, ↓ View.readCov_cons_toLoadRect, ↓ View.readCov_fill]
  frame_out
  rfl
end Cert.GlaBK
-- ==== Proof.GlaBOutB.lean ====
/- What a later block stores of the result. -/
module
public import proofs.«01_k».proof.Proof.GlaBBlock
@[expose] public section
set_option maxRecDepth 65536
noncomputable section
namespace Cert.GlaBK
open Idealize.ShloMosaic Idealize.ShloMosaic.TcCoe Idealize.SL.Sem
open Cert.GlaBwdIdeal Cert.GlaBwdIdeal.Gen
variable (m : (ℓ : Loc nD τ sig) → Buf (Elt Ideal) ℓ) (c : Dev nD) (t : Fin cfg0.N)
set_option maxHeartbeats 4000000 in
theorem out_B (h0 : ¬t.val % 8 = 0) : (outsAt0 m c t.val t.isLt).1 = View.canon (pP m c t (prev m c t) 8) := by
  rw [outsAt0_B m c t h0]
  frame_open
  simp (disch := decide) only [↓ View.readCov_skip, ↓ View.readCov_cons_toLoadRect, ↓ View.readCov_fill]
  frame_out
  simp only [read_unread_whole]
  rfl
end Cert.GlaBK
-- ==== Proof.GlaBPoint.lean ====
/- The backward call of gated linear attention: what a block of rows stores, entry by entry, and the cotangent it carries on. -/
module
public import proofs.«01_k».proof.Proof.GlaBHost
public import proofs.«01_k».proof.Proof.GlaBCarA
public import proofs.«01_k».proof.Proof.GlaBCarB
public import proofs.«01_k».proof.Proof.GlaBOutA
public import proofs.«01_k».proof.Proof.GlaBOutB
@[expose] public section
set_option maxRecDepth 16384
noncomputable section
namespace Cert.GlaBK
open Idealize.ShloMosaic Idealize.ShloMosaic.TcCoe Idealize.SL.Sem
open Cert.GlaBwdIdeal Cert.GlaBwdIdeal.Gen Cert.GlaB
open Cert.Gla (cum hk hv row row_val lac lsig fg kd gam vv qq st oo)
variable (m : (ℓ : Loc nD τ sig) → Buf (Elt Ideal) ℓ) (c : Dev nD) (t : Fin cfg0.N)

/-- The norm's weights and the incoming gradient, as functions. -/
abbrev gf : Fin 256 → EReal := fun v => A4 m c (ix1 v)
abbrev df : Fin 4096 → Fin 1024 → EReal := fun a k => A1 m c (ix2 a k)

/-! ## The chunks of a block -/

/-- Row `l` of chunk `i` in a block. -/
def cr (i : Fin 8) (l : Fin 64) : Fin 512 := ⟨64 * i.val + l.val, by omega⟩
/-- The number of chunk `i` of the block. -/
def nb (i : Fin 8) : ℕ := 8 * (7 - t.val) + i.val
theorem cr_surj (a : Fin 512) : ∃ i l, a = cr i l :=
  ⟨⟨a.val / 64, by omega⟩, ⟨a.val % 64, by omega⟩, Fin.ext (show a.val = 64 * (a.val / 64) + a.val % 64 by omega)⟩
theorem hk_surj (k : Fin 512) : ∃ h κ, k = hk h κ :=
  ⟨⟨k.val / 128, by omega⟩, ⟨k.val % 128, by omega⟩, Fin.ext (show k.val = k.val / 128 * 128 + k.val % 128 by omega)⟩
theorem ck_apply {e : EltTy} (x : Vec Ideal S512x512 e) (i : Fin 8) (l : Fin 64) (κ : Fin 512) : ck x i (ix2 l κ) = x (ix2 (cr i l) κ) :=
  congrArg x (funext fun a => match a with
    | ⟨0, _⟩ => Fin.ext (show 64 * i.val + 1 * l.val = 64 * i.val + l.val by omega)
    | ⟨1, _⟩ => Fin.ext (show 0 + 1 * κ.val = κ.val by omega))
theorem cv_apply {e : EltTy} (x : Vec Ideal S512x1024 e) (i : Fin 8) (l : Fin 64) (κ : Fin 1024) : cv x i (ix2 l κ) = x (ix2 (cr i l) κ) :=
  congrArg x (funext fun a => match a with
    | ⟨0, _⟩ => Fin.ext (show 64 * i.val + 1 * l.val = 64 * i.val + l.val by omega)
    | ⟨1, _⟩ => Fin.ext (show 0 + 1 * κ.val = κ.val by omega))
theorem ch_apply {e : EltTy} (x : Vec Ideal S512x1024 e) (h : Fin 4) (y : Fin 512) (κ : Fin 256) : ch x h (ix2 y κ) = x (ix2 y (hv h κ)) :=
  congrArg x (funext fun a => match a with
    | ⟨0, _⟩ => Fin.ext (show 0 + 1 * y.val = y.val by omega)
    | ⟨1, _⟩ => Fin.ext (show 256 * h.val + 1 * κ.val = h.val * 256 + κ.val by omega))
theorem cs_apply (s : Vec Ideal S256x512 .f32) (h : Fin 4) (y : Fin 256) (κ : Fin 128) : cs s h (ix2 y κ) = s (ix2 y (hk h κ)) :=
  congrArg s (funext fun a => match a with
    | ⟨0, _⟩ => Fin.ext (show 0 + 1 * y.val = y.val by omega)
    | ⟨1, _⟩ => Fin.ext (show 128 * h.val + 1 * κ.val = h.val * 128 + κ.val by omega))
theorem sc_apply (i : Fin 8) (y : Fin 256) (h : Fin 4) (κ : Fin 128) :
    sc m c t i (ix3 0 y (hk h κ)) = st (A0 m c) (A2 m c) (A3 m c) h κ y (nb t i + 1) :=
  Eq.trans (congrArg (iblk m c 6 t) (funext fun a => match a with
    | ⟨0, _⟩ => Fin.ext (show i.val + 1 * 0 = i.val by omega)
    | ⟨1, _⟩ => Fin.ext (show 0 + 1 * y.val = y.val by omega)
    | ⟨2, _⟩ => Fin.ext (show 0 + 1 * (hk h κ).val = (hk h κ).val by omega) : _ = ix3 i y (hk h κ))) (b6 m c t i y h κ)
theorem rowT_cr (i : Fin 8) (l : Fin 64) : rowT t (cr i l) = row (nb t i) l := by
  refine Fin.ext ((show (7 - t.val) * 512 + (64 * i.val + l.val) = 64 * (8 * (7 - t.val) + i.val) + l.val by omega).trans (row_val _ (by omega) l).symm)
theorem la_chunk (i : Fin 8) (h : Fin 4) (κ : Fin 128) :
    (fun x => ck (laB m c t) i (ix2 x (hk h κ))) = lac (A0 m c) (A2 m c) (A3 m c) (nb t i) h κ := funext fun x => by
  rw [ck_apply, laB_apply, rowT_cr]; rfl
theorem k_chunk (i : Fin 8) (h : Fin 4) (κ : Fin 128) (x : Fin 64) :
    ck (X0_1 m c t) i (ix2 x (hk h κ)) = A0 m c (ix2 (row (nb t i) x) (⟨512 + (h.val * 128 + κ.val), by omega⟩ : Fin 8208)) := by
  rw [ck_apply, b1, rowT_cr]; rfl
theorem q_chunk (i : Fin 8) (h : Fin 4) (κ : Fin 128) (x : Fin 64) :
    q8 m c t i (ix2 x (hk h κ)) = A0 m c (ix2 (row (nb t i) x) (⟨h.val * 128 + κ.val, by omega⟩ : Fin 8208)) := by
  unfold q8
  rw [ck_apply, b0, rowT_cr]
  exact congrArg (fun k => A0 m c (ix2 (row (nb t i) x) k)) (Fin.ext (Nat.zero_add _))
theorem v_chunk (i : Fin 8) (h : Fin 4) (y : Fin 256) (x : Fin 64) :
    cv (X0_2 m c t) i (ix2 x (hv h y)) = vv (A0 m c) (nb t i) h y x := by
  rw [cv_apply, b2, rowT_cr]; rfl

/-! ## What the queries read, and its gradient -/

/-- Value `k` of the 1024 at row `a` of the block. -/
def ooC (a : Fin 512) (k : Fin 1024) : EReal :=
  oo (A0 m c) (A2 m c) (A3 m c) (8 * (7 - t.val) + a.val / 64) ⟨k.val / 256, by omega⟩ ⟨a.val % 64, by omega⟩ ⟨k.val % 256, by omega⟩
def DOC (a : Fin 512) (k : Fin 1024) : EReal :=
  DO (A0 m c) (A2 m c) (A3 m c) (gf m c) (df m c) (8 * (7 - t.val) + a.val / 64) ⟨k.val / 256, by omega⟩ ⟨a.val % 64, by omega⟩ ⟨k.val % 256, by omega⟩
theorem cr_div (i : Fin 8) (l : Fin 64) : (cr i l).val / 64 = i.val := show (64 * i.val + l.val) / 64 = i.val by omega
theorem cr_mod (i : Fin 8) (l : Fin 64) : (⟨(cr i l).val % 64, by omega⟩ : Fin 64) = l := Fin.ext (show (64 * i.val + l.val) % 64 = l.val by omega)
theorem hv_div (h : Fin 4) (y : Fin 256) : (⟨(hv h y).val / 256, by omega⟩ : Fin 4) = h := Fin.ext (show (h.val * 256 + y.val) / 256 = h.val by omega)
theorem hv_mod (h : Fin 4) (y : Fin 256) : (⟨(hv h y).val % 256, by omega⟩ : Fin 256) = y := Fin.ext (show (h.val * 256 + y.val) % 256 = y.val by omega)
theorem ooC_cr (i : Fin 8) (h : Fin 4) (l : Fin 64) (y : Fin 256) : ooC m c t (cr i l) (hv h y) = oo (A0 m c) (A2 m c) (A3 m c) (nb t i) h l y := by
  unfold ooC
  rw [hv_div, hv_mod, cr_div, cr_mod]; rfl
theorem DOC_cr (i : Fin 8) (h : Fin 4) (l : Fin 64) (y : Fin 256) :
    DOC m c t (cr i l) (hv h y) = DO (A0 m c) (A2 m c) (A3 m c) (gf m c) (df m c) (nb t i) h l y := by
  unfold DOC
  rw [hv_div, hv_mod, cr_div, cr_mod]; rfl
theorem embO (h : Fin 4) (i : Fin 8) (l : Fin 64) (y : Fin 256) :
    (Rect.unit (s := S512x1024) ![64 * i.val, 256 * h.val] ![64, 256] (inbO h i)).emb (ix2 l y) = ix2 (cr i l) (hv h y) :=
  funext fun a => match a with
    | ⟨0, _⟩ => Fin.ext (show 64 * i.val + 1 * l.val = 64 * i.val + l.val by omega)
    | ⟨1, _⟩ => Fin.ext (show 256 * h.val + 1 * y.val = h.val * 256 + y.val by omega)
theorem embH (h : Fin 4) (y : Fin 512) (κ : Fin 256) : (Rect.unit (s := S512x1024) ![0, 256 * h.val] ![512, 256] (inbH h)).emb (ix2 y κ) = ix2 y (hv h κ) :=
  funext fun a => match a with
    | ⟨0, _⟩ => Fin.ext (show 0 + 1 * y.val = y.val by omega)
    | ⟨1, _⟩ => Fin.ext (show 256 * h.val + 1 * κ.val = h.val * 256 + κ.val by omega)
theorem piece_o (i : Fin 8) (h : Fin 4) (f : FVec Ideal S64x256 .f32)
    (hf : ∀ l y, f (ix2 l y) = ∑ x : Fin 128, q8 m c t i (ix2 l (hk h x)) * Ideal.ofBits .f32 0x3DB504F3#32 * sc m c t i (ix3 0 y (hk h x))) (x : S64x256.Idx) :
    f x = (fun j : S512x1024.Idx => ooC m c t (j 0) (j 1)) ((Rect.unit (s := S512x1024) ![64 * i.val, 256 * h.val] ![64, 256] (inbO h i)).emb x) := by
  idx_vars x
  rw [embO]
  refine Eq.trans ?_ (ooC_cr m c t i h x0 x1).symm
  rw [hf]
  refine Finset.sum_congr rfl fun κ _ => ?_
  rw [sc_apply, q_chunk]
  rfl
theorem oP_eq : (n : ℕ) → (hn : n ≤ 8) → ∀ p ∈ oP m c t n hn, ∀ x, p.2 x = (fun j : S512x1024.Idx => ooC m c t (j 0) (j 1)) (p.1.emb x)
  | 0, _ => fun p hp => absurd hp (List.not_mem_nil)
  | n + 1, hn => fun p hp x => by
    rcases List.mem_append.1 hp with hp | hp
    · simp only [List.mem_cons, List.not_mem_nil, or_false] at hp
      rcases hp with rfl | rfl | rfl | rfl
      · exact piece_o m c t ⟨n, hn⟩ 3 _ (fun l y => oH_pay 3 _ _ l y) x
      · exact piece_o m c t ⟨n, hn⟩ 2 _ (fun l y => oH_pay 2 _ _ l y) x
      · exact piece_o m c t ⟨n, hn⟩ 1 _ (fun l y => oH_pay 1 _ _ l y) x
      · exact piece_o m c t ⟨n, hn⟩ 0 _ (fun l y => oH_pay 0 _ _ l y) x
    · exact oP_eq n (Nat.le_of_succ_le hn) p hp x
theorem oP_mem (a : Fin 512) (k : Fin 1024) : (n : ℕ) → (hn : n ≤ 8) → a.val / 64 < n → ∃ p ∈ oP m c t n hn, ix2 a k ∈ p.1.set
  | 0, _ => fun h => absurd h (Nat.not_lt_zero _)
  | n + 1, hn => fun hi => by
    by_cases h : a.val / 64 < n
    · obtain ⟨p, hp, hm⟩ := oP_mem a k n (Nat.le_of_succ_le hn) h
      exact ⟨p, List.mem_append_right _ hp, hm⟩
    · have mem : ∀ h : Fin 4, k.val / 256 = h.val → ix2 a k ∈ (Rect.unit (s := S512x1024) ![64 * (⟨n, hn⟩ : Fin 8).val, 256 * h.val] ![64, 256] (inbO h ⟨n, hn⟩)).set := fun h hh => by
        rw [Rect.mem_set_unit]
        exact fun x => match x with
          | ⟨0, _⟩ => (show 64 * n ≤ a.val ∧ a.val < 64 * n + 64 by omega)
          | ⟨1, _⟩ => (show 256 * h.val ≤ k.val ∧ k.val < 256 * h.val + 256 by omega)
      have hk4 : k.val / 256 = 0 ∨ k.val / 256 = 1 ∨ k.val / 256 = 2 ∨ k.val / 256 = 3 := by omega
      rcases hk4 with h | h | h | h
      · exact ⟨_, List.mem_append_left _ (List.mem_cons_of_mem _ (List.mem_cons_of_mem _ (List.mem_cons_of_mem _ (List.mem_cons_self ..)))), mem 0 h⟩
      · exact ⟨_, List.mem_append_left _ (List.mem_cons_of_mem _ (List.mem_cons_of_mem _ (List.mem_cons_self ..))), mem 1 h⟩
      · exact ⟨_, List.mem_append_left _ (List.mem_cons_of_mem _ (List.mem_cons_self ..)), mem 2 h⟩
      · exact ⟨_, List.mem_append_left _ (List.mem_cons_self ..), mem 3 h⟩
/-- A head's readings are among the pieces stored when it is read back. -/
theorem oP_drop (a : Fin 512) (y : Fin 256) (n : ℕ) (hn : n + 1 ≤ 8) (ha : a.val / 64 ≤ n) (h : Fin 4) :
    ∃ p ∈ (oP m c t (n + 1) hn).drop (3 - h.val), ix2 a (hv h y) ∈ p.1.set := by
  by_cases hl : a.val / 64 < n
  · obtain ⟨p, hp, hm⟩ := oP_mem m c t a (hv h y) n (Nat.le_of_succ_le hn) hl
    refine ⟨p, ?_, hm⟩
    unfold oP
    rw [List.drop_append_of_le_length (by simp only [List.length_cons, List.length_nil]; omega)]
    exact List.mem_append_right _ hp
  · have mem : ix2 a (hv h y) ∈ (Rect.unit (s := S512x1024) ![64 * (⟨n, hn⟩ : Fin 8).val, 256 * h.val] ![64, 256] (inbO h ⟨n, hn⟩)).set := by
      rw [Rect.mem_set_unit]
      exact fun x => match x with
        | ⟨0, _⟩ => (show 64 * n ≤ a.val ∧ a.val < 64 * n + 64 by omega)
        | ⟨1, _⟩ => (show 256 * h.val ≤ h.val * 256 + y.val ∧ h.val * 256 + y.val < 256 * h.val + 256 by omega)
    match h, mem with
    | 0, mem => exact ⟨_, List.mem_cons_self .., mem⟩
    | 1, mem => exact ⟨_, List.mem_cons_self .., mem⟩
    | 2, mem => exact ⟨_, List.mem_cons_self .., mem⟩
    | 3, mem => exact ⟨_, List.mem_cons_self .., mem⟩
theorem oH_apply (h : Fin 4) (i : Fin 8) (l : Fin 64) (y : Fin 256) : oH m c t h (ix2 (cr i l) y) = oo (A0 m c) (A2 m c) (A3 m c) (nb t i) h l y := by
  unfold oH
  rw [View.readCov_eq_canon']
  refine (congrArg _ (embH h (cr i l) y)).trans (Eq.trans ?_ (ooC_cr m c t i h l y))
  exact View.canon_apply_of_pieces (fun j : S512x1024.Idx => ooC m c t (j 0) (j 1)) _ (fun p hp => oP_eq m c t 8 (le_refl 8) p (List.mem_of_mem_drop hp)) (ix2 (cr i l) (hv h y))
    (oP_drop m c t (cr i l) y 7 (le_refl 8) (by omega) h)
theorem gB_apply : (fun x => gB m c t (ix2 0 x)) = gf m c := funext fun x => by
  unfold gB
  rw [pay66_apply, b10]
theorem r_chunk (h : Fin 4) (i : Fin 8) (l : Fin 64) : (fun x => ch (X0_3 m c t) h (ix2 (cr i l) x)) = rr (A0 m c) (nb t i) h l := funext fun x => by
  rw [ch_apply, b3, rowT_cr]; rfl
theorem d_chunk (h : Fin 4) (i : Fin 8) (l : Fin 64) : (fun x => ch (iblk m c 5 t) h (ix2 (cr i l) x)) = dd (df m c) (nb t i) h l := funext fun x => by
  rw [ch_apply, b5, rowT_cr]; rfl
theorem o_chunk (h : Fin 4) (i : Fin 8) (l : Fin 64) : (fun x => oH m c t h (ix2 (cr i l) x)) = oo (A0 m c) (A2 m c) (A3 m c) (nb t i) h l :=
  funext fun x => oH_apply m c t h i l x
theorem do_cr (h : Fin 4) (i : Fin 8) (l : Fin 64) (y : Fin 256) :
    doH h (gB m c t) (oH m c t h) (ch (X0_3 m c t) h) (ch (iblk m c 5 t) h) (ix2 (cr i l) y)
      = DO (A0 m c) (A2 m c) (A3 m c) (gf m c) (df m c) (nb t i) h l y := by
  rw [doH_apply, gB_apply, r_chunk, d_chunk, o_chunk]; rfl
theorem dr_cr (h : Fin 4) (i : Fin 8) (l : Fin 64) (y : Fin 256) :
    drH h (gB m c t) (oH m c t h) (ch (X0_3 m c t) h) (ch (iblk m c 5 t) h) (ix2 (cr i l) y)
      = DR (A0 m c) (A2 m c) (A3 m c) (gf m c) (df m c) (nb t i) h l y := by
  rw [drH_apply, gB_apply, r_chunk, d_chunk, o_chunk]; rfl
theorem piece_do (h : Fin 4) (x : S512x256.Idx) :
    doH h (gB m c t) (oH m c t h) (ch (X0_3 m c t) h) (ch (iblk m c 5 t) h) x
    = (fun j : S512x1024.Idx => DOC m c t (j 0) (j 1)) ((Rect.unit (s := S512x1024) ![0, 256 * h.val] ![512, 256] (inbH h)).emb x) := by
  idx_vars x
  rw [embH]
  obtain ⟨i, l, rfl⟩ := cr_surj x0
  exact (do_cr m c t h i l x1).trans (DOC_cr m c t i h l x1).symm
theorem doP_canon (a : Fin 512) (k : Fin 1024) : View.canon (doP m c t) (ix2 a k) = DOC m c t a k := by
  refine View.canon_apply_of_pieces (Val := Elt Ideal) (e := .bf16) (fun j : S512x1024.Idx => DOC m c t (j 0) (j 1)) _ ?_ (ix2 a k) ?_
  · intro p hp x
    simp only [doP, List.mem_cons, List.not_mem_nil, or_false] at hp
    rcases hp with rfl | rfl | rfl | rfl
    · exact piece_do m c t 3 x
    · exact piece_do m c t 2 x
    · exact piece_do m c t 1 x
    · exact piece_do m c t 0 x
  · have mem : ∀ h : Fin 4, k.val / 256 = h.val → ix2 a k ∈ (Rect.unit (s := S512x1024) ![0, 256 * h.val] ![512, 256] (inbH h)).set := fun h hh => by
      rw [Rect.mem_set_unit]
      exact fun x => match x with
        | ⟨0, _⟩ => (show 0 ≤ a.val ∧ a.val < 0 + 512 by omega)
        | ⟨1, _⟩ => (show 256 * h.val ≤ k.val ∧ k.val < 256 * h.val + 256 by omega)
    have hk4 : k.val / 256 = 0 ∨ k.val / 256 = 1 ∨ k.val / 256 = 2 ∨ k.val / 256 = 3 := by omega
    rcases hk4 with h | h | h | h
    · exact ⟨_, (List.mem_cons_of_mem _ (List.mem_cons_of_mem _ (List.mem_cons_of_mem _ (List.mem_cons_self ..)))), mem 0 h⟩
    · exact ⟨_, (List.mem_cons_of_mem _ (List.mem_cons_of_mem _ (List.mem_cons_self ..))), mem 1 h⟩
    · exact ⟨_, (List.mem_cons_of_mem _ (List.mem_cons_self ..)), mem 2 h⟩
    · exact ⟨_, (List.mem_cons_self ..), mem 3 h⟩
theorem D8_apply (i : Fin 8) (l : Fin 64) (h : Fin 4) (y : Fin 256) :
    D8 m c t i (ix2 l (hv h y)) = DO (A0 m c) (A2 m c) (A3 m c) (gf m c) (df m c) (nb t i) h l y := by
  unfold D8
  rw [View.readCov_eq_canon']
  refine Eq.trans (congrArg _ (funext fun a => match a with
    | ⟨0, _⟩ => Fin.ext (show 64 * i.val + 1 * l.val = 64 * i.val + l.val by omega)
    | ⟨1, _⟩ => Fin.ext (show 0 + 1 * (hv h y).val = (hv h y).val by omega) : _ = ix2 (cr i l) (hv h y))) ?_
  exact (doP_canon m c t _ _).trans (DOC_cr m c t i h l y)

/-! ## The carried cotangent -/

/-- The cotangent of a key of the 512 and a value, after `n` chunks. -/
def cC (y : Fin 256) (k : Fin 512) (n : ℕ) : EReal :=
  carry (A0 m c) (A2 m c) (A3 m c) (gf m c) (df m c) ⟨k.val / 128, by omega⟩ ⟨k.val % 128, by omega⟩ y n
theorem cC_hk (h : Fin 4) (κ : Fin 128) (y : Fin 256) (n : ℕ) : cC m c y (hk h κ) n = carry (A0 m c) (A2 m c) (A3 m c) (gf m c) (df m c) h κ y n := by
  have h1 : (⟨(hk h κ).val / 128, by omega⟩ : Fin 4) = h := Fin.ext (show (h.val * 128 + κ.val) / 128 = h.val by omega)
  have h2 : (⟨(hk h κ).val % 128, by omega⟩ : Fin 128) = κ := Fin.ext (show (h.val * 128 + κ.val) % 128 = κ.val by omega)
  unfold cC
  rw [h1, h2]
/-- What is carried is the cotangent past the chunks after the block's. -/
def Carried (s : Vec Ideal S256x512 .f32) : Prop := ∀ (y : Fin 256) (k : Fin 512), s (ix2 y k) = cC m c y k (8 * t.val)
theorem nb_rv (n : ℕ) (hn : n < 8) : nb t (rv n) = 63 - (8 * t.val + n) := by
  have := lt_of_lt_of_eq t.isLt N_0
  show 8 * (7 - t.val) + (7 - n) = _
  omega
theorem ad_apply (i : Fin 8) (h : Fin 4) (y : Fin 256) (κ : Fin 128) (u : Vec Ideal S256x128 .f32) :
    ad (q8 m c t i) (D8 m c t i) u h y κ = add (A0 m c) (A2 m c) (A3 m c) (gf m c) (df m c) (nb t i) h κ y + u (ix2 y κ) := by
  unfold ad adE
  refine congrArg (fun a : EReal => a + u (ix2 y κ)) (Finset.sum_congr rfl fun l _ => ?_)
  dsimp only
  rw [D8_apply, q_chunk]
  rfl

variable (s : Vec Ideal S256x512 .f32) (hs : Carried m c t s)
include hs
theorem iter_apply (h : Fin 4) (y : Fin 256) (κ : Fin 128) : (n : ℕ) → (hn : n ≤ 8) →
    iter m c t (stpH h) (cs s h) n (ix2 y κ) = carry (A0 m c) (A2 m c) (A3 m c) (gf m c) (df m c) h κ y (8 * t.val + n)
  | 0, _ => (cs_apply s h y κ).trans ((hs y (hk h κ)).trans (cC_hk m c h κ y _))
  | n + 1, hn => by
    refine (stpH_apply (ck (laB m c t) (rv n)) (q8 m c t (rv n)) (D8 m c t (rv n)) (iter m c t (stpH h) (cs s h) n) h y κ).trans ?_
    rw [ad_apply, la_chunk, iter_apply h y κ n (Nat.le_of_succ_le hn), nb_rv t n hn]
    rfl
/-- The gradient of the state after a chunk. -/
theorem dst_apply (h : Fin 4) (y : Fin 256) (κ : Fin 128) (n : ℕ) (hn : n < 8) :
    ad (q8 m c t (rv n)) (D8 m c t (rv n)) (iter m c t (stpH h) (cs s h) n) h y κ
      = dst (A0 m c) (A2 m c) (A3 m c) (gf m c) (df m c) (nb t (rv n)) h κ y := by
  have hN := lt_of_lt_of_eq t.isLt N_0
  rw [ad_apply, iter_apply m c t s hs h y κ n (Nat.le_of_lt hn)]
  unfold dst
  rw [nb_rv t n hn, show 63 - (63 - (8 * t.val + n)) = 8 * t.val + n by omega]

omit hs in
theorem embT (h : Fin 4) (y : Fin 256) (κ : Fin 128) : (Rect.unit (s := S256x512) ![0, 128 * h.val] ![256, 128] (inbT h)).emb (ix2 y κ) = ix2 y (hk h κ) :=
  funext fun a => match a with
    | ⟨0, _⟩ => Fin.ext (show 0 + 1 * y.val = y.val by omega)
    | ⟨1, _⟩ => Fin.ext (show 128 * h.val + 1 * κ.val = h.val * 128 + κ.val by omega)
theorem tiles_eq (n : ℕ) (hn : n ≤ 8) (L : List (View.Piece (Elt Ideal) S256x512 .f32)) (y : Fin 256) (k : Fin 512) :
    View.canon (tiles m c t s n ++ L) (ix2 y k) = cC m c y k (8 * t.val + n) := by
  refine View.canon_append_of_pieces (fun i => cC m c (i 0) (i 1) (8 * t.val + n)) L (tiles m c t s n) ?_ (ix2 y k) ?_
  · have key : ∀ (h : Fin 4) (x : S256x128.Idx), iter m c t (stpH h) (cs s h) n x
        = (fun i : S256x512.Idx => cC m c (i 0) (i 1) (8 * t.val + n)) ((Rect.unit (s := S256x512) ![0, 128 * h.val] ![256, 128] (inbT h)).emb x) := fun h x => by
      idx_vars x
      rw [embT, iter_apply m c t s hs h x0 x1 n hn]
      exact (cC_hk m c h x1 x0 _).symm
    intro p hp x
    simp only [tiles, List.mem_cons, List.not_mem_nil, or_false] at hp
    rcases hp with rfl | rfl | rfl | rfl
    · exact key 3 x
    · exact key 2 x
    · exact key 1 x
    · exact key 0 x
  · have mem : ∀ h : Fin 4, k.val / 128 = h.val → ix2 y k ∈ (Rect.unit (s := S256x512) ![0, 128 * h.val] ![256, 128] (inbT h)).set := fun h hh => by
      rw [Rect.mem_set_unit]
      exact fun a => match a with
        | ⟨0, _⟩ => (show 0 ≤ y.val ∧ y.val < 0 + 256 by omega)
        | ⟨1, _⟩ => (show 128 * h.val ≤ k.val ∧ k.val < 128 * h.val + 128 by omega)
    have hk4 : k.val / 128 = 0 ∨ k.val / 128 = 1 ∨ k.val / 128 = 2 ∨ k.val / 128 = 3 := by omega
    rcases hk4 with h | h | h | h
    · exact ⟨_, (List.mem_cons_of_mem _ (List.mem_cons_of_mem _ (List.mem_cons_of_mem _ (List.mem_cons_self ..)))), mem 0 h⟩
    · exact ⟨_, (List.mem_cons_of_mem _ (List.mem_cons_of_mem _ (List.mem_cons_self ..))), mem 1 h⟩
    · exact ⟨_, (List.mem_cons_of_mem _ (List.mem_cons_self ..)), mem 2 h⟩
    · exact ⟨_, (List.mem_cons_self ..), mem 3 h⟩
omit hs

/-! ## The stored gradients -/

/-- The columns of a query's, a key's and a value's gradient and of the gate's. -/
def cq (h : Fin 4) (κ : Fin 128) : Fin 3072 := ⟨h.val * 128 + κ.val, by omega⟩
def cK (h : Fin 4) (κ : Fin 128) : Fin 3072 := ⟨512 + (h.val * 128 + κ.val), by omega⟩
def cV (h : Fin 4) (y : Fin 256) : Fin 3072 := ⟨1024 + (h.val * 256 + y.val), by omega⟩
def cR (h : Fin 4) (y : Fin 256) : Fin 3072 := ⟨2048 + (h.val * 256 + y.val), by omega⟩
/-- The gradient of the branch's projections in row `l` of chunk `n`. -/
def GT (n : ℕ) (l : Fin 64) (k : Fin 3072) : EReal :=
  if h1 : k.val < 512 then DQ (A0 m c) (A2 m c) (A3 m c) (gf m c) (df m c) n ⟨k.val / 128, by omega⟩ l ⟨k.val % 128, by omega⟩
  else if h2 : k.val < 1024 then DK (A0 m c) (A2 m c) (A3 m c) (gf m c) (df m c) n ⟨(k.val - 512) / 128, by omega⟩ l ⟨(k.val - 512) % 128, by omega⟩
  else if h3 : k.val < 2048 then DV (A0 m c) (A2 m c) (A3 m c) (gf m c) (df m c) n ⟨(k.val - 1024) / 256, by omega⟩ l ⟨(k.val - 1024) % 256, by omega⟩
  else DR (A0 m c) (A2 m c) (A3 m c) (gf m c) (df m c) n ⟨(k.val - 2048) / 256, by omega⟩ l ⟨(k.val - 2048) % 256, by omega⟩
theorem GT_q (n : ℕ) (l : Fin 64) (h : Fin 4) (κ : Fin 128) : GT m c n l (cq h κ) = DQ (A0 m c) (A2 m c) (A3 m c) (gf m c) (df m c) n h l κ := by
  have e0 : (cq h κ).val = h.val * 128 + κ.val := rfl
  have e1 : (⟨(cq h κ).val / 128, by omega⟩ : Fin 4) = h := Fin.ext (show (cq h κ).val / 128 = h.val by omega)
  have e2 : (⟨(cq h κ).val % 128, by omega⟩ : Fin 128) = κ := Fin.ext (show (cq h κ).val % 128 = κ.val by omega)
  unfold GT
  rw [dif_pos (show (cq h κ).val < 512 by omega), e1, e2]
theorem GT_k (n : ℕ) (l : Fin 64) (h : Fin 4) (κ : Fin 128) : GT m c n l (cK h κ) = DK (A0 m c) (A2 m c) (A3 m c) (gf m c) (df m c) n h l κ := by
  have e0 : (cK h κ).val = 512 + (h.val * 128 + κ.val) := rfl
  have e1 : (⟨((cK h κ).val - 512) / 128, by omega⟩ : Fin 4) = h := Fin.ext (show ((cK h κ).val - 512) / 128 = h.val by omega)
  have e2 : (⟨((cK h κ).val - 512) % 128, by omega⟩ : Fin 128) = κ := Fin.ext (show ((cK h κ).val - 512) % 128 = κ.val by omega)
  unfold GT
  rw [dif_neg (show ¬(cK h κ).val < 512 by omega), dif_pos (show (cK h κ).val < 1024 by omega), e1, e2]
theorem GT_v (n : ℕ) (l : Fin 64) (h : Fin 4) (y : Fin 256) : GT m c n l (cV h y) = DV (A0 m c) (A2 m c) (A3 m c) (gf m c) (df m c) n h l y := by
  have e0 : (cV h y).val = 1024 + (h.val * 256 + y.val) := rfl
  have e1 : (⟨((cV h y).val - 1024) / 256, by omega⟩ : Fin 4) = h := Fin.ext (show ((cV h y).val - 1024) / 256 = h.val by omega)
  have e2 : (⟨((cV h y).val - 1024) % 256, by omega⟩ : Fin 256) = y := Fin.ext (show ((cV h y).val - 1024) % 256 = y.val by omega)
  unfold GT
  rw [dif_neg (show ¬(cV h y).val < 512 by omega), dif_neg (show ¬(cV h y).val < 1024 by omega), dif_pos (show (cV h y).val < 2048 by omega), e1, e2]
theorem GT_r (n : ℕ) (l : Fin 64) (h : Fin 4) (y : Fin 256) : GT m c n l (cR h y) = DR (A0 m c) (A2 m c) (A3 m c) (gf m c) (df m c) n h l y := by
  have e0 : (cR h y).val = 2048 + (h.val * 256 + y.val) := rfl
  have e1 : (⟨((cR h y).val - 2048) / 256, by omega⟩ : Fin 4) = h := Fin.ext (show ((cR h y).val - 2048) / 256 = h.val by omega)
  have e2 : (⟨((cR h y).val - 2048) % 256, by omega⟩ : Fin 256) = y := Fin.ext (show ((cR h y).val - 2048) % 256 = y.val by omega)
  unfold GT
  rw [dif_neg (show ¬(cR h y).val < 512 by omega), dif_neg (show ¬(cR h y).val < 1024 by omega), dif_neg (show ¬(cR h y).val < 2048 by omega), e1, e2]
/-- The gradient stored in row `a` of the block. -/
def TG (a : Fin 512) (k : Fin 3072) : EReal := GT m c (8 * (7 - t.val) + a.val / 64) ⟨a.val % 64, by omega⟩ k
theorem TG_cr (i : Fin 8) (l : Fin 64) (k : Fin 3072) : TG m c t (cr i l) k = GT m c (nb t i) l k := by
  unfold TG
  rw [cr_div, cr_mod]; rfl
theorem embDQ (h : Fin 4) (i : Fin 8) (l : Fin 64) (κ : Fin 128) :
    (Rect.unit (s := S512x3072) ![64 * i.val, 128 * h.val] ![64, 128] (inbDQ h i)).emb (ix2 l κ) = ix2 (cr i l) (cq h κ) :=
  funext fun a => match a with
    | ⟨0, _⟩ => Fin.ext (show 64 * i.val + 1 * l.val = 64 * i.val + l.val by omega)
    | ⟨1, _⟩ => Fin.ext (show 128 * h.val + 1 * κ.val = h.val * 128 + κ.val by omega)
theorem embDV (h : Fin 4) (i : Fin 8) (l : Fin 64) (y : Fin 256) :
    (Rect.unit (s := S512x3072) ![64 * i.val, 1024 + 256 * h.val] ![64, 256] (inbDV h i)).emb (ix2 l y) = ix2 (cr i l) (cV h y) :=
  funext fun a => match a with
    | ⟨0, _⟩ => Fin.ext (show 64 * i.val + 1 * l.val = 64 * i.val + l.val by omega)
    | ⟨1, _⟩ => Fin.ext (show 1024 + 256 * h.val + 1 * y.val = 1024 + (h.val * 256 + y.val) by omega)
theorem embDK (i : Fin 8) (l : Fin 64) (h : Fin 4) (κ : Fin 128) :
    (Rect.unit (s := S512x3072) ![64 * i.val, 512] ![64, 512] (inbDK i)).emb (ix2 l (hk h κ)) = ix2 (cr i l) (cK h κ) :=
  funext fun a => match a with
    | ⟨0, _⟩ => Fin.ext (show 64 * i.val + 1 * l.val = 64 * i.val + l.val by omega)
    | ⟨1, _⟩ => Fin.ext (show 512 + 1 * (h.val * 128 + κ.val) = 512 + (h.val * 128 + κ.val) by omega)
theorem embDR (h : Fin 4) (a : Fin 512) (y : Fin 256) :
    (Rect.unit (s := S512x3072) ![0, 2048 + 256 * h.val] ![512, 256] (inbDR h)).emb (ix2 a y) = ix2 a (cR h y) :=
  funext fun x => match x with
    | ⟨0, _⟩ => Fin.ext (show 0 + 1 * a.val = a.val by omega)
    | ⟨1, _⟩ => Fin.ext (show 2048 + 256 * h.val + 1 * y.val = 2048 + (h.val * 256 + y.val) by omega)
theorem piece_r (h : Fin 4) (x : S512x256.Idx) :
    drH h (gB m c t) (oH m c t h) (ch (X0_3 m c t) h) (ch (iblk m c 5 t) h) x
    = (fun j : S512x3072.Idx => TG m c t (j 0) (j 1)) ((Rect.unit (s := S512x3072) ![0, 2048 + 256 * h.val] ![512, 256] (inbDR h)).emb x) := by
  idx_vars x
  rw [embDR]
  obtain ⟨i, l, rfl⟩ := cr_surj x0
  exact (dr_cr m c t h i l x1).trans (((TG_cr m c t i l _).trans (GT_r m c _ l h x1)).symm)
theorem piece_q (h : Fin 4) (i : Fin 8) (x : S64x128.Idx) : dqH h (D8 m c t i) (sc m c t i) x
    = (fun j : S512x3072.Idx => TG m c t (j 0) (j 1)) ((Rect.unit (s := S512x3072) ![64 * i.val, 128 * h.val] ![64, 128] (inbDQ h i)).emb x) := by
  idx_vars x
  rw [embDQ]
  refine Eq.trans ?_ (((TG_cr m c t i x0 _).trans (GT_q m c _ x0 h x1)).symm)
  rw [dqH_apply]
  unfold DQ
  refine congrArg (fun a : EReal => a * _) (Finset.sum_congr rfl fun y _ => ?_)
  rw [D8_apply, sc_apply]
include hs
theorem piece_v (h : Fin 4) (n : ℕ) (hn : n < 8) (x : S64x256.Idx) :
    dvH h (ck (laB m c t) (rv n)) (q8 m c t (rv n)) (ck (X0_1 m c t) (rv n)) (D8 m c t (rv n)) (iter m c t (stpH h) (cs s h) n) x
    = (fun j : S512x3072.Idx => TG m c t (j 0) (j 1)) ((Rect.unit (s := S512x3072) ![64 * (rv n).val, 1024 + 256 * h.val] ![64, 256] (inbDV h (rv n))).emb x) := by
  idx_vars x
  rw [embDV]
  refine Eq.trans ?_ (((TG_cr m c t (rv n) x0 _).trans (GT_v m c _ x0 h x1)).symm)
  rw [dvH_apply]
  unfold DV
  refine Finset.sum_congr rfl fun κ _ => ?_
  rw [dst_apply m c t s hs h x1 κ n hn, la_chunk, k_chunk]
  rfl
theorem piece_k (n : ℕ) (hn : n < 8) (x : S64x512.Idx) :
    dkS (ck (laB m c t) (rv n)) (q8 m c t (rv n)) (cv (X0_2 m c t) (rv n)) (D8 m c t (rv n))
      (iter m c t stp0 (cs s 0) n) (iter m c t stp1 (cs s 1) n) (iter m c t stp2 (cs s 2) n) (iter m c t stp3 (cs s 3) n) x
    = (fun j : S512x3072.Idx => TG m c t (j 0) (j 1)) ((Rect.unit (s := S512x3072) ![64 * (rv n).val, 512] ![64, 512] (inbDK (rv n))).emb x) := by
  idx_vars x
  obtain ⟨h, κ, rfl⟩ := hk_surj x1
  rw [embDK]
  refine Eq.trans ?_ (((TG_cr m c t (rv n) x0 _).trans (GT_k m c _ x0 h κ)).symm)
  refine (dkS_apply (ck (laB m c t) (rv n)) (q8 m c t (rv n)) (cv (X0_2 m c t) (rv n)) (D8 m c t (rv n)) (fun h => iter m c t (stpH h) (cs s h) n) h x0 κ).trans ?_
  rw [dkH_apply, la_chunk]
  unfold DK
  refine congrArg (fun a : EReal => a * _) (Finset.sum_congr rfl fun y _ => ?_)
  rw [dst_apply m c t s hs h y κ n hn, v_chunk]
theorem pP_eq : (n : ℕ) → (hn : n ≤ 8) → ∀ p ∈ pP m c t s n, ∀ x, p.2 x = (fun j : S512x3072.Idx => TG m c t (j 0) (j 1)) (p.1.emb x)
  | 0, _ => fun p hp x => by
    simp only [pP, rP, List.mem_cons, List.not_mem_nil, or_false] at hp
    rcases hp with rfl | rfl | rfl | rfl
    · exact piece_r m c t 3 x
    · exact piece_r m c t 2 x
    · exact piece_r m c t 1 x
    · exact piece_r m c t 0 x
  | n + 1, hn => fun p hp x => by
    rcases List.mem_append.1 hp with hp | hp
    · simp only [List.mem_cons, List.not_mem_nil, or_false] at hp
      rcases hp with rfl | rfl | rfl | rfl | rfl | rfl | rfl | rfl | rfl
      · exact piece_k m c t s hs n hn x
      · exact piece_v m c t s hs 3 n hn x
      · exact piece_q m c t 3 (rv n) x
      · exact piece_v m c t s hs 2 n hn x
      · exact piece_q m c t 2 (rv n) x
      · exact piece_v m c t s hs 1 n hn x
      · exact piece_q m c t 1 (rv n) x
      · exact piece_v m c t s hs 0 n hn x
      · exact piece_q m c t 0 (rv n) x
    · exact pP_eq n (Nat.le_of_succ_le hn) p hp x
omit hs
theorem pP_mem_r (a : Fin 512) (k : Fin 3072) (hk : 2048 ≤ k.val) : (n : ℕ) → ∃ p ∈ pP m c t s n, ix2 a k ∈ p.1.set
  | 0 => by
    have mem : ∀ h : Fin 4, (k.val - 2048) / 256 = h.val → ix2 a k ∈ (Rect.unit (s := S512x3072) ![0, 2048 + 256 * h.val] ![512, 256] (inbDR h)).set := fun h hh => by
      rw [Rect.mem_set_unit]
      exact fun x => match x with
        | ⟨0, _⟩ => (show 0 ≤ a.val ∧ a.val < 0 + 512 by omega)
        | ⟨1, _⟩ => (show 2048 + 256 * h.val ≤ k.val ∧ k.val < 2048 + 256 * h.val + 256 by omega)
    have hk4 : (k.val - 2048) / 256 = 0 ∨ (k.val - 2048) / 256 = 1 ∨ (k.val - 2048) / 256 = 2 ∨ (k.val - 2048) / 256 = 3 := by omega
    rcases hk4 with h | h | h | h
    · exact ⟨_, (List.mem_cons_of_mem _ (List.mem_cons_of_mem _ (List.mem_cons_of_mem _ (List.mem_cons_self ..)))), mem 0 h⟩
    · exact ⟨_, (List.mem_cons_of_mem _ (List.mem_cons_of_mem _ (List.mem_cons_self ..))), mem 1 h⟩
    · exact ⟨_, (List.mem_cons_of_mem _ (List.mem_cons_self ..)), mem 2 h⟩
    · exact ⟨_, (List.mem_cons_self ..), mem 3 h⟩
  | n + 1 => by
    obtain ⟨p, hp, hm⟩ := pP_mem_r a k hk n
    exact ⟨p, List.mem_append_right _ hp, hm⟩
theorem pP_mem (a : Fin 512) (k : Fin 3072) (hk : k.val < 2048) : (n : ℕ) → (hn : n ≤ 8) → 8 - n ≤ a.val / 64 → ∃ p ∈ pP m c t s n, ix2 a k ∈ p.1.set
  | 0, _ => fun h => absurd h (by omega)
  | n + 1, hn => fun hi => by
    by_cases h : 8 - n ≤ a.val / 64
    · obtain ⟨p, hp, hm⟩ := pP_mem a k hk n (Nat.le_of_succ_le hn) h
      exact ⟨p, List.mem_append_right _ hp, hm⟩
    · have hr : 64 * (rv n).val ≤ a.val ∧ a.val < 64 * (rv n).val + 64 := (show 64 * (7 - n) ≤ a.val ∧ a.val < 64 * (7 - n) + 64 by omega)
      have memq : ∀ h : Fin 4, k.val / 128 = h.val → ix2 a k ∈ (Rect.unit (s := S512x3072) ![64 * (rv n).val, 128 * h.val] ![64, 128] (inbDQ h (rv n))).set := fun h hh => by
        rw [Rect.mem_set_unit]
        exact fun x => match x with
          | ⟨0, _⟩ => hr
          | ⟨1, _⟩ => (show 128 * h.val ≤ k.val ∧ k.val < 128 * h.val + 128 by omega)
      have memv : ∀ h : Fin 4, k.val / 256 = 4 + h.val → ix2 a k ∈ (Rect.unit (s := S512x3072) ![64 * (rv n).val, 1024 + 256 * h.val] ![64, 256] (inbDV h (rv n))).set := fun h hh => by
        rw [Rect.mem_set_unit]
        exact fun x => match x with
          | ⟨0, _⟩ => hr
          | ⟨1, _⟩ => (show 1024 + 256 * h.val ≤ k.val ∧ k.val < 1024 + 256 * h.val + 256 by omega)
      by_cases h1 : k.val < 512
      · have hk4 : k.val / 128 = 0 ∨ k.val / 128 = 1 ∨ k.val / 128 = 2 ∨ k.val / 128 = 3 := by omega
        rcases hk4 with h | h | h | h
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), memq 0 h⟩
        · exact ⟨_, List.mem_append_left _ (List.mem_cons_of_mem _ (List.mem_cons_of_mem _ (List.mem_cons_of_mem _ (List.mem_cons_of_mem _ (List.mem_cons_of_mem _ (List.mem_cons_of_mem _ (List.mem_cons_self ..))))))), memq 1 h⟩
        · exact ⟨_, List.mem_append_left _ (List.mem_cons_of_mem _ (List.mem_cons_of_mem _ (List.mem_cons_of_mem _ (List.mem_cons_of_mem _ (List.mem_cons_self ..))))), memq 2 h⟩
        · exact ⟨_, List.mem_append_left _ (List.mem_cons_of_mem _ (List.mem_cons_of_mem _ (List.mem_cons_self ..))), memq 3 h⟩
      by_cases h2 : k.val < 1024
      · refine ⟨_, List.mem_append_left _ (List.mem_cons_self ..), ?_⟩
        rw [Rect.mem_set_unit]
        exact fun x => match x with
          | ⟨0, _⟩ => hr
          | ⟨1, _⟩ => (show 512 ≤ k.val ∧ k.val < 512 + 512 by omega)
      · have hk4 : k.val / 256 = 4 + 0 ∨ k.val / 256 = 4 + 1 ∨ k.val / 256 = 4 + 2 ∨ k.val / 256 = 4 + 3 := by omega
        rcases hk4 with h | h | h | h
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_self ..)))))))), memv 0 h⟩
        · exact ⟨_, List.mem_append_left _ (List.mem_cons_of_mem _ (List.mem_cons_of_mem _ (List.mem_cons_of_mem _ (List.mem_cons_of_mem _ (List.mem_cons_of_mem _ (List.mem_cons_self ..)))))), memv 1 h⟩
        · exact ⟨_, List.mem_append_left _ (List.mem_cons_of_mem _ (List.mem_cons_of_mem _ (List.mem_cons_of_mem _ (List.mem_cons_self ..)))), memv 2 h⟩
        · exact ⟨_, List.mem_append_left _ (List.mem_cons_of_mem _ (List.mem_cons_self ..)), memv 3 h⟩
include hs in
theorem pP_canon (a : Fin 512) (k : Fin 3072) : View.canon (pP m c t s 8) (ix2 a k) = TG m c t a k := by
  refine View.canon_apply_of_pieces (Val := Elt Ideal) (e := .bf16) (fun j : S512x3072.Idx => TG m c t (j 0) (j 1)) _ (pP_eq m c t s hs 8 (le_refl 8)) (ix2 a k) ?_
  by_cases h : k.val < 2048
  · exact pP_mem m c t s a k h 8 (le_refl 8) (by omega)
  · exact pP_mem_r m c t s a k (by omega) 8

/-! ## The grid's points in order -/

theorem zero_carried (h0 : t.val = 0) : Carried m c t (k0_pay4 (F := Ideal)) := fun y k => by
  unfold cC
  rw [h0]
  pointwise [k0_pay4]
  rfl
/-- What the points leave carried. -/
theorem carried : (n : ℕ) → (hn : n < cfg0.N) → ∀ (y : Fin 256) (k : Fin 512), (outsAt0 m c n hn).2.2.2.2.2 (ix2 y k) = cC m c y k (8 * n + 8)
  | 0, hn => fun y k => by
    obtain ⟨L, e⟩ := carry_A m c ⟨0, hn⟩ rfl
    exact (congrFun e (ix2 y k)).trans (tiles_eq m c ⟨0, hn⟩ _ (zero_carried m c ⟨0, hn⟩ rfl) 8 (le_refl 8) L y k)
  | n + 1, hn => fun y k => by
    have hN := lt_of_lt_of_eq hn N_0
    obtain ⟨L, e⟩ := carry_B m c ⟨n + 1, hn⟩ (show ¬(n + 1) % 8 = 0 by omega)
    refine (congrFun e (ix2 y k)).trans (tiles_eq m c ⟨n + 1, hn⟩ _ (fun y k => ?_) 8 (le_refl 8) L y k)
    exact carried n (Nat.lt_of_succ_lt hn) y k
theorem before_carried (h0 : ¬t.val % 8 = 0) : Carried m c t (prev m c t) := fun y k =>
  (carried m c (t.val - 1) _ y k).trans (congrArg (cC m c y k) (by omega))
theorem point11 (a : Fin 512) (k : Fin 3072) : (outsAt0 m c t.val t.isLt).1 (ix2 a k) = TG m c t a k := by
  have hN := lt_of_lt_of_eq t.isLt N_0
  by_cases h0 : t.val % 8 = 0
  · exact (congrFun (out_A m c t h0) (ix2 a k)).trans (pP_canon m c t _ (zero_carried m c t (by omega)) a k)
  · exact (congrFun (out_B m c t h0) (ix2 a k)).trans (pP_canon m c t _ (before_carried m c t h0) a k)
end Cert.GlaBK
-- ==== Proof.GlaBGain.lean ====
/- The backward call of gated linear attention: the gradient of the head norm's weights, summed over the rows of the grid's blocks. -/
module
public import proofs.«01_k».proof.Proof.GlaBPoint
@[expose] public section
set_option maxRecDepth 65536
noncomputable section
namespace Cert.GlaBK
open Idealize.ShloMosaic Idealize.ShloMosaic.TcCoe Idealize.SL.Sem
open Cert.GlaBwdIdeal Cert.GlaBwdIdeal.Gen Cert.GlaB
open Cert.Gla (row row_val oo)

/-- What a row and a head add to the gradient of the norm's weights. -/
def gE (o d r : Fin 256 → EReal) (v : Fin 256) : EReal := d v * (r v * Ideal.logistic (r v)) * (o v * rsq o)
/-- The sum a block adds to what it finds, head by head. -/
def gain (o : Fin 4 → Vec Ideal S512x256 .f32) (r d : Fin 4 → Vec Ideal S512x256 .bf16) (p : Vec Ideal S1x256 .f32) : FVec Ideal S1x256 .f32 :=
  k0_pay108 (k0_pay96 (k0_pay86 (k0_pay75 k0_pay67 (k0_pay69 (o 0)) (k0_pay70 (r 0)) (d 0)) (o 1) (k0_pay77 (o 1)) k0_pay78 (r 1) (d 1)) (o 2) (r 2) (d 2))
    (k0_pay101 (o 3)) (k0_pay105 (r 3) (d 3)) p
theorem gain_apply (o : Fin 4 → Vec Ideal S512x256 .f32) (r d : Fin 4 → Vec Ideal S512x256 .bf16) (p : Vec Ideal S1x256 .f32) (v : Fin 256) :
    gain o r d p (ix2 0 v) = p (ix2 0 v) + ∑ h : Fin 4, ∑ y : Fin 512, gE (fun x => o h (ix2 y x)) (fun x => d h (ix2 y x)) (fun x => r h (ix2 y x)) v := by
  rw [Fin.sum_univ_four]
  pointwise [gain, k0_pay108, k0_pay96, k0_pay86, k0_pay75, k0_pay67, k0_pay69, k0_pay70, k0_pay77, k0_pay78, k0_pay101, k0_pay105, k0_pay68, k0_pay73, k0_pay71, k0_pay72,
    k0_pay84, k0_pay83, k0_pay82, k0_pay81, k0_pay80, k0_pay79, k0_pay94, k0_pay93, k0_pay92, k0_pay91, k0_pay90, k0_pay89, k0_pay104, k0_pay103, k0_pay102, k0_pay100, gE, rsq, msq]

variable (m : (ℓ : Loc nD τ sig) → Buf (Elt Ideal) ℓ) (c : Dev nD) (t : Fin cfg0.N)
/-- The same, of what the block reads. -/
def gainB (p : Vec Ideal S1x256 .f32) : FVec Ideal S1x256 .f32 :=
  gain (oH m c t) (fun h => ch (X0_3 m c t) h) (fun h => ch (iblk m c 5 t) h) p
set_option maxHeartbeats 4000000 in
theorem gain_A (h0 : t.val % 8 = 0) : (outsAt0 m c t.val t.isLt).2.2.1 = gainB m c t (k0_pay5 (F := Ideal)) := by
  rw [outsAt0_A m c t h0]
  frame_open
  simp (disch := decide) only [↓ View.readCov_skip, ↓ View.readCov_cons_toLoadRect, ↓ View.readCov_fill]
  frame_out
  rfl
set_option maxHeartbeats 4000000 in
theorem gain_B (h0 : ¬t.val % 8 = 0) : (outsAt0 m c t.val t.isLt).2.2.1
    = gainB m c t (outsAt0 m c (t.val - 1) (Nat.lt_of_le_of_lt (Nat.sub_le _ _) t.isLt)).2.2.1 := by
  rw [outsAt0_B m c t h0]
  frame_open
  simp (disch := decide) only [↓ View.readCov_skip, ↓ View.readCov_cons_toLoadRect, ↓ View.readCov_fill]
  frame_out
  rfl

/-- What row `a` and head `h` of the whole add. -/
def gA (a : Fin 4096) (h : Fin 4) (v : Fin 256) : EReal :=
  gE (oo (A0 m c) (A2 m c) (A3 m c) (a.val / 64) h ⟨a.val % 64, by omega⟩) (dd (df m c) (a.val / 64) h ⟨a.val % 64, by omega⟩)
    (rr (A0 m c) (a.val / 64) h ⟨a.val % 64, by omega⟩) v
theorem gA_row (n : ℕ) (hn : n < 64) (l : Fin 64) (h : Fin 4) (v : Fin 256) : gA m c (row n l) h v
    = gE (oo (A0 m c) (A2 m c) (A3 m c) n h l) (dd (df m c) n h l) (rr (A0 m c) n h l) v := by
  have e := row_val n hn l
  have e1 : (row n l).val / 64 = n := by omega
  have e2 : (⟨(row n l).val % 64, by omega⟩ : Fin 64) = l := Fin.ext (by show (row n l).val % 64 = l.val; omega)
  unfold gA
  rw [e1, e2]
/-- What a block adds. -/
def gsh (t : Fin cfg0.N) (j : S1x256.Idx) : EReal := ∑ h : Fin 4, ∑ y : Fin 512, gA m c (rowT t y) h (j 1)
theorem gainB_apply (p : Vec Ideal S1x256 .f32) (v : Fin 256) : gainB m c t p (ix2 0 v) = p (ix2 0 v) + gsh m c t (ix2 0 v) := by
  refine (gain_apply _ _ _ p v).trans (congrArg (p (ix2 0 v) + ·) (Finset.sum_congr rfl fun h _ => Finset.sum_congr rfl fun y _ => ?_))
  obtain ⟨i, l, rfl⟩ := cr_surj y
  have hN := lt_of_lt_of_eq t.isLt N_0
  rw [r_chunk, d_chunk, o_chunk, rowT_cr]
  exact (gA_row m c (nb t i) (by unfold nb; omega) l h v).symm
/-- The gradient of the head norm's weights. -/
def GN (v : Fin 256) : EReal := ∑ h : Fin 4, ∑ a : Fin 4096, gA m c a h v
theorem zero_apply (v : Fin 256) : (k0_pay5 (F := Ideal)) (ix2 0 v) = 0 := by
  pointwise [k0_pay5]
/-- The window after point `n`. -/
def acc (n : ℕ) (h : n < cfg0.N) : S1x256.Idx → EReal := fun j => (outsAt0 m c n h).2.2.1 j
theorem acc_A' (h0 : t.val % 8 = 0) (v : Fin 256) : acc m c t.val t.isLt (ix2 0 v) = 0 + gsh m c t (ix2 0 v) :=
  (congrFun (gain_A m c t h0) (ix2 0 v)).trans ((gainB_apply m c t _ v).trans (congrArg (· + gsh m c t (ix2 0 v)) (zero_apply v)))
theorem acc_B' (h0 : ¬t.val % 8 = 0) (v : Fin 256) : acc m c t.val t.isLt (ix2 0 v)
    = acc m c (t.val - 1) (Nat.lt_of_le_of_lt (Nat.sub_le _ _) t.isLt) (ix2 0 v) + gsh m c t (ix2 0 v) :=
  (congrFun (gain_B m c t h0) (ix2 0 v)).trans (gainB_apply m c t _ v)
theorem j_eq (j : S1x256.Idx) : ∃ v : Fin 256, j = ix2 0 v := ⟨j 1, by idx_vars j; rw [Subsingleton.elim j0 0]⟩
theorem acc_A (h0 : t.val % 8 = 0) (j : S1x256.Idx) : acc m c t.val t.isLt j = 0 + gsh m c t j := by
  obtain ⟨v, rfl⟩ := j_eq j
  exact acc_A' m c t h0 v
theorem acc_B (h0 : ¬t.val % 8 = 0) (j : S1x256.Idx) : acc m c t.val t.isLt j
    = acc m c (t.val - 1) (Nat.lt_of_le_of_lt (Nat.sub_le _ _) t.isLt) j + gsh m c t j := by
  obtain ⟨v, rfl⟩ := j_eq j
  exact acc_B' m c t h0 v
theorem acc_last (j : S1x256.Idx) : acc m c t0_7.val t0_7.isLt j = ∑ t : Fin cfg0.N, gsh m c t j := by
  rw [Pipeline.eq_sum_fin_of_reset_step_apply_last (acc m c) 8 (fun _ => (0 : EReal)) (gsh m c) (fun t h j => acc_A m c t h j) (fun t h j => acc_B m c t h j)
    (le_of_eq N_0) t0_7 rfl j, zero_add]
theorem sum_gsh (v : Fin 256) : ∑ t : Fin cfg0.N, gsh m c t (ix2 0 v) = GN m c v := by
  simp only [gsh, GN]
  rw [Finset.sum_comm]
  refine Finset.sum_congr rfl fun h _ => ?_
  refine (Equiv.sum_comp (Fin.revPerm (n := 8)) fun t : Fin 8 => ∑ y : Fin 512, gA m c (rowT (t : Fin cfg0.N) y) h _).symm.trans ?_
  refine Fin.sum_mul_add_congr fun t k hl => ?_
  refine congrArg (fun a => gA m c a h _) (Fin.ext ?_)
  show (7 - (8 - (t.val + 1))) * 512 + k.val = t.val * 512 + k.val
  have := t.isLt
  omega
theorem final13 (v : Fin 256) : ((dats m 0 c).arrAt 13 cfg0.N : FVec Ideal S1x256 .f32) (ix2 0 v) = GN m c v := by
  have e : (dats m 0 c).arrAt 13 cfg0.N = fun j : S1x256.Idx => GN m c (j 1) := by
    refine (dats m 0 c).arrAt_eq_of_after_last 13 t0_7 (by decide +kernel) _ fun j => ?_
    blk_simp
    rw [after0_13]
    obtain ⟨v, hv⟩ := j_eq j
    refine (show (outsAt0 m c t0_7.val t0_7.isLt).2.2.1 j = acc m c t0_7.val t0_7.isLt j from rfl).trans ?_
    rw [acc_last, hv]
    exact sum_gsh m c v
  exact congrFun e (ix2 0 v)
end Cert.GlaBK
-- ==== Proof.HostRun.lean ====
/- The run of a host program with no kernel that enters two counted loops one after the other: stretches of operations, a loop,
   stretches, a loop, stretches. Every buffer ends at the fold of all of them. -/
module
public import Idealize.ShloMosaic.Lib.StableHlo.RunLoop
@[expose] public section
noncomputable section
namespace Cert.HostRun
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.StableHlo
open Idealize.ShloMosaic.Pipeline (CSeg Ticket PCfg ucRefs unscopedBufs_held sub_ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline: nothing is admitted, no ticket is held, no level is used. -/
abbrev noAdm : (p : Fin 0) → (pcs p).Adm := fun p => p.elim0
abbrev noTk : Fin 0 → Ticket (Ix := Unit) (Name := ℕ) (U := Option PUnit) (Lvl := ℕ) (nD := nD) (τ := τ) pcs (noAdm pcs) := fun j => j.elim0
abbrev noL : GSem nD τ sig → Finset Unit := fun _ => ∅
abbrev noLv : GSem nD τ sig → Unit → ℕ := fun _ _ => 0
theorem cells_injective : Function.Injective (Pipeline.cellOf (nD := nD) (τ := τ) (Pipeline.pin pcs (noAdm pcs))) := fun k => k.1.elim0
/-- What the core owes, carried beside the buffers. -/
abbrev owed (c : Dev nD) : sProp 𝕄 := iprop(∃ W, owes (c : Thread nD τ) (0 : CellTallies nD τ sig Unit) W)

variable {pcs defs₀ loops}

/-- A condition's specification with what the core owes carried through. -/
theorem loopCond {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops owed cond condOps bodyI W₀ n := fun k hk c bd => by
  have hc := hcond k hk c bd
  have back : ∀ v : Elt F .i1,
      iprop(iprop(⌜v = 1#1 ↔ k < n⌝ ∗ boundary (c : Thread nD τ) ∗ held (c : Thread nD τ) (ucRefs τ sig) (after condOps (atTrip condOps bodyI W₀ k c))) ∗ owed c)
        ⊢ iprop(⌜v = 1#1 ↔ k < n⌝ ∗ boundary (c : Thread nD τ) ∗ held (c : Thread nD τ) (ucRefs τ sig) (after condOps (atTrip condOps bodyI W₀ k c)) ∗ owed c) := fun v => by
    iintro ⟨⟨%hv, Hbd, Hh⟩, HR⟩
    isplitr
    · ipureintro; exact hv
    isplitl [Hbd]
    · iexact Hbd
    isplitl [Hh] <;> iassumption
  refine BIBase.Entails.trans ?_ (((sep_mono_left hc).trans (wp_frame_r _ _ _)).trans (wp_mono _ _ _ back))
  iintro ⟨Hbd, Hh, HR⟩
  isplitl [Hbd Hh]
  · isplitl [Hbd] <;> iassumption
  iexact HR

/-- The data of one counted loop over stretches of operations, entered with the buffers at `W₀`. -/
structure Loop (pcs : Fin 0 → PCfg sig Λ₀ (Elt F)) (defs₀ : Defs nD τ sig (Elt F) Λ₀)
    (loops : Fin nL → Prog (TpuEff nD τ sig (Elt F) (HostLoop.Sig (Pipeline.Sig Λ₀ (Fin 0) fun p => (pcs p).Adm) nL) .tc) PUnit)
    (W₀ : Dev nD → Valuation τ sig (Elt F)) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  bodyI : List (List (HloOp τ sig (Elt F)))
  plain : Plain bodyI
  hbody : body = Pipeline.chain (bodyI.map fun ops => (seq ops : Prog _ PUnit))
  n : ℕ
  spec : CondSpec pcs defs₀ loops cond condOps bodyI W₀ n

variable {W₀ : Dev nD → Valuation τ sig (Elt F)}

/-- The buffers a loop leaves. -/
def Loop.out (P : Loop pcs defs₀ loops W₀) (c : Dev nD) : Valuation τ sig (Elt F) := after P.condOps (atTrip P.condOps P.bodyI W₀ P.n c)

/-- The loop as one segment. -/
def Loop.seg (P : Loop pcs defs₀ loops W₀) : CSeg pcs (noAdm pcs) defs₀ Variants.none noL noLv loops (noTk pcs) :=
  loopSeg _ _ _ _ _ _ _ _ P.l P.cond P.body P.hloops P.condOps P.bodyI P.plain P.hbody P.n W₀ owed (loopCond P.spec)

variable {preI midI postI : List (List (HloOp τ sig (Elt F)))} (hpre : Plain preI) (hmid : Plain midI) (hpost : Plain postI)
  (m : (ℓ : Loc nD τ sig) → Buf (Elt F) ℓ)
  (P : Loop pcs defs₀ loops (entryContents preI m)) (Q : Loop pcs defs₀ loops fun c => afterL midI (P.out c))

/-- The program's segments, in order. -/
def segs : List (CSeg pcs (noAdm pcs) defs₀ Variants.none noL noLv loops (noTk pcs)) :=
  segsOf _ _ _ _ _ _ _ _ owed preI hpre (launchContents m)
    ++ P.seg :: (segsOf _ _ _ _ _ _ _ _ owed midI hmid P.out
      ++ Q.seg :: segsOf _ _ _ _ _ _ _ _ owed postI hpost Q.out)

theorem segs_prog : (segs hpre hmid hpost m P Q).map CSeg.prog
    = (preI.map fun ops => (seq ops : Prog _ PUnit)) ++ HostLoop.enter P.l :: ((midI.map fun ops => (seq ops : Prog _ PUnit))
      ++ HostLoop.enter Q.l :: postI.map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ owed c)) (segs hpre hmid hpost m P Q)
    (fun c => iprop(iprop(held (c : Thread nD τ) (ucRefs τ sig) (afterL postI (Q.out c))) ∗ ∃ W, owes (c : Thread nD τ) (0 : CellTallies nD τ sig Unit) W)) := by
  unfold segs
  exact CSeg.Chains.append (segsOf_chains _ _ _ _ _ _ _ _ owed preI hpre _)
    ⟨fun _ => .rfl, CSeg.Chains.append (segsOf_chains _ _ _ _ _ _ _ _ owed midI hmid _) ⟨fun _ => .rfl, segsOf_chains _ _ _ _ _ _ _ _ owed postI hpost _⟩⟩

include hpre hmid hpost in
/-- Every execution terminates, and every tensor buffer ends at the fold of the stretches and the loops' trips. -/
theorem run_two [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((preI.map fun ops => (seq ops : Prog _ PUnit)) ++ HostLoop.enter P.l :: ((midI.map fun ops => (seq ops : Prog _ PUnit))
      ++ HostLoop.enter Q.l :: postI.map fun ops => (seq ops : Prog _ PUnit))))
    (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL postI (Q.out c) (Proc.devRef .tc b)) :=
  Pipeline.θ_run_regions_loop_kit (Ix := Unit) (Name := ℕ) (U := Option PUnit) (Lvl := ℕ) (J := Fin 0) (P := Fin 0) (Val := Elt F)
    pcs (noAdm pcs) (cells_injective pcs) defs₀ Variants.none noL noLv loops (noTk pcs) m ρ main (segs hpre hmid hpost m P Q)
    (fun c R => by
      rw [hmain c]
      show wp _ _ _ (Pipeline.chain ((segs hpre hmid hpost m P Q).map CSeg.prog)) R ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owed c))
    (Tₙ := fun c => iprop(held (c : Thread nD τ) (ucRefs τ sig) (afterL postI (Q.out c))))
    (hch := segs_chains hpre hmid hpost m P Q)
    (hinit := by
      refine Pipeline.initEach noL noLv fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]
      · iexact Hh
      iexists ∅
      iexact HO)
    (QY := fun c s => ∀ b ∈ ucRefs τ sig, s.mem ((c : Dev nD), b) = afterL postI (Q.out c) b)
    (hfin := fun c s' => by
      unfold held
      iintro ⟨Hh, HSI⟩
      ihave Hr := (pointsTo_read_all (ucRefs τ sig) (fun b => ((c : Dev nD), b)) (fun b => afterL postI (Q.out c) b) s') $$ [Hh HSI]
      · isplitl [Hh] <;> iassumption
      icases Hr with ⟨%h, HSI⟩
      imodintro
      isplitr
      · ipureintro; exact h
      iexact HSI)
    (hQ := fun _ h c b hb => h c _ (devRef_mem_ucRefs b hb))

/-- A buffer no operation of a loop writes is, before every trip and after the loop, as it was at the loop's entry. -/
theorem atTrip_keep {condOps : List (HloOp τ sig (Elt F))} {bodyI : List (List (HloOp τ sig (Elt F)))} {W₀ : Dev nD → Valuation τ sig (Elt F)} {b : DevRef τ sig}
    (hc : ∀ V : Valuation τ sig (Elt F), after condOps V b = V b) (hb : ∀ V : Valuation τ sig (Elt F), afterL bodyI V b = V b) (c : Dev nD) :
    ∀ k, atTrip condOps bodyI W₀ k c b = W₀ c b
  | 0 => rfl
  | k + 1 => by rw [atTrip_succ, hb, hc, atTrip_keep hc hb c k]

end Cert.HostRun
-- ==== Proof.GlaBRun.lean ====
/- The backward reference of the gated linear attention as stretches of operations and its two counted loops, and its run:
   every execution ends with each tensor buffer at the fold of the stretches and of the loops' trips. -/
module

public import proofs.«01_k».proof.Proof.Gen.GlaBwdRefIdeal
public import proofs.«01_k».proof.Proof.HostRun
public import Idealize.ShloMosaic.Lib.StableHlo.RunRead
public import Idealize.ShloMosaic.Lib.Scf.ExitTest
public import Idealize.ShloMosaic.Lib.Scf.Counter

@[expose] public section

set_option maxRecDepth 2000

noncomputable section

namespace Cert.GlaBRun

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Idealize.ShloMosaic.Pipeline (sub_ucRefs)
open Cert.GlaBwdRefIdeal Cert.GlaBwdRefIdeal.Gen Cert.HostRun

variable {F : FTy → Type} [FloatOps F]

/-- A stretch of operations. -/
abbrev Ops (F : FTy → Type) [FloatOps F] : Type := List (HloOp τ sig (Elt F))

/-- Stretch 0 before the first loop: the 10 operations up to the one that writes `main_v9`. -/
abbrev pre0 : Ops F :=
  [ unary main_arg0 main_v0 ((extractStridedSlice S4096x3088 ![0, 0] · slices_S4096x8208_S4096x3088_0_0) : (⟨S4096x8208, .f32⟩ : BufTy).Contents (Elt F) → (⟨S4096x3088, .f32⟩ : BufTy).Contents (Elt F)),
    unary main_v0 main_v1 ((extractStridedSlice S4096x512 ![0, 0] · slices_S4096x3088_S4096x512_0_0) : (⟨S4096x3088, .f32⟩ : BufTy).Contents (Elt F) → (⟨S4096x512, .f32⟩ : BufTy).Contents (Elt F)),
    unary main_v0 main_v2 ((extractStridedSlice S4096x512 ![0, 512] · slices_S4096x3088_S4096x512_0_512) : (⟨S4096x3088, .f32⟩ : BufTy).Contents (Elt F) → (⟨S4096x512, .f32⟩ : BufTy).Contents (Elt F)),
    unary main_v0 main_v3 ((extractStridedSlice S4096x1024 ![0, 1024] · slices_S4096x3088_S4096x1024_0_1024) : (⟨S4096x3088, .f32⟩ : BufTy).Contents (Elt F) → (⟨S4096x1024, .f32⟩ : BufTy).Contents (Elt F)),
    unary main_v0 main_v4 ((extractStridedSlice S4096x1024 ![0, 2048] · slices_S4096x3088_S4096x1024_0_2048) : (⟨S4096x3088, .f32⟩ : BufTy).Contents (Elt F) → (⟨S4096x1024, .f32⟩ : BufTy).Contents (Elt F)),
    unary main_v0 main_v5 ((extractStridedSlice S4096x16 ![0, 3072] · slices_S4096x3088_S4096x16_0_3072) : (⟨S4096x3088, .f32⟩ : BufTy).Contents (Elt F) → (⟨S4096x16, .f32⟩ : BufTy).Contents (Elt F)),
    binary main_v5 main_arg2 main_v6 ((fun l r => Host.dotGeneral dot_S4096x16_S16x512_S4096x512_1_0_0_1_n_n none l r) : (⟨S4096x16, .f32⟩ : BufTy).Contents (Elt F) → (⟨S16x512, .f32⟩ : BufTy).Contents (Elt F) → (⟨S4096x512, .f32⟩ : BufTy).Contents (Elt F)),
    unary main_arg3 main_v7 (broadcastInDim S1x512 ![1] bcast_S512_S1x512_1 : (⟨S512, .f32⟩ : BufTy).Contents (Elt F) → (⟨S1x512, .f32⟩ : BufTy).Contents (Elt F)),
    unary main_v7 main_v8 (broadcastInDim S4096x512 ![0, 1] bcast_S1x512_S4096x512_0_1 : (⟨S1x512, .f32⟩ : BufTy).Contents (Elt F) → (⟨S4096x512, .f32⟩ : BufTy).Contents (Elt F)),
    binary main_v6 main_v8 main_v9 (addf : (⟨S4096x512, .f32⟩ : BufTy).Contents (Elt F) → (⟨S4096x512, .f32⟩ : BufTy).Contents (Elt F) → (⟨S4096x512, .f32⟩ : BufTy).Contents (Elt F)) ]

/-- The references they write, in order. -/
abbrev pre0W : List (Ref sig .tc) := [main_v0, main_v1, main_v2, main_v3, main_v4, main_v5, main_v6, main_v7, main_v8, main_v9]
theorem pre0_sub : (pre0 : Ops F).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., binary_bufs_sub ..⟩
theorem pre0_fresh : (pre0 : Ops F).Forall fun op => op.fresh = ∅ := forall_fresh_of_map rfl
theorem pre0_writes : (pre0 : Ops F).Forall fun op => op.writes ⊆ (pre0W.map (Proc.devRef (τ := τ) .tc)).toFinset := forall_writes_sub_of_map rfl

/-- Stretch 1 before the first loop: the 16 operations up to the one that writes `main_v10`. -/
abbrev pre1 : Ops F :=
  [ TRef.unary (.of main_v9 : TRef sig ⟨S4096x512, .f32⟩) (.of main_call0_v0 : TRef sig ⟨S4096x512, .f32⟩) Host.negf,
    TRef.nullary (.of main_call0_call0_cst : TRef sig ⟨S_, .f32⟩) (constant S_ .f32 0x00000000#32),
    TRef.unary (.of main_call0_call0_cst : TRef sig ⟨S_, .f32⟩) (.of main_call0_call0_v0 : TRef sig ⟨S4096x512, .f32⟩) (broadcastInDim S4096x512 ![] bcast_S_S4096x512),
    TRef.binary (.of main_call0_v0 : TRef sig ⟨S4096x512, .f32⟩) (.of main_call0_call0_v0 : TRef sig ⟨S4096x512, .f32⟩) (.of main_call0_call0_v1 : TRef sig ⟨S4096x512, .f32⟩) maximumf,
    TRef.unary (.of main_call0_call0_cst : TRef sig ⟨S_, .f32⟩) (.of main_call0_call0_v2 : TRef sig ⟨S4096x512, .f32⟩) (broadcastInDim S4096x512 ![] bcast_S_S4096x512),
    TRef.binary (.of main_call0_v0 : TRef sig ⟨S4096x512, .f32⟩) (.of main_call0_call0_v2 : TRef sig ⟨S4096x512, .f32⟩) (.of main_call0_call0_v3 : TRef sig ⟨S4096x512, .f32⟩) subf,
    TRef.binary (.of main_call0_call0_v3 : TRef sig ⟨S4096x512, .f32⟩) (.of main_call0_call0_v3 : TRef sig ⟨S4096x512, .f32⟩) (.of main_call0_call0_v4 : TRef sig ⟨S4096x512, .i1⟩) (cmpf .une),
    TRef.unary (.of main_call0_call0_cst : TRef sig ⟨S_, .f32⟩) (.of main_call0_call0_v5 : TRef sig ⟨S4096x512, .f32⟩) (broadcastInDim S4096x512 ![] bcast_S_S4096x512),
    TRef.binary (.of main_call0_v0 : TRef sig ⟨S4096x512, .f32⟩) (.of main_call0_call0_v5 : TRef sig ⟨S4096x512, .f32⟩) (.of main_call0_call0_v6 : TRef sig ⟨S4096x512, .f32⟩) addf,
    TRef.unary (.of main_call0_call0_v3 : TRef sig ⟨S4096x512, .f32⟩) (.of main_call0_call0_v7 : TRef sig ⟨S4096x512, .f32⟩) Host.absf,
    TRef.unary (.of main_call0_call0_v7 : TRef sig ⟨S4096x512, .f32⟩) (.of main_call0_call0_v8 : TRef sig ⟨S4096x512, .f32⟩) Host.negf,
    TRef.unary (.of main_call0_call0_v8 : TRef sig ⟨S4096x512, .f32⟩) (.of main_call0_call0_v9 : TRef sig ⟨S4096x512, .f32⟩) Host.exp,
    TRef.unary (.of main_call0_call0_v9 : TRef sig ⟨S4096x512, .f32⟩) (.of main_call0_call0_v10 : TRef sig ⟨S4096x512, .f32⟩) Host.log1p,
    TRef.binary (.of main_call0_call0_v1 : TRef sig ⟨S4096x512, .f32⟩) (.of main_call0_call0_v10 : TRef sig ⟨S4096x512, .f32⟩) (.of main_call0_call0_v11 : TRef sig ⟨S4096x512, .f32⟩) addf,
    TRef.ternary (.of main_call0_call0_v4 : TRef sig ⟨S4096x512, .i1⟩) (.of main_call0_call0_v6 : TRef sig ⟨S4096x512, .f32⟩) (.of main_call0_call0_v11 : TRef sig ⟨S4096x512, .f32⟩) (.of main_call0_v1 : TRef sig ⟨S4096x512, .f32⟩) select,
    TRef.unary main_call0_call0.v12 (.of main_v10 : TRef sig ⟨S4096x512, .f32⟩) Host.negf ]

/-- The references they write, in order. -/
abbrev pre1W : List (Ref sig .tc) := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v10]
theorem pre1_sub : (pre1 : Ops F).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
theorem pre1_fresh : (pre1 : Ops F).Forall fun op => op.fresh = ∅ := forall_fresh_of_map rfl
theorem pre1_writes : (pre1 : Ops F).Forall fun op => op.writes ⊆ (pre1W.map (Proc.devRef (τ := τ) .tc)).toFinset := forall_writes_sub_of_map rfl

/-- Stretch 2 before the first loop: the 14 operations up to the one that writes `main_v22`. -/
abbrev pre2 : Ops F :=
  [ nullary main_cst (constant S_ .f32 0x41800000#32),
    unary main_cst main_v11 (broadcastInDim S4096x512 ![] bcast_S_S4096x512 : (⟨S_, .f32⟩ : BufTy).Contents (Elt F) → (⟨S4096x512, .f32⟩ : BufTy).Contents (Elt F)),
    binary main_v10 main_v11 main_v12 (Host.divf : (⟨S4096x512, .f32⟩ : BufTy).Contents (Elt F) → (⟨S4096x512, .f32⟩ : BufTy).Contents (Elt F) → (⟨S4096x512, .f32⟩ : BufTy).Contents (Elt F)),
    nullary main_cst_0 (constant S_ .f32 0x3DB504F3#32),
    unary main_cst_0 main_v13 (broadcastInDim S4096x512 ![] bcast_S_S4096x512 : (⟨S_, .f32⟩ : BufTy).Contents (Elt F) → (⟨S4096x512, .f32⟩ : BufTy).Contents (Elt F)),
    binary main_v1 main_v13 main_v14 (mulf : (⟨S4096x512, .f32⟩ : BufTy).Contents (Elt F) → (⟨S4096x512, .f32⟩ : BufTy).Contents (Elt F) → (⟨S4096x512, .f32⟩ : BufTy).Contents (Elt F)),
    reshape main_v14 main_v15 (rfl : (.f32 : EltTy) = .f32) shapeCasts_S4096x512_S64x64x4x128,
    unary main_v15 main_v16 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F)),
    reshape main_v2 main_v17 (rfl : (.f32 : EltTy) = .f32) shapeCasts_S4096x512_S64x64x4x128,
    unary main_v17 main_v18 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F)),
    reshape main_v3 main_v19 (rfl : (.f32 : EltTy) = .f32) shapeCasts_S4096x1024_S64x64x4x256,
    unary main_v19 main_v20 ((transpose S64x4x64x256 [0, 2, 1, 3] · transposes_S64x64x4x256_S64x4x64x256_0_2_1_3) : (⟨S64x64x4x256, .f32⟩ : BufTy).Contents (Elt F) → (⟨S64x4x64x256, .f32⟩ : BufTy).Contents (Elt F)),
    reshape main_v12 main_v21 (rfl : (.f32 : EltTy) = .f32) shapeCasts_S4096x512_S64x64x4x128,
    unary main_v21 main_v22 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F)) ]

/-- The references they write, in order. -/
abbrev pre2W : List (Ref sig .tc) := [main_cst, main_v11, main_v12, main_cst_0, main_v13, main_v14, main_v15, main_v16, main_v17, main_v18, main_v19, main_v20, main_v21, main_v22]
theorem pre2_sub : (pre2 : Ops F).Forall fun op => op.bufs ⊆ tcRefs τ sig :=
  ⟨nullary_bufs_sub .., unary_bufs_sub .., binary_bufs_sub .., nullary_bufs_sub .., unary_bufs_sub .., binary_bufs_sub .., reshape_bufs_sub .., unary_bufs_sub .., reshape_bufs_sub .., unary_bufs_sub .., reshape_bufs_sub .., unary_bufs_sub .., reshape_bufs_sub .., unary_bufs_sub ..⟩
theorem pre2_fresh : (pre2 : Ops F).Forall fun op => op.fresh = ∅ := forall_fresh_of_map rfl
theorem pre2_writes : (pre2 : Ops F).Forall fun op => op.writes ⊆ (pre2W.map (Proc.devRef (τ := τ) .tc)).toFinset := forall_writes_sub_of_map rfl

/-- Stretch 3 before the first loop: the 3 operations up to the one that writes `main_v23`. -/
abbrev pre3 : Ops F :=
  [ TRef.nullary (.of main_call1_call0_cst : TRef sig ⟨S_, .f32⟩) (constant S_ .f32 0x00000000#32),
    TRef.unary (.of main_call1_call0_cst : TRef sig ⟨S_, .f32⟩) (.of main_call1_call0_v0 : TRef sig ⟨S_, .f32⟩) (broadcastInDim S_ ![] bcast_S_S_),
    TRef.binary (.of main_v22 : TRef sig ⟨S64x4x64x128, .f32⟩) (.of main_call1_call0_v0 : TRef sig ⟨S_, .f32⟩) (.of main_v23 : TRef sig ⟨S64x4x64x128, .f32⟩) (fun x v => Host.reduceWindowAdd ![1, 1, 64, 1] ![1, 1, 1, 1] ![0, 0, 63, 0] ![0, 0, 0, 0] x v reduceWindows_S64x4x64x128_S64x4x64x128_w1s1p0_0_w1s1p0_0_w64s1p63_0_w1s1p0_0 h_S_) ]

/-- The references they write, in order. -/
abbrev pre3W : List (Ref sig .tc) := [main_call1_call0_cst, main_call1_call0_v0, main_v23]
theorem pre3_sub : (pre3 : Ops F).Forall fun op => op.bufs ⊆ tcRefs τ sig :=
  ⟨nullary_bufs_sub .., unary_bufs_sub .., binary_bufs_sub ..⟩
theorem pre3_fresh : (pre3 : Ops F).Forall fun op => op.fresh = ∅ := forall_fresh_of_map rfl
theorem pre3_writes : (pre3 : Ops F).Forall fun op => op.writes ⊆ (pre3W.map (Proc.devRef (τ := τ) .tc)).toFinset := forall_writes_sub_of_map rfl

/-- Stretch 4 before the first loop: the 25 operations up to the one that writes `main_v35_8`. -/
abbrev pre4 : Ops F :=
  [ unary main_v23 main_v24 ((extractStridedSlice S64x4x1x128 ![0, 0, 63, 0] · slices_S64x4x64x128_S64x4x1x128_0_0_63_0) : (⟨S64x4x64x128, .f32⟩ : BufTy).Contents (Elt F) → (⟨S64x4x1x128, .f32⟩ : BufTy).Contents (Elt F)),
    unary main_v24 main_v25 (broadcastInDim S64x4x64x128 ![0, 1, 2, 3] bcast_S64x4x1x128_S64x4x64x128_0_1_2_3 : (⟨S64x4x1x128, .f32⟩ : BufTy).Contents (Elt F) → (⟨S64x4x64x128, .f32⟩ : BufTy).Contents (Elt F)),
    binary main_v25 main_v23 main_v26 (subf : (⟨S64x4x64x128, .f32⟩ : BufTy).Contents (Elt F) → (⟨S64x4x64x128, .f32⟩ : BufTy).Contents (Elt F) → (⟨S64x4x64x128, .f32⟩ : BufTy).Contents (Elt F)),
    unary main_v26 main_v27 (Host.exp : (⟨S64x4x64x128, .f32⟩ : BufTy).Contents (Elt F) → (⟨S64x4x64x128, .f32⟩ : BufTy).Contents (Elt F)),
    binary main_v18 main_v27 main_v28 (mulf : (⟨S64x4x64x128, .f32⟩ : BufTy).Contents (Elt F) → (⟨S64x4x64x128, .f32⟩ : BufTy).Contents (Elt F) → (⟨S64x4x64x128, .f32⟩ : BufTy).Contents (Elt F)),
    reshape main_v24 main_v29 (rfl : (.f32 : EltTy) = .f32) shapeCasts_S64x4x1x128_S64x4x128,
    unary main_v29 main_v30 (Host.exp : (⟨S64x4x128, .f32⟩ : BufTy).Contents (Elt F) → (⟨S64x4x128, .f32⟩ : BufTy).Contents (Elt F)),
    nullary main_cst_1 (constant S_ .f32 0x00000000#32),
    unary main_cst_1 main_v31 (broadcastInDim S4x128x256 ![] bcast_S_S4x128x256 : (⟨S_, .f32⟩ : BufTy).Contents (Elt F) → (⟨S4x128x256, .f32⟩ : BufTy).Contents (Elt F)),
    nullary main_cst_2 (constant S_ .f32 0x00000000#32),
    unary main_cst_2 main_v32 (broadcastInDim S64x4x64x256 ![] bcast_S_S64x4x64x256 : (⟨S_, .f32⟩ : BufTy).Contents (Elt F) → (⟨S64x4x64x256, .f32⟩ : BufTy).Contents (Elt F)),
    nullary main_cst_3 (constant S_ .f32 0x00000000#32),
    unary main_cst_3 main_v33 (broadcastInDim S64x4x128x1 ![] bcast_S_S64x4x128x1 : (⟨S_, .f32⟩ : BufTy).Contents (Elt F) → (⟨S64x4x128x1, .f32⟩ : BufTy).Contents (Elt F)),
    nullary main_cst_4 (constant S_ .f32 0x00000000#32),
    unary main_cst_4 main_v34 (broadcastInDim S64x4x128x256 ![] bcast_S_S64x4x128x256 : (⟨S_, .f32⟩ : BufTy).Contents (Elt F) → (⟨S64x4x128x256, .f32⟩ : BufTy).Contents (Elt F)),
    nullary main_c (constantI S_ 32 0#32),
    unary main_v16 main_v35_0 id,
    unary main_v28 main_v35_1 id,
    unary main_v20 main_v35_2 id,
    unary main_v30 main_v35_3 id,
    unary main_c main_v35_4 id,
    unary main_v31 main_v35_5 id,
    unary main_v32 main_v35_6 id,
    unary main_v33 main_v35_7 id,
    unary main_v34 main_v35_8 id ]

/-- The references they write, in order. -/
abbrev pre4W : List (Ref sig .tc) := [main_v24, main_v25, main_v26, main_v27, main_v28, main_v29, main_v30, main_cst_1, main_v31, main_cst_2, main_v32, main_cst_3, main_v33, main_cst_4, main_v34, main_c, main_v35_0, main_v35_1, main_v35_2, main_v35_3, main_v35_4, main_v35_5, main_v35_6, main_v35_7, main_v35_8]
theorem pre4_sub : (pre4 : Ops F).Forall fun op => op.bufs ⊆ tcRefs τ sig :=
  ⟨unary_bufs_sub .., unary_bufs_sub .., binary_bufs_sub .., unary_bufs_sub .., binary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
theorem pre4_fresh : (pre4 : Ops F).Forall fun op => op.fresh = ∅ := forall_fresh_of_map rfl
theorem pre4_writes : (pre4 : Ops F).Forall fun op => op.writes ⊆ (pre4W.map (Proc.devRef (τ := τ) .tc)).toFinset := forall_writes_sub_of_map rfl

/-- Stretch 0 between the two loops: the 8 operations up to the one that writes `main_v41`. -/
abbrev mid0 : Ops F :=
  [ unary main_v35_6 main_v36 ((transpose S64x64x4x256 [0, 2, 1, 3] · transposes_S64x4x64x256_S64x64x4x256_0_2_1_3) : (⟨S64x4x64x256, .f32⟩ : BufTy).Contents (Elt F) → (⟨S64x64x4x256, .f32⟩ : BufTy).Contents (Elt F)),
    reshape main_v36 main_v37 (rfl : (.f32 : EltTy) = .f32) shapeCasts_S64x64x4x256_S4096x4x256,
    binary main_v37 main_v37 main_v38 (mulf : (⟨S4096x4x256, .f32⟩ : BufTy).Contents (Elt F) → (⟨S4096x4x256, .f32⟩ : BufTy).Contents (Elt F) → (⟨S4096x4x256, .f32⟩ : BufTy).Contents (Elt F)),
    nullary main_cst_5 (constant S_ .f32 0x00000000#32),
    binary main_v38 main_cst_5 main_v39 ((fun x v => Host.reduceAdd x v reducesTo_S4096x4x256_S4096x4_d2 h_S_) : (⟨S4096x4x256, .f32⟩ : BufTy).Contents (Elt F) → (⟨S_, .f32⟩ : BufTy).Contents (Elt F) → (⟨S4096x4, .f32⟩ : BufTy).Contents (Elt F)),
    unary main_v39 main_v40 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_6 (constant S_ .f32 0x43800000#32),
    unary main_cst_6 main_v41 (broadcastInDim S4096x4x1 ![] bcast_S_S4096x4x1 : (⟨S_, .f32⟩ : BufTy).Contents (Elt F) → (⟨S4096x4x1, .f32⟩ : BufTy).Contents (Elt F)) ]

/-- The references they write, in order. -/
abbrev mid0W : List (Ref sig .tc) := [main_v36, main_v37, main_v38, main_cst_5, main_v39, main_v40, main_cst_6, main_v41]
theorem mid0_sub : (mid0 : Ops F).Forall fun op => op.bufs ⊆ tcRefs τ sig :=
  ⟨unary_bufs_sub .., reshape_bufs_sub .., binary_bufs_sub .., nullary_bufs_sub .., binary_bufs_sub .., unary_bufs_sub .., nullary_bufs_sub .., unary_bufs_sub ..⟩
theorem mid0_fresh : (mid0 : Ops F).Forall fun op => op.fresh = ∅ := forall_fresh_of_map rfl
theorem mid0_writes : (mid0 : Ops F).Forall fun op => op.writes ⊆ (mid0W.map (Proc.devRef (τ := τ) .tc)).toFinset := forall_writes_sub_of_map rfl

/-- Stretch 1 between the two loops: the 15 operations up to the one that writes `main_v54`. -/
abbrev mid1 : Ops F :=
  [ binary main_v40 main_v41 main_v42 (Host.divf : (⟨S4096x4x1, .f32⟩ : BufTy).Contents (Elt F) → (⟨S4096x4x1, .f32⟩ : BufTy).Contents (Elt F) → (⟨S4096x4x1, .f32⟩ : BufTy).Contents (Elt F)),
    nullary main_cst_7 (constant S_ .f32 0x358637BD#32),
    unary main_cst_7 main_v43 (broadcastInDim S4096x4x1 ![] bcast_S_S4096x4x1 : (⟨S_, .f32⟩ : BufTy).Contents (Elt F) → (⟨S4096x4x1, .f32⟩ : BufTy).Contents (Elt F)),
    binary main_v42 main_v43 main_v44 (addf : (⟨S4096x4x1, .f32⟩ : BufTy).Contents (Elt F) → (⟨S4096x4x1, .f32⟩ : BufTy).Contents (Elt F) → (⟨S4096x4x1, .f32⟩ : BufTy).Contents (Elt F)),
    unary main_v44 main_v45 (Host.rsqrt : (⟨S4096x4x1, .f32⟩ : BufTy).Contents (Elt F) → (⟨S4096x4x1, .f32⟩ : BufTy).Contents (Elt F)),
    binary main_v45 main_v44 main_v46 (Host.divf : (⟨S4096x4x1, .f32⟩ : BufTy).Contents (Elt F) → (⟨S4096x4x1, .f32⟩ : BufTy).Contents (Elt F) → (⟨S4096x4x1, .f32⟩ : BufTy).Contents (Elt F)),
    nullary main_cst_8 (constant S_ .f32 0xBF000000#32),
    unary main_cst_8 main_v47 (broadcastInDim S4096x4x1 ![] bcast_S_S4096x4x1 : (⟨S_, .f32⟩ : BufTy).Contents (Elt F) → (⟨S4096x4x1, .f32⟩ : BufTy).Contents (Elt F)),
    binary main_v47 main_v46 main_v48 (mulf : (⟨S4096x4x1, .f32⟩ : BufTy).Contents (Elt F) → (⟨S4096x4x1, .f32⟩ : BufTy).Contents (Elt F) → (⟨S4096x4x1, .f32⟩ : BufTy).Contents (Elt F)),
    unary main_v45 main_v49 (broadcastInDim S4096x4x256 ![0, 1, 2] bcast_S4096x4x1_S4096x4x256_0_1_2 : (⟨S4096x4x1, .f32⟩ : BufTy).Contents (Elt F) → (⟨S4096x4x256, .f32⟩ : BufTy).Contents (Elt F)),
    binary main_v37 main_v49 main_v50 (mulf : (⟨S4096x4x256, .f32⟩ : BufTy).Contents (Elt F) → (⟨S4096x4x256, .f32⟩ : BufTy).Contents (Elt F) → (⟨S4096x4x256, .f32⟩ : BufTy).Contents (Elt F)),
    unary main_arg4 main_v51 (broadcastInDim S1x1x256 ![2] bcast_S256_S1x1x256_2 : (⟨S256, .f32⟩ : BufTy).Contents (Elt F) → (⟨S1x1x256, .f32⟩ : BufTy).Contents (Elt F)),
    unary main_v51 main_v52 (broadcastInDim S4096x4x256 ![0, 1, 2] bcast_S1x1x256_S4096x4x256_0_1_2 : (⟨S1x1x256, .f32⟩ : BufTy).Contents (Elt F) → (⟨S4096x4x256, .f32⟩ : BufTy).Contents (Elt F)),
    binary main_v50 main_v52 main_v53 (mulf : (⟨S4096x4x256, .f32⟩ : BufTy).Contents (Elt F) → (⟨S4096x4x256, .f32⟩ : BufTy).Contents (Elt F) → (⟨S4096x4x256, .f32⟩ : BufTy).Contents (Elt F)),
    reshape main_v53 main_v54 (rfl : (.f32 : EltTy) = .f32) shapeCasts_S4096x4x256_S4096x1024 ]

/-- The references they write, in order. -/
abbrev mid1W : List (Ref sig .tc) := [main_v42, main_cst_7, main_v43, main_v44, main_v45, main_v46, main_cst_8, main_v47, main_v48, main_v49, main_v50, main_v51, main_v52, main_v53, main_v54]
theorem mid1_sub : (mid1 : Ops F).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub ..⟩
theorem mid1_fresh : (mid1 : Ops F).Forall fun op => op.fresh = ∅ := forall_fresh_of_map rfl
theorem mid1_writes : (mid1 : Ops F).Forall fun op => op.writes ⊆ (mid1W.map (Proc.devRef (τ := τ) .tc)).toFinset := forall_writes_sub_of_map rfl

/-- Stretch 2 between the two loops: the 13 operations up to the one that writes `main_v55_0`. -/
abbrev mid2 : Ops F :=
  [ TRef.unary (.of main_v4 : TRef sig ⟨S4096x1024, .f32⟩) (.of main_call9_v0 : TRef sig ⟨S4096x1024, .f32⟩) Host.negf,
    TRef.unary (.of main_call9_v0 : TRef sig ⟨S4096x1024, .f32⟩) (.of main_call9_v1 : TRef sig ⟨S4096x1024, .f32⟩) Host.exp,
    TRef.nullary (.of main_call9_cst : TRef sig ⟨S_, .f32⟩) (constant S_ .f32 0x3F800000#32),
    TRef.unary (.of main_call9_cst : TRef sig ⟨S_, .f32⟩) (.of main_call9_v2 : TRef sig ⟨S4096x1024, .f32⟩) (broadcastInDim S4096x1024 ![] bcast_S_S4096x1024),
    TRef.binary (.of main_call9_v2 : TRef sig ⟨S4096x1024, .f32⟩) (.of main_call9_v1 : TRef sig ⟨S4096x1024, .f32⟩) (.of main_call9_v3 : TRef sig ⟨S4096x1024, .f32⟩) addf,
    TRef.nullary (.of main_call9_cst_0 : TRef sig ⟨S_, .f32⟩) (constant S_ .f32 0x3F800000#32),
    TRef.unary (.of main_call9_cst_0 : TRef sig ⟨S_, .f32⟩) (.of main_call9_v4 : TRef sig ⟨S4096x1024, .f32⟩) (broadcastInDim S4096x1024 ![] bcast_S_S4096x1024),
    TRef.binary (.of main_call9_v4 : TRef sig ⟨S4096x1024, .f32⟩) (.of main_call9_v3 : TRef sig ⟨S4096x1024, .f32⟩) (.of main_v55_2 : TRef sig ⟨S4096x1024, .f32⟩) Host.divf,
    TRef.nullary (.of main_call9_cst_1 : TRef sig ⟨S_, .f32⟩) (constant S_ .f32 0x3F800000#32),
    TRef.unary (.of main_call9_cst_1 : TRef sig ⟨S_, .f32⟩) (.of main_call9_v6 : TRef sig ⟨S4096x1024, .f32⟩) (broadcastInDim S4096x1024 ![] bcast_S_S4096x1024),
    TRef.binary (.of main_call9_v6 : TRef sig ⟨S4096x1024, .f32⟩) (.of main_v55_2 : TRef sig ⟨S4096x1024, .f32⟩) (.of main_call9_v7 : TRef sig ⟨S4096x1024, .f32⟩) subf,
    TRef.binary (.of main_v55_2 : TRef sig ⟨S4096x1024, .f32⟩) (.of main_call9_v7 : TRef sig ⟨S4096x1024, .f32⟩) (.of main_v55_1 : TRef sig ⟨S4096x1024, .f32⟩) mulf,
    TRef.binary (.of main_v4 : TRef sig ⟨S4096x1024, .f32⟩) (.of main_v55_2 : TRef sig ⟨S4096x1024, .f32⟩) (.of main_v55_0 : TRef sig ⟨S4096x1024, .f32⟩) mulf ]

/-- The references they write, in order. -/
abbrev mid2W : List (Ref sig .tc) := [main_call9_v0, main_call9_v1, main_call9_cst, main_call9_v2, main_call9_v3, main_call9_cst_0, main_call9_v4, main_v55_2, main_call9_cst_1, main_call9_v6, main_call9_v7, main_v55_1, main_v55_0]
theorem mid2_sub : (mid2 : Ops F).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub ..⟩
theorem mid2_fresh : (mid2 : Ops F).Forall fun op => op.fresh = ∅ := forall_fresh_of_map rfl
theorem mid2_writes : (mid2 : Ops F).Forall fun op => op.writes ⊆ (mid2W.map (Proc.devRef (τ := τ) .tc)).toFinset := forall_writes_sub_of_map rfl

/-- Stretch 3 between the two loops: the 5 operations up to the one that writes `main_v59`. -/
abbrev mid3 : Ops F :=
  [ binary main_v54 main_v55_0 main_v56 (mulf : (⟨S4096x1024, .f32⟩ : BufTy).Contents (Elt F) → (⟨S4096x1024, .f32⟩ : BufTy).Contents (Elt F) → (⟨S4096x1024, .f32⟩ : BufTy).Contents (Elt F)),
    nullary main_cst_9 (constant S_ .f32 0x00000000#32),
    unary main_cst_9 main_v57 (broadcastInDim S4x128x256 ![] bcast_S_S4x128x256 : (⟨S_, .f32⟩ : BufTy).Contents (Elt F) → (⟨S4x128x256, .f32⟩ : BufTy).Contents (Elt F)),
    binary main_v54 main_arg1 main_v58 (mulf : (⟨S4096x1024, .f32⟩ : BufTy).Contents (Elt F) → (⟨S4096x1024, .f32⟩ : BufTy).Contents (Elt F) → (⟨S4096x1024, .f32⟩ : BufTy).Contents (Elt F)),
    binary main_arg1 main_v55_0 main_v59 (mulf : (⟨S4096x1024, .f32⟩ : BufTy).Contents (Elt F) → (⟨S4096x1024, .f32⟩ : BufTy).Contents (Elt F) → (⟨S4096x1024, .f32⟩ : BufTy).Contents (Elt F)) ]

/-- The references they write, in order. -/
abbrev mid3W : List (Ref sig .tc) := [main_v56, main_cst_9, main_v57, main_v58, main_v59]
theorem mid3_sub : (mid3 : Ops F).Forall fun op => op.bufs ⊆ tcRefs τ sig :=
  ⟨binary_bufs_sub .., nullary_bufs_sub .., unary_bufs_sub .., binary_bufs_sub .., binary_bufs_sub ..⟩
theorem mid3_fresh : (mid3 : Ops F).Forall fun op => op.fresh = ∅ := forall_fresh_of_map rfl
theorem mid3_writes : (mid3 : Ops F).Forall fun op => op.writes ⊆ (mid3W.map (Proc.devRef (τ := τ) .tc)).toFinset := forall_writes_sub_of_map rfl

/-- Stretch 4 between the two loops: the 4 operations up to the one that writes `main_v60`. -/
abbrev mid4 : Ops F :=
  [ TRef.binary (.of main_v4 : TRef sig ⟨S4096x1024, .f32⟩) (.of main_v58 : TRef sig ⟨S4096x1024, .f32⟩) (.of main_call10_v0 : TRef sig ⟨S4096x1024, .f32⟩) mulf,
    TRef.binary (.of main_v58 : TRef sig ⟨S4096x1024, .f32⟩) (.of main_v55_2 : TRef sig ⟨S4096x1024, .f32⟩) (.of main_call10_v1 : TRef sig ⟨S4096x1024, .f32⟩) mulf,
    TRef.binary (.of main_call10_v0 : TRef sig ⟨S4096x1024, .f32⟩) (.of main_v55_1 : TRef sig ⟨S4096x1024, .f32⟩) (.of main_call10_v2 : TRef sig ⟨S4096x1024, .f32⟩) mulf,
    TRef.binary (.of main_call10_v1 : TRef sig ⟨S4096x1024, .f32⟩) (.of main_call10_v2 : TRef sig ⟨S4096x1024, .f32⟩) (.of main_v60 : TRef sig ⟨S4096x1024, .f32⟩) addf ]

/-- The references they write, in order. -/
abbrev mid4W : List (Ref sig .tc) := [main_call10_v0, main_call10_v1, main_call10_v2, main_v60]
theorem mid4_sub : (mid4 : Ops F).Forall fun op => op.bufs ⊆ tcRefs τ sig :=
  ⟨binary_bufs_sub .., binary_bufs_sub .., binary_bufs_sub .., binary_bufs_sub ..⟩
theorem mid4_fresh : (mid4 : Ops F).Forall fun op => op.fresh = ∅ := forall_fresh_of_map rfl
theorem mid4_writes : (mid4 : Ops F).Forall fun op => op.writes ⊆ (mid4W.map (Proc.devRef (τ := τ) .tc)).toFinset := forall_writes_sub_of_map rfl

/-- Stretch 5 between the two loops: the 38 operations up to the one that writes `main_v88_0`. -/
abbrev mid5 : Ops F :=
  ( reshape main_v59 main_v61 (rfl : (.f32 : EltTy) = .f32) shapeCasts_S4096x1024_S4096x4x256
  :: binary main_v50 main_v61 main_v62 (mulf : (⟨S4096x4x256, .f32⟩ : BufTy).Contents (Elt F) → (⟨S4096x4x256, .f32⟩ : BufTy).Contents (Elt F) → (⟨S4096x4x256, .f32⟩ : BufTy).Contents (Elt F))
  :: nullary main_cst_10 (constant S_ .f32 0x00000000#32)
  :: binary main_v62 main_cst_10 main_v63 ((fun x v => Host.reduceAdd x v reducesTo_S4096x4x256_S256_d0_1 h_S_) : (⟨S4096x4x256, .f32⟩ : BufTy).Contents (Elt F) → (⟨S_, .f32⟩ : BufTy).Contents (Elt F) → (⟨S256, .f32⟩ : BufTy).Contents (Elt F))
  :: reshape main_v63 main_v64 (rfl : (.f32 : EltTy) = .f32) shapeCasts_S256_S1x1x256
  :: unary main_v51 main_v65 (broadcastInDim S4096x4x256 ![0, 1, 2] bcast_S1x1x256_S4096x4x256_0_1_2 : (⟨S1x1x256, .f32⟩ : BufTy).Contents (Elt F) → (⟨S4096x4x256, .f32⟩ : BufTy).Contents (Elt F))
  :: binary main_v61 main_v65 main_v66 (mulf : (⟨S4096x4x256, .f32⟩ : BufTy).Contents (Elt F) → (⟨S4096x4x256, .f32⟩ : BufTy).Contents (Elt F) → (⟨S4096x4x256, .f32⟩ : BufTy).Contents (Elt F))
  :: nullary main_cst_11 (constant S_ .f32 0x00000000#32)
  :: binary main_v64 main_cst_11 main_v67 ((fun x v => Host.reduceAdd x v reducesTo_S1x1x256_S256_d0_1 h_S_) : (⟨S1x1x256, .f32⟩ : BufTy).Contents (Elt F) → (⟨S_, .f32⟩ : BufTy).Contents (Elt F) → (⟨S256, .f32⟩ : BufTy).Contents (Elt F))
  :: binary main_v37 main_v66 main_v68 (mulf : (⟨S4096x4x256, .f32⟩ : BufTy).Contents (Elt F) → (⟨S4096x4x256, .f32⟩ : BufTy).Contents (Elt F) → (⟨S4096x4x256, .f32⟩ : BufTy).Contents (Elt F))
  :: nullary main_cst_12 (constant S_ .f32 0x00000000#32)
  :: binary main_v68 main_cst_12 main_v69 ((fun x v => Host.reduceAdd x v reducesTo_S4096x4x256_S4096x4_d2 h_S_) : (⟨S4096x4x256, .f32⟩ : BufTy).Contents (Elt F) → (⟨S_, .f32⟩ : BufTy).Contents (Elt F) → (⟨S4096x4, .f32⟩ : BufTy).Contents (Elt F))
  :: reshape main_v69 main_v70 (rfl : (.f32 : EltTy) = .f32) shapeCasts_S4096x4_S4096x4x1
  :: unary main_v45 main_v71 (broadcastInDim S4096x4x256 ![0, 1, 2] bcast_S4096x4x1_S4096x4x256_0_1_2 : (⟨S4096x4x1, .f32⟩ : BufTy).Contents (Elt F) → (⟨S4096x4x256, .f32⟩ : BufTy).Contents (Elt F))
  :: binary main_v66 main_v71 main_v72 (mulf : (⟨S4096x4x256, .f32⟩ : BufTy).Contents (Elt F) → (⟨S4096x4x256, .f32⟩ : BufTy).Contents (Elt F) → (⟨S4096x4x256, .f32⟩ : BufTy).Contents (Elt F))
  :: binary main_v70 main_v48 main_v73 (mulf : (⟨S4096x4x1, .f32⟩ : BufTy).Contents (Elt F) → (⟨S4096x4x1, .f32⟩ : BufTy).Contents (Elt F) → (⟨S4096x4x1, .f32⟩ : BufTy).Contents (Elt F))
  :: nullary main_cst_13 (constant S_ .f32 0x43800000#32)
  :: unary main_cst_13 main_v74 (broadcastInDim S4096x4x1 ![] bcast_S_S4096x4x1 : (⟨S_, .f32⟩ : BufTy).Contents (Elt F) → (⟨S4096x4x1, .f32⟩ : BufTy).Contents (Elt F))
  :: binary main_v73 main_v74 main_v75 (Host.divf : (⟨S4096x4x1, .f32⟩ : BufTy).Contents (Elt F) → (⟨S4096x4x1, .f32⟩ : BufTy).Contents (Elt F) → (⟨S4096x4x1, .f32⟩ : BufTy).Contents (Elt F))
  :: nullary main_cst_14 (constant S_ .f32 0x00000000#32)
  :: binary main_v75 main_cst_14 main_v76 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F))
  :: unary main_v76 main_v77 (broadcastInDim S4096x4x256 ![0, 1] bcast_S4096x4_S4096x4x256_0_1 : (⟨S4096x4, .f32⟩ : BufTy).Contents (Elt F) → (⟨S4096x4x256, .f32⟩ : BufTy).Contents (Elt F))
  :: binary main_v37 main_v77 main_v78 (mulf : (⟨S4096x4x256, .f32⟩ : BufTy).Contents (Elt F) → (⟨S4096x4x256, .f32⟩ : BufTy).Contents (Elt F) → (⟨S4096x4x256, .f32⟩ : BufTy).Contents (Elt F))
  :: binary main_v72 main_v78 main_v79 (addf : (⟨S4096x4x256, .f32⟩ : BufTy).Contents (Elt F) → (⟨S4096x4x256, .f32⟩ : BufTy).Contents (Elt F) → (⟨S4096x4x256, .f32⟩ : BufTy).Contents (Elt F))
  :: binary main_v77 main_v37 main_v80 (mulf : (⟨S4096x4x256, .f32⟩ : BufTy).Contents (Elt F) → (⟨S4096x4x256, .f32⟩ : BufTy).Contents (Elt F) → (⟨S4096x4x256, .f32⟩ : BufTy).Contents (Elt F))
  :: binary main_v79 main_v80 main_v81 (addf : (⟨S4096x4x256, .f32⟩ : BufTy).Contents (Elt F) → (⟨S4096x4x256, .f32⟩ : BufTy).Contents (Elt F) → (⟨S4096x4x256, .f32⟩ : BufTy).Contents (Elt F))
  :: reshape main_v81 main_v82 (rfl : (.f32 : EltTy) = .f32) shapeCasts_S4096x4x256_S64x64x4x256
  :: unary main_v82 main_v83 ((transpose S64x4x64x256 [0, 2, 1, 3] · transposes_S64x64x4x256_S64x4x64x256_0_2_1_3) : (⟨S64x64x4x256, .f32⟩ : BufTy).Contents (Elt F) → (⟨S64x4x64x256, .f32⟩ : BufTy).Contents (Elt F))
  :: nullary main_cst_15 (constant S_ .f32 0x00000000#32)
  :: unary main_cst_15 main_v84 (broadcastInDim S4x128x256 ![] bcast_S_S4x128x256 : (⟨S_, .f32⟩ : BufTy).Contents (Elt F) → (⟨S4x128x256, .f32⟩ : BufTy).Contents (Elt F))
  :: nullary main_cst_16 (constant S_ .f32 0x00000000#32)
  :: unary main_cst_16 main_v85 (broadcastInDim S64x4x64x128 ![] bcast_S_S64x4x64x128 : (⟨S_, .f32⟩ : BufTy).Contents (Elt F) → (⟨S64x4x64x128, .f32⟩ : BufTy).Contents (Elt F))
  :: nullary main_cst_17 (constant S_ .f32 0x00000000#32)
  :: unary main_cst_17 main_v86 (broadcastInDim S64x4x64x128 ![] bcast_S_S64x4x64x128 : (⟨S_, .f32⟩ : BufTy).Contents (Elt F) → (⟨S64x4x64x128, .f32⟩ : BufTy).Contents (Elt F))
  :: nullary main_cst_18 (constant S_ .f32 0x00000000#32)
  :: unary main_cst_18 main_v87 (broadcastInDim S64x4x64x256 ![] bcast_S_S64x4x64x256 : (⟨S_, .f32⟩ : BufTy).Contents (Elt F) → (⟨S64x4x64x256, .f32⟩ : BufTy).Contents (Elt F))
  :: nullary main_c_19 (constantI S_ 32 0#32)
  :: unary main_v83 main_v88_0 id
  :: [] )

/-- The references they write, in order. -/
abbrev mid5W : List (Ref sig .tc) := [main_v61, main_v62, main_cst_10, main_v63, main_v64, main_v65, main_v66, main_cst_11, main_v67, main_v68, main_cst_12, main_v69, main_v70, main_v71, main_v72, main_v73, main_cst_13, main_v74, main_v75, main_cst_14, main_v76, main_v77, main_v78, main_v79, main_v80, main_v81, main_v82, main_v83, main_cst_15, main_v84, main_cst_16, main_v85, main_cst_17, main_v86, main_cst_18, main_v87, main_c_19, main_v88_0]
theorem mid5_sub : (mid5 : Ops F).Forall fun op => op.bufs ⊆ tcRefs τ sig :=
  ⟨reshape_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub ..⟩
theorem mid5_fresh : (mid5 : Ops F).Forall fun op => op.fresh = ∅ := forall_fresh_of_map rfl
theorem mid5_writes : (mid5 : Ops F).Forall fun op => op.writes ⊆ (mid5W.map (Proc.devRef (τ := τ) .tc)).toFinset := forall_writes_sub_of_map rfl

/-- Stretch 6 between the two loops: the 10 operations up to the one that writes `main_v88_10`. -/
abbrev mid6 : Ops F :=
  [ unary main_v35_7 main_v88_1 id,
    unary main_v20 main_v88_2 id,
    unary main_v28 main_v88_3 id,
    unary main_v35_8 main_v88_4 id,
    unary main_v16 main_v88_5 id,
    unary main_c_19 main_v88_6 id,
    unary main_v84 main_v88_7 id,
    unary main_v85 main_v88_8 id,
    unary main_v86 main_v88_9 id,
    unary main_v87 main_v88_10 id ]

/-- The references they write, in order. -/
abbrev mid6W : List (Ref sig .tc) := [main_v88_1, main_v88_2, main_v88_3, main_v88_4, main_v88_5, main_v88_6, main_v88_7, main_v88_8, main_v88_9, main_v88_10]
theorem mid6_sub : (mid6 : Ops F).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub ..⟩
theorem mid6_fresh : (mid6 : Ops F).Forall fun op => op.fresh = ∅ := forall_fresh_of_map rfl
theorem mid6_writes : (mid6 : Ops F).Forall fun op => op.writes ⊆ (mid6W.map (Proc.devRef (τ := τ) .tc)).toFinset := forall_writes_sub_of_map rfl

/-- Stretch 0 after the second loop: the 14 operations up to the one that writes `main_v101`. -/
abbrev fin0 : Ops F :=
  [ binary main_v88_9 main_v27 main_v89 (mulf : (⟨S64x4x64x128, .f32⟩ : BufTy).Contents (Elt F) → (⟨S64x4x64x128, .f32⟩ : BufTy).Contents (Elt F) → (⟨S64x4x64x128, .f32⟩ : BufTy).Contents (Elt F)),
    unary main_v88_10 main_v90 ((transpose S64x64x4x256 [0, 2, 1, 3] · transposes_S64x4x64x256_S64x64x4x256_0_2_1_3) : (⟨S64x4x64x256, .f32⟩ : BufTy).Contents (Elt F) → (⟨S64x64x4x256, .f32⟩ : BufTy).Contents (Elt F)),
    reshape main_v90 main_v91 (rfl : (.f32 : EltTy) = .f32) shapeCasts_S64x64x4x256_S4096x1024,
    unary main_v89 main_v92 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    reshape main_v92 main_v93 (rfl : (.f32 : EltTy) = .f32) shapeCasts_S64x64x4x128_S4096x512,
    unary main_v88_8 main_v94 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    reshape main_v94 main_v95 (rfl : (.f32 : EltTy) = .f32) shapeCasts_S64x64x4x128_S4096x512,
    nullary main_cst_20 (constant S_ .f32 0x3DB504F3#32),
    unary main_cst_20 main_v96 (broadcastInDim S4096x512 ![] bcast_S_S4096x512 : (⟨S_, .f32⟩ : BufTy).Contents (Elt F) → (⟨S4096x512, .f32⟩ : BufTy).Contents (Elt F)),
    binary main_v95 main_v96 main_v97 (mulf : (⟨S4096x512, .f32⟩ : BufTy).Contents (Elt F) → (⟨S4096x512, .f32⟩ : BufTy).Contents (Elt F) → (⟨S4096x512, .f32⟩ : BufTy).Contents (Elt F)),
    unary main_arg5 main_v98 ((extractStridedSlice S4096x5248 ![0, 3072] · slices_S4096x8320_S4096x5248_0_3072) : (⟨S4096x8320, .f32⟩ : BufTy).Contents (Elt F) → (⟨S4096x5248, .f32⟩ : BufTy).Contents (Elt F)),
    nary ![main_v97, main_v93, main_v91, main_v60, main_v98] main_v99 (fun u => (concatenate S4096x8320 1 [⟨S4096x512, (u 0 : (⟨S4096x512, .f32⟩ : BufTy).Contents (Elt F))⟩, ⟨S4096x512, (u 1 : (⟨S4096x512, .f32⟩ : BufTy).Contents (Elt F))⟩, ⟨S4096x1024, (u 2 : (⟨S4096x1024, .f32⟩ : BufTy).Contents (Elt F))⟩, ⟨S4096x1024, (u 3 : (⟨S4096x1024, .f32⟩ : BufTy).Contents (Elt F))⟩, ⟨S4096x5248, (u 4 : (⟨S4096x5248, .f32⟩ : BufTy).Contents (Elt F))⟩] concatenates_S4096x512_S4096x512_S4096x1024_S4096x1024_S4096x5248_S4096x8320_d1 : (⟨S4096x8320, .f32⟩ : BufTy).Contents (Elt F))),
    unary main_v99 main_v100 ((truncf .bf16 · bitsLt_bf16_f32) : (⟨S4096x8320, .f32⟩ : BufTy).Contents (Elt F) → (⟨S4096x8320, .bf16⟩ : BufTy).Contents (Elt F)),
    reshape main_v67 main_v101 (rfl : (.f32 : EltTy) = .f32) shapeCasts_S256_S1x256 ]

/-- The references they write, in order. -/
abbrev fin0W : List (Ref sig .tc) := [main_v89, main_v90, main_v91, main_v92, main_v93, main_v94, main_v95, main_cst_20, main_v96, main_v97, main_v98, main_v99, main_v100, main_v101]
theorem fin0_sub : (fin0 : Ops F).Forall fun op => op.bufs ⊆ tcRefs τ sig :=
  ⟨binary_bufs_sub .., unary_bufs_sub .., reshape_bufs_sub .., unary_bufs_sub .., reshape_bufs_sub .., unary_bufs_sub .., reshape_bufs_sub .., nullary_bufs_sub .., unary_bufs_sub .., binary_bufs_sub .., unary_bufs_sub .., nary_bufs_sub .., unary_bufs_sub .., reshape_bufs_sub ..⟩
theorem fin0_fresh : (fin0 : Ops F).Forall fun op => op.fresh = ∅ := forall_fresh_of_map rfl
theorem fin0_writes : (fin0 : Ops F).Forall fun op => op.writes ⊆ (fin0W.map (Proc.devRef (τ := τ) .tc)).toFinset := forall_writes_sub_of_map rfl

/-- Stretch 0 of the first loop's body: the 5 operations up to the one that writes `main_while0b_v102`. -/
abbrev fwd0 : Ops F :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v35_0 : TRef sig ⟨S64x4x64x128, .f32⟩) ![(.of main_v35_4 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x4x64x128, .f32⟩) (fun x i => Host.dynamicSlice S1x4x64x128 x (fun k => (i k (Shape.Idx.first h_S_)).toInt) sliceFits_S64x4x64x128_S1x4x64x128),
    TRef.reshape (.of main_while0b_call2_v0 : TRef sig ⟨S1x4x64x128, .f32⟩) (.of main_while0b_v102 : TRef sig ⟨S4x64x128, .f32⟩) (rfl : (.f32 : EltTy) = .f32) shapeCasts_S1x4x64x128_S4x64x128 ]

/-- The references they write, in order. -/
abbrev fwd0W : List (Ref sig .tc) := [main_while0b_call2_c, main_while0b_call2_c_0, main_while0b_call2_c_1, main_while0b_call2_v0, main_while0b_v102]
theorem fwd0_sub : (fwd0 : Ops F).Forall fun op => op.bufs ⊆ tcRefs τ sig :=
  ⟨nullary_bufs_sub .., nullary_bufs_sub .., nullary_bufs_sub .., unaryIndexed_bufs_sub .., reshape_bufs_sub ..⟩
theorem fwd0_fresh : (fwd0 : Ops F).Forall fun op => op.fresh = ∅ := forall_fresh_of_map rfl
theorem fwd0_writes : (fwd0 : Ops F).Forall fun op => op.writes ⊆ (fwd0W.map (Proc.devRef (τ := τ) .tc)).toFinset := forall_writes_sub_of_map rfl

/-- Stretch 1 of the first loop's body: the 5 operations up to the one that writes `main_while0b_v103`. -/
abbrev fwd1 : Ops F :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v35_1 : TRef sig ⟨S64x4x64x128, .f32⟩) ![(.of main_v35_4 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x4x64x128, .f32⟩) (fun x i => Host.dynamicSlice S1x4x64x128 x (fun k => (i k (Shape.Idx.first h_S_)).toInt) sliceFits_S64x4x64x128_S1x4x64x128),
    TRef.reshape (.of main_while0b_call3_v0 : TRef sig ⟨S1x4x64x128, .f32⟩) (.of main_while0b_v103 : TRef sig ⟨S4x64x128, .f32⟩) (rfl : (.f32 : EltTy) = .f32) shapeCasts_S1x4x64x128_S4x64x128 ]

/-- The references they write, in order. -/
abbrev fwd1W : List (Ref sig .tc) := [main_while0b_call3_c, main_while0b_call3_c_0, main_while0b_call3_c_1, main_while0b_call3_v0, main_while0b_v103]
theorem fwd1_sub : (fwd1 : Ops F).Forall fun op => op.bufs ⊆ tcRefs τ sig :=
  ⟨nullary_bufs_sub .., nullary_bufs_sub .., nullary_bufs_sub .., unaryIndexed_bufs_sub .., reshape_bufs_sub ..⟩
theorem fwd1_fresh : (fwd1 : Ops F).Forall fun op => op.fresh = ∅ := forall_fresh_of_map rfl
theorem fwd1_writes : (fwd1 : Ops F).Forall fun op => op.writes ⊆ (fwd1W.map (Proc.devRef (τ := τ) .tc)).toFinset := forall_writes_sub_of_map rfl

/-- Stretch 2 of the first loop's body: the 5 operations up to the one that writes `main_while0b_v104`. -/
abbrev fwd2 : Ops F :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v35_2 : TRef sig ⟨S64x4x64x256, .f32⟩) ![(.of main_v35_4 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x4x64x256, .f32⟩) (fun x i => Host.dynamicSlice S1x4x64x256 x (fun k => (i k (Shape.Idx.first h_S_)).toInt) sliceFits_S64x4x64x256_S1x4x64x256),
    TRef.reshape (.of main_while0b_call4_v0 : TRef sig ⟨S1x4x64x256, .f32⟩) (.of main_while0b_v104 : TRef sig ⟨S4x64x256, .f32⟩) (rfl : (.f32 : EltTy) = .f32) shapeCasts_S1x4x64x256_S4x64x256 ]

/-- The references they write, in order. -/
abbrev fwd2W : List (Ref sig .tc) := [main_while0b_call4_c, main_while0b_call4_c_0, main_while0b_call4_c_1, main_while0b_call4_v0, main_while0b_v104]
theorem fwd2_sub : (fwd2 : Ops F).Forall fun op => op.bufs ⊆ tcRefs τ sig :=
  ⟨nullary_bufs_sub .., nullary_bufs_sub .., nullary_bufs_sub .., unaryIndexed_bufs_sub .., reshape_bufs_sub ..⟩
theorem fwd2_fresh : (fwd2 : Ops F).Forall fun op => op.fresh = ∅ := forall_fresh_of_map rfl
theorem fwd2_writes : (fwd2 : Ops F).Forall fun op => op.writes ⊆ (fwd2W.map (Proc.devRef (τ := τ) .tc)).toFinset := forall_writes_sub_of_map rfl

/-- Stretch 3 of the first loop's body: the 4 operations up to the one that writes `main_while0b_v105`. -/
abbrev fwd3 : Ops F :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.unaryIndexed (.of main_v35_3 : TRef sig ⟨S64x4x128, .f32⟩) ![(.of main_v35_4 : TRef sig ⟨S_, .i32⟩), (.of main_while0b_call5_c : TRef sig ⟨S_, .i32⟩), (.of main_while0b_call5_c_0 : TRef sig ⟨S_, .i32⟩)] (.of main_while0b_call5_v0 : TRef sig ⟨S1x4x128, .f32⟩) (fun x i => Host.dynamicSlice S1x4x128 x (fun k => (i k (Shape.Idx.first h_S_)).toInt) sliceFits_S64x4x128_S1x4x128),
    TRef.reshape (.of main_while0b_call5_v0 : TRef sig ⟨S1x4x128, .f32⟩) (.of main_while0b_v105 : TRef sig ⟨S4x128, .f32⟩) (rfl : (.f32 : EltTy) = .f32) shapeCasts_S1x4x128_S4x128 ]

/-- The references they write, in order. -/
abbrev fwd3W : List (Ref sig .tc) := [main_while0b_call5_c, main_while0b_call5_c_0, main_while0b_call5_v0, main_while0b_v105]
theorem fwd3_sub : (fwd3 : Ops F).Forall fun op => op.bufs ⊆ tcRefs τ sig :=
  ⟨nullary_bufs_sub .., nullary_bufs_sub .., unaryIndexed_bufs_sub .., reshape_bufs_sub ..⟩
theorem fwd3_fresh : (fwd3 : Ops F).Forall fun op => op.fresh = ∅ := forall_fresh_of_map rfl
theorem fwd3_writes : (fwd3 : Ops F).Forall fun op => op.writes ⊆ (fwd3W.map (Proc.devRef (τ := τ) .tc)).toFinset := forall_writes_sub_of_map rfl

/-- Stretch 4 of the first loop's body: the 6 operations up to the one that writes `main_while0b_v111`. -/
abbrev fwd4 : Ops F :=
  [ unary main_while0b_v105 main_while0b_v106 (broadcastInDim S4x128x1 ![0, 1] bcast_S4x128_S4x128x1_0_1 : (⟨S4x128, .f32⟩ : BufTy).Contents (Elt F) → (⟨S4x128x1, .f32⟩ : BufTy).Contents (Elt F)),
    unary main_while0b_v106 main_while0b_v107 (broadcastInDim S4x128x256 ![0, 1, 2] bcast_S4x128x1_S4x128x256_0_1_2 : (⟨S4x128x1, .f32⟩ : BufTy).Contents (Elt F) → (⟨S4x128x256, .f32⟩ : BufTy).Contents (Elt F)),
    binary main_while0b_v107 main_v35_5 main_while0b_v108 (mulf : (⟨S4x128x256, .f32⟩ : BufTy).Contents (Elt F) → (⟨S4x128x256, .f32⟩ : BufTy).Contents (Elt F) → (⟨S4x128x256, .f32⟩ : BufTy).Contents (Elt F)),
    binary main_while0b_v103 main_while0b_v104 main_while0b_v109 ((fun l r => Host.dotGeneral dot_S4x64x128_S4x64x256_S4x128x256_1_1_2_2_0_0 none l r) : (⟨S4x64x128, .f32⟩ : BufTy).Contents (Elt F) → (⟨S4x64x256, .f32⟩ : BufTy).Contents (Elt F) → (⟨S4x128x256, .f32⟩ : BufTy).Contents (Elt F)),
    binary main_while0b_v108 main_while0b_v109 main_while0b_v110 (addf : (⟨S4x128x256, .f32⟩ : BufTy).Contents (Elt F) → (⟨S4x128x256, .f32⟩ : BufTy).Contents (Elt F) → (⟨S4x128x256, .f32⟩ : BufTy).Contents (Elt F)),
    binary main_while0b_v102 main_while0b_v110 main_while0b_v111 ((fun l r => Host.dotGeneral dot_S4x64x128_S4x128x256_S4x64x256_2_1_1_2_0_0 none l r) : (⟨S4x64x128, .f32⟩ : BufTy).Contents (Elt F) → (⟨S4x128x256, .f32⟩ : BufTy).Contents (Elt F) → (⟨S4x64x256, .f32⟩ : BufTy).Contents (Elt F)) ]

/-- The references they write, in order. -/
abbrev fwd4W : List (Ref sig .tc) := [main_while0b_v106, main_while0b_v107, main_while0b_v108, main_while0b_v109, main_while0b_v110, main_while0b_v111]
theorem fwd4_sub : (fwd4 : Ops F).Forall fun op => op.bufs ⊆ tcRefs τ sig :=
  ⟨unary_bufs_sub .., unary_bufs_sub .., binary_bufs_sub .., binary_bufs_sub .., binary_bufs_sub .., binary_bufs_sub ..⟩
theorem fwd4_fresh : (fwd4 : Ops F).Forall fun op => op.fresh = ∅ := forall_fresh_of_map rfl
theorem fwd4_writes : (fwd4 : Ops F).Forall fun op => op.writes ⊆ (fwd4W.map (Proc.devRef (τ := τ) .tc)).toFinset := forall_writes_sub_of_map rfl

/-- Stretch 5 of the first loop's body: the 5 operations up to the one that writes `main_while0b_v112`. -/
abbrev fwd5 : Ops F :=
  [ TRef.unary (.of main_while0b_v111 : TRef sig ⟨S4x64x256, .f32⟩) (.of main_while0b_call6_v0 : TRef sig ⟨S1x4x64x256, .f32⟩) (broadcastInDim S1x4x64x256 ![1, 2, 3] bcast_S4x64x256_S1x4x64x256_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v35_6 : TRef sig ⟨S64x4x64x256, .f32⟩) (.of main_while0b_call6_v0 : TRef sig ⟨S1x4x64x256, .f32⟩) ![(.of main_v35_4 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v112 : TRef sig ⟨S64x4x64x256, .f32⟩) (fun x u i => Host.dynamicUpdateSlice x u (fun k => (i k (Shape.Idx.first h_S_)).toInt) updateFits_S64x4x64x256_S1x4x64x256) ]

/-- The references they write, in order. -/
abbrev fwd5W : List (Ref sig .tc) := [main_while0b_call6_v0, main_while0b_call6_c, main_while0b_call6_c_0, main_while0b_call6_c_1, main_while0b_v112]
theorem fwd5_sub : (fwd5 : Ops F).Forall fun op => op.bufs ⊆ tcRefs τ sig :=
  ⟨unary_bufs_sub .., nullary_bufs_sub .., nullary_bufs_sub .., nullary_bufs_sub .., binaryIndexed_bufs_sub ..⟩
theorem fwd5_fresh : (fwd5 : Ops F).Forall fun op => op.fresh = ∅ := forall_fresh_of_map rfl
theorem fwd5_writes : (fwd5 : Ops F).Forall fun op => op.writes ⊆ (fwd5W.map (Proc.devRef (τ := τ) .tc)).toFinset := forall_writes_sub_of_map rfl

/-- Stretch 6 of the first loop's body: the 5 operations up to the one that writes `main_while0b_v113`. -/
abbrev fwd6 : Ops F :=
  [ TRef.unary (.of main_while0b_v106 : TRef sig ⟨S4x128x1, .f32⟩) (.of main_while0b_call7_v0 : TRef sig ⟨S1x4x128x1, .f32⟩) (broadcastInDim S1x4x128x1 ![1, 2, 3] bcast_S4x128x1_S1x4x128x1_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v35_7 : TRef sig ⟨S64x4x128x1, .f32⟩) (.of main_while0b_call7_v0 : TRef sig ⟨S1x4x128x1, .f32⟩) ![(.of main_v35_4 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v113 : TRef sig ⟨S64x4x128x1, .f32⟩) (fun x u i => Host.dynamicUpdateSlice x u (fun k => (i k (Shape.Idx.first h_S_)).toInt) updateFits_S64x4x128x1_S1x4x128x1) ]

/-- The references they write, in order. -/
abbrev fwd6W : List (Ref sig .tc) := [main_while0b_call7_v0, main_while0b_call7_c, main_while0b_call7_c_0, main_while0b_call7_c_1, main_while0b_v113]
theorem fwd6_sub : (fwd6 : Ops F).Forall fun op => op.bufs ⊆ tcRefs τ sig :=
  ⟨unary_bufs_sub .., nullary_bufs_sub .., nullary_bufs_sub .., nullary_bufs_sub .., binaryIndexed_bufs_sub ..⟩
theorem fwd6_fresh : (fwd6 : Ops F).Forall fun op => op.fresh = ∅ := forall_fresh_of_map rfl
theorem fwd6_writes : (fwd6 : Ops F).Forall fun op => op.writes ⊆ (fwd6W.map (Proc.devRef (τ := τ) .tc)).toFinset := forall_writes_sub_of_map rfl

/-- Stretch 7 of the first loop's body: the 5 operations up to the one that writes `main_while0b_v114`. -/
abbrev fwd7 : Ops F :=
  [ TRef.unary (.of main_while0b_v110 : TRef sig ⟨S4x128x256, .f32⟩) (.of main_while0b_call8_v0 : TRef sig ⟨S1x4x128x256, .f32⟩) (broadcastInDim S1x4x128x256 ![1, 2, 3] bcast_S4x128x256_S1x4x128x256_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v35_8 : TRef sig ⟨S64x4x128x256, .f32⟩) (.of main_while0b_call8_v0 : TRef sig ⟨S1x4x128x256, .f32⟩) ![(.of main_v35_4 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v114 : TRef sig ⟨S64x4x128x256, .f32⟩) (fun x u i => Host.dynamicUpdateSlice x u (fun k => (i k (Shape.Idx.first h_S_)).toInt) updateFits_S64x4x128x256_S1x4x128x256) ]

/-- The references they write, in order. -/
abbrev fwd7W : List (Ref sig .tc) := [main_while0b_call8_v0, main_while0b_call8_c, main_while0b_call8_c_0, main_while0b_call8_c_1, main_while0b_v114]
theorem fwd7_sub : (fwd7 : Ops F).Forall fun op => op.bufs ⊆ tcRefs τ sig :=
  ⟨unary_bufs_sub .., nullary_bufs_sub .., nullary_bufs_sub .., nullary_bufs_sub .., binaryIndexed_bufs_sub ..⟩
theorem fwd7_fresh : (fwd7 : Ops F).Forall fun op => op.fresh = ∅ := forall_fresh_of_map rfl
theorem fwd7_writes : (fwd7 : Ops F).Forall fun op => op.writes ⊆ (fwd7W.map (Proc.devRef (τ := τ) .tc)).toFinset := forall_writes_sub_of_map rfl

/-- Stretch 8 of the first loop's body: the 7 operations up to the one that writes `main_v35_8`. -/
abbrev fwd8 : Ops F :=
  [ nullary main_while0b_c_29 (constantI S_ 32 1#32),
    binary main_v35_4 main_while0b_c_29 main_while0b_v115 (addi : (⟨S_, .i32⟩ : BufTy).Contents (Elt F) → (⟨S_, .i32⟩ : BufTy).Contents (Elt F) → (⟨S_, .i32⟩ : BufTy).Contents (Elt F)),
    unary main_while0b_v115 main_v35_4 id,
    unary main_while0b_v110 main_v35_5 id,
    unary main_while0b_v112 main_v35_6 id,
    unary main_while0b_v113 main_v35_7 id,
    unary main_while0b_v114 main_v35_8 id ]

/-- The references they write, in order. -/
abbrev fwd8W : List (Ref sig .tc) := [main_while0b_c_29, main_while0b_v115, main_v35_4, main_v35_5, main_v35_6, main_v35_7, main_v35_8]
theorem fwd8_sub : (fwd8 : Ops F).Forall fun op => op.bufs ⊆ tcRefs τ sig :=
  ⟨nullary_bufs_sub .., binary_bufs_sub .., unary_bufs_sub .., unary_bufs_sub .., unary_bufs_sub .., unary_bufs_sub .., unary_bufs_sub ..⟩
theorem fwd8_fresh : (fwd8 : Ops F).Forall fun op => op.fresh = ∅ := forall_fresh_of_map rfl
theorem fwd8_writes : (fwd8 : Ops F).Forall fun op => op.writes ⊆ (fwd8W.map (Proc.devRef (τ := τ) .tc)).toFinset := forall_writes_sub_of_map rfl

/-- Stretch 0 of the second loop's body: the 4 operations up to the one that writes `main_while1b_v103`. -/
abbrev bwd0 : Ops F :=
  [ nullary main_while1b_c_31 (constantI S_ 32 64#32),
    binary main_while1b_c_31 main_v88_6 main_while1b_v102 (subi : (⟨S_, .i32⟩ : BufTy).Contents (Elt F) → (⟨S_, .i32⟩ : BufTy).Contents (Elt F) → (⟨S_, .i32⟩ : BufTy).Contents (Elt F)),
    nullary main_while1b_c_32 (constantI S_ 32 1#32),
    binary main_while1b_v102 main_while1b_c_32 main_while1b_v103 (subi : (⟨S_, .i32⟩ : BufTy).Contents (Elt F) → (⟨S_, .i32⟩ : BufTy).Contents (Elt F) → (⟨S_, .i32⟩ : BufTy).Contents (Elt F)) ]

/-- The references they write, in order. -/
abbrev bwd0W : List (Ref sig .tc) := [main_while1b_c_31, main_while1b_v102, main_while1b_c_32, main_while1b_v103]
theorem bwd0_sub : (bwd0 : Ops F).Forall fun op => op.bufs ⊆ tcRefs τ sig :=
  ⟨nullary_bufs_sub .., binary_bufs_sub .., nullary_bufs_sub .., binary_bufs_sub ..⟩
theorem bwd0_fresh : (bwd0 : Ops F).Forall fun op => op.fresh = ∅ := forall_fresh_of_map rfl
theorem bwd0_writes : (bwd0 : Ops F).Forall fun op => op.writes ⊆ (bwd0W.map (Proc.devRef (τ := τ) .tc)).toFinset := forall_writes_sub_of_map rfl

/-- Stretch 1 of the second loop's body: the 5 operations up to the one that writes `main_while1b_v104`. -/
abbrev bwd1 : Ops F :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v88_0 : TRef sig ⟨S64x4x64x256, .f32⟩) ![(.of main_while1b_v103 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x4x64x256, .f32⟩) (fun x i => Host.dynamicSlice S1x4x64x256 x (fun k => (i k (Shape.Idx.first h_S_)).toInt) sliceFits_S64x4x64x256_S1x4x64x256),
    TRef.reshape (.of main_while1b_call11_v0 : TRef sig ⟨S1x4x64x256, .f32⟩) (.of main_while1b_v104 : TRef sig ⟨S4x64x256, .f32⟩) (rfl : (.f32 : EltTy) = .f32) shapeCasts_S1x4x64x256_S4x64x256 ]

/-- The references they write, in order. -/
abbrev bwd1W : List (Ref sig .tc) := [main_while1b_call11_c, main_while1b_call11_c_0, main_while1b_call11_c_1, main_while1b_call11_v0, main_while1b_v104]
theorem bwd1_sub : (bwd1 : Ops F).Forall fun op => op.bufs ⊆ tcRefs τ sig :=
  ⟨nullary_bufs_sub .., nullary_bufs_sub .., nullary_bufs_sub .., unaryIndexed_bufs_sub .., reshape_bufs_sub ..⟩
theorem bwd1_fresh : (bwd1 : Ops F).Forall fun op => op.fresh = ∅ := forall_fresh_of_map rfl
theorem bwd1_writes : (bwd1 : Ops F).Forall fun op => op.writes ⊆ (bwd1W.map (Proc.devRef (τ := τ) .tc)).toFinset := forall_writes_sub_of_map rfl

/-- Stretch 2 of the second loop's body: the 5 operations up to the one that writes `main_while1b_v105`. -/
abbrev bwd2 : Ops F :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v88_1 : TRef sig ⟨S64x4x128x1, .f32⟩) ![(.of main_while1b_v103 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x4x128x1, .f32⟩) (fun x i => Host.dynamicSlice S1x4x128x1 x (fun k => (i k (Shape.Idx.first h_S_)).toInt) sliceFits_S64x4x128x1_S1x4x128x1),
    TRef.reshape (.of main_while1b_call12_v0 : TRef sig ⟨S1x4x128x1, .f32⟩) (.of main_while1b_v105 : TRef sig ⟨S4x128x1, .f32⟩) (rfl : (.f32 : EltTy) = .f32) shapeCasts_S1x4x128x1_S4x128x1 ]

/-- The references they write, in order. -/
abbrev bwd2W : List (Ref sig .tc) := [main_while1b_call12_c, main_while1b_call12_c_0, main_while1b_call12_c_1, main_while1b_call12_v0, main_while1b_v105]
theorem bwd2_sub : (bwd2 : Ops F).Forall fun op => op.bufs ⊆ tcRefs τ sig :=
  ⟨nullary_bufs_sub .., nullary_bufs_sub .., nullary_bufs_sub .., unaryIndexed_bufs_sub .., reshape_bufs_sub ..⟩
theorem bwd2_fresh : (bwd2 : Ops F).Forall fun op => op.fresh = ∅ := forall_fresh_of_map rfl
theorem bwd2_writes : (bwd2 : Ops F).Forall fun op => op.writes ⊆ (bwd2W.map (Proc.devRef (τ := τ) .tc)).toFinset := forall_writes_sub_of_map rfl

/-- Stretch 3 of the second loop's body: the 5 operations up to the one that writes `main_while1b_v106`. -/
abbrev bwd3 : Ops F :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v88_2 : TRef sig ⟨S64x4x64x256, .f32⟩) ![(.of main_while1b_v103 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x4x64x256, .f32⟩) (fun x i => Host.dynamicSlice S1x4x64x256 x (fun k => (i k (Shape.Idx.first h_S_)).toInt) sliceFits_S64x4x64x256_S1x4x64x256),
    TRef.reshape (.of main_while1b_call13_v0 : TRef sig ⟨S1x4x64x256, .f32⟩) (.of main_while1b_v106 : TRef sig ⟨S4x64x256, .f32⟩) (rfl : (.f32 : EltTy) = .f32) shapeCasts_S1x4x64x256_S4x64x256 ]

/-- The references they write, in order. -/
abbrev bwd3W : List (Ref sig .tc) := [main_while1b_call13_c, main_while1b_call13_c_0, main_while1b_call13_c_1, main_while1b_call13_v0, main_while1b_v106]
theorem bwd3_sub : (bwd3 : Ops F).Forall fun op => op.bufs ⊆ tcRefs τ sig :=
  ⟨nullary_bufs_sub .., nullary_bufs_sub .., nullary_bufs_sub .., unaryIndexed_bufs_sub .., reshape_bufs_sub ..⟩
theorem bwd3_fresh : (bwd3 : Ops F).Forall fun op => op.fresh = ∅ := forall_fresh_of_map rfl
theorem bwd3_writes : (bwd3 : Ops F).Forall fun op => op.writes ⊆ (bwd3W.map (Proc.devRef (τ := τ) .tc)).toFinset := forall_writes_sub_of_map rfl

/-- Stretch 4 of the second loop's body: the 5 operations up to the one that writes `main_while1b_v107`. -/
abbrev bwd4 : Ops F :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v88_3 : TRef sig ⟨S64x4x64x128, .f32⟩) ![(.of main_while1b_v103 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x4x64x128, .f32⟩) (fun x i => Host.dynamicSlice S1x4x64x128 x (fun k => (i k (Shape.Idx.first h_S_)).toInt) sliceFits_S64x4x64x128_S1x4x64x128),
    TRef.reshape (.of main_while1b_call14_v0 : TRef sig ⟨S1x4x64x128, .f32⟩) (.of main_while1b_v107 : TRef sig ⟨S4x64x128, .f32⟩) (rfl : (.f32 : EltTy) = .f32) shapeCasts_S1x4x64x128_S4x64x128 ]

/-- The references they write, in order. -/
abbrev bwd4W : List (Ref sig .tc) := [main_while1b_call14_c, main_while1b_call14_c_0, main_while1b_call14_c_1, main_while1b_call14_v0, main_while1b_v107]
theorem bwd4_sub : (bwd4 : Ops F).Forall fun op => op.bufs ⊆ tcRefs τ sig :=
  ⟨nullary_bufs_sub .., nullary_bufs_sub .., nullary_bufs_sub .., unaryIndexed_bufs_sub .., reshape_bufs_sub ..⟩
theorem bwd4_fresh : (bwd4 : Ops F).Forall fun op => op.fresh = ∅ := forall_fresh_of_map rfl
theorem bwd4_writes : (bwd4 : Ops F).Forall fun op => op.writes ⊆ (bwd4W.map (Proc.devRef (τ := τ) .tc)).toFinset := forall_writes_sub_of_map rfl

/-- Stretch 5 of the second loop's body: the 5 operations up to the one that writes `main_while1b_v108`. -/
abbrev bwd5 : Ops F :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v88_4 : TRef sig ⟨S64x4x128x256, .f32⟩) ![(.of main_while1b_v103 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x4x128x256, .f32⟩) (fun x i => Host.dynamicSlice S1x4x128x256 x (fun k => (i k (Shape.Idx.first h_S_)).toInt) sliceFits_S64x4x128x256_S1x4x128x256),
    TRef.reshape (.of main_while1b_call15_v0 : TRef sig ⟨S1x4x128x256, .f32⟩) (.of main_while1b_v108 : TRef sig ⟨S4x128x256, .f32⟩) (rfl : (.f32 : EltTy) = .f32) shapeCasts_S1x4x128x256_S4x128x256 ]

/-- The references they write, in order. -/
abbrev bwd5W : List (Ref sig .tc) := [main_while1b_call15_c, main_while1b_call15_c_0, main_while1b_call15_c_1, main_while1b_call15_v0, main_while1b_v108]
theorem bwd5_sub : (bwd5 : Ops F).Forall fun op => op.bufs ⊆ tcRefs τ sig :=
  ⟨nullary_bufs_sub .., nullary_bufs_sub .., nullary_bufs_sub .., unaryIndexed_bufs_sub .., reshape_bufs_sub ..⟩
theorem bwd5_fresh : (bwd5 : Ops F).Forall fun op => op.fresh = ∅ := forall_fresh_of_map rfl
theorem bwd5_writes : (bwd5 : Ops F).Forall fun op => op.writes ⊆ (bwd5W.map (Proc.devRef (τ := τ) .tc)).toFinset := forall_writes_sub_of_map rfl

/-- Stretch 6 of the second loop's body: the 5 operations up to the one that writes `main_while1b_v109`. -/
abbrev bwd6 : Ops F :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v88_5 : TRef sig ⟨S64x4x64x128, .f32⟩) ![(.of main_while1b_v103 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x4x64x128, .f32⟩) (fun x i => Host.dynamicSlice S1x4x64x128 x (fun k => (i k (Shape.Idx.first h_S_)).toInt) sliceFits_S64x4x64x128_S1x4x64x128),
    TRef.reshape (.of main_while1b_call16_v0 : TRef sig ⟨S1x4x64x128, .f32⟩) (.of main_while1b_v109 : TRef sig ⟨S4x64x128, .f32⟩) (rfl : (.f32 : EltTy) = .f32) shapeCasts_S1x4x64x128_S4x64x128 ]

/-- The references they write, in order. -/
abbrev bwd6W : List (Ref sig .tc) := [main_while1b_call16_c, main_while1b_call16_c_0, main_while1b_call16_c_1, main_while1b_call16_v0, main_while1b_v109]
theorem bwd6_sub : (bwd6 : Ops F).Forall fun op => op.bufs ⊆ tcRefs τ sig :=
  ⟨nullary_bufs_sub .., nullary_bufs_sub .., nullary_bufs_sub .., unaryIndexed_bufs_sub .., reshape_bufs_sub ..⟩
theorem bwd6_fresh : (bwd6 : Ops F).Forall fun op => op.fresh = ∅ := forall_fresh_of_map rfl
theorem bwd6_writes : (bwd6 : Ops F).Forall fun op => op.writes ⊆ (bwd6W.map (Proc.devRef (τ := τ) .tc)).toFinset := forall_writes_sub_of_map rfl

/-- Stretch 7 of the second loop's body: the 10 operations up to the one that writes `main_while1b_v119`. -/
abbrev bwd7 : Ops F :=
  [ binary main_while1b_v104 main_while1b_v109 main_while1b_v110 ((fun l r => Host.dotGeneral dot_S4x64x256_S4x64x128_S4x256x128_1_1_2_2_0_0 none l r) : (⟨S4x64x256, .f32⟩ : BufTy).Contents (Elt F) → (⟨S4x64x128, .f32⟩ : BufTy).Contents (Elt F) → (⟨S4x256x128, .f32⟩ : BufTy).Contents (Elt F)),
    unary main_while1b_v110 main_while1b_v111 ((transpose S4x128x256 [0, 2, 1] · transposes_S4x256x128_S4x128x256_0_2_1) : (⟨S4x256x128, .f32⟩ : BufTy).Contents (Elt F) → (⟨S4x128x256, .f32⟩ : BufTy).Contents (Elt F)),
    binary main_v88_7 main_while1b_v111 main_while1b_v112 (addf : (⟨S4x128x256, .f32⟩ : BufTy).Contents (Elt F) → (⟨S4x128x256, .f32⟩ : BufTy).Contents (Elt F) → (⟨S4x128x256, .f32⟩ : BufTy).Contents (Elt F)),
    binary main_while1b_v104 main_while1b_v108 main_while1b_v113 ((fun l r => Host.dotGeneral dot_S4x64x256_S4x128x256_S4x64x128_2_2_1_1_0_0 none l r) : (⟨S4x64x256, .f32⟩ : BufTy).Contents (Elt F) → (⟨S4x128x256, .f32⟩ : BufTy).Contents (Elt F) → (⟨S4x64x128, .f32⟩ : BufTy).Contents (Elt F)),
    binary main_while1b_v112 main_while1b_v107 main_while1b_v114 ((fun l r => Host.dotGeneral dot_S4x128x256_S4x64x128_S4x256x64_1_2_2_1_0_0 none l r) : (⟨S4x128x256, .f32⟩ : BufTy).Contents (Elt F) → (⟨S4x64x128, .f32⟩ : BufTy).Contents (Elt F) → (⟨S4x256x64, .f32⟩ : BufTy).Contents (Elt F)),
    unary main_while1b_v114 main_while1b_v115 ((transpose S4x64x256 [0, 2, 1] · transposes_S4x256x64_S4x64x256_0_2_1) : (⟨S4x256x64, .f32⟩ : BufTy).Contents (Elt F) → (⟨S4x64x256, .f32⟩ : BufTy).Contents (Elt F)),
    binary main_while1b_v112 main_while1b_v106 main_while1b_v116 ((fun l r => Host.dotGeneral dot_S4x128x256_S4x64x256_S4x128x64_2_2_1_1_0_0 none l r) : (⟨S4x128x256, .f32⟩ : BufTy).Contents (Elt F) → (⟨S4x64x256, .f32⟩ : BufTy).Contents (Elt F) → (⟨S4x128x64, .f32⟩ : BufTy).Contents (Elt F)),
    unary main_while1b_v116 main_while1b_v117 ((transpose S4x64x128 [0, 2, 1] · transposes_S4x128x64_S4x64x128_0_2_1) : (⟨S4x128x64, .f32⟩ : BufTy).Contents (Elt F) → (⟨S4x64x128, .f32⟩ : BufTy).Contents (Elt F)),
    unary main_while1b_v105 main_while1b_v118 (broadcastInDim S4x128x256 ![0, 1, 2] bcast_S4x128x1_S4x128x256_0_1_2 : (⟨S4x128x1, .f32⟩ : BufTy).Contents (Elt F) → (⟨S4x128x256, .f32⟩ : BufTy).Contents (Elt F)),
    binary main_while1b_v118 main_while1b_v112 main_while1b_v119 (mulf : (⟨S4x128x256, .f32⟩ : BufTy).Contents (Elt F) → (⟨S4x128x256, .f32⟩ : BufTy).Contents (Elt F) → (⟨S4x128x256, .f32⟩ : BufTy).Contents (Elt F)) ]

/-- The references they write, in order. -/
abbrev bwd7W : List (Ref sig .tc) := [main_while1b_v110, main_while1b_v111, main_while1b_v112, main_while1b_v113, main_while1b_v114, main_while1b_v115, main_while1b_v116, main_while1b_v117, main_while1b_v118, main_while1b_v119]
theorem bwd7_sub : (bwd7 : Ops F).Forall fun op => op.bufs ⊆ tcRefs τ sig :=
  ⟨binary_bufs_sub .., unary_bufs_sub .., binary_bufs_sub .., binary_bufs_sub .., binary_bufs_sub .., unary_bufs_sub .., binary_bufs_sub .., unary_bufs_sub .., unary_bufs_sub .., binary_bufs_sub ..⟩
theorem bwd7_fresh : (bwd7 : Ops F).Forall fun op => op.fresh = ∅ := forall_fresh_of_map rfl
theorem bwd7_writes : (bwd7 : Ops F).Forall fun op => op.writes ⊆ (bwd7W.map (Proc.devRef (τ := τ) .tc)).toFinset := forall_writes_sub_of_map rfl

/-- Stretch 8 of the second loop's body: the 5 operations up to the one that writes `main_while1b_v120`. -/
abbrev bwd8 : Ops F :=
  [ TRef.unary (.of main_while1b_v113 : TRef sig ⟨S4x64x128, .f32⟩) (.of main_while1b_call17_v0 : TRef sig ⟨S1x4x64x128, .f32⟩) (broadcastInDim S1x4x64x128 ![1, 2, 3] bcast_S4x64x128_S1x4x64x128_1_2_3),
    TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.binaryIndexed (.of main_v88_8 : TRef sig ⟨S64x4x64x128, .f32⟩) (.of main_while1b_call17_v0 : TRef sig ⟨S1x4x64x128, .f32⟩) ![(.of main_while1b_v103 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_v120 : TRef sig ⟨S64x4x64x128, .f32⟩) (fun x u i => Host.dynamicUpdateSlice x u (fun k => (i k (Shape.Idx.first h_S_)).toInt) updateFits_S64x4x64x128_S1x4x64x128) ]

/-- The references they write, in order. -/
abbrev bwd8W : List (Ref sig .tc) := [main_while1b_call17_v0, main_while1b_call17_c, main_while1b_call17_c_0, main_while1b_call17_c_1, main_while1b_v120]
theorem bwd8_sub : (bwd8 : Ops F).Forall fun op => op.bufs ⊆ tcRefs τ sig :=
  ⟨unary_bufs_sub .., nullary_bufs_sub .., nullary_bufs_sub .., nullary_bufs_sub .., binaryIndexed_bufs_sub ..⟩
theorem bwd8_fresh : (bwd8 : Ops F).Forall fun op => op.fresh = ∅ := forall_fresh_of_map rfl
theorem bwd8_writes : (bwd8 : Ops F).Forall fun op => op.writes ⊆ (bwd8W.map (Proc.devRef (τ := τ) .tc)).toFinset := forall_writes_sub_of_map rfl

/-- Stretch 9 of the second loop's body: the 5 operations up to the one that writes `main_while1b_v121`. -/
abbrev bwd9 : Ops F :=
  [ TRef.unary (.of main_while1b_v117 : TRef sig ⟨S4x64x128, .f32⟩) (.of main_while1b_call18_v0 : TRef sig ⟨S1x4x64x128, .f32⟩) (broadcastInDim S1x4x64x128 ![1, 2, 3] bcast_S4x64x128_S1x4x64x128_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v88_9 : TRef sig ⟨S64x4x64x128, .f32⟩) (.of main_while1b_call18_v0 : TRef sig ⟨S1x4x64x128, .f32⟩) ![(.of main_while1b_v103 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v121 : TRef sig ⟨S64x4x64x128, .f32⟩) (fun x u i => Host.dynamicUpdateSlice x u (fun k => (i k (Shape.Idx.first h_S_)).toInt) updateFits_S64x4x64x128_S1x4x64x128) ]

/-- The references they write, in order. -/
abbrev bwd9W : List (Ref sig .tc) := [main_while1b_call18_v0, main_while1b_call18_c, main_while1b_call18_c_0, main_while1b_call18_c_1, main_while1b_v121]
theorem bwd9_sub : (bwd9 : Ops F).Forall fun op => op.bufs ⊆ tcRefs τ sig :=
  ⟨unary_bufs_sub .., nullary_bufs_sub .., nullary_bufs_sub .., nullary_bufs_sub .., binaryIndexed_bufs_sub ..⟩
theorem bwd9_fresh : (bwd9 : Ops F).Forall fun op => op.fresh = ∅ := forall_fresh_of_map rfl
theorem bwd9_writes : (bwd9 : Ops F).Forall fun op => op.writes ⊆ (bwd9W.map (Proc.devRef (τ := τ) .tc)).toFinset := forall_writes_sub_of_map rfl

/-- Stretch 10 of the second loop's body: the 5 operations up to the one that writes `main_while1b_v122`. -/
abbrev bwd10 : Ops F :=
  [ TRef.unary (.of main_while1b_v115 : TRef sig ⟨S4x64x256, .f32⟩) (.of main_while1b_call19_v0 : TRef sig ⟨S1x4x64x256, .f32⟩) (broadcastInDim S1x4x64x256 ![1, 2, 3] bcast_S4x64x256_S1x4x64x256_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v88_10 : TRef sig ⟨S64x4x64x256, .f32⟩) (.of main_while1b_call19_v0 : TRef sig ⟨S1x4x64x256, .f32⟩) ![(.of main_while1b_v103 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v122 : TRef sig ⟨S64x4x64x256, .f32⟩) (fun x u i => Host.dynamicUpdateSlice x u (fun k => (i k (Shape.Idx.first h_S_)).toInt) updateFits_S64x4x64x256_S1x4x64x256) ]

/-- The references they write, in order. -/
abbrev bwd10W : List (Ref sig .tc) := [main_while1b_call19_v0, main_while1b_call19_c, main_while1b_call19_c_0, main_while1b_call19_c_1, main_while1b_v122]
theorem bwd10_sub : (bwd10 : Ops F).Forall fun op => op.bufs ⊆ tcRefs τ sig :=
  ⟨unary_bufs_sub .., nullary_bufs_sub .., nullary_bufs_sub .., nullary_bufs_sub .., binaryIndexed_bufs_sub ..⟩
theorem bwd10_fresh : (bwd10 : Ops F).Forall fun op => op.fresh = ∅ := forall_fresh_of_map rfl
theorem bwd10_writes : (bwd10 : Ops F).Forall fun op => op.writes ⊆ (bwd10W.map (Proc.devRef (τ := τ) .tc)).toFinset := forall_writes_sub_of_map rfl

/-- Stretch 11 of the second loop's body: the 7 operations up to the one that writes `main_v88_10`. -/
abbrev bwd11 : Ops F :=
  [ nullary main_while1b_c_33 (constantI S_ 32 1#32),
    binary main_v88_6 main_while1b_c_33 main_while1b_v123 (addi : (⟨S_, .i32⟩ : BufTy).Contents (Elt F) → (⟨S_, .i32⟩ : BufTy).Contents (Elt F) → (⟨S_, .i32⟩ : BufTy).Contents (Elt F)),
    unary main_while1b_v123 main_v88_6 id,
    unary main_while1b_v119 main_v88_7 id,
    unary main_while1b_v120 main_v88_8 id,
    unary main_while1b_v121 main_v88_9 id,
    unary main_while1b_v122 main_v88_10 id ]

/-- The references they write, in order. -/
abbrev bwd11W : List (Ref sig .tc) := [main_while1b_c_33, main_while1b_v123, main_v88_6, main_v88_7, main_v88_8, main_v88_9, main_v88_10]
theorem bwd11_sub : (bwd11 : Ops F).Forall fun op => op.bufs ⊆ tcRefs τ sig :=
  ⟨nullary_bufs_sub .., binary_bufs_sub .., unary_bufs_sub .., unary_bufs_sub .., unary_bufs_sub .., unary_bufs_sub .., unary_bufs_sub ..⟩
theorem bwd11_fresh : (bwd11 : Ops F).Forall fun op => op.fresh = ∅ := forall_fresh_of_map rfl
theorem bwd11_writes : (bwd11 : Ops F).Forall fun op => op.writes ⊆ (bwd11W.map (Proc.devRef (τ := τ) .tc)).toFinset := forall_writes_sub_of_map rfl

/-- The stretches before, between and after the loops, and of the loops' bodies. -/
abbrev preI : List (Ops F) := [pre0, pre1, pre2, pre3, pre4]
abbrev midI : List (Ops F) := [mid0, mid1, mid2, mid3, mid4, mid5, mid6]
abbrev finI : List (Ops F) := [fin0]
abbrev fwdI : List (Ops F) := [fwd0, fwd1, fwd2, fwd3, fwd4, fwd5, fwd6, fwd7, fwd8]
abbrev bwdI : List (Ops F) := [bwd0, bwd1, bwd2, bwd3, bwd4, bwd5, bwd6, bwd7, bwd8, bwd9, bwd10, bwd11]

theorem hpre : Plain (preI (F := F)) := .cons pre0_sub (hf := List.forall_iff_forall_mem.mp pre0_fresh) (.cons pre1_sub (hf := List.forall_iff_forall_mem.mp pre1_fresh) (.cons pre2_sub (hf := List.forall_iff_forall_mem.mp pre2_fresh) (.cons pre3_sub (hf := List.forall_iff_forall_mem.mp pre3_fresh) (.cons pre4_sub (hf := List.forall_iff_forall_mem.mp pre4_fresh) (.nil)))))
theorem hmid : Plain (midI (F := F)) := .cons mid0_sub (hf := List.forall_iff_forall_mem.mp mid0_fresh) (.cons mid1_sub (hf := List.forall_iff_forall_mem.mp mid1_fresh) (.cons mid2_sub (hf := List.forall_iff_forall_mem.mp mid2_fresh) (.cons mid3_sub (hf := List.forall_iff_forall_mem.mp mid3_fresh) (.cons mid4_sub (hf := List.forall_iff_forall_mem.mp mid4_fresh) (.cons mid5_sub (hf := List.forall_iff_forall_mem.mp mid5_fresh) (.cons mid6_sub (hf := List.forall_iff_forall_mem.mp mid6_fresh) (.nil)))))))
theorem hfin : Plain (finI (F := F)) := .cons fin0_sub (hf := List.forall_iff_forall_mem.mp fin0_fresh) (.nil)
theorem hfwd : Plain (fwdI (F := F)) := .cons fwd0_sub (hf := List.forall_iff_forall_mem.mp fwd0_fresh) (.cons fwd1_sub (hf := List.forall_iff_forall_mem.mp fwd1_fresh) (.cons fwd2_sub (hf := List.forall_iff_forall_mem.mp fwd2_fresh) (.cons fwd3_sub (hf := List.forall_iff_forall_mem.mp fwd3_fresh) (.cons fwd4_sub (hf := List.forall_iff_forall_mem.mp fwd4_fresh) (.cons fwd5_sub (hf := List.forall_iff_forall_mem.mp fwd5_fresh) (.cons fwd6_sub (hf := List.forall_iff_forall_mem.mp fwd6_fresh) (.cons fwd7_sub (hf := List.forall_iff_forall_mem.mp fwd7_fresh) (.cons fwd8_sub (hf := List.forall_iff_forall_mem.mp fwd8_fresh) (.nil)))))))))
theorem hbwd : Plain (bwdI (F := F)) := .cons bwd0_sub (hf := List.forall_iff_forall_mem.mp bwd0_fresh) (.cons bwd1_sub (hf := List.forall_iff_forall_mem.mp bwd1_fresh) (.cons bwd2_sub (hf := List.forall_iff_forall_mem.mp bwd2_fresh) (.cons bwd3_sub (hf := List.forall_iff_forall_mem.mp bwd3_fresh) (.cons bwd4_sub (hf := List.forall_iff_forall_mem.mp bwd4_fresh) (.cons bwd5_sub (hf := List.forall_iff_forall_mem.mp bwd5_fresh) (.cons bwd6_sub (hf := List.forall_iff_forall_mem.mp bwd6_fresh) (.cons bwd7_sub (hf := List.forall_iff_forall_mem.mp bwd7_fresh) (.cons bwd8_sub (hf := List.forall_iff_forall_mem.mp bwd8_fresh) (.cons bwd9_sub (hf := List.forall_iff_forall_mem.mp bwd9_fresh) (.cons bwd10_sub (hf := List.forall_iff_forall_mem.mp bwd10_fresh) (.cons bwd11_sub (hf := List.forall_iff_forall_mem.mp bwd11_fresh) (.nil))))))))))))

/-- A statement of @main. -/
abbrev Stmt (F : FTy → Type) [FloatOps F] : Type 1 := Prog (TpuEff nD τ sig (Elt F) (HostLoop.Sig (Pipeline.Sig Λ₀ (Fin 0) fun p => (pcfgs (F := F) p).Adm) 2) .tc) PUnit

theorem part0_chain (c : Dev nD) : main_part0 (F := F) c = (Pipeline.chainK [seq pre0, seq pre1, seq pre2, seq pre3, seq pre4, HostLoop.enter 0] (seq mid0) : Stmt F) := by
  rewrite [StableHlo.chainK_seq_cons, Pipeline.chainK_cons, StableHlo.chainK_seq_cons, Pipeline.chainK_cons, StableHlo.chainK_seq_cons, Pipeline.chainK_cons]
  chain_rfl

theorem part1_chain (c : Dev nD) : main_part1 (F := F) c = (Pipeline.chainK [seq mid1, seq mid2, seq mid3, seq mid4] (seq mid5) : Stmt F) := by
  rewrite [StableHlo.chainK_seq_cons, Pipeline.chainK_cons, StableHlo.chainK_seq_cons, Pipeline.chainK_cons]
  chain_rfl

theorem part2_chain (c : Dev nD) : main_part2 (F := F) c = (Pipeline.chain [seq mid6, HostLoop.enter 1, seq fin0] : Stmt F) := by
  rewrite [StableHlo.chain_seq_cons, Pipeline.chain_cons, StableHlo.chain_seq_cons]
  chain_rfl

/-- @main is its stretches and its two loops, in order. -/
theorem main_chain (c : Dev nD) : main (F := F) c = (Pipeline.chain
    [seq pre0, seq pre1, seq pre2, seq pre3, seq pre4, HostLoop.enter 0, seq mid0, seq mid1, seq mid2, seq mid3, seq mid4, seq mid5, seq mid6, HostLoop.enter 1, seq fin0] : Stmt F) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

theorem fwd_chain : main_while0_body (F := F) = (Pipeline.chain [seq fwd0, seq fwd1, seq fwd2, seq fwd3, seq fwd4, seq fwd5, seq fwd6, seq fwd7, seq fwd8] : Stmt F) := by
  rewrite [Pipeline.chain_cons, Pipeline.chain_cons, Pipeline.chain_cons, Pipeline.chain_cons, StableHlo.chain_seq_cons, Pipeline.chain_cons, Pipeline.chain_cons, Pipeline.chain_cons, StableHlo.chain_seq_cons]
  chain_rfl

theorem bwd_chain : main_while1_body (F := F) = (Pipeline.chain [seq bwd0, seq bwd1, seq bwd2, seq bwd3, seq bwd4, seq bwd5, seq bwd6, seq bwd7, seq bwd8, seq bwd9, seq bwd10, seq bwd11] : Stmt F) := by
  rewrite [StableHlo.chain_seq_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

/-- The two operations of each loop's condition: the bound, and the counter compared with it. -/
abbrev cond0 : Ops F := [nullary main_while0c_c_29 (constantI S_ 32 64#32), binary main_v35_4 main_while0c_c_29 main_while0c_v102 (cmpi .slt)]
abbrev cond1 : Ops F := [nullary main_while1c_c_31 (constantI S_ 32 64#32), binary main_v88_6 main_while1c_c_31 main_while1c_v102 (cmpi .slt)]
abbrev cond0W : List (Ref sig .tc) := [main_while0c_c_29, main_while0c_v102]
abbrev cond1W : List (Ref sig .tc) := [main_while1c_c_31, main_while1c_v102]
theorem cond0_writes : (cond0 : Ops F).Forall fun op => op.writes ⊆ (cond0W.map (Proc.devRef (τ := τ) .tc)).toFinset := forall_writes_sub_of_map rfl
theorem cond1_writes : (cond1 : Ops F).Forall fun op => op.writes ⊆ (cond1W.map (Proc.devRef (τ := τ) .tc)).toFinset := forall_writes_sub_of_map rfl

/-- What a stretch's operations leave of a reference none of them writes. -/
theorem keep {ops : Ops F} {W : List (Ref sig .tc)} (hw : ops.Forall fun op => op.writes ⊆ (W.map (Proc.devRef (τ := τ) .tc)).toFinset)
    (V : Valuation τ sig (Elt F)) (b : Ref sig .tc) (hb : b ∉ W) : after ops V (Proc.devRef .tc b) = V (Proc.devRef .tc b) :=
  after_of_writes_sub ops V hw hb

/-! References that no stretch before, between, after or within the loops writes. -/

theorem keep_pre (V : Valuation τ sig (Elt F)) (b : Ref sig .tc) (h : b ∉ pre0W ∧ b ∉ pre1W ∧ b ∉ pre2W ∧ b ∉ pre3W ∧ b ∉ pre4W) : afterL preI V (Proc.devRef .tc b) = V (Proc.devRef .tc b) := by
  obtain ⟨h0, h1, h2, h3, h4⟩ := h
  simp only [afterL_cons, afterL_nil]
  rw [keep pre4_writes _ b h4, keep pre3_writes _ b h3, keep pre2_writes _ b h2, keep pre1_writes _ b h1, keep pre0_writes _ b h0]

theorem keep_mid (V : Valuation τ sig (Elt F)) (b : Ref sig .tc) (h : b ∉ mid0W ∧ b ∉ mid1W ∧ b ∉ mid2W ∧ b ∉ mid3W ∧ b ∉ mid4W ∧ b ∉ mid5W ∧ b ∉ mid6W) : afterL midI V (Proc.devRef .tc b) = V (Proc.devRef .tc b) := by
  obtain ⟨h0, h1, h2, h3, h4, h5, h6⟩ := h
  simp only [afterL_cons, afterL_nil]
  rw [keep mid6_writes _ b h6, keep mid5_writes _ b h5, keep mid4_writes _ b h4, keep mid3_writes _ b h3, keep mid2_writes _ b h2, keep mid1_writes _ b h1, keep mid0_writes _ b h0]

theorem keep_fin (V : Valuation τ sig (Elt F)) (b : Ref sig .tc) (h : b ∉ fin0W) : afterL finI V (Proc.devRef .tc b) = V (Proc.devRef .tc b) := by
  have h0 := h
  simp only [afterL_cons, afterL_nil]
  rw [keep fin0_writes _ b h0]

theorem keep_fwd (V : Valuation τ sig (Elt F)) (b : Ref sig .tc) (h : b ∉ fwd0W ∧ b ∉ fwd1W ∧ b ∉ fwd2W ∧ b ∉ fwd3W ∧ b ∉ fwd4W ∧ b ∉ fwd5W ∧ b ∉ fwd6W ∧ b ∉ fwd7W ∧ b ∉ fwd8W) : afterL fwdI V (Proc.devRef .tc b) = V (Proc.devRef .tc b) := by
  obtain ⟨h0, h1, h2, h3, h4, h5, h6, h7, h8⟩ := h
  simp only [afterL_cons, afterL_nil]
  rw [keep fwd8_writes _ b h8, keep fwd7_writes _ b h7, keep fwd6_writes _ b h6, keep fwd5_writes _ b h5, keep fwd4_writes _ b h4, keep fwd3_writes _ b h3, keep fwd2_writes _ b h2, keep fwd1_writes _ b h1, keep fwd0_writes _ b h0]

theorem keep_bwd (V : Valuation τ sig (Elt F)) (b : Ref sig .tc) (h : b ∉ bwd0W ∧ b ∉ bwd1W ∧ b ∉ bwd2W ∧ b ∉ bwd3W ∧ b ∉ bwd4W ∧ b ∉ bwd5W ∧ b ∉ bwd6W ∧ b ∉ bwd7W ∧ b ∉ bwd8W ∧ b ∉ bwd9W ∧ b ∉ bwd10W ∧ b ∉ bwd11W) : afterL bwdI V (Proc.devRef .tc b) = V (Proc.devRef .tc b) := by
  obtain ⟨h0, h1, h2, h3, h4, h5, h6, h7, h8, h9, h10, h11⟩ := h
  simp only [afterL_cons, afterL_nil]
  rw [keep bwd11_writes _ b h11, keep bwd10_writes _ b h10, keep bwd9_writes _ b h9, keep bwd8_writes _ b h8, keep bwd7_writes _ b h7, keep bwd6_writes _ b h6, keep bwd5_writes _ b h5, keep bwd4_writes _ b h4, keep bwd3_writes _ b h3, keep bwd2_writes _ b h2, keep bwd1_writes _ b h1, keep bwd0_writes _ b h0]

variable (m : (ℓ : Loc nD τ sig) → Buf (Elt F) ℓ)

/-- The contents at the first loop's entry and before its k-th test. -/
abbrev W1 (c : Dev nD) : Valuation τ sig (Elt F) := entryContents preI m c
abbrev at0 (k : ℕ) (c : Dev nD) : Valuation τ sig (Elt F) := atTrip cond0 fwdI (W1 m) k c

theorem ctr_entry0 (c : Dev nD) : W1 m c (Proc.devRef .tc main_v35_4) = fun _ => (0#32 : BitVec 32) := by
  simp only [W1, entryContents, afterL_cons, afterL_nil]
  after_reads_simp
  rfl

theorem ctr_step0 (X : Valuation τ sig (Elt F)) :
    after fwd8 X (Proc.devRef .tc main_v35_4) = addi (X (Proc.devRef .tc main_v35_4)) (constantI S_ 32 1#32) := by
  after_results
  rfl

theorem ctr0 (c : Dev nD) : ∀ k, at0 m k c (Proc.devRef .tc main_v35_4) = fun _ => Scf.iv 0#32 1#32 k
  | 0 => by rw [show at0 m 0 c = W1 m c from rfl, ctr_entry0, Scf.iv_zero]
  | k + 1 => by
    rw [show at0 m (k + 1) c = afterL fwdI (after cond0 (at0 m k c)) from rfl]
    simp only [afterL_cons, afterL_nil]
    rw [ctr_step0, keep fwd7_writes _ main_v35_4 (by decide), keep fwd6_writes _ main_v35_4 (by decide), keep fwd5_writes _ main_v35_4 (by decide), keep fwd4_writes _ main_v35_4 (by decide), keep fwd3_writes _ main_v35_4 (by decide), keep fwd2_writes _ main_v35_4 (by decide), keep fwd1_writes _ main_v35_4 (by decide), keep fwd0_writes _ main_v35_4 (by decide), keep cond0_writes _ main_v35_4 (by decide), ctr0 c k, Scf.iv_succ]
    rfl

set_option backward.isDefEq.respectTransparency.types false in
theorem spec0 : CondSpec (pcfgs (F := F)) defs₀ loops (main_while0_cond (F := F)) cond0 fwdI (W1 m) 64 := by
  intro k hk c bd
  have hctr := ctr0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v35_4 HostLoop.idx0) (HloOp.result _ (at0 m k c) main_while0c_c_29 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- The first loop. -/
def loop0 : Loop (pcfgs (F := F)) defs₀ loops (W1 m) :=
  ⟨0, main_while0_cond, main_while0_body, rfl, cond0, fwdI, hfwd, by rw [fwd_chain]; rfl, 64, spec0 m⟩

/-- The contents after the first loop, at the second loop's entry, and before its k-th test. -/
abbrev W2 (c : Dev nD) : Valuation τ sig (Elt F) := after cond0 (at0 m 64 c)
abbrev W3 (c : Dev nD) : Valuation τ sig (Elt F) := afterL midI (W2 m c)
abbrev at1 (k : ℕ) (c : Dev nD) : Valuation τ sig (Elt F) := atTrip cond1 bwdI (W3 m) k c

theorem ctr_entry1 (c : Dev nD) : W3 m c (Proc.devRef .tc main_v88_6) = fun _ => (0#32 : BitVec 32) := by
  simp only [W3, afterL_cons, afterL_nil]
  after_reads_simp
  rfl

theorem ctr_step1 (X : Valuation τ sig (Elt F)) :
    after bwd11 X (Proc.devRef .tc main_v88_6) = addi (X (Proc.devRef .tc main_v88_6)) (constantI S_ 32 1#32) := by
  after_results
  rfl

theorem ctr1 (c : Dev nD) : ∀ k, at1 m k c (Proc.devRef .tc main_v88_6) = fun _ => Scf.iv 0#32 1#32 k
  | 0 => by rw [show at1 m 0 c = W3 m c from rfl, ctr_entry1, Scf.iv_zero]
  | k + 1 => by
    rw [show at1 m (k + 1) c = afterL bwdI (after cond1 (at1 m k c)) from rfl]
    simp only [afterL_cons, afterL_nil]
    rw [ctr_step1, keep bwd10_writes _ main_v88_6 (by decide), keep bwd9_writes _ main_v88_6 (by decide), keep bwd8_writes _ main_v88_6 (by decide), keep bwd7_writes _ main_v88_6 (by decide), keep bwd6_writes _ main_v88_6 (by decide), keep bwd5_writes _ main_v88_6 (by decide), keep bwd4_writes _ main_v88_6 (by decide), keep bwd3_writes _ main_v88_6 (by decide), keep bwd2_writes _ main_v88_6 (by decide), keep bwd1_writes _ main_v88_6 (by decide), keep bwd0_writes _ main_v88_6 (by decide), keep cond1_writes _ main_v88_6 (by decide), ctr1 c k, Scf.iv_succ]
    rfl

set_option backward.isDefEq.respectTransparency.types false in
theorem spec1 : CondSpec (pcfgs (F := F)) defs₀ loops (main_while1_cond (F := F)) cond1 bwdI (W3 m) 64 := by
  intro k hk c bd
  have hctr := ctr1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v88_6 HostLoop.idx0) (HloOp.result _ (at1 m k c) main_while1c_c_31 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-- The second loop. -/
def loop1 : Loop (pcfgs (F := F)) defs₀ loops fun c => afterL midI ((loop0 m).out c) :=
  ⟨1, main_while1_cond, main_while1_body, rfl, cond1, bwdI, hbwd, by rw [bwd_chain]; rfl, 64, spec1 m⟩

/-- The contents after the second loop and at the end. -/
abbrev W4 (c : Dev nD) : Valuation τ sig (Elt F) := after cond1 (at1 m 64 c)
abbrev W5 (c : Dev nD) : Valuation τ sig (Elt F) := afterL finI (W4 m c)

variable (ρ : Dev nD → PrngReg)

theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = W5 m c (Proc.devRef .tc b)) :=
  run_two hpre hmid hfin m (loop0 m) (loop1 m) main (fun c => by rw [main_chain]; rfl) ρ

/-- What no operation writes before the first loop, what the loops leave, and what ends as it began. -/
theorem W2_keep (c : Dev nD) (b : Ref sig .tc) (hc : b ∉ cond0W) (hb : b ∉ fwd0W ∧ b ∉ fwd1W ∧ b ∉ fwd2W ∧ b ∉ fwd3W ∧ b ∉ fwd4W ∧ b ∉ fwd5W ∧ b ∉ fwd6W ∧ b ∉ fwd7W ∧ b ∉ fwd8W) : W2 m c (Proc.devRef .tc b) = W1 m c (Proc.devRef .tc b) := by
  rw [show W2 m c = after cond0 (at0 m 64 c) from rfl, keep cond0_writes _ b hc]
  exact atTrip_keep (fun V => keep cond0_writes V b hc) (fun V => keep_fwd V b hb) c 64

theorem W4_keep (c : Dev nD) (b : Ref sig .tc) (hc : b ∉ cond1W) (hb : b ∉ bwd0W ∧ b ∉ bwd1W ∧ b ∉ bwd2W ∧ b ∉ bwd3W ∧ b ∉ bwd4W ∧ b ∉ bwd5W ∧ b ∉ bwd6W ∧ b ∉ bwd7W ∧ b ∉ bwd8W ∧ b ∉ bwd9W ∧ b ∉ bwd10W ∧ b ∉ bwd11W) : W4 m c (Proc.devRef .tc b) = W3 m c (Proc.devRef .tc b) := by
  rw [show W4 m c = after cond1 (at1 m 64 c) from rfl, keep cond1_writes _ b hc]
  exact atTrip_keep (fun V => keep cond1_writes V b hc) (fun V => keep_bwd V b hb) c 64

/-- At an argument everything is as at the launch. -/
abbrev Arg (b : Ref sig .tc) : Prop := b ∈ [main_arg0, main_arg1, main_arg2, main_arg3, main_arg4, main_arg5]

theorem pre_arg (V : Valuation τ sig (Elt F)) {b : Ref sig .tc} (hb : Arg b) : afterL preI V (Proc.devRef .tc b) = V (Proc.devRef .tc b) :=
  keep_pre V b (by revert b; decide)
theorem W2_arg (c : Dev nD) {b : Ref sig .tc} (hb : Arg b) : W2 m c (Proc.devRef .tc b) = m ((c.tc : Thread nD τ).loc b) :=
  (W2_keep m c b (by revert b; decide) (by revert b; decide)).trans ((pre_arg _ hb).trans rfl)
theorem W4_arg (c : Dev nD) {b : Ref sig .tc} (hb : Arg b) : W4 m c (Proc.devRef .tc b) = m ((c.tc : Thread nD τ).loc b) :=
  (W4_keep m c b (by revert b; decide) (by revert b; decide)).trans ((keep_mid _ b (by revert b; decide)).trans (W2_arg m c hb))
theorem W5_arg (c : Dev nD) {b : Ref sig .tc} (hb : Arg b) : W5 m c (Proc.devRef .tc b) = m ((c.tc : Thread nD τ).loc b) :=
  (keep_fin _ b (by revert b; decide)).trans (W4_arg m c hb)

end Cert.GlaBRun
-- ==== Proof.GlaBStep.lean ====
/- One trip of each of the two loops of the chunked gradient, entry by entry: what the trip reads of its buffers at the chunk its
   counter names, and what it leaves of them. -/
module
public import proofs.«01_k».proof.Proof.GlaBRun
public import Idealize.ShloMosaic.Lib.Pipeline.ValueKit
public import Idealize.ShloMosaic.Lib.Pointwise
public import Idealize.ShloMosaic.Lib.ValueLayout
public import Idealize.ShloMosaic.Lib.StableHlo.ReadAt
@[expose] public section
set_option maxRecDepth 65536
noncomputable section
namespace Cert.GlaBStep
open Idealize.ShloMosaic Idealize.ShloMosaic.TcCoe Idealize.ShloMosaic.StableHlo Idealize.SL.Sem
open Cert.GlaBwdRefIdeal Cert.GlaBwdRefIdeal.Gen Cert.GlaBRun Cert.HostRun

/-! ## A chunk of a buffer, and a chunk replaced -/

/-- The chunk an index names. -/
def pos (i : S_.Idx → BitVec 32) : Fin 64 := ⟨min (i (Shape.Idx.first h_S_)).toInt.toNat 63, by omega⟩

theorem pos_eq (i : S_.Idx → BitVec 32) (j : Fin 64) (h : i (Shape.Idx.first h_S_) = BitVec.ofNat 32 j.val) : pos i = j := by
  have e : ∀ j : Fin 64, (BitVec.ofNat 32 j.val).toInt = j.val := by decide
  apply Fin.ext
  show min (i (Shape.Idx.first h_S_)).toInt.toNat 63 = j.val
  rw [h, e]; omega

/-- The operand's chunk. -/
def sl {p q r : ℕ} (x : (⟨4, ![64, p, q, r]⟩ : Shape).Idx → EReal) (i : S_.Idx → BitVec 32) : (⟨3, ![p, q, r]⟩ : Shape).Idx → EReal :=
  fun a => x (ix4 (pos i) (a 0) (a 1) (a 2))
/-- The operand with one chunk replaced. -/
def up {p q r : ℕ} (x : (⟨4, ![64, p, q, r]⟩ : Shape).Idx → EReal) (i : S_.Idx → BitVec 32) (u : (⟨3, ![p, q, r]⟩ : Shape).Idx → EReal) :
    (⟨4, ![64, p, q, r]⟩ : Shape).Idx → EReal :=
  fun a => if (a 0).val = (pos i).val then u (ix3 (a 1) (a 2) (a 3)) else x a

/-- The start of a chunk: the chunk an index names, and nothing along the other axes. -/
abbrev at4 (i : S_.Idx → BitVec 32) : Fin 4 → Int :=
  fun k => BitVec.toInt ((![i, constantI S_ 32 0#32, constantI S_ 32 0#32, constantI S_ 32 0#32] : Fin 4 → S_.Idx → BitVec 32) k (Shape.Idx.first h_S_))

variable {p q r : ℕ}
theorem at4_lead (i : S_.Idx → BitVec 32) (ht) : Host.clampedStart ⟨4, ![64, p, q, r]⟩ ⟨4, ![1, p, q, r]⟩ ht (at4 i) 0 = (pos i).val := by
  unfold Host.clampedStart
  show (min (max (i (Shape.Idx.first h_S_)).toInt 0) ((64 - 1 : ℕ) : Int)).toNat = min (i (Shape.Idx.first h_S_)).toInt.toNat 63
  omega
theorem at4_rest (i : S_.Idx → BitVec 32) (ht) (a : Fin 4) (ha : a ≠ 0) : Host.clampedStart ⟨4, ![64, p, q, r]⟩ ⟨4, ![1, p, q, r]⟩ ht (at4 i) a = 0 := by
  refine Host.clampedStart_of_le ht (at4 i) a 0 ?_ ?_
  · match a, ha with
    | ⟨1, _⟩, _ => rfl
    | ⟨2, _⟩, _ => rfl
    | ⟨3, _⟩, _ => rfl
  · match a, ha with
    | ⟨1, _⟩, _ => show 0 + p ≤ p; omega
    | ⟨2, _⟩, _ => show 0 + q ≤ q; omega
    | ⟨3, _⟩, _ => show 0 + r ≤ r; omega

theorem eta3 (a : (⟨3, ![p, q, r]⟩ : Shape).Idx) : a = ix3 (a 0) (a 1) (a 2) :=
  funext fun b => match b with
    | ⟨0, _⟩ => rfl
    | ⟨1, _⟩ => rfl
    | ⟨2, _⟩ => rfl

theorem ext3 {f g : (⟨3, ![p, q, r]⟩ : Shape).Idx → EReal} (h : ∀ a b c, f (ix3 a b c) = g (ix3 a b c)) : f = g :=
  funext fun a => by rw [eta3 a]; exact h _ _ _

theorem slice_eq (x : (⟨4, ![64, p, q, r]⟩ : Shape).Idx → EReal) (i : S_.Idx → BitVec 32) (hf) (hc) :
    shapeCast ⟨3, ![p, q, r]⟩ (Host.dynamicSlice ⟨4, ![1, p, q, r]⟩ x (at4 i) hf) hc = sl x i := by
  funext a
  rw [eta3 a]
  refine (ValueIdx.shapeCast_1abc_abc_apply _ hc (a 0) (a 1) (a 2)).trans ?_
  rw [Host.dynamicSlice_apply]
  refine congrArg x (funext fun b => Fin.ext ?_)
  match b with
  | ⟨0, _⟩ => exact (congrArg (· + 0) (at4_lead i _)).trans (Nat.add_zero _)
  | ⟨1, _⟩ => exact (congrArg (· + _) (at4_rest i _ 1 (by decide))).trans (Nat.zero_add _)
  | ⟨2, _⟩ => exact (congrArg (· + _) (at4_rest i _ 2 (by decide))).trans (Nat.zero_add _)
  | ⟨3, _⟩ => exact (congrArg (· + _) (at4_rest i _ 3 (by decide))).trans (Nat.zero_add _)

theorem bcast_lead (u : (⟨3, ![p, q, r]⟩ : Shape).Idx → EReal) (hb) (j : (⟨4, ![1, p, q, r]⟩ : Shape).Idx) :
    broadcastInDim ⟨4, ![1, p, q, r]⟩ ![1, 2, 3] hb u j = u (ix3 (j 1) (j 2) (j 3)) := by
  unfold broadcastInDim
  refine congrArg u (funext fun b => ?_)
  split_ifs with h
  · match b, h with
    | ⟨0, _⟩, h => exact Fin.ext (by have := (j 1).isLt; change (j 1).val < p at this; change p = 1 at h; show 0 = (j 1).val; omega)
    | ⟨1, _⟩, h => exact Fin.ext (by have := (j 2).isLt; change (j 2).val < q at this; change q = 1 at h; show 0 = (j 2).val; omega)
    | ⟨2, _⟩, h => exact Fin.ext (by have := (j 3).isLt; change (j 3).val < r at this; change r = 1 at h; show 0 = (j 3).val; omega)
  · match b with
    | ⟨0, _⟩ => rfl
    | ⟨1, _⟩ => rfl
    | ⟨2, _⟩ => rfl

theorem update_eq (x : (⟨4, ![64, p, q, r]⟩ : Shape).Idx → EReal) (i : S_.Idx → BitVec 32) (u : (⟨3, ![p, q, r]⟩ : Shape).Idx → EReal) (hb) (hf) :
    Host.dynamicUpdateSlice x (broadcastInDim ⟨4, ![1, p, q, r]⟩ ![1, 2, 3] hb u) (at4 i) hf = up x i u := by
  funext a
  rw [Host.dynamicUpdateSlice_apply]
  unfold up
  have e0 := at4_lead (p := p) (q := q) (r := r) i hf.1
  have e1 := at4_rest (p := p) (q := q) (r := r) i hf.1 1 (by decide)
  have e2 := at4_rest (p := p) (q := q) (r := r) i hf.1 2 (by decide)
  have e3 := at4_rest (p := p) (q := q) (r := r) i hf.1 3 (by decide)
  by_cases h : (a 0).val = (pos i).val
  · rw [if_pos h, dif_pos (by
      intro b
      match b with
      | ⟨0, _⟩ => exact ⟨le_of_eq (e0.trans h.symm), by
          show (a 0).val < Host.clampedStart _ _ _ _ 0 + 1
          rw [e0, h]; omega⟩
      | ⟨1, _⟩ => exact ⟨(le_of_eq e1).trans (Nat.zero_le _), by show (a 1).val < Host.clampedStart _ _ _ _ 1 + p; rw [e1]; have := (a 1).isLt; change (a 1).val < p at this; omega⟩
      | ⟨2, _⟩ => exact ⟨(le_of_eq e2).trans (Nat.zero_le _), by show (a 2).val < Host.clampedStart _ _ _ _ 2 + q; rw [e2]; have := (a 2).isLt; change (a 2).val < q at this; omega⟩
      | ⟨3, _⟩ => exact ⟨(le_of_eq e3).trans (Nat.zero_le _), by show (a 3).val < Host.clampedStart _ _ _ _ 3 + r; rw [e3]; have := (a 3).isLt; change (a 3).val < r at this; omega⟩)]
    rw [bcast_lead]
    refine congrArg u (funext fun b => Fin.ext ?_)
    match b with
    | ⟨0, _⟩ => exact (congrArg (_ - ·) e1).trans (Nat.sub_zero _)
    | ⟨1, _⟩ => exact (congrArg (_ - ·) e2).trans (Nat.sub_zero _)
    | ⟨2, _⟩ => exact (congrArg (_ - ·) e3).trans (Nat.sub_zero _)
  · rw [if_neg h, dif_neg (fun hin => h (by
      have h0 := hin 0
      change Host.clampedStart _ _ _ _ 0 ≤ (a 0).val ∧ (a 0).val < Host.clampedStart _ _ _ _ 0 + 1 at h0
      rw [e0] at h0; omega))]

/-- The operand's chunk, of an array of rank 3. -/
def sl2 (x : S64x4x128.Idx → EReal) (i : S_.Idx → BitVec 32) : S4x128.Idx → EReal := fun a => x (ix3 (pos i) (a 0) (a 1))
abbrev at3 (i : S_.Idx → BitVec 32) : Fin 3 → Int :=
  fun k => BitVec.toInt ((![i, constantI S_ 32 0#32, constantI S_ 32 0#32] : Fin 3 → S_.Idx → BitVec 32) k (Shape.Idx.first h_S_))
theorem slice2_eq (x : S64x4x128.Idx → EReal) (i : S_.Idx → BitVec 32) (hf) (hc) :
    shapeCast S4x128 (Host.dynamicSlice S1x4x128 x (at3 i) hf) hc = sl2 x i := by
  funext a
  idx_vars a
  pointwise []
  refine congrArg x (funext fun b => Fin.ext ?_)
  match b with
  | ⟨0, _⟩ =>
    unfold Host.clampedStart
    show (min (max (i (Shape.Idx.first h_S_)).toInt 0) ((64 - 1 : ℕ) : Int)).toNat + 0 = min (i (Shape.Idx.first h_S_)).toInt.toNat 63
    omega
  | ⟨1, _⟩ => exact (congrArg (· + _) (Host.clampedStart_of_le (s := S64x4x128) (t := S1x4x128) rfl (at3 i) 1 0 rfl (by decide))).trans (Nat.zero_add _)
  | ⟨2, _⟩ => exact (congrArg (· + _) (Host.clampedStart_of_le (s := S64x4x128) (t := S1x4x128) rfl (at3 i) 2 0 rfl (by decide))).trans (Nat.zero_add _)

/-! ## One stretch of a trip -/
section stretch
variable (X : Valuation τ sig (Elt Ideal))
theorem f0 : after fwd0 X (Proc.devRef .tc main_while0b_v102) = sl (p := 4) (q := 64) (r := 128) (X (Proc.devRef .tc main_v35_0)) (X (Proc.devRef .tc main_v35_4)) := by
  refine Eq.trans ?_ (slice_eq _ _ (by decide) (by decide))
  after_results_entrywise [cast_eq]
theorem f1 : after fwd1 X (Proc.devRef .tc main_while0b_v103) = sl (p := 4) (q := 64) (r := 128) (X (Proc.devRef .tc main_v35_1)) (X (Proc.devRef .tc main_v35_4)) := by
  refine Eq.trans ?_ (slice_eq _ _ (by decide) (by decide))
  after_results_entrywise [cast_eq]
theorem f2 : after fwd2 X (Proc.devRef .tc main_while0b_v104) = sl (p := 4) (q := 64) (r := 256) (X (Proc.devRef .tc main_v35_2)) (X (Proc.devRef .tc main_v35_4)) := by
  refine Eq.trans ?_ (slice_eq _ _ (by decide) (by decide))
  after_results_entrywise [cast_eq]
theorem f3 : after fwd3 X (Proc.devRef .tc main_while0b_v105) = sl2 (X (Proc.devRef .tc main_v35_3)) (X (Proc.devRef .tc main_v35_4)) := by
  refine Eq.trans ?_ (slice2_eq _ _ (by decide) (by decide))
  after_results_entrywise [cast_eq]
theorem f5 : after fwd5 X (Proc.devRef .tc main_while0b_v112) = up (p := 4) (q := 64) (r := 256) (X (Proc.devRef .tc main_v35_6)) (X (Proc.devRef .tc main_v35_4)) (X (Proc.devRef .tc main_while0b_v111)) := by
  refine Eq.trans ?_ (update_eq _ _ _ (by decide) (by decide))
  after_results_entrywise [cast_eq]
theorem f6 : after fwd6 X (Proc.devRef .tc main_while0b_v113) = up (p := 4) (q := 128) (r := 1) (X (Proc.devRef .tc main_v35_7)) (X (Proc.devRef .tc main_v35_4)) (X (Proc.devRef .tc main_while0b_v106)) := by
  refine Eq.trans ?_ (update_eq _ _ _ (by decide) (by decide))
  after_results_entrywise [cast_eq]
theorem f7 : after fwd7 X (Proc.devRef .tc main_while0b_v114) = up (p := 4) (q := 128) (r := 256) (X (Proc.devRef .tc main_v35_8)) (X (Proc.devRef .tc main_v35_4)) (X (Proc.devRef .tc main_while0b_v110)) := by
  refine Eq.trans ?_ (update_eq _ _ _ (by decide) (by decide))
  after_results_entrywise [cast_eq]
theorem b1 : after bwd1 X (Proc.devRef .tc main_while1b_v104) = sl (p := 4) (q := 64) (r := 256) (X (Proc.devRef .tc main_v88_0)) (X (Proc.devRef .tc main_while1b_v103)) := by
  refine Eq.trans ?_ (slice_eq _ _ (by decide) (by decide))
  after_results_entrywise [cast_eq]
theorem b2 : after bwd2 X (Proc.devRef .tc main_while1b_v105) = sl (p := 4) (q := 128) (r := 1) (X (Proc.devRef .tc main_v88_1)) (X (Proc.devRef .tc main_while1b_v103)) := by
  refine Eq.trans ?_ (slice_eq _ _ (by decide) (by decide))
  after_results_entrywise [cast_eq]
theorem b3 : after bwd3 X (Proc.devRef .tc main_while1b_v106) = sl (p := 4) (q := 64) (r := 256) (X (Proc.devRef .tc main_v88_2)) (X (Proc.devRef .tc main_while1b_v103)) := by
  refine Eq.trans ?_ (slice_eq _ _ (by decide) (by decide))
  after_results_entrywise [cast_eq]
theorem b4 : after bwd4 X (Proc.devRef .tc main_while1b_v107) = sl (p := 4) (q := 64) (r := 128) (X (Proc.devRef .tc main_v88_3)) (X (Proc.devRef .tc main_while1b_v103)) := by
  refine Eq.trans ?_ (slice_eq _ _ (by decide) (by decide))
  after_results_entrywise [cast_eq]
theorem b5 : after bwd5 X (Proc.devRef .tc main_while1b_v108) = sl (p := 4) (q := 128) (r := 256) (X (Proc.devRef .tc main_v88_4)) (X (Proc.devRef .tc main_while1b_v103)) := by
  refine Eq.trans ?_ (slice_eq _ _ (by decide) (by decide))
  after_results_entrywise [cast_eq]
theorem b6 : after bwd6 X (Proc.devRef .tc main_while1b_v109) = sl (p := 4) (q := 64) (r := 128) (X (Proc.devRef .tc main_v88_5)) (X (Proc.devRef .tc main_while1b_v103)) := by
  refine Eq.trans ?_ (slice_eq _ _ (by decide) (by decide))
  after_results_entrywise [cast_eq]
theorem b8 : after bwd8 X (Proc.devRef .tc main_while1b_v120) = up (p := 4) (q := 64) (r := 128) (X (Proc.devRef .tc main_v88_8)) (X (Proc.devRef .tc main_while1b_v103)) (X (Proc.devRef .tc main_while1b_v113)) := by
  refine Eq.trans ?_ (update_eq _ _ _ (by decide) (by decide))
  after_results_entrywise [cast_eq]
theorem b9 : after bwd9 X (Proc.devRef .tc main_while1b_v121) = up (p := 4) (q := 64) (r := 128) (X (Proc.devRef .tc main_v88_9)) (X (Proc.devRef .tc main_while1b_v103)) (X (Proc.devRef .tc main_while1b_v117)) := by
  refine Eq.trans ?_ (update_eq _ _ _ (by decide) (by decide))
  after_results_entrywise [cast_eq]
theorem b10 : after bwd10 X (Proc.devRef .tc main_while1b_v122) = up (p := 4) (q := 64) (r := 256) (X (Proc.devRef .tc main_v88_10)) (X (Proc.devRef .tc main_while1b_v103)) (X (Proc.devRef .tc main_while1b_v115)) := by
  refine Eq.trans ?_ (update_eq _ _ _ (by decide) (by decide))
  after_results_entrywise [cast_eq]

/-- An entry of an array. -/
abbrev ev {s : Shape} (x : (⟨s, .f32⟩ : BufTy).Contents (Elt Ideal)) (i : s.Idx) : EReal := x i
theorem f4_101 (h : Fin 4) (k : Fin 128) (z : Fin 1) : ev (s := S4x128x1) (after fwd4 X (Proc.devRef .tc main_while0b_v106)) (ix3 h k z)
    = ev (s := S4x128) (X (Proc.devRef .tc main_while0b_v105)) (ix2 h k) := by
  unfold ev
  after_reads_simp
  pointwise [id]
theorem f4_105 (h : Fin 4) (k : Fin 128) (v : Fin 256) : ev (s := S4x128x256) (after fwd4 X (Proc.devRef .tc main_while0b_v110)) (ix3 h k v)
    = ev (s := S4x128) (X (Proc.devRef .tc main_while0b_v105)) (ix2 h k) * ev (s := S4x128x256) (X (Proc.devRef .tc main_v35_5)) (ix3 h k v)
      + ∑ x : Fin 64, ev (s := S4x64x128) (X (Proc.devRef .tc main_while0b_v103)) (ix3 h x k) * ev (s := S4x64x256) (X (Proc.devRef .tc main_while0b_v104)) (ix3 h x v) := by
  unfold ev
  after_reads_simp
  pointwise [id]
theorem f4_106 (h : Fin 4) (l : Fin 64) (v : Fin 256) : ev (s := S4x64x256) (after fwd4 X (Proc.devRef .tc main_while0b_v111)) (ix3 h l v)
    = ∑ x : Fin 128, ev (s := S4x64x128) (X (Proc.devRef .tc main_while0b_v102)) (ix3 h l x) * ev (s := S4x128x256) (after fwd4 X (Proc.devRef .tc main_while0b_v110)) (ix3 h x v) := by
  unfold ev
  after_reads_simp
  pointwise [id]
theorem b7_107 (h : Fin 4) (k : Fin 128) (v : Fin 256) : ev (s := S4x128x256) (after bwd7 X (Proc.devRef .tc main_while1b_v112)) (ix3 h k v)
    = ev (s := S4x128x256) (X (Proc.devRef .tc main_v88_7)) (ix3 h k v)
      + ∑ x : Fin 64, ev (s := S4x64x256) (X (Proc.devRef .tc main_while1b_v104)) (ix3 h x v) * ev (s := S4x64x128) (X (Proc.devRef .tc main_while1b_v109)) (ix3 h x k) := by
  unfold ev
  after_reads_simp
  pointwise [id]
theorem b7_108 (h : Fin 4) (l : Fin 64) (k : Fin 128) : ev (s := S4x64x128) (after bwd7 X (Proc.devRef .tc main_while1b_v113)) (ix3 h l k)
    = ∑ x : Fin 256, ev (s := S4x64x256) (X (Proc.devRef .tc main_while1b_v104)) (ix3 h l x) * ev (s := S4x128x256) (X (Proc.devRef .tc main_while1b_v108)) (ix3 h k x) := by
  unfold ev
  after_reads_simp
  pointwise [id]
theorem b7_110 (h : Fin 4) (l : Fin 64) (v : Fin 256) : ev (s := S4x64x256) (after bwd7 X (Proc.devRef .tc main_while1b_v115)) (ix3 h l v)
    = ∑ x : Fin 128, ev (s := S4x128x256) (after bwd7 X (Proc.devRef .tc main_while1b_v112)) (ix3 h x v) * ev (s := S4x64x128) (X (Proc.devRef .tc main_while1b_v107)) (ix3 h l x) := by
  unfold ev
  after_reads_simp
  pointwise [id]
theorem b7_112 (h : Fin 4) (l : Fin 64) (k : Fin 128) : ev (s := S4x64x128) (after bwd7 X (Proc.devRef .tc main_while1b_v117)) (ix3 h l k)
    = ∑ x : Fin 256, ev (s := S4x128x256) (after bwd7 X (Proc.devRef .tc main_while1b_v112)) (ix3 h k x) * ev (s := S4x64x256) (X (Proc.devRef .tc main_while1b_v106)) (ix3 h l x) := by
  unfold ev
  after_reads_simp
  pointwise [id]
theorem b7_114 (h : Fin 4) (k : Fin 128) (v : Fin 256) : ev (s := S4x128x256) (after bwd7 X (Proc.devRef .tc main_while1b_v119)) (ix3 h k v)
    = ev (s := S4x128x1) (X (Proc.devRef .tc main_while1b_v105)) (ix3 h k 0) * ev (s := S4x128x256) (after bwd7 X (Proc.devRef .tc main_while1b_v112)) (ix3 h k v) := by
  unfold ev
  after_reads_simp
  pointwise [id]

/-! ## One trip of the first loop -/
abbrev iF : S_.Idx → BitVec 32 := X (Proc.devRef .tc main_v35_4)
/-- The state after the trip. -/
def n5 : S4x128x256.Idx → EReal := fun a =>
  sl2 (X (Proc.devRef .tc main_v35_3)) (iF X) (ix2 (a 0) (a 1)) * ev (s := S4x128x256) (X (Proc.devRef .tc main_v35_5)) (ix3 (a 0) (a 1) (a 2))
    + ∑ x : Fin 64, sl (p := 4) (q := 64) (r := 128) (X (Proc.devRef .tc main_v35_1)) (iF X) (ix3 (a 0) x (a 1))
      * sl (p := 4) (q := 64) (r := 256) (X (Proc.devRef .tc main_v35_2)) (iF X) (ix3 (a 0) x (a 2))
/-- What the chunk's queries read of it. -/
def n6 : S4x64x256.Idx → EReal := fun a =>
  ∑ x : Fin 128, sl (p := 4) (q := 64) (r := 128) (X (Proc.devRef .tc main_v35_0)) (iF X) (ix3 (a 0) (a 1) x) * n5 X (ix3 (a 0) x (a 2))
def n7 : S4x128x1.Idx → EReal := fun a => sl2 (X (Proc.devRef .tc main_v35_3)) (iF X) (ix2 (a 0) (a 1))

/-- The contents before the fifth stretch. -/
abbrev X4 : Valuation τ sig (Elt Ideal) := after fwd3 (after fwd2 (after fwd1 (after fwd0 X)))
theorem x105 : (after fwd4 (X4 X) (Proc.devRef .tc main_while0b_v110) : S4x128x256.Idx → EReal) = n5 X := by
  refine ext3 fun h k v => ?_
  refine (f4_105 (X4 X) h k v).trans ?_
  dsimp only [X4]
  rw [f3, keep fwd3_writes _ main_v35_5 (by decide), keep fwd2_writes _ main_v35_5 (by decide), keep fwd1_writes _ main_v35_5 (by decide), keep fwd0_writes _ main_v35_5 (by decide), keep fwd3_writes _ main_while0b_v103 (by decide), keep fwd2_writes _ main_while0b_v103 (by decide), f1, keep fwd3_writes _ main_while0b_v104 (by decide), f2, keep fwd0_writes _ main_v35_1 (by decide), keep fwd1_writes _ main_v35_2 (by decide), keep fwd0_writes _ main_v35_2 (by decide), keep fwd2_writes _ main_v35_3 (by decide), keep fwd1_writes _ main_v35_3 (by decide), keep fwd0_writes _ main_v35_3 (by decide), keep fwd2_writes _ main_v35_4 (by decide), keep fwd1_writes _ main_v35_4 (by decide), keep fwd0_writes _ main_v35_4 (by decide)]
  rfl
theorem x106 : (after fwd4 (X4 X) (Proc.devRef .tc main_while0b_v111) : S4x64x256.Idx → EReal) = n6 X := by
  refine ext3 fun h l v => ?_
  refine (f4_106 (X4 X) h l v).trans ?_
  rw [x105]
  dsimp only [X4]
  rw [keep fwd3_writes _ main_while0b_v102 (by decide), keep fwd2_writes _ main_while0b_v102 (by decide), keep fwd1_writes _ main_while0b_v102 (by decide), f0]
  rfl
theorem x101 : (after fwd4 (X4 X) (Proc.devRef .tc main_while0b_v106) : S4x128x1.Idx → EReal) = n7 X := by
  refine ext3 fun h k z => ?_
  refine (f4_101 (X4 X) h k z).trans ?_
  dsimp only [X4]
  rw [f3, keep fwd2_writes _ main_v35_3 (by decide), keep fwd1_writes _ main_v35_3 (by decide), keep fwd0_writes _ main_v35_3 (by decide), keep fwd2_writes _ main_v35_4 (by decide), keep fwd1_writes _ main_v35_4 (by decide), keep fwd0_writes _ main_v35_4 (by decide)]
  rfl
theorem f8_5 : after fwd8 X (Proc.devRef .tc main_v35_5) = X (Proc.devRef .tc main_while0b_v110) := by
  after_reads_simp; rfl
theorem f8_6 : after fwd8 X (Proc.devRef .tc main_v35_6) = X (Proc.devRef .tc main_while0b_v112) := by
  after_reads_simp; rfl
theorem f8_7 : after fwd8 X (Proc.devRef .tc main_v35_7) = X (Proc.devRef .tc main_while0b_v113) := by
  after_reads_simp; rfl
theorem f8_8 : after fwd8 X (Proc.devRef .tc main_v35_8) = X (Proc.devRef .tc main_while0b_v114) := by
  after_reads_simp; rfl
theorem t5 : afterL fwdI X (Proc.devRef .tc main_v35_5) = n5 X := by
  simp only [afterL_cons, afterL_nil]
  rw [f8_5, keep fwd7_writes _ main_while0b_v110 (by decide), keep fwd6_writes _ main_while0b_v110 (by decide), keep fwd5_writes _ main_while0b_v110 (by decide)]
  exact x105 X
theorem t6 : afterL fwdI X (Proc.devRef .tc main_v35_6) = up (p := 4) (q := 64) (r := 256) (X (Proc.devRef .tc main_v35_6)) (iF X) (n6 X) := by
  simp only [afterL_cons, afterL_nil]
  rw [f8_6, keep fwd7_writes _ main_while0b_v112 (by decide), keep fwd6_writes _ main_while0b_v112 (by decide)]
  rw [f5, x106, keep fwd4_writes _ main_v35_6 (by decide), keep fwd3_writes _ main_v35_6 (by decide), keep fwd2_writes _ main_v35_6 (by decide), keep fwd1_writes _ main_v35_6 (by decide), keep fwd0_writes _ main_v35_6 (by decide), keep fwd4_writes _ main_v35_4 (by decide), keep fwd3_writes _ main_v35_4 (by decide), keep fwd2_writes _ main_v35_4 (by decide), keep fwd1_writes _ main_v35_4 (by decide), keep fwd0_writes _ main_v35_4 (by decide)]
theorem t7 : afterL fwdI X (Proc.devRef .tc main_v35_7) = up (p := 4) (q := 128) (r := 1) (X (Proc.devRef .tc main_v35_7)) (iF X) (n7 X) := by
  simp only [afterL_cons, afterL_nil]
  rw [f8_7, keep fwd7_writes _ main_while0b_v113 (by decide)]
  rw [f6, keep fwd5_writes _ main_while0b_v106 (by decide), x101, keep fwd5_writes _ main_v35_7 (by decide), keep fwd4_writes _ main_v35_7 (by decide), keep fwd3_writes _ main_v35_7 (by decide), keep fwd2_writes _ main_v35_7 (by decide), keep fwd1_writes _ main_v35_7 (by decide), keep fwd0_writes _ main_v35_7 (by decide), keep fwd5_writes _ main_v35_4 (by decide), keep fwd4_writes _ main_v35_4 (by decide), keep fwd3_writes _ main_v35_4 (by decide), keep fwd2_writes _ main_v35_4 (by decide), keep fwd1_writes _ main_v35_4 (by decide), keep fwd0_writes _ main_v35_4 (by decide)]
theorem t8 : afterL fwdI X (Proc.devRef .tc main_v35_8) = up (p := 4) (q := 128) (r := 256) (X (Proc.devRef .tc main_v35_8)) (iF X) (n5 X) := by
  simp only [afterL_cons, afterL_nil]
  rw [f8_8]
  rw [f7, keep fwd6_writes _ main_while0b_v110 (by decide), keep fwd5_writes _ main_while0b_v110 (by decide), x105, keep fwd6_writes _ main_v35_8 (by decide), keep fwd5_writes _ main_v35_8 (by decide), keep fwd4_writes _ main_v35_8 (by decide), keep fwd3_writes _ main_v35_8 (by decide), keep fwd2_writes _ main_v35_8 (by decide), keep fwd1_writes _ main_v35_8 (by decide), keep fwd0_writes _ main_v35_8 (by decide), keep fwd6_writes _ main_v35_4 (by decide), keep fwd5_writes _ main_v35_4 (by decide), keep fwd4_writes _ main_v35_4 (by decide), keep fwd3_writes _ main_v35_4 (by decide), keep fwd2_writes _ main_v35_4 (by decide), keep fwd1_writes _ main_v35_4 (by decide), keep fwd0_writes _ main_v35_4 (by decide)]

/-! ## One trip of the second loop -/
/-- The chunk the trip takes: the last one first. -/
def iB : S_.Idx → BitVec 32 := subi (subi (constantI S_ 32 64#32) (X (Proc.devRef .tc main_v88_6))) (constantI S_ 32 1#32)
theorem b0 : after bwd0 X (Proc.devRef .tc main_while1b_v103) = iB X := by
  after_reads_simp; rfl
/-- The gradient of the state after the chunk. -/
def d7 : S4x128x256.Idx → EReal := fun a =>
  ev (s := S4x128x256) (X (Proc.devRef .tc main_v88_7)) (ix3 (a 0) (a 1) (a 2))
    + ∑ x : Fin 64, sl (p := 4) (q := 64) (r := 256) (X (Proc.devRef .tc main_v88_0)) (iB X) (ix3 (a 0) x (a 2))
      * sl (p := 4) (q := 64) (r := 128) (X (Proc.devRef .tc main_v88_5)) (iB X) (ix3 (a 0) x (a 1))
def d8 : S4x64x128.Idx → EReal := fun a =>
  ∑ x : Fin 256, sl (p := 4) (q := 64) (r := 256) (X (Proc.devRef .tc main_v88_0)) (iB X) (ix3 (a 0) (a 1) x)
      * sl (p := 4) (q := 128) (r := 256) (X (Proc.devRef .tc main_v88_4)) (iB X) (ix3 (a 0) (a 2) x)
def d9 : S4x64x128.Idx → EReal := fun a =>
  ∑ x : Fin 256, d7 X (ix3 (a 0) (a 2) x) * sl (p := 4) (q := 64) (r := 256) (X (Proc.devRef .tc main_v88_2)) (iB X) (ix3 (a 0) (a 1) x)
def d10 : S4x64x256.Idx → EReal := fun a =>
  ∑ x : Fin 128, d7 X (ix3 (a 0) x (a 2)) * sl (p := 4) (q := 64) (r := 128) (X (Proc.devRef .tc main_v88_3)) (iB X) (ix3 (a 0) (a 1) x)
def d14 : S4x128x256.Idx → EReal := fun a =>
  sl (p := 4) (q := 128) (r := 1) (X (Proc.devRef .tc main_v88_1)) (iB X) (ix3 (a 0) (a 1) 0) * d7 X (ix3 (a 0) (a 1) (a 2))

/-- The contents before the eighth stretch. -/
abbrev X7 : Valuation τ sig (Elt Ideal) := after bwd6 (after bwd5 (after bwd4 (after bwd3 (after bwd2 (after bwd1 (after bwd0 X))))))
theorem y107 : (after bwd7 (X7 X) (Proc.devRef .tc main_while1b_v112) : S4x128x256.Idx → EReal) = d7 X := by
  refine ext3 fun h k v => ?_
  refine (b7_107 (X7 X) h k v).trans ?_
  dsimp only [X7]
  rw [keep bwd6_writes _ main_v88_7 (by decide), keep bwd5_writes _ main_v88_7 (by decide), keep bwd4_writes _ main_v88_7 (by decide), keep bwd3_writes _ main_v88_7 (by decide), keep bwd2_writes _ main_v88_7 (by decide), keep bwd1_writes _ main_v88_7 (by decide), keep bwd0_writes _ main_v88_7 (by decide), keep bwd6_writes _ main_while1b_v104 (by decide), keep bwd5_writes _ main_while1b_v104 (by decide), keep bwd4_writes _ main_while1b_v104 (by decide), keep bwd3_writes _ main_while1b_v104 (by decide), keep bwd2_writes _ main_while1b_v104 (by decide), b1, b6, keep bwd0_writes _ main_v88_0 (by decide), keep bwd5_writes _ main_v88_5 (by decide), keep bwd4_writes _ main_v88_5 (by decide), keep bwd3_writes _ main_v88_5 (by decide), keep bwd2_writes _ main_v88_5 (by decide), keep bwd1_writes _ main_v88_5 (by decide), keep bwd0_writes _ main_v88_5 (by decide), keep bwd5_writes _ main_while1b_v103 (by decide), keep bwd4_writes _ main_while1b_v103 (by decide), keep bwd3_writes _ main_while1b_v103 (by decide), keep bwd2_writes _ main_while1b_v103 (by decide), keep bwd1_writes _ main_while1b_v103 (by decide), b0]
  rfl
theorem y108 : (after bwd7 (X7 X) (Proc.devRef .tc main_while1b_v113) : S4x64x128.Idx → EReal) = d8 X := by
  refine ext3 fun h l k => ?_
  refine (b7_108 (X7 X) h l k).trans ?_
  dsimp only [X7]
  rw [keep bwd6_writes _ main_while1b_v104 (by decide), keep bwd5_writes _ main_while1b_v104 (by decide), keep bwd4_writes _ main_while1b_v104 (by decide), keep bwd3_writes _ main_while1b_v104 (by decide), keep bwd2_writes _ main_while1b_v104 (by decide), b1, keep bwd6_writes _ main_while1b_v108 (by decide), b5, keep bwd0_writes _ main_v88_0 (by decide), keep bwd4_writes _ main_v88_4 (by decide), keep bwd3_writes _ main_v88_4 (by decide), keep bwd2_writes _ main_v88_4 (by decide), keep bwd1_writes _ main_v88_4 (by decide), keep bwd0_writes _ main_v88_4 (by decide), keep bwd4_writes _ main_while1b_v103 (by decide), keep bwd3_writes _ main_while1b_v103 (by decide), keep bwd2_writes _ main_while1b_v103 (by decide), keep bwd1_writes _ main_while1b_v103 (by decide), b0]
  rfl
theorem y110 : (after bwd7 (X7 X) (Proc.devRef .tc main_while1b_v115) : S4x64x256.Idx → EReal) = d10 X := by
  refine ext3 fun h l v => ?_
  refine (b7_110 (X7 X) h l v).trans ?_
  rw [y107]
  dsimp only [X7]
  rw [keep bwd6_writes _ main_while1b_v107 (by decide), keep bwd5_writes _ main_while1b_v107 (by decide), b4, keep bwd3_writes _ main_v88_3 (by decide), keep bwd2_writes _ main_v88_3 (by decide), keep bwd1_writes _ main_v88_3 (by decide), keep bwd0_writes _ main_v88_3 (by decide), keep bwd3_writes _ main_while1b_v103 (by decide), keep bwd2_writes _ main_while1b_v103 (by decide), keep bwd1_writes _ main_while1b_v103 (by decide), b0]
  rfl
theorem y112 : (after bwd7 (X7 X) (Proc.devRef .tc main_while1b_v117) : S4x64x128.Idx → EReal) = d9 X := by
  refine ext3 fun h l k => ?_
  refine (b7_112 (X7 X) h l k).trans ?_
  rw [y107]
  dsimp only [X7]
  rw [keep bwd6_writes _ main_while1b_v106 (by decide), keep bwd5_writes _ main_while1b_v106 (by decide), keep bwd4_writes _ main_while1b_v106 (by decide), b3, keep bwd2_writes _ main_v88_2 (by decide), keep bwd1_writes _ main_v88_2 (by decide), keep bwd0_writes _ main_v88_2 (by decide), keep bwd2_writes _ main_while1b_v103 (by decide), keep bwd1_writes _ main_while1b_v103 (by decide), b0]
  rfl
theorem y114 : (after bwd7 (X7 X) (Proc.devRef .tc main_while1b_v119) : S4x128x256.Idx → EReal) = d14 X := by
  refine ext3 fun h k v => ?_
  refine (b7_114 (X7 X) h k v).trans ?_
  rw [y107]
  dsimp only [X7]
  rw [keep bwd6_writes _ main_while1b_v105 (by decide), keep bwd5_writes _ main_while1b_v105 (by decide), keep bwd4_writes _ main_while1b_v105 (by decide), keep bwd3_writes _ main_while1b_v105 (by decide), b2, keep bwd1_writes _ main_v88_1 (by decide), keep bwd0_writes _ main_v88_1 (by decide), keep bwd1_writes _ main_while1b_v103 (by decide), b0]
  rfl
theorem b11_7 : after bwd11 X (Proc.devRef .tc main_v88_7) = X (Proc.devRef .tc main_while1b_v119) := by
  after_reads_simp; rfl
theorem b11_8 : after bwd11 X (Proc.devRef .tc main_v88_8) = X (Proc.devRef .tc main_while1b_v120) := by
  after_reads_simp; rfl
theorem b11_9 : after bwd11 X (Proc.devRef .tc main_v88_9) = X (Proc.devRef .tc main_while1b_v121) := by
  after_reads_simp; rfl
theorem b11_10 : after bwd11 X (Proc.devRef .tc main_v88_10) = X (Proc.devRef .tc main_while1b_v122) := by
  after_reads_simp; rfl
theorem u7 : afterL bwdI X (Proc.devRef .tc main_v88_7) = d14 X := by
  simp only [afterL_cons, afterL_nil]
  rw [b11_7, keep bwd10_writes _ main_while1b_v119 (by decide), keep bwd9_writes _ main_while1b_v119 (by decide), keep bwd8_writes _ main_while1b_v119 (by decide)]
  exact y114 X
theorem u8 : afterL bwdI X (Proc.devRef .tc main_v88_8) = up (p := 4) (q := 64) (r := 128) (X (Proc.devRef .tc main_v88_8)) (iB X) (d8 X) := by
  simp only [afterL_cons, afterL_nil]
  rw [b11_8, keep bwd10_writes _ main_while1b_v120 (by decide), keep bwd9_writes _ main_while1b_v120 (by decide)]
  rw [b8, y108, keep bwd7_writes _ main_v88_8 (by decide), keep bwd6_writes _ main_v88_8 (by decide), keep bwd5_writes _ main_v88_8 (by decide), keep bwd4_writes _ main_v88_8 (by decide), keep bwd3_writes _ main_v88_8 (by decide), keep bwd2_writes _ main_v88_8 (by decide), keep bwd1_writes _ main_v88_8 (by decide), keep bwd0_writes _ main_v88_8 (by decide), keep bwd7_writes _ main_while1b_v103 (by decide), keep bwd6_writes _ main_while1b_v103 (by decide), keep bwd5_writes _ main_while1b_v103 (by decide), keep bwd4_writes _ main_while1b_v103 (by decide), keep bwd3_writes _ main_while1b_v103 (by decide), keep bwd2_writes _ main_while1b_v103 (by decide), keep bwd1_writes _ main_while1b_v103 (by decide), b0]
theorem u9 : afterL bwdI X (Proc.devRef .tc main_v88_9) = up (p := 4) (q := 64) (r := 128) (X (Proc.devRef .tc main_v88_9)) (iB X) (d9 X) := by
  simp only [afterL_cons, afterL_nil]
  rw [b11_9, keep bwd10_writes _ main_while1b_v121 (by decide)]
  rw [b9, keep bwd8_writes _ main_while1b_v117 (by decide), y112, keep bwd8_writes _ main_v88_9 (by decide), keep bwd7_writes _ main_v88_9 (by decide), keep bwd6_writes _ main_v88_9 (by decide), keep bwd5_writes _ main_v88_9 (by decide), keep bwd4_writes _ main_v88_9 (by decide), keep bwd3_writes _ main_v88_9 (by decide), keep bwd2_writes _ main_v88_9 (by decide), keep bwd1_writes _ main_v88_9 (by decide), keep bwd0_writes _ main_v88_9 (by decide), keep bwd8_writes _ main_while1b_v103 (by decide), keep bwd7_writes _ main_while1b_v103 (by decide), keep bwd6_writes _ main_while1b_v103 (by decide), keep bwd5_writes _ main_while1b_v103 (by decide), keep bwd4_writes _ main_while1b_v103 (by decide), keep bwd3_writes _ main_while1b_v103 (by decide), keep bwd2_writes _ main_while1b_v103 (by decide), keep bwd1_writes _ main_while1b_v103 (by decide), b0]
theorem u10 : afterL bwdI X (Proc.devRef .tc main_v88_10) = up (p := 4) (q := 64) (r := 256) (X (Proc.devRef .tc main_v88_10)) (iB X) (d10 X) := by
  simp only [afterL_cons, afterL_nil]
  rw [b11_10]
  rw [b10, keep bwd9_writes _ main_while1b_v115 (by decide), keep bwd8_writes _ main_while1b_v115 (by decide), y110, keep bwd9_writes _ main_v88_10 (by decide), keep bwd8_writes _ main_v88_10 (by decide), keep bwd7_writes _ main_v88_10 (by decide), keep bwd6_writes _ main_v88_10 (by decide), keep bwd5_writes _ main_v88_10 (by decide), keep bwd4_writes _ main_v88_10 (by decide), keep bwd3_writes _ main_v88_10 (by decide), keep bwd2_writes _ main_v88_10 (by decide), keep bwd1_writes _ main_v88_10 (by decide), keep bwd0_writes _ main_v88_10 (by decide), keep bwd9_writes _ main_while1b_v103 (by decide), keep bwd8_writes _ main_while1b_v103 (by decide), keep bwd7_writes _ main_while1b_v103 (by decide), keep bwd6_writes _ main_while1b_v103 (by decide), keep bwd5_writes _ main_while1b_v103 (by decide), keep bwd4_writes _ main_while1b_v103 (by decide), keep bwd3_writes _ main_while1b_v103 (by decide), keep bwd2_writes _ main_while1b_v103 (by decide), keep bwd1_writes _ main_while1b_v103 (by decide), b0]
end stretch
end Cert.GlaBStep
-- ==== Proof.GlaBRef.lean ====
/- The reference, entry by entry: its stretches before, between and after the two loops, the loops by induction over their trips, and
   the gradient it returns as the formulas of the module of formulas. -/
module
public import proofs.«01_k».proof.Proof.GlaBStep
public import proofs.«01_k».proof.Proof.GlaBMath
public import proofs.«01_k».proof.Proof.GlaRef
@[expose] public section
set_option maxRecDepth 65536
noncomputable section
namespace Cert.GlaBRef
open Idealize.ShloMosaic Idealize.ShloMosaic.TcCoe Idealize.ShloMosaic.StableHlo Idealize.SL.Sem
open Cert.GlaBwdRefIdeal Cert.GlaBwdRefIdeal.Gen Cert.GlaBRun Cert.HostRun Cert.GlaBStep Cert.GlaB
open Cert.Gla (row row_val cum lsig lsig_eq lac hk fg kd gam vv qq st oo)

section pre
variable (X : Valuation τ sig (Elt Ideal))
abbrev a0 : (⟨S4096x8208, .f32⟩ : BufTy).Contents (Elt Ideal) := X (Proc.devRef .tc main_arg0)
abbrev a1 : (⟨S4096x1024, .f32⟩ : BufTy).Contents (Elt Ideal) := X (Proc.devRef .tc main_arg1)
abbrev a2 : (⟨S16x512, .f32⟩ : BufTy).Contents (Elt Ideal) := X (Proc.devRef .tc main_arg2)
abbrev a3 : (⟨S512, .f32⟩ : BufTy).Contents (Elt Ideal) := X (Proc.devRef .tc main_arg3)
abbrev a4 : (⟨S256, .f32⟩ : BufTy).Contents (Elt Ideal) := X (Proc.devRef .tc main_arg4)
abbrev a5 : (⟨S4096x8320, .f32⟩ : BufTy).Contents (Elt Ideal) := X (Proc.devRef .tc main_arg5)

theorem row_of (n l : Fin 64) (h : n.val * 64 + l.val < 4096) : (⟨n.val * 64 + l.val, h⟩ : Fin 4096) = row n.val l :=
  Fin.ext (by rw [row_val n.val n.isLt]; show n.val * 64 + l.val = _; omega)

theorem q4 (a : Fin 4096) (k : Fin 1024) : ev (s := S4096x1024) (after pre0 X (Proc.devRef .tc main_v4)) (ix2 a k)
    = a0 X (ix2 a (⟨2048 + k.val, by omega⟩ : Fin 8208)) := by
  unfold ev; after_reads_simp; pointwise [id]
theorem q9 (a : Fin 4096) (k : Fin 512) : ev (s := S4096x512) (after pre0 X (Proc.devRef .tc main_v9)) (ix2 a k) = fg (a0 X) (a2 X) (a3 X) a k := by
  unfold ev; after_reads_simp; pointwise [id]
  rfl
theorem q10 (a : Fin 4096) (k : Fin 512) : Ideal.div (ev (s := S4096x512) (after pre1 X (Proc.devRef .tc main_v10)) (ix2 a k)) (Ideal.ofBits .f32 0x41800000#32)
    = lsig (ev (s := S4096x512) (X (Proc.devRef .tc main_v9)) (ix2 a k)) := by
  refine Eq.trans ?_ (lsig_eq _)
  unfold ev; after_reads_simp
  simp only [cast_eq, TRef.toBuf, TRef.ofBuf, TRef.of]
  pointwise [id]
  rw [if_neg (fun h => h rfl)]
  rfl
theorem q16 (n : Fin 64) (h : Fin 4) (l : Fin 64) (k : Fin 128) : ev (s := S64x4x64x128) (after pre2 (after pre1 (after pre0 X)) (Proc.devRef .tc main_v16)) (ix4 n h l k)
    = qq (a0 X) n h l k := by
  unfold ev; after_reads_simp; pointwise [id]
  rw [row_of]; rfl
theorem q18 (n : Fin 64) (h : Fin 4) (l : Fin 64) (k : Fin 128) : ev (s := S64x4x64x128) (after pre2 (after pre1 (after pre0 X)) (Proc.devRef .tc main_v18)) (ix4 n h l k)
    = a0 X (ix2 (row n l) (⟨512 + (h.val * 128 + k.val), by omega⟩ : Fin 8208)) := by
  unfold ev; after_reads_simp; pointwise [id]
  rw [row_of]
theorem q20 (n : Fin 64) (h : Fin 4) (l : Fin 64) (v : Fin 256) : ev (s := S64x4x64x256) (after pre2 (after pre1 (after pre0 X)) (Proc.devRef .tc main_v20)) (ix4 n h l v)
    = vv (a0 X) n h v l := by
  unfold ev; after_reads_simp; pointwise [id]
  rw [row_of]; rfl
theorem q22 (n : Fin 64) (h : Fin 4) (l : Fin 64) (k : Fin 128) : ev (s := S64x4x64x128) (after pre2 X (Proc.devRef .tc main_v22)) (ix4 n h l k)
    = Ideal.div (ev (s := S4096x512) (X (Proc.devRef .tc main_v10)) (ix2 (row n l) (hk h k))) (Ideal.ofBits .f32 0x41800000#32) := by
  unfold ev; after_reads_simp; pointwise [id]
  rw [row_of]; rfl
theorem q23 (n : Fin 64) (h : Fin 4) (l : Fin 64) (k : Fin 128) : ev (s := S64x4x64x128) (after pre3 X (Proc.devRef .tc main_v23)) (ix4 n h l k)
    = cum (fun j => ev (s := S64x4x64x128) (X (Proc.devRef .tc main_v22)) (ix4 n h j k)) l := by
  unfold ev; after_reads_simp
  simp only [cast_eq, TRef.toBuf, TRef.ofBuf, TRef.of]
  exact Cert.Gla.Ref.window_cum _ _ _ _ (by pointwise []) n h l k
/-- The contents before the last stretch before the first loop. -/
abbrev P3 : Valuation τ sig (Elt Ideal) := after pre3 (after pre2 (after pre1 (after pre0 X)))
theorem r23 (n : Fin 64) (h : Fin 4) (l : Fin 64) (k : Fin 128) : ev (s := S64x4x64x128) (P3 X (Proc.devRef .tc main_v23)) (ix4 n h l k)
    = cum (lac (a0 X) (a2 X) (a3 X) n h k) l := by
  refine (q23 _ n h l k).trans (congrArg (fun f => cum f l) (funext fun j => ?_))
  exact (q22 _ n h j k).trans ((q10 _ _ _).trans (congrArg lsig (q9 X _ _)))
theorem e27 (n : Fin 64) (h : Fin 4) (l : Fin 64) (k : Fin 128) : ev (s := S64x4x64x128) (after pre4 X (Proc.devRef .tc main_v27)) (ix4 n h l k)
    = Ideal.exp (ev (s := S64x4x64x128) (X (Proc.devRef .tc main_v23)) (ix4 n h 63 k) - ev (s := S64x4x64x128) (X (Proc.devRef .tc main_v23)) (ix4 n h l k)) := by
  unfold ev; after_reads_simp; pointwise [id]
theorem e28 (n : Fin 64) (h : Fin 4) (l : Fin 64) (k : Fin 128) : ev (s := S64x4x64x128) (after pre4 X (Proc.devRef .tc main_v28)) (ix4 n h l k)
    = ev (s := S64x4x64x128) (X (Proc.devRef .tc main_v18)) (ix4 n h l k) * ev (s := S64x4x64x128) (after pre4 X (Proc.devRef .tc main_v27)) (ix4 n h l k) := by
  unfold ev; after_reads_simp; pointwise [id]
theorem e30 (n : Fin 64) (h : Fin 4) (k : Fin 128) : ev (s := S64x4x128) (after pre4 X (Proc.devRef .tc main_v35_3)) (ix3 n h k)
    = Ideal.exp (ev (s := S64x4x64x128) (X (Proc.devRef .tc main_v23)) (ix4 n h 63 k)) := by
  unfold ev; after_reads_simp; pointwise [id]
theorem e35_0 : after pre4 X (Proc.devRef .tc main_v35_0) = X (Proc.devRef .tc main_v16) := by
  after_reads_simp; rfl
theorem e35_2 : after pre4 X (Proc.devRef .tc main_v35_2) = X (Proc.devRef .tc main_v20) := by
  after_reads_simp; rfl
theorem e35_1 : after pre4 X (Proc.devRef .tc main_v35_1) = after pre4 X (Proc.devRef .tc main_v28) := by
  after_reads_simp; rfl
theorem e35_5 (h : Fin 4) (k : Fin 128) (v : Fin 256) : ev (s := S4x128x256) (after pre4 X (Proc.devRef .tc main_v35_5)) (ix3 h k v) = 0 := by
  unfold ev; after_reads_simp; pointwise [id]
theorem q27 (n : Fin 64) (h : Fin 4) (l : Fin 64) (k : Fin 128) : ev (s := S64x4x64x128) (afterL preI X (Proc.devRef .tc main_v27)) (ix4 n h l k)
    = Ideal.exp (cum (lac (a0 X) (a2 X) (a3 X) n h k) 63 - cum (lac (a0 X) (a2 X) (a3 X) n h k) l) :=
  (e27 (P3 X) n h l k).trans (by rw [r23, r23])
theorem q30 (n : Fin 64) (h : Fin 4) (k : Fin 128) : ev (s := S64x4x128) (afterL preI X (Proc.devRef .tc main_v35_3)) (ix3 n h k)
    = gam (a0 X) (a2 X) (a3 X) n h k := (e30 (P3 X) n h k).trans (by rw [r23]; rfl)
theorem q28 (n : Fin 64) (h : Fin 4) (l : Fin 64) (k : Fin 128) : ev (s := S64x4x64x128) (afterL preI X (Proc.devRef .tc main_v28)) (ix4 n h l k)
    = kd (a0 X) (a2 X) (a3 X) n h k l :=
  (e28 (P3 X) n h l k).trans (congrArg₂ (· * ·) ((congrArg (fun f => ev (s := S64x4x64x128) f (ix4 n h l k)) (keep pre3_writes _ main_v18 (by decide))).trans (q18 X n h l k)) (q27 X n h l k))
theorem z16 (n : Fin 64) (h : Fin 4) (l : Fin 64) (k : Fin 128) : ev (s := S64x4x64x128) (afterL preI X (Proc.devRef .tc main_v16)) (ix4 n h l k) = qq (a0 X) n h l k :=
  (congrArg (fun f => ev (s := S64x4x64x128) f (ix4 n h l k)) ((keep pre4_writes (P3 X) main_v16 (by decide)).trans (keep pre3_writes _ main_v16 (by decide)))).trans (q16 X n h l k)
theorem z20 (n : Fin 64) (h : Fin 4) (l : Fin 64) (v : Fin 256) : ev (s := S64x4x64x256) (afterL preI X (Proc.devRef .tc main_v20)) (ix4 n h l v) = vv (a0 X) n h v l :=
  (congrArg (fun f => ev (s := S64x4x64x256) f (ix4 n h l v)) ((keep pre4_writes (P3 X) main_v20 (by decide)).trans (keep pre3_writes _ main_v20 (by decide)))).trans (q20 X n h l v)
theorem y16 : afterL preI X (Proc.devRef .tc main_v35_0) = afterL preI X (Proc.devRef .tc main_v16) :=
  (e35_0 (P3 X)).trans (keep pre4_writes (P3 X) main_v16 (by decide)).symm
theorem y20 : afterL preI X (Proc.devRef .tc main_v35_2) = afterL preI X (Proc.devRef .tc main_v20) :=
  (e35_2 (P3 X)).trans (keep pre4_writes (P3 X) main_v20 (by decide)).symm
theorem y28 : afterL preI X (Proc.devRef .tc main_v35_1) = afterL preI X (Proc.devRef .tc main_v28) := e35_1 (P3 X)
theorem z4 (a : Fin 4096) (k : Fin 1024) : ev (s := S4096x1024) (afterL preI X (Proc.devRef .tc main_v4)) (ix2 a k)
    = a0 X (ix2 a (⟨2048 + k.val, by omega⟩ : Fin 8208)) :=
  (congrArg (fun f => ev (s := S4096x1024) f (ix2 a k)) ((keep pre4_writes (P3 X) main_v4 (by decide)).trans ((keep pre3_writes _ main_v4 (by decide)).trans
    ((keep pre2_writes _ main_v4 (by decide)).trans (keep pre1_writes _ main_v4 (by decide)))))).trans (q4 X a k)
end pre

/-! ## Between the loops, and after them -/
section mid
variable (X : Valuation τ sig (Elt Ideal))
/-- The row a head's queries read, among the rows of the whole. -/
def oR (a : Fin 4096) (h : Fin 4) (v : Fin 256) : EReal :=
  ev (s := S64x4x64x256) (X (Proc.devRef .tc main_v35_6)) (ix4 (⟨a.val / 64, by omega⟩ : Fin 64) h (⟨a.val % 64, by omega⟩ : Fin 64) v)
theorem m37 (a : Fin 4096) (h : Fin 4) (v : Fin 256) : ev (s := S4096x4x256) (after mid0 X (Proc.devRef .tc main_v37)) (ix3 a h v) = oR X a h v := by
  unfold ev; after_reads_simp; pointwise [id]
  rfl
theorem m44 (a : Fin 4096) (h : Fin 4) : ev (s := S4096x4x1) (after mid1 (after mid0 X) (Proc.devRef .tc main_v44)) (ix3 a h 0) = msq (oR X a h) := by
  unfold ev; after_reads_simp; pointwise [id]
  rfl
theorem m45 (a : Fin 4096) (h : Fin 4) : ev (s := S4096x4x1) (after mid1 (after mid0 X) (Proc.devRef .tc main_v45)) (ix3 a h 0) = rsq (oR X a h) := by
  unfold ev; after_reads_simp; pointwise [id]
  rfl
theorem m48 (a : Fin 4096) (h : Fin 4) : ev (s := S4096x4x1) (after mid1 (after mid0 X) (Proc.devRef .tc main_v48)) (ix3 a h 0)
    = Ideal.ofBits .f32 0xBF000000#32 * Ideal.div (rsq (oR X a h)) (msq (oR X a h)) := by
  unfold ev; after_reads_simp; pointwise [id]
  rfl
theorem m54 (a : Fin 4096) (k : Fin 1024) : ev (s := S4096x1024) (after mid1 (after mid0 X) (Proc.devRef .tc main_v54)) (ix2 a k)
    = oR X a ⟨k.val / 256, by omega⟩ ⟨k.val % 256, by omega⟩ * rsq (oR X a ⟨k.val / 256, by omega⟩) * a4 X (ix1 (⟨k.val % 256, by omega⟩ : Fin 256)) := by
  unfold ev; after_reads_simp; pointwise [id]
  rfl
theorem m51 (v : Fin 256) : ev (s := S1x1x256) (after mid1 (after mid0 X) (Proc.devRef .tc main_v51)) (ix3 0 0 v) = a4 X (ix1 v) := by
  unfold ev; after_reads_simp; pointwise [id]
abbrev vR : Fin 4096 → Fin 1024 → EReal := fun a k => ev (s := S4096x1024) (X (Proc.devRef .tc main_v4)) (ix2 a k)
theorem m55_2 (a : Fin 4096) (k : Fin 1024) : ev (s := S4096x1024) (after mid2 X (Proc.devRef .tc main_v55_2)) (ix2 a k) = Ideal.logistic (vR X a k) := by
  unfold vR ev; after_reads_simp
  simp only [cast_eq, TRef.toBuf, TRef.ofBuf, TRef.of]
  pointwise [id]
  rfl
theorem m55_1 (a : Fin 4096) (k : Fin 1024) : ev (s := S4096x1024) (after mid2 X (Proc.devRef .tc main_v55_1)) (ix2 a k)
    = Ideal.logistic (vR X a k) * (1 - Ideal.logistic (vR X a k)) := by
  unfold vR ev; after_reads_simp
  simp only [cast_eq, TRef.toBuf, TRef.ofBuf, TRef.of]
  pointwise [id]
  rfl
theorem m55_0 (a : Fin 4096) (k : Fin 1024) : ev (s := S4096x1024) (after mid2 X (Proc.devRef .tc main_v55_0)) (ix2 a k)
    = vR X a k * Ideal.logistic (vR X a k) := by
  unfold vR ev; after_reads_simp
  simp only [cast_eq, TRef.toBuf, TRef.ofBuf, TRef.of]
  pointwise [id]
  rfl
end mid
end Cert.GlaBRef
-- ==== Proof.GlaBLoop.lean ====
/- The two loops of the reference by induction over their trips, the stretch between them, and the gradient it returns. -/
module
public import proofs.«01_k».proof.Proof.GlaBRef
@[expose] public section
set_option maxRecDepth 65536
noncomputable section
namespace Cert.GlaBRef
open Idealize.ShloMosaic Idealize.ShloMosaic.TcCoe Idealize.ShloMosaic.StableHlo Idealize.SL.Sem
open Cert.GlaBwdRefIdeal Cert.GlaBwdRefIdeal.Gen Cert.GlaBRun Cert.HostRun Cert.GlaBStep Cert.GlaB
open Cert.Reals
open Cert.Gla (row row_val cum lsig lsig_eq lac hk fg kd gam vv qq st oo)

section mid
variable (X : Valuation τ sig (Elt Ideal))
theorem m58 (a : Fin 4096) (k : Fin 1024) : ev (s := S4096x1024) (after mid3 X (Proc.devRef .tc main_v58)) (ix2 a k)
    = ev (s := S4096x1024) (X (Proc.devRef .tc main_v54)) (ix2 a k) * a1 X (ix2 a k) := by
  unfold ev; after_reads_simp; pointwise [id]
theorem m59 (a : Fin 4096) (k : Fin 1024) : ev (s := S4096x1024) (after mid3 X (Proc.devRef .tc main_v59)) (ix2 a k)
    = a1 X (ix2 a k) * ev (s := S4096x1024) (X (Proc.devRef .tc main_v55_0)) (ix2 a k) := by
  unfold ev; after_reads_simp; pointwise [id]
theorem m60 (a : Fin 4096) (k : Fin 1024) : ev (s := S4096x1024) (after mid4 X (Proc.devRef .tc main_v60)) (ix2 a k)
    = ev (s := S4096x1024) (X (Proc.devRef .tc main_v58)) (ix2 a k) * ev (s := S4096x1024) (X (Proc.devRef .tc main_v55_2)) (ix2 a k)
      + ev (s := S4096x1024) (X (Proc.devRef .tc main_v4)) (ix2 a k) * ev (s := S4096x1024) (X (Proc.devRef .tc main_v58)) (ix2 a k)
        * ev (s := S4096x1024) (X (Proc.devRef .tc main_v55_1)) (ix2 a k) := by
  unfold ev; after_reads_simp
  simp only [cast_eq, TRef.toBuf, TRef.ofBuf, TRef.of]
  pointwise [id]
/-- What a row's gradient takes back through its mean square, from the contents before the sixth stretch. -/
def thM (a : Fin 4096) (h : Fin 4) : EReal :=
  Ideal.div ((∑ x : Fin 256, ev (s := S4096x4x256) (X (Proc.devRef .tc main_v37)) (ix3 a h x)
      * (ev (s := S4096x1024) (X (Proc.devRef .tc main_v59)) (ix2 a (⟨h.val * 256 + x.val, by omega⟩ : Fin 1024)) * ev (s := S1x1x256) (X (Proc.devRef .tc main_v51)) (ix3 0 0 x)))
    * ev (s := S4096x4x1) (X (Proc.devRef .tc main_v48)) (ix3 a h 0)) (Ideal.ofBits .f32 0x43800000#32)
theorem m79 (n : Fin 64) (h : Fin 4) (l : Fin 64) (v : Fin 256) (a : Fin 4096) (ha : a = ⟨n.val * 64 + l.val, by omega⟩) :
    ev (s := S64x4x64x256) (after mid5 X (Proc.devRef .tc main_v88_0)) (ix4 n h l v)
    = ev (s := S4096x1024) (X (Proc.devRef .tc main_v59)) (ix2 a (⟨h.val * 256 + v.val, by omega⟩ : Fin 1024)) * ev (s := S1x1x256) (X (Proc.devRef .tc main_v51)) (ix3 0 0 v)
        * ev (s := S4096x4x1) (X (Proc.devRef .tc main_v45)) (ix3 a h 0)
      + ev (s := S4096x4x256) (X (Proc.devRef .tc main_v37)) (ix3 a h v) * thM X a h
      + thM X a h * ev (s := S4096x4x256) (X (Proc.devRef .tc main_v37)) (ix3 a h v) := by
  subst ha
  unfold thM ev; after_reads_simp; pointwise [id]
  simp only [Fin.sum_univ_one]
theorem m84_1 : after mid6 (after mid5 X) (Proc.devRef .tc main_v88_1) = X (Proc.devRef .tc main_v35_7) := by after_reads_simp; rfl
theorem m84_2 : after mid6 (after mid5 X) (Proc.devRef .tc main_v88_2) = X (Proc.devRef .tc main_v20) := by after_reads_simp; rfl
theorem m84_3 : after mid6 (after mid5 X) (Proc.devRef .tc main_v88_3) = X (Proc.devRef .tc main_v28) := by after_reads_simp; rfl
theorem m84_4 : after mid6 (after mid5 X) (Proc.devRef .tc main_v88_4) = X (Proc.devRef .tc main_v35_8) := by after_reads_simp; rfl
theorem m84_5 : after mid6 (after mid5 X) (Proc.devRef .tc main_v88_5) = X (Proc.devRef .tc main_v16) := by after_reads_simp; rfl
theorem m84_7 (h : Fin 4) (k : Fin 128) (v : Fin 256) : ev (s := S4x128x256) (after mid6 (after mid5 X) (Proc.devRef .tc main_v88_7)) (ix3 h k v) = 0 := by
  unfold ev; after_reads_simp; pointwise [id]

/-- The contents before the sixth of these stretches, and after the last. -/
abbrev M2 : Valuation τ sig (Elt Ideal) := after mid1 (after mid0 X)
abbrev M5 : Valuation τ sig (Elt Ideal) := after mid4 (after mid3 (after mid2 (M2 X)))
theorem M2_arg1 : a1 (after mid2 (M2 X)) = a1 X := by
  dsimp only [M2]
  exact (keep mid2_writes _ main_arg1 (by decide)).trans ((keep mid1_writes _ main_arg1 (by decide)).trans (keep mid0_writes _ main_arg1 (by decide)))
theorem M2_v4 : M2 X (Proc.devRef .tc main_v4) = X (Proc.devRef .tc main_v4) := by
  dsimp only [M2]
  exact (keep mid1_writes _ main_v4 (by decide)).trans (keep mid0_writes _ main_v4 (by decide))
theorem M5_59 (a : Fin 4096) (k : Fin 1024) : ev (s := S4096x1024) (M5 X (Proc.devRef .tc main_v59)) (ix2 a k)
    = a1 X (ix2 a k) * (vR X a k * Ideal.logistic (vR X a k)) := by
  dsimp only [M5]
  rw [keep mid4_writes _ main_v59 (by decide), m59, M2_arg1, m55_0]
  unfold vR
  rw [M2_v4]
theorem M5_51 (v : Fin 256) : ev (s := S1x1x256) (M5 X (Proc.devRef .tc main_v51)) (ix3 0 0 v) = a4 X (ix1 v) := by
  dsimp only [M5, M2]
  rw [keep mid4_writes _ main_v51 (by decide), keep mid3_writes _ main_v51 (by decide), keep mid2_writes _ main_v51 (by decide), m51]
theorem M5_45 (a : Fin 4096) (h : Fin 4) : ev (s := S4096x4x1) (M5 X (Proc.devRef .tc main_v45)) (ix3 a h 0) = rsq (oR X a h) := by
  dsimp only [M5, M2]
  rw [keep mid4_writes _ main_v45 (by decide), keep mid3_writes _ main_v45 (by decide), keep mid2_writes _ main_v45 (by decide), m45]
theorem M5_48 (a : Fin 4096) (h : Fin 4) : ev (s := S4096x4x1) (M5 X (Proc.devRef .tc main_v48)) (ix3 a h 0)
    = Ideal.ofBits .f32 0xBF000000#32 * Ideal.div (rsq (oR X a h)) (msq (oR X a h)) := by
  dsimp only [M5, M2]
  rw [keep mid4_writes _ main_v48 (by decide), keep mid3_writes _ main_v48 (by decide), keep mid2_writes _ main_v48 (by decide), m48]
theorem M5_37 (a : Fin 4096) (h : Fin 4) (v : Fin 256) : ev (s := S4096x4x256) (M5 X (Proc.devRef .tc main_v37)) (ix3 a h v) = oR X a h v := by
  dsimp only [M5, M2]
  rw [keep mid4_writes _ main_v37 (by decide), keep mid3_writes _ main_v37 (by decide), keep mid2_writes _ main_v37 (by decide), keep mid1_writes _ main_v37 (by decide), m37]
/-- A head's columns of a row of the incoming gradient and of the gate's argument. -/
abbrev dX (a : Fin 4096) (h : Fin 4) : Fin 256 → EReal := fun v => a1 X (ix2 a (⟨h.val * 256 + v.val, by omega⟩ : Fin 1024))
abbrev rX (a : Fin 4096) (h : Fin 4) : Fin 256 → EReal := fun v => vR X a (⟨h.val * 256 + v.val, by omega⟩ : Fin 1024)
theorem M5_th (a : Fin 4096) (h : Fin 4) : thM (M5 X) a h = thru (oR X a h) (dX X a h) (fun v => a4 X (ix1 v)) (rX X a h) := by
  unfold thM thru dnE
  rw [M5_48]
  refine congrArg (fun s => Ideal.div (s * _) _) (Finset.sum_congr rfl fun x _ => ?_)
  rw [M5_37, M5_59, M5_51]
/-- The gradient of what the queries read, at the second loop's entry. -/
theorem M_do (n : Fin 64) (h : Fin 4) (l : Fin 64) (v : Fin 256) : ev (s := S64x4x64x256) (afterL midI X (Proc.devRef .tc main_v88_0)) (ix4 n h l v)
    = doE (oR X (row n l) h) (dX X (row n l) h) (fun v => a4 X (ix1 v)) (rX X (row n l) h) v := by
  rw [show afterL midI X = after mid6 (after mid5 (M5 X)) from rfl, keep mid6_writes _ main_v88_0 (by decide), m79 _ n h l v (row n l) (row_of n l (by omega)).symm, M5_59, M5_51, M5_45, M5_37, M5_th]
  exact do_eq (oR X (row n l) h) (dX X (row n l) h) (fun v => a4 X (ix1 v)) (rX X (row n l) h) v
/-- The gradient of the gate's argument. -/
theorem M_dr (a : Fin 4096) (h : Fin 4) (v : Fin 256) (hd : IsReal (dX X a h v)) (hg : IsReal (a4 X (ix1 v))) :
    ev (s := S4096x1024) (afterL midI X (Proc.devRef .tc main_v60)) (ix2 a (⟨h.val * 256 + v.val, by omega⟩ : Fin 1024))
    = drE (oR X a h) (dX X a h) (fun v => a4 X (ix1 v)) (rX X a h) v := by
  rw [show afterL midI X = after mid6 (after mid5 (after mid4 (after mid3 (after mid2 (M2 X))))) from rfl, keep mid6_writes _ main_v60 (by decide), keep mid5_writes _ main_v60 (by decide),
    m60, m58, M2_arg1, keep mid3_writes _ main_v55_2 (by decide), keep mid3_writes _ main_v55_1 (by decide), keep mid3_writes _ main_v4 (by decide), keep mid2_writes _ main_v4 (by decide),
    keep mid2_writes _ main_v54 (by decide), m55_2, m55_1, M2_v4]
  dsimp only [M2]
  rw [m54, ← dr_eq _ _ _ _ v hd hg]
  unfold vR
  rw [show after mid1 (after mid0 X) (Proc.devRef .tc main_v4) = X (Proc.devRef .tc main_v4) from M2_v4 X]
  have e1 : (⟨(h.val * 256 + v.val) / 256, by omega⟩ : Fin 4) = h := Fin.ext (by show (h.val * 256 + v.val) / 256 = _; omega)
  have e2 : (⟨(h.val * 256 + v.val) % 256, by omega⟩ : Fin 256) = v := Fin.ext (by show (h.val * 256 + v.val) % 256 = _; omega)
  simp only [e1, e2]
end mid

/-! ## The loops -/
theorem iv_ofNat (k : ℕ) : Scf.iv 0#32 1#32 k = BitVec.ofNat 32 k := by simp [Scf.iv]
section loops
variable (m : (ℓ : Loc nD τ sig) → Buf (Elt Ideal) ℓ) (c : Dev nD)
/-- The contents at the launch. -/
abbrev L0 : Valuation τ sig (Elt Ideal) := fun b => m (c, b)
abbrev yg : Fin 256 → EReal := fun v => a4 (L0 m c) (ix1 v)
abbrev yd : Fin 4096 → Fin 1024 → EReal := fun a k => a1 (L0 m c) (ix2 a k)
/-- The contents a trip starts from. -/
abbrev T0 (k : ℕ) : Valuation τ sig (Elt Ideal) := after cond0 (at0 m k c)
abbrev T1 (k : ℕ) : Valuation τ sig (Elt Ideal) := after cond1 (at1 m k c)
theorem T0_keep (k : ℕ) (b : Ref sig .tc) (hc : b ∉ cond0W) (hb : b ∉ fwd0W ∧ b ∉ fwd1W ∧ b ∉ fwd2W ∧ b ∉ fwd3W ∧ b ∉ fwd4W ∧ b ∉ fwd5W ∧ b ∉ fwd6W ∧ b ∉ fwd7W ∧ b ∉ fwd8W) :
    T0 m c k (Proc.devRef .tc b) = W1 m c (Proc.devRef .tc b) :=
  (keep cond0_writes _ b hc).trans (atTrip_keep (fun V => keep cond0_writes V b hc) (fun V => keep_fwd V b hb) c k)
theorem T1_keep (k : ℕ) (b : Ref sig .tc) (hc : b ∉ cond1W) (hb : b ∉ bwd0W ∧ b ∉ bwd1W ∧ b ∉ bwd2W ∧ b ∉ bwd3W ∧ b ∉ bwd4W ∧ b ∉ bwd5W ∧ b ∉ bwd6W ∧ b ∉ bwd7W ∧ b ∉ bwd8W ∧ b ∉ bwd9W ∧ b ∉ bwd10W ∧ b ∉ bwd11W) :
    T1 m c k (Proc.devRef .tc b) = W3 m c (Proc.devRef .tc b) :=
  (keep cond1_writes _ b hc).trans (atTrip_keep (fun V => keep cond1_writes V b hc) (fun V => keep_bwd V b hb) c k)
theorem posF (k : ℕ) (hk : k < 64) : pos (iF (T0 m c k)) = ⟨k, hk⟩ := by
  refine pos_eq _ ⟨k, hk⟩ ?_
  show T0 m c k (Proc.devRef .tc main_v35_4) _ = _
  rw [show T0 m c k (Proc.devRef .tc main_v35_4) = _ from (keep cond0_writes _ main_v35_4 (by decide)).trans (ctr0 m c k)]
  exact iv_ofNat k
theorem posB (k : ℕ) (hk : k < 64) : pos (iB (T1 m c k)) = ⟨63 - k, by omega⟩ := by
  refine pos_eq _ ⟨63 - k, by omega⟩ ?_
  unfold iB
  rw [show T1 m c k (Proc.devRef .tc main_v88_6) = _ from (keep cond1_writes _ main_v88_6 (by decide)).trans (ctr1 m c k)]
  show 64#32 - Scf.iv 0#32 1#32 k - 1#32 = BitVec.ofNat 32 (63 - k)
  rw [iv_ofNat]
  apply BitVec.eq_of_toNat_eq
  simp only [BitVec.toNat_sub, BitVec.toNat_ofNat]
  omega
theorem A0 (n h l k) : ev (s := S64x4x64x128) (W1 m c (Proc.devRef .tc main_v35_0)) (ix4 n h l k) = qq (a0 (L0 m c)) n h l k :=
  (congrArg (fun f => ev (s := S64x4x64x128) f (ix4 n h l k)) (y16 (L0 m c))).trans (z16 (L0 m c) n h l k)
theorem A1 (n h l k) : ev (s := S64x4x64x128) (W1 m c (Proc.devRef .tc main_v35_1)) (ix4 n h l k) = kd (a0 (L0 m c)) (a2 (L0 m c)) (a3 (L0 m c)) n h k l :=
  (congrArg (fun f => ev (s := S64x4x64x128) f (ix4 n h l k)) (y28 (L0 m c))).trans (q28 (L0 m c) n h l k)
theorem A2 (n h l v) : ev (s := S64x4x64x256) (W1 m c (Proc.devRef .tc main_v35_2)) (ix4 n h l v) = vv (a0 (L0 m c)) n h v l :=
  (congrArg (fun f => ev (s := S64x4x64x256) f (ix4 n h l v)) (y20 (L0 m c))).trans (z20 (L0 m c) n h l v)
theorem A3 (n h k) : ev (s := S64x4x128) (W1 m c (Proc.devRef .tc main_v35_3)) (ix3 n h k) = gam (a0 (L0 m c)) (a2 (L0 m c)) (a3 (L0 m c)) n h k := q30 (L0 m c) n h k

/-- The state the trips carry. -/
theorem S5 (h : Fin 4) (κ : Fin 128) (v : Fin 256) : ∀ k, k ≤ 64 → ev (s := S4x128x256) (T0 m c k (Proc.devRef .tc main_v35_5)) (ix3 h κ v) = st (a0 (L0 m c)) (a2 (L0 m c)) (a3 (L0 m c)) h κ v k
  | 0, _ => by
    rw [show T0 m c 0 = after cond0 (W1 m c) from rfl, keep cond0_writes _ main_v35_5 (by decide)]
    exact e35_5 (P3 (L0 m c)) h κ v
  | k + 1, hk => by
    rw [show T0 m c (k + 1) = after cond0 (afterL fwdI (T0 m c k)) from rfl, keep cond0_writes _ main_v35_5 (by decide), t5]
    show sl2 _ _ (ix2 h κ) * ev (s := S4x128x256) _ (ix3 h κ v) + ∑ x : Fin 64, sl _ _ (ix3 h x κ) * sl _ _ (ix3 h x v) = _
    rw [S5 h κ v k (by omega), st, mul_comm (sl2 _ _ _)]
    refine congrArg₂ (· + ·) (congrArg (_ * ·) ?_) (Finset.sum_congr rfl fun x _ => ?_)
    · show ev (s := S64x4x128) (T0 m c k (Proc.devRef .tc main_v35_3)) (ix3 (pos (iF (T0 m c k))) h κ) = _
      rw [T0_keep m c k _ (by decide) (by decide), posF m c k (by omega), A3]
    · show ev (s := S64x4x64x128) (T0 m c k (Proc.devRef .tc main_v35_1)) (ix4 (pos (iF (T0 m c k))) h x κ) * ev (s := S64x4x64x256) (T0 m c k (Proc.devRef .tc main_v35_2)) (ix4 (pos (iF (T0 m c k))) h x v) = _
      rw [T0_keep m c k main_v35_1 (by decide) (by decide), T0_keep m c k main_v35_2 (by decide) (by decide), posF m c k (by omega), A1, A2, mul_comm]
theorem N5 (h : Fin 4) (κ : Fin 128) (v : Fin 256) (k : ℕ) (hk : k < 64) : n5 (T0 m c k) (ix3 h κ v) = st (a0 (L0 m c)) (a2 (L0 m c)) (a3 (L0 m c)) h κ v (k + 1) := by
  rw [← S5 m c h κ v (k + 1) hk, show T0 m c (k + 1) = after cond0 (afterL fwdI (T0 m c k)) from rfl, keep cond0_writes _ main_v35_5 (by decide), t5]
/-- A store the trips fill entry by entry, from the first one on. -/
theorem fillF {p q r : ℕ} (b : ℕ → (⟨4, ![64, p, q, r]⟩ : Shape).Idx → EReal) (u : ℕ → (⟨3, ![p, q, r]⟩ : Shape).Idx → EReal) (f : ℕ → Fin p → Fin q → Fin r → EReal)
    (i : ℕ → S_.Idx → BitVec 32) (hs : ∀ k, b (k + 1) = up (b k) (i k) (u k)) (hi : ∀ k (hk : k < 64), pos (i k) = ⟨k, hk⟩) (hu : ∀ k, k < 64 → ∀ x y z, u k (ix3 x y z) = f k x y z) (n : Fin 64) (x y z) :
    ∀ k, k ≤ 64 → n.val < k → b k (ix4 n x y z) = f n.val x y z
  | 0, _, h => absurd h (Nat.not_lt_zero _)
  | k + 1, hk, hn => by
    rw [hs, up, hi k (by omega)]
    show (if n.val = k then u k (ix3 x y z) else b k (ix4 n x y z)) = _
    by_cases e : n.val = k
    · rw [if_pos e, e]
      exact hu k (by omega) x y z
    · rw [if_neg e]
      exact fillF b u f i hs hi hu n x y z k (by omega) (by omega)
/-- A store the trips fill entry by entry, from the last one back. -/
theorem fillB {p q r : ℕ} (b : ℕ → (⟨4, ![64, p, q, r]⟩ : Shape).Idx → EReal) (u : ℕ → (⟨3, ![p, q, r]⟩ : Shape).Idx → EReal) (f : ℕ → Fin p → Fin q → Fin r → EReal)
    (i : ℕ → S_.Idx → BitVec 32) (hs : ∀ k, b (k + 1) = up (b k) (i k) (u k)) (hi : ∀ k, k < 64 → (pos (i k)).val = 63 - k) (hu : ∀ k, k < 64 → ∀ x y z, u k (ix3 x y z) = f (63 - k) x y z) (n : Fin 64) (x y z) :
    ∀ k, k ≤ 64 → 63 < n.val + k → b k (ix4 n x y z) = f n.val x y z
  | 0, _, h => absurd h (by omega)
  | k + 1, hk, hn => by
    rw [hs, up, hi k (by omega)]
    show (if n.val = 63 - k then u k (ix3 x y z) else b k (ix4 n x y z)) = _
    by_cases e : n.val = 63 - k
    · rw [if_pos e, e]
      exact hu k (by omega) x y z
    · rw [if_neg e]
      exact fillB b u f i hs hi hu n x y z k (by omega) (by omega)
theorem S6 (n : Fin 64) (h : Fin 4) (l : Fin 64) (v : Fin 256) : ev (s := S64x4x64x256) (W2 m c (Proc.devRef .tc main_v35_6)) (ix4 n h l v) = oo (a0 (L0 m c)) (a2 (L0 m c)) (a3 (L0 m c)) n h l v := by
  refine fillF (p := 4) (q := 64) (r := 256) (fun k => T0 m c k (Proc.devRef .tc main_v35_6)) (fun k => n6 (T0 m c k)) (fun k b0 b1 b2 => oo (a0 (L0 m c)) (a2 (L0 m c)) (a3 (L0 m c)) k b0 b1 b2) (fun k => iF (T0 m c k))
    (fun k => ?_) (posF m c) (fun k hk b0 b1 b2 => ?_) n h l v 64 le_rfl n.isLt
  · show T0 m c (k + 1) _ = _
    rw [show T0 m c (k + 1) = after cond0 (afterL fwdI (T0 m c k)) from rfl, keep cond0_writes _ main_v35_6 (by decide), t6]
  · show ∑ x : Fin 128, sl _ _ (ix3 b0 b1 x) * n5 (T0 m c k) (ix3 b0 x b2) = ∑ x : Fin 128, _
    refine Finset.sum_congr rfl fun x _ => ?_
    rw [N5 m c _ _ _ k hk]
    show ev (s := S64x4x64x128) (T0 m c k (Proc.devRef .tc main_v35_0)) (ix4 (pos (iF (T0 m c k))) b0 b1 x) * _ = _
    rw [T0_keep m c k main_v35_0 (by decide) (by decide), posF m c k hk, A0]
theorem S7 (n : Fin 64) (h : Fin 4) (κ : Fin 128) : ev (s := S64x4x128x1) (W2 m c (Proc.devRef .tc main_v35_7)) (ix4 n h κ 0) = gam (a0 (L0 m c)) (a2 (L0 m c)) (a3 (L0 m c)) n h κ := by
  refine fillF (p := 4) (q := 128) (r := 1) (fun k => T0 m c k (Proc.devRef .tc main_v35_7)) (fun k => n7 (T0 m c k)) (fun k b0 b1 b2 => gam (a0 (L0 m c)) (a2 (L0 m c)) (a3 (L0 m c)) k b0 b1) (fun k => iF (T0 m c k))
    (fun k => ?_) (posF m c) (fun k hk b0 b1 b2 => ?_) n h κ 0 64 le_rfl n.isLt
  · show T0 m c (k + 1) _ = _
    rw [show T0 m c (k + 1) = after cond0 (afterL fwdI (T0 m c k)) from rfl, keep cond0_writes _ main_v35_7 (by decide), t7]
  · show ev (s := S64x4x128) (T0 m c k (Proc.devRef .tc main_v35_3)) (ix3 (pos (iF (T0 m c k))) b0 b1) = _
    rw [T0_keep m c k main_v35_3 (by decide) (by decide), posF m c k hk, A3]
theorem S8 (n : Fin 64) (h : Fin 4) (κ : Fin 128) (v : Fin 256) : ev (s := S64x4x128x256) (W2 m c (Proc.devRef .tc main_v35_8)) (ix4 n h κ v) = st (a0 (L0 m c)) (a2 (L0 m c)) (a3 (L0 m c)) h κ v (n.val + 1) := by
  refine fillF (p := 4) (q := 128) (r := 256) (fun k => T0 m c k (Proc.devRef .tc main_v35_8)) (fun k => n5 (T0 m c k)) (fun k b0 b1 b2 => st (a0 (L0 m c)) (a2 (L0 m c)) (a3 (L0 m c)) b0 b1 b2 (k + 1)) (fun k => iF (T0 m c k))
    (fun k => ?_) (posF m c) (fun k hk b0 b1 b2 => ?_) n h κ v 64 le_rfl n.isLt
  · show T0 m c (k + 1) _ = _
    rw [show T0 m c (k + 1) = after cond0 (afterL fwdI (T0 m c k)) from rfl, keep cond0_writes _ main_v35_8 (by decide), t8]
  · exact N5 m c _ _ _ k hk

/-! ### Between them -/
theorem oR_eq (n : Fin 64) (l : Fin 64) (h : Fin 4) : oR (W2 m c) (row n l) h = oo (a0 (L0 m c)) (a2 (L0 m c)) (a3 (L0 m c)) n h l := by
  funext v
  have e := row_val n.val n.isLt l
  refine (congrArg₂ (fun i j => ev (s := S64x4x64x256) (W2 m c (Proc.devRef .tc main_v35_6)) (ix4 i h j v)) (Fin.ext ?_) (Fin.ext ?_)).trans (S6 m c n h l v)
  · show (row n.val l).val / 64 = n.val; omega
  · show (row n.val l).val % 64 = l.val; omega
theorem dX_eq (n : Fin 64) (l : Fin 64) (h : Fin 4) : dX (W2 m c) (row n l) h = dd (yd m c) n h l := by
  unfold dX a1
  rw [W2_arg m c (b := main_arg1) (by decide)]; rfl
theorem g_eq : (fun v => a4 (W2 m c) (ix1 v)) = yg m c := by
  unfold a4
  rw [W2_arg m c (b := main_arg4) (by decide)]
theorem rX_eq (n : Fin 64) (l : Fin 64) (h : Fin 4) : rX (W2 m c) (row n l) h = rr (a0 (L0 m c)) n h l := by
  funext v
  unfold rX vR
  rw [W2_keep m c main_v4 (by decide) (by decide)]
  exact z4 (L0 m c) _ _
theorem D0 (n : Fin 64) (h : Fin 4) (l : Fin 64) (v : Fin 256) : ev (s := S64x4x64x256) (W3 m c (Proc.devRef .tc main_v88_0)) (ix4 n h l v)
    = DO (a0 (L0 m c)) (a2 (L0 m c)) (a3 (L0 m c)) (yg m c) (yd m c) n h l v := by
  rw [show W3 m c = afterL midI (W2 m c) from rfl, M_do, oR_eq, dX_eq, g_eq, rX_eq]; rfl
theorem D60 (n : Fin 64) (l : Fin 64) (h : Fin 4) (v : Fin 256) (hd : IsReal (dd (yd m c) n h l v)) (hg : IsReal (yg m c v)) :
    ev (s := S4096x1024) (W3 m c (Proc.devRef .tc main_v60)) (ix2 (row n l) (⟨h.val * 256 + v.val, by omega⟩ : Fin 1024))
    = DR (a0 (L0 m c)) (a2 (L0 m c)) (a3 (L0 m c)) (yg m c) (yd m c) n h l v := by
  have e1 : dX (W2 m c) (row n l) h v = dd (yd m c) n h l v := congrFun (dX_eq m c n l h) v
  have e2 : a4 (W2 m c) (ix1 v) = yg m c v := congrFun (g_eq m c) v
  rw [show W3 m c = afterL midI (W2 m c) from rfl, M_dr (W2 m c) (row n l) h v (by rw [e1]; exact hd) (by rw [e2]; exact hg), oR_eq, dX_eq, g_eq, rX_eq]; rfl
theorem M56 (X : Valuation τ sig (Elt Ideal)) (b : Ref sig .tc) (h : b ∉ mid6W) : afterL midI X (Proc.devRef .tc b) = after mid5 (M5 X) (Proc.devRef .tc b) :=
  keep mid6_writes _ b h
theorem M5_keep (X : Valuation τ sig (Elt Ideal)) (b : Ref sig .tc) (h : b ∉ mid0W ∧ b ∉ mid1W ∧ b ∉ mid2W ∧ b ∉ mid3W ∧ b ∉ mid4W) : M5 X (Proc.devRef .tc b) = X (Proc.devRef .tc b) := by
  obtain ⟨h0, h1, h2, h3, h4⟩ := h
  dsimp only [M5, M2]
  rw [keep mid4_writes _ b h4, keep mid3_writes _ b h3, keep mid2_writes _ b h2, keep mid1_writes _ b h1, keep mid0_writes _ b h0]
theorem D1 (n : Fin 64) (h : Fin 4) (κ : Fin 128) : ev (s := S64x4x128x1) (W3 m c (Proc.devRef .tc main_v88_1)) (ix4 n h κ 0) = gam (a0 (L0 m c)) (a2 (L0 m c)) (a3 (L0 m c)) n h κ := by
  rw [show W3 m c = afterL midI (W2 m c) from rfl, show afterL midI (W2 m c) = after mid6 (after mid5 (M5 (W2 m c))) from rfl, m84_1, M5_keep _ _ (by decide), S7]
theorem D2 (n h l v) : ev (s := S64x4x64x256) (W3 m c (Proc.devRef .tc main_v88_2)) (ix4 n h l v) = vv (a0 (L0 m c)) n h v l := by
  rw [show W3 m c = afterL midI (W2 m c) from rfl, show afterL midI (W2 m c) = after mid6 (after mid5 (M5 (W2 m c))) from rfl, m84_2, M5_keep _ _ (by decide), W2_keep m c main_v20 (by decide) (by decide)]
  exact z20 (L0 m c) n h l v
theorem D3 (n h l k) : ev (s := S64x4x64x128) (W3 m c (Proc.devRef .tc main_v88_3)) (ix4 n h l k) = kd (a0 (L0 m c)) (a2 (L0 m c)) (a3 (L0 m c)) n h k l := by
  rw [show W3 m c = afterL midI (W2 m c) from rfl, show afterL midI (W2 m c) = after mid6 (after mid5 (M5 (W2 m c))) from rfl, m84_3, M5_keep _ _ (by decide), W2_keep m c main_v28 (by decide) (by decide)]
  exact q28 (L0 m c) n h l k
theorem D4 (n : Fin 64) (h : Fin 4) (κ : Fin 128) (v : Fin 256) : ev (s := S64x4x128x256) (W3 m c (Proc.devRef .tc main_v88_4)) (ix4 n h κ v) = st (a0 (L0 m c)) (a2 (L0 m c)) (a3 (L0 m c)) h κ v (n.val + 1) := by
  rw [show W3 m c = afterL midI (W2 m c) from rfl, show afterL midI (W2 m c) = after mid6 (after mid5 (M5 (W2 m c))) from rfl, m84_4, M5_keep _ _ (by decide), S8]
theorem D5 (n h l k) : ev (s := S64x4x64x128) (W3 m c (Proc.devRef .tc main_v88_5)) (ix4 n h l k) = qq (a0 (L0 m c)) n h l k := by
  rw [show W3 m c = afterL midI (W2 m c) from rfl, show afterL midI (W2 m c) = after mid6 (after mid5 (M5 (W2 m c))) from rfl, m84_5, M5_keep _ _ (by decide), W2_keep m c main_v16 (by decide) (by decide)]
  exact z16 (L0 m c) n h l k
theorem D27 (n h l k) : ev (s := S64x4x64x128) (W3 m c (Proc.devRef .tc main_v27)) (ix4 n h l k)
    = Ideal.exp (cum (lac (a0 (L0 m c)) (a2 (L0 m c)) (a3 (L0 m c)) n h k) 63 - cum (lac (a0 (L0 m c)) (a2 (L0 m c)) (a3 (L0 m c)) n h k) l) := by
  rw [show W3 m c = afterL midI (W2 m c) from rfl, keep_mid _ main_v27 (by decide), W2_keep m c main_v27 (by decide) (by decide)]
  exact q27 (L0 m c) n h l k

/-! ### The second loop -/
theorem U7 (h : Fin 4) (κ : Fin 128) (v : Fin 256) : ∀ k, k ≤ 64 → ev (s := S4x128x256) (T1 m c k (Proc.devRef .tc main_v88_7)) (ix3 h κ v) = carry (a0 (L0 m c)) (a2 (L0 m c)) (a3 (L0 m c)) (yg m c) (yd m c) h κ v k
  | 0, _ => by
    rw [show T1 m c 0 = after cond1 (W3 m c) from rfl, keep cond1_writes _ main_v88_7 (by decide)]
    exact m84_7 (M5 (W2 m c)) h κ v
  | k + 1, hk => by
    rw [show T1 m c (k + 1) = after cond1 (afterL bwdI (T1 m c k)) from rfl, keep cond1_writes _ main_v88_7 (by decide), u7]
    show sl _ _ (ix3 h κ 0) * (ev (s := S4x128x256) _ (ix3 h κ v) + ∑ x : Fin 64, sl _ _ (ix3 h x v) * sl _ _ (ix3 h x κ)) = _
    rw [U7 h κ v k (by omega), carry, mul_comm, add_comm, add]
    refine congrArg₂ (· * ·) (congrArg (· + _) (Finset.sum_congr rfl fun x _ => ?_)) ?_
    · show ev (s := S64x4x64x256) (T1 m c k (Proc.devRef .tc main_v88_0)) (ix4 (pos (iB (T1 m c k))) h x v) * ev (s := S64x4x64x128) (T1 m c k (Proc.devRef .tc main_v88_5)) (ix4 (pos (iB (T1 m c k))) h x κ) = _
      rw [T1_keep m c k main_v88_0 (by decide) (by decide), T1_keep m c k main_v88_5 (by decide) (by decide), posB m c k (by omega), D0, D5]
    · show ev (s := S64x4x128x1) (T1 m c k (Proc.devRef .tc main_v88_1)) (ix4 (pos (iB (T1 m c k))) h κ 0) = _
      rw [T1_keep m c k main_v88_1 (by decide) (by decide), posB m c k (by omega), D1]
theorem N7 (h : Fin 4) (κ : Fin 128) (v : Fin 256) (k : ℕ) (hk : k < 64) : d7 (T1 m c k) (ix3 h κ v) = dst (a0 (L0 m c)) (a2 (L0 m c)) (a3 (L0 m c)) (yg m c) (yd m c) (63 - k) h κ v := by
  show ev (s := S4x128x256) _ (ix3 h κ v) + ∑ x : Fin 64, sl _ _ (ix3 h x v) * sl _ _ (ix3 h x κ) = _
  rw [U7 m c h κ v k (by omega), dst, add_comm, add, show 63 - (63 - k) = k by omega]
  refine congrArg (· + _) (Finset.sum_congr rfl fun x _ => ?_)
  show ev (s := S64x4x64x256) (T1 m c k (Proc.devRef .tc main_v88_0)) (ix4 (pos (iB (T1 m c k))) h x v) * ev (s := S64x4x64x128) (T1 m c k (Proc.devRef .tc main_v88_5)) (ix4 (pos (iB (T1 m c k))) h x κ) = _
  rw [T1_keep m c k main_v88_0 (by decide) (by decide), T1_keep m c k main_v88_5 (by decide) (by decide), posB m c k (by omega), D0, D5]
theorem posB' (k : ℕ) (hk : k < 64) : (pos (iB (T1 m c k))).val = 63 - k := by rw [posB m c k hk]
theorem U8 (n : Fin 64) (h : Fin 4) (l : Fin 64) (κ : Fin 128) : ev (s := S64x4x64x128) (W4 m c (Proc.devRef .tc main_v88_8)) (ix4 n h l κ)
    = ∑ v : Fin 256, DO (a0 (L0 m c)) (a2 (L0 m c)) (a3 (L0 m c)) (yg m c) (yd m c) n h l v * st (a0 (L0 m c)) (a2 (L0 m c)) (a3 (L0 m c)) h κ v (n.val + 1) := by
  refine fillB (p := 4) (q := 64) (r := 128) (fun k => T1 m c k (Proc.devRef .tc main_v88_8)) (fun k => d8 (T1 m c k))
    (fun k b0 b1 b2 => ∑ v : Fin 256, DO (a0 (L0 m c)) (a2 (L0 m c)) (a3 (L0 m c)) (yg m c) (yd m c) k b0 b1 v * st (a0 (L0 m c)) (a2 (L0 m c)) (a3 (L0 m c)) b0 b2 v (k + 1)) (fun k => iB (T1 m c k))
    (fun k => ?_) (posB' m c) (fun k hk b0 b1 b2 => ?_) n h l κ 64 le_rfl (by omega)
  · show T1 m c (k + 1) _ = _
    rw [show T1 m c (k + 1) = after cond1 (afterL bwdI (T1 m c k)) from rfl, keep cond1_writes _ main_v88_8 (by decide), u8]
  · refine Finset.sum_congr rfl fun x _ => ?_
    show ev (s := S64x4x64x256) (T1 m c k (Proc.devRef .tc main_v88_0)) (ix4 (pos (iB (T1 m c k))) b0 b1 x) * ev (s := S64x4x128x256) (T1 m c k (Proc.devRef .tc main_v88_4)) (ix4 (pos (iB (T1 m c k))) b0 b2 x) = _
    rw [T1_keep m c k main_v88_0 (by decide) (by decide), T1_keep m c k main_v88_4 (by decide) (by decide), posB m c k (by omega), D0, D4]
theorem U9 (n : Fin 64) (h : Fin 4) (l : Fin 64) (κ : Fin 128) : ev (s := S64x4x64x128) (W4 m c (Proc.devRef .tc main_v88_9)) (ix4 n h l κ)
    = ∑ v : Fin 256, vv (a0 (L0 m c)) n h v l * dst (a0 (L0 m c)) (a2 (L0 m c)) (a3 (L0 m c)) (yg m c) (yd m c) n h κ v := by
  refine fillB (p := 4) (q := 64) (r := 128) (fun k => T1 m c k (Proc.devRef .tc main_v88_9)) (fun k => d9 (T1 m c k))
    (fun k b0 b1 b2 => ∑ v : Fin 256, vv (a0 (L0 m c)) k b0 v b1 * dst (a0 (L0 m c)) (a2 (L0 m c)) (a3 (L0 m c)) (yg m c) (yd m c) k b0 b2 v) (fun k => iB (T1 m c k))
    (fun k => ?_) (posB' m c) (fun k hk b0 b1 b2 => ?_) n h l κ 64 le_rfl (by omega)
  · show T1 m c (k + 1) _ = _
    rw [show T1 m c (k + 1) = after cond1 (afterL bwdI (T1 m c k)) from rfl, keep cond1_writes _ main_v88_9 (by decide), u9]
  · refine Finset.sum_congr rfl fun x _ => ?_
    show d7 (T1 m c k) (ix3 b0 b2 x) * ev (s := S64x4x64x256) (T1 m c k (Proc.devRef .tc main_v88_2)) (ix4 (pos (iB (T1 m c k))) b0 b1 x) = _
    rw [N7 m c _ _ _ k hk, mul_comm]
    rw [T1_keep m c k main_v88_2 (by decide) (by decide), posB m c k (by omega), D2]
theorem U10 (n : Fin 64) (h : Fin 4) (l : Fin 64) (v : Fin 256) : ev (s := S64x4x64x256) (W4 m c (Proc.devRef .tc main_v88_10)) (ix4 n h l v)
    = DV (a0 (L0 m c)) (a2 (L0 m c)) (a3 (L0 m c)) (yg m c) (yd m c) n h l v := by
  refine fillB (p := 4) (q := 64) (r := 256) (fun k => T1 m c k (Proc.devRef .tc main_v88_10)) (fun k => d10 (T1 m c k))
    (fun k b0 b1 b2 => DV (a0 (L0 m c)) (a2 (L0 m c)) (a3 (L0 m c)) (yg m c) (yd m c) k b0 b1 b2) (fun k => iB (T1 m c k))
    (fun k => ?_) (posB' m c) (fun k hk b0 b1 b2 => ?_) n h l v 64 le_rfl (by omega)
  · show T1 m c (k + 1) _ = _
    rw [show T1 m c (k + 1) = after cond1 (afterL bwdI (T1 m c k)) from rfl, keep cond1_writes _ main_v88_10 (by decide), u10]
  · refine Finset.sum_congr rfl fun x _ => ?_
    show d7 (T1 m c k) (ix3 b0 x b2) * ev (s := S64x4x64x128) (T1 m c k (Proc.devRef .tc main_v88_3)) (ix4 (pos (iB (T1 m c k))) b0 b1 x) = _
    rw [N7 m c _ _ _ k hk, mul_comm]
    rw [T1_keep m c k main_v88_3 (by decide) (by decide), posB m c k (by omega), D3]

end loops
end Cert.GlaBRef
-- ==== Proof.GlaBFin.lean ====
/- What the reference returns, column by column. -/
module
public import proofs.«01_k».proof.Proof.GlaBLoop
@[expose] public section
set_option maxRecDepth 65536
noncomputable section
namespace Cert.GlaBRef
open Idealize.ShloMosaic Idealize.ShloMosaic.TcCoe Idealize.ShloMosaic.StableHlo Idealize.SL.Sem
open Cert.GlaBwdRefIdeal Cert.GlaBwdRefIdeal.Gen Cert.GlaBRun Cert.HostRun Cert.GlaBStep Cert.GlaB Cert.Reals
open Cert.Gla (row row_val cum lsig lsig_eq lac hk fg kd gam vv qq st oo)
section fin
variable (X : Valuation τ sig (Elt Ideal)) (a : Fin 4096)
theorem f_q (k : Fin 512) : ev (s := S4096x8320) (after fin0 X (Proc.devRef .tc main_v100)) (ix2 a (⟨k.val, by omega⟩ : Fin 8320))
    = ev (s := S64x4x64x128) (X (Proc.devRef .tc main_v88_8)) (ix4 (⟨a.val / 64, by omega⟩ : Fin 64) (⟨k.val / 128, by omega⟩ : Fin 4) (⟨a.val % 64, by omega⟩ : Fin 64) (⟨k.val % 128, by omega⟩ : Fin 128)) * Ideal.ofBits .f32 0x3DB504F3#32 := by
  unfold ev; after_reads_simp; pointwise [id]
  after_reads_simp; pointwise [id]
theorem f_k (k : Fin 512) : ev (s := S4096x8320) (after fin0 X (Proc.devRef .tc main_v100)) (ix2 a (⟨512 + k.val, by omega⟩ : Fin 8320))
    = ev (s := S64x4x64x128) (X (Proc.devRef .tc main_v88_9)) (ix4 (⟨a.val / 64, by omega⟩ : Fin 64) (⟨k.val / 128, by omega⟩ : Fin 4) (⟨a.val % 64, by omega⟩ : Fin 64) (⟨k.val % 128, by omega⟩ : Fin 128))
      * ev (s := S64x4x64x128) (X (Proc.devRef .tc main_v27)) (ix4 (⟨a.val / 64, by omega⟩ : Fin 64) (⟨k.val / 128, by omega⟩ : Fin 4) (⟨a.val % 64, by omega⟩ : Fin 64) (⟨k.val % 128, by omega⟩ : Fin 128)) := by
  unfold ev; after_reads_simp; pointwise [id]
  after_reads_simp; pointwise [id]
theorem f_v (k : Fin 1024) : ev (s := S4096x8320) (after fin0 X (Proc.devRef .tc main_v100)) (ix2 a (⟨1024 + k.val, by omega⟩ : Fin 8320))
    = ev (s := S64x4x64x256) (X (Proc.devRef .tc main_v88_10)) (ix4 (⟨a.val / 64, by omega⟩ : Fin 64) (⟨k.val / 256, by omega⟩ : Fin 4) (⟨a.val % 64, by omega⟩ : Fin 64) (⟨k.val % 256, by omega⟩ : Fin 256)) := by
  unfold ev; after_reads_simp; pointwise [id]
  after_reads_simp; pointwise [id]
  rw [dif_neg (by omega), dif_neg (by omega), dif_pos (by omega)]
  simp only [show 1024 + k.val - 512 - 512 = k.val by omega]
theorem f_r (k : Fin 1024) : ev (s := S4096x8320) (after fin0 X (Proc.devRef .tc main_v100)) (ix2 a (⟨2048 + k.val, by omega⟩ : Fin 8320))
    = ev (s := S4096x1024) (X (Proc.devRef .tc main_v60)) (ix2 a k) := by
  unfold ev; after_reads_simp; pointwise [id]
  after_reads_simp
  rw [dif_neg (by omega), dif_neg (by omega), dif_neg (by omega), dif_pos (by omega)]
  simp only [show 2048 + k.val - 512 - 512 - 1024 = k.val by omega]
theorem f_p (k : Fin 5248) : ev (s := S4096x8320) (after fin0 X (Proc.devRef .tc main_v100)) (ix2 a (⟨3072 + k.val, by omega⟩ : Fin 8320))
    = a5 X (ix2 a (⟨3072 + k.val, by omega⟩ : Fin 8320)) := by
  unfold ev; after_reads_simp; pointwise [id]
  after_reads_simp; pointwise [id]
  rw [dif_neg (by omega), dif_neg (by omega), dif_neg (by omega), dif_neg (by omega)]
  simp only [show 3072 + k.val - 512 - 512 - 1024 - 1024 = k.val by omega]
end fin
section fin
variable (m : (ℓ : Loc nD τ sig) → Buf (Elt Ideal) ℓ) (c : Dev nD)
theorem ix4_row {r : ℕ} (x : (⟨4, ![64, 4, 64, r]⟩ : Shape).Idx → EReal) (n l : Fin 64) (h : Fin 4) (k : Fin r) (a : Fin 4096) (j : ℕ) (ha : a = row n.val l) (hq : j = h.val * r + k.val)
    (h1 : a.val / 64 < 64) (h2 : j / r < 4) (h3 : a.val % 64 < 64) (h4 : j % r < r) : x (ix4 (⟨a.val / 64, h1⟩ : Fin 64) (⟨j / r, h2⟩ : Fin 4) (⟨a.val % 64, h3⟩ : Fin 64) (⟨j % r, h4⟩ : Fin r)) = x (ix4 n h l k) := by
  have e := row_val n.val n.isLt l
  have hr : 0 < r := k.pos
  have e1 : (⟨a.val / 64, h1⟩ : Fin 64) = n := Fin.ext (by subst ha; show (row n.val l).val / 64 = n.val; omega)
  have e3 : (⟨a.val % 64, h3⟩ : Fin 64) = l := Fin.ext (by subst ha; show (row n.val l).val % 64 = l.val; omega)
  have e2 : (⟨j / r, h2⟩ : Fin 4) = h := Fin.ext (by
    show j / r = h.val
    rw [hq, Nat.add_comm, Nat.add_mul_div_right _ _ hr, Nat.div_eq_of_lt k.isLt, Nat.zero_add])
  have e4 : (⟨j % r, h4⟩ : Fin r) = k := Fin.ext (by
    show j % r = k.val
    rw [hq, Nat.add_comm, Nat.add_mul_mod_self_right, Nat.mod_eq_of_lt k.isLt])
  rw [e1, e2, e3, e4]
/-- The result at a row and a column. -/
abbrev R96 (n l : Fin 64) (j : Fin 8320) : EReal := ev (s := S4096x8320) (W5 m c (Proc.devRef .tc main_v100)) (ix2 (row n.val l) j)
theorem g_q (X : Valuation τ sig (Elt Ideal)) (n l : Fin 64) (h : Fin 4) (k : Fin 128) : ev (s := S4096x8320) (after fin0 X (Proc.devRef .tc main_v100)) (ix2 (row n.val l) (⟨h.val * 128 + k.val, by omega⟩ : Fin 8320))
    = ev (s := S64x4x64x128) (X (Proc.devRef .tc main_v88_8)) (ix4 n h l k) * Ideal.ofBits .f32 0x3DB504F3#32 := by
  have e := f_q X (row n.val l) ⟨h.val * 128 + k.val, by omega⟩
  rw [ix4_row (ev (s := S64x4x64x128) (X (Proc.devRef .tc main_v88_8))) n l h k (row n.val l) (h.val * 128 + k.val) rfl rfl] at e
  exact e
theorem g_k (X : Valuation τ sig (Elt Ideal)) (n l : Fin 64) (h : Fin 4) (k : Fin 128) : ev (s := S4096x8320) (after fin0 X (Proc.devRef .tc main_v100)) (ix2 (row n.val l) (⟨512 + (h.val * 128 + k.val), by omega⟩ : Fin 8320))
    = ev (s := S64x4x64x128) (X (Proc.devRef .tc main_v88_9)) (ix4 n h l k) * ev (s := S64x4x64x128) (X (Proc.devRef .tc main_v27)) (ix4 n h l k) := by
  have e := f_k X (row n.val l) ⟨h.val * 128 + k.val, by omega⟩
  rw [ix4_row (ev (s := S64x4x64x128) (X (Proc.devRef .tc main_v88_9))) n l h k (row n.val l) (h.val * 128 + k.val) rfl rfl,
    ix4_row (ev (s := S64x4x64x128) (X (Proc.devRef .tc main_v27))) n l h k (row n.val l) (h.val * 128 + k.val) rfl rfl] at e
  exact e
theorem g_v (X : Valuation τ sig (Elt Ideal)) (n l : Fin 64) (h : Fin 4) (v : Fin 256) : ev (s := S4096x8320) (after fin0 X (Proc.devRef .tc main_v100)) (ix2 (row n.val l) (⟨1024 + (h.val * 256 + v.val), by omega⟩ : Fin 8320))
    = ev (s := S64x4x64x256) (X (Proc.devRef .tc main_v88_10)) (ix4 n h l v) := by
  have e := f_v X (row n.val l) ⟨h.val * 256 + v.val, by omega⟩
  rw [ix4_row (ev (s := S64x4x64x256) (X (Proc.devRef .tc main_v88_10))) n l h v (row n.val l) (h.val * 256 + v.val) rfl rfl] at e
  exact e
theorem R_q (n l : Fin 64) (h : Fin 4) (k : Fin 128) : R96 m c n l ⟨h.val * 128 + k.val, by omega⟩
    = DQ (a0 (L0 m c)) (a2 (L0 m c)) (a3 (L0 m c)) (yg m c) (yd m c) n h l k := by
  unfold DQ
  rw [← U8 m c n h l k]
  exact g_q (W4 m c) n l h k
theorem R_k (n l : Fin 64) (h : Fin 4) (k : Fin 128) : R96 m c n l ⟨512 + (h.val * 128 + k.val), by omega⟩
    = DK (a0 (L0 m c)) (a2 (L0 m c)) (a3 (L0 m c)) (yg m c) (yd m c) n h l k := by
  unfold DK
  rw [← U9 m c n h l k, ← D27 m c n h l k, ← W4_keep m c main_v27 (by decide) (by decide)]
  exact g_k (W4 m c) n l h k
theorem R_v (n l : Fin 64) (h : Fin 4) (v : Fin 256) : R96 m c n l ⟨1024 + (h.val * 256 + v.val), by omega⟩
    = DV (a0 (L0 m c)) (a2 (L0 m c)) (a3 (L0 m c)) (yg m c) (yd m c) n h l v := by
  rw [← U10 m c n h l v]
  exact g_v (W4 m c) n l h v
theorem R_r (n l : Fin 64) (h : Fin 4) (v : Fin 256) (hd : IsReal (dd (yd m c) n h l v)) (hg : IsReal (yg m c v)) : R96 m c n l ⟨2048 + (h.val * 256 + v.val), by omega⟩
    = DR (a0 (L0 m c)) (a2 (L0 m c)) (a3 (L0 m c)) (yg m c) (yd m c) n h l v :=
  (f_r (W4 m c) (row n.val l) ⟨h.val * 256 + v.val, by omega⟩).trans
    ((congrArg (fun f => ev (s := S4096x1024) f (ix2 (row n.val l) (⟨h.val * 256 + v.val, by omega⟩ : Fin 1024))) (W4_keep m c main_v60 (by decide) (by decide))).trans (D60 m c n l h v hd hg))
theorem R_p (n l : Fin 64) (j : Fin 5248) : R96 m c n l ⟨3072 + j.val, by omega⟩ = a5 (L0 m c) (ix2 (row n.val l) (⟨3072 + j.val, by omega⟩ : Fin 8320)) :=
  (f_p (W4 m c) (row n.val l) j).trans (congrArg (fun f => (f (ix2 (row n.val l) (⟨3072 + j.val, by omega⟩ : Fin 8320)) : EReal)) (W4_arg m c (b := main_arg5) (by decide)))
end fin
end Cert.GlaBRef
-- ==== Proof.GlaBRefG.lean ====
/- The reference's gradient of the head norm's weights: a sum over the rows and the heads. -/
module
public import proofs.«01_k».proof.Proof.GlaBLoop
@[expose] public section
set_option maxRecDepth 65536
noncomputable section
namespace Cert.GlaBRef
open Idealize.ShloMosaic Idealize.ShloMosaic.TcCoe Idealize.ShloMosaic.StableHlo Idealize.SL.Sem
open Cert.GlaBwdRefIdeal Cert.GlaBwdRefIdeal.Gen Cert.GlaBRun Cert.HostRun Cert.GlaBStep Cert.GlaB
open Cert.Gla (row row_val oo)

/-- A sum over the first two of three axes, at the coordinate that is left. -/
theorem sum01 {n0 n1 n2 : ℕ} (h : (⟨3, ![n0, n1, n2]⟩ : Shape).ReducesTo [0, 1] ⟨1, ![n2]⟩) (x : (⟨3, ![n0, n1, n2]⟩ : Shape).Idx → EReal) (init : EReal) (v : Fin n2) :
    Ideal.hostReduceAdd h x init (ix1 v) = init + ∑ a : Fin n0, ∑ b : Fin n1, x (ix3 a b v) := by
  have hf : ∀ i : (⟨3, ![n0, n1, n2]⟩ : Shape).Idx, h.drop i = ix1 v ↔ ∃ k : Fin n0 × Fin n1, ix3 k.1 k.2 v = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine congrArg (init + ·) ((Finset.sum_filter_eq_sum_of_fiber _ (fun k : Fin n0 × Fin n1 => ix3 k.1 k.2 v)
    (fun _ _ e => Prod.ext (congrFun e 0) (congrFun e 1)) hf x).trans ?_)
  simp only [Fintype.sum_prod_type]
section mid
variable (X : Valuation τ sig (Elt Ideal))
theorem m50 (a : Fin 4096) (h : Fin 4) (v : Fin 256) : ev (s := S4096x4x256) (after mid1 (after mid0 X) (Proc.devRef .tc main_v50)) (ix3 a h v)
    = oR X a h v * rsq (oR X a h) := by
  unfold ev; after_reads_simp; pointwise [id]
  rfl
theorem m67 (v : Fin 256) : ev (s := S256) (after mid5 X (Proc.devRef .tc main_v67)) (ix1 v)
    = ∑ a : Fin 4096, ∑ h : Fin 4, ev (s := S4096x4x256) (X (Proc.devRef .tc main_v50)) (ix3 a h v)
        * ev (s := S4096x1024) (X (Proc.devRef .tc main_v59)) (ix2 a (⟨h.val * 256 + v.val, by omega⟩ : Fin 1024)) := by
  unfold ev; after_reads_simp; pointwise [id]
  refine (sum01 _ _ _ v).trans ?_
  rw [zero_add, Fin.sum_univ_one, Fin.sum_univ_one]
  refine (sum01 _ _ _ v).trans ?_
  rw [zero_add]
  rfl
theorem f101 (v : Fin 256) : ev (s := S1x256) (after fin0 X (Proc.devRef .tc main_v101)) (ix2 0 v) = ev (s := S256) (X (Proc.devRef .tc main_v67)) (ix1 v) := by
  unfold ev; after_reads_simp; pointwise [id]
theorem M5_50 (a : Fin 4096) (h : Fin 4) (v : Fin 256) : ev (s := S4096x4x256) (M5 X (Proc.devRef .tc main_v50)) (ix3 a h v) = oR X a h v * rsq (oR X a h) := by
  dsimp only [M5, M2]
  rw [keep mid4_writes _ main_v50 (by decide), keep mid3_writes _ main_v50 (by decide), keep mid2_writes _ main_v50 (by decide), m50]
theorem M_67 (v : Fin 256) : ev (s := S256) (afterL midI X (Proc.devRef .tc main_v67)) (ix1 v)
    = ∑ a : Fin 4096, ∑ h : Fin 4, dX X a h v * (rX X a h v * Ideal.logistic (rX X a h v)) * (oR X a h v * rsq (oR X a h)) := by
  rw [show afterL midI X = after mid6 (after mid5 (M5 X)) from rfl, keep mid6_writes _ main_v67 (by decide), m67]
  refine Finset.sum_congr rfl fun a _ => Finset.sum_congr rfl fun h _ => ?_
  rw [M5_50, M5_59, mul_comm]
end mid
section fin
variable (m : (ℓ : Loc nD τ sig) → Buf (Elt Ideal) ℓ) (c : Dev nD)
/-- The second result at a column. -/
abbrev R101 (v : Fin 256) : EReal := ev (s := S1x256) (W5 m c (Proc.devRef .tc main_v101)) (ix2 0 v)
/-- What row `a` and head `h` add to it. -/
def gR (a : Fin 4096) (h : Fin 4) (v : Fin 256) : EReal :=
  dd (yd m c) (a.val / 64) h ⟨a.val % 64, by omega⟩ v
    * (rr (a0 (L0 m c)) (a.val / 64) h ⟨a.val % 64, by omega⟩ v * Ideal.logistic (rr (a0 (L0 m c)) (a.val / 64) h ⟨a.val % 64, by omega⟩ v))
    * (oo (a0 (L0 m c)) (a2 (L0 m c)) (a3 (L0 m c)) (a.val / 64) h ⟨a.val % 64, by omega⟩ v
      * rsq (oo (a0 (L0 m c)) (a2 (L0 m c)) (a3 (L0 m c)) (a.val / 64) h ⟨a.val % 64, by omega⟩))
theorem R_g (v : Fin 256) : R101 m c v = ∑ a : Fin 4096, ∑ h : Fin 4, gR m c a h v := by
  refine (f101 (W4 m c) v).trans ?_
  rw [W4_keep m c main_v67 (by decide) (by decide), show W3 m c = afterL midI (W2 m c) from rfl, M_67]
  refine Finset.sum_congr rfl fun a _ => Finset.sum_congr rfl fun h _ => ?_
  have hr : a = row (a.val / 64) (⟨a.val % 64, by omega⟩ : Fin 64) := Fin.ext (by rw [row_val _ (by omega) _]; show a.val = 64 * (a.val / 64) + a.val % 64; omega)
  have eo := oR_eq m c ⟨a.val / 64, by omega⟩ ⟨a.val % 64, by omega⟩ h
  have ed := dX_eq m c ⟨a.val / 64, by omega⟩ ⟨a.val % 64, by omega⟩ h
  have er := rX_eq m c ⟨a.val / 64, by omega⟩ ⟨a.val % 64, by omega⟩ h
  simp only [← hr] at eo ed er
  rw [eo, ed, er]
  rfl
end fin
end Cert.GlaBRef
-- ==== Proof.GlaB.lean ====
/- The backward call of gated linear attention: the whole gradient of the projections, and the head norm's. -/
module
public import proofs.«01_k».proof.Proof.GlaBPoint
public import proofs.«01_k».proof.Proof.GlaBGain
public import proofs.«01_k».proof.Proof.GlaBFin
public import proofs.«01_k».proof.Proof.GlaBRefG
@[expose] public section
set_option maxRecDepth 16384
noncomputable section
namespace Cert.GlaB
open Idealize.ShloMosaic Idealize.ShloMosaic.TcCoe Idealize.SL.Sem
open Cert.Reals Cert.GlaBK
open Cert.Gla (row row_val)

/-- The reference runs, leaves its arguments unchanged and declares no semaphore. -/
theorem frame_reference : Cert.quiescent_GlaBwdRefIdeal := fun m ρ _ =>
  (θ_run Cert.GlaBwdRefIdeal.defs _ _).mono (fun r h =>
    ⟨fun c => ⟨(h c _ rfl).trans (Cert.GlaBRun.W5_arg m c (by decide)), (h c _ rfl).trans (Cert.GlaBRun.W5_arg m c (by decide)),
      (h c _ rfl).trans (Cert.GlaBRun.W5_arg m c (by decide)), (h c _ rfl).trans (Cert.GlaBRun.W5_arg m c (by decide)),
      (h c _ rfl).trans (Cert.GlaBRun.W5_arg m c (by decide)), (h c _ rfl).trans (Cert.GlaBRun.W5_arg m c (by decide))⟩,
     sem_eq_zero_of_no_sems (by decide) r.2⟩)
    (Cert.GlaBRun.run_fold m ρ)

/-! ## What the kernel leaves -/
section kernel
open Cert.GlaBwdIdeal Cert.GlaBwdIdeal.Gen
/-- What the precondition says: every element of the incoming gradient and of the norm's weights is a real number. -/
theorem pre_reads [Cert.Pre_gla_finite.Facts] (x0 : (⟨S4096x8208, .f32⟩ : BufTy).Contents (Elt Ideal)) (x1 : (⟨S4096x1024, .bf16⟩ : BufTy).Contents (Elt Ideal))
    (x2 : (⟨S16x512, .f32⟩ : BufTy).Contents (Elt Ideal)) (x3 : (⟨S512, .f32⟩ : BufTy).Contents (Elt Ideal)) (x4 : (⟨S256, .f32⟩ : BufTy).Contents (Elt Ideal))
    (x5 : (⟨S4096x8320, .bf16⟩ : BufTy).Contents (Elt Ideal)) (h : Cert.Pre_gla_finite.fn (F := Ideal) x0 x1 x2 x3 x4 x5 = fun _ => 1#1) :
    (∀ i, IsReal (x1 i)) ∧ (∀ i, IsReal (x4 i)) := by
  have h := congrFun h (Shape.Idx.first Cert.Pre_gla_finite.Facts.h_S_)
  dsimp only [Cert.Pre_gla_finite.fn] at h
  obtain ⟨e0, e1⟩ := and_one h
  exact ⟨isReal_of_all e0, isReal_of_all e1⟩

variable (m : (ℓ : Loc nD τ sig) → Buf (Elt Ideal) ℓ) (c : Dev nD)
/-- The gradient of the projections: the first 3072 columns the kernel's, the others as given. -/
def out (a : Fin 4096) (k : Fin 8320) : EReal :=
  if h : k.val < 3072 then GT m c (a.val / 64) ⟨a.val % 64, by omega⟩ ⟨k.val, h⟩ else A5 m c (ix2 a k)
theorem final11 (a : Fin 4096) (k : Fin 8320) : ((dats m 0 c).arrAt 11 cfg0.N : FVec Ideal S4096x8320 .bf16) (ix2 a k) = out m c a k := by
  have e : (dats m 0 c).arrAt 11 cfg0.N = fun i : S4096x8320.Idx => if (i 1 : ℕ) / 3072 = 0 then out m c (i 0) (i 1) else (dats m 0 c).A 11 i := by
    refine (dats m 0 c).arrAt_eq_of_coversWhere 11 (fun i : S4096x8320.Idx => out m c (i 0) (i 1)) (fun β => β (1 : Fin _) = 0) (by decide +kernel) (fun t hf y => ?_) (fun j => Iff.rfl)
    blk_simp
    rw [after0_11]
    obtain ⟨e0, e1, e2, e3, e4, e5, e6, e8, e9, e10, e11⟩ := idx t
    generalize hz : (show S512x3072.Idx from (cfg0.win 11).xinj (cfg0.grid.coords t) y) = z
    have z0 : (y 0 : ℕ) = z 0 := congrArg (fun x : S512x3072.Idx => (x 0 : ℕ)) hz
    have z1 : (y 1 : ℕ) = z 1 := congrArg (fun x : S512x3072.Idx => (x 1 : ℕ)) hz
    have f0 : ((win0_11.blk t).view.emb y 0).val = win0_11.index t 0 * 512 + y 0 := win0_11.rect_emb_val t y 0
    have f1 : ((win0_11.blk t).view.emb y 1).val = win0_11.index t 1 * 3072 + y 1 := win0_11.rect_emb_val t y 1
    rw [e11, z0] at f0
    rw [e11, z1] at f1
    refine (congrArg (outsAt0 m c t.val t.isLt).1 hz).trans ?_
    clear hz z0 z1
    generalize (win0_11.blk t).view.emb y 0 = r at f0 ⊢
    generalize (win0_11.blk t).view.emb y 1 = k at f1 ⊢
    idx_vars z
    replace f0 : r.val = (7 - t.val) * 512 + z0.val := f0
    replace f1 : k.val = z1.val := f1.trans (by show 0 * 3072 + z1.val = z1.val; omega)
    refine (point11 m c t z0 z1).trans ?_
    unfold out TG
    rw [dif_pos (show k.val < 3072 by omega)]
    congr 1
    · omega
    · exact Fin.ext (by show z0.val % 64 = r.val % 64; omega)
    · exact Fin.ext f1.symm
  rw [e]
  by_cases h : k.val < 3072
  · exact if_pos (show k.val / 3072 = 0 by omega)
  · refine (if_neg (show ¬ k.val / 3072 = 0 by omega)).trans ?_
    rw [A_eq m c 11]
    refine (V304 m c a k).trans ?_
    unfold out
    rw [dif_neg h]
theorem kernel_run (g : Dev nD → PrngReg) : θ_run (defs (F := Ideal)) (onTc (τ := τ) (main (F := Ideal))) ⟨m, fun _ => 0, g⟩ (fun r => ∀ c : Dev nD,
    r.2.mem ((c.tc : Thread nD τ).loc main_v304_0) = (dats m 0 c).arrAt 11 cfg0.N
      ∧ r.2.mem ((c.tc : Thread nD τ).loc main_v304_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h c).1 11, (h c).1 13,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m g)
end kernel

/-! ## The two together -/
/-- The columns of a head, in each part of a row, and those after them. -/
def kq (h : Fin 4) (κ : Fin 128) : Fin 8320 := ⟨h.val * 128 + κ.val, by omega⟩
def kk (h : Fin 4) (κ : Fin 128) : Fin 8320 := ⟨512 + (h.val * 128 + κ.val), by omega⟩
def kv (h : Fin 4) (v : Fin 256) : Fin 8320 := ⟨1024 + (h.val * 256 + v.val), by omega⟩
def kr (h : Fin 4) (v : Fin 256) : Fin 8320 := ⟨2048 + (h.val * 256 + v.val), by omega⟩
def kp (j : Fin 5248) : Fin 8320 := ⟨3072 + j.val, by omega⟩
section both
variable (m : (ℓ : Loc Cert.GlaBwdIdeal.nD Cert.GlaBwdIdeal.τ Cert.GlaBwdIdeal.sig) → Buf (Elt Ideal) ℓ)
  (m' : (ℓ : Loc Cert.GlaBwdRefIdeal.nD Cert.GlaBwdRefIdeal.τ Cert.GlaBwdRefIdeal.sig) → Buf (Elt Ideal) ℓ) (c : Dev Cert.GlaBwdIdeal.nD)
theorem same (h0 : Cert.GlaBRef.a0 (Cert.GlaBRef.L0 m' c) = A0 m c) (h1 : Cert.GlaBRef.a1 (Cert.GlaBRef.L0 m' c) = A1 m c)
    (h2 : Cert.GlaBRef.a2 (Cert.GlaBRef.L0 m' c) = A2 m c) (h3 : Cert.GlaBRef.a3 (Cert.GlaBRef.L0 m' c) = A3 m c)
    (h4 : Cert.GlaBRef.a4 (Cert.GlaBRef.L0 m' c) = A4 m c) (h5 : Cert.GlaBRef.a5 (Cert.GlaBRef.L0 m' c) = A5 m c)
    (hd : ∀ i, IsReal (A1 m c i)) (hg : ∀ i, IsReal (A4 m c i)) (n l : Fin 64) (k : Fin 8320) :
    Cert.GlaBRef.R96 m' c n l k = out m c (row n.val l) k := by
  have hyd : Cert.GlaBRef.yd m' c = df m c := by unfold Cert.GlaBRef.yd; rw [h1]
  have hyg : Cert.GlaBRef.yg m' c = gf m c := by unfold Cert.GlaBRef.yg; rw [h4]
  have hn : (row n.val l).val / 64 = n.val := by rw [row_val n.val n.isLt l]; omega
  have hl : (⟨(row n.val l).val % 64, by omega⟩ : Fin 64) = l := Fin.ext (by show (row n.val l).val % 64 = l.val; rw [row_val n.val n.isLt l]; omega)
  unfold out
  rw [hn, hl]
  by_cases h : k.val < 3072
  · rw [dif_pos h]
    by_cases hq : k.val < 512
    · obtain ⟨h', κ, rfl⟩ : ∃ (h' : Fin 4) (κ : Fin 128), k = kq h' κ :=
        ⟨⟨k.val / 128, by omega⟩, ⟨k.val % 128, by omega⟩, Fin.ext (show k.val = k.val / 128 * 128 + k.val % 128 by omega)⟩
      refine (Cert.GlaBRef.R_q m' c n l h' κ).trans (Eq.trans ?_ (GT_q m c n.val l h' κ).symm)
      rw [h0, h2, h3, hyd, hyg]
    by_cases hk : k.val < 1024
    · obtain ⟨h', κ, rfl⟩ : ∃ (h' : Fin 4) (κ : Fin 128), k = kk h' κ :=
        ⟨⟨(k.val - 512) / 128, by omega⟩, ⟨(k.val - 512) % 128, by omega⟩, Fin.ext (show k.val = 512 + ((k.val - 512) / 128 * 128 + (k.val - 512) % 128) by omega)⟩
      refine (Cert.GlaBRef.R_k m' c n l h' κ).trans (Eq.trans ?_ (GT_k m c n.val l h' κ).symm)
      rw [h0, h2, h3, hyd, hyg]
    by_cases hv : k.val < 2048
    · obtain ⟨h', v, rfl⟩ : ∃ (h' : Fin 4) (v : Fin 256), k = kv h' v :=
        ⟨⟨(k.val - 1024) / 256, by omega⟩, ⟨(k.val - 1024) % 256, by omega⟩, Fin.ext (show k.val = 1024 + ((k.val - 1024) / 256 * 256 + (k.val - 1024) % 256) by omega)⟩
      refine (Cert.GlaBRef.R_v m' c n l h' v).trans (Eq.trans ?_ (GT_v m c n.val l h' v).symm)
      rw [h0, h2, h3, hyd, hyg]
    · obtain ⟨h', v, rfl⟩ : ∃ (h' : Fin 4) (v : Fin 256), k = kr h' v :=
        ⟨⟨(k.val - 2048) / 256, by omega⟩, ⟨(k.val - 2048) % 256, by omega⟩, Fin.ext (show k.val = 2048 + ((k.val - 2048) / 256 * 256 + (k.val - 2048) % 256) by omega)⟩
      refine (Cert.GlaBRef.R_r m' c n l h' v (hyd ▸ hd _) (hyg ▸ hg _)).trans (Eq.trans ?_ (GT_r m c n.val l h' v).symm)
      rw [h0, h2, h3, hyd, hyg]
  · rw [dif_neg h]
    obtain ⟨j, rfl⟩ : ∃ j : Fin 5248, k = kp j := ⟨⟨k.val - 3072, by omega⟩, Fin.ext (show k.val = 3072 + (k.val - 3072) by omega)⟩
    refine (Cert.GlaBRef.R_p m' c n l j).trans ?_
    rw [h5]
    rfl
/-- The head norm's gradient is the same sum, taken over the rows and the heads in the other order. -/
theorem same_gain (h0 : Cert.GlaBRef.a0 (Cert.GlaBRef.L0 m' c) = A0 m c) (h1 : Cert.GlaBRef.a1 (Cert.GlaBRef.L0 m' c) = A1 m c)
    (h2 : Cert.GlaBRef.a2 (Cert.GlaBRef.L0 m' c) = A2 m c) (h3 : Cert.GlaBRef.a3 (Cert.GlaBRef.L0 m' c) = A3 m c) (v : Fin 256) :
    Cert.GlaBRef.R101 m' c v = GN m c v := by
  have hyd : Cert.GlaBRef.yd m' c = df m c := by unfold Cert.GlaBRef.yd; rw [h1]
  rw [Cert.GlaBRef.R_g, Finset.sum_comm]
  unfold GN
  refine Finset.sum_congr rfl fun h _ => Finset.sum_congr rfl fun a _ => ?_
  unfold Cert.GlaBRef.gR gA gE
  rw [h0, h2, h3, hyd]
end both

/-! ## The claim -/
theorem algebraic [Cert.Pre_gla_finite.Facts] : Cert.algebraic_GlaBwdIdeal_GlaBwdRefIdeal_pre_gla_finite := by
  intro m g m' g' hpre hag
  refine ⟨fun c => (Cert.GlaBwdIdeal.Gen.dats m 0 c).arrAt 11 Cert.GlaBwdIdeal.cfg0.N, fun c => (Cert.GlaBwdIdeal.Gen.dats m 0 c).arrAt 13 Cert.GlaBwdIdeal.cfg0.N, kernel_run m g, ?_⟩
  refine (θ_run _ _ _).mono (fun r h c => ?_) (Cert.GlaBRun.run_fold m' g')
  obtain ⟨a0, a1, a2, a3, a4, a5⟩ := hag c
  obtain ⟨hd, hg⟩ := pre_reads _ _ _ _ _ _ (hpre c)
  refine ⟨(h c _ rfl).trans ?_, (h c _ rfl).trans ?_, (h c _ rfl).trans (Cert.GlaBRun.W5_arg m' c (by decide)), (h c _ rfl).trans (Cert.GlaBRun.W5_arg m' c (by decide)),
      (h c _ rfl).trans (Cert.GlaBRun.W5_arg m' c (by decide)), (h c _ rfl).trans (Cert.GlaBRun.W5_arg m' c (by decide)),
      (h c _ rfl).trans (Cert.GlaBRun.W5_arg m' c (by decide)), (h c _ rfl).trans (Cert.GlaBRun.W5_arg m' c (by decide))⟩
  · funext j
    idx_vars j
    refine Eq.trans ?_ (final11 m c j0 j1).symm
    have hr : row (j0.val / 64) (⟨j0.val % 64, by omega⟩ : Fin 64) = j0 := Fin.ext (by rw [row_val _ (by omega) _]; show 64 * (j0.val / 64) + j0.val % 64 = j0.val; omega)
    have e := same m m' c a0 a1 a2 a3 a4 a5 hd hg ⟨j0.val / 64, by omega⟩ ⟨j0.val % 64, by omega⟩ j1
    unfold Cert.GlaBRef.R96 at e
    simp only [hr] at e
    exact e
  · funext j
    obtain ⟨v, rfl⟩ := j_eq j
    exact (same_gain m m' c a0 a1 a2 a3 v).trans (final13 m c v).symm
end Cert.GlaB
-- ==== Proof.WgradV.lean ====
module

public import proofs.«01_k».proof.Defs
public import proofs.«01_k».proof.Proof.Gen.WgradIdeal.Value
public import proofs.«01_k».proof.Proof.Gen.WgradRefIdeal.Read
public import proofs.«01_k».proof.Proof.Gen.WgradRefIdeal.Run
public import proofs.«01_k».proof.Proof.Norm1
public import Idealize.ShloMosaic.Lib.Pipeline.ValueKit
public import Idealize.ShloMosaic.Lib.Pipeline.ReadBack
public import Idealize.ShloMosaic.Lib.Pointwise

@[expose] public section

set_option maxRecDepth 16384

/-! The gradient of the projections' weight: four row blocks of the packed gradient, each times the same rows of the norm's
   result, summed in the accumulator. -/

noncomputable section

namespace Cert.WgradV

open Idealize.ShloMosaic Idealize.ShloMosaic.TcCoe Idealize.SL.Sem
open Cert.WgradIdeal Cert.WgradIdeal.Gen
open Cert.Norm1 (pack packed0 packed0_apply)

section

variable (x0 : (⟨S4096x8208, .f32⟩ : BufTy).Contents (Elt Ideal)) (x1 : (⟨S4096x1024, .f32⟩ : BufTy).Contents (Elt Ideal))

/-- One term of the gradient: row `r`'s, at packed column `k` and weight column `b`. -/
def term (k : Fin 8320) (b : Fin 1024) (r : Fin 4096) : EReal :=
  pack (fun k => x0 (ix2 r k)) k * x1 (ix2 r b)

/-- The gradient of the weight, rows in the packed order. -/
def dw (k : Fin 8320) (b : Fin 1024) : EReal := ∑ r : Fin 4096, term x0 x1 k b r

/-- Packing the rows of the product is the product with the packed columns. -/
theorem pack_dw (k : Fin 8320) (b : Fin 1024) :
    pack (fun k => ∑ r : Fin 4096, (x0 (ix2 r k) : EReal) * x1 (ix2 r b)) k = dw x0 x1 k b := by
  unfold dw term pack
  split_ifs
  · rfl
  · rfl
  · rfl
  · simp only [zero_mul, Finset.sum_const_zero]

open Cert.WgradRefIdeal.Read

theorem ref10 (k : Fin 8320) (b : Fin 1024) : val_main_v10 (F := Ideal) x0 x1 (ix2 k b) = dw x0 x1 k b := by
  rw [← pack_dw]
  pointwise [val_main_v2, val_main_v3, val_main_v4, val_main_v5, val_main_v6, val_main_v7, val_main_v8, val_main_v9, val_main_v10, val_main_cst_0, pack]
  by_cases h1 : k.val < 3072
  · rw [dif_pos h1, dif_pos h1]
  rw [dif_neg h1, dif_neg h1]
  by_cases h2 : k.val < 8192
  · rw [dif_pos (show k.val - 3072 < 5120 by omega), dif_pos h2]
    exact Finset.sum_congr rfl fun r _ => congrArg (fun k => x0 (ix2 r k) * x1 (ix2 r b)) (Fin.ext (show 3088 + (k.val - 3072) = k.val + 16 by omega))
  rw [dif_neg (show ¬k.val - 3072 < 5120 by omega), dif_neg h2]
  by_cases h3 : k.val < 8208
  · rw [dif_pos (show k.val - 3072 - 5120 < 16 by omega), dif_pos h3]
    exact Finset.sum_congr rfl fun r _ => congrArg (fun k => x0 (ix2 r k) * x1 (ix2 r b)) (Fin.ext (show 3072 + (k.val - 3072 - 5120) = k.val - 5120 by omega))
  · rw [dif_neg (show ¬k.val - 3072 - 5120 < 16 by omega), dif_neg h3]

end

/-! ## The blocks -/

section
variable (m : (ℓ : Loc nD τ sig) → Buf (Elt Ideal) ℓ) (c : Dev nD)
abbrev A0 := m ((c : Thread nD τ).loc main_arg0)
abbrev A1 := m ((c : Thread nD τ).loc main_arg1)
end

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ)

/-- The row that row `k` of point `t`'s two blocks is. -/
def row (t : Fin cfg0.N) (k : Fin 1024) : Fin 4096 := ⟨t.val % 4 * 1024 + k.val, by omega⟩

/-- The packed column that row `y` of point `t`'s result block is. -/
def col (t : Fin cfg0.N) (y : Fin 1664) : Fin 8320 := ⟨t.val / 4 * 1664 + y.val, by have := t.isLt; have : cfg0.N = 20 := N_0; omega⟩

variable (c : Dev nD) (t : Fin cfg0.N)

theorem V5 : V m c main_v5 = packed0 (A0 m c) := by dsimp only [V]; after_results_simp; rfl

theorem b0 (k : Fin 1024) (y : Fin 1664) : iblk m c 0 t (ix2 k y) = pack (fun l => A0 m c (ix2 (row t k) l)) (col t y) := by
  have h : iblk m c 0 t (ix2 k y) = V m c main_v5 (ix2 (row t k) (col t y)) := by
    obtain ⟨e0, e1, e2⟩ := idx t; blk_ext [iblk, row, col, e0]
  rw [h, V5, packed0_apply]
theorem b1 (k b : Fin 1024) : iblk m c 1 t (ix2 k b) = A1 m c (ix2 (row t k) b) := by
  obtain ⟨e0, e1, e2⟩ := idx t; blk_ext! [iblk, V, row, e1]

/-! ## The accumulator -/

/-- What point `t` adds to the accumulator. -/
def part (t : Fin cfg0.N) (y : S1664x1024.Idx) : EReal :=
  ∑ k : Fin 1024, term (A0 m c) (A1 m c) (col t (y 0)) (y 1) (row t k)

theorem acc_first (h0 : t.val % 4 = 0) (y : S1664x1024.Idx) : (outsAt0 m c t.val t.isLt).2 y = 0 + part m c t y := by
  rw [outsAt0_A m c t (by omega) (by omega) (by omega)]
  frame_out
  idx_vars y
  pointwise [k0_pay1, k0_pay2, k0_pay3, k0_pay4, part]
  simp only [b0, b1, term, zero_add]

theorem acc_next (h0 : ¬t.val % 4 = 0) (y : S1664x1024.Idx) : (outsAt0 m c t.val t.isLt).2 y
    = (outsAt0 m c (t.val - 1) (Nat.lt_of_le_of_lt (Nat.sub_le _ _) t.isLt)).2 y + part m c t y := by
  by_cases h1 : t.val % 4 = 3
  · rw [outsAt0_C m c t (by omega) (by omega) (by omega)]
    frame_out
    rw [read_unread_whole]
    idx_vars y
    pointwise [k0_pay1, k0_pay2, k0_pay3, k0_pay4, part]
    simp only [b0, b1, term]
  · rw [outsAt0_B m c t (by omega) (by omega) (by omega)]
    frame_out
    rw [read_unread_whole]
    idx_vars y
    pointwise [k0_pay1, k0_pay2, k0_pay3, k0_pay4, part]
    simp only [b0, b1, term]

/-- At the last point of a column block the accumulator holds the whole product. -/
theorem acc_last (h : t.val % 4 = 3) (y0 : Fin 1664) (y1 : Fin 1024) :
    (outsAt0 m c t.val t.isLt).2 (ix2 y0 y1) = dw (A0 m c) (A1 m c) (col t y0) y1 := by
  have hN := lt_of_lt_of_eq t.isLt N_0
  rw [Pipeline.eq_sum_fin_of_reset_step_apply_of_flush (fun n h => (outsAt0 m c n h).2) 4 (fun _ => (0 : EReal)) (part m c)
    (fun t h y => acc_first m c t h y) (fun t h y => acc_next m c t h y) t h, zero_add, dw]
  refine Fin.sum_mul_add_congr fun s k h' => ?_
  have e : col ⟨4 * (t.val / 4) + s.val, by have : cfg0.N = 20 := N_0; omega⟩ y0 = col t y0 := Fin.ext (by simp only [col]; omega)
  have e' : row ⟨4 * (t.val / 4) + s.val, by have : cfg0.N = 20 := N_0; omega⟩ k = ⟨s.val * 1024 + k.val, h'⟩ := Fin.ext (by simp only [row]; omega)
  exact congrArg₂ (fun k r => term (A0 m c) (A1 m c) k y1 r) e e'

theorem out2 (h : t.val % 4 = 3) : (outsAt0 m c t.val t.isLt).1 = (outsAt0 m c t.val t.isLt).2 := by
  rw [outsAt0_C m c t (by omega) (by omega) (by omega)]
  frame_out
  rfl

theorem final2 : (dats m 0 c).arrAt 2 cfg0.N = Cert.WgradRefIdeal.Read.val_main_v10 (F := Ideal) (A0 m c) (A1 m c) := by
  refine (dats m 0 c).arrAt_eq_of_covers 2 _ (by decide +kernel) fun t hf y => ?_
  blk_simp
  rw [after0_2, out2 m c t ((flush0_2 t).mp hf)]
  idx_vars y
  refine (acc_last m c t ((flush0_2 t).mp hf) y0 y1).trans ((ref10 _ _ _ _).symm.trans (congrArg _ ?_))
  obtain ⟨e0, e1, e2⟩ := idx t
  blk_ext [col, e2]

/-! ## The claims -/

theorem frame_reference : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run (F := Ideal) m ρ)

theorem algebraic : Cert.algebraic_WgradIdeal_WgradRefIdeal := by
  intro m g m' g' _ hag
  refine ⟨fun c => (dats m 0 c).arrAt 2 cfg0.N, Cert.WgradIdeal.Value.run_blocks m g, ?_⟩
  refine (θ_run _ _ _).mono (fun r h c => ?_) (Cert.WgradRefIdeal.Value.run (F := Ideal) m' g')
  obtain ⟨a0, a1⟩ := hag c
  obtain ⟨r0, r1⟩ := h c
  refine ⟨?_, r1⟩
  rw [r0, Cert.WgradRefIdeal.Read.val_main_v10_eq, a0, a1]; exact (final2 m c).symm

end Cert.WgradV
-- ==== Proof.AdamV.lean ====
module

public import proofs.«01_k».proof.Defs
public import proofs.«01_k».proof.Proof.Gen.AdamWIdeal.Value
public import proofs.«01_k».proof.Proof.Gen.AdamWRefIdeal.Read
public import proofs.«01_k».proof.Proof.Gen.AdamWRefIdeal.Run
public import Idealize.ShloMosaic.Lib.Pipeline.ValueKit
public import Idealize.ShloMosaic.Lib.Pipeline.ReadBack
public import Idealize.ShloMosaic.Lib.Pointwise

@[expose] public section

set_option maxRecDepth 16384

/-! One optimiser step of a weight of two layers: the layer's gradient is its core's own copy or the other's, the two moments
   and the step follow element by element. -/

noncomputable section

namespace Cert.AdamV

open Idealize.ShloMosaic Idealize.ShloMosaic.TcCoe Idealize.SL.Sem
open Cert.AdamWIdeal Cert.AdamWIdeal.Gen

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
end

theorem idx : ∀ t : Fin cfg0.N, win0_0.index t = ![0, 0] ∧ win0_1.index t = ![t.val / 2, t.val % 2, 0]
    ∧ (t.val / 2 = 0 → win0_2.index t = ![t.val % 2, 0] ∧ win0_3.index t = ![t.val % 2, 0])
    ∧ (t.val / 2 = 1 → win0_4.index t = ![t.val % 2, 0] ∧ win0_5.index t = ![t.val % 2, 0])
    ∧ win0_6.index t = ![t.val / 2, t.val % 2, 0] ∧ win0_7.index t = ![t.val / 2, t.val % 2, 0]
    ∧ win0_8.index t = ![t.val / 2, t.val % 2, 0] ∧ win0_9.index t = ![t.val / 2, t.val % 2, 0]
    ∧ win0_10.index t = ![t.val / 2, t.val % 2, 0] ∧ win0_11.index t = ![t.val / 2, t.val % 2, 0] :=
  (by decide +kernel : ∀ t : Fin grid0.N, _)

/-- Whether the point is in the first layer, as the kernel asks it. -/
theorem layer_bit : ∀ t : Fin cfg0.N, Scalar.cmpi .eq (BitVec.ofNat 32 ((grid0.coords t) 0).val) 0#32 = if t.val / 2 = 0 then 1#1 else 0#1 :=
  (by decide +kernel : ∀ t : Fin grid0.N, _)

variable (m : (ℓ : Loc nD τ sig) → Buf (Elt Ideal) ℓ)

/-- The layer of point `t`. -/
def lay (t : Fin cfg0.N) : Fin 2 := ⟨t.val / 2, by have := t.isLt; have : cfg0.N = 4 := N_0; omega⟩

/-- The row that row `y` of point `t`'s blocks is. -/
def row (t : Fin cfg0.N) (y : Fin 352) : Fin 704 := ⟨t.val % 2 * 352 + y.val, by omega⟩

variable (c : Dev nD) (t : Fin cfg0.N)

theorem b0 (z y : Fin 1) : iblk m c 0 t (ix2 z y) = A0 m c (ix2 0 0) := by
  obtain ⟨e0, e1, e2, e4, e6, e7, e8, e9, e10, e11⟩ := idx t; blk_ext! [iblk, V, e0]
theorem b1 (z : Fin 1) (y : Fin 352) (b : Fin 1024) : iblk m c 1 t (ix3 z y b) = A1 m c (ix3 (lay t) (row t y) b) := by
  obtain ⟨e0, e1, e2, e4, e6, e7, e8, e9, e10, e11⟩ := idx t; blk_ext! [iblk, V, lay, row, e1]
theorem b6 (z : Fin 1) (y : Fin 352) (b : Fin 1024) : iblk m c 6 t (ix3 z y b) = A6 m c (ix3 (lay t) (row t y) b) := by
  obtain ⟨e0, e1, e2, e4, e6, e7, e8, e9, e10, e11⟩ := idx t; blk_ext! [iblk, V, lay, row, e6]
theorem b7 (z : Fin 1) (y : Fin 352) (b : Fin 1024) : iblk m c 7 t (ix3 z y b) = A7 m c (ix3 (lay t) (row t y) b) := by
  obtain ⟨e0, e1, e2, e4, e6, e7, e8, e9, e10, e11⟩ := idx t; blk_ext! [iblk, V, lay, row, e7]
theorem b2 (h : t.val / 2 = 0) (y : Fin 352) (b : Fin 1024) : iblk m c 2 t (ix2 y b) = A2 m c (ix2 (row t y) b) := by
  obtain ⟨e2, e3⟩ := (idx t).2.2.1 h; blk_ext! [iblk, V, row, e2]
theorem b3 (h : t.val / 2 = 0) (y : Fin 352) (b : Fin 1024) : iblk m c 3 t (ix2 y b) = A3 m c (ix2 (row t y) b) := by
  obtain ⟨e2, e3⟩ := (idx t).2.2.1 h; blk_ext! [iblk, V, row, e3]
theorem b4 (h : t.val / 2 = 1) (y : Fin 352) (b : Fin 1024) : iblk m c 4 t (ix2 y b) = A4 m c (ix2 (row t y) b) := by
  obtain ⟨e4, e5⟩ := (idx t).2.2.2.1 h; blk_ext! [iblk, V, row, e4]
theorem b5 (h : t.val / 2 = 1) (y : Fin 352) (b : Fin 1024) : iblk m c 5 t (ix2 y b) = A5 m c (ix2 (row t y) b) := by
  obtain ⟨e4, e5⟩ := (idx t).2.2.2.1 h; blk_ext! [iblk, V, row, e5]

/-! ## The values, element by element -/

/-- The layer's gradient. -/
def gr (l : Fin 2) (a : Fin 704) (b : Fin 1024) : EReal :=
  if l.val = 0 then if Ideal.ofBits FTy.f32 0x3F000000#32 < A0 m c (ix2 0 0) then A2 m c (ix2 a b) else A3 m c (ix2 a b)
  else if Ideal.ofBits FTy.f32 0x3F000000#32 < A0 m c (ix2 0 0) then A5 m c (ix2 a b) else A4 m c (ix2 a b)

theorem pay5 (y : Fin 352) (b : Fin 1024) :
    k0_pay5 (grid0.coords t) (iblk m c 0 t) (iblk m c 2 t) (iblk m c 3 t) (iblk m c 5 t) (iblk m c 4 t) (ix2 y b) = gr m c (lay t) (row t y) b := by
  have hN := lt_of_lt_of_eq t.isLt N_0
  unfold k0_pay5 gr
  dsimp only
  rw [layer_bit t]
  by_cases h : t.val / 2 = 0
  · rw [if_pos h, if_pos (show (lay t).val = 0 from h)]
    pointwise []
    rw [b0, b2 m c t h, b3 m c t h]
  · rw [if_neg h, if_neg (show ¬(lay t).val = 0 from h)]
    have h' : t.val / 2 = 1 := by omega
    pointwise []
    rw [b0, b4 m c t h', b5 m c t h']

open Cert.AdamWRefIdeal.Read in
theorem ref6 (l : Fin 2) (a : Fin 704) (b : Fin 1024) :
    val_main_v6 (F := Ideal) (A0 m c) (A2 m c) (A3 m c) (A4 m c) (A5 m c) (ix3 l a b) = gr m c l a b := by
  pointwise [val_main_v6, val_main_v5, val_main_v4, val_main_v3, val_main_v2, val_main_v1, val_main_v0, val_main_cst, gr]
  by_cases h : l.val = 0
  · rw [dif_pos (show l.val < 1 by omega), if_pos h]
  · rw [dif_neg (show ¬l.val < 1 by omega), if_neg h]

/-- The first moment after the step. -/
def mo (l : Fin 2) (a : Fin 704) (b : Fin 1024) : EReal :=
  Ideal.ofBits FTy.f32 0x3F666666#32 * A6 m c (ix3 l a b) + Ideal.ofBits FTy.f32 0x3DCCCCCD#32 * gr m c l a b

/-- The second moment after the step. -/
def ve (l : Fin 2) (a : Fin 704) (b : Fin 1024) : EReal :=
  Ideal.ofBits FTy.f32 0x3F7FBE77#32 * A7 m c (ix3 l a b) + Ideal.ofBits FTy.f32 0x3A83126F#32 * (gr m c l a b * gr m c l a b)

theorem pay9 (y : Fin 352) (b : Fin 1024) :
    k0_pay9 (grid0.coords t) (iblk m c 0 t) (iblk m c 2 t) (iblk m c 3 t) (iblk m c 5 t) (iblk m c 4 t) (iblk m c 6 t) (ix2 y b) = mo m c (lay t) (row t y) b := by
  unfold k0_pay9 mo
  rw [← pay5, ← b6 m c t 0]
  pointwise []

theorem pay1 (y : Fin 352) (b : Fin 1024) :
    k0_pay1 (k0_pay5 (grid0.coords t) (iblk m c 0 t) (iblk m c 2 t) (iblk m c 3 t) (iblk m c 5 t) (iblk m c 4 t)) (k0_pay8 (iblk m c 7 t)) k0_pay10 (ix2 y b)
      = ve m c (lay t) (row t y) b := by
  unfold k0_pay1 k0_pay8 k0_pay10 ve
  rw [← pay5, ← b7 m c t 0]
  pointwise []

/-- The step. -/
def st (l : Fin 2) (a : Fin 704) (b : Fin 1024) : EReal :=
  Ideal.ofBits FTy.f32 0xBA83126F#32 * (Ideal.div (mo m c l a b * ((8388608 / 5463681 : ℝ) : EReal))
    (Ideal.sqrt (ve m c l a b * ((268435456 / 2672307 : ℝ) : EReal)) + Ideal.ofBits FTy.f32 0x322BCC77#32)
      + Ideal.ofBits FTy.f32 0x3C23D70A#32 * A1 m c (ix3 l a b))

/-- The first moment's correction, the literal's value. -/
theorem lit1 : Ideal.ofBits FTy.f32 0x3F26BD02#32 = ((5463681 / 8388608 : ℝ) : EReal) := by
  simp [Ideal.ofBits, Ideal.ieee, -EReal.coe_mul]; norm_num

/-- The second moment's correction, the literal's value. -/
theorem lit2 : Ideal.ofBits FTy.f32 0x3C231ACC#32 = ((2672307 / 268435456 : ℝ) : EReal) := by
  simp [Ideal.ofBits, Ideal.ieee, -EReal.coe_mul]; norm_num

open Cert.AdamWRefIdeal.Read in
theorem ref11 (l : Fin 2) (a : Fin 704) (b : Fin 1024) :
    val_main_v11 (F := Ideal) (A0 m c) (A2 m c) (A3 m c) (A4 m c) (A5 m c) (A6 m c) (ix3 l a b) = mo m c l a b := by
  unfold mo
  rw [← ref6]
  pointwise [val_main_v11, val_main_v10, val_main_v9, val_main_v8, val_main_v7, val_main_cst_0, val_main_cst_1]

open Cert.AdamWRefIdeal.Read in
theorem ref17 (l : Fin 2) (a : Fin 704) (b : Fin 1024) :
    val_main_v17 (F := Ideal) (A0 m c) (A2 m c) (A3 m c) (A4 m c) (A5 m c) (A7 m c) (ix3 l a b) = ve m c l a b := by
  unfold ve
  rw [← ref6]
  pointwise [val_main_v17, val_main_v16, val_main_v15, val_main_v14, val_main_v13, val_main_v12, val_main_cst_2, val_main_cst_3]

open Cert.AdamWRefIdeal.Read in
theorem ref30 (l : Fin 2) (a : Fin 704) (b : Fin 1024) :
    val_main_v30 (F := Ideal) (A0 m c) (A1 m c) (A2 m c) (A3 m c) (A4 m c) (A5 m c) (A6 m c) (A7 m c) (ix3 l a b) = st m c l a b := by
  unfold st
  pointwise [val_main_v30, val_main_v29, val_main_v28, val_main_v27, val_main_v26, val_main_v25, val_main_v24, val_main_v23, val_main_v22, val_main_v21, val_main_v20, val_main_v19, val_main_v18, val_main_cst_4, val_main_cst_5, val_main_cst_6, val_main_cst_7, val_main_cst_8]
  rw [ref11, ref17, lit1, lit2, Ideal.div_coe (by norm_num), Ideal.div_coe (by norm_num)]
  norm_num only

theorem final8 : (dats m 0 c).arrAt 8 cfg0.N = Cert.AdamWRefIdeal.Read.val_main_v6 (F := Ideal) (A0 m c) (A2 m c) (A3 m c) (A4 m c) (A5 m c) := by
  refine (dats m 0 c).arrAt_eq_of_covers 8 _ (by decide +kernel) fun t hf y => ?_
  blk_simp
  rw [after0_8]
  unfold out0_8
  frame_out
  idx_vars y
  refine Eq.trans ?_ ((pay5 m c t y1 y2).trans ((ref6 m c _ _ _).symm.trans (congrArg _ ?_)))
  · pointwise [k0_pay6]
  · obtain ⟨e0, e1, e2, e4, e6, e7, e8, e9, e10, e11⟩ := idx t
    blk_ext [lay, row, e8]

theorem final10 : (dats m 0 c).arrAt 10 cfg0.N = Cert.AdamWRefIdeal.Read.val_main_v11 (F := Ideal) (A0 m c) (A2 m c) (A3 m c) (A4 m c) (A5 m c) (A6 m c) := by
  refine (dats m 0 c).arrAt_eq_of_covers 10 _ (by decide +kernel) fun t hf y => ?_
  blk_simp
  rw [after0_10]
  unfold out0_10
  frame_out
  idx_vars y
  refine Eq.trans ?_ ((pay9 m c t y1 y2).trans ((ref11 m c _ _ _).symm.trans (congrArg _ ?_)))
  · pointwise [k0_pay3]
    unfold k0_pay13
    frame_out
  · obtain ⟨e0, e1, e2, e4, e6, e7, e8, e9, e10, e11⟩ := idx t
    blk_ext [lay, row, e10]

theorem final11 : (dats m 0 c).arrAt 11 cfg0.N = Cert.AdamWRefIdeal.Read.val_main_v17 (F := Ideal) (A0 m c) (A2 m c) (A3 m c) (A4 m c) (A5 m c) (A7 m c) := by
  refine (dats m 0 c).arrAt_eq_of_covers 11 _ (by decide +kernel) fun t hf y => ?_
  blk_simp
  rw [after0_11]
  unfold out0_11
  frame_out
  idx_vars y
  refine Eq.trans ?_ ((pay1 m c t y1 y2).trans ((ref17 m c _ _ _).symm.trans (congrArg _ ?_)))
  · pointwise [k0_pay4]
    unfold k0_pay11 k0_pay12 k0_pay14
    frame_out
  · obtain ⟨e0, e1, e2, e4, e6, e7, e8, e9, e10, e11⟩ := idx t
    blk_ext [lay, row, e11]

theorem final9 : (dats m 0 c).arrAt 9 cfg0.N = Cert.AdamWRefIdeal.Read.val_main_v30 (F := Ideal) (A0 m c) (A1 m c) (A2 m c) (A3 m c) (A4 m c) (A5 m c) (A6 m c) (A7 m c) := by
  refine (dats m 0 c).arrAt_eq_of_covers 9 _ (by decide +kernel) fun t hf y => ?_
  blk_simp
  rw [after0_9]
  unfold out0_9
  frame_out
  idx_vars y
  refine Eq.trans ?_ ((ref30 m c (lay t) (row t y1) y2).symm.trans (congrArg _ ?_))
  · have n1 : Named.named (F := Ideal) (φ := .f32) κ "c1" 0x3FC48605#32 = ((8388608 / 5463681 : ℝ) : EReal) := IdealRules.named_const.ideal_named_scalar _ _ _ _ rfl
    have n2 : Named.named (F := Ideal) (φ := .f32) κ "c2" 0x42C8E6D3#32 = ((268435456 / 2672307 : ℝ) : EReal) := IdealRules.named_const.ideal_named_scalar _ _ _ _ rfl
    unfold st
    rw [← pay9, ← pay1, ← b1 m c t 0]
    unfold k0_pay11 k0_pay12 k0_pay13 k0_pay14
    frame_out
    generalize k0_pay9 (F := Ideal) _ _ _ _ _ _ _ = P
    unfold k0_pay2
    rw [n1, n2]
    generalize k0_pay1 (F := Ideal) _ _ _ = Q
    pointwise [k0_pay7]
  · obtain ⟨e0, e1, e2, e4, e6, e7, e8, e9, e10, e11⟩ := idx t
    blk_ext [lay, row, e9]

/-! ## The claims -/

theorem preserves : Cert.preserves_AdamW_AdamWIdeal :=
  ⟨IdealRules.named_const.statement Cert.AdamWIdeal.κ "c1" .f32 0x3FC48605#32 _ rfl,
   IdealRules.named_const.statement Cert.AdamWIdeal.κ "c2" .f32 0x42C8E6D3#32 _ rfl⟩

theorem frame_reference : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run (F := Ideal) m ρ)

theorem algebraic : Cert.algebraic_AdamWIdeal_AdamWRefIdeal := by
  intro m g m' g' _ hag
  refine ⟨fun c => (dats m 0 c).arrAt 8 cfg0.N, fun c => (dats m 0 c).arrAt 9 cfg0.N, fun c => (dats m 0 c).arrAt 10 cfg0.N,
    fun c => (dats m 0 c).arrAt 11 cfg0.N, Cert.AdamWIdeal.Value.run_blocks m g, ?_⟩
  refine (θ_run _ _ _).mono (fun r h c => ?_) (Cert.AdamWRefIdeal.Value.run (F := Ideal) m' g')
  obtain ⟨a0, a1, a2, a3, a4, a5, a6, a7⟩ := hag c
  obtain ⟨r0, r1, r2, r3, r4⟩ := h c
  refine ⟨?_, ?_, ?_, ?_, r4⟩
  · rw [r0, Cert.AdamWRefIdeal.Read.val_main_v6_eq, a0, a2, a3, a4, a5]; exact (final8 m c).symm
  · rw [r1, Cert.AdamWRefIdeal.Read.val_main_v30_eq, a0, a1, a2, a3, a4, a5, a6, a7]; exact (final9 m c).symm
  · rw [r2, Cert.AdamWRefIdeal.Read.val_main_v11_eq, a0, a2, a3, a4, a5, a6]; exact (final10 m c).symm
  · rw [r3, Cert.AdamWRefIdeal.Read.val_main_v17_eq, a0, a2, a3, a4, a5, a7]; exact (final11 m c).symm

end Cert.AdamV
-- ==== Proof.PutV.lean ====
module

public import proofs.«01_k».proof.Defs
public import proofs.«01_k».proof.Proof.Gen.PutFzIdeal.Value
public import proofs.«01_k».proof.Proof.Gen.PutFzRefIdeal.Read
public import proofs.«01_k».proof.Proof.Gen.PutFzRefIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

/-! The forget gate's gradient put into the packed gradient: columns 8192 to 8319 of every row become the sixteen of the
   gate's gradient and zeros, the columns before them stay. -/

noncomputable section

namespace Cert.PutV

open Idealize.ShloMosaic Idealize.ShloMosaic.TcCoe Idealize.SL.Sem
open Cert.PutFzIdeal Cert.PutFzIdeal.Gen

section
variable (m : (ℓ : Loc nD τ sig) → Buf (Elt Ideal) ℓ) (c : Dev nD)
abbrev A0 := m ((c : Thread nD τ).loc main_arg0)
abbrev A1 := m ((c : Thread nD τ).loc main_arg1)
end

/-- The result's element: the gradient as given before column 8192, then the gate's, then zeros. -/
def put (x0 : (⟨S4096x8320, .f32⟩ : BufTy).Contents (Elt Ideal)) (x1 : (⟨S4096x16, .f32⟩ : BufTy).Contents (Elt Ideal)) (a : Fin 4096) (k : Fin 8320) : EReal :=
  if _h : k.val < 8192 then x0 (ix2 a k) else if h : k.val - 8192 < 16 then x1 (ix2 a ⟨k.val - 8192, h⟩) else 0

open Cert.PutFzRefIdeal.Read in
theorem ref3 (x0 : (⟨S4096x8320, .f32⟩ : BufTy).Contents (Elt Ideal)) (x1 : (⟨S4096x16, .f32⟩ : BufTy).Contents (Elt Ideal)) (a : Fin 4096) (k : Fin 8320) :
    val_main_v3 (F := Ideal) x0 x1 (ix2 a k) = put x0 x1 a k := by
  pointwise [val_main_v3, val_main_v2, val_main_v1, val_main_v0, val_main_cst, put]

theorem idx : ∀ t : Fin cfg0.N, win0_0.index t = ![t.val, 0] ∧ win0_1.index t = ![t.val, 64] :=
  (by decide +kernel : ∀ t : Fin grid0.N, _)

variable (m : (ℓ : Loc nD τ sig) → Buf (Elt Ideal) ℓ) (c : Dev nD) (t : Fin cfg0.N)

/-- The row that row `y` of point `t`'s block is. -/
def row (t : Fin cfg0.N) (y : Fin 512) : Fin 4096 := ⟨t.val * 512 + y.val, by have := t.isLt; have : cfg0.N = 8 := N_0; omega⟩

/-- The column that column `k` of a block is. -/
def col (k : Fin 128) : Fin 8320 := ⟨8192 + k.val, by omega⟩

theorem b0 (y : Fin 512) (k : Fin 128) : iblk m c 0 t (ix2 y k) = put (A0 m c) (A1 m c) (row t y) (col k) := by
  have h : iblk m c 0 t (ix2 y k) = V m c main_v2 (ix2 (row t y) k) := by
    obtain ⟨e0, e1⟩ := idx t; blk_ext [iblk, row, e0]
  rw [h]
  unfold V
  after_reads_at
  have z : @Eq EReal (FloatOps.sitofp (F := Ideal) FTy.f32 (0#32 : BitVec 32)) 0 := by simp [FloatOps.sitofp]
  unfold put
  rw [dif_neg (show ¬(col k).val < 8192 by simp only [col]; omega)]
  by_cases hk : k.val < 16
  · rw [dif_pos hk, dif_pos (show (col k).val - 8192 < 16 by simp only [col]; omega)]
    exact congrArg (fun k => A1 m c (ix2 (row t y) k)) (Fin.ext (show k.val = 8192 + k.val - 8192 by omega))
  · rw [dif_neg hk, dif_neg (show ¬(col k).val - 8192 < 16 by simp only [col]; omega)]
    exact z

theorem V1 (a : Fin 4096) (k : Fin 8320) : V m c (Pipeline.arrRef spec0 1) (ix2 a k) = A0 m c (ix2 a k) := by
  show V m c main_v3 (ix2 a k) = _
  unfold V; after_reads_simp; rfl

theorem point1 (y : Fin 512) (k : Fin 128) : (outsAt0 m c t) (ix2 y k) = put (A0 m c) (A1 m c) (row t y) (col k) := by
  unfold outsAt0
  frame_out
  pointwise [k0_pay1]
  exact b0 m c t y k

theorem final1 : (dats m 0 c).arrAt 1 cfg0.N = Cert.PutFzRefIdeal.Read.val_main_v3 (F := Ideal) (A0 m c) (A1 m c) := by
  have e : (dats m 0 c).arrAt 1 cfg0.N = fun i : S4096x8320.Idx => if (i 1 : ℕ) / 128 = 64 then put (A0 m c) (A1 m c) (i 0) (i 1) else (dats m 0 c).A 1 i := by
    refine (dats m 0 c).arrAt_eq_of_coversWhere 1 (fun i : S4096x8320.Idx => put (A0 m c) (A1 m c) (i 0) (i 1)) (fun β => β (1 : Fin _) = 64) (by decide +kernel) (fun t hf y => ?_) (fun j => Iff.rfl)
    blk_simp
    rw [after0_1]
    obtain ⟨e0, e1⟩ := idx t
    generalize hz : (show S512x128.Idx from (cfg0.win 1).xinj (cfg0.grid.coords t) y) = z
    have z0 : (y 0 : ℕ) = z 0 := congrArg (fun x : S512x128.Idx => (x 0 : ℕ)) hz
    have z1 : (y 1 : ℕ) = z 1 := congrArg (fun x : S512x128.Idx => (x 1 : ℕ)) hz
    have f0 : ((win0_1.blk t).view.emb y 0).val = win0_1.index t 0 * 512 + y 0 := win0_1.rect_emb_val t y 0
    have f1 : ((win0_1.blk t).view.emb y 1).val = win0_1.index t 1 * 128 + y 1 := win0_1.rect_emb_val t y 1
    rw [e1, z0] at f0
    rw [e1, z1] at f1
    refine (congrArg (outsAt0 m c t) hz).trans ?_
    clear hz z0 z1
    generalize (win0_1.blk t).view.emb y 0 = r at f0 ⊢
    generalize (win0_1.blk t).view.emb y 1 = k at f1 ⊢
    idx_vars z
    replace f0 : r.val = t.val * 512 + z0.val := f0
    replace f1 : k.val = 64 * 128 + z1.val := f1
    refine (point1 m c t z0 z1).trans ?_
    have e2 : row t z0 = r := Fin.ext f0.symm
    have e3 : col z1 = k := Fin.ext (by simp only [col]; omega)
    rw [e2, e3]
  rw [e]
  funext i
  idx_vars i
  rw [ref3]
  by_cases h : i1.val < 8192
  · refine (if_neg (show ¬ i1.val / 128 = 64 by omega)).trans ?_
    rw [A_eq m c 1]
    refine (V1 m c i0 i1).trans ?_
    unfold put
    rw [dif_pos h]
  · exact if_pos (show i1.val / 128 = 64 by omega)

/-! ## The claims -/

theorem frame_reference : Cert.quiescent_PutFzRefIdeal := fun m ρ _ =>
  (θ_run Cert.PutFzRefIdeal.defs _ _).mono (fun r h => ⟨fun c => (h c).2, sem_eq_zero_of_no_sems (by decide) r.2⟩)
    (Cert.PutFzRefIdeal.Value.run (F := Ideal) m ρ)

theorem algebraic : Cert.algebraic_PutFzIdeal_PutFzRefIdeal := by
  intro m g m' g' _ hag
  refine ⟨fun c => (dats m 0 c).arrAt 1 cfg0.N, Cert.PutFzIdeal.Value.run_blocks m g, ?_⟩
  refine (θ_run _ _ _).mono (fun r h c => ?_) (Cert.PutFzRefIdeal.Value.run (F := Ideal) m' g')
  obtain ⟨a0, a1⟩ := hag c
  obtain ⟨r0, r1⟩ := h c
  refine ⟨?_, r1⟩
  rw [r0, Cert.PutFzRefIdeal.Read.val_main_v3_eq, a0, a1]; exact (final1 m c).symm

end Cert.PutV
-- ==== Proof.AdamSV.lean ====
module

public import proofs.«01_k».proof.Defs
public import proofs.«01_k».proof.Proof.Gen.AdamSIdeal.Value
public import proofs.«01_k».proof.Proof.Gen.AdamSRefIdeal.Read
public import proofs.«01_k».proof.Proof.Gen.AdamSRefIdeal.Run
public import proofs.«01_k».proof.Proof.AdamV
public import Idealize.ShloMosaic.Lib.Pipeline.ValueKit
public import Idealize.ShloMosaic.Lib.Pipeline.ReadBack
public import Idealize.ShloMosaic.Lib.Pointwise

@[expose] public section

set_option maxRecDepth 16384

/-! One optimiser step of a small weight, whose gradient is given: the two moments and the step, element by element. -/

noncomputable section

namespace Cert.AdamSV

open Idealize.ShloMosaic Idealize.ShloMosaic.TcCoe Idealize.SL.Sem
open Cert.AdamSIdeal Cert.AdamSIdeal.Gen
open Cert.AdamV (lit1 lit2)

section
variable (m : (ℓ : Loc nD τ sig) → Buf (Elt Ideal) ℓ) (c : Dev nD)
abbrev A0 := m ((c : Thread nD τ).loc main_arg0)
abbrev A1 := m ((c : Thread nD τ).loc main_arg1)
abbrev A2 := m ((c : Thread nD τ).loc main_arg2)
abbrev A3 := m ((c : Thread nD τ).loc main_arg3)
end

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

variable (m : (ℓ : Loc nD τ sig) → Buf (Elt Ideal) ℓ)

/-- The layer of point `t`. -/
def lay (t : Fin cfg0.N) : Fin 2 := ⟨t.val, by have := t.isLt; have : cfg0.N = 2 := N_0; omega⟩

variable (c : Dev nD) (t : Fin cfg0.N)

theorem b0 (z : Fin 1) (y : Fin 16) (b : Fin 128) : iblk m c 0 t (ix3 z y b) = A0 m c (ix3 (lay t) y b) := by
  obtain ⟨e0, e1, e2, e3, e4, e5, e6⟩ := idx t; blk_ext! [iblk, V, lay, e0]
theorem b1 (z : Fin 1) (y : Fin 16) (b : Fin 128) : iblk m c 1 t (ix3 z y b) = A1 m c (ix3 (lay t) y b) := by
  obtain ⟨e0, e1, e2, e3, e4, e5, e6⟩ := idx t; blk_ext! [iblk, V, lay, e1]
theorem b2 (z : Fin 1) (y : Fin 16) (b : Fin 128) : iblk m c 2 t (ix3 z y b) = A2 m c (ix3 (lay t) y b) := by
  obtain ⟨e0, e1, e2, e3, e4, e5, e6⟩ := idx t; blk_ext! [iblk, V, lay, e2]
theorem b3 (z : Fin 1) (y : Fin 16) (b : Fin 128) : iblk m c 3 t (ix3 z y b) = A3 m c (ix3 (lay t) y b) := by
  obtain ⟨e0, e1, e2, e3, e4, e5, e6⟩ := idx t; blk_ext! [iblk, V, lay, e3]

/-! ## The values, element by element -/

/-- The gradient. -/
def gr (l : Fin 2) (a : Fin 16) (b : Fin 128) : EReal := A1 m c (ix3 l a b)

/-- The first moment after the step. -/
def mo (l : Fin 2) (a : Fin 16) (b : Fin 128) : EReal :=
  Ideal.ofBits FTy.f32 0x3F666666#32 * A2 m c (ix3 l a b) + Ideal.ofBits FTy.f32 0x3DCCCCCD#32 * A1 m c (ix3 l a b)

/-- The second moment after the step. -/
def ve (l : Fin 2) (a : Fin 16) (b : Fin 128) : EReal :=
  Ideal.ofBits FTy.f32 0x3F7FBE77#32 * A3 m c (ix3 l a b) + Ideal.ofBits FTy.f32 0x3A83126F#32 * (gr m c l a b * gr m c l a b)

/-- The step. -/
def st (l : Fin 2) (a : Fin 16) (b : Fin 128) : EReal :=
  Ideal.ofBits FTy.f32 0xBA83126F#32 * (Ideal.div (mo m c l a b * ((8388608 / 5463681 : ℝ) : EReal))
    (Ideal.sqrt (ve m c l a b * ((268435456 / 2672307 : ℝ) : EReal)) + Ideal.ofBits FTy.f32 0x322BCC77#32)
      + Ideal.ofBits FTy.f32 0x3C23D70A#32 * A0 m c (ix3 l a b))

theorem pay1 (z : Fin 1) (y : Fin 16) (b : Fin 128) : k0_pay1 (iblk m c 1 t) (iblk m c 2 t) (ix3 z y b) = mo m c (lay t) y b := by
  unfold k0_pay1 mo
  rw [← b1 m c t z y b, ← b2 m c t z y b]
  pointwise []

theorem pay2 (z : Fin 1) (y : Fin 16) (b : Fin 128) : k0_pay2 (iblk m c 1 t) (iblk m c 3 t) (ix3 z y b) = ve m c (lay t) y b := by
  unfold k0_pay2 ve gr
  rw [← b1 m c t z y b, ← b3 m c t z y b]
  pointwise []

theorem pay3 (z : Fin 1) (y : Fin 16) (b : Fin 128) : k0_pay3 (iblk m c 0 t) (iblk m c 1 t) (iblk m c 2 t) (iblk m c 3 t) (ix3 z y b) = st m c (lay t) y b := by
  have n1 : Named.named (F := Ideal) (φ := .f32) κ "c1" 0x3FC48605#32 = ((8388608 / 5463681 : ℝ) : EReal) := IdealRules.named_const.ideal_named_scalar _ _ _ _ rfl
  have n2 : Named.named (F := Ideal) (φ := .f32) κ "c2" 0x42C8E6D3#32 = ((268435456 / 2672307 : ℝ) : EReal) := IdealRules.named_const.ideal_named_scalar _ _ _ _ rfl
  unfold st
  rw [← pay1 m c t z y b, ← pay2 m c t z y b, ← b0 m c t z y b]
  unfold k0_pay3
  rw [n1, n2]
  generalize k0_pay1 (F := Ideal) _ _ = P
  generalize k0_pay2 (F := Ideal) _ _ = Q
  pointwise []

open Cert.AdamSRefIdeal.Read in
theorem ref4 (l : Fin 2) (a : Fin 16) (b : Fin 128) : val_main_v4 (F := Ideal) (A1 m c) (A2 m c) (ix3 l a b) = mo m c l a b := by
  unfold mo
  pointwise [val_main_v4, val_main_v3, val_main_v2, val_main_v1, val_main_v0, val_main_cst, val_main_cst_0]

open Cert.AdamSRefIdeal.Read in
theorem ref10 (l : Fin 2) (a : Fin 16) (b : Fin 128) : val_main_v10 (F := Ideal) (A1 m c) (A3 m c) (ix3 l a b) = ve m c l a b := by
  unfold ve gr
  pointwise [val_main_v10, val_main_v9, val_main_v8, val_main_v7, val_main_v6, val_main_v5, val_main_cst_1, val_main_cst_2]

open Cert.AdamSRefIdeal.Read in
theorem ref23 (l : Fin 2) (a : Fin 16) (b : Fin 128) :
    val_main_v23 (F := Ideal) (A0 m c) (A1 m c) (A2 m c) (A3 m c) (ix3 l a b) = st m c l a b := by
  unfold st
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [ref4, ref10, lit1, lit2, Ideal.div_coe (by norm_num), Ideal.div_coe (by norm_num)]
  norm_num only

theorem final4 : (dats m 0 c).arrAt 4 cfg0.N = Cert.AdamSRefIdeal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  idx_vars y
  refine (pay3 m c t y0 y1 y2).trans ((ref23 m c _ _ _).symm.trans (congrArg _ ?_))
  obtain ⟨e0, e1, e2, e3, e4, e5, e6⟩ := idx t
  blk_ext [lay, e4]

theorem final5 : (dats m 0 c).arrAt 5 cfg0.N = Cert.AdamSRefIdeal.Read.val_main_v4 (F := Ideal) (A1 m c) (A2 m c) := by
  refine (dats m 0 c).arrAt_eq_of_covers 5 _ (by decide +kernel) fun t hf y => ?_
  blk_simp
  rw [after0_5]
  unfold out0_5
  frame_out
  idx_vars y
  refine (pay1 m c t y0 y1 y2).trans ((ref4 m c _ _ _).symm.trans (congrArg _ ?_))
  obtain ⟨e0, e1, e2, e3, e4, e5, e6⟩ := idx t
  blk_ext [lay, e5]

theorem final6 : (dats m 0 c).arrAt 6 cfg0.N = Cert.AdamSRefIdeal.Read.val_main_v10 (F := Ideal) (A1 m c) (A3 m c) := by
  refine (dats m 0 c).arrAt_eq_of_covers 6 _ (by decide +kernel) fun t hf y => ?_
  blk_simp
  rw [after0_6]
  unfold out0_6
  frame_out
  idx_vars y
  refine (pay2 m c t y0 y1 y2).trans ((ref10 m c _ _ _).symm.trans (congrArg _ ?_))
  obtain ⟨e0, e1, e2, e3, e4, e5, e6⟩ := idx t
  blk_ext [lay, e6]

/-! ## The claims -/

theorem preserves : Cert.preserves_AdamS_AdamSIdeal :=
  ⟨IdealRules.named_const.statement Cert.AdamSIdeal.κ "c1" .f32 0x3FC48605#32 _ rfl,
   IdealRules.named_const.statement Cert.AdamSIdeal.κ "c2" .f32 0x42C8E6D3#32 _ rfl⟩

theorem frame_reference : Cert.quiescent_AdamSRefIdeal := fun m ρ _ =>
  (θ_run Cert.AdamSRefIdeal.defs _ _).mono (fun r h => ⟨fun c => (h c).2.2.2, sem_eq_zero_of_no_sems (by decide) r.2⟩)
    (Cert.AdamSRefIdeal.Value.run (F := Ideal) m ρ)

theorem algebraic : Cert.algebraic_AdamSIdeal_AdamSRefIdeal := by
  intro m g m' g' _ hag
  refine ⟨fun c => (dats m 0 c).arrAt 4 cfg0.N, fun c => (dats m 0 c).arrAt 5 cfg0.N, fun c => (dats m 0 c).arrAt 6 cfg0.N,
    Cert.AdamSIdeal.Value.run_blocks m g, ?_⟩
  refine (θ_run _ _ _).mono (fun r h c => ?_) (Cert.AdamSRefIdeal.Value.run (F := Ideal) m' g')
  obtain ⟨a0, a1, a2, a3⟩ := hag c
  obtain ⟨r0, r1, r2, r3⟩ := h c
  refine ⟨?_, ?_, ?_, r3⟩
  · rw [r0, Cert.AdamSRefIdeal.Read.val_main_v23_eq, a0, a1, a2, a3]; exact (final4 m c).symm
  · rw [r1, Cert.AdamSRefIdeal.Read.val_main_v4_eq, a1, a2]; exact (final5 m c).symm
  · rw [r2, Cert.AdamSRefIdeal.Read.val_main_v10_eq, a1, a3]; exact (final6 m c).symm

end Cert.AdamSV
-- ==== Proof.lean ====
/- The claims of this certificate, put together: the generated frames of the kernels, the runs of the references, and the
   value proofs of the modules imported here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Pre_ffn_finite
public import proofs.«01_k».proof.Proof.Ffn
public import proofs.«01_k».proof.Proof.Gen.Norm2Bwd
public import proofs.«01_k».proof.Proof.Gen.Norm2Bwd.Skeleton
public import proofs.«01_k».proof.Proof.Gen.Norm2Bwd.Launch
public import proofs.«01_k».proof.Proof.Gen.Norm2Bwd.Points
public import proofs.«01_k».proof.Proof.Gen.Norm2Bwd.Frame
public import proofs.«01_k».proof.Proof.Gen.Norm2BwdIdeal
public import proofs.«01_k».proof.Proof.Gen.Norm2BwdIdeal.Skeleton
public import proofs.«01_k».proof.Proof.Gen.Norm2BwdIdeal.Launch
public import proofs.«01_k».proof.Proof.Gen.Norm2BwdIdeal.Points
public import proofs.«01_k».proof.Proof.Gen.Norm2BwdIdeal.Frame
public import proofs.«01_k».proof.Proof.Gen.Norm2BwdRefIdeal
public import proofs.«01_k».proof.Proof.Gen.Norm2BwdIdeal.Value
public import proofs.«01_k».proof.Proof.Gen.Norm2BwdRefIdeal.Read
public import proofs.«01_k».proof.Proof.Gen.Norm2BwdRefIdeal.Run
public import proofs.«01_k».proof.Proof.Norm2
public import proofs.«01_k».proof.Proof.Gen.Norm1Bwd
public import proofs.«01_k».proof.Proof.Gen.Norm1Bwd.Skeleton
public import proofs.«01_k».proof.Proof.Gen.Norm1Bwd.Launch
public import proofs.«01_k».proof.Proof.Gen.Norm1Bwd.Points
public import proofs.«01_k».proof.Proof.Gen.Norm1Bwd.Frame
public import proofs.«01_k».proof.Proof.Gen.Norm1BwdIdeal
public import proofs.«01_k».proof.Proof.Gen.Norm1BwdIdeal.Skeleton
public import proofs.«01_k».proof.Proof.Gen.Norm1BwdIdeal.Launch
public import proofs.«01_k».proof.Proof.Gen.Norm1BwdIdeal.Points
public import proofs.«01_k».proof.Proof.Gen.Norm1BwdIdeal.Frame
public import proofs.«01_k».proof.Proof.Gen.Norm1BwdRefIdeal
public import proofs.«01_k».proof.Proof.Gen.Norm1BwdIdeal.Value
public import proofs.«01_k».proof.Proof.Gen.Norm1BwdRefIdeal.Read
public import proofs.«01_k».proof.Proof.Gen.Norm1BwdRefIdeal.Run
public import proofs.«01_k».proof.Proof.Norm1
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadIdeal.Value
public import proofs.«01_k».proof.Proof.Gen.LossHeadRefIdeal.Read
public import proofs.«01_k».proof.Proof.Gen.LossHeadRefIdeal.Run
public import proofs.«01_k».proof.Proof.Loss
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixBwdRefIdeal
public import proofs.«01_k».proof.Proof.Gen.MixBwdIdeal.Value
public import proofs.«01_k».proof.Proof.Gen.MixBwdRefIdeal.Read
public import proofs.«01_k».proof.Proof.Gen.MixBwdRefIdeal.Run
public import proofs.«01_k».proof.Proof.Gen.On_on_gates
public import proofs.«01_k».proof.Proof.Mix
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdRefIdeal
public import proofs.«01_k».proof.Proof.Gen.ConvBwdIdeal.Value
public import proofs.«01_k».proof.Proof.Gen.ConvBwdRefIdeal.Read
public import proofs.«01_k».proof.Proof.Gen.ConvBwdRefIdeal.Run
public import proofs.«01_k».proof.Proof.Conv
public import proofs.«01_k».proof.Proof.Gen.GlaFwd
public import proofs.«01_k».proof.Proof.Gen.GlaFwd.Skeleton
public import proofs.«01_k».proof.Proof.Gen.GlaFwd.Launch
public import proofs.«01_k».proof.Proof.Gen.GlaFwd.Points
public import proofs.«01_k».proof.Proof.Gen.GlaFwd.Frame
public import proofs.«01_k».proof.Proof.Gen.GlaFwdIdeal
public import proofs.«01_k».proof.Proof.Gen.GlaFwdIdeal.Skeleton
public import proofs.«01_k».proof.Proof.Gen.GlaFwdIdeal.Launch
public import proofs.«01_k».proof.Proof.Gen.GlaFwdIdeal.Points
public import proofs.«01_k».proof.Proof.Gen.GlaFwdIdeal.Frame
public import proofs.«01_k».proof.Proof.Gen.GlaFwdRefIdeal
public import proofs.«01_k».proof.Proof.Gen.GlaFwdIdeal.Value
public import proofs.«01_k».proof.Proof.Gen.GlaFwdRefIdeal.Run
public import proofs.«01_k».proof.Proof.Gen.GlaFwdRefIdeal.Step
public import proofs.«01_k».proof.Proof.Gla
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.RmsFwdIdeal.Value
public import proofs.«01_k».proof.Proof.Gen.RmsFwdRefIdeal.Read
public import proofs.«01_k».proof.Proof.Gen.RmsFwdRefIdeal.Run
public import proofs.«01_k».proof.Proof.RmsF
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdIdeal.Value
public import proofs.«01_k».proof.Proof.Gen.ConvFwdRefIdeal.Read
public import proofs.«01_k».proof.Proof.Gen.ConvFwdRefIdeal.Run
public import proofs.«01_k».proof.Proof.ConvF
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MixFwdIdeal.Value
public import proofs.«01_k».proof.Proof.Gen.MixFwdRefIdeal.Read
public import proofs.«01_k».proof.Proof.Gen.MixFwdRefIdeal.Run
public import proofs.«01_k».proof.Proof.MixF
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdIdeal.Value
public import proofs.«01_k».proof.Proof.Gen.FfnFwdRefIdeal.Read
public import proofs.«01_k».proof.Proof.Gen.FfnFwdRefIdeal.Run
public import proofs.«01_k».proof.Proof.FfnF
public import proofs.«01_k».proof.Proof.Gen.GlaBwd
public import proofs.«01_k».proof.Proof.Gen.GlaBwd.Skeleton
public import proofs.«01_k».proof.Proof.Gen.GlaBwd.Launch
public import proofs.«01_k».proof.Proof.Gen.GlaBwd.Points
public import proofs.«01_k».proof.Proof.Gen.GlaBwd.Frame
public import proofs.«01_k».proof.Proof.Gen.GlaBwdIdeal
public import proofs.«01_k».proof.Proof.Gen.GlaBwdIdeal.Skeleton
public import proofs.«01_k».proof.Proof.Gen.GlaBwdIdeal.Launch
public import proofs.«01_k».proof.Proof.Gen.GlaBwdIdeal.Points
public import proofs.«01_k».proof.Proof.Gen.GlaBwdIdeal.Frame
public import proofs.«01_k».proof.Proof.Gen.GlaBwdRefIdeal
public import proofs.«01_k».proof.Proof.Gen.Pre_gla_finite
public import proofs.«01_k».proof.Proof.GlaB
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.WgradIdeal.Value
public import proofs.«01_k».proof.Proof.Gen.WgradRefIdeal.Read
public import proofs.«01_k».proof.Proof.Gen.WgradRefIdeal.Run
public import proofs.«01_k».proof.Proof.WgradV
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWRefIdeal
public import proofs.«01_k».proof.Proof.Gen.AdamWIdeal.Value
public import proofs.«01_k».proof.Proof.Gen.AdamWRefIdeal.Read
public import proofs.«01_k».proof.Proof.Gen.AdamWRefIdeal.Run
public import proofs.«01_k».proof.Proof.AdamV
public import proofs.«01_k».proof.Proof.Gen.PutFz
public import proofs.«01_k».proof.Proof.Gen.PutFz.Skeleton
public import proofs.«01_k».proof.Proof.Gen.PutFz.Launch
public import proofs.«01_k».proof.Proof.Gen.PutFz.Points
public import proofs.«01_k».proof.Proof.Gen.PutFz.Frame
public import proofs.«01_k».proof.Proof.Gen.PutFzIdeal
public import proofs.«01_k».proof.Proof.Gen.PutFzIdeal.Skeleton
public import proofs.«01_k».proof.Proof.Gen.PutFzIdeal.Launch
public import proofs.«01_k».proof.Proof.Gen.PutFzIdeal.Points
public import proofs.«01_k».proof.Proof.Gen.PutFzIdeal.Frame
public import proofs.«01_k».proof.Proof.Gen.PutFzRefIdeal
public import proofs.«01_k».proof.Proof.Gen.PutFzIdeal.Value
public import proofs.«01_k».proof.Proof.Gen.PutFzRefIdeal.Read
public import proofs.«01_k».proof.Proof.Gen.PutFzRefIdeal.Run
public import proofs.«01_k».proof.Proof.PutV
public import proofs.«01_k».proof.Proof.Gen.AdamS
public import proofs.«01_k».proof.Proof.Gen.AdamS.Skeleton
public import proofs.«01_k».proof.Proof.Gen.AdamS.Launch
public import proofs.«01_k».proof.Proof.Gen.AdamS.Points
public import proofs.«01_k».proof.Proof.Gen.AdamS.Frame
public import proofs.«01_k».proof.Proof.Gen.AdamSIdeal
public import proofs.«01_k».proof.Proof.Gen.AdamSIdeal.Skeleton
public import proofs.«01_k».proof.Proof.Gen.AdamSIdeal.Launch
public import proofs.«01_k».proof.Proof.Gen.AdamSIdeal.Points
public import proofs.«01_k».proof.Proof.Gen.AdamSIdeal.Frame
public import proofs.«01_k».proof.Proof.Gen.AdamSRefIdeal
public import proofs.«01_k».proof.Proof.Gen.AdamSIdeal.Value
public import proofs.«01_k».proof.Proof.Gen.AdamSRefIdeal.Read
public import proofs.«01_k».proof.Proof.Gen.AdamSRefIdeal.Run
public import proofs.«01_k».proof.Proof.AdamSV
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Norm2Bwd.Gen.facts,
    Cert.Norm2BwdIdeal.Gen.facts,
    Cert.Norm2BwdRefIdeal.Gen.facts,
    Cert.Norm1Bwd.Gen.facts,
    Cert.Norm1BwdIdeal.Gen.facts,
    Cert.Norm1BwdRefIdeal.Gen.facts,
    Cert.LossHead.Gen.facts,
    Cert.LossHeadIdeal.Gen.facts,
    Cert.LossHeadRefIdeal.Gen.facts,
    Cert.MixBwd.Gen.facts,
    Cert.MixBwdIdeal.Gen.facts,
    Cert.MixBwdRefIdeal.Gen.facts,
    Cert.ConvBwd.Gen.facts,
    Cert.ConvBwdIdeal.Gen.facts,
    Cert.ConvBwdRefIdeal.Gen.facts,
    Cert.GlaFwd.Gen.facts,
    Cert.GlaFwdIdeal.Gen.facts,
    Cert.GlaFwdRefIdeal.Gen.facts,
    Cert.RmsFwd.Gen.facts,
    Cert.RmsFwdIdeal.Gen.facts,
    Cert.RmsFwdRefIdeal.Gen.facts,
    Cert.ConvFwd.Gen.facts,
    Cert.ConvFwdIdeal.Gen.facts,
    Cert.ConvFwdRefIdeal.Gen.facts,
    Cert.MixFwd.Gen.facts,
    Cert.MixFwdIdeal.Gen.facts,
    Cert.MixFwdRefIdeal.Gen.facts,
    Cert.FfnFwd.Gen.facts,
    Cert.FfnFwdIdeal.Gen.facts,
    Cert.FfnFwdRefIdeal.Gen.facts,
    Cert.GlaBwd.Gen.facts,
    Cert.GlaBwdIdeal.Gen.facts,
    Cert.GlaBwdRefIdeal.Gen.facts,
    Cert.Wgrad.Gen.facts,
    Cert.WgradIdeal.Gen.facts,
    Cert.WgradRefIdeal.Gen.facts,
    Cert.AdamW.Gen.facts,
    Cert.AdamWIdeal.Gen.facts,
    Cert.AdamWRefIdeal.Gen.facts,
    Cert.PutFz.Gen.facts,
    Cert.PutFzIdeal.Gen.facts,
    Cert.PutFzRefIdeal.Gen.facts,
    Cert.AdamS.Gen.facts,
    Cert.AdamSIdeal.Gen.facts,
    Cert.AdamSRefIdeal.Gen.facts,
    Cert.Pre_ffn_finite.Gen.facts,
    Cert.Pre_gla_finite.Gen.facts,
    Cert.On_on_gates.Gen.facts,
    fun m ρ _ => Cert.Kernel.Gen.frame m ρ,
    fun m ρ _ => Cert.KernelIdeal.Gen.frame m ρ,
    fun m ρ _ => Cert.KernelIdeal.Gen.frame m ρ,
    Cert.Ffn.frame_reference,
    fun m ρ _ => Cert.Ffn.frame_reference m ρ trivial,
    fun m ρ _ => Cert.Norm2Bwd.Gen.frame m ρ,
    fun m ρ _ => Cert.Norm2BwdIdeal.Gen.frame m ρ,
    Cert.Norm2.frame_reference,
    fun m ρ _ => Cert.Norm1Bwd.Gen.frame m ρ,
    fun m ρ _ => Cert.Norm1BwdIdeal.Gen.frame m ρ,
    Cert.Norm1.frame_reference,
    fun m ρ _ => Cert.LossHead.Gen.frame m ρ,
    fun m ρ _ => Cert.LossHeadIdeal.Gen.frame m ρ,
    Cert.Loss.frame_reference,
    fun m ρ _ => Cert.MixBwd.Gen.frame m ρ,
    fun m ρ _ => Cert.MixBwdIdeal.Gen.frame m ρ,
    Cert.Mix.frame_reference,
    fun m ρ _ => Cert.ConvBwd.Gen.frame m ρ,
    fun m ρ _ => Cert.ConvBwdIdeal.Gen.frame m ρ,
    Cert.Conv.frame_reference,
    fun m ρ _ => Cert.GlaFwd.Gen.frame m ρ,
    fun m ρ _ => Cert.GlaFwdIdeal.Gen.frame m ρ,
    Cert.Gla.frame_reference,
    fun m ρ _ => Cert.RmsFwd.Gen.frame m ρ,
    fun m ρ _ => Cert.RmsFwdIdeal.Gen.frame m ρ,
    Cert.RmsF.frame_reference,
    fun m ρ _ => Cert.ConvFwd.Gen.frame m ρ,
    fun m ρ _ => Cert.ConvFwdIdeal.Gen.frame m ρ,
    Cert.ConvF.frame_reference,
    fun m ρ _ => Cert.MixFwd.Gen.frame m ρ,
    fun m ρ _ => Cert.MixFwdIdeal.Gen.frame m ρ,
    Cert.MixF.frame_reference,
    fun m ρ _ => Cert.FfnFwd.Gen.frame m ρ,
    fun m ρ _ => Cert.FfnFwdIdeal.Gen.frame m ρ,
    Cert.FfnF.frame_reference,
    fun m ρ _ => Cert.GlaBwd.Gen.frame m ρ,
    fun m ρ _ => Cert.GlaBwdIdeal.Gen.frame m ρ,
    fun m ρ _ => Cert.GlaBwdIdeal.Gen.frame m ρ,
    Cert.GlaB.frame_reference,
    fun m ρ _ => Cert.GlaB.frame_reference m ρ trivial,
    fun m ρ _ => Cert.Wgrad.Gen.frame m ρ,
    fun m ρ _ => Cert.WgradIdeal.Gen.frame m ρ,
    Cert.WgradV.frame_reference,
    fun m ρ _ => Cert.AdamW.Gen.frame m ρ,
    fun m ρ _ => Cert.AdamWIdeal.Gen.frame m ρ,
    Cert.AdamV.frame_reference,
    fun m ρ _ => Cert.PutFz.Gen.frame m ρ,
    fun m ρ _ => Cert.PutFzIdeal.Gen.frame m ρ,
    Cert.PutV.frame_reference,
    fun m ρ _ => Cert.AdamS.Gen.frame m ρ,
    fun m ρ _ => Cert.AdamSIdeal.Gen.frame m ρ,
    Cert.AdamSV.frame_reference,
    trivial,
    Cert.Ffn.algebraic,
    trivial,
    Cert.Norm2.algebraic,
    trivial,
    Cert.Norm1.algebraic,
    trivial,
    Cert.Loss.algebraic,
    trivial,
    Cert.Mix.algebraic,
    trivial,
    Cert.Conv.algebraic,
    trivial,
    Cert.Gla.algebraic,
    trivial,
    Cert.RmsF.algebraic,
    trivial,
    Cert.ConvF.algebraic,
    trivial,
    Cert.MixF.algebraic,
    trivial,
    Cert.FfnF.algebraic,
    trivial,
    Cert.GlaB.algebraic,
    trivial,
    Cert.WgradV.algebraic,
    Cert.AdamV.preserves,
    Cert.AdamV.algebraic,
    trivial,
    Cert.PutV.algebraic,
    Cert.AdamSV.preserves,
    Cert.AdamSV.algebraic⟩

end Cert.Proof

end
